-- ==== Defs.lean ====
def Pre_MergeStep (m : (ℓ : Loc Cert.MergeStep.nD Cert.MergeStep.τ Cert.MergeStep.sig) → Buf (Elt Bits) ℓ) : Prop :=
  True

def Pre_MergeStepIdeal (m : (ℓ : Loc Cert.MergeStepIdeal.nD Cert.MergeStepIdeal.τ Cert.MergeStepIdeal.sig) → Buf (Elt Ideal) ℓ) : Prop :=
  True

def Pre_MergeStepIdeal_finite [hPre_finite : Cert.Pre_finite.Facts] (m : (ℓ : Loc Cert.MergeStepIdeal.nD Cert.MergeStepIdeal.τ Cert.MergeStepIdeal.sig) → Buf (Elt Ideal) ℓ) : Prop :=
  ∀ c : Dev Cert.MergeStepIdeal.nD,
    (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.2.1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.2.2.1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.2.2.2.1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.2.2.2.2.1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.2.2.2.2.2.1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.2.2.2.2.2.2.1 = (fun _ => 1#1)
    ∧ (Cert.Pre_finite.fn (F := Ideal) (m ((c.tc : Thread Cert.MergeStepIdeal.nD Cert.MergeStepIdeal.τ).loc Cert.MergeStepIdeal.main_arg0)) (m ((c.tc : Thread Cert.MergeStepIdeal.nD Cert.MergeStepIdeal.τ).loc Cert.MergeStepIdeal.main_arg1)) (m ((c.tc : Thread Cert.MergeStepIdeal.nD Cert.MergeStepIdeal.τ).loc Cert.MergeStepIdeal.main_arg2)) (m ((c.tc : Thread Cert.MergeStepIdeal.nD Cert.MergeStepIdeal.τ).loc Cert.MergeStepIdeal.main_arg3)) (m ((c.tc : Thread Cert.MergeStepIdeal.nD Cert.MergeStepIdeal.τ).loc Cert.MergeStepIdeal.main_arg4)) (m ((c.tc : Thread Cert.MergeStepIdeal.nD Cert.MergeStepIdeal.τ).loc Cert.MergeStepIdeal.main_arg5)) (m ((c.tc : Thread Cert.MergeStepIdeal.nD Cert.MergeStepIdeal.τ).loc Cert.MergeStepIdeal.main_arg6)) (m ((c.tc : Thread Cert.MergeStepIdeal.nD Cert.MergeStepIdeal.τ).loc Cert.MergeStepIdeal.main_arg7)) (m ((c.tc : Thread Cert.MergeStepIdeal.nD Cert.MergeStepIdeal.τ).loc Cert.MergeStepIdeal.main_arg8)) (m ((c.tc : Thread Cert.MergeStepIdeal.nD Cert.MergeStepIdeal.τ).loc Cert.MergeStepIdeal.main_arg9))).2.2.2.2.2.2.2.2 = (fun _ => 1#1)

def Pre_MergeStepRefIdeal (m : (ℓ : Loc Cert.MergeStepRefIdeal.nD Cert.MergeStepRefIdeal.τ Cert.MergeStepRefIdeal.sig) → Buf (Elt Ideal) ℓ) : Prop :=
  True

def Pre_MergeStepRefIdeal_finite [hPre_finite : Cert.Pre_finite.Facts] (m : (ℓ : Loc Cert.MergeStepRefIdeal.nD Cert.MergeStepRefIdeal.τ Cert.MergeStepRefIdeal.sig) → Buf (Elt Ideal) ℓ) : Prop :=
  ∀ c : Dev Cert.MergeStepRefIdeal.nD,
    (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.2.1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.2.2.1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.2.2.2.1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.2.2.2.2.1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.2.2.2.2.2.1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.2.2.2.2.2.2.1 = (fun _ => 1#1)
    ∧ (Cert.Pre_finite.fn (F := Ideal) (m ((c.tc : Thread Cert.MergeStepRefIdeal.nD Cert.MergeStepRefIdeal.τ).loc Cert.MergeStepRefIdeal.main_arg0)) (m ((c.tc : Thread Cert.MergeStepRefIdeal.nD Cert.MergeStepRefIdeal.τ).loc Cert.MergeStepRefIdeal.main_arg1)) (m ((c.tc : Thread Cert.MergeStepRefIdeal.nD Cert.MergeStepRefIdeal.τ).loc Cert.MergeStepRefIdeal.main_arg2)) (m ((c.tc : Thread Cert.MergeStepRefIdeal.nD Cert.MergeStepRefIdeal.τ).loc Cert.MergeStepRefIdeal.main_arg3)) (m ((c.tc : Thread Cert.MergeStepRefIdeal.nD Cert.MergeStepRefIdeal.τ).loc Cert.MergeStepRefIdeal.main_arg4)) (m ((c.tc : Thread Cert.MergeStepRefIdeal.nD Cert.MergeStepRefIdeal.τ).loc Cert.MergeStepRefIdeal.main_arg5)) (m ((c.tc : Thread Cert.MergeStepRefIdeal.nD Cert.MergeStepRefIdeal.τ).loc Cert.MergeStepRefIdeal.main_arg6)) (m ((c.tc : Thread Cert.MergeStepRefIdeal.nD Cert.MergeStepRefIdeal.τ).loc Cert.MergeStepRefIdeal.main_arg7)) (m ((c.tc : Thread Cert.MergeStepRefIdeal.nD Cert.MergeStepRefIdeal.τ).loc Cert.MergeStepRefIdeal.main_arg8)) (m ((c.tc : Thread Cert.MergeStepRefIdeal.nD Cert.MergeStepRefIdeal.τ).loc Cert.MergeStepRefIdeal.main_arg9))).2.2.2.2.2.2.2.2 = (fun _ => 1#1)

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradBa (m : (ℓ : Loc Cert.GradBa.nD Cert.GradBa.τ Cert.GradBa.sig) → Buf (Elt Bits) ℓ) : Prop :=
  True

def Pre_GradBaIdeal (m : (ℓ : Loc Cert.GradBaIdeal.nD Cert.GradBaIdeal.τ Cert.GradBaIdeal.sig) → Buf (Elt Ideal) ℓ) : Prop :=
  True

def Pre_GradBaRefIdeal (m : (ℓ : Loc Cert.GradBaRefIdeal.nD Cert.GradBaRefIdeal.τ Cert.GradBaRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_ProjGz (m : (ℓ : Loc Cert.ProjGz.nD Cert.ProjGz.τ Cert.ProjGz.sig) → Buf (Elt Bits) ℓ) : Prop :=
  True

def Pre_ProjGzIdeal (m : (ℓ : Loc Cert.ProjGzIdeal.nD Cert.ProjGzIdeal.τ Cert.ProjGzIdeal.sig) → Buf (Elt Ideal) ℓ) : Prop :=
  True

def Pre_ProjGzRefIdeal (m : (ℓ : Loc Cert.ProjGzRefIdeal.nD Cert.ProjGzRefIdeal.τ Cert.ProjGzRefIdeal.sig) → Buf (Elt Ideal) ℓ) : Prop :=
  True

def Pre_ProjBa (m : (ℓ : Loc Cert.ProjBa.nD Cert.ProjBa.τ Cert.ProjBa.sig) → Buf (Elt Bits) ℓ) : Prop :=
  True

def Pre_ProjBaIdeal (m : (ℓ : Loc Cert.ProjBaIdeal.nD Cert.ProjBaIdeal.τ Cert.ProjBaIdeal.sig) → Buf (Elt Ideal) ℓ) : Prop :=
  True

def Pre_ProjBaRefIdeal (m : (ℓ : Loc Cert.ProjBaRefIdeal.nD Cert.ProjBaRefIdeal.τ Cert.ProjBaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamShards (m : (ℓ : Loc Cert.AdamShards.nD Cert.AdamShards.τ Cert.AdamShards.sig) → Buf (Elt Bits) ℓ) : Prop :=
  True

def Pre_AdamShardsIdeal (m : (ℓ : Loc Cert.AdamShardsIdeal.nD Cert.AdamShardsIdeal.τ Cert.AdamShardsIdeal.sig) → Buf (Elt Ideal) ℓ) : Prop :=
  True

def Pre_AdamShardsRefIdeal (m : (ℓ : Loc Cert.AdamShardsRefIdeal.nD Cert.AdamShardsRefIdeal.τ Cert.AdamShardsRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_GdnConv (m : (ℓ : Loc Cert.GdnConv.nD Cert.GdnConv.τ Cert.GdnConv.sig) → Buf (Elt Bits) ℓ) : Prop :=
  True

def Pre_GdnConvIdeal (m : (ℓ : Loc Cert.GdnConvIdeal.nD Cert.GdnConvIdeal.τ Cert.GdnConvIdeal.sig) → Buf (Elt Ideal) ℓ) : Prop :=
  True

def Pre_GdnConvRefIdeal (m : (ℓ : Loc Cert.GdnConvRefIdeal.nD Cert.GdnConvRefIdeal.τ Cert.GdnConvRefIdeal.sig) → Buf (Elt Ideal) ℓ) : Prop :=
  True

def Pre_ConfConv (m : (ℓ : Loc Cert.ConfConv.nD Cert.ConfConv.τ Cert.ConfConv.sig) → Buf (Elt Bits) ℓ) : Prop :=
  True

def Pre_ConfConvIdeal (m : (ℓ : Loc Cert.ConfConvIdeal.nD Cert.ConfConvIdeal.τ Cert.ConfConvIdeal.sig) → Buf (Elt Ideal) ℓ) : Prop :=
  True

def Pre_ConfConvRefIdeal (m : (ℓ : Loc Cert.ConfConvRefIdeal.nD Cert.ConfConvRefIdeal.τ Cert.ConfConvRefIdeal.sig) → Buf (Elt Ideal) ℓ) : Prop :=
  True

def Pre_ConfPost (m : (ℓ : Loc Cert.ConfPost.nD Cert.ConfPost.τ Cert.ConfPost.sig) → Buf (Elt Bits) ℓ) : Prop :=
  True

def Pre_ConfPostIdeal (m : (ℓ : Loc Cert.ConfPostIdeal.nD Cert.ConfPostIdeal.τ Cert.ConfPostIdeal.sig) → Buf (Elt Ideal) ℓ) : Prop :=
  True

def Pre_ConfPostIdeal_finite_rows [hPre_finite_rows : Cert.Pre_finite_rows.Facts] (m : (ℓ : Loc Cert.ConfPostIdeal.nD Cert.ConfPostIdeal.τ Cert.ConfPostIdeal.sig) → Buf (Elt Ideal) ℓ) : Prop :=
  ∀ c : Dev Cert.ConfPostIdeal.nD,
    (Cert.Pre_finite_rows.fn (F := Ideal) (m ((c.tc : Thread Cert.ConfPostIdeal.nD Cert.ConfPostIdeal.τ).loc Cert.ConfPostIdeal.main_arg0)) (m ((c.tc : Thread Cert.ConfPostIdeal.nD Cert.ConfPostIdeal.τ).loc Cert.ConfPostIdeal.main_arg1)) (m ((c.tc : Thread Cert.ConfPostIdeal.nD Cert.ConfPostIdeal.τ).loc Cert.ConfPostIdeal.main_arg2)) (m ((c.tc : Thread Cert.ConfPostIdeal.nD Cert.ConfPostIdeal.τ).loc Cert.ConfPostIdeal.main_arg3)) (m ((c.tc : Thread Cert.ConfPostIdeal.nD Cert.ConfPostIdeal.τ).loc Cert.ConfPostIdeal.main_arg4))).1 = (fun _ => 1#1)
    ∧ (Cert.Pre_finite_rows.fn (F := Ideal) (m ((c.tc : Thread Cert.ConfPostIdeal.nD Cert.ConfPostIdeal.τ).loc Cert.ConfPostIdeal.main_arg0)) (m ((c.tc : Thread Cert.ConfPostIdeal.nD Cert.ConfPostIdeal.τ).loc Cert.ConfPostIdeal.main_arg1)) (m ((c.tc : Thread Cert.ConfPostIdeal.nD Cert.ConfPostIdeal.τ).loc Cert.ConfPostIdeal.main_arg2)) (m ((c.tc : Thread Cert.ConfPostIdeal.nD Cert.ConfPostIdeal.τ).loc Cert.ConfPostIdeal.main_arg3)) (m ((c.tc : Thread Cert.ConfPostIdeal.nD Cert.ConfPostIdeal.τ).loc Cert.ConfPostIdeal.main_arg4))).2.1 = (fun _ => 1#1)
    ∧ (Cert.Pre_finite_rows.fn (F := Ideal) (m ((c.tc : Thread Cert.ConfPostIdeal.nD Cert.ConfPostIdeal.τ).loc Cert.ConfPostIdeal.main_arg0)) (m ((c.tc : Thread Cert.ConfPostIdeal.nD Cert.ConfPostIdeal.τ).loc Cert.ConfPostIdeal.main_arg1)) (m ((c.tc : Thread Cert.ConfPostIdeal.nD Cert.ConfPostIdeal.τ).loc Cert.ConfPostIdeal.main_arg2)) (m ((c.tc : Thread Cert.ConfPostIdeal.nD Cert.ConfPostIdeal.τ).loc Cert.ConfPostIdeal.main_arg3)) (m ((c.tc : Thread Cert.ConfPostIdeal.nD Cert.ConfPostIdeal.τ).loc Cert.ConfPostIdeal.main_arg4))).2.2.1 = (fun _ => 1#1)
    ∧ (Cert.Pre_finite_rows.fn (F := Ideal) (m ((c.tc : Thread Cert.ConfPostIdeal.nD Cert.ConfPostIdeal.τ).loc Cert.ConfPostIdeal.main_arg0)) (m ((c.tc : Thread Cert.ConfPostIdeal.nD Cert.ConfPostIdeal.τ).loc Cert.ConfPostIdeal.main_arg1)) (m ((c.tc : Thread Cert.ConfPostIdeal.nD Cert.ConfPostIdeal.τ).loc Cert.ConfPostIdeal.main_arg2)) (m ((c.tc : Thread Cert.ConfPostIdeal.nD Cert.ConfPostIdeal.τ).loc Cert.ConfPostIdeal.main_arg3)) (m ((c.tc : Thread Cert.ConfPostIdeal.nD Cert.ConfPostIdeal.τ).loc Cert.ConfPostIdeal.main_arg4))).2.2.2 = (fun _ => 1#1)

def Pre_ConfPostRefIdeal (m : (ℓ : Loc Cert.ConfPostRefIdeal.nD Cert.ConfPostRefIdeal.τ Cert.ConfPostRefIdeal.sig) → Buf (Elt Ideal) ℓ) : Prop :=
  True

def Pre_ConfPostRefIdeal_finite_rows [hPre_finite_rows : Cert.Pre_finite_rows.Facts] (m : (ℓ : Loc Cert.ConfPostRefIdeal.nD Cert.ConfPostRefIdeal.τ Cert.ConfPostRefIdeal.sig) → Buf (Elt Ideal) ℓ) : Prop :=
  ∀ c : Dev Cert.ConfPostRefIdeal.nD,
    (Cert.Pre_finite_rows.fn (F := Ideal) (m ((c.tc : Thread Cert.ConfPostRefIdeal.nD Cert.ConfPostRefIdeal.τ).loc Cert.ConfPostRefIdeal.main_arg0)) (m ((c.tc : Thread Cert.ConfPostRefIdeal.nD Cert.ConfPostRefIdeal.τ).loc Cert.ConfPostRefIdeal.main_arg1)) (m ((c.tc : Thread Cert.ConfPostRefIdeal.nD Cert.ConfPostRefIdeal.τ).loc Cert.ConfPostRefIdeal.main_arg2)) (m ((c.tc : Thread Cert.ConfPostRefIdeal.nD Cert.ConfPostRefIdeal.τ).loc Cert.ConfPostRefIdeal.main_arg3)) (m ((c.tc : Thread Cert.ConfPostRefIdeal.nD Cert.ConfPostRefIdeal.τ).loc Cert.ConfPostRefIdeal.main_arg4))).1 = (fun _ => 1#1)
    ∧ (Cert.Pre_finite_rows.fn (F := Ideal) (m ((c.tc : Thread Cert.ConfPostRefIdeal.nD Cert.ConfPostRefIdeal.τ).loc Cert.ConfPostRefIdeal.main_arg0)) (m ((c.tc : Thread Cert.ConfPostRefIdeal.nD Cert.ConfPostRefIdeal.τ).loc Cert.ConfPostRefIdeal.main_arg1)) (m ((c.tc : Thread Cert.ConfPostRefIdeal.nD Cert.ConfPostRefIdeal.τ).loc Cert.ConfPostRefIdeal.main_arg2)) (m ((c.tc : Thread Cert.ConfPostRefIdeal.nD Cert.ConfPostRefIdeal.τ).loc Cert.ConfPostRefIdeal.main_arg3)) (m ((c.tc : Thread Cert.ConfPostRefIdeal.nD Cert.ConfPostRefIdeal.τ).loc Cert.ConfPostRefIdeal.main_arg4))).2.1 = (fun _ => 1#1)
    ∧ (Cert.Pre_finite_rows.fn (F := Ideal) (m ((c.tc : Thread Cert.ConfPostRefIdeal.nD Cert.ConfPostRefIdeal.τ).loc Cert.ConfPostRefIdeal.main_arg0)) (m ((c.tc : Thread Cert.ConfPostRefIdeal.nD Cert.ConfPostRefIdeal.τ).loc Cert.ConfPostRefIdeal.main_arg1)) (m ((c.tc : Thread Cert.ConfPostRefIdeal.nD Cert.ConfPostRefIdeal.τ).loc Cert.ConfPostRefIdeal.main_arg2)) (m ((c.tc : Thread Cert.ConfPostRefIdeal.nD Cert.ConfPostRefIdeal.τ).loc Cert.ConfPostRefIdeal.main_arg3)) (m ((c.tc : Thread Cert.ConfPostRefIdeal.nD Cert.ConfPostRefIdeal.τ).loc Cert.ConfPostRefIdeal.main_arg4))).2.2.1 = (fun _ => 1#1)
    ∧ (Cert.Pre_finite_rows.fn (F := Ideal) (m ((c.tc : Thread Cert.ConfPostRefIdeal.nD Cert.ConfPostRefIdeal.τ).loc Cert.ConfPostRefIdeal.main_arg0)) (m ((c.tc : Thread Cert.ConfPostRefIdeal.nD Cert.ConfPostRefIdeal.τ).loc Cert.ConfPostRefIdeal.main_arg1)) (m ((c.tc : Thread Cert.ConfPostRefIdeal.nD Cert.ConfPostRefIdeal.τ).loc Cert.ConfPostRefIdeal.main_arg2)) (m ((c.tc : Thread Cert.ConfPostRefIdeal.nD Cert.ConfPostRefIdeal.τ).loc Cert.ConfPostRefIdeal.main_arg3)) (m ((c.tc : Thread Cert.ConfPostRefIdeal.nD Cert.ConfPostRefIdeal.τ).loc Cert.ConfPostRefIdeal.main_arg4))).2.2.2 = (fun _ => 1#1)

def quiescent_MergeStep [hMergeStep : Cert.MergeStep.Facts] : Prop :=
  ∀ (m : (ℓ : Loc Cert.MergeStep.nD Cert.MergeStep.τ Cert.MergeStep.sig) → Buf (Elt Bits) ℓ) (g : Dev Cert.MergeStep.nD → PrngReg), Pre_MergeStep m →
    θ_run (Cert.MergeStep.defs (F := Bits)) (onTc (τ := Cert.MergeStep.τ) (Cert.MergeStep.main (F := Bits))) ⟨m, fun _ => 0, g⟩ (fun r => (∀ c : Dev Cert.MergeStep.nD,
      r.2.mem ((c.tc : Thread Cert.MergeStep.nD Cert.MergeStep.τ).loc Cert.MergeStep.main_arg0) = m ((c.tc : Thread Cert.MergeStep.nD Cert.MergeStep.τ).loc Cert.MergeStep.main_arg0)
      ∧ r.2.mem ((c.tc : Thread Cert.MergeStep.nD Cert.MergeStep.τ).loc Cert.MergeStep.main_arg1) = m ((c.tc : Thread Cert.MergeStep.nD Cert.MergeStep.τ).loc Cert.MergeStep.main_arg1)
      ∧ r.2.mem ((c.tc : Thread Cert.MergeStep.nD Cert.MergeStep.τ).loc Cert.MergeStep.main_arg2) = m ((c.tc : Thread Cert.MergeStep.nD Cert.MergeStep.τ).loc Cert.MergeStep.main_arg2)
      ∧ r.2.mem ((c.tc : Thread Cert.MergeStep.nD Cert.MergeStep.τ).loc Cert.MergeStep.main_arg3) = m ((c.tc : Thread Cert.MergeStep.nD Cert.MergeStep.τ).loc Cert.MergeStep.main_arg3)
      ∧ r.2.mem ((c.tc : Thread Cert.MergeStep.nD Cert.MergeStep.τ).loc Cert.MergeStep.main_arg4) = m ((c.tc : Thread Cert.MergeStep.nD Cert.MergeStep.τ).loc Cert.MergeStep.main_arg4)
      ∧ r.2.mem ((c.tc : Thread Cert.MergeStep.nD Cert.MergeStep.τ).loc Cert.MergeStep.main_arg5) = m ((c.tc : Thread Cert.MergeStep.nD Cert.MergeStep.τ).loc Cert.MergeStep.main_arg5)
      ∧ r.2.mem ((c.tc : Thread Cert.MergeStep.nD Cert.MergeStep.τ).loc Cert.MergeStep.main_arg6) = m ((c.tc : Thread Cert.MergeStep.nD Cert.MergeStep.τ).loc Cert.MergeStep.main_arg6)
      ∧ r.2.mem ((c.tc : Thread Cert.MergeStep.nD Cert.MergeStep.τ).loc Cert.MergeStep.main_arg7) = m ((c.tc : Thread Cert.MergeStep.nD Cert.MergeStep.τ).loc Cert.MergeStep.main_arg7)
      ∧ r.2.mem ((c.tc : Thread Cert.MergeStep.nD Cert.MergeStep.τ).loc Cert.MergeStep.main_arg8) = m ((c.tc : Thread Cert.MergeStep.nD Cert.MergeStep.τ).loc Cert.MergeStep.main_arg8)
      ∧ r.2.mem ((c.tc : Thread Cert.MergeStep.nD Cert.MergeStep.τ).loc Cert.MergeStep.main_arg9) = m ((c.tc : Thread Cert.MergeStep.nD Cert.MergeStep.τ).loc Cert.MergeStep.main_arg9))
      ∧ r.2.sem = fun _ => 0)

def quiescent_MergeStepIdeal [hMergeStepIdeal : Cert.MergeStepIdeal.Facts] : Prop :=
  ∀ (m : (ℓ : Loc Cert.MergeStepIdeal.nD Cert.MergeStepIdeal.τ Cert.MergeStepIdeal.sig) → Buf (Elt Ideal) ℓ) (g : Dev Cert.MergeStepIdeal.nD → PrngReg), Pre_MergeStepIdeal m →
    θ_run (Cert.MergeStepIdeal.defs (F := Ideal)) (onTc (τ := Cert.MergeStepIdeal.τ) (Cert.MergeStepIdeal.main (F := Ideal))) ⟨m, fun _ => 0, g⟩ (fun r => (∀ c : Dev Cert.MergeStepIdeal.nD,
      r.2.mem ((c.tc : Thread Cert.MergeStepIdeal.nD Cert.MergeStepIdeal.τ).loc Cert.MergeStepIdeal.main_arg0) = m ((c.tc : Thread Cert.MergeStepIdeal.nD Cert.MergeStepIdeal.τ).loc Cert.MergeStepIdeal.main_arg0)
      ∧ r.2.mem ((c.tc : Thread Cert.MergeStepIdeal.nD Cert.MergeStepIdeal.τ).loc Cert.MergeStepIdeal.main_arg1) = m ((c.tc : Thread Cert.MergeStepIdeal.nD Cert.MergeStepIdeal.τ).loc Cert.MergeStepIdeal.main_arg1)
      ∧ r.2.mem ((c.tc : Thread Cert.MergeStepIdeal.nD Cert.MergeStepIdeal.τ).loc Cert.MergeStepIdeal.main_arg2) = m ((c.tc : Thread Cert.MergeStepIdeal.nD Cert.MergeStepIdeal.τ).loc Cert.MergeStepIdeal.main_arg2)
      ∧ r.2.mem ((c.tc : Thread Cert.MergeStepIdeal.nD Cert.MergeStepIdeal.τ).loc Cert.MergeStepIdeal.main_arg3) = m ((c.tc : Thread Cert.MergeStepIdeal.nD Cert.MergeStepIdeal.τ).loc Cert.MergeStepIdeal.main_arg3)
      ∧ r.2.mem ((c.tc : Thread Cert.MergeStepIdeal.nD Cert.MergeStepIdeal.τ).loc Cert.MergeStepIdeal.main_arg4) = m ((c.tc : Thread Cert.MergeStepIdeal.nD Cert.MergeStepIdeal.τ).loc Cert.MergeStepIdeal.main_arg4)
      ∧ r.2.mem ((c.tc : Thread Cert.MergeStepIdeal.nD Cert.MergeStepIdeal.τ).loc Cert.MergeStepIdeal.main_arg5) = m ((c.tc : Thread Cert.MergeStepIdeal.nD Cert.MergeStepIdeal.τ).loc Cert.MergeStepIdeal.main_arg5)
      ∧ r.2.mem ((c.tc : Thread Cert.MergeStepIdeal.nD Cert.MergeStepIdeal.τ).loc Cert.MergeStepIdeal.main_arg6) = m ((c.tc : Thread Cert.MergeStepIdeal.nD Cert.MergeStepIdeal.τ).loc Cert.MergeStepIdeal.main_arg6)
      ∧ r.2.mem ((c.tc : Thread Cert.MergeStepIdeal.nD Cert.MergeStepIdeal.τ).loc Cert.MergeStepIdeal.main_arg7) = m ((c.tc : Thread Cert.MergeStepIdeal.nD Cert.MergeStepIdeal.τ).loc Cert.MergeStepIdeal.main_arg7)
      ∧ r.2.mem ((c.tc : Thread Cert.MergeStepIdeal.nD Cert.MergeStepIdeal.τ).loc Cert.MergeStepIdeal.main_arg8) = m ((c.tc : Thread Cert.MergeStepIdeal.nD Cert.MergeStepIdeal.τ).loc Cert.MergeStepIdeal.main_arg8)
      ∧ r.2.mem ((c.tc : Thread Cert.MergeStepIdeal.nD Cert.MergeStepIdeal.τ).loc Cert.MergeStepIdeal.main_arg9) = m ((c.tc : Thread Cert.MergeStepIdeal.nD Cert.MergeStepIdeal.τ).loc Cert.MergeStepIdeal.main_arg9))
      ∧ r.2.sem = fun _ => 0)

def quiescent_MergeStepIdeal_pre_finite [hMergeStepIdeal : Cert.MergeStepIdeal.Facts] [hPre_finite : Cert.Pre_finite.Facts] : Prop :=
  ∀ (m : (ℓ : Loc Cert.MergeStepIdeal.nD Cert.MergeStepIdeal.τ Cert.MergeStepIdeal.sig) → Buf (Elt Ideal) ℓ) (g : Dev Cert.MergeStepIdeal.nD → PrngReg), Pre_MergeStepIdeal_finite m →
    θ_run (Cert.MergeStepIdeal.defs (F := Ideal)) (onTc (τ := Cert.MergeStepIdeal.τ) (Cert.MergeStepIdeal.main (F := Ideal))) ⟨m, fun _ => 0, g⟩ (fun r => (∀ c : Dev Cert.MergeStepIdeal.nD,
      r.2.mem ((c.tc : Thread Cert.MergeStepIdeal.nD Cert.MergeStepIdeal.τ).loc Cert.MergeStepIdeal.main_arg0) = m ((c.tc : Thread Cert.MergeStepIdeal.nD Cert.MergeStepIdeal.τ).loc Cert.MergeStepIdeal.main_arg0)
      ∧ r.2.mem ((c.tc : Thread Cert.MergeStepIdeal.nD Cert.MergeStepIdeal.τ).loc Cert.MergeStepIdeal.main_arg1) = m ((c.tc : Thread Cert.MergeStepIdeal.nD Cert.MergeStepIdeal.τ).loc Cert.MergeStepIdeal.main_arg1)
      ∧ r.2.mem ((c.tc : Thread Cert.MergeStepIdeal.nD Cert.MergeStepIdeal.τ).loc Cert.MergeStepIdeal.main_arg2) = m ((c.tc : Thread Cert.MergeStepIdeal.nD Cert.MergeStepIdeal.τ).loc Cert.MergeStepIdeal.main_arg2)
      ∧ r.2.mem ((c.tc : Thread Cert.MergeStepIdeal.nD Cert.MergeStepIdeal.τ).loc Cert.MergeStepIdeal.main_arg3) = m ((c.tc : Thread Cert.MergeStepIdeal.nD Cert.MergeStepIdeal.τ).loc Cert.MergeStepIdeal.main_arg3)
      ∧ r.2.mem ((c.tc : Thread Cert.MergeStepIdeal.nD Cert.MergeStepIdeal.τ).loc Cert.MergeStepIdeal.main_arg4) = m ((c.tc : Thread Cert.MergeStepIdeal.nD Cert.MergeStepIdeal.τ).loc Cert.MergeStepIdeal.main_arg4)
      ∧ r.2.mem ((c.tc : Thread Cert.MergeStepIdeal.nD Cert.MergeStepIdeal.τ).loc Cert.MergeStepIdeal.main_arg5) = m ((c.tc : Thread Cert.MergeStepIdeal.nD Cert.MergeStepIdeal.τ).loc Cert.MergeStepIdeal.main_arg5)
      ∧ r.2.mem ((c.tc : Thread Cert.MergeStepIdeal.nD Cert.MergeStepIdeal.τ).loc Cert.MergeStepIdeal.main_arg6) = m ((c.tc : Thread Cert.MergeStepIdeal.nD Cert.MergeStepIdeal.τ).loc Cert.MergeStepIdeal.main_arg6)
      ∧ r.2.mem ((c.tc : Thread Cert.MergeStepIdeal.nD Cert.MergeStepIdeal.τ).loc Cert.MergeStepIdeal.main_arg7) = m ((c.tc : Thread Cert.MergeStepIdeal.nD Cert.MergeStepIdeal.τ).loc Cert.MergeStepIdeal.main_arg7)
      ∧ r.2.mem ((c.tc : Thread Cert.MergeStepIdeal.nD Cert.MergeStepIdeal.τ).loc Cert.MergeStepIdeal.main_arg8) = m ((c.tc : Thread Cert.MergeStepIdeal.nD Cert.MergeStepIdeal.τ).loc Cert.MergeStepIdeal.main_arg8)
      ∧ r.2.mem ((c.tc : Thread Cert.MergeStepIdeal.nD Cert.MergeStepIdeal.τ).loc Cert.MergeStepIdeal.main_arg9) = m ((c.tc : Thread Cert.MergeStepIdeal.nD Cert.MergeStepIdeal.τ).loc Cert.MergeStepIdeal.main_arg9))
      ∧ r.2.sem = fun _ => 0)

def quiescent_MergeStepRefIdeal [hMergeStepRefIdeal : Cert.MergeStepRefIdeal.Facts] : Prop :=
  ∀ (m : (ℓ : Loc Cert.MergeStepRefIdeal.nD Cert.MergeStepRefIdeal.τ Cert.MergeStepRefIdeal.sig) → Buf (Elt Ideal) ℓ) (g : Dev Cert.MergeStepRefIdeal.nD → PrngReg), Pre_MergeStepRefIdeal m →
    θ_run (Cert.MergeStepRefIdeal.defs (F := Ideal)) (onTc (τ := Cert.MergeStepRefIdeal.τ) (Cert.MergeStepRefIdeal.main (F := Ideal))) ⟨m, fun _ => 0, g⟩ (fun r => (∀ c : Dev Cert.MergeStepRefIdeal.nD,
      r.2.mem ((c.tc : Thread Cert.MergeStepRefIdeal.nD Cert.MergeStepRefIdeal.τ).loc Cert.MergeStepRefIdeal.main_arg0) = m ((c.tc : Thread Cert.MergeStepRefIdeal.nD Cert.MergeStepRefIdeal.τ).loc Cert.MergeStepRefIdeal.main_arg0)
      ∧ r.2.mem ((c.tc : Thread Cert.MergeStepRefIdeal.nD Cert.MergeStepRefIdeal.τ).loc Cert.MergeStepRefIdeal.main_arg1) = m ((c.tc : Thread Cert.MergeStepRefIdeal.nD Cert.MergeStepRefIdeal.τ).loc Cert.MergeStepRefIdeal.main_arg1)
      ∧ r.2.mem ((c.tc : Thread Cert.MergeStepRefIdeal.nD Cert.MergeStepRefIdeal.τ).loc Cert.MergeStepRefIdeal.main_arg2) = m ((c.tc : Thread Cert.MergeStepRefIdeal.nD Cert.MergeStepRefIdeal.τ).loc Cert.MergeStepRefIdeal.main_arg2)
      ∧ r.2.mem ((c.tc : Thread Cert.MergeStepRefIdeal.nD Cert.MergeStepRefIdeal.τ).loc Cert.MergeStepRefIdeal.main_arg3) = m ((c.tc : Thread Cert.MergeStepRefIdeal.nD Cert.MergeStepRefIdeal.τ).loc Cert.MergeStepRefIdeal.main_arg3)
      ∧ r.2.mem ((c.tc : Thread Cert.MergeStepRefIdeal.nD Cert.MergeStepRefIdeal.τ).loc Cert.MergeStepRefIdeal.main_arg4) = m ((c.tc : Thread Cert.MergeStepRefIdeal.nD Cert.MergeStepRefIdeal.τ).loc Cert.MergeStepRefIdeal.main_arg4)
      ∧ r.2.mem ((c.tc : Thread Cert.MergeStepRefIdeal.nD Cert.MergeStepRefIdeal.τ).loc Cert.MergeStepRefIdeal.main_arg5) = m ((c.tc : Thread Cert.MergeStepRefIdeal.nD Cert.MergeStepRefIdeal.τ).loc Cert.MergeStepRefIdeal.main_arg5)
      ∧ r.2.mem ((c.tc : Thread Cert.MergeStepRefIdeal.nD Cert.MergeStepRefIdeal.τ).loc Cert.MergeStepRefIdeal.main_arg6) = m ((c.tc : Thread Cert.MergeStepRefIdeal.nD Cert.MergeStepRefIdeal.τ).loc Cert.MergeStepRefIdeal.main_arg6)
      ∧ r.2.mem ((c.tc : Thread Cert.MergeStepRefIdeal.nD Cert.MergeStepRefIdeal.τ).loc Cert.MergeStepRefIdeal.main_arg7) = m ((c.tc : Thread Cert.MergeStepRefIdeal.nD Cert.MergeStepRefIdeal.τ).loc Cert.MergeStepRefIdeal.main_arg7)
      ∧ r.2.mem ((c.tc : Thread Cert.MergeStepRefIdeal.nD Cert.MergeStepRefIdeal.τ).loc Cert.MergeStepRefIdeal.main_arg8) = m ((c.tc : Thread Cert.MergeStepRefIdeal.nD Cert.MergeStepRefIdeal.τ).loc Cert.MergeStepRefIdeal.main_arg8)
      ∧ r.2.mem ((c.tc : Thread Cert.MergeStepRefIdeal.nD Cert.MergeStepRefIdeal.τ).loc Cert.MergeStepRefIdeal.main_arg9) = m ((c.tc : Thread Cert.MergeStepRefIdeal.nD Cert.MergeStepRefIdeal.τ).loc Cert.MergeStepRefIdeal.main_arg9))
      ∧ r.2.sem = fun _ => 0)

def quiescent_MergeStepRefIdeal_pre_finite [hMergeStepRefIdeal : Cert.MergeStepRefIdeal.Facts] [hPre_finite : Cert.Pre_finite.Facts] : Prop :=
  ∀ (m : (ℓ : Loc Cert.MergeStepRefIdeal.nD Cert.MergeStepRefIdeal.τ Cert.MergeStepRefIdeal.sig) → Buf (Elt Ideal) ℓ) (g : Dev Cert.MergeStepRefIdeal.nD → PrngReg), Pre_MergeStepRefIdeal_finite m →
    θ_run (Cert.MergeStepRefIdeal.defs (F := Ideal)) (onTc (τ := Cert.MergeStepRefIdeal.τ) (Cert.MergeStepRefIdeal.main (F := Ideal))) ⟨m, fun _ => 0, g⟩ (fun r => (∀ c : Dev Cert.MergeStepRefIdeal.nD,
      r.2.mem ((c.tc : Thread Cert.MergeStepRefIdeal.nD Cert.MergeStepRefIdeal.τ).loc Cert.MergeStepRefIdeal.main_arg0) = m ((c.tc : Thread Cert.MergeStepRefIdeal.nD Cert.MergeStepRefIdeal.τ).loc Cert.MergeStepRefIdeal.main_arg0)
      ∧ r.2.mem ((c.tc : Thread Cert.MergeStepRefIdeal.nD Cert.MergeStepRefIdeal.τ).loc Cert.MergeStepRefIdeal.main_arg1) = m ((c.tc : Thread Cert.MergeStepRefIdeal.nD Cert.MergeStepRefIdeal.τ).loc Cert.MergeStepRefIdeal.main_arg1)
      ∧ r.2.mem ((c.tc : Thread Cert.MergeStepRefIdeal.nD Cert.MergeStepRefIdeal.τ).loc Cert.MergeStepRefIdeal.main_arg2) = m ((c.tc : Thread Cert.MergeStepRefIdeal.nD Cert.MergeStepRefIdeal.τ).loc Cert.MergeStepRefIdeal.main_arg2)
      ∧ r.2.mem ((c.tc : Thread Cert.MergeStepRefIdeal.nD Cert.MergeStepRefIdeal.τ).loc Cert.MergeStepRefIdeal.main_arg3) = m ((c.tc : Thread Cert.MergeStepRefIdeal.nD Cert.MergeStepRefIdeal.τ).loc Cert.MergeStepRefIdeal.main_arg3)
      ∧ r.2.mem ((c.tc : Thread Cert.MergeStepRefIdeal.nD Cert.MergeStepRefIdeal.τ).loc Cert.MergeStepRefIdeal.main_arg4) = m ((c.tc : Thread Cert.MergeStepRefIdeal.nD Cert.MergeStepRefIdeal.τ).loc Cert.MergeStepRefIdeal.main_arg4)
      ∧ r.2.mem ((c.tc : Thread Cert.MergeStepRefIdeal.nD Cert.MergeStepRefIdeal.τ).loc Cert.MergeStepRefIdeal.main_arg5) = m ((c.tc : Thread Cert.MergeStepRefIdeal.nD Cert.MergeStepRefIdeal.τ).loc Cert.MergeStepRefIdeal.main_arg5)
      ∧ r.2.mem ((c.tc : Thread Cert.MergeStepRefIdeal.nD Cert.MergeStepRefIdeal.τ).loc Cert.MergeStepRefIdeal.main_arg6) = m ((c.tc : Thread Cert.MergeStepRefIdeal.nD Cert.MergeStepRefIdeal.τ).loc Cert.MergeStepRefIdeal.main_arg6)
      ∧ r.2.mem ((c.tc : Thread Cert.MergeStepRefIdeal.nD Cert.MergeStepRefIdeal.τ).loc Cert.MergeStepRefIdeal.main_arg7) = m ((c.tc : Thread Cert.MergeStepRefIdeal.nD Cert.MergeStepRefIdeal.τ).loc Cert.MergeStepRefIdeal.main_arg7)
      ∧ r.2.mem ((c.tc : Thread Cert.MergeStepRefIdeal.nD Cert.MergeStepRefIdeal.τ).loc Cert.MergeStepRefIdeal.main_arg8) = m ((c.tc : Thread Cert.MergeStepRefIdeal.nD Cert.MergeStepRefIdeal.τ).loc Cert.MergeStepRefIdeal.main_arg8)
      ∧ r.2.mem ((c.tc : Thread Cert.MergeStepRefIdeal.nD Cert.MergeStepRefIdeal.τ).loc Cert.MergeStepRefIdeal.main_arg9) = m ((c.tc : Thread Cert.MergeStepRefIdeal.nD Cert.MergeStepRefIdeal.τ).loc Cert.MergeStepRefIdeal.main_arg9))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradBa [hGradBa : Cert.GradBa.Facts] : Prop :=
  ∀ (m : (ℓ : Loc Cert.GradBa.nD Cert.GradBa.τ Cert.GradBa.sig) → Buf (Elt Bits) ℓ) (g : Dev Cert.GradBa.nD → PrngReg), Pre_GradBa m →
    θ_run (Cert.GradBa.defs (F := Bits)) (onTc (τ := Cert.GradBa.τ) (Cert.GradBa.main (F := Bits))) ⟨m, fun _ => 0, g⟩ (fun r => (∀ c : Dev Cert.GradBa.nD,
      r.2.mem ((c.tc : Thread Cert.GradBa.nD Cert.GradBa.τ).loc Cert.GradBa.main_arg0) = m ((c.tc : Thread Cert.GradBa.nD Cert.GradBa.τ).loc Cert.GradBa.main_arg0)
      ∧ r.2.mem ((c.tc : Thread Cert.GradBa.nD Cert.GradBa.τ).loc Cert.GradBa.main_arg1) = m ((c.tc : Thread Cert.GradBa.nD Cert.GradBa.τ).loc Cert.GradBa.main_arg1))
      ∧ r.2.sem = fun _ => 0)

def quiescent_GradBaIdeal [hGradBaIdeal : Cert.GradBaIdeal.Facts] : Prop :=
  ∀ (m : (ℓ : Loc Cert.GradBaIdeal.nD Cert.GradBaIdeal.τ Cert.GradBaIdeal.sig) → Buf (Elt Ideal) ℓ) (g : Dev Cert.GradBaIdeal.nD → PrngReg), Pre_GradBaIdeal m →
    θ_run (Cert.GradBaIdeal.defs (F := Ideal)) (onTc (τ := Cert.GradBaIdeal.τ) (Cert.GradBaIdeal.main (F := Ideal))) ⟨m, fun _ => 0, g⟩ (fun r => (∀ c : Dev Cert.GradBaIdeal.nD,
      r.2.mem ((c.tc : Thread Cert.GradBaIdeal.nD Cert.GradBaIdeal.τ).loc Cert.GradBaIdeal.main_arg0) = m ((c.tc : Thread Cert.GradBaIdeal.nD Cert.GradBaIdeal.τ).loc Cert.GradBaIdeal.main_arg0)
      ∧ r.2.mem ((c.tc : Thread Cert.GradBaIdeal.nD Cert.GradBaIdeal.τ).loc Cert.GradBaIdeal.main_arg1) = m ((c.tc : Thread Cert.GradBaIdeal.nD Cert.GradBaIdeal.τ).loc Cert.GradBaIdeal.main_arg1))
      ∧ r.2.sem = fun _ => 0)

def quiescent_GradBaRefIdeal [hGradBaRefIdeal : Cert.GradBaRefIdeal.Facts] : Prop :=
  ∀ (m : (ℓ : Loc Cert.GradBaRefIdeal.nD Cert.GradBaRefIdeal.τ Cert.GradBaRefIdeal.sig) → Buf (Elt Ideal) ℓ) (g : Dev Cert.GradBaRefIdeal.nD → PrngReg), Pre_GradBaRefIdeal m →
    θ_run (Cert.GradBaRefIdeal.defs (F := Ideal)) (onTc (τ := Cert.GradBaRefIdeal.τ) (Cert.GradBaRefIdeal.main (F := Ideal))) ⟨m, fun _ => 0, g⟩ (fun r => (∀ c : Dev Cert.GradBaRefIdeal.nD,
      r.2.mem ((c.tc : Thread Cert.GradBaRefIdeal.nD Cert.GradBaRefIdeal.τ).loc Cert.GradBaRefIdeal.main_arg0) = m ((c.tc : Thread Cert.GradBaRefIdeal.nD Cert.GradBaRefIdeal.τ).loc Cert.GradBaRefIdeal.main_arg0)
      ∧ r.2.mem ((c.tc : Thread Cert.GradBaRefIdeal.nD Cert.GradBaRefIdeal.τ).loc Cert.GradBaRefIdeal.main_arg1) = m ((c.tc : Thread Cert.GradBaRefIdeal.nD Cert.GradBaRefIdeal.τ).loc Cert.GradBaRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_ProjGz [hProjGz : Cert.ProjGz.Facts] : Prop :=
  ∀ (m : (ℓ : Loc Cert.ProjGz.nD Cert.ProjGz.τ Cert.ProjGz.sig) → Buf (Elt Bits) ℓ) (g : Dev Cert.ProjGz.nD → PrngReg), Pre_ProjGz m →
    θ_run (Cert.ProjGz.defs (F := Bits)) (onTc (τ := Cert.ProjGz.τ) (Cert.ProjGz.main (F := Bits))) ⟨m, fun _ => 0, g⟩ (fun r => (∀ c : Dev Cert.ProjGz.nD,
      r.2.mem ((c.tc : Thread Cert.ProjGz.nD Cert.ProjGz.τ).loc Cert.ProjGz.main_arg0) = m ((c.tc : Thread Cert.ProjGz.nD Cert.ProjGz.τ).loc Cert.ProjGz.main_arg0)
      ∧ r.2.mem ((c.tc : Thread Cert.ProjGz.nD Cert.ProjGz.τ).loc Cert.ProjGz.main_arg1) = m ((c.tc : Thread Cert.ProjGz.nD Cert.ProjGz.τ).loc Cert.ProjGz.main_arg1))
      ∧ r.2.sem = fun _ => 0)

def quiescent_ProjGzIdeal [hProjGzIdeal : Cert.ProjGzIdeal.Facts] : Prop :=
  ∀ (m : (ℓ : Loc Cert.ProjGzIdeal.nD Cert.ProjGzIdeal.τ Cert.ProjGzIdeal.sig) → Buf (Elt Ideal) ℓ) (g : Dev Cert.ProjGzIdeal.nD → PrngReg), Pre_ProjGzIdeal m →
    θ_run (Cert.ProjGzIdeal.defs (F := Ideal)) (onTc (τ := Cert.ProjGzIdeal.τ) (Cert.ProjGzIdeal.main (F := Ideal))) ⟨m, fun _ => 0, g⟩ (fun r => (∀ c : Dev Cert.ProjGzIdeal.nD,
      r.2.mem ((c.tc : Thread Cert.ProjGzIdeal.nD Cert.ProjGzIdeal.τ).loc Cert.ProjGzIdeal.main_arg0) = m ((c.tc : Thread Cert.ProjGzIdeal.nD Cert.ProjGzIdeal.τ).loc Cert.ProjGzIdeal.main_arg0)
      ∧ r.2.mem ((c.tc : Thread Cert.ProjGzIdeal.nD Cert.ProjGzIdeal.τ).loc Cert.ProjGzIdeal.main_arg1) = m ((c.tc : Thread Cert.ProjGzIdeal.nD Cert.ProjGzIdeal.τ).loc Cert.ProjGzIdeal.main_arg1))
      ∧ r.2.sem = fun _ => 0)

def quiescent_ProjGzRefIdeal [hProjGzRefIdeal : Cert.ProjGzRefIdeal.Facts] : Prop :=
  ∀ (m : (ℓ : Loc Cert.ProjGzRefIdeal.nD Cert.ProjGzRefIdeal.τ Cert.ProjGzRefIdeal.sig) → Buf (Elt Ideal) ℓ) (g : Dev Cert.ProjGzRefIdeal.nD → PrngReg), Pre_ProjGzRefIdeal m →
    θ_run (Cert.ProjGzRefIdeal.defs (F := Ideal)) (onTc (τ := Cert.ProjGzRefIdeal.τ) (Cert.ProjGzRefIdeal.main (F := Ideal))) ⟨m, fun _ => 0, g⟩ (fun r => (∀ c : Dev Cert.ProjGzRefIdeal.nD,
      r.2.mem ((c.tc : Thread Cert.ProjGzRefIdeal.nD Cert.ProjGzRefIdeal.τ).loc Cert.ProjGzRefIdeal.main_arg0) = m ((c.tc : Thread Cert.ProjGzRefIdeal.nD Cert.ProjGzRefIdeal.τ).loc Cert.ProjGzRefIdeal.main_arg0)
      ∧ r.2.mem ((c.tc : Thread Cert.ProjGzRefIdeal.nD Cert.ProjGzRefIdeal.τ).loc Cert.ProjGzRefIdeal.main_arg1) = m ((c.tc : Thread Cert.ProjGzRefIdeal.nD Cert.ProjGzRefIdeal.τ).loc Cert.ProjGzRefIdeal.main_arg1))
      ∧ r.2.sem = fun _ => 0)

def quiescent_ProjBa [hProjBa : Cert.ProjBa.Facts] : Prop :=
  ∀ (m : (ℓ : Loc Cert.ProjBa.nD Cert.ProjBa.τ Cert.ProjBa.sig) → Buf (Elt Bits) ℓ) (g : Dev Cert.ProjBa.nD → PrngReg), Pre_ProjBa m →
    θ_run (Cert.ProjBa.defs (F := Bits)) (onTc (τ := Cert.ProjBa.τ) (Cert.ProjBa.main (F := Bits))) ⟨m, fun _ => 0, g⟩ (fun r => (∀ c : Dev Cert.ProjBa.nD,
      r.2.mem ((c.tc : Thread Cert.ProjBa.nD Cert.ProjBa.τ).loc Cert.ProjBa.main_arg0) = m ((c.tc : Thread Cert.ProjBa.nD Cert.ProjBa.τ).loc Cert.ProjBa.main_arg0)
      ∧ r.2.mem ((c.tc : Thread Cert.ProjBa.nD Cert.ProjBa.τ).loc Cert.ProjBa.main_arg1) = m ((c.tc : Thread Cert.ProjBa.nD Cert.ProjBa.τ).loc Cert.ProjBa.main_arg1))
      ∧ r.2.sem = fun _ => 0)

def quiescent_ProjBaIdeal [hProjBaIdeal : Cert.ProjBaIdeal.Facts] : Prop :=
  ∀ (m : (ℓ : Loc Cert.ProjBaIdeal.nD Cert.ProjBaIdeal.τ Cert.ProjBaIdeal.sig) → Buf (Elt Ideal) ℓ) (g : Dev Cert.ProjBaIdeal.nD → PrngReg), Pre_ProjBaIdeal m →
    θ_run (Cert.ProjBaIdeal.defs (F := Ideal)) (onTc (τ := Cert.ProjBaIdeal.τ) (Cert.ProjBaIdeal.main (F := Ideal))) ⟨m, fun _ => 0, g⟩ (fun r => (∀ c : Dev Cert.ProjBaIdeal.nD,
      r.2.mem ((c.tc : Thread Cert.ProjBaIdeal.nD Cert.ProjBaIdeal.τ).loc Cert.ProjBaIdeal.main_arg0) = m ((c.tc : Thread Cert.ProjBaIdeal.nD Cert.ProjBaIdeal.τ).loc Cert.ProjBaIdeal.main_arg0)
      ∧ r.2.mem ((c.tc : Thread Cert.ProjBaIdeal.nD Cert.ProjBaIdeal.τ).loc Cert.ProjBaIdeal.main_arg1) = m ((c.tc : Thread Cert.ProjBaIdeal.nD Cert.ProjBaIdeal.τ).loc Cert.ProjBaIdeal.main_arg1))
      ∧ r.2.sem = fun _ => 0)

def quiescent_ProjBaRefIdeal [hProjBaRefIdeal : Cert.ProjBaRefIdeal.Facts] : Prop :=
  ∀ (m : (ℓ : Loc Cert.ProjBaRefIdeal.nD Cert.ProjBaRefIdeal.τ Cert.ProjBaRefIdeal.sig) → Buf (Elt Ideal) ℓ) (g : Dev Cert.ProjBaRefIdeal.nD → PrngReg), Pre_ProjBaRefIdeal m →
    θ_run (Cert.ProjBaRefIdeal.defs (F := Ideal)) (onTc (τ := Cert.ProjBaRefIdeal.τ) (Cert.ProjBaRefIdeal.main (F := Ideal))) ⟨m, fun _ => 0, g⟩ (fun r => (∀ c : Dev Cert.ProjBaRefIdeal.nD,
      r.2.mem ((c.tc : Thread Cert.ProjBaRefIdeal.nD Cert.ProjBaRefIdeal.τ).loc Cert.ProjBaRefIdeal.main_arg0) = m ((c.tc : Thread Cert.ProjBaRefIdeal.nD Cert.ProjBaRefIdeal.τ).loc Cert.ProjBaRefIdeal.main_arg0)
      ∧ r.2.mem ((c.tc : Thread Cert.ProjBaRefIdeal.nD Cert.ProjBaRefIdeal.τ).loc Cert.ProjBaRefIdeal.main_arg1) = m ((c.tc : Thread Cert.ProjBaRefIdeal.nD Cert.ProjBaRefIdeal.τ).loc Cert.ProjBaRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamShards [hAdamShards : Cert.AdamShards.Facts] : Prop :=
  ∀ (m : (ℓ : Loc Cert.AdamShards.nD Cert.AdamShards.τ Cert.AdamShards.sig) → Buf (Elt Bits) ℓ) (g : Dev Cert.AdamShards.nD → PrngReg), Pre_AdamShards m →
    θ_run (Cert.AdamShards.defs (F := Bits)) (onTc (τ := Cert.AdamShards.τ) (Cert.AdamShards.main (F := Bits))) ⟨m, fun _ => 0, g⟩ (fun r => (∀ c : Dev Cert.AdamShards.nD,
      r.2.mem ((c.tc : Thread Cert.AdamShards.nD Cert.AdamShards.τ).loc Cert.AdamShards.main_arg0) = m ((c.tc : Thread Cert.AdamShards.nD Cert.AdamShards.τ).loc Cert.AdamShards.main_arg0)
      ∧ r.2.mem ((c.tc : Thread Cert.AdamShards.nD Cert.AdamShards.τ).loc Cert.AdamShards.main_arg1) = m ((c.tc : Thread Cert.AdamShards.nD Cert.AdamShards.τ).loc Cert.AdamShards.main_arg1)
      ∧ r.2.mem ((c.tc : Thread Cert.AdamShards.nD Cert.AdamShards.τ).loc Cert.AdamShards.main_arg2) = m ((c.tc : Thread Cert.AdamShards.nD Cert.AdamShards.τ).loc Cert.AdamShards.main_arg2)
      ∧ r.2.mem ((c.tc : Thread Cert.AdamShards.nD Cert.AdamShards.τ).loc Cert.AdamShards.main_arg3) = m ((c.tc : Thread Cert.AdamShards.nD Cert.AdamShards.τ).loc Cert.AdamShards.main_arg3)
      ∧ r.2.mem ((c.tc : Thread Cert.AdamShards.nD Cert.AdamShards.τ).loc Cert.AdamShards.main_arg4) = m ((c.tc : Thread Cert.AdamShards.nD Cert.AdamShards.τ).loc Cert.AdamShards.main_arg4)
      ∧ r.2.mem ((c.tc : Thread Cert.AdamShards.nD Cert.AdamShards.τ).loc Cert.AdamShards.main_arg5) = m ((c.tc : Thread Cert.AdamShards.nD Cert.AdamShards.τ).loc Cert.AdamShards.main_arg5)
      ∧ r.2.mem ((c.tc : Thread Cert.AdamShards.nD Cert.AdamShards.τ).loc Cert.AdamShards.main_arg6) = m ((c.tc : Thread Cert.AdamShards.nD Cert.AdamShards.τ).loc Cert.AdamShards.main_arg6)
      ∧ r.2.mem ((c.tc : Thread Cert.AdamShards.nD Cert.AdamShards.τ).loc Cert.AdamShards.main_arg7) = m ((c.tc : Thread Cert.AdamShards.nD Cert.AdamShards.τ).loc Cert.AdamShards.main_arg7)
      ∧ r.2.mem ((c.tc : Thread Cert.AdamShards.nD Cert.AdamShards.τ).loc Cert.AdamShards.main_arg8) = m ((c.tc : Thread Cert.AdamShards.nD Cert.AdamShards.τ).loc Cert.AdamShards.main_arg8)
      ∧ r.2.mem ((c.tc : Thread Cert.AdamShards.nD Cert.AdamShards.τ).loc Cert.AdamShards.main_arg9) = m ((c.tc : Thread Cert.AdamShards.nD Cert.AdamShards.τ).loc Cert.AdamShards.main_arg9)
      ∧ r.2.mem ((c.tc : Thread Cert.AdamShards.nD Cert.AdamShards.τ).loc Cert.AdamShards.main_arg10) = m ((c.tc : Thread Cert.AdamShards.nD Cert.AdamShards.τ).loc Cert.AdamShards.main_arg10)
      ∧ r.2.mem ((c.tc : Thread Cert.AdamShards.nD Cert.AdamShards.τ).loc Cert.AdamShards.main_arg11) = m ((c.tc : Thread Cert.AdamShards.nD Cert.AdamShards.τ).loc Cert.AdamShards.main_arg11)
      ∧ r.2.mem ((c.tc : Thread Cert.AdamShards.nD Cert.AdamShards.τ).loc Cert.AdamShards.main_arg12) = m ((c.tc : Thread Cert.AdamShards.nD Cert.AdamShards.τ).loc Cert.AdamShards.main_arg12)
      ∧ r.2.mem ((c.tc : Thread Cert.AdamShards.nD Cert.AdamShards.τ).loc Cert.AdamShards.main_arg13) = m ((c.tc : Thread Cert.AdamShards.nD Cert.AdamShards.τ).loc Cert.AdamShards.main_arg13)
      ∧ r.2.mem ((c.tc : Thread Cert.AdamShards.nD Cert.AdamShards.τ).loc Cert.AdamShards.main_arg14) = m ((c.tc : Thread Cert.AdamShards.nD Cert.AdamShards.τ).loc Cert.AdamShards.main_arg14)
      ∧ r.2.mem ((c.tc : Thread Cert.AdamShards.nD Cert.AdamShards.τ).loc Cert.AdamShards.main_arg15) = m ((c.tc : Thread Cert.AdamShards.nD Cert.AdamShards.τ).loc Cert.AdamShards.main_arg15)
      ∧ r.2.mem ((c.tc : Thread Cert.AdamShards.nD Cert.AdamShards.τ).loc Cert.AdamShards.main_arg16) = m ((c.tc : Thread Cert.AdamShards.nD Cert.AdamShards.τ).loc Cert.AdamShards.main_arg16)
      ∧ r.2.mem ((c.tc : Thread Cert.AdamShards.nD Cert.AdamShards.τ).loc Cert.AdamShards.main_arg17) = m ((c.tc : Thread Cert.AdamShards.nD Cert.AdamShards.τ).loc Cert.AdamShards.main_arg17)
      ∧ r.2.mem ((c.tc : Thread Cert.AdamShards.nD Cert.AdamShards.τ).loc Cert.AdamShards.main_arg18) = m ((c.tc : Thread Cert.AdamShards.nD Cert.AdamShards.τ).loc Cert.AdamShards.main_arg18)
      ∧ r.2.mem ((c.tc : Thread Cert.AdamShards.nD Cert.AdamShards.τ).loc Cert.AdamShards.main_arg19) = m ((c.tc : Thread Cert.AdamShards.nD Cert.AdamShards.τ).loc Cert.AdamShards.main_arg19))
      ∧ r.2.sem = fun _ => 0)

def quiescent_AdamShardsIdeal [hAdamShardsIdeal : Cert.AdamShardsIdeal.Facts] : Prop :=
  ∀ (m : (ℓ : Loc Cert.AdamShardsIdeal.nD Cert.AdamShardsIdeal.τ Cert.AdamShardsIdeal.sig) → Buf (Elt Ideal) ℓ) (g : Dev Cert.AdamShardsIdeal.nD → PrngReg), Pre_AdamShardsIdeal m →
    θ_run (Cert.AdamShardsIdeal.defs (F := Ideal)) (onTc (τ := Cert.AdamShardsIdeal.τ) (Cert.AdamShardsIdeal.main (F := Ideal))) ⟨m, fun _ => 0, g⟩ (fun r => (∀ c : Dev Cert.AdamShardsIdeal.nD,
      r.2.mem ((c.tc : Thread Cert.AdamShardsIdeal.nD Cert.AdamShardsIdeal.τ).loc Cert.AdamShardsIdeal.main_arg0) = m ((c.tc : Thread Cert.AdamShardsIdeal.nD Cert.AdamShardsIdeal.τ).loc Cert.AdamShardsIdeal.main_arg0)
      ∧ r.2.mem ((c.tc : Thread Cert.AdamShardsIdeal.nD Cert.AdamShardsIdeal.τ).loc Cert.AdamShardsIdeal.main_arg1) = m ((c.tc : Thread Cert.AdamShardsIdeal.nD Cert.AdamShardsIdeal.τ).loc Cert.AdamShardsIdeal.main_arg1)
      ∧ r.2.mem ((c.tc : Thread Cert.AdamShardsIdeal.nD Cert.AdamShardsIdeal.τ).loc Cert.AdamShardsIdeal.main_arg2) = m ((c.tc : Thread Cert.AdamShardsIdeal.nD Cert.AdamShardsIdeal.τ).loc Cert.AdamShardsIdeal.main_arg2)
      ∧ r.2.mem ((c.tc : Thread Cert.AdamShardsIdeal.nD Cert.AdamShardsIdeal.τ).loc Cert.AdamShardsIdeal.main_arg3) = m ((c.tc : Thread Cert.AdamShardsIdeal.nD Cert.AdamShardsIdeal.τ).loc Cert.AdamShardsIdeal.main_arg3)
      ∧ r.2.mem ((c.tc : Thread Cert.AdamShardsIdeal.nD Cert.AdamShardsIdeal.τ).loc Cert.AdamShardsIdeal.main_arg4) = m ((c.tc : Thread Cert.AdamShardsIdeal.nD Cert.AdamShardsIdeal.τ).loc Cert.AdamShardsIdeal.main_arg4)
      ∧ r.2.mem ((c.tc : Thread Cert.AdamShardsIdeal.nD Cert.AdamShardsIdeal.τ).loc Cert.AdamShardsIdeal.main_arg5) = m ((c.tc : Thread Cert.AdamShardsIdeal.nD Cert.AdamShardsIdeal.τ).loc Cert.AdamShardsIdeal.main_arg5)
      ∧ r.2.mem ((c.tc : Thread Cert.AdamShardsIdeal.nD Cert.AdamShardsIdeal.τ).loc Cert.AdamShardsIdeal.main_arg6) = m ((c.tc : Thread Cert.AdamShardsIdeal.nD Cert.AdamShardsIdeal.τ).loc Cert.AdamShardsIdeal.main_arg6)
      ∧ r.2.mem ((c.tc : Thread Cert.AdamShardsIdeal.nD Cert.AdamShardsIdeal.τ).loc Cert.AdamShardsIdeal.main_arg7) = m ((c.tc : Thread Cert.AdamShardsIdeal.nD Cert.AdamShardsIdeal.τ).loc Cert.AdamShardsIdeal.main_arg7)
      ∧ r.2.mem ((c.tc : Thread Cert.AdamShardsIdeal.nD Cert.AdamShardsIdeal.τ).loc Cert.AdamShardsIdeal.main_arg8) = m ((c.tc : Thread Cert.AdamShardsIdeal.nD Cert.AdamShardsIdeal.τ).loc Cert.AdamShardsIdeal.main_arg8)
      ∧ r.2.mem ((c.tc : Thread Cert.AdamShardsIdeal.nD Cert.AdamShardsIdeal.τ).loc Cert.AdamShardsIdeal.main_arg9) = m ((c.tc : Thread Cert.AdamShardsIdeal.nD Cert.AdamShardsIdeal.τ).loc Cert.AdamShardsIdeal.main_arg9)
      ∧ r.2.mem ((c.tc : Thread Cert.AdamShardsIdeal.nD Cert.AdamShardsIdeal.τ).loc Cert.AdamShardsIdeal.main_arg10) = m ((c.tc : Thread Cert.AdamShardsIdeal.nD Cert.AdamShardsIdeal.τ).loc Cert.AdamShardsIdeal.main_arg10)
      ∧ r.2.mem ((c.tc : Thread Cert.AdamShardsIdeal.nD Cert.AdamShardsIdeal.τ).loc Cert.AdamShardsIdeal.main_arg11) = m ((c.tc : Thread Cert.AdamShardsIdeal.nD Cert.AdamShardsIdeal.τ).loc Cert.AdamShardsIdeal.main_arg11)
      ∧ r.2.mem ((c.tc : Thread Cert.AdamShardsIdeal.nD Cert.AdamShardsIdeal.τ).loc Cert.AdamShardsIdeal.main_arg12) = m ((c.tc : Thread Cert.AdamShardsIdeal.nD Cert.AdamShardsIdeal.τ).loc Cert.AdamShardsIdeal.main_arg12)
      ∧ r.2.mem ((c.tc : Thread Cert.AdamShardsIdeal.nD Cert.AdamShardsIdeal.τ).loc Cert.AdamShardsIdeal.main_arg13) = m ((c.tc : Thread Cert.AdamShardsIdeal.nD Cert.AdamShardsIdeal.τ).loc Cert.AdamShardsIdeal.main_arg13)
      ∧ r.2.mem ((c.tc : Thread Cert.AdamShardsIdeal.nD Cert.AdamShardsIdeal.τ).loc Cert.AdamShardsIdeal.main_arg14) = m ((c.tc : Thread Cert.AdamShardsIdeal.nD Cert.AdamShardsIdeal.τ).loc Cert.AdamShardsIdeal.main_arg14)
      ∧ r.2.mem ((c.tc : Thread Cert.AdamShardsIdeal.nD Cert.AdamShardsIdeal.τ).loc Cert.AdamShardsIdeal.main_arg15) = m ((c.tc : Thread Cert.AdamShardsIdeal.nD Cert.AdamShardsIdeal.τ).loc Cert.AdamShardsIdeal.main_arg15)
      ∧ r.2.mem ((c.tc : Thread Cert.AdamShardsIdeal.nD Cert.AdamShardsIdeal.τ).loc Cert.AdamShardsIdeal.main_arg16) = m ((c.tc : Thread Cert.AdamShardsIdeal.nD Cert.AdamShardsIdeal.τ).loc Cert.AdamShardsIdeal.main_arg16)
      ∧ r.2.mem ((c.tc : Thread Cert.AdamShardsIdeal.nD Cert.AdamShardsIdeal.τ).loc Cert.AdamShardsIdeal.main_arg17) = m ((c.tc : Thread Cert.AdamShardsIdeal.nD Cert.AdamShardsIdeal.τ).loc Cert.AdamShardsIdeal.main_arg17)
      ∧ r.2.mem ((c.tc : Thread Cert.AdamShardsIdeal.nD Cert.AdamShardsIdeal.τ).loc Cert.AdamShardsIdeal.main_arg18) = m ((c.tc : Thread Cert.AdamShardsIdeal.nD Cert.AdamShardsIdeal.τ).loc Cert.AdamShardsIdeal.main_arg18)
      ∧ r.2.mem ((c.tc : Thread Cert.AdamShardsIdeal.nD Cert.AdamShardsIdeal.τ).loc Cert.AdamShardsIdeal.main_arg19) = m ((c.tc : Thread Cert.AdamShardsIdeal.nD Cert.AdamShardsIdeal.τ).loc Cert.AdamShardsIdeal.main_arg19))
      ∧ r.2.sem = fun _ => 0)

def quiescent_AdamShardsRefIdeal [hAdamShardsRefIdeal : Cert.AdamShardsRefIdeal.Facts] : Prop :=
  ∀ (m : (ℓ : Loc Cert.AdamShardsRefIdeal.nD Cert.AdamShardsRefIdeal.τ Cert.AdamShardsRefIdeal.sig) → Buf (Elt Ideal) ℓ) (g : Dev Cert.AdamShardsRefIdeal.nD → PrngReg), Pre_AdamShardsRefIdeal m →
    θ_run (Cert.AdamShardsRefIdeal.defs (F := Ideal)) (onTc (τ := Cert.AdamShardsRefIdeal.τ) (Cert.AdamShardsRefIdeal.main (F := Ideal))) ⟨m, fun _ => 0, g⟩ (fun r => (∀ c : Dev Cert.AdamShardsRefIdeal.nD,
      r.2.mem ((c.tc : Thread Cert.AdamShardsRefIdeal.nD Cert.AdamShardsRefIdeal.τ).loc Cert.AdamShardsRefIdeal.main_arg0) = m ((c.tc : Thread Cert.AdamShardsRefIdeal.nD Cert.AdamShardsRefIdeal.τ).loc Cert.AdamShardsRefIdeal.main_arg0)
      ∧ r.2.mem ((c.tc : Thread Cert.AdamShardsRefIdeal.nD Cert.AdamShardsRefIdeal.τ).loc Cert.AdamShardsRefIdeal.main_arg1) = m ((c.tc : Thread Cert.AdamShardsRefIdeal.nD Cert.AdamShardsRefIdeal.τ).loc Cert.AdamShardsRefIdeal.main_arg1)
      ∧ r.2.mem ((c.tc : Thread Cert.AdamShardsRefIdeal.nD Cert.AdamShardsRefIdeal.τ).loc Cert.AdamShardsRefIdeal.main_arg2) = m ((c.tc : Thread Cert.AdamShardsRefIdeal.nD Cert.AdamShardsRefIdeal.τ).loc Cert.AdamShardsRefIdeal.main_arg2)
      ∧ r.2.mem ((c.tc : Thread Cert.AdamShardsRefIdeal.nD Cert.AdamShardsRefIdeal.τ).loc Cert.AdamShardsRefIdeal.main_arg3) = m ((c.tc : Thread Cert.AdamShardsRefIdeal.nD Cert.AdamShardsRefIdeal.τ).loc Cert.AdamShardsRefIdeal.main_arg3)
      ∧ r.2.mem ((c.tc : Thread Cert.AdamShardsRefIdeal.nD Cert.AdamShardsRefIdeal.τ).loc Cert.AdamShardsRefIdeal.main_arg4) = m ((c.tc : Thread Cert.AdamShardsRefIdeal.nD Cert.AdamShardsRefIdeal.τ).loc Cert.AdamShardsRefIdeal.main_arg4)
      ∧ r.2.mem ((c.tc : Thread Cert.AdamShardsRefIdeal.nD Cert.AdamShardsRefIdeal.τ).loc Cert.AdamShardsRefIdeal.main_arg5) = m ((c.tc : Thread Cert.AdamShardsRefIdeal.nD Cert.AdamShardsRefIdeal.τ).loc Cert.AdamShardsRefIdeal.main_arg5)
      ∧ r.2.mem ((c.tc : Thread Cert.AdamShardsRefIdeal.nD Cert.AdamShardsRefIdeal.τ).loc Cert.AdamShardsRefIdeal.main_arg6) = m ((c.tc : Thread Cert.AdamShardsRefIdeal.nD Cert.AdamShardsRefIdeal.τ).loc Cert.AdamShardsRefIdeal.main_arg6)
      ∧ r.2.mem ((c.tc : Thread Cert.AdamShardsRefIdeal.nD Cert.AdamShardsRefIdeal.τ).loc Cert.AdamShardsRefIdeal.main_arg7) = m ((c.tc : Thread Cert.AdamShardsRefIdeal.nD Cert.AdamShardsRefIdeal.τ).loc Cert.AdamShardsRefIdeal.main_arg7)
      ∧ r.2.mem ((c.tc : Thread Cert.AdamShardsRefIdeal.nD Cert.AdamShardsRefIdeal.τ).loc Cert.AdamShardsRefIdeal.main_arg8) = m ((c.tc : Thread Cert.AdamShardsRefIdeal.nD Cert.AdamShardsRefIdeal.τ).loc Cert.AdamShardsRefIdeal.main_arg8)
      ∧ r.2.mem ((c.tc : Thread Cert.AdamShardsRefIdeal.nD Cert.AdamShardsRefIdeal.τ).loc Cert.AdamShardsRefIdeal.main_arg9) = m ((c.tc : Thread Cert.AdamShardsRefIdeal.nD Cert.AdamShardsRefIdeal.τ).loc Cert.AdamShardsRefIdeal.main_arg9)
      ∧ r.2.mem ((c.tc : Thread Cert.AdamShardsRefIdeal.nD Cert.AdamShardsRefIdeal.τ).loc Cert.AdamShardsRefIdeal.main_arg10) = m ((c.tc : Thread Cert.AdamShardsRefIdeal.nD Cert.AdamShardsRefIdeal.τ).loc Cert.AdamShardsRefIdeal.main_arg10)
      ∧ r.2.mem ((c.tc : Thread Cert.AdamShardsRefIdeal.nD Cert.AdamShardsRefIdeal.τ).loc Cert.AdamShardsRefIdeal.main_arg11) = m ((c.tc : Thread Cert.AdamShardsRefIdeal.nD Cert.AdamShardsRefIdeal.τ).loc Cert.AdamShardsRefIdeal.main_arg11)
      ∧ r.2.mem ((c.tc : Thread Cert.AdamShardsRefIdeal.nD Cert.AdamShardsRefIdeal.τ).loc Cert.AdamShardsRefIdeal.main_arg12) = m ((c.tc : Thread Cert.AdamShardsRefIdeal.nD Cert.AdamShardsRefIdeal.τ).loc Cert.AdamShardsRefIdeal.main_arg12)
      ∧ r.2.mem ((c.tc : Thread Cert.AdamShardsRefIdeal.nD Cert.AdamShardsRefIdeal.τ).loc Cert.AdamShardsRefIdeal.main_arg13) = m ((c.tc : Thread Cert.AdamShardsRefIdeal.nD Cert.AdamShardsRefIdeal.τ).loc Cert.AdamShardsRefIdeal.main_arg13)
      ∧ r.2.mem ((c.tc : Thread Cert.AdamShardsRefIdeal.nD Cert.AdamShardsRefIdeal.τ).loc Cert.AdamShardsRefIdeal.main_arg14) = m ((c.tc : Thread Cert.AdamShardsRefIdeal.nD Cert.AdamShardsRefIdeal.τ).loc Cert.AdamShardsRefIdeal.main_arg14)
      ∧ r.2.mem ((c.tc : Thread Cert.AdamShardsRefIdeal.nD Cert.AdamShardsRefIdeal.τ).loc Cert.AdamShardsRefIdeal.main_arg15) = m ((c.tc : Thread Cert.AdamShardsRefIdeal.nD Cert.AdamShardsRefIdeal.τ).loc Cert.AdamShardsRefIdeal.main_arg15)
      ∧ r.2.mem ((c.tc : Thread Cert.AdamShardsRefIdeal.nD Cert.AdamShardsRefIdeal.τ).loc Cert.AdamShardsRefIdeal.main_arg16) = m ((c.tc : Thread Cert.AdamShardsRefIdeal.nD Cert.AdamShardsRefIdeal.τ).loc Cert.AdamShardsRefIdeal.main_arg16)
      ∧ r.2.mem ((c.tc : Thread Cert.AdamShardsRefIdeal.nD Cert.AdamShardsRefIdeal.τ).loc Cert.AdamShardsRefIdeal.main_arg17) = m ((c.tc : Thread Cert.AdamShardsRefIdeal.nD Cert.AdamShardsRefIdeal.τ).loc Cert.AdamShardsRefIdeal.main_arg17)
      ∧ r.2.mem ((c.tc : Thread Cert.AdamShardsRefIdeal.nD Cert.AdamShardsRefIdeal.τ).loc Cert.AdamShardsRefIdeal.main_arg18) = m ((c.tc : Thread Cert.AdamShardsRefIdeal.nD Cert.AdamShardsRefIdeal.τ).loc Cert.AdamShardsRefIdeal.main_arg18)
      ∧ r.2.mem ((c.tc : Thread Cert.AdamShardsRefIdeal.nD Cert.AdamShardsRefIdeal.τ).loc Cert.AdamShardsRefIdeal.main_arg19) = m ((c.tc : Thread Cert.AdamShardsRefIdeal.nD Cert.AdamShardsRefIdeal.τ).loc Cert.AdamShardsRefIdeal.main_arg19))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32))
      ∧ r.2.sem = fun _ => 0)

def quiescent_GdnConv [hGdnConv : Cert.GdnConv.Facts] : Prop :=
  ∀ (m : (ℓ : Loc Cert.GdnConv.nD Cert.GdnConv.τ Cert.GdnConv.sig) → Buf (Elt Bits) ℓ) (g : Dev Cert.GdnConv.nD → PrngReg), Pre_GdnConv m →
    θ_run (Cert.GdnConv.defs (F := Bits)) (onTc (τ := Cert.GdnConv.τ) (Cert.GdnConv.main (F := Bits))) ⟨m, fun _ => 0, g⟩ (fun r => (∀ c : Dev Cert.GdnConv.nD,
      r.2.mem ((c.tc : Thread Cert.GdnConv.nD Cert.GdnConv.τ).loc Cert.GdnConv.main_arg0) = m ((c.tc : Thread Cert.GdnConv.nD Cert.GdnConv.τ).loc Cert.GdnConv.main_arg0)
      ∧ r.2.mem ((c.tc : Thread Cert.GdnConv.nD Cert.GdnConv.τ).loc Cert.GdnConv.main_arg1) = m ((c.tc : Thread Cert.GdnConv.nD Cert.GdnConv.τ).loc Cert.GdnConv.main_arg1))
      ∧ r.2.sem = fun _ => 0)

def quiescent_GdnConvIdeal [hGdnConvIdeal : Cert.GdnConvIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1))
      ∧ r.2.sem = fun _ => 0)

def quiescent_GdnConvRefIdeal [hGdnConvRefIdeal : Cert.GdnConvRefIdeal.Facts] : Prop :=
  ∀ (m : (ℓ : Loc Cert.GdnConvRefIdeal.nD Cert.GdnConvRefIdeal.τ Cert.GdnConvRefIdeal.sig) → Buf (Elt Ideal) ℓ) (g : Dev Cert.GdnConvRefIdeal.nD → PrngReg), Pre_GdnConvRefIdeal m →
    θ_run (Cert.GdnConvRefIdeal.defs (F := Ideal)) (onTc (τ := Cert.GdnConvRefIdeal.τ) (Cert.GdnConvRefIdeal.main (F := Ideal))) ⟨m, fun _ => 0, g⟩ (fun r => (∀ c : Dev Cert.GdnConvRefIdeal.nD,
      r.2.mem ((c.tc : Thread Cert.GdnConvRefIdeal.nD Cert.GdnConvRefIdeal.τ).loc Cert.GdnConvRefIdeal.main_arg0) = m ((c.tc : Thread Cert.GdnConvRefIdeal.nD Cert.GdnConvRefIdeal.τ).loc Cert.GdnConvRefIdeal.main_arg0)
      ∧ r.2.mem ((c.tc : Thread Cert.GdnConvRefIdeal.nD Cert.GdnConvRefIdeal.τ).loc Cert.GdnConvRefIdeal.main_arg1) = m ((c.tc : Thread Cert.GdnConvRefIdeal.nD Cert.GdnConvRefIdeal.τ).loc Cert.GdnConvRefIdeal.main_arg1))
      ∧ r.2.sem = fun _ => 0)

def quiescent_ConfConv [hConfConv : Cert.ConfConv.Facts] : Prop :=
  ∀ (m : (ℓ : Loc Cert.ConfConv.nD Cert.ConfConv.τ Cert.ConfConv.sig) → Buf (Elt Bits) ℓ) (g : Dev Cert.ConfConv.nD → PrngReg), Pre_ConfConv m →
    θ_run (Cert.ConfConv.defs (F := Bits)) (onTc (τ := Cert.ConfConv.τ) (Cert.ConfConv.main (F := Bits))) ⟨m, fun _ => 0, g⟩ (fun r => (∀ c : Dev Cert.ConfConv.nD,
      r.2.mem ((c.tc : Thread Cert.ConfConv.nD Cert.ConfConv.τ).loc Cert.ConfConv.main_arg0) = m ((c.tc : Thread Cert.ConfConv.nD Cert.ConfConv.τ).loc Cert.ConfConv.main_arg0)
      ∧ r.2.mem ((c.tc : Thread Cert.ConfConv.nD Cert.ConfConv.τ).loc Cert.ConfConv.main_arg1) = m ((c.tc : Thread Cert.ConfConv.nD Cert.ConfConv.τ).loc Cert.ConfConv.main_arg1)
      ∧ r.2.mem ((c.tc : Thread Cert.ConfConv.nD Cert.ConfConv.τ).loc Cert.ConfConv.main_arg2) = m ((c.tc : Thread Cert.ConfConv.nD Cert.ConfConv.τ).loc Cert.ConfConv.main_arg2)
      ∧ r.2.mem ((c.tc : Thread Cert.ConfConv.nD Cert.ConfConv.τ).loc Cert.ConfConv.main_arg3) = m ((c.tc : Thread Cert.ConfConv.nD Cert.ConfConv.τ).loc Cert.ConfConv.main_arg3)
      ∧ r.2.mem ((c.tc : Thread Cert.ConfConv.nD Cert.ConfConv.τ).loc Cert.ConfConv.main_arg4) = m ((c.tc : Thread Cert.ConfConv.nD Cert.ConfConv.τ).loc Cert.ConfConv.main_arg4))
      ∧ r.2.sem = fun _ => 0)

def quiescent_ConfConvIdeal [hConfConvIdeal : Cert.ConfConvIdeal.Facts] : Prop :=
  ∀ (m : (ℓ : Loc Cert.ConfConvIdeal.nD Cert.ConfConvIdeal.τ Cert.ConfConvIdeal.sig) → Buf (Elt Ideal) ℓ) (g : Dev Cert.ConfConvIdeal.nD → PrngReg), Pre_ConfConvIdeal m →
    θ_run (Cert.ConfConvIdeal.defs (F := Ideal)) (onTc (τ := Cert.ConfConvIdeal.τ) (Cert.ConfConvIdeal.main (F := Ideal))) ⟨m, fun _ => 0, g⟩ (fun r => (∀ c : Dev Cert.ConfConvIdeal.nD,
      r.2.mem ((c.tc : Thread Cert.ConfConvIdeal.nD Cert.ConfConvIdeal.τ).loc Cert.ConfConvIdeal.main_arg0) = m ((c.tc : Thread Cert.ConfConvIdeal.nD Cert.ConfConvIdeal.τ).loc Cert.ConfConvIdeal.main_arg0)
      ∧ r.2.mem ((c.tc : Thread Cert.ConfConvIdeal.nD Cert.ConfConvIdeal.τ).loc Cert.ConfConvIdeal.main_arg1) = m ((c.tc : Thread Cert.ConfConvIdeal.nD Cert.ConfConvIdeal.τ).loc Cert.ConfConvIdeal.main_arg1)
      ∧ r.2.mem ((c.tc : Thread Cert.ConfConvIdeal.nD Cert.ConfConvIdeal.τ).loc Cert.ConfConvIdeal.main_arg2) = m ((c.tc : Thread Cert.ConfConvIdeal.nD Cert.ConfConvIdeal.τ).loc Cert.ConfConvIdeal.main_arg2)
      ∧ r.2.mem ((c.tc : Thread Cert.ConfConvIdeal.nD Cert.ConfConvIdeal.τ).loc Cert.ConfConvIdeal.main_arg3) = m ((c.tc : Thread Cert.ConfConvIdeal.nD Cert.ConfConvIdeal.τ).loc Cert.ConfConvIdeal.main_arg3)
      ∧ r.2.mem ((c.tc : Thread Cert.ConfConvIdeal.nD Cert.ConfConvIdeal.τ).loc Cert.ConfConvIdeal.main_arg4) = m ((c.tc : Thread Cert.ConfConvIdeal.nD Cert.ConfConvIdeal.τ).loc Cert.ConfConvIdeal.main_arg4))
      ∧ r.2.sem = fun _ => 0)

def quiescent_ConfConvRefIdeal [hConfConvRefIdeal : Cert.ConfConvRefIdeal.Facts] : Prop :=
  ∀ (m : (ℓ : Loc Cert.ConfConvRefIdeal.nD Cert.ConfConvRefIdeal.τ Cert.ConfConvRefIdeal.sig) → Buf (Elt Ideal) ℓ) (g : Dev Cert.ConfConvRefIdeal.nD → PrngReg), Pre_ConfConvRefIdeal m →
    θ_run (Cert.ConfConvRefIdeal.defs (F := Ideal)) (onTc (τ := Cert.ConfConvRefIdeal.τ) (Cert.ConfConvRefIdeal.main (F := Ideal))) ⟨m, fun _ => 0, g⟩ (fun r => (∀ c : Dev Cert.ConfConvRefIdeal.nD,
      r.2.mem ((c.tc : Thread Cert.ConfConvRefIdeal.nD Cert.ConfConvRefIdeal.τ).loc Cert.ConfConvRefIdeal.main_arg0) = m ((c.tc : Thread Cert.ConfConvRefIdeal.nD Cert.ConfConvRefIdeal.τ).loc Cert.ConfConvRefIdeal.main_arg0)
      ∧ r.2.mem ((c.tc : Thread Cert.ConfConvRefIdeal.nD Cert.ConfConvRefIdeal.τ).loc Cert.ConfConvRefIdeal.main_arg1) = m ((c.tc : Thread Cert.ConfConvRefIdeal.nD Cert.ConfConvRefIdeal.τ).loc Cert.ConfConvRefIdeal.main_arg1)
      ∧ r.2.mem ((c.tc : Thread Cert.ConfConvRefIdeal.nD Cert.ConfConvRefIdeal.τ).loc Cert.ConfConvRefIdeal.main_arg2) = m ((c.tc : Thread Cert.ConfConvRefIdeal.nD Cert.ConfConvRefIdeal.τ).loc Cert.ConfConvRefIdeal.main_arg2)
      ∧ r.2.mem ((c.tc : Thread Cert.ConfConvRefIdeal.nD Cert.ConfConvRefIdeal.τ).loc Cert.ConfConvRefIdeal.main_arg3) = m ((c.tc : Thread Cert.ConfConvRefIdeal.nD Cert.ConfConvRefIdeal.τ).loc Cert.ConfConvRefIdeal.main_arg3)
      ∧ r.2.mem ((c.tc : Thread Cert.ConfConvRefIdeal.nD Cert.ConfConvRefIdeal.τ).loc Cert.ConfConvRefIdeal.main_arg4) = m ((c.tc : Thread Cert.ConfConvRefIdeal.nD Cert.ConfConvRefIdeal.τ).loc Cert.ConfConvRefIdeal.main_arg4))
      ∧ r.2.sem = fun _ => 0)

def quiescent_ConfPost [hConfPost : Cert.ConfPost.Facts] : Prop :=
  ∀ (m : (ℓ : Loc Cert.ConfPost.nD Cert.ConfPost.τ Cert.ConfPost.sig) → Buf (Elt Bits) ℓ) (g : Dev Cert.ConfPost.nD → PrngReg), Pre_ConfPost m →
    θ_run (Cert.ConfPost.defs (F := Bits)) (onTc (τ := Cert.ConfPost.τ) (Cert.ConfPost.main (F := Bits))) ⟨m, fun _ => 0, g⟩ (fun r => (∀ c : Dev Cert.ConfPost.nD,
      r.2.mem ((c.tc : Thread Cert.ConfPost.nD Cert.ConfPost.τ).loc Cert.ConfPost.main_arg0) = m ((c.tc : Thread Cert.ConfPost.nD Cert.ConfPost.τ).loc Cert.ConfPost.main_arg0)
      ∧ r.2.mem ((c.tc : Thread Cert.ConfPost.nD Cert.ConfPost.τ).loc Cert.ConfPost.main_arg1) = m ((c.tc : Thread Cert.ConfPost.nD Cert.ConfPost.τ).loc Cert.ConfPost.main_arg1)
      ∧ r.2.mem ((c.tc : Thread Cert.ConfPost.nD Cert.ConfPost.τ).loc Cert.ConfPost.main_arg2) = m ((c.tc : Thread Cert.ConfPost.nD Cert.ConfPost.τ).loc Cert.ConfPost.main_arg2)
      ∧ r.2.mem ((c.tc : Thread Cert.ConfPost.nD Cert.ConfPost.τ).loc Cert.ConfPost.main_arg3) = m ((c.tc : Thread Cert.ConfPost.nD Cert.ConfPost.τ).loc Cert.ConfPost.main_arg3)
      ∧ r.2.mem ((c.tc : Thread Cert.ConfPost.nD Cert.ConfPost.τ).loc Cert.ConfPost.main_arg4) = m ((c.tc : Thread Cert.ConfPost.nD Cert.ConfPost.τ).loc Cert.ConfPost.main_arg4))
      ∧ r.2.sem = fun _ => 0)

def quiescent_ConfPostIdeal [hConfPostIdeal : Cert.ConfPostIdeal.Facts] : Prop :=
  ∀ (m : (ℓ : Loc Cert.ConfPostIdeal.nD Cert.ConfPostIdeal.τ Cert.ConfPostIdeal.sig) → Buf (Elt Ideal) ℓ) (g : Dev Cert.ConfPostIdeal.nD → PrngReg), Pre_ConfPostIdeal m →
    θ_run (Cert.ConfPostIdeal.defs (F := Ideal)) (onTc (τ := Cert.ConfPostIdeal.τ) (Cert.ConfPostIdeal.main (F := Ideal))) ⟨m, fun _ => 0, g⟩ (fun r => (∀ c : Dev Cert.ConfPostIdeal.nD,
      r.2.mem ((c.tc : Thread Cert.ConfPostIdeal.nD Cert.ConfPostIdeal.τ).loc Cert.ConfPostIdeal.main_arg0) = m ((c.tc : Thread Cert.ConfPostIdeal.nD Cert.ConfPostIdeal.τ).loc Cert.ConfPostIdeal.main_arg0)
      ∧ r.2.mem ((c.tc : Thread Cert.ConfPostIdeal.nD Cert.ConfPostIdeal.τ).loc Cert.ConfPostIdeal.main_arg1) = m ((c.tc : Thread Cert.ConfPostIdeal.nD Cert.ConfPostIdeal.τ).loc Cert.ConfPostIdeal.main_arg1)
      ∧ r.2.mem ((c.tc : Thread Cert.ConfPostIdeal.nD Cert.ConfPostIdeal.τ).loc Cert.ConfPostIdeal.main_arg2) = m ((c.tc : Thread Cert.ConfPostIdeal.nD Cert.ConfPostIdeal.τ).loc Cert.ConfPostIdeal.main_arg2)
      ∧ r.2.mem ((c.tc : Thread Cert.ConfPostIdeal.nD Cert.ConfPostIdeal.τ).loc Cert.ConfPostIdeal.main_arg3) = m ((c.tc : Thread Cert.ConfPostIdeal.nD Cert.ConfPostIdeal.τ).loc Cert.ConfPostIdeal.main_arg3)
      ∧ r.2.mem ((c.tc : Thread Cert.ConfPostIdeal.nD Cert.ConfPostIdeal.τ).loc Cert.ConfPostIdeal.main_arg4) = m ((c.tc : Thread Cert.ConfPostIdeal.nD Cert.ConfPostIdeal.τ).loc Cert.ConfPostIdeal.main_arg4))
      ∧ r.2.sem = fun _ => 0)

def quiescent_ConfPostIdeal_pre_finite_rows [hConfPostIdeal : Cert.ConfPostIdeal.Facts] [hPre_finite_rows : Cert.Pre_finite_rows.Facts] : Prop :=
  ∀ (m : (ℓ : Loc Cert.ConfPostIdeal.nD Cert.ConfPostIdeal.τ Cert.ConfPostIdeal.sig) → Buf (Elt Ideal) ℓ) (g : Dev Cert.ConfPostIdeal.nD → PrngReg), Pre_ConfPostIdeal_finite_rows m →
    θ_run (Cert.ConfPostIdeal.defs (F := Ideal)) (onTc (τ := Cert.ConfPostIdeal.τ) (Cert.ConfPostIdeal.main (F := Ideal))) ⟨m, fun _ => 0, g⟩ (fun r => (∀ c : Dev Cert.ConfPostIdeal.nD,
      r.2.mem ((c.tc : Thread Cert.ConfPostIdeal.nD Cert.ConfPostIdeal.τ).loc Cert.ConfPostIdeal.main_arg0) = m ((c.tc : Thread Cert.ConfPostIdeal.nD Cert.ConfPostIdeal.τ).loc Cert.ConfPostIdeal.main_arg0)
      ∧ r.2.mem ((c.tc : Thread Cert.ConfPostIdeal.nD Cert.ConfPostIdeal.τ).loc Cert.ConfPostIdeal.main_arg1) = m ((c.tc : Thread Cert.ConfPostIdeal.nD Cert.ConfPostIdeal.τ).loc Cert.ConfPostIdeal.main_arg1)
      ∧ r.2.mem ((c.tc : Thread Cert.ConfPostIdeal.nD Cert.ConfPostIdeal.τ).loc Cert.ConfPostIdeal.main_arg2) = m ((c.tc : Thread Cert.ConfPostIdeal.nD Cert.ConfPostIdeal.τ).loc Cert.ConfPostIdeal.main_arg2)
      ∧ r.2.mem ((c.tc : Thread Cert.ConfPostIdeal.nD Cert.ConfPostIdeal.τ).loc Cert.ConfPostIdeal.main_arg3) = m ((c.tc : Thread Cert.ConfPostIdeal.nD Cert.ConfPostIdeal.τ).loc Cert.ConfPostIdeal.main_arg3)
      ∧ r.2.mem ((c.tc : Thread Cert.ConfPostIdeal.nD Cert.ConfPostIdeal.τ).loc Cert.ConfPostIdeal.main_arg4) = m ((c.tc : Thread Cert.ConfPostIdeal.nD Cert.ConfPostIdeal.τ).loc Cert.ConfPostIdeal.main_arg4))
      ∧ r.2.sem = fun _ => 0)

def quiescent_ConfPostRefIdeal [hConfPostRefIdeal : Cert.ConfPostRefIdeal.Facts] : Prop :=
  ∀ (m : (ℓ : Loc Cert.ConfPostRefIdeal.nD Cert.ConfPostRefIdeal.τ Cert.ConfPostRefIdeal.sig) → Buf (Elt Ideal) ℓ) (g : Dev Cert.ConfPostRefIdeal.nD → PrngReg), Pre_ConfPostRefIdeal m →
    θ_run (Cert.ConfPostRefIdeal.defs (F := Ideal)) (onTc (τ := Cert.ConfPostRefIdeal.τ) (Cert.ConfPostRefIdeal.main (F := Ideal))) ⟨m, fun _ => 0, g⟩ (fun r => (∀ c : Dev Cert.ConfPostRefIdeal.nD,
      r.2.mem ((c.tc : Thread Cert.ConfPostRefIdeal.nD Cert.ConfPostRefIdeal.τ).loc Cert.ConfPostRefIdeal.main_arg0) = m ((c.tc : Thread Cert.ConfPostRefIdeal.nD Cert.ConfPostRefIdeal.τ).loc Cert.ConfPostRefIdeal.main_arg0)
      ∧ r.2.mem ((c.tc : Thread Cert.ConfPostRefIdeal.nD Cert.ConfPostRefIdeal.τ).loc Cert.ConfPostRefIdeal.main_arg1) = m ((c.tc : Thread Cert.ConfPostRefIdeal.nD Cert.ConfPostRefIdeal.τ).loc Cert.ConfPostRefIdeal.main_arg1)
      ∧ r.2.mem ((c.tc : Thread Cert.ConfPostRefIdeal.nD Cert.ConfPostRefIdeal.τ).loc Cert.ConfPostRefIdeal.main_arg2) = m ((c.tc : Thread Cert.ConfPostRefIdeal.nD Cert.ConfPostRefIdeal.τ).loc Cert.ConfPostRefIdeal.main_arg2)
      ∧ r.2.mem ((c.tc : Thread Cert.ConfPostRefIdeal.nD Cert.ConfPostRefIdeal.τ).loc Cert.ConfPostRefIdeal.main_arg3) = m ((c.tc : Thread Cert.ConfPostRefIdeal.nD Cert.ConfPostRefIdeal.τ).loc Cert.ConfPostRefIdeal.main_arg3)
      ∧ r.2.mem ((c.tc : Thread Cert.ConfPostRefIdeal.nD Cert.ConfPostRefIdeal.τ).loc Cert.ConfPostRefIdeal.main_arg4) = m ((c.tc : Thread Cert.ConfPostRefIdeal.nD Cert.ConfPostRefIdeal.τ).loc Cert.ConfPostRefIdeal.main_arg4))
      ∧ r.2.sem = fun _ => 0)

def quiescent_ConfPostRefIdeal_pre_finite_rows [hConfPostRefIdeal : Cert.ConfPostRefIdeal.Facts] [hPre_finite_rows : Cert.Pre_finite_rows.Facts] : Prop :=
  ∀ (m : (ℓ : Loc Cert.ConfPostRefIdeal.nD Cert.ConfPostRefIdeal.τ Cert.ConfPostRefIdeal.sig) → Buf (Elt Ideal) ℓ) (g : Dev Cert.ConfPostRefIdeal.nD → PrngReg), Pre_ConfPostRefIdeal_finite_rows m →
    θ_run (Cert.ConfPostRefIdeal.defs (F := Ideal)) (onTc (τ := Cert.ConfPostRefIdeal.τ) (Cert.ConfPostRefIdeal.main (F := Ideal))) ⟨m, fun _ => 0, g⟩ (fun r => (∀ c : Dev Cert.ConfPostRefIdeal.nD,
      r.2.mem ((c.tc : Thread Cert.ConfPostRefIdeal.nD Cert.ConfPostRefIdeal.τ).loc Cert.ConfPostRefIdeal.main_arg0) = m ((c.tc : Thread Cert.ConfPostRefIdeal.nD Cert.ConfPostRefIdeal.τ).loc Cert.ConfPostRefIdeal.main_arg0)
      ∧ r.2.mem ((c.tc : Thread Cert.ConfPostRefIdeal.nD Cert.ConfPostRefIdeal.τ).loc Cert.ConfPostRefIdeal.main_arg1) = m ((c.tc : Thread Cert.ConfPostRefIdeal.nD Cert.ConfPostRefIdeal.τ).loc Cert.ConfPostRefIdeal.main_arg1)
      ∧ r.2.mem ((c.tc : Thread Cert.ConfPostRefIdeal.nD Cert.ConfPostRefIdeal.τ).loc Cert.ConfPostRefIdeal.main_arg2) = m ((c.tc : Thread Cert.ConfPostRefIdeal.nD Cert.ConfPostRefIdeal.τ).loc Cert.ConfPostRefIdeal.main_arg2)
      ∧ r.2.mem ((c.tc : Thread Cert.ConfPostRefIdeal.nD Cert.ConfPostRefIdeal.τ).loc Cert.ConfPostRefIdeal.main_arg3) = m ((c.tc : Thread Cert.ConfPostRefIdeal.nD Cert.ConfPostRefIdeal.τ).loc Cert.ConfPostRefIdeal.main_arg3)
      ∧ r.2.mem ((c.tc : Thread Cert.ConfPostRefIdeal.nD Cert.ConfPostRefIdeal.τ).loc Cert.ConfPostRefIdeal.main_arg4) = m ((c.tc : Thread Cert.ConfPostRefIdeal.nD Cert.ConfPostRefIdeal.τ).loc Cert.ConfPostRefIdeal.main_arg4))
      ∧ r.2.sem = fun _ => 0)

def preserves_MergeStep_MergeStepIdeal : Prop :=
  True

def algebraic_MergeStepIdeal_MergeStepRefIdeal_pre_finite [hMergeStepIdeal : Cert.MergeStepIdeal.Facts] [hMergeStepRefIdeal : Cert.MergeStepRefIdeal.Facts] [hPre_finite : Cert.Pre_finite.Facts] : Prop :=
  ∀ (m : (ℓ : Loc Cert.MergeStepIdeal.nD Cert.MergeStepIdeal.τ Cert.MergeStepIdeal.sig) → Buf (Elt Ideal) ℓ) (g : Dev Cert.MergeStepIdeal.nD → PrngReg)
    (m' : (ℓ : Loc Cert.MergeStepRefIdeal.nD Cert.MergeStepRefIdeal.τ Cert.MergeStepRefIdeal.sig) → Buf (Elt Ideal) ℓ) (g' : Dev Cert.MergeStepRefIdeal.nD → PrngReg), Pre_MergeStepIdeal_finite m →
    (∀ c : Dev Cert.MergeStepIdeal.nD,
      m' ((c.tc : Thread Cert.MergeStepRefIdeal.nD Cert.MergeStepRefIdeal.τ).loc Cert.MergeStepRefIdeal.main_arg0) = m ((c.tc : Thread Cert.MergeStepIdeal.nD Cert.MergeStepIdeal.τ).loc Cert.MergeStepIdeal.main_arg0)
      ∧ m' ((c.tc : Thread Cert.MergeStepRefIdeal.nD Cert.MergeStepRefIdeal.τ).loc Cert.MergeStepRefIdeal.main_arg1) = m ((c.tc : Thread Cert.MergeStepIdeal.nD Cert.MergeStepIdeal.τ).loc Cert.MergeStepIdeal.main_arg1)
      ∧ m' ((c.tc : Thread Cert.MergeStepRefIdeal.nD Cert.MergeStepRefIdeal.τ).loc Cert.MergeStepRefIdeal.main_arg2) = m ((c.tc : Thread Cert.MergeStepIdeal.nD Cert.MergeStepIdeal.τ).loc Cert.MergeStepIdeal.main_arg2)
      ∧ m' ((c.tc : Thread Cert.MergeStepRefIdeal.nD Cert.MergeStepRefIdeal.τ).loc Cert.MergeStepRefIdeal.main_arg3) = m ((c.tc : Thread Cert.MergeStepIdeal.nD Cert.MergeStepIdeal.τ).loc Cert.MergeStepIdeal.main_arg3)
      ∧ m' ((c.tc : Thread Cert.MergeStepRefIdeal.nD Cert.MergeStepRefIdeal.τ).loc Cert.MergeStepRefIdeal.main_arg4) = m ((c.tc : Thread Cert.MergeStepIdeal.nD Cert.MergeStepIdeal.τ).loc Cert.MergeStepIdeal.main_arg4)
      ∧ m' ((c.tc : Thread Cert.MergeStepRefIdeal.nD Cert.MergeStepRefIdeal.τ).loc Cert.MergeStepRefIdeal.main_arg5) = m ((c.tc : Thread Cert.MergeStepIdeal.nD Cert.MergeStepIdeal.τ).loc Cert.MergeStepIdeal.main_arg5)
      ∧ m' ((c.tc : Thread Cert.MergeStepRefIdeal.nD Cert.MergeStepRefIdeal.τ).loc Cert.MergeStepRefIdeal.main_arg6) = m ((c.tc : Thread Cert.MergeStepIdeal.nD Cert.MergeStepIdeal.τ).loc Cert.MergeStepIdeal.main_arg6)
      ∧ m' ((c.tc : Thread Cert.MergeStepRefIdeal.nD Cert.MergeStepRefIdeal.τ).loc Cert.MergeStepRefIdeal.main_arg7) = m ((c.tc : Thread Cert.MergeStepIdeal.nD Cert.MergeStepIdeal.τ).loc Cert.MergeStepIdeal.main_arg7)
      ∧ m' ((c.tc : Thread Cert.MergeStepRefIdeal.nD Cert.MergeStepRefIdeal.τ).loc Cert.MergeStepRefIdeal.main_arg8) = m ((c.tc : Thread Cert.MergeStepIdeal.nD Cert.MergeStepIdeal.τ).loc Cert.MergeStepIdeal.main_arg8)
      ∧ m' ((c.tc : Thread Cert.MergeStepRefIdeal.nD Cert.MergeStepRefIdeal.τ).loc Cert.MergeStepRefIdeal.main_arg9) = m ((c.tc : Thread Cert.MergeStepIdeal.nD Cert.MergeStepIdeal.τ).loc Cert.MergeStepIdeal.main_arg9)) →
    ∃ (v0 : (c : Dev Cert.MergeStepIdeal.nD) → Buf (Elt Ideal) ((c.tc : Thread Cert.MergeStepIdeal.nD Cert.MergeStepIdeal.τ).loc Cert.MergeStepIdeal.main_v0_0)) (v1 : (c : Dev Cert.MergeStepIdeal.nD) → Buf (Elt Ideal) ((c.tc : Thread Cert.MergeStepIdeal.nD Cert.MergeStepIdeal.τ).loc Cert.MergeStepIdeal.main_v0_1)) (v2 : (c : Dev Cert.MergeStepIdeal.nD) → Buf (Elt Ideal) ((c.tc : Thread Cert.MergeStepIdeal.nD Cert.MergeStepIdeal.τ).loc Cert.MergeStepIdeal.main_v0_2)) (v3 : (c : Dev Cert.MergeStepIdeal.nD) → Buf (Elt Ideal) ((c.tc : Thread Cert.MergeStepIdeal.nD Cert.MergeStepIdeal.τ).loc Cert.MergeStepIdeal.main_v0_3)) (v4 : (c : Dev Cert.MergeStepIdeal.nD) → Buf (Elt Ideal) ((c.tc : Thread Cert.MergeStepIdeal.nD Cert.MergeStepIdeal.τ).loc Cert.MergeStepIdeal.main_v0_4)) (v5 : (c : Dev Cert.MergeStepIdeal.nD) → Buf (Elt Ideal) ((c.tc : Thread Cert.MergeStepIdeal.nD Cert.MergeStepIdeal.τ).loc Cert.MergeStepIdeal.main_v0_5)) (v6 : (c : Dev Cert.MergeStepIdeal.nD) → Buf (Elt Ideal) ((c.tc : Thread Cert.MergeStepIdeal.nD Cert.MergeStepIdeal.τ).loc Cert.MergeStepIdeal.main_v0_6)) (v7 : (c : Dev Cert.MergeStepIdeal.nD) → Buf (Elt Ideal) ((c.tc : Thread Cert.MergeStepIdeal.nD Cert.MergeStepIdeal.τ).loc Cert.MergeStepIdeal.main_v0_7)) (v8 : (c : Dev Cert.MergeStepIdeal.nD) → Buf (Elt Ideal) ((c.tc : Thread Cert.MergeStepIdeal.nD Cert.MergeStepIdeal.τ).loc Cert.MergeStepIdeal.main_v0_8)) (v9 : (c : Dev Cert.MergeStepIdeal.nD) → Buf (Elt Ideal) ((c.tc : Thread Cert.MergeStepIdeal.nD Cert.MergeStepIdeal.τ).loc Cert.MergeStepIdeal.main_v0_9)) (v10 : (c : Dev Cert.MergeStepIdeal.nD) → Buf (Elt Ideal) ((c.tc : Thread Cert.MergeStepIdeal.nD Cert.MergeStepIdeal.τ).loc Cert.MergeStepIdeal.main_v0_10)),
      θ_run (Cert.MergeStepIdeal.defs (F := Ideal)) (onTc (τ := Cert.MergeStepIdeal.τ) (Cert.MergeStepIdeal.main (F := Ideal))) ⟨m, fun _ => 0, g⟩ (fun r => ∀ c : Dev Cert.MergeStepIdeal.nD,
          r.2.mem ((c.tc : Thread Cert.MergeStepIdeal.nD Cert.MergeStepIdeal.τ).loc Cert.MergeStepIdeal.main_v0_0) = v0 c
          ∧ r.2.mem ((c.tc : Thread Cert.MergeStepIdeal.nD Cert.MergeStepIdeal.τ).loc Cert.MergeStepIdeal.main_v0_1) = v1 c
          ∧ r.2.mem ((c.tc : Thread Cert.MergeStepIdeal.nD Cert.MergeStepIdeal.τ).loc Cert.MergeStepIdeal.main_v0_2) = v2 c
          ∧ r.2.mem ((c.tc : Thread Cert.MergeStepIdeal.nD Cert.MergeStepIdeal.τ).loc Cert.MergeStepIdeal.main_v0_3) = v3 c
          ∧ r.2.mem ((c.tc : Thread Cert.MergeStepIdeal.nD Cert.MergeStepIdeal.τ).loc Cert.MergeStepIdeal.main_v0_4) = v4 c
          ∧ r.2.mem ((c.tc : Thread Cert.MergeStepIdeal.nD Cert.MergeStepIdeal.τ).loc Cert.MergeStepIdeal.main_v0_5) = v5 c
          ∧ r.2.mem ((c.tc : Thread Cert.MergeStepIdeal.nD Cert.MergeStepIdeal.τ).loc Cert.MergeStepIdeal.main_v0_6) = v6 c
          ∧ r.2.mem ((c.tc : Thread Cert.MergeStepIdeal.nD Cert.MergeStepIdeal.τ).loc Cert.MergeStepIdeal.main_v0_7) = v7 c
          ∧ r.2.mem ((c.tc : Thread Cert.MergeStepIdeal.nD Cert.MergeStepIdeal.τ).loc Cert.MergeStepIdeal.main_v0_8) = v8 c
          ∧ r.2.mem ((c.tc : Thread Cert.MergeStepIdeal.nD Cert.MergeStepIdeal.τ).loc Cert.MergeStepIdeal.main_v0_9) = v9 c
          ∧ r.2.mem ((c.tc : Thread Cert.MergeStepIdeal.nD Cert.MergeStepIdeal.τ).loc Cert.MergeStepIdeal.main_v0_10) = v10 c
          ∧ r.2.mem ((c.tc : Thread Cert.MergeStepIdeal.nD Cert.MergeStepIdeal.τ).loc Cert.MergeStepIdeal.main_arg0) = m ((c.tc : Thread Cert.MergeStepIdeal.nD Cert.MergeStepIdeal.τ).loc Cert.MergeStepIdeal.main_arg0)
          ∧ r.2.mem ((c.tc : Thread Cert.MergeStepIdeal.nD Cert.MergeStepIdeal.τ).loc Cert.MergeStepIdeal.main_arg1) = m ((c.tc : Thread Cert.MergeStepIdeal.nD Cert.MergeStepIdeal.τ).loc Cert.MergeStepIdeal.main_arg1)
          ∧ r.2.mem ((c.tc : Thread Cert.MergeStepIdeal.nD Cert.MergeStepIdeal.τ).loc Cert.MergeStepIdeal.main_arg2) = m ((c.tc : Thread Cert.MergeStepIdeal.nD Cert.MergeStepIdeal.τ).loc Cert.MergeStepIdeal.main_arg2)
          ∧ r.2.mem ((c.tc : Thread Cert.MergeStepIdeal.nD Cert.MergeStepIdeal.τ).loc Cert.MergeStepIdeal.main_arg3) = m ((c.tc : Thread Cert.MergeStepIdeal.nD Cert.MergeStepIdeal.τ).loc Cert.MergeStepIdeal.main_arg3)
          ∧ r.2.mem ((c.tc : Thread Cert.MergeStepIdeal.nD Cert.MergeStepIdeal.τ).loc Cert.MergeStepIdeal.main_arg4) = m ((c.tc : Thread Cert.MergeStepIdeal.nD Cert.MergeStepIdeal.τ).loc Cert.MergeStepIdeal.main_arg4)
          ∧ r.2.mem ((c.tc : Thread Cert.MergeStepIdeal.nD Cert.MergeStepIdeal.τ).loc Cert.MergeStepIdeal.main_arg5) = m ((c.tc : Thread Cert.MergeStepIdeal.nD Cert.MergeStepIdeal.τ).loc Cert.MergeStepIdeal.main_arg5)
          ∧ r.2.mem ((c.tc : Thread Cert.MergeStepIdeal.nD Cert.MergeStepIdeal.τ).loc Cert.MergeStepIdeal.main_arg6) = m ((c.tc : Thread Cert.MergeStepIdeal.nD Cert.MergeStepIdeal.τ).loc Cert.MergeStepIdeal.main_arg6)
          ∧ r.2.mem ((c.tc : Thread Cert.MergeStepIdeal.nD Cert.MergeStepIdeal.τ).loc Cert.MergeStepIdeal.main_arg7) = m ((c.tc : Thread Cert.MergeStepIdeal.nD Cert.MergeStepIdeal.τ).loc Cert.MergeStepIdeal.main_arg7)
          ∧ r.2.mem ((c.tc : Thread Cert.MergeStepIdeal.nD Cert.MergeStepIdeal.τ).loc Cert.MergeStepIdeal.main_arg8) = m ((c.tc : Thread Cert.MergeStepIdeal.nD Cert.MergeStepIdeal.τ).loc Cert.MergeStepIdeal.main_arg8)
          ∧ r.2.mem ((c.tc : Thread Cert.MergeStepIdeal.nD Cert.MergeStepIdeal.τ).loc Cert.MergeStepIdeal.main_arg9) = m ((c.tc : Thread Cert.MergeStepIdeal.nD Cert.MergeStepIdeal.τ).loc Cert.MergeStepIdeal.main_arg9))
      ∧ θ_run (Cert.MergeStepRefIdeal.defs (F := Ideal)) (onTc (τ := Cert.MergeStepRefIdeal.τ) (Cert.MergeStepRefIdeal.main (F := Ideal))) ⟨m', fun _ => 0, g'⟩ (fun r => ∀ c : Dev Cert.MergeStepRefIdeal.nD,
          r.2.mem ((c.tc : Thread Cert.MergeStepRefIdeal.nD Cert.MergeStepRefIdeal.τ).loc Cert.MergeStepRefIdeal.main_v125) = v0 c
          ∧ r.2.mem ((c.tc : Thread Cert.MergeStepRefIdeal.nD Cert.MergeStepRefIdeal.τ).loc Cert.MergeStepRefIdeal.main_v127) = v1 c
          ∧ r.2.mem ((c.tc : Thread Cert.MergeStepRefIdeal.nD Cert.MergeStepRefIdeal.τ).loc Cert.MergeStepRefIdeal.main_v129) = v2 c
          ∧ r.2.mem ((c.tc : Thread Cert.MergeStepRefIdeal.nD Cert.MergeStepRefIdeal.τ).loc Cert.MergeStepRefIdeal.main_v114) = v3 c
          ∧ r.2.mem ((c.tc : Thread Cert.MergeStepRefIdeal.nD Cert.MergeStepRefIdeal.τ).loc Cert.MergeStepRefIdeal.main_v130) = v4 c
          ∧ r.2.mem ((c.tc : Thread Cert.MergeStepRefIdeal.nD Cert.MergeStepRefIdeal.τ).loc Cert.MergeStepRefIdeal.main_v123) = v5 c
          ∧ r.2.mem ((c.tc : Thread Cert.MergeStepRefIdeal.nD Cert.MergeStepRefIdeal.τ).loc Cert.MergeStepRefIdeal.main_v124) = v6 c
          ∧ r.2.mem ((c.tc : Thread Cert.MergeStepRefIdeal.nD Cert.MergeStepRefIdeal.τ).loc Cert.MergeStepRefIdeal.main_v131) = v7 c
          ∧ r.2.mem ((c.tc : Thread Cert.MergeStepRefIdeal.nD Cert.MergeStepRefIdeal.τ).loc Cert.MergeStepRefIdeal.main_v132) = v8 c
          ∧ r.2.mem ((c.tc : Thread Cert.MergeStepRefIdeal.nD Cert.MergeStepRefIdeal.τ).loc Cert.MergeStepRefIdeal.main_v133) = v9 c
          ∧ r.2.mem ((c.tc : Thread Cert.MergeStepRefIdeal.nD Cert.MergeStepRefIdeal.τ).loc Cert.MergeStepRefIdeal.main_v134) = v10 c
          ∧ r.2.mem ((c.tc : Thread Cert.MergeStepRefIdeal.nD Cert.MergeStepRefIdeal.τ).loc Cert.MergeStepRefIdeal.main_arg0) = m' ((c.tc : Thread Cert.MergeStepRefIdeal.nD Cert.MergeStepRefIdeal.τ).loc Cert.MergeStepRefIdeal.main_arg0)
          ∧ r.2.mem ((c.tc : Thread Cert.MergeStepRefIdeal.nD Cert.MergeStepRefIdeal.τ).loc Cert.MergeStepRefIdeal.main_arg1) = m' ((c.tc : Thread Cert.MergeStepRefIdeal.nD Cert.MergeStepRefIdeal.τ).loc Cert.MergeStepRefIdeal.main_arg1)
          ∧ r.2.mem ((c.tc : Thread Cert.MergeStepRefIdeal.nD Cert.MergeStepRefIdeal.τ).loc Cert.MergeStepRefIdeal.main_arg2) = m' ((c.tc : Thread Cert.MergeStepRefIdeal.nD Cert.MergeStepRefIdeal.τ).loc Cert.MergeStepRefIdeal.main_arg2)
          ∧ r.2.mem ((c.tc : Thread Cert.MergeStepRefIdeal.nD Cert.MergeStepRefIdeal.τ).loc Cert.MergeStepRefIdeal.main_arg3) = m' ((c.tc : Thread Cert.MergeStepRefIdeal.nD Cert.MergeStepRefIdeal.τ).loc Cert.MergeStepRefIdeal.main_arg3)
          ∧ r.2.mem ((c.tc : Thread Cert.MergeStepRefIdeal.nD Cert.MergeStepRefIdeal.τ).loc Cert.MergeStepRefIdeal.main_arg4) = m' ((c.tc : Thread Cert.MergeStepRefIdeal.nD Cert.MergeStepRefIdeal.τ).loc Cert.MergeStepRefIdeal.main_arg4)
          ∧ r.2.mem ((c.tc : Thread Cert.MergeStepRefIdeal.nD Cert.MergeStepRefIdeal.τ).loc Cert.MergeStepRefIdeal.main_arg5) = m' ((c.tc : Thread Cert.MergeStepRefIdeal.nD Cert.MergeStepRefIdeal.τ).loc Cert.MergeStepRefIdeal.main_arg5)
          ∧ r.2.mem ((c.tc : Thread Cert.MergeStepRefIdeal.nD Cert.MergeStepRefIdeal.τ).loc Cert.MergeStepRefIdeal.main_arg6) = m' ((c.tc : Thread Cert.MergeStepRefIdeal.nD Cert.MergeStepRefIdeal.τ).loc Cert.MergeStepRefIdeal.main_arg6)
          ∧ r.2.mem ((c.tc : Thread Cert.MergeStepRefIdeal.nD Cert.MergeStepRefIdeal.τ).loc Cert.MergeStepRefIdeal.main_arg7) = m' ((c.tc : Thread Cert.MergeStepRefIdeal.nD Cert.MergeStepRefIdeal.τ).loc Cert.MergeStepRefIdeal.main_arg7)
          ∧ r.2.mem ((c.tc : Thread Cert.MergeStepRefIdeal.nD Cert.MergeStepRefIdeal.τ).loc Cert.MergeStepRefIdeal.main_arg8) = m' ((c.tc : Thread Cert.MergeStepRefIdeal.nD Cert.MergeStepRefIdeal.τ).loc Cert.MergeStepRefIdeal.main_arg8)
          ∧ r.2.mem ((c.tc : Thread Cert.MergeStepRefIdeal.nD Cert.MergeStepRefIdeal.τ).loc Cert.MergeStepRefIdeal.main_arg9) = m' ((c.tc : Thread Cert.MergeStepRefIdeal.nD Cert.MergeStepRefIdeal.τ).loc Cert.MergeStepRefIdeal.main_arg9))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v6) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v6) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v6) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradBa_GradBaIdeal : Prop :=
  True

def algebraic_GradBaIdeal_GradBaRefIdeal [hGradBaIdeal : Cert.GradBaIdeal.Facts] [hGradBaRefIdeal : Cert.GradBaRefIdeal.Facts] : Prop :=
  ∀ (m : (ℓ : Loc Cert.GradBaIdeal.nD Cert.GradBaIdeal.τ Cert.GradBaIdeal.sig) → Buf (Elt Ideal) ℓ) (g : Dev Cert.GradBaIdeal.nD → PrngReg)
    (m' : (ℓ : Loc Cert.GradBaRefIdeal.nD Cert.GradBaRefIdeal.τ Cert.GradBaRefIdeal.sig) → Buf (Elt Ideal) ℓ) (g' : Dev Cert.GradBaRefIdeal.nD → PrngReg), Pre_GradBaIdeal m →
    (∀ c : Dev Cert.GradBaIdeal.nD,
      m' ((c.tc : Thread Cert.GradBaRefIdeal.nD Cert.GradBaRefIdeal.τ).loc Cert.GradBaRefIdeal.main_arg0) = m ((c.tc : Thread Cert.GradBaIdeal.nD Cert.GradBaIdeal.τ).loc Cert.GradBaIdeal.main_arg0)
      ∧ m' ((c.tc : Thread Cert.GradBaRefIdeal.nD Cert.GradBaRefIdeal.τ).loc Cert.GradBaRefIdeal.main_arg1) = m ((c.tc : Thread Cert.GradBaIdeal.nD Cert.GradBaIdeal.τ).loc Cert.GradBaIdeal.main_arg1)) →
    ∃ (v0 : (c : Dev Cert.GradBaIdeal.nD) → Buf (Elt Ideal) ((c.tc : Thread Cert.GradBaIdeal.nD Cert.GradBaIdeal.τ).loc Cert.GradBaIdeal.main_v0)),
      θ_run (Cert.GradBaIdeal.defs (F := Ideal)) (onTc (τ := Cert.GradBaIdeal.τ) (Cert.GradBaIdeal.main (F := Ideal))) ⟨m, fun _ => 0, g⟩ (fun r => ∀ c : Dev Cert.GradBaIdeal.nD,
          r.2.mem ((c.tc : Thread Cert.GradBaIdeal.nD Cert.GradBaIdeal.τ).loc Cert.GradBaIdeal.main_v0) = v0 c
          ∧ r.2.mem ((c.tc : Thread Cert.GradBaIdeal.nD Cert.GradBaIdeal.τ).loc Cert.GradBaIdeal.main_arg0) = m ((c.tc : Thread Cert.GradBaIdeal.nD Cert.GradBaIdeal.τ).loc Cert.GradBaIdeal.main_arg0)
          ∧ r.2.mem ((c.tc : Thread Cert.GradBaIdeal.nD Cert.GradBaIdeal.τ).loc Cert.GradBaIdeal.main_arg1) = m ((c.tc : Thread Cert.GradBaIdeal.nD Cert.GradBaIdeal.τ).loc Cert.GradBaIdeal.main_arg1))
      ∧ θ_run (Cert.GradBaRefIdeal.defs (F := Ideal)) (onTc (τ := Cert.GradBaRefIdeal.τ) (Cert.GradBaRefIdeal.main (F := Ideal))) ⟨m', fun _ => 0, g'⟩ (fun r => ∀ c : Dev Cert.GradBaRefIdeal.nD,
          r.2.mem ((c.tc : Thread Cert.GradBaRefIdeal.nD Cert.GradBaRefIdeal.τ).loc Cert.GradBaRefIdeal.main_v6) = v0 c
          ∧ r.2.mem ((c.tc : Thread Cert.GradBaRefIdeal.nD Cert.GradBaRefIdeal.τ).loc Cert.GradBaRefIdeal.main_arg0) = m' ((c.tc : Thread Cert.GradBaRefIdeal.nD Cert.GradBaRefIdeal.τ).loc Cert.GradBaRefIdeal.main_arg0)
          ∧ r.2.mem ((c.tc : Thread Cert.GradBaRefIdeal.nD Cert.GradBaRefIdeal.τ).loc Cert.GradBaRefIdeal.main_arg1) = m' ((c.tc : Thread Cert.GradBaRefIdeal.nD Cert.GradBaRefIdeal.τ).loc Cert.GradBaRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v2) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_ProjGz_ProjGzIdeal : Prop :=
  True

def algebraic_ProjGzIdeal_ProjGzRefIdeal [hProjGzIdeal : Cert.ProjGzIdeal.Facts] [hProjGzRefIdeal : Cert.ProjGzRefIdeal.Facts] : Prop :=
  ∀ (m : (ℓ : Loc Cert.ProjGzIdeal.nD Cert.ProjGzIdeal.τ Cert.ProjGzIdeal.sig) → Buf (Elt Ideal) ℓ) (g : Dev Cert.ProjGzIdeal.nD → PrngReg)
    (m' : (ℓ : Loc Cert.ProjGzRefIdeal.nD Cert.ProjGzRefIdeal.τ Cert.ProjGzRefIdeal.sig) → Buf (Elt Ideal) ℓ) (g' : Dev Cert.ProjGzRefIdeal.nD → PrngReg), Pre_ProjGzIdeal m →
    (∀ c : Dev Cert.ProjGzIdeal.nD,
      m' ((c.tc : Thread Cert.ProjGzRefIdeal.nD Cert.ProjGzRefIdeal.τ).loc Cert.ProjGzRefIdeal.main_arg0) = m ((c.tc : Thread Cert.ProjGzIdeal.nD Cert.ProjGzIdeal.τ).loc Cert.ProjGzIdeal.main_arg0)
      ∧ m' ((c.tc : Thread Cert.ProjGzRefIdeal.nD Cert.ProjGzRefIdeal.τ).loc Cert.ProjGzRefIdeal.main_arg1) = m ((c.tc : Thread Cert.ProjGzIdeal.nD Cert.ProjGzIdeal.τ).loc Cert.ProjGzIdeal.main_arg1)) →
    ∃ (v0 : (c : Dev Cert.ProjGzIdeal.nD) → Buf (Elt Ideal) ((c.tc : Thread Cert.ProjGzIdeal.nD Cert.ProjGzIdeal.τ).loc Cert.ProjGzIdeal.main_v0)),
      θ_run (Cert.ProjGzIdeal.defs (F := Ideal)) (onTc (τ := Cert.ProjGzIdeal.τ) (Cert.ProjGzIdeal.main (F := Ideal))) ⟨m, fun _ => 0, g⟩ (fun r => ∀ c : Dev Cert.ProjGzIdeal.nD,
          r.2.mem ((c.tc : Thread Cert.ProjGzIdeal.nD Cert.ProjGzIdeal.τ).loc Cert.ProjGzIdeal.main_v0) = v0 c
          ∧ r.2.mem ((c.tc : Thread Cert.ProjGzIdeal.nD Cert.ProjGzIdeal.τ).loc Cert.ProjGzIdeal.main_arg0) = m ((c.tc : Thread Cert.ProjGzIdeal.nD Cert.ProjGzIdeal.τ).loc Cert.ProjGzIdeal.main_arg0)
          ∧ r.2.mem ((c.tc : Thread Cert.ProjGzIdeal.nD Cert.ProjGzIdeal.τ).loc Cert.ProjGzIdeal.main_arg1) = m ((c.tc : Thread Cert.ProjGzIdeal.nD Cert.ProjGzIdeal.τ).loc Cert.ProjGzIdeal.main_arg1))
      ∧ θ_run (Cert.ProjGzRefIdeal.defs (F := Ideal)) (onTc (τ := Cert.ProjGzRefIdeal.τ) (Cert.ProjGzRefIdeal.main (F := Ideal))) ⟨m', fun _ => 0, g'⟩ (fun r => ∀ c : Dev Cert.ProjGzRefIdeal.nD,
          r.2.mem ((c.tc : Thread Cert.ProjGzRefIdeal.nD Cert.ProjGzRefIdeal.τ).loc Cert.ProjGzRefIdeal.main_v2) = v0 c
          ∧ r.2.mem ((c.tc : Thread Cert.ProjGzRefIdeal.nD Cert.ProjGzRefIdeal.τ).loc Cert.ProjGzRefIdeal.main_arg0) = m' ((c.tc : Thread Cert.ProjGzRefIdeal.nD Cert.ProjGzRefIdeal.τ).loc Cert.ProjGzRefIdeal.main_arg0)
          ∧ r.2.mem ((c.tc : Thread Cert.ProjGzRefIdeal.nD Cert.ProjGzRefIdeal.τ).loc Cert.ProjGzRefIdeal.main_arg1) = m' ((c.tc : Thread Cert.ProjGzRefIdeal.nD Cert.ProjGzRefIdeal.τ).loc Cert.ProjGzRefIdeal.main_arg1))

def preserves_ProjBa_ProjBaIdeal : Prop :=
  True

def algebraic_ProjBaIdeal_ProjBaRefIdeal [hProjBaIdeal : Cert.ProjBaIdeal.Facts] [hProjBaRefIdeal : Cert.ProjBaRefIdeal.Facts] : Prop :=
  ∀ (m : (ℓ : Loc Cert.ProjBaIdeal.nD Cert.ProjBaIdeal.τ Cert.ProjBaIdeal.sig) → Buf (Elt Ideal) ℓ) (g : Dev Cert.ProjBaIdeal.nD → PrngReg)
    (m' : (ℓ : Loc Cert.ProjBaRefIdeal.nD Cert.ProjBaRefIdeal.τ Cert.ProjBaRefIdeal.sig) → Buf (Elt Ideal) ℓ) (g' : Dev Cert.ProjBaRefIdeal.nD → PrngReg), Pre_ProjBaIdeal m →
    (∀ c : Dev Cert.ProjBaIdeal.nD,
      m' ((c.tc : Thread Cert.ProjBaRefIdeal.nD Cert.ProjBaRefIdeal.τ).loc Cert.ProjBaRefIdeal.main_arg0) = m ((c.tc : Thread Cert.ProjBaIdeal.nD Cert.ProjBaIdeal.τ).loc Cert.ProjBaIdeal.main_arg0)
      ∧ m' ((c.tc : Thread Cert.ProjBaRefIdeal.nD Cert.ProjBaRefIdeal.τ).loc Cert.ProjBaRefIdeal.main_arg1) = m ((c.tc : Thread Cert.ProjBaIdeal.nD Cert.ProjBaIdeal.τ).loc Cert.ProjBaIdeal.main_arg1)) →
    ∃ (v0 : (c : Dev Cert.ProjBaIdeal.nD) → Buf (Elt Ideal) ((c.tc : Thread Cert.ProjBaIdeal.nD Cert.ProjBaIdeal.τ).loc Cert.ProjBaIdeal.main_v0)),
      θ_run (Cert.ProjBaIdeal.defs (F := Ideal)) (onTc (τ := Cert.ProjBaIdeal.τ) (Cert.ProjBaIdeal.main (F := Ideal))) ⟨m, fun _ => 0, g⟩ (fun r => ∀ c : Dev Cert.ProjBaIdeal.nD,
          r.2.mem ((c.tc : Thread Cert.ProjBaIdeal.nD Cert.ProjBaIdeal.τ).loc Cert.ProjBaIdeal.main_v0) = v0 c
          ∧ r.2.mem ((c.tc : Thread Cert.ProjBaIdeal.nD Cert.ProjBaIdeal.τ).loc Cert.ProjBaIdeal.main_arg0) = m ((c.tc : Thread Cert.ProjBaIdeal.nD Cert.ProjBaIdeal.τ).loc Cert.ProjBaIdeal.main_arg0)
          ∧ r.2.mem ((c.tc : Thread Cert.ProjBaIdeal.nD Cert.ProjBaIdeal.τ).loc Cert.ProjBaIdeal.main_arg1) = m ((c.tc : Thread Cert.ProjBaIdeal.nD Cert.ProjBaIdeal.τ).loc Cert.ProjBaIdeal.main_arg1))
      ∧ θ_run (Cert.ProjBaRefIdeal.defs (F := Ideal)) (onTc (τ := Cert.ProjBaRefIdeal.τ) (Cert.ProjBaRefIdeal.main (F := Ideal))) ⟨m', fun _ => 0, g'⟩ (fun r => ∀ c : Dev Cert.ProjBaRefIdeal.nD,
          r.2.mem ((c.tc : Thread Cert.ProjBaRefIdeal.nD Cert.ProjBaRefIdeal.τ).loc Cert.ProjBaRefIdeal.main_v2) = v0 c
          ∧ r.2.mem ((c.tc : Thread Cert.ProjBaRefIdeal.nD Cert.ProjBaRefIdeal.τ).loc Cert.ProjBaRefIdeal.main_arg0) = m' ((c.tc : Thread Cert.ProjBaRefIdeal.nD Cert.ProjBaRefIdeal.τ).loc Cert.ProjBaRefIdeal.main_arg0)
          ∧ r.2.mem ((c.tc : Thread Cert.ProjBaRefIdeal.nD Cert.ProjBaRefIdeal.τ).loc Cert.ProjBaRefIdeal.main_arg1) = m' ((c.tc : Thread Cert.ProjBaRefIdeal.nD Cert.ProjBaRefIdeal.τ).loc Cert.ProjBaRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamShards_AdamShardsIdeal : Prop :=
  True

def algebraic_AdamShardsIdeal_AdamShardsRefIdeal [hAdamShardsIdeal : Cert.AdamShardsIdeal.Facts] [hAdamShardsRefIdeal : Cert.AdamShardsRefIdeal.Facts] : Prop :=
  ∀ (m : (ℓ : Loc Cert.AdamShardsIdeal.nD Cert.AdamShardsIdeal.τ Cert.AdamShardsIdeal.sig) → Buf (Elt Ideal) ℓ) (g : Dev Cert.AdamShardsIdeal.nD → PrngReg)
    (m' : (ℓ : Loc Cert.AdamShardsRefIdeal.nD Cert.AdamShardsRefIdeal.τ Cert.AdamShardsRefIdeal.sig) → Buf (Elt Ideal) ℓ) (g' : Dev Cert.AdamShardsRefIdeal.nD → PrngReg), Pre_AdamShardsIdeal m →
    (∀ c : Dev Cert.AdamShardsIdeal.nD,
      m' ((c.tc : Thread Cert.AdamShardsRefIdeal.nD Cert.AdamShardsRefIdeal.τ).loc Cert.AdamShardsRefIdeal.main_arg0) = m ((c.tc : Thread Cert.AdamShardsIdeal.nD Cert.AdamShardsIdeal.τ).loc Cert.AdamShardsIdeal.main_arg0)
      ∧ m' ((c.tc : Thread Cert.AdamShardsRefIdeal.nD Cert.AdamShardsRefIdeal.τ).loc Cert.AdamShardsRefIdeal.main_arg1) = m ((c.tc : Thread Cert.AdamShardsIdeal.nD Cert.AdamShardsIdeal.τ).loc Cert.AdamShardsIdeal.main_arg1)
      ∧ m' ((c.tc : Thread Cert.AdamShardsRefIdeal.nD Cert.AdamShardsRefIdeal.τ).loc Cert.AdamShardsRefIdeal.main_arg2) = m ((c.tc : Thread Cert.AdamShardsIdeal.nD Cert.AdamShardsIdeal.τ).loc Cert.AdamShardsIdeal.main_arg2)
      ∧ m' ((c.tc : Thread Cert.AdamShardsRefIdeal.nD Cert.AdamShardsRefIdeal.τ).loc Cert.AdamShardsRefIdeal.main_arg3) = m ((c.tc : Thread Cert.AdamShardsIdeal.nD Cert.AdamShardsIdeal.τ).loc Cert.AdamShardsIdeal.main_arg3)
      ∧ m' ((c.tc : Thread Cert.AdamShardsRefIdeal.nD Cert.AdamShardsRefIdeal.τ).loc Cert.AdamShardsRefIdeal.main_arg4) = m ((c.tc : Thread Cert.AdamShardsIdeal.nD Cert.AdamShardsIdeal.τ).loc Cert.AdamShardsIdeal.main_arg4)
      ∧ m' ((c.tc : Thread Cert.AdamShardsRefIdeal.nD Cert.AdamShardsRefIdeal.τ).loc Cert.AdamShardsRefIdeal.main_arg5) = m ((c.tc : Thread Cert.AdamShardsIdeal.nD Cert.AdamShardsIdeal.τ).loc Cert.AdamShardsIdeal.main_arg5)
      ∧ m' ((c.tc : Thread Cert.AdamShardsRefIdeal.nD Cert.AdamShardsRefIdeal.τ).loc Cert.AdamShardsRefIdeal.main_arg6) = m ((c.tc : Thread Cert.AdamShardsIdeal.nD Cert.AdamShardsIdeal.τ).loc Cert.AdamShardsIdeal.main_arg6)
      ∧ m' ((c.tc : Thread Cert.AdamShardsRefIdeal.nD Cert.AdamShardsRefIdeal.τ).loc Cert.AdamShardsRefIdeal.main_arg7) = m ((c.tc : Thread Cert.AdamShardsIdeal.nD Cert.AdamShardsIdeal.τ).loc Cert.AdamShardsIdeal.main_arg7)
      ∧ m' ((c.tc : Thread Cert.AdamShardsRefIdeal.nD Cert.AdamShardsRefIdeal.τ).loc Cert.AdamShardsRefIdeal.main_arg8) = m ((c.tc : Thread Cert.AdamShardsIdeal.nD Cert.AdamShardsIdeal.τ).loc Cert.AdamShardsIdeal.main_arg8)
      ∧ m' ((c.tc : Thread Cert.AdamShardsRefIdeal.nD Cert.AdamShardsRefIdeal.τ).loc Cert.AdamShardsRefIdeal.main_arg9) = m ((c.tc : Thread Cert.AdamShardsIdeal.nD Cert.AdamShardsIdeal.τ).loc Cert.AdamShardsIdeal.main_arg9)
      ∧ m' ((c.tc : Thread Cert.AdamShardsRefIdeal.nD Cert.AdamShardsRefIdeal.τ).loc Cert.AdamShardsRefIdeal.main_arg10) = m ((c.tc : Thread Cert.AdamShardsIdeal.nD Cert.AdamShardsIdeal.τ).loc Cert.AdamShardsIdeal.main_arg10)
      ∧ m' ((c.tc : Thread Cert.AdamShardsRefIdeal.nD Cert.AdamShardsRefIdeal.τ).loc Cert.AdamShardsRefIdeal.main_arg11) = m ((c.tc : Thread Cert.AdamShardsIdeal.nD Cert.AdamShardsIdeal.τ).loc Cert.AdamShardsIdeal.main_arg11)
      ∧ m' ((c.tc : Thread Cert.AdamShardsRefIdeal.nD Cert.AdamShardsRefIdeal.τ).loc Cert.AdamShardsRefIdeal.main_arg12) = m ((c.tc : Thread Cert.AdamShardsIdeal.nD Cert.AdamShardsIdeal.τ).loc Cert.AdamShardsIdeal.main_arg12)
      ∧ m' ((c.tc : Thread Cert.AdamShardsRefIdeal.nD Cert.AdamShardsRefIdeal.τ).loc Cert.AdamShardsRefIdeal.main_arg13) = m ((c.tc : Thread Cert.AdamShardsIdeal.nD Cert.AdamShardsIdeal.τ).loc Cert.AdamShardsIdeal.main_arg13)
      ∧ m' ((c.tc : Thread Cert.AdamShardsRefIdeal.nD Cert.AdamShardsRefIdeal.τ).loc Cert.AdamShardsRefIdeal.main_arg14) = m ((c.tc : Thread Cert.AdamShardsIdeal.nD Cert.AdamShardsIdeal.τ).loc Cert.AdamShardsIdeal.main_arg14)
      ∧ m' ((c.tc : Thread Cert.AdamShardsRefIdeal.nD Cert.AdamShardsRefIdeal.τ).loc Cert.AdamShardsRefIdeal.main_arg15) = m ((c.tc : Thread Cert.AdamShardsIdeal.nD Cert.AdamShardsIdeal.τ).loc Cert.AdamShardsIdeal.main_arg15)
      ∧ m' ((c.tc : Thread Cert.AdamShardsRefIdeal.nD Cert.AdamShardsRefIdeal.τ).loc Cert.AdamShardsRefIdeal.main_arg16) = m ((c.tc : Thread Cert.AdamShardsIdeal.nD Cert.AdamShardsIdeal.τ).loc Cert.AdamShardsIdeal.main_arg16)
      ∧ m' ((c.tc : Thread Cert.AdamShardsRefIdeal.nD Cert.AdamShardsRefIdeal.τ).loc Cert.AdamShardsRefIdeal.main_arg17) = m ((c.tc : Thread Cert.AdamShardsIdeal.nD Cert.AdamShardsIdeal.τ).loc Cert.AdamShardsIdeal.main_arg17)
      ∧ m' ((c.tc : Thread Cert.AdamShardsRefIdeal.nD Cert.AdamShardsRefIdeal.τ).loc Cert.AdamShardsRefIdeal.main_arg18) = m ((c.tc : Thread Cert.AdamShardsIdeal.nD Cert.AdamShardsIdeal.τ).loc Cert.AdamShardsIdeal.main_arg18)
      ∧ m' ((c.tc : Thread Cert.AdamShardsRefIdeal.nD Cert.AdamShardsRefIdeal.τ).loc Cert.AdamShardsRefIdeal.main_arg19) = m ((c.tc : Thread Cert.AdamShardsIdeal.nD Cert.AdamShardsIdeal.τ).loc Cert.AdamShardsIdeal.main_arg19)) →
    ∃ (v0 : (c : Dev Cert.AdamShardsIdeal.nD) → Buf (Elt Ideal) ((c.tc : Thread Cert.AdamShardsIdeal.nD Cert.AdamShardsIdeal.τ).loc Cert.AdamShardsIdeal.main_v38)) (v1 : (c : Dev Cert.AdamShardsIdeal.nD) → Buf (Elt Ideal) ((c.tc : Thread Cert.AdamShardsIdeal.nD Cert.AdamShardsIdeal.τ).loc Cert.AdamShardsIdeal.main_v39)) (v2 : (c : Dev Cert.AdamShardsIdeal.nD) → Buf (Elt Ideal) ((c.tc : Thread Cert.AdamShardsIdeal.nD Cert.AdamShardsIdeal.τ).loc Cert.AdamShardsIdeal.main_v40)) (v3 : (c : Dev Cert.AdamShardsIdeal.nD) → Buf (Elt Ideal) ((c.tc : Thread Cert.AdamShardsIdeal.nD Cert.AdamShardsIdeal.τ).loc Cert.AdamShardsIdeal.main_v33)) (v4 : (c : Dev Cert.AdamShardsIdeal.nD) → Buf (Elt Ideal) ((c.tc : Thread Cert.AdamShardsIdeal.nD Cert.AdamShardsIdeal.τ).loc Cert.AdamShardsIdeal.main_v37)) (v5 : (c : Dev Cert.AdamShardsIdeal.nD) → Buf (Elt Ideal) ((c.tc : Thread Cert.AdamShardsIdeal.nD Cert.AdamShardsIdeal.τ).loc Cert.AdamShardsIdeal.main_v49)) (v6 : (c : Dev Cert.AdamShardsIdeal.nD) → Buf (Elt Ideal) ((c.tc : Thread Cert.AdamShardsIdeal.nD Cert.AdamShardsIdeal.τ).loc Cert.AdamShardsIdeal.main_v50)) (v7 : (c : Dev Cert.AdamShardsIdeal.nD) → Buf (Elt Ideal) ((c.tc : Thread Cert.AdamShardsIdeal.nD Cert.AdamShardsIdeal.τ).loc Cert.AdamShardsIdeal.main_v51)) (v8 : (c : Dev Cert.AdamShardsIdeal.nD) → Buf (Elt Ideal) ((c.tc : Thread Cert.AdamShardsIdeal.nD Cert.AdamShardsIdeal.τ).loc Cert.AdamShardsIdeal.main_v44)) (v9 : (c : Dev Cert.AdamShardsIdeal.nD) → Buf (Elt Ideal) ((c.tc : Thread Cert.AdamShardsIdeal.nD Cert.AdamShardsIdeal.τ).loc Cert.AdamShardsIdeal.main_v48)) (v10 : (c : Dev Cert.AdamShardsIdeal.nD) → Buf (Elt Ideal) ((c.tc : Thread Cert.AdamShardsIdeal.nD Cert.AdamShardsIdeal.τ).loc Cert.AdamShardsIdeal.main_v60)) (v11 : (c : Dev Cert.AdamShardsIdeal.nD) → Buf (Elt Ideal) ((c.tc : Thread Cert.AdamShardsIdeal.nD Cert.AdamShardsIdeal.τ).loc Cert.AdamShardsIdeal.main_v61)) (v12 : (c : Dev Cert.AdamShardsIdeal.nD) → Buf (Elt Ideal) ((c.tc : Thread Cert.AdamShardsIdeal.nD Cert.AdamShardsIdeal.τ).loc Cert.AdamShardsIdeal.main_v62)) (v13 : (c : Dev Cert.AdamShardsIdeal.nD) → Buf (Elt Ideal) ((c.tc : Thread Cert.AdamShardsIdeal.nD Cert.AdamShardsIdeal.τ).loc Cert.AdamShardsIdeal.main_v55)) (v14 : (c : Dev Cert.AdamShardsIdeal.nD) → Buf (Elt Ideal) ((c.tc : Thread Cert.AdamShardsIdeal.nD Cert.AdamShardsIdeal.τ).loc Cert.AdamShardsIdeal.main_v59)) (v15 : (c : Dev Cert.AdamShardsIdeal.nD) → Buf (Elt Ideal) ((c.tc : Thread Cert.AdamShardsIdeal.nD Cert.AdamShardsIdeal.τ).loc Cert.AdamShardsIdeal.main_v71)) (v16 : (c : Dev Cert.AdamShardsIdeal.nD) → Buf (Elt Ideal) ((c.tc : Thread Cert.AdamShardsIdeal.nD Cert.AdamShardsIdeal.τ).loc Cert.AdamShardsIdeal.main_v72)) (v17 : (c : Dev Cert.AdamShardsIdeal.nD) → Buf (Elt Ideal) ((c.tc : Thread Cert.AdamShardsIdeal.nD Cert.AdamShardsIdeal.τ).loc Cert.AdamShardsIdeal.main_v73)) (v18 : (c : Dev Cert.AdamShardsIdeal.nD) → Buf (Elt Ideal) ((c.tc : Thread Cert.AdamShardsIdeal.nD Cert.AdamShardsIdeal.τ).loc Cert.AdamShardsIdeal.main_v66)) (v19 : (c : Dev Cert.AdamShardsIdeal.nD) → Buf (Elt Ideal) ((c.tc : Thread Cert.AdamShardsIdeal.nD Cert.AdamShardsIdeal.τ).loc Cert.AdamShardsIdeal.main_v70)),
      θ_run (Cert.AdamShardsIdeal.defs (F := Ideal)) (onTc (τ := Cert.AdamShardsIdeal.τ) (Cert.AdamShardsIdeal.main (F := Ideal))) ⟨m, fun _ => 0, g⟩ (fun r => ∀ c : Dev Cert.AdamShardsIdeal.nD,
          r.2.mem ((c.tc : Thread Cert.AdamShardsIdeal.nD Cert.AdamShardsIdeal.τ).loc Cert.AdamShardsIdeal.main_v38) = v0 c
          ∧ r.2.mem ((c.tc : Thread Cert.AdamShardsIdeal.nD Cert.AdamShardsIdeal.τ).loc Cert.AdamShardsIdeal.main_v39) = v1 c
          ∧ r.2.mem ((c.tc : Thread Cert.AdamShardsIdeal.nD Cert.AdamShardsIdeal.τ).loc Cert.AdamShardsIdeal.main_v40) = v2 c
          ∧ r.2.mem ((c.tc : Thread Cert.AdamShardsIdeal.nD Cert.AdamShardsIdeal.τ).loc Cert.AdamShardsIdeal.main_v33) = v3 c
          ∧ r.2.mem ((c.tc : Thread Cert.AdamShardsIdeal.nD Cert.AdamShardsIdeal.τ).loc Cert.AdamShardsIdeal.main_v37) = v4 c
          ∧ r.2.mem ((c.tc : Thread Cert.AdamShardsIdeal.nD Cert.AdamShardsIdeal.τ).loc Cert.AdamShardsIdeal.main_v49) = v5 c
          ∧ r.2.mem ((c.tc : Thread Cert.AdamShardsIdeal.nD Cert.AdamShardsIdeal.τ).loc Cert.AdamShardsIdeal.main_v50) = v6 c
          ∧ r.2.mem ((c.tc : Thread Cert.AdamShardsIdeal.nD Cert.AdamShardsIdeal.τ).loc Cert.AdamShardsIdeal.main_v51) = v7 c
          ∧ r.2.mem ((c.tc : Thread Cert.AdamShardsIdeal.nD Cert.AdamShardsIdeal.τ).loc Cert.AdamShardsIdeal.main_v44) = v8 c
          ∧ r.2.mem ((c.tc : Thread Cert.AdamShardsIdeal.nD Cert.AdamShardsIdeal.τ).loc Cert.AdamShardsIdeal.main_v48) = v9 c
          ∧ r.2.mem ((c.tc : Thread Cert.AdamShardsIdeal.nD Cert.AdamShardsIdeal.τ).loc Cert.AdamShardsIdeal.main_v60) = v10 c
          ∧ r.2.mem ((c.tc : Thread Cert.AdamShardsIdeal.nD Cert.AdamShardsIdeal.τ).loc Cert.AdamShardsIdeal.main_v61) = v11 c
          ∧ r.2.mem ((c.tc : Thread Cert.AdamShardsIdeal.nD Cert.AdamShardsIdeal.τ).loc Cert.AdamShardsIdeal.main_v62) = v12 c
          ∧ r.2.mem ((c.tc : Thread Cert.AdamShardsIdeal.nD Cert.AdamShardsIdeal.τ).loc Cert.AdamShardsIdeal.main_v55) = v13 c
          ∧ r.2.mem ((c.tc : Thread Cert.AdamShardsIdeal.nD Cert.AdamShardsIdeal.τ).loc Cert.AdamShardsIdeal.main_v59) = v14 c
          ∧ r.2.mem ((c.tc : Thread Cert.AdamShardsIdeal.nD Cert.AdamShardsIdeal.τ).loc Cert.AdamShardsIdeal.main_v71) = v15 c
          ∧ r.2.mem ((c.tc : Thread Cert.AdamShardsIdeal.nD Cert.AdamShardsIdeal.τ).loc Cert.AdamShardsIdeal.main_v72) = v16 c
          ∧ r.2.mem ((c.tc : Thread Cert.AdamShardsIdeal.nD Cert.AdamShardsIdeal.τ).loc Cert.AdamShardsIdeal.main_v73) = v17 c
          ∧ r.2.mem ((c.tc : Thread Cert.AdamShardsIdeal.nD Cert.AdamShardsIdeal.τ).loc Cert.AdamShardsIdeal.main_v66) = v18 c
          ∧ r.2.mem ((c.tc : Thread Cert.AdamShardsIdeal.nD Cert.AdamShardsIdeal.τ).loc Cert.AdamShardsIdeal.main_v70) = v19 c
          ∧ r.2.mem ((c.tc : Thread Cert.AdamShardsIdeal.nD Cert.AdamShardsIdeal.τ).loc Cert.AdamShardsIdeal.main_arg0) = m ((c.tc : Thread Cert.AdamShardsIdeal.nD Cert.AdamShardsIdeal.τ).loc Cert.AdamShardsIdeal.main_arg0)
          ∧ r.2.mem ((c.tc : Thread Cert.AdamShardsIdeal.nD Cert.AdamShardsIdeal.τ).loc Cert.AdamShardsIdeal.main_arg1) = m ((c.tc : Thread Cert.AdamShardsIdeal.nD Cert.AdamShardsIdeal.τ).loc Cert.AdamShardsIdeal.main_arg1)
          ∧ r.2.mem ((c.tc : Thread Cert.AdamShardsIdeal.nD Cert.AdamShardsIdeal.τ).loc Cert.AdamShardsIdeal.main_arg2) = m ((c.tc : Thread Cert.AdamShardsIdeal.nD Cert.AdamShardsIdeal.τ).loc Cert.AdamShardsIdeal.main_arg2)
          ∧ r.2.mem ((c.tc : Thread Cert.AdamShardsIdeal.nD Cert.AdamShardsIdeal.τ).loc Cert.AdamShardsIdeal.main_arg3) = m ((c.tc : Thread Cert.AdamShardsIdeal.nD Cert.AdamShardsIdeal.τ).loc Cert.AdamShardsIdeal.main_arg3)
          ∧ r.2.mem ((c.tc : Thread Cert.AdamShardsIdeal.nD Cert.AdamShardsIdeal.τ).loc Cert.AdamShardsIdeal.main_arg4) = m ((c.tc : Thread Cert.AdamShardsIdeal.nD Cert.AdamShardsIdeal.τ).loc Cert.AdamShardsIdeal.main_arg4)
          ∧ r.2.mem ((c.tc : Thread Cert.AdamShardsIdeal.nD Cert.AdamShardsIdeal.τ).loc Cert.AdamShardsIdeal.main_arg5) = m ((c.tc : Thread Cert.AdamShardsIdeal.nD Cert.AdamShardsIdeal.τ).loc Cert.AdamShardsIdeal.main_arg5)
          ∧ r.2.mem ((c.tc : Thread Cert.AdamShardsIdeal.nD Cert.AdamShardsIdeal.τ).loc Cert.AdamShardsIdeal.main_arg6) = m ((c.tc : Thread Cert.AdamShardsIdeal.nD Cert.AdamShardsIdeal.τ).loc Cert.AdamShardsIdeal.main_arg6)
          ∧ r.2.mem ((c.tc : Thread Cert.AdamShardsIdeal.nD Cert.AdamShardsIdeal.τ).loc Cert.AdamShardsIdeal.main_arg7) = m ((c.tc : Thread Cert.AdamShardsIdeal.nD Cert.AdamShardsIdeal.τ).loc Cert.AdamShardsIdeal.main_arg7)
          ∧ r.2.mem ((c.tc : Thread Cert.AdamShardsIdeal.nD Cert.AdamShardsIdeal.τ).loc Cert.AdamShardsIdeal.main_arg8) = m ((c.tc : Thread Cert.AdamShardsIdeal.nD Cert.AdamShardsIdeal.τ).loc Cert.AdamShardsIdeal.main_arg8)
          ∧ r.2.mem ((c.tc : Thread Cert.AdamShardsIdeal.nD Cert.AdamShardsIdeal.τ).loc Cert.AdamShardsIdeal.main_arg9) = m ((c.tc : Thread Cert.AdamShardsIdeal.nD Cert.AdamShardsIdeal.τ).loc Cert.AdamShardsIdeal.main_arg9)
          ∧ r.2.mem ((c.tc : Thread Cert.AdamShardsIdeal.nD Cert.AdamShardsIdeal.τ).loc Cert.AdamShardsIdeal.main_arg10) = m ((c.tc : Thread Cert.AdamShardsIdeal.nD Cert.AdamShardsIdeal.τ).loc Cert.AdamShardsIdeal.main_arg10)
          ∧ r.2.mem ((c.tc : Thread Cert.AdamShardsIdeal.nD Cert.AdamShardsIdeal.τ).loc Cert.AdamShardsIdeal.main_arg11) = m ((c.tc : Thread Cert.AdamShardsIdeal.nD Cert.AdamShardsIdeal.τ).loc Cert.AdamShardsIdeal.main_arg11)
          ∧ r.2.mem ((c.tc : Thread Cert.AdamShardsIdeal.nD Cert.AdamShardsIdeal.τ).loc Cert.AdamShardsIdeal.main_arg12) = m ((c.tc : Thread Cert.AdamShardsIdeal.nD Cert.AdamShardsIdeal.τ).loc Cert.AdamShardsIdeal.main_arg12)
          ∧ r.2.mem ((c.tc : Thread Cert.AdamShardsIdeal.nD Cert.AdamShardsIdeal.τ).loc Cert.AdamShardsIdeal.main_arg13) = m ((c.tc : Thread Cert.AdamShardsIdeal.nD Cert.AdamShardsIdeal.τ).loc Cert.AdamShardsIdeal.main_arg13)
          ∧ r.2.mem ((c.tc : Thread Cert.AdamShardsIdeal.nD Cert.AdamShardsIdeal.τ).loc Cert.AdamShardsIdeal.main_arg14) = m ((c.tc : Thread Cert.AdamShardsIdeal.nD Cert.AdamShardsIdeal.τ).loc Cert.AdamShardsIdeal.main_arg14)
          ∧ r.2.mem ((c.tc : Thread Cert.AdamShardsIdeal.nD Cert.AdamShardsIdeal.τ).loc Cert.AdamShardsIdeal.main_arg15) = m ((c.tc : Thread Cert.AdamShardsIdeal.nD Cert.AdamShardsIdeal.τ).loc Cert.AdamShardsIdeal.main_arg15)
          ∧ r.2.mem ((c.tc : Thread Cert.AdamShardsIdeal.nD Cert.AdamShardsIdeal.τ).loc Cert.AdamShardsIdeal.main_arg16) = m ((c.tc : Thread Cert.AdamShardsIdeal.nD Cert.AdamShardsIdeal.τ).loc Cert.AdamShardsIdeal.main_arg16)
          ∧ r.2.mem ((c.tc : Thread Cert.AdamShardsIdeal.nD Cert.AdamShardsIdeal.τ).loc Cert.AdamShardsIdeal.main_arg17) = m ((c.tc : Thread Cert.AdamShardsIdeal.nD Cert.AdamShardsIdeal.τ).loc Cert.AdamShardsIdeal.main_arg17)
          ∧ r.2.mem ((c.tc : Thread Cert.AdamShardsIdeal.nD Cert.AdamShardsIdeal.τ).loc Cert.AdamShardsIdeal.main_arg18) = m ((c.tc : Thread Cert.AdamShardsIdeal.nD Cert.AdamShardsIdeal.τ).loc Cert.AdamShardsIdeal.main_arg18)
          ∧ r.2.mem ((c.tc : Thread Cert.AdamShardsIdeal.nD Cert.AdamShardsIdeal.τ).loc Cert.AdamShardsIdeal.main_arg19) = m ((c.tc : Thread Cert.AdamShardsIdeal.nD Cert.AdamShardsIdeal.τ).loc Cert.AdamShardsIdeal.main_arg19))
      ∧ θ_run (Cert.AdamShardsRefIdeal.defs (F := Ideal)) (onTc (τ := Cert.AdamShardsRefIdeal.τ) (Cert.AdamShardsRefIdeal.main (F := Ideal))) ⟨m', fun _ => 0, g'⟩ (fun r => ∀ c : Dev Cert.AdamShardsRefIdeal.nD,
          r.2.mem ((c.tc : Thread Cert.AdamShardsRefIdeal.nD Cert.AdamShardsRefIdeal.τ).loc Cert.AdamShardsRefIdeal.main_v0) = v0 c
          ∧ r.2.mem ((c.tc : Thread Cert.AdamShardsRefIdeal.nD Cert.AdamShardsRefIdeal.τ).loc Cert.AdamShardsRefIdeal.main_v25) = v1 c
          ∧ r.2.mem ((c.tc : Thread Cert.AdamShardsRefIdeal.nD Cert.AdamShardsRefIdeal.τ).loc Cert.AdamShardsRefIdeal.main_v50) = v2 c
          ∧ r.2.mem ((c.tc : Thread Cert.AdamShardsRefIdeal.nD Cert.AdamShardsRefIdeal.τ).loc Cert.AdamShardsRefIdeal.main_v75) = v3 c
          ∧ r.2.mem ((c.tc : Thread Cert.AdamShardsRefIdeal.nD Cert.AdamShardsRefIdeal.τ).loc Cert.AdamShardsRefIdeal.main_v100) = v4 c
          ∧ r.2.mem ((c.tc : Thread Cert.AdamShardsRefIdeal.nD Cert.AdamShardsRefIdeal.τ).loc Cert.AdamShardsRefIdeal.main_v24) = v5 c
          ∧ r.2.mem ((c.tc : Thread Cert.AdamShardsRefIdeal.nD Cert.AdamShardsRefIdeal.τ).loc Cert.AdamShardsRefIdeal.main_v49) = v6 c
          ∧ r.2.mem ((c.tc : Thread Cert.AdamShardsRefIdeal.nD Cert.AdamShardsRefIdeal.τ).loc Cert.AdamShardsRefIdeal.main_v74) = v7 c
          ∧ r.2.mem ((c.tc : Thread Cert.AdamShardsRefIdeal.nD Cert.AdamShardsRefIdeal.τ).loc Cert.AdamShardsRefIdeal.main_v99) = v8 c
          ∧ r.2.mem ((c.tc : Thread Cert.AdamShardsRefIdeal.nD Cert.AdamShardsRefIdeal.τ).loc Cert.AdamShardsRefIdeal.main_v124) = v9 c
          ∧ r.2.mem ((c.tc : Thread Cert.AdamShardsRefIdeal.nD Cert.AdamShardsRefIdeal.τ).loc Cert.AdamShardsRefIdeal.main_v5) = v10 c
          ∧ r.2.mem ((c.tc : Thread Cert.AdamShardsRefIdeal.nD Cert.AdamShardsRefIdeal.τ).loc Cert.AdamShardsRefIdeal.main_v30) = v11 c
          ∧ r.2.mem ((c.tc : Thread Cert.AdamShardsRefIdeal.nD Cert.AdamShardsRefIdeal.τ).loc Cert.AdamShardsRefIdeal.main_v55) = v12 c
          ∧ r.2.mem ((c.tc : Thread Cert.AdamShardsRefIdeal.nD Cert.AdamShardsRefIdeal.τ).loc Cert.AdamShardsRefIdeal.main_v80) = v13 c
          ∧ r.2.mem ((c.tc : Thread Cert.AdamShardsRefIdeal.nD Cert.AdamShardsRefIdeal.τ).loc Cert.AdamShardsRefIdeal.main_v105) = v14 c
          ∧ r.2.mem ((c.tc : Thread Cert.AdamShardsRefIdeal.nD Cert.AdamShardsRefIdeal.τ).loc Cert.AdamShardsRefIdeal.main_v11) = v15 c
          ∧ r.2.mem ((c.tc : Thread Cert.AdamShardsRefIdeal.nD Cert.AdamShardsRefIdeal.τ).loc Cert.AdamShardsRefIdeal.main_v36) = v16 c
          ∧ r.2.mem ((c.tc : Thread Cert.AdamShardsRefIdeal.nD Cert.AdamShardsRefIdeal.τ).loc Cert.AdamShardsRefIdeal.main_v61) = v17 c
          ∧ r.2.mem ((c.tc : Thread Cert.AdamShardsRefIdeal.nD Cert.AdamShardsRefIdeal.τ).loc Cert.AdamShardsRefIdeal.main_v86) = v18 c
          ∧ r.2.mem ((c.tc : Thread Cert.AdamShardsRefIdeal.nD Cert.AdamShardsRefIdeal.τ).loc Cert.AdamShardsRefIdeal.main_v111) = v19 c
          ∧ r.2.mem ((c.tc : Thread Cert.AdamShardsRefIdeal.nD Cert.AdamShardsRefIdeal.τ).loc Cert.AdamShardsRefIdeal.main_arg0) = m' ((c.tc : Thread Cert.AdamShardsRefIdeal.nD Cert.AdamShardsRefIdeal.τ).loc Cert.AdamShardsRefIdeal.main_arg0)
          ∧ r.2.mem ((c.tc : Thread Cert.AdamShardsRefIdeal.nD Cert.AdamShardsRefIdeal.τ).loc Cert.AdamShardsRefIdeal.main_arg1) = m' ((c.tc : Thread Cert.AdamShardsRefIdeal.nD Cert.AdamShardsRefIdeal.τ).loc Cert.AdamShardsRefIdeal.main_arg1)
          ∧ r.2.mem ((c.tc : Thread Cert.AdamShardsRefIdeal.nD Cert.AdamShardsRefIdeal.τ).loc Cert.AdamShardsRefIdeal.main_arg2) = m' ((c.tc : Thread Cert.AdamShardsRefIdeal.nD Cert.AdamShardsRefIdeal.τ).loc Cert.AdamShardsRefIdeal.main_arg2)
          ∧ r.2.mem ((c.tc : Thread Cert.AdamShardsRefIdeal.nD Cert.AdamShardsRefIdeal.τ).loc Cert.AdamShardsRefIdeal.main_arg3) = m' ((c.tc : Thread Cert.AdamShardsRefIdeal.nD Cert.AdamShardsRefIdeal.τ).loc Cert.AdamShardsRefIdeal.main_arg3)
          ∧ r.2.mem ((c.tc : Thread Cert.AdamShardsRefIdeal.nD Cert.AdamShardsRefIdeal.τ).loc Cert.AdamShardsRefIdeal.main_arg4) = m' ((c.tc : Thread Cert.AdamShardsRefIdeal.nD Cert.AdamShardsRefIdeal.τ).loc Cert.AdamShardsRefIdeal.main_arg4)
          ∧ r.2.mem ((c.tc : Thread Cert.AdamShardsRefIdeal.nD Cert.AdamShardsRefIdeal.τ).loc Cert.AdamShardsRefIdeal.main_arg5) = m' ((c.tc : Thread Cert.AdamShardsRefIdeal.nD Cert.AdamShardsRefIdeal.τ).loc Cert.AdamShardsRefIdeal.main_arg5)
          ∧ r.2.mem ((c.tc : Thread Cert.AdamShardsRefIdeal.nD Cert.AdamShardsRefIdeal.τ).loc Cert.AdamShardsRefIdeal.main_arg6) = m' ((c.tc : Thread Cert.AdamShardsRefIdeal.nD Cert.AdamShardsRefIdeal.τ).loc Cert.AdamShardsRefIdeal.main_arg6)
          ∧ r.2.mem ((c.tc : Thread Cert.AdamShardsRefIdeal.nD Cert.AdamShardsRefIdeal.τ).loc Cert.AdamShardsRefIdeal.main_arg7) = m' ((c.tc : Thread Cert.AdamShardsRefIdeal.nD Cert.AdamShardsRefIdeal.τ).loc Cert.AdamShardsRefIdeal.main_arg7)
          ∧ r.2.mem ((c.tc : Thread Cert.AdamShardsRefIdeal.nD Cert.AdamShardsRefIdeal.τ).loc Cert.AdamShardsRefIdeal.main_arg8) = m' ((c.tc : Thread Cert.AdamShardsRefIdeal.nD Cert.AdamShardsRefIdeal.τ).loc Cert.AdamShardsRefIdeal.main_arg8)
          ∧ r.2.mem ((c.tc : Thread Cert.AdamShardsRefIdeal.nD Cert.AdamShardsRefIdeal.τ).loc Cert.AdamShardsRefIdeal.main_arg9) = m' ((c.tc : Thread Cert.AdamShardsRefIdeal.nD Cert.AdamShardsRefIdeal.τ).loc Cert.AdamShardsRefIdeal.main_arg9)
          ∧ r.2.mem ((c.tc : Thread Cert.AdamShardsRefIdeal.nD Cert.AdamShardsRefIdeal.τ).loc Cert.AdamShardsRefIdeal.main_arg10) = m' ((c.tc : Thread Cert.AdamShardsRefIdeal.nD Cert.AdamShardsRefIdeal.τ).loc Cert.AdamShardsRefIdeal.main_arg10)
          ∧ r.2.mem ((c.tc : Thread Cert.AdamShardsRefIdeal.nD Cert.AdamShardsRefIdeal.τ).loc Cert.AdamShardsRefIdeal.main_arg11) = m' ((c.tc : Thread Cert.AdamShardsRefIdeal.nD Cert.AdamShardsRefIdeal.τ).loc Cert.AdamShardsRefIdeal.main_arg11)
          ∧ r.2.mem ((c.tc : Thread Cert.AdamShardsRefIdeal.nD Cert.AdamShardsRefIdeal.τ).loc Cert.AdamShardsRefIdeal.main_arg12) = m' ((c.tc : Thread Cert.AdamShardsRefIdeal.nD Cert.AdamShardsRefIdeal.τ).loc Cert.AdamShardsRefIdeal.main_arg12)
          ∧ r.2.mem ((c.tc : Thread Cert.AdamShardsRefIdeal.nD Cert.AdamShardsRefIdeal.τ).loc Cert.AdamShardsRefIdeal.main_arg13) = m' ((c.tc : Thread Cert.AdamShardsRefIdeal.nD Cert.AdamShardsRefIdeal.τ).loc Cert.AdamShardsRefIdeal.main_arg13)
          ∧ r.2.mem ((c.tc : Thread Cert.AdamShardsRefIdeal.nD Cert.AdamShardsRefIdeal.τ).loc Cert.AdamShardsRefIdeal.main_arg14) = m' ((c.tc : Thread Cert.AdamShardsRefIdeal.nD Cert.AdamShardsRefIdeal.τ).loc Cert.AdamShardsRefIdeal.main_arg14)
          ∧ r.2.mem ((c.tc : Thread Cert.AdamShardsRefIdeal.nD Cert.AdamShardsRefIdeal.τ).loc Cert.AdamShardsRefIdeal.main_arg15) = m' ((c.tc : Thread Cert.AdamShardsRefIdeal.nD Cert.AdamShardsRefIdeal.τ).loc Cert.AdamShardsRefIdeal.main_arg15)
          ∧ r.2.mem ((c.tc : Thread Cert.AdamShardsRefIdeal.nD Cert.AdamShardsRefIdeal.τ).loc Cert.AdamShardsRefIdeal.main_arg16) = m' ((c.tc : Thread Cert.AdamShardsRefIdeal.nD Cert.AdamShardsRefIdeal.τ).loc Cert.AdamShardsRefIdeal.main_arg16)
          ∧ r.2.mem ((c.tc : Thread Cert.AdamShardsRefIdeal.nD Cert.AdamShardsRefIdeal.τ).loc Cert.AdamShardsRefIdeal.main_arg17) = m' ((c.tc : Thread Cert.AdamShardsRefIdeal.nD Cert.AdamShardsRefIdeal.τ).loc Cert.AdamShardsRefIdeal.main_arg17)
          ∧ r.2.mem ((c.tc : Thread Cert.AdamShardsRefIdeal.nD Cert.AdamShardsRefIdeal.τ).loc Cert.AdamShardsRefIdeal.main_arg18) = m' ((c.tc : Thread Cert.AdamShardsRefIdeal.nD Cert.AdamShardsRefIdeal.τ).loc Cert.AdamShardsRefIdeal.main_arg18)
          ∧ r.2.mem ((c.tc : Thread Cert.AdamShardsRefIdeal.nD Cert.AdamShardsRefIdeal.τ).loc Cert.AdamShardsRefIdeal.main_arg19) = m' ((c.tc : Thread Cert.AdamShardsRefIdeal.nD Cert.AdamShardsRefIdeal.τ).loc Cert.AdamShardsRefIdeal.main_arg19))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)) →
    ∃ (v0 : (c : Dev Cert.AdamSmallIdeal.nD) → Buf (Elt Ideal) ((c.tc : Thread Cert.AdamSmallIdeal.nD Cert.AdamSmallIdeal.τ).loc Cert.AdamSmallIdeal.main_v99)) (v1 : (c : Dev Cert.AdamSmallIdeal.nD) → Buf (Elt Ideal) ((c.tc : Thread Cert.AdamSmallIdeal.nD Cert.AdamSmallIdeal.τ).loc Cert.AdamSmallIdeal.main_v101)) (v2 : (c : Dev Cert.AdamSmallIdeal.nD) → Buf (Elt Ideal) ((c.tc : Thread Cert.AdamSmallIdeal.nD Cert.AdamSmallIdeal.τ).loc Cert.AdamSmallIdeal.main_v103)) (v3 : (c : Dev Cert.AdamSmallIdeal.nD) → Buf (Elt Ideal) ((c.tc : Thread Cert.AdamSmallIdeal.nD Cert.AdamSmallIdeal.τ).loc Cert.AdamSmallIdeal.main_v105)) (v4 : (c : Dev Cert.AdamSmallIdeal.nD) → Buf (Elt Ideal) ((c.tc : Thread Cert.AdamSmallIdeal.nD Cert.AdamSmallIdeal.τ).loc Cert.AdamSmallIdeal.main_v107)) (v5 : (c : Dev Cert.AdamSmallIdeal.nD) → Buf (Elt Ideal) ((c.tc : Thread Cert.AdamSmallIdeal.nD Cert.AdamSmallIdeal.τ).loc Cert.AdamSmallIdeal.main_v109)) (v6 : (c : Dev Cert.AdamSmallIdeal.nD) → Buf (Elt Ideal) ((c.tc : Thread Cert.AdamSmallIdeal.nD Cert.AdamSmallIdeal.τ).loc Cert.AdamSmallIdeal.main_v111)) (v7 : (c : Dev Cert.AdamSmallIdeal.nD) → Buf (Elt Ideal) ((c.tc : Thread Cert.AdamSmallIdeal.nD Cert.AdamSmallIdeal.τ).loc Cert.AdamSmallIdeal.main_v113)) (v8 : (c : Dev Cert.AdamSmallIdeal.nD) → Buf (Elt Ideal) ((c.tc : Thread Cert.AdamSmallIdeal.nD Cert.AdamSmallIdeal.τ).loc Cert.AdamSmallIdeal.main_v115)) (v9 : (c : Dev Cert.AdamSmallIdeal.nD) → Buf (Elt Ideal) ((c.tc : Thread Cert.AdamSmallIdeal.nD Cert.AdamSmallIdeal.τ).loc Cert.AdamSmallIdeal.main_v117)) (v10 : (c : Dev Cert.AdamSmallIdeal.nD) → Buf (Elt Ideal) ((c.tc : Thread Cert.AdamSmallIdeal.nD Cert.AdamSmallIdeal.τ).loc Cert.AdamSmallIdeal.main_v119)) (v11 : (c : Dev Cert.AdamSmallIdeal.nD) → Buf (Elt Ideal) ((c.tc : Thread Cert.AdamSmallIdeal.nD Cert.AdamSmallIdeal.τ).loc Cert.AdamSmallIdeal.main_v121)) (v12 : (c : Dev Cert.AdamSmallIdeal.nD) → Buf (Elt Ideal) ((c.tc : Thread Cert.AdamSmallIdeal.nD Cert.AdamSmallIdeal.τ).loc Cert.AdamSmallIdeal.main_v123)) (v13 : (c : Dev Cert.AdamSmallIdeal.nD) → Buf (Elt Ideal) ((c.tc : Thread Cert.AdamSmallIdeal.nD Cert.AdamSmallIdeal.τ).loc Cert.AdamSmallIdeal.main_v125)) (v14 : (c : Dev Cert.AdamSmallIdeal.nD) → Buf (Elt Ideal) ((c.tc : Thread Cert.AdamSmallIdeal.nD Cert.AdamSmallIdeal.τ).loc Cert.AdamSmallIdeal.main_v127)) (v15 : (c : Dev Cert.AdamSmallIdeal.nD) → Buf (Elt Ideal) ((c.tc : Thread Cert.AdamSmallIdeal.nD Cert.AdamSmallIdeal.τ).loc Cert.AdamSmallIdeal.main_v129)) (v16 : (c : Dev Cert.AdamSmallIdeal.nD) → Buf (Elt Ideal) ((c.tc : Thread Cert.AdamSmallIdeal.nD Cert.AdamSmallIdeal.τ).loc Cert.AdamSmallIdeal.main_v131)) (v17 : (c : Dev Cert.AdamSmallIdeal.nD) → Buf (Elt Ideal) ((c.tc : Thread Cert.AdamSmallIdeal.nD Cert.AdamSmallIdeal.τ).loc Cert.AdamSmallIdeal.main_v133)) (v18 : (c : Dev Cert.AdamSmallIdeal.nD) → Buf (Elt Ideal) ((c.tc : Thread Cert.AdamSmallIdeal.nD Cert.AdamSmallIdeal.τ).loc Cert.AdamSmallIdeal.main_v135)) (v19 : (c : Dev Cert.AdamSmallIdeal.nD) → Buf (Elt Ideal) ((c.tc : Thread Cert.AdamSmallIdeal.nD Cert.AdamSmallIdeal.τ).loc Cert.AdamSmallIdeal.main_v137)) (v20 : (c : Dev Cert.AdamSmallIdeal.nD) → Buf (Elt Ideal) ((c.tc : Thread Cert.AdamSmallIdeal.nD Cert.AdamSmallIdeal.τ).loc Cert.AdamSmallIdeal.main_v139)) (v21 : (c : Dev Cert.AdamSmallIdeal.nD) → Buf (Elt Ideal) ((c.tc : Thread Cert.AdamSmallIdeal.nD Cert.AdamSmallIdeal.τ).loc Cert.AdamSmallIdeal.main_v141)) (v22 : (c : Dev Cert.AdamSmallIdeal.nD) → Buf (Elt Ideal) ((c.tc : Thread Cert.AdamSmallIdeal.nD Cert.AdamSmallIdeal.τ).loc Cert.AdamSmallIdeal.main_v143)) (v23 : (c : Dev Cert.AdamSmallIdeal.nD) → Buf (Elt Ideal) ((c.tc : Thread Cert.AdamSmallIdeal.nD Cert.AdamSmallIdeal.τ).loc Cert.AdamSmallIdeal.main_v145)) (v24 : (c : Dev Cert.AdamSmallIdeal.nD) → Buf (Elt Ideal) ((c.tc : Thread Cert.AdamSmallIdeal.nD Cert.AdamSmallIdeal.τ).loc Cert.AdamSmallIdeal.main_v147)) (v25 : (c : Dev Cert.AdamSmallIdeal.nD) → Buf (Elt Ideal) ((c.tc : Thread Cert.AdamSmallIdeal.nD Cert.AdamSmallIdeal.τ).loc Cert.AdamSmallIdeal.main_v149)) (v26 : (c : Dev Cert.AdamSmallIdeal.nD) → Buf (Elt Ideal) ((c.tc : Thread Cert.AdamSmallIdeal.nD Cert.AdamSmallIdeal.τ).loc Cert.AdamSmallIdeal.main_v151)) (v27 : (c : Dev Cert.AdamSmallIdeal.nD) → Buf (Elt Ideal) ((c.tc : Thread Cert.AdamSmallIdeal.nD Cert.AdamSmallIdeal.τ).loc Cert.AdamSmallIdeal.main_v153)) (v28 : (c : Dev Cert.AdamSmallIdeal.nD) → Buf (Elt Ideal) ((c.tc : Thread Cert.AdamSmallIdeal.nD Cert.AdamSmallIdeal.τ).loc Cert.AdamSmallIdeal.main_v155)) (v29 : (c : Dev Cert.AdamSmallIdeal.nD) → Buf (Elt Ideal) ((c.tc : Thread Cert.AdamSmallIdeal.nD Cert.AdamSmallIdeal.τ).loc Cert.AdamSmallIdeal.main_v157)) (v30 : (c : Dev Cert.AdamSmallIdeal.nD) → Buf (Elt Ideal) ((c.tc : Thread Cert.AdamSmallIdeal.nD Cert.AdamSmallIdeal.τ).loc Cert.AdamSmallIdeal.main_v159)) (v31 : (c : Dev Cert.AdamSmallIdeal.nD) → Buf (Elt Ideal) ((c.tc : Thread Cert.AdamSmallIdeal.nD Cert.AdamSmallIdeal.τ).loc Cert.AdamSmallIdeal.main_v161)) (v32 : (c : Dev Cert.AdamSmallIdeal.nD) → Buf (Elt Ideal) ((c.tc : Thread Cert.AdamSmallIdeal.nD Cert.AdamSmallIdeal.τ).loc Cert.AdamSmallIdeal.main_v163)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v99) = v0 c
          ∧ r.2.mem ((c.tc : Thread Cert.AdamSmallIdeal.nD Cert.AdamSmallIdeal.τ).loc Cert.AdamSmallIdeal.main_v101) = v1 c
          ∧ r.2.mem ((c.tc : Thread Cert.AdamSmallIdeal.nD Cert.AdamSmallIdeal.τ).loc Cert.AdamSmallIdeal.main_v103) = v2 c
          ∧ r.2.mem ((c.tc : Thread Cert.AdamSmallIdeal.nD Cert.AdamSmallIdeal.τ).loc Cert.AdamSmallIdeal.main_v105) = v3 c
          ∧ r.2.mem ((c.tc : Thread Cert.AdamSmallIdeal.nD Cert.AdamSmallIdeal.τ).loc Cert.AdamSmallIdeal.main_v107) = v4 c
          ∧ r.2.mem ((c.tc : Thread Cert.AdamSmallIdeal.nD Cert.AdamSmallIdeal.τ).loc Cert.AdamSmallIdeal.main_v109) = v5 c
          ∧ r.2.mem ((c.tc : Thread Cert.AdamSmallIdeal.nD Cert.AdamSmallIdeal.τ).loc Cert.AdamSmallIdeal.main_v111) = v6 c
          ∧ r.2.mem ((c.tc : Thread Cert.AdamSmallIdeal.nD Cert.AdamSmallIdeal.τ).loc Cert.AdamSmallIdeal.main_v113) = v7 c
          ∧ r.2.mem ((c.tc : Thread Cert.AdamSmallIdeal.nD Cert.AdamSmallIdeal.τ).loc Cert.AdamSmallIdeal.main_v115) = v8 c
          ∧ r.2.mem ((c.tc : Thread Cert.AdamSmallIdeal.nD Cert.AdamSmallIdeal.τ).loc Cert.AdamSmallIdeal.main_v117) = v9 c
          ∧ r.2.mem ((c.tc : Thread Cert.AdamSmallIdeal.nD Cert.AdamSmallIdeal.τ).loc Cert.AdamSmallIdeal.main_v119) = v10 c
          ∧ r.2.mem ((c.tc : Thread Cert.AdamSmallIdeal.nD Cert.AdamSmallIdeal.τ).loc Cert.AdamSmallIdeal.main_v121) = v11 c
          ∧ r.2.mem ((c.tc : Thread Cert.AdamSmallIdeal.nD Cert.AdamSmallIdeal.τ).loc Cert.AdamSmallIdeal.main_v123) = v12 c
          ∧ r.2.mem ((c.tc : Thread Cert.AdamSmallIdeal.nD Cert.AdamSmallIdeal.τ).loc Cert.AdamSmallIdeal.main_v125) = v13 c
          ∧ r.2.mem ((c.tc : Thread Cert.AdamSmallIdeal.nD Cert.AdamSmallIdeal.τ).loc Cert.AdamSmallIdeal.main_v127) = v14 c
          ∧ r.2.mem ((c.tc : Thread Cert.AdamSmallIdeal.nD Cert.AdamSmallIdeal.τ).loc Cert.AdamSmallIdeal.main_v129) = v15 c
          ∧ r.2.mem ((c.tc : Thread Cert.AdamSmallIdeal.nD Cert.AdamSmallIdeal.τ).loc Cert.AdamSmallIdeal.main_v131) = v16 c
          ∧ r.2.mem ((c.tc : Thread Cert.AdamSmallIdeal.nD Cert.AdamSmallIdeal.τ).loc Cert.AdamSmallIdeal.main_v133) = v17 c
          ∧ r.2.mem ((c.tc : Thread Cert.AdamSmallIdeal.nD Cert.AdamSmallIdeal.τ).loc Cert.AdamSmallIdeal.main_v135) = v18 c
          ∧ r.2.mem ((c.tc : Thread Cert.AdamSmallIdeal.nD Cert.AdamSmallIdeal.τ).loc Cert.AdamSmallIdeal.main_v137) = v19 c
          ∧ r.2.mem ((c.tc : Thread Cert.AdamSmallIdeal.nD Cert.AdamSmallIdeal.τ).loc Cert.AdamSmallIdeal.main_v139) = v20 c
          ∧ r.2.mem ((c.tc : Thread Cert.AdamSmallIdeal.nD Cert.AdamSmallIdeal.τ).loc Cert.AdamSmallIdeal.main_v141) = v21 c
          ∧ r.2.mem ((c.tc : Thread Cert.AdamSmallIdeal.nD Cert.AdamSmallIdeal.τ).loc Cert.AdamSmallIdeal.main_v143) = v22 c
          ∧ r.2.mem ((c.tc : Thread Cert.AdamSmallIdeal.nD Cert.AdamSmallIdeal.τ).loc Cert.AdamSmallIdeal.main_v145) = v23 c
          ∧ r.2.mem ((c.tc : Thread Cert.AdamSmallIdeal.nD Cert.AdamSmallIdeal.τ).loc Cert.AdamSmallIdeal.main_v147) = v24 c
          ∧ r.2.mem ((c.tc : Thread Cert.AdamSmallIdeal.nD Cert.AdamSmallIdeal.τ).loc Cert.AdamSmallIdeal.main_v149) = v25 c
          ∧ r.2.mem ((c.tc : Thread Cert.AdamSmallIdeal.nD Cert.AdamSmallIdeal.τ).loc Cert.AdamSmallIdeal.main_v151) = v26 c
          ∧ r.2.mem ((c.tc : Thread Cert.AdamSmallIdeal.nD Cert.AdamSmallIdeal.τ).loc Cert.AdamSmallIdeal.main_v153) = v27 c
          ∧ r.2.mem ((c.tc : Thread Cert.AdamSmallIdeal.nD Cert.AdamSmallIdeal.τ).loc Cert.AdamSmallIdeal.main_v155) = v28 c
          ∧ r.2.mem ((c.tc : Thread Cert.AdamSmallIdeal.nD Cert.AdamSmallIdeal.τ).loc Cert.AdamSmallIdeal.main_v157) = v29 c
          ∧ r.2.mem ((c.tc : Thread Cert.AdamSmallIdeal.nD Cert.AdamSmallIdeal.τ).loc Cert.AdamSmallIdeal.main_v159) = v30 c
          ∧ r.2.mem ((c.tc : Thread Cert.AdamSmallIdeal.nD Cert.AdamSmallIdeal.τ).loc Cert.AdamSmallIdeal.main_v161) = v31 c
          ∧ r.2.mem ((c.tc : Thread Cert.AdamSmallIdeal.nD Cert.AdamSmallIdeal.τ).loc Cert.AdamSmallIdeal.main_v163) = v32 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v200) = v0 c
          ∧ r.2.mem ((c.tc : Thread Cert.AdamSmallRefIdeal.nD Cert.AdamSmallRefIdeal.τ).loc Cert.AdamSmallRefIdeal.main_v0) = v1 c
          ∧ r.2.mem ((c.tc : Thread Cert.AdamSmallRefIdeal.nD Cert.AdamSmallRefIdeal.τ).loc Cert.AdamSmallRefIdeal.main_v25) = v2 c
          ∧ r.2.mem ((c.tc : Thread Cert.AdamSmallRefIdeal.nD Cert.AdamSmallRefIdeal.τ).loc Cert.AdamSmallRefIdeal.main_v50) = v3 c
          ∧ r.2.mem ((c.tc : Thread Cert.AdamSmallRefIdeal.nD Cert.AdamSmallRefIdeal.τ).loc Cert.AdamSmallRefIdeal.main_v75) = v4 c
          ∧ r.2.mem ((c.tc : Thread Cert.AdamSmallRefIdeal.nD Cert.AdamSmallRefIdeal.τ).loc Cert.AdamSmallRefIdeal.main_v100) = v5 c
          ∧ r.2.mem ((c.tc : Thread Cert.AdamSmallRefIdeal.nD Cert.AdamSmallRefIdeal.τ).loc Cert.AdamSmallRefIdeal.main_v125) = v6 c
          ∧ r.2.mem ((c.tc : Thread Cert.AdamSmallRefIdeal.nD Cert.AdamSmallRefIdeal.τ).loc Cert.AdamSmallRefIdeal.main_v150) = v7 c
          ∧ r.2.mem ((c.tc : Thread Cert.AdamSmallRefIdeal.nD Cert.AdamSmallRefIdeal.τ).loc Cert.AdamSmallRefIdeal.main_v175) = v8 c
          ∧ r.2.mem ((c.tc : Thread Cert.AdamSmallRefIdeal.nD Cert.AdamSmallRefIdeal.τ).loc Cert.AdamSmallRefIdeal.main_v24) = v9 c
          ∧ r.2.mem ((c.tc : Thread Cert.AdamSmallRefIdeal.nD Cert.AdamSmallRefIdeal.τ).loc Cert.AdamSmallRefIdeal.main_v49) = v10 c
          ∧ r.2.mem ((c.tc : Thread Cert.AdamSmallRefIdeal.nD Cert.AdamSmallRefIdeal.τ).loc Cert.AdamSmallRefIdeal.main_v74) = v11 c
          ∧ r.2.mem ((c.tc : Thread Cert.AdamSmallRefIdeal.nD Cert.AdamSmallRefIdeal.τ).loc Cert.AdamSmallRefIdeal.main_v99) = v12 c
          ∧ r.2.mem ((c.tc : Thread Cert.AdamSmallRefIdeal.nD Cert.AdamSmallRefIdeal.τ).loc Cert.AdamSmallRefIdeal.main_v124) = v13 c
          ∧ r.2.mem ((c.tc : Thread Cert.AdamSmallRefIdeal.nD Cert.AdamSmallRefIdeal.τ).loc Cert.AdamSmallRefIdeal.main_v149) = v14 c
          ∧ r.2.mem ((c.tc : Thread Cert.AdamSmallRefIdeal.nD Cert.AdamSmallRefIdeal.τ).loc Cert.AdamSmallRefIdeal.main_v174) = v15 c
          ∧ r.2.mem ((c.tc : Thread Cert.AdamSmallRefIdeal.nD Cert.AdamSmallRefIdeal.τ).loc Cert.AdamSmallRefIdeal.main_v199) = v16 c
          ∧ r.2.mem ((c.tc : Thread Cert.AdamSmallRefIdeal.nD Cert.AdamSmallRefIdeal.τ).loc Cert.AdamSmallRefIdeal.main_v5) = v17 c
          ∧ r.2.mem ((c.tc : Thread Cert.AdamSmallRefIdeal.nD Cert.AdamSmallRefIdeal.τ).loc Cert.AdamSmallRefIdeal.main_v30) = v18 c
          ∧ r.2.mem ((c.tc : Thread Cert.AdamSmallRefIdeal.nD Cert.AdamSmallRefIdeal.τ).loc Cert.AdamSmallRefIdeal.main_v55) = v19 c
          ∧ r.2.mem ((c.tc : Thread Cert.AdamSmallRefIdeal.nD Cert.AdamSmallRefIdeal.τ).loc Cert.AdamSmallRefIdeal.main_v80) = v20 c
          ∧ r.2.mem ((c.tc : Thread Cert.AdamSmallRefIdeal.nD Cert.AdamSmallRefIdeal.τ).loc Cert.AdamSmallRefIdeal.main_v105) = v21 c
          ∧ r.2.mem ((c.tc : Thread Cert.AdamSmallRefIdeal.nD Cert.AdamSmallRefIdeal.τ).loc Cert.AdamSmallRefIdeal.main_v130) = v22 c
          ∧ r.2.mem ((c.tc : Thread Cert.AdamSmallRefIdeal.nD Cert.AdamSmallRefIdeal.τ).loc Cert.AdamSmallRefIdeal.main_v155) = v23 c
          ∧ r.2.mem ((c.tc : Thread Cert.AdamSmallRefIdeal.nD Cert.AdamSmallRefIdeal.τ).loc Cert.AdamSmallRefIdeal.main_v180) = v24 c
          ∧ r.2.mem ((c.tc : Thread Cert.AdamSmallRefIdeal.nD Cert.AdamSmallRefIdeal.τ).loc Cert.AdamSmallRefIdeal.main_v11) = v25 c
          ∧ r.2.mem ((c.tc : Thread Cert.AdamSmallRefIdeal.nD Cert.AdamSmallRefIdeal.τ).loc Cert.AdamSmallRefIdeal.main_v36) = v26 c
          ∧ r.2.mem ((c.tc : Thread Cert.AdamSmallRefIdeal.nD Cert.AdamSmallRefIdeal.τ).loc Cert.AdamSmallRefIdeal.main_v61) = v27 c
          ∧ r.2.mem ((c.tc : Thread Cert.AdamSmallRefIdeal.nD Cert.AdamSmallRefIdeal.τ).loc Cert.AdamSmallRefIdeal.main_v86) = v28 c
          ∧ r.2.mem ((c.tc : Thread Cert.AdamSmallRefIdeal.nD Cert.AdamSmallRefIdeal.τ).loc Cert.AdamSmallRefIdeal.main_v111) = v29 c
          ∧ r.2.mem ((c.tc : Thread Cert.AdamSmallRefIdeal.nD Cert.AdamSmallRefIdeal.τ).loc Cert.AdamSmallRefIdeal.main_v136) = v30 c
          ∧ r.2.mem ((c.tc : Thread Cert.AdamSmallRefIdeal.nD Cert.AdamSmallRefIdeal.τ).loc Cert.AdamSmallRefIdeal.main_v161) = v31 c
          ∧ r.2.mem ((c.tc : Thread Cert.AdamSmallRefIdeal.nD Cert.AdamSmallRefIdeal.τ).loc Cert.AdamSmallRefIdeal.main_v186) = v32 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32))

def preserves_GdnConv_GdnConvIdeal : Prop :=
  True

def algebraic_GdnConvIdeal_GdnConvRefIdeal [hGdnConvIdeal : Cert.GdnConvIdeal.Facts] [hGdnConvRefIdeal : Cert.GdnConvRefIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg)
    (m' : (ℓ : Loc Cert.GdnConvRefIdeal.nD Cert.GdnConvRefIdeal.τ Cert.GdnConvRefIdeal.sig) → Buf (Elt Ideal) ℓ) (g' : Dev Cert.GdnConvRefIdeal.nD → PrngReg), Pre_GdnConvIdeal m →
    (∀ c : Dev Cert.GdnConvIdeal.nD,
      m' ((c.tc : Thread Cert.GdnConvRefIdeal.nD Cert.GdnConvRefIdeal.τ).loc Cert.GdnConvRefIdeal.main_arg0) = m ((c.tc : Thread Cert.GdnConvIdeal.nD Cert.GdnConvIdeal.τ).loc Cert.GdnConvIdeal.main_arg0)
      ∧ m' ((c.tc : Thread Cert.GdnConvRefIdeal.nD Cert.GdnConvRefIdeal.τ).loc Cert.GdnConvRefIdeal.main_arg1) = m ((c.tc : Thread Cert.GdnConvIdeal.nD Cert.GdnConvIdeal.τ).loc Cert.GdnConvIdeal.main_arg1)) →
    ∃ (v0 : (c : Dev Cert.GdnConvIdeal.nD) → Buf (Elt Ideal) ((c.tc : Thread Cert.GdnConvIdeal.nD Cert.GdnConvIdeal.τ).loc Cert.GdnConvIdeal.main_v0)),
      θ_run (Cert.GdnConvIdeal.defs (F := Ideal)) (onTc (τ := Cert.GdnConvIdeal.τ) (Cert.GdnConvIdeal.main (F := Ideal))) ⟨m, fun _ => 0, g⟩ (fun r => ∀ c : Dev Cert.GdnConvIdeal.nD,
          r.2.mem ((c.tc : Thread Cert.GdnConvIdeal.nD Cert.GdnConvIdeal.τ).loc Cert.GdnConvIdeal.main_v0) = v0 c
          ∧ r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
          ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1))
      ∧ θ_run (Cert.GdnConvRefIdeal.defs (F := Ideal)) (onTc (τ := Cert.GdnConvRefIdeal.τ) (Cert.GdnConvRefIdeal.main (F := Ideal))) ⟨m', fun _ => 0, g'⟩ (fun r => ∀ c : Dev Cert.GdnConvRefIdeal.nD,
          r.2.mem ((c.tc : Thread Cert.GdnConvRefIdeal.nD Cert.GdnConvRefIdeal.τ).loc Cert.GdnConvRefIdeal.main_v30) = v0 c
          ∧ r.2.mem ((c.tc : Thread Cert.GdnConvRefIdeal.nD Cert.GdnConvRefIdeal.τ).loc Cert.GdnConvRefIdeal.main_arg0) = m' ((c.tc : Thread Cert.GdnConvRefIdeal.nD Cert.GdnConvRefIdeal.τ).loc Cert.GdnConvRefIdeal.main_arg0)
          ∧ r.2.mem ((c.tc : Thread Cert.GdnConvRefIdeal.nD Cert.GdnConvRefIdeal.τ).loc Cert.GdnConvRefIdeal.main_arg1) = m' ((c.tc : Thread Cert.GdnConvRefIdeal.nD Cert.GdnConvRefIdeal.τ).loc Cert.GdnConvRefIdeal.main_arg1))

def preserves_ConfConv_ConfConvIdeal : Prop :=
  True

def algebraic_ConfConvIdeal_ConfConvRefIdeal [hConfConvIdeal : Cert.ConfConvIdeal.Facts] [hConfConvRefIdeal : Cert.ConfConvRefIdeal.Facts] : Prop :=
  ∀ (m : (ℓ : Loc Cert.ConfConvIdeal.nD Cert.ConfConvIdeal.τ Cert.ConfConvIdeal.sig) → Buf (Elt Ideal) ℓ) (g : Dev Cert.ConfConvIdeal.nD → PrngReg)
    (m' : (ℓ : Loc Cert.ConfConvRefIdeal.nD Cert.ConfConvRefIdeal.τ Cert.ConfConvRefIdeal.sig) → Buf (Elt Ideal) ℓ) (g' : Dev Cert.ConfConvRefIdeal.nD → PrngReg), Pre_ConfConvIdeal m →
    (∀ c : Dev Cert.ConfConvIdeal.nD,
      m' ((c.tc : Thread Cert.ConfConvRefIdeal.nD Cert.ConfConvRefIdeal.τ).loc Cert.ConfConvRefIdeal.main_arg0) = m ((c.tc : Thread Cert.ConfConvIdeal.nD Cert.ConfConvIdeal.τ).loc Cert.ConfConvIdeal.main_arg0)
      ∧ m' ((c.tc : Thread Cert.ConfConvRefIdeal.nD Cert.ConfConvRefIdeal.τ).loc Cert.ConfConvRefIdeal.main_arg1) = m ((c.tc : Thread Cert.ConfConvIdeal.nD Cert.ConfConvIdeal.τ).loc Cert.ConfConvIdeal.main_arg1)
      ∧ m' ((c.tc : Thread Cert.ConfConvRefIdeal.nD Cert.ConfConvRefIdeal.τ).loc Cert.ConfConvRefIdeal.main_arg2) = m ((c.tc : Thread Cert.ConfConvIdeal.nD Cert.ConfConvIdeal.τ).loc Cert.ConfConvIdeal.main_arg2)
      ∧ m' ((c.tc : Thread Cert.ConfConvRefIdeal.nD Cert.ConfConvRefIdeal.τ).loc Cert.ConfConvRefIdeal.main_arg3) = m ((c.tc : Thread Cert.ConfConvIdeal.nD Cert.ConfConvIdeal.τ).loc Cert.ConfConvIdeal.main_arg3)
      ∧ m' ((c.tc : Thread Cert.ConfConvRefIdeal.nD Cert.ConfConvRefIdeal.τ).loc Cert.ConfConvRefIdeal.main_arg4) = m ((c.tc : Thread Cert.ConfConvIdeal.nD Cert.ConfConvIdeal.τ).loc Cert.ConfConvIdeal.main_arg4)) →
    ∃ (v0 : (c : Dev Cert.ConfConvIdeal.nD) → Buf (Elt Ideal) ((c.tc : Thread Cert.ConfConvIdeal.nD Cert.ConfConvIdeal.τ).loc Cert.ConfConvIdeal.main_v0_0)) (v1 : (c : Dev Cert.ConfConvIdeal.nD) → Buf (Elt Ideal) ((c.tc : Thread Cert.ConfConvIdeal.nD Cert.ConfConvIdeal.τ).loc Cert.ConfConvIdeal.main_v0_1)),
      θ_run (Cert.ConfConvIdeal.defs (F := Ideal)) (onTc (τ := Cert.ConfConvIdeal.τ) (Cert.ConfConvIdeal.main (F := Ideal))) ⟨m, fun _ => 0, g⟩ (fun r => ∀ c : Dev Cert.ConfConvIdeal.nD,
          r.2.mem ((c.tc : Thread Cert.ConfConvIdeal.nD Cert.ConfConvIdeal.τ).loc Cert.ConfConvIdeal.main_v0_0) = v0 c
          ∧ r.2.mem ((c.tc : Thread Cert.ConfConvIdeal.nD Cert.ConfConvIdeal.τ).loc Cert.ConfConvIdeal.main_v0_1) = v1 c
          ∧ r.2.mem ((c.tc : Thread Cert.ConfConvIdeal.nD Cert.ConfConvIdeal.τ).loc Cert.ConfConvIdeal.main_arg0) = m ((c.tc : Thread Cert.ConfConvIdeal.nD Cert.ConfConvIdeal.τ).loc Cert.ConfConvIdeal.main_arg0)
          ∧ r.2.mem ((c.tc : Thread Cert.ConfConvIdeal.nD Cert.ConfConvIdeal.τ).loc Cert.ConfConvIdeal.main_arg1) = m ((c.tc : Thread Cert.ConfConvIdeal.nD Cert.ConfConvIdeal.τ).loc Cert.ConfConvIdeal.main_arg1)
          ∧ r.2.mem ((c.tc : Thread Cert.ConfConvIdeal.nD Cert.ConfConvIdeal.τ).loc Cert.ConfConvIdeal.main_arg2) = m ((c.tc : Thread Cert.ConfConvIdeal.nD Cert.ConfConvIdeal.τ).loc Cert.ConfConvIdeal.main_arg2)
          ∧ r.2.mem ((c.tc : Thread Cert.ConfConvIdeal.nD Cert.ConfConvIdeal.τ).loc Cert.ConfConvIdeal.main_arg3) = m ((c.tc : Thread Cert.ConfConvIdeal.nD Cert.ConfConvIdeal.τ).loc Cert.ConfConvIdeal.main_arg3)
          ∧ r.2.mem ((c.tc : Thread Cert.ConfConvIdeal.nD Cert.ConfConvIdeal.τ).loc Cert.ConfConvIdeal.main_arg4) = m ((c.tc : Thread Cert.ConfConvIdeal.nD Cert.ConfConvIdeal.τ).loc Cert.ConfConvIdeal.main_arg4))
      ∧ θ_run (Cert.ConfConvRefIdeal.defs (F := Ideal)) (onTc (τ := Cert.ConfConvRefIdeal.τ) (Cert.ConfConvRefIdeal.main (F := Ideal))) ⟨m', fun _ => 0, g'⟩ (fun r => ∀ c : Dev Cert.ConfConvRefIdeal.nD,
          r.2.mem ((c.tc : Thread Cert.ConfConvRefIdeal.nD Cert.ConfConvRefIdeal.τ).loc Cert.ConfConvRefIdeal.main_v233) = v0 c
          ∧ r.2.mem ((c.tc : Thread Cert.ConfConvRefIdeal.nD Cert.ConfConvRefIdeal.τ).loc Cert.ConfConvRefIdeal.main_v275) = v1 c
          ∧ r.2.mem ((c.tc : Thread Cert.ConfConvRefIdeal.nD Cert.ConfConvRefIdeal.τ).loc Cert.ConfConvRefIdeal.main_arg0) = m' ((c.tc : Thread Cert.ConfConvRefIdeal.nD Cert.ConfConvRefIdeal.τ).loc Cert.ConfConvRefIdeal.main_arg0)
          ∧ r.2.mem ((c.tc : Thread Cert.ConfConvRefIdeal.nD Cert.ConfConvRefIdeal.τ).loc Cert.ConfConvRefIdeal.main_arg1) = m' ((c.tc : Thread Cert.ConfConvRefIdeal.nD Cert.ConfConvRefIdeal.τ).loc Cert.ConfConvRefIdeal.main_arg1)
          ∧ r.2.mem ((c.tc : Thread Cert.ConfConvRefIdeal.nD Cert.ConfConvRefIdeal.τ).loc Cert.ConfConvRefIdeal.main_arg2) = m' ((c.tc : Thread Cert.ConfConvRefIdeal.nD Cert.ConfConvRefIdeal.τ).loc Cert.ConfConvRefIdeal.main_arg2)
          ∧ r.2.mem ((c.tc : Thread Cert.ConfConvRefIdeal.nD Cert.ConfConvRefIdeal.τ).loc Cert.ConfConvRefIdeal.main_arg3) = m' ((c.tc : Thread Cert.ConfConvRefIdeal.nD Cert.ConfConvRefIdeal.τ).loc Cert.ConfConvRefIdeal.main_arg3)
          ∧ r.2.mem ((c.tc : Thread Cert.ConfConvRefIdeal.nD Cert.ConfConvRefIdeal.τ).loc Cert.ConfConvRefIdeal.main_arg4) = m' ((c.tc : Thread Cert.ConfConvRefIdeal.nD Cert.ConfConvRefIdeal.τ).loc Cert.ConfConvRefIdeal.main_arg4))

def preserves_ConfPost_ConfPostIdeal : Prop :=
  True

def algebraic_ConfPostIdeal_ConfPostRefIdeal_pre_finite_rows [hConfPostIdeal : Cert.ConfPostIdeal.Facts] [hConfPostRefIdeal : Cert.ConfPostRefIdeal.Facts] [hPre_finite_rows : Cert.Pre_finite_rows.Facts] : Prop :=
  ∀ (m : (ℓ : Loc Cert.ConfPostIdeal.nD Cert.ConfPostIdeal.τ Cert.ConfPostIdeal.sig) → Buf (Elt Ideal) ℓ) (g : Dev Cert.ConfPostIdeal.nD → PrngReg)
    (m' : (ℓ : Loc Cert.ConfPostRefIdeal.nD Cert.ConfPostRefIdeal.τ Cert.ConfPostRefIdeal.sig) → Buf (Elt Ideal) ℓ) (g' : Dev Cert.ConfPostRefIdeal.nD → PrngReg), Pre_ConfPostIdeal_finite_rows m →
    (∀ c : Dev Cert.ConfPostIdeal.nD,
      m' ((c.tc : Thread Cert.ConfPostRefIdeal.nD Cert.ConfPostRefIdeal.τ).loc Cert.ConfPostRefIdeal.main_arg0) = m ((c.tc : Thread Cert.ConfPostIdeal.nD Cert.ConfPostIdeal.τ).loc Cert.ConfPostIdeal.main_arg0)
      ∧ m' ((c.tc : Thread Cert.ConfPostRefIdeal.nD Cert.ConfPostRefIdeal.τ).loc Cert.ConfPostRefIdeal.main_arg1) = m ((c.tc : Thread Cert.ConfPostIdeal.nD Cert.ConfPostIdeal.τ).loc Cert.ConfPostIdeal.main_arg1)
      ∧ m' ((c.tc : Thread Cert.ConfPostRefIdeal.nD Cert.ConfPostRefIdeal.τ).loc Cert.ConfPostRefIdeal.main_arg2) = m ((c.tc : Thread Cert.ConfPostIdeal.nD Cert.ConfPostIdeal.τ).loc Cert.ConfPostIdeal.main_arg2)
      ∧ m' ((c.tc : Thread Cert.ConfPostRefIdeal.nD Cert.ConfPostRefIdeal.τ).loc Cert.ConfPostRefIdeal.main_arg3) = m ((c.tc : Thread Cert.ConfPostIdeal.nD Cert.ConfPostIdeal.τ).loc Cert.ConfPostIdeal.main_arg3)
      ∧ m' ((c.tc : Thread Cert.ConfPostRefIdeal.nD Cert.ConfPostRefIdeal.τ).loc Cert.ConfPostRefIdeal.main_arg4) = m ((c.tc : Thread Cert.ConfPostIdeal.nD Cert.ConfPostIdeal.τ).loc Cert.ConfPostIdeal.main_arg4)) →
    ∃ (v0 : (c : Dev Cert.ConfPostIdeal.nD) → Buf (Elt Ideal) ((c.tc : Thread Cert.ConfPostIdeal.nD Cert.ConfPostIdeal.τ).loc Cert.ConfPostIdeal.main_v0_0)) (v1 : (c : Dev Cert.ConfPostIdeal.nD) → Buf (Elt Ideal) ((c.tc : Thread Cert.ConfPostIdeal.nD Cert.ConfPostIdeal.τ).loc Cert.ConfPostIdeal.main_v0_1)) (v2 : (c : Dev Cert.ConfPostIdeal.nD) → Buf (Elt Ideal) ((c.tc : Thread Cert.ConfPostIdeal.nD Cert.ConfPostIdeal.τ).loc Cert.ConfPostIdeal.main_v0_2)) (v3 : (c : Dev Cert.ConfPostIdeal.nD) → Buf (Elt Ideal) ((c.tc : Thread Cert.ConfPostIdeal.nD Cert.ConfPostIdeal.τ).loc Cert.ConfPostIdeal.main_v0_3)),
      θ_run (Cert.ConfPostIdeal.defs (F := Ideal)) (onTc (τ := Cert.ConfPostIdeal.τ) (Cert.ConfPostIdeal.main (F := Ideal))) ⟨m, fun _ => 0, g⟩ (fun r => ∀ c : Dev Cert.ConfPostIdeal.nD,
          r.2.mem ((c.tc : Thread Cert.ConfPostIdeal.nD Cert.ConfPostIdeal.τ).loc Cert.ConfPostIdeal.main_v0_0) = v0 c
          ∧ r.2.mem ((c.tc : Thread Cert.ConfPostIdeal.nD Cert.ConfPostIdeal.τ).loc Cert.ConfPostIdeal.main_v0_1) = v1 c
          ∧ r.2.mem ((c.tc : Thread Cert.ConfPostIdeal.nD Cert.ConfPostIdeal.τ).loc Cert.ConfPostIdeal.main_v0_2) = v2 c
          ∧ r.2.mem ((c.tc : Thread Cert.ConfPostIdeal.nD Cert.ConfPostIdeal.τ).loc Cert.ConfPostIdeal.main_v0_3) = v3 c
          ∧ r.2.mem ((c.tc : Thread Cert.ConfPostIdeal.nD Cert.ConfPostIdeal.τ).loc Cert.ConfPostIdeal.main_arg0) = m ((c.tc : Thread Cert.ConfPostIdeal.nD Cert.ConfPostIdeal.τ).loc Cert.ConfPostIdeal.main_arg0)
          ∧ r.2.mem ((c.tc : Thread Cert.ConfPostIdeal.nD Cert.ConfPostIdeal.τ).loc Cert.ConfPostIdeal.main_arg1) = m ((c.tc : Thread Cert.ConfPostIdeal.nD Cert.ConfPostIdeal.τ).loc Cert.ConfPostIdeal.main_arg1)
          ∧ r.2.mem ((c.tc : Thread Cert.ConfPostIdeal.nD Cert.ConfPostIdeal.τ).loc Cert.ConfPostIdeal.main_arg2) = m ((c.tc : Thread Cert.ConfPostIdeal.nD Cert.ConfPostIdeal.τ).loc Cert.ConfPostIdeal.main_arg2)
          ∧ r.2.mem ((c.tc : Thread Cert.ConfPostIdeal.nD Cert.ConfPostIdeal.τ).loc Cert.ConfPostIdeal.main_arg3) = m ((c.tc : Thread Cert.ConfPostIdeal.nD Cert.ConfPostIdeal.τ).loc Cert.ConfPostIdeal.main_arg3)
          ∧ r.2.mem ((c.tc : Thread Cert.ConfPostIdeal.nD Cert.ConfPostIdeal.τ).loc Cert.ConfPostIdeal.main_arg4) = m ((c.tc : Thread Cert.ConfPostIdeal.nD Cert.ConfPostIdeal.τ).loc Cert.ConfPostIdeal.main_arg4))
      ∧ θ_run (Cert.ConfPostRefIdeal.defs (F := Ideal)) (onTc (τ := Cert.ConfPostRefIdeal.τ) (Cert.ConfPostRefIdeal.main (F := Ideal))) ⟨m', fun _ => 0, g'⟩ (fun r => ∀ c : Dev Cert.ConfPostRefIdeal.nD,
          r.2.mem ((c.tc : Thread Cert.ConfPostRefIdeal.nD Cert.ConfPostRefIdeal.τ).loc Cert.ConfPostRefIdeal.main_v95) = v0 c
          ∧ r.2.mem ((c.tc : Thread Cert.ConfPostRefIdeal.nD Cert.ConfPostRefIdeal.τ).loc Cert.ConfPostRefIdeal.main_v96) = v1 c
          ∧ r.2.mem ((c.tc : Thread Cert.ConfPostRefIdeal.nD Cert.ConfPostRefIdeal.τ).loc Cert.ConfPostRefIdeal.main_v98) = v2 c
          ∧ r.2.mem ((c.tc : Thread Cert.ConfPostRefIdeal.nD Cert.ConfPostRefIdeal.τ).loc Cert.ConfPostRefIdeal.main_v100) = v3 c
          ∧ r.2.mem ((c.tc : Thread Cert.ConfPostRefIdeal.nD Cert.ConfPostRefIdeal.τ).loc Cert.ConfPostRefIdeal.main_arg0) = m' ((c.tc : Thread Cert.ConfPostRefIdeal.nD Cert.ConfPostRefIdeal.τ).loc Cert.ConfPostRefIdeal.main_arg0)
          ∧ r.2.mem ((c.tc : Thread Cert.ConfPostRefIdeal.nD Cert.ConfPostRefIdeal.τ).loc Cert.ConfPostRefIdeal.main_arg1) = m' ((c.tc : Thread Cert.ConfPostRefIdeal.nD Cert.ConfPostRefIdeal.τ).loc Cert.ConfPostRefIdeal.main_arg1)
          ∧ r.2.mem ((c.tc : Thread Cert.ConfPostRefIdeal.nD Cert.ConfPostRefIdeal.τ).loc Cert.ConfPostRefIdeal.main_arg2) = m' ((c.tc : Thread Cert.ConfPostRefIdeal.nD Cert.ConfPostRefIdeal.τ).loc Cert.ConfPostRefIdeal.main_arg2)
          ∧ r.2.mem ((c.tc : Thread Cert.ConfPostRefIdeal.nD Cert.ConfPostRefIdeal.τ).loc Cert.ConfPostRefIdeal.main_arg3) = m' ((c.tc : Thread Cert.ConfPostRefIdeal.nD Cert.ConfPostRefIdeal.τ).loc Cert.ConfPostRefIdeal.main_arg3)
          ∧ r.2.mem ((c.tc : Thread Cert.ConfPostRefIdeal.nD Cert.ConfPostRefIdeal.τ).loc Cert.ConfPostRefIdeal.main_arg4) = m' ((c.tc : Thread Cert.ConfPostRefIdeal.nD Cert.ConfPostRefIdeal.τ).loc Cert.ConfPostRefIdeal.main_arg4))

def Claim : Prop :=
  ∃ (hMergeStep : Cert.MergeStep.Facts) (hMergeStepIdeal : Cert.MergeStepIdeal.Facts) (hMergeStepRefIdeal : Cert.MergeStepRefIdeal.Facts) (hGradIn : Cert.GradIn.Facts) (hGradInIdeal : Cert.GradInIdeal.Facts) (hGradInRefIdeal : Cert.GradInRefIdeal.Facts) (hGradGate : Cert.GradGate.Facts) (hGradGateIdeal : Cert.GradGateIdeal.Facts) (hGradGateRefIdeal : Cert.GradGateRefIdeal.Facts) (hGradOut : Cert.GradOut.Facts) (hGradOutIdeal : Cert.GradOutIdeal.Facts) (hGradOutRefIdeal : Cert.GradOutRefIdeal.Facts) (hGradBa : Cert.GradBa.Facts) (hGradBaIdeal : Cert.GradBaIdeal.Facts) (hGradBaRefIdeal : Cert.GradBaRefIdeal.Facts) (hProjIn : Cert.ProjIn.Facts) (hProjInIdeal : Cert.ProjInIdeal.Facts) (hProjInRefIdeal : Cert.ProjInRefIdeal.Facts) (hProjGate : Cert.ProjGate.Facts) (hProjGateIdeal : Cert.ProjGateIdeal.Facts) (hProjGateRefIdeal : Cert.ProjGateRefIdeal.Facts) (hProjGz : Cert.ProjGz.Facts) (hProjGzIdeal : Cert.ProjGzIdeal.Facts) (hProjGzRefIdeal : Cert.ProjGzRefIdeal.Facts) (hProjBa : Cert.ProjBa.Facts) (hProjBaIdeal : Cert.ProjBaIdeal.Facts) (hProjBaRefIdeal : Cert.ProjBaRefIdeal.Facts) (hAdamIn : Cert.AdamIn.Facts) (hAdamInIdeal : Cert.AdamInIdeal.Facts) (hAdamInRefIdeal : Cert.AdamInRefIdeal.Facts) (hAdamShards : Cert.AdamShards.Facts) (hAdamShardsIdeal : Cert.AdamShardsIdeal.Facts) (hAdamShardsRefIdeal : Cert.AdamShardsRefIdeal.Facts) (hAdamSmall : Cert.AdamSmall.Facts) (hAdamSmallIdeal : Cert.AdamSmallIdeal.Facts) (hAdamSmallRefIdeal : Cert.AdamSmallRefIdeal.Facts) (hGdnConv : Cert.GdnConv.Facts) (hGdnConvIdeal : Cert.GdnConvIdeal.Facts) (hGdnConvRefIdeal : Cert.GdnConvRefIdeal.Facts) (hConfConv : Cert.ConfConv.Facts) (hConfConvIdeal : Cert.ConfConvIdeal.Facts) (hConfConvRefIdeal : Cert.ConfConvRefIdeal.Facts) (hConfPost : Cert.ConfPost.Facts) (hConfPostIdeal : Cert.ConfPostIdeal.Facts) (hConfPostRefIdeal : Cert.ConfPostRefIdeal.Facts) (hPre_finite : Cert.Pre_finite.Facts) (hPre_finite_rows : Cert.Pre_finite_rows.Facts),
    quiescent_MergeStep (hMergeStep := hMergeStep)
    ∧ quiescent_MergeStepIdeal (hMergeStepIdeal := hMergeStepIdeal)
    ∧ quiescent_MergeStepIdeal_pre_finite (hMergeStepIdeal := hMergeStepIdeal) (hPre_finite := hPre_finite)
    ∧ quiescent_MergeStepRefIdeal (hMergeStepRefIdeal := hMergeStepRefIdeal)
    ∧ quiescent_MergeStepRefIdeal_pre_finite (hMergeStepRefIdeal := hMergeStepRefIdeal) (hPre_finite := hPre_finite)
    ∧ quiescent_GradIn (hGradIn := hGradIn)
    ∧ quiescent_GradInIdeal (hGradInIdeal := hGradInIdeal)
    ∧ quiescent_GradInRefIdeal (hGradInRefIdeal := hGradInRefIdeal)
    ∧ quiescent_GradGate (hGradGate := hGradGate)
    ∧ quiescent_GradGateIdeal (hGradGateIdeal := hGradGateIdeal)
    ∧ quiescent_GradGateRefIdeal (hGradGateRefIdeal := hGradGateRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradBa (hGradBa := hGradBa)
    ∧ quiescent_GradBaIdeal (hGradBaIdeal := hGradBaIdeal)
    ∧ quiescent_GradBaRefIdeal (hGradBaRefIdeal := hGradBaRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_ProjGz (hProjGz := hProjGz)
    ∧ quiescent_ProjGzIdeal (hProjGzIdeal := hProjGzIdeal)
    ∧ quiescent_ProjGzRefIdeal (hProjGzRefIdeal := hProjGzRefIdeal)
    ∧ quiescent_ProjBa (hProjBa := hProjBa)
    ∧ quiescent_ProjBaIdeal (hProjBaIdeal := hProjBaIdeal)
    ∧ quiescent_ProjBaRefIdeal (hProjBaRefIdeal := hProjBaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamShards (hAdamShards := hAdamShards)
    ∧ quiescent_AdamShardsIdeal (hAdamShardsIdeal := hAdamShardsIdeal)
    ∧ quiescent_AdamShardsRefIdeal (hAdamShardsRefIdeal := hAdamShardsRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_GdnConv (hGdnConv := hGdnConv)
    ∧ quiescent_GdnConvIdeal (hGdnConvIdeal := hGdnConvIdeal)
    ∧ quiescent_GdnConvRefIdeal (hGdnConvRefIdeal := hGdnConvRefIdeal)
    ∧ quiescent_ConfConv (hConfConv := hConfConv)
    ∧ quiescent_ConfConvIdeal (hConfConvIdeal := hConfConvIdeal)
    ∧ quiescent_ConfConvRefIdeal (hConfConvRefIdeal := hConfConvRefIdeal)
    ∧ quiescent_ConfPost (hConfPost := hConfPost)
    ∧ quiescent_ConfPostIdeal (hConfPostIdeal := hConfPostIdeal)
    ∧ quiescent_ConfPostIdeal_pre_finite_rows (hConfPostIdeal := hConfPostIdeal) (hPre_finite_rows := hPre_finite_rows)
    ∧ quiescent_ConfPostRefIdeal (hConfPostRefIdeal := hConfPostRefIdeal)
    ∧ quiescent_ConfPostRefIdeal_pre_finite_rows (hConfPostRefIdeal := hConfPostRefIdeal) (hPre_finite_rows := hPre_finite_rows)
    ∧ preserves_MergeStep_MergeStepIdeal
    ∧ algebraic_MergeStepIdeal_MergeStepRefIdeal_pre_finite (hMergeStepIdeal := hMergeStepIdeal) (hMergeStepRefIdeal := hMergeStepRefIdeal) (hPre_finite := hPre_finite)
    ∧ preserves_GradIn_GradInIdeal
    ∧ algebraic_GradInIdeal_GradInRefIdeal (hGradInIdeal := hGradInIdeal) (hGradInRefIdeal := hGradInRefIdeal)
    ∧ preserves_GradGate_GradGateIdeal
    ∧ algebraic_GradGateIdeal_GradGateRefIdeal (hGradGateIdeal := hGradGateIdeal) (hGradGateRefIdeal := hGradGateRefIdeal)
    ∧ preserves_GradOut_GradOutIdeal
    ∧ algebraic_GradOutIdeal_GradOutRefIdeal (hGradOutIdeal := hGradOutIdeal) (hGradOutRefIdeal := hGradOutRefIdeal)
    ∧ preserves_GradBa_GradBaIdeal
    ∧ algebraic_GradBaIdeal_GradBaRefIdeal (hGradBaIdeal := hGradBaIdeal) (hGradBaRefIdeal := hGradBaRefIdeal)
    ∧ preserves_ProjIn_ProjInIdeal
    ∧ algebraic_ProjInIdeal_ProjInRefIdeal (hProjInIdeal := hProjInIdeal) (hProjInRefIdeal := hProjInRefIdeal)
    ∧ preserves_ProjGate_ProjGateIdeal
    ∧ algebraic_ProjGateIdeal_ProjGateRefIdeal (hProjGateIdeal := hProjGateIdeal) (hProjGateRefIdeal := hProjGateRefIdeal)
    ∧ preserves_ProjGz_ProjGzIdeal
    ∧ algebraic_ProjGzIdeal_ProjGzRefIdeal (hProjGzIdeal := hProjGzIdeal) (hProjGzRefIdeal := hProjGzRefIdeal)
    ∧ preserves_ProjBa_ProjBaIdeal
    ∧ algebraic_ProjBaIdeal_ProjBaRefIdeal (hProjBaIdeal := hProjBaIdeal) (hProjBaRefIdeal := hProjBaRefIdeal)
    ∧ preserves_AdamIn_AdamInIdeal
    ∧ algebraic_AdamInIdeal_AdamInRefIdeal (hAdamInIdeal := hAdamInIdeal) (hAdamInRefIdeal := hAdamInRefIdeal)
    ∧ preserves_AdamShards_AdamShardsIdeal
    ∧ algebraic_AdamShardsIdeal_AdamShardsRefIdeal (hAdamShardsIdeal := hAdamShardsIdeal) (hAdamShardsRefIdeal := hAdamShardsRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_GdnConv_GdnConvIdeal
    ∧ algebraic_GdnConvIdeal_GdnConvRefIdeal (hGdnConvIdeal := hGdnConvIdeal) (hGdnConvRefIdeal := hGdnConvRefIdeal)
    ∧ preserves_ConfConv_ConfConvIdeal
    ∧ algebraic_ConfConvIdeal_ConfConvRefIdeal (hConfConvIdeal := hConfConvIdeal) (hConfConvRefIdeal := hConfConvRefIdeal)
    ∧ preserves_ConfPost_ConfPostIdeal
    ∧ algebraic_ConfPostIdeal_ConfPostRefIdeal_pre_finite_rows (hConfPostIdeal := hConfPostIdeal) (hConfPostRefIdeal := hConfPostRefIdeal) (hPre_finite_rows := hPre_finite_rows)
-- ==== Pre_finite.lean ====
abbrev S8192x1024 : Shape := ⟨2, ![8192, 1024]⟩
abbrev S8192x2048 : Shape := ⟨2, ![8192, 2048]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg7 : FVec F S1024x1024 .bf16) (main_arg8 : FVec F S1x1024 .f32) (main_arg9 : FVec F S1x1024 .f32) (main_v3 : IVec S8192x1024 1) (main_v7 : IVec S8192x1024 1) (main_v10 : IVec S8192x1024 1) (main_v13 : IVec S8192x1024 1) (main_v17 : IVec S1024x1024 1) (main_v18 : FVec F S1024x1024 .f32) : IVec S8192x1024 1 × IVec S8192x1024 1 × IVec S8192x1024 1 × IVec S8192x1024 1 × IVec S1024x1024 1 × IVec S1024x1024 1 × IVec S1024x1024 1 × IVec S1x1024 1 × IVec S1x1024 1 :=
  let main_v19 : FVec F S1024x1024 .f32 := Host.absf main_v18
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_v22 : FVec F S1024x1024 .f32 := (extf .f32 · bitsLt_bf16_f32) main_arg7
  let main_v23 : FVec F S1024x1024 .f32 := Host.absf main_v22
  let main_cst_5 : FVec F S_ .f32 := constant S_ .f32 0x7F800000#32
  let main_v24 : FVec F S1024x1024 .f32 := broadcastInDim S1024x1024 ![] bcast_S_S1024x1024 main_cst_5
  let main_v25 : IVec S1024x1024 1 := cmpf .olt main_v23 main_v24
  let main_v26 : FVec F S1x1024 .f32 := Host.absf main_arg8
  let main_cst_6 : FVec F S_ .f32 := constant S_ .f32 0x7F800000#32
  let main_v27 : FVec F S1x1024 .f32 := broadcastInDim S1x1024 ![] bcast_S_S1x1024 main_cst_6
  let main_v28 : IVec S1x1024 1 := cmpf .olt main_v26 main_v27
  let main_v29 : FVec F S1x1024 .f32 := Host.absf main_arg9
  let main_cst_7 : FVec F S_ .f32 := constant S_ .f32 0x7F800000#32
  let main_v30 : FVec F S1x1024 .f32 := broadcastInDim S1x1024 ![] bcast_S_S1x1024 main_cst_7
  let main_v31 : IVec S1x1024 1 := cmpf .olt main_v29 main_v30
  (main_v3, main_v7, main_v10, main_v13, main_v17, main_v21, main_v25, main_v28, main_v31)

def fn {F : FTy → Type} [FloatOps F] (main_arg0 : FVec F S8192x1024 .bf16) (main_arg1 : FVec F S8192x1024 .bf16) (main_arg2 : FVec F S8192x2048 .f32) (main_arg3 : FVec F S8192x1024 .f32) (main_arg4 : FVec F S8192x1024 .f32) (main_arg5 : FVec F S1024x1024 .bf16) (main_arg6 : FVec F S1024x1024 .bf16) (main_arg7 : FVec F S1024x1024 .bf16) (main_arg8 : FVec F S1x1024 .f32) (main_arg9 : FVec F S1x1024 .f32) : IVec S8192x1024 1 × IVec S8192x1024 1 × IVec S8192x1024 1 × IVec S8192x1024 1 × IVec S1024x1024 1 × IVec S1024x1024 1 × IVec S1024x1024 1 × IVec S1x1024 1 × IVec S1x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .f32 := Host.absf main_arg3
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg4
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1024x1024 .f32 := (extf .f32 · bitsLt_bf16_f32) main_arg5
  let main_v15 : FVec F S1024x1024 .f32 := Host.absf main_v14
  let main_cst_3 : FVec F S_ .f32 := constant S_ .f32 0x7F800000#32
  let main_v16 : FVec F S1024x1024 .f32 := broadcastInDim S1024x1024 ![] bcast_S_S1024x1024 main_cst_3
  let main_v17 : IVec S1024x1024 1 := cmpf .olt main_v15 main_v16
  let main_v18 : FVec F S1024x1024 .f32 := (extf .f32 · bitsLt_bf16_f32) main_arg6
  fn_part1 (F := F) main_arg7 main_arg8 main_arg9 main_v3 main_v7 main_v10 main_v13 main_v17 main_v18
-- ==== Pre_finite_rows.lean ====
abbrev S8192x1024 : Shape := ⟨2, ![8192, 1024]⟩
abbrev S8192x3072 : Shape := ⟨2, ![8192, 3072]⟩
abbrev S1x1024 : Shape := ⟨2, ![1, 1024]⟩
abbrev S_ : Shape := ⟨0, ![]⟩

class Facts : Prop where
  slices_S8192x3072_S8192x1024_0_2048 : S8192x3072.Slices ![0, 2048] S8192x1024
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x3072 .f32) (main_arg2 : FVec F S8192x1024 .f32) (main_arg3 : FVec F S1x1024 .f32) (main_arg4 : FVec F S1x1024 .f32) : IVec S8192x1024 1 × IVec S8192x1024 1 × IVec S8192x1024 1 × IVec S1x1024 1 :=
  let main_v0 : FVec F S8192x1024 .f32 := (extractStridedSlice S8192x1024 ![0, 2048] · slices_S8192x3072_S8192x1024_0_2048) main_arg1
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_v0
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  (main_v3, main_v6, main_v9, main_v12)
-- ==== MergeStep.lean ====
abbrev S8192x1024 : Shape := ⟨2, ![8192, 1024]⟩
abbrev S8192x2048 : Shape := ⟨2, ![8192, 2048]⟩
abbrev S1024x1024 : Shape := ⟨2, ![1024, 1024]⟩
abbrev S1x1024 : Shape := ⟨2, ![1, 1024]⟩
abbrev S8x128 : Shape := ⟨2, ![8, 128]⟩
abbrev S8x1024 : Shape := ⟨2, ![8, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 21
  | .vmem => 34
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S8x128, .f32⟩
  | .hbm, ⟨11, _⟩ => ⟨S8x1024, .f32⟩
  | .hbm, ⟨12, _⟩ => ⟨S8x1024, .f32⟩
  | .hbm, ⟨13, _⟩ => ⟨S8192x1024, .f32⟩
  | .hbm, ⟨14, _⟩ => ⟨S8192x2048, .bf16⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S8x128, .f32⟩
  | .local _ .vmem, ⟨16, _⟩ => ⟨S8x1024, .f32⟩
  | .local _ .vmem, ⟨17, _⟩ => ⟨S8x1024, .f32⟩
  | .local _ .vmem, ⟨18, _⟩ => ⟨S256x1024, .f32⟩
  | .local _ .vmem, ⟨19, _⟩ => ⟨S256x1024, .f32⟩
  | .local _ .vmem, ⟨20, _⟩ => ⟨S256x2048, .bf16⟩
  | .local _ .vmem, ⟨21, _⟩ => ⟨S256x2048, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MergeStepRefIdeal.lean ====
abbrev S8192x1024 : Shape := ⟨2, ![8192, 1024]⟩
abbrev S8192x2048 : Shape := ⟨2, ![8192, 2048]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S8x128 : Shape := ⟨2, ![8, 128]⟩
abbrev S8x1024 : Shape := ⟨2, ![8, 1024]⟩

abbrev nBuf : Space → Nat
  | .hbm => 183
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x2048, .f32⟩
  | 3 => ⟨S8192x1024, .f32⟩
  | 4 => ⟨S8192x1024, .f32⟩
  | 5 => ⟨S1024x1024, .bf16⟩
  | 6 => ⟨S1024x1024, .bf16⟩
  | 7 => ⟨S1024x1024, .bf16⟩
  | 8 => ⟨S1x1024, .f32⟩
  | 9 => ⟨S1x1024, .f32⟩
  | 10 => ⟨S8192x1024, .f32⟩
  | 11 => ⟨S8192x1024, .f32⟩
  | 12 => ⟨S1024x1024, .f32⟩
  | 13 => ⟨S1024x1024, .f32⟩
  | 14 => ⟨S1024x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S1024, .f32⟩
  | 48 => ⟨S1024, .f32⟩
  | 49 => ⟨S_, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S8192x1024, .f32⟩
  | 72 => ⟨S8192x1024, .f32⟩
  | 73 => ⟨S_, .f32⟩
  | 74 => ⟨S8192x1, .f32⟩
  | 75 => ⟨S8192x1, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S1x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S_, .f32⟩
  | 95 => ⟨S8192, .f32⟩
  | 96 => ⟨S_, .f32⟩
  | 97 => ⟨S8192, .f32⟩
  | 98 => ⟨S8192, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S8192, .f32⟩
  | 107 => ⟨S_, .f32⟩
  | 108 => ⟨S8192, .f32⟩
  | 109 => ⟨S8192, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S8192x1024, .f32⟩
  | 126 => ⟨S_, .f32⟩
  | 127 => ⟨S8192, .f32⟩
  | _ => ⟨S8192x1024, .bf16⟩

abbrev hbmTy0_1 (i : Nat) : BufTy := match i % 128 with
  | 0 => ⟨S8192x1, .f32⟩
  | 1 => ⟨S8192x1024, .f32⟩
  | 2 => ⟨S8192x1024, .f32⟩
  | 3 => ⟨S8192x1, .f32⟩
  | 4 => ⟨S8192x1024, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S_, .f32⟩
  | 17 => ⟨S8192, .f32⟩
  | 18 => ⟨S8192x1, .f32⟩
  | 19 => ⟨S8192x1024, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x2048, .f32⟩
  | 39 => ⟨S8192x1024, .f32⟩
  | 40 => ⟨S8192x1024, .f32⟩
  | 41 => ⟨S8x128, .f32⟩
  | 42 => ⟨S1x1024, .f32⟩
  | 43 => ⟨S_, .i32⟩
  | 44 => ⟨S_, .f32⟩
  | 45 => ⟨S8x1024, .f32⟩
  | 46 => ⟨S1x1024, .f32⟩
  | 47 => ⟨S_, .i32⟩
  | 48 => ⟨S_, .f32⟩
  | 49 => ⟨S8x1024, .f32⟩
  | 50 => ⟨S8192x2048, .bf16⟩
  | 51 => ⟨S8192x1024, .bf16⟩
  | 52 => ⟨S8192x1024, .bf16⟩
  | 53 => ⟨S8192x1024, .bf16⟩
  | 54 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_cst_17 : Ref sig .tc := ⟨.hbm, 101, rfl⟩
abbrev main_v73 : Ref sig .tc := ⟨.hbm, 102, rfl⟩
abbrev main_cst_18 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_cst_20 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_cst_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_24 : Ref sig .tc := ⟨.hbm, 123, rfl⟩
abbrev main_v88 : Ref sig .tc := ⟨.hbm, 124, rfl⟩
abbrev main_v89 : Ref sig .tc := ⟨.hbm, 125, rfl⟩
abbrev main_cst_25 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_26 : Ref sig .tc := ⟨.hbm, 133, rfl⟩
abbrev main_v96 : Ref sig .tc := ⟨.hbm, 134, rfl⟩
abbrev main_v97 : Ref sig .tc := ⟨.hbm, 135, rfl⟩
abbrev main_cst_27 : Ref sig .tc := ⟨.hbm, 136, rfl⟩
abbrev main_v98 : Ref sig .tc := ⟨.hbm, 137, rfl⟩
abbrev main_v99 : Ref sig .tc := ⟨.hbm, 138, rfl⟩
abbrev main_cst_28 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_29 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_30 : Ref sig .tc := ⟨.hbm, 149, rfl⟩
abbrev main_v108 : Ref sig .tc := ⟨.hbm, 150, rfl⟩
abbrev main_v109 : Ref sig .tc := ⟨.hbm, 151, rfl⟩
abbrev main_cst_31 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_32 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c : Ref sig .tc := ⟨.hbm, 171, rfl⟩
abbrev main_call0_v0 : Ref sig .tc := ⟨.hbm, 172, rfl⟩
abbrev main_v127 : Ref sig .tc := ⟨.hbm, 173, rfl⟩
abbrev main_v128 : Ref sig .tc := ⟨.hbm, 174, rfl⟩
abbrev main_c_33 : Ref sig .tc := ⟨.hbm, 175, rfl⟩
abbrev main_call1_v0 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩

abbrev nD : Nat := 1
abbrev τ : Topo := Topo.v7x

variable {F : FTy → Type} [FloatOps F]
-- ==== GradIn.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInIdeal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradGate.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradGateIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradGateRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradBa.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradBaRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjIn.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInIdeal.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGate.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGateIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGateRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGz.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGzIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGzRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjBa.lean ====
abbrev S8192x1024 : Shape := ⟨2, ![8192, 1024]⟩
abbrev S1024x128 : Shape := ⟨2, ![1024, 128]⟩
abbrev S8192x128 : Shape := ⟨2, ![8192, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBaRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamIn.lean ====
abbrev S8x1024x1154 : Shape := ⟨3, ![8, 1024, 1154]⟩
abbrev S1024x1154 : Shape := ⟨2, ![1024, 1154]⟩
abbrev S8x128x1154 : Shape := ⟨3, ![8, 128, 1154]⟩
abbrev S128x1154 : Shape := ⟨2, ![128, 1154]⟩
abbrev S1x128x1154 : Shape := ⟨3, ![1, 128, 1154]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1154, .bf16⟩
  | .hbm, ⟨1, _⟩ => ⟨S1024x1154, .f32⟩
  | .hbm, ⟨2, _⟩ => ⟨S1024x1154, .f32⟩
  | .hbm, ⟨3, _⟩ => ⟨S1024x1154, .f32⟩
  | .hbm, ⟨4, _⟩ => ⟨S1024x1154, .f32⟩
  | .hbm, ⟨5, _⟩ => ⟨S1024x1154, .f32⟩
  | .hbm, ⟨6, _⟩ => ⟨S1024x1154, .f32⟩
  | .hbm, ⟨7, _⟩ => ⟨S1024x1154, .f32⟩
  | .local _ .vmem, ⟨0, _⟩ => ⟨S8x128x1154, .bf16⟩
  | .local _ .vmem, ⟨1, _⟩ => ⟨S8x128x1154, .bf16⟩
  | .local _ .vmem, ⟨2, _⟩ => ⟨S128x1154, .f32⟩
  | .local _ .vmem, ⟨3, _⟩ => ⟨S128x1154, .f32⟩
  | .local _ .vmem, ⟨4, _⟩ => ⟨S128x1154, .f32⟩
  | .local _ .vmem, ⟨5, _⟩ => ⟨S128x1154, .f32⟩
  | .local _ .vmem, ⟨6, _⟩ => ⟨S128x1154, .f32⟩
  | .local _ .vmem, ⟨7, _⟩ => ⟨S128x1154, .f32⟩
  | .local _ .vmem, ⟨8, _⟩ => ⟨S128x1154, .f32⟩
  | .local _ .vmem, ⟨9, _⟩ => ⟨S128x1154, .f32⟩
  | .local _ .vmem, ⟨10, _⟩ => ⟨S128x1154, .f32⟩
  | .local _ .vmem, ⟨11, _⟩ => ⟨S128x1154, .f32⟩
  | .local _ .vmem, ⟨12, _⟩ => ⟨S128x1154, .f32⟩
  | .local _ .vmem, ⟨13, _⟩ => ⟨S128x1154, .f32⟩
  | .local _ .vmem, ⟨14, _⟩ => ⟨S128x1154, .f32⟩
  | .local _ .vmem, ⟨15, _⟩ => ⟨S128x1154, .f32⟩
  | _, _ => ⟨S8x1024x1154, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1154 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x1154 : Shape := ⟨3, ![8, 1024, 1154]⟩
abbrev S1024x1154 : Shape := ⟨2, ![1024, 1154]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1154, .bf16⟩
  | .hbm, ⟨1, _⟩ => ⟨S1024x1154, .f32⟩
  | .hbm, ⟨2, _⟩ => ⟨S1024x1154, .f32⟩
  | .hbm, ⟨3, _⟩ => ⟨S1024x1154, .f32⟩
  | .hbm, ⟨4, _⟩ => ⟨S8x1024x1154, .f32⟩
  | .hbm, ⟨5, _⟩ => ⟨S_, .f32⟩
  | .hbm, ⟨6, _⟩ => ⟨S1024x1154, .f32⟩
  | .hbm, ⟨7, _⟩ => ⟨S_, .f32⟩
  | .hbm, ⟨8, _⟩ => ⟨S1024x1154, .f32⟩
  | .hbm, ⟨9, _⟩ => ⟨S1024x1154, .f32⟩
  | .hbm, ⟨10, _⟩ => ⟨S_, .f32⟩
  | .hbm, ⟨11, _⟩ => ⟨S1024x1154, .f32⟩
  | .hbm, ⟨12, _⟩ => ⟨S1024x1154, .f32⟩
  | .hbm, ⟨13, _⟩ => ⟨S1024x1154, .f32⟩
  | .hbm, ⟨14, _⟩ => ⟨S_, .f32⟩
  | .hbm, ⟨15, _⟩ => ⟨S1024x1154, .f32⟩
  | .hbm, ⟨16, _⟩ => ⟨S1024x1154, .f32⟩
  | .hbm, ⟨17, _⟩ => ⟨S1024x1154, .f32⟩
  | .hbm, ⟨18, _⟩ => ⟨S_, .f32⟩
  | .hbm, ⟨19, _⟩ => ⟨S1024x1154, .f32⟩
  | .hbm, ⟨20, _⟩ => ⟨S1024x1154, .f32⟩
  | .hbm, ⟨21, _⟩ => ⟨S1024x1154, .f32⟩
  | .hbm, ⟨22, _⟩ => ⟨S_, .f32⟩
  | .hbm, ⟨23, _⟩ => ⟨S1024x1154, .f32⟩
  | .hbm, ⟨24, _⟩ => ⟨S1024x1154, .f32⟩
  | .hbm, ⟨25, _⟩ => ⟨S_, .f32⟩
  | .hbm, ⟨26, _⟩ => ⟨S1024x1154, .f32⟩
  | .hbm, ⟨27, _⟩ => ⟨S1024x1154, .f32⟩
  | .hbm, ⟨28, _⟩ => ⟨S1024x1154, .f32⟩
  | .hbm, ⟨29, _⟩ => ⟨S_, .f32⟩
  | .hbm, ⟨30, _⟩ => ⟨S1024x1154, .f32⟩
  | .hbm, ⟨31, _⟩ => ⟨S1024x1154, .f32⟩
  | .hbm, ⟨32, _⟩ => ⟨S1024x1154, .f32⟩
  | .hbm, ⟨33, _⟩ => ⟨S_, .f32⟩
  | .hbm, ⟨34, _⟩ => ⟨S1024x1154, .f32⟩
  | .hbm, ⟨35, _⟩ => ⟨S1024x1154, .f32⟩
  | .hbm, ⟨36, _⟩ => ⟨S1024x1154, .f32⟩
  | .hbm, ⟨37, _⟩ => ⟨S_, .f32⟩
  | .hbm, ⟨38, _⟩ => ⟨S1024x1154, .f32⟩
  | .hbm, ⟨39, _⟩ => ⟨S1024x1154, .f32⟩
  | _, _ => ⟨S8x1024x1154, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamShards.lean ====
abbrev S8x128x1024 : Shape := ⟨3, ![8, 128, 1024]⟩
abbrev S8x31x128 : Shape := ⟨3, ![8, 31, 128]⟩
abbrev S8x4x384 : Shape := ⟨3, ![8, 4, 384]⟩
abbrev S128x1024 : Shape := ⟨2, ![128, 1024]⟩
abbrev S31x128 : Shape := ⟨2, ![31, 128]⟩
abbrev S4x384 : Shape := ⟨2, ![4, 384]⟩
abbrev S8x3968 : Shape := ⟨2, ![8, 3968]⟩
abbrev S_ : Shape := ⟨0, ![]⟩
abbrev S8x16384 : Shape := ⟨2, ![8, 16384]⟩
abbrev S8x16x1024 : Shape := ⟨3, ![8, 16, 1024]⟩
abbrev S8x1536 : Shape := ⟨2, ![8, 1536]⟩
abbrev S8x416x1024 : Shape := ⟨3, ![8, 416, 1024]⟩
abbrev S3968 : Shape := ⟨1, ![3968]⟩
abbrev S16384 : Shape := ⟨1, ![16384]⟩
abbrev S16x1024 : Shape := ⟨2, ![16, 1024]⟩
abbrev S1536 : Shape := ⟨1, ![1536]⟩
abbrev S416x1024 : Shape := ⟨2, ![416, 1024]⟩
abbrev S8x208x1024 : Shape := ⟨3, ![8, 208, 1024]⟩
abbrev S208x1024 : Shape := ⟨2, ![208, 1024]⟩
abbrev S1x208x1024 : Shape := ⟨3, ![1, 208, 1024]⟩
abbrev S4x1024 : Shape := ⟨2, ![4, 1024]⟩
abbrev S4096 : Shape := ⟨1, ![4096]⟩
abbrev S2x1024 : Shape := ⟨2, ![2, 1024]⟩
abbrev S2048 : Shape := ⟨1, ![2048]⟩

abbrev nBuf : Space → Nat
  | .hbm => 113
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x31x128, .f32⟩
  | .hbm, ⟨4, _⟩ => ⟨S8x4x384, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S31x128, .f32⟩
  | .hbm, ⟨9, _⟩ => ⟨S4x384, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S31x128, .f32⟩
  | .hbm, ⟨14, _⟩ => ⟨S4x384, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S31x128, .f32⟩
  | .hbm, ⟨19, _⟩ => ⟨S4x384, .f32⟩
  | .hbm, ⟨20, _⟩ => ⟨S8x3968, .f32⟩
  | .hbm, ⟨21, _⟩ => ⟨S_, .i32⟩
  | .hbm, ⟨22, _⟩ => ⟨S_, .f32⟩
  | .hbm, ⟨23, _⟩ => ⟨S8x16384, .f32⟩
  | .hbm, ⟨24, _⟩ => ⟨S8x16x1024, .f32⟩
  | .hbm, ⟨25, _⟩ => ⟨S8x1536, .f32⟩
  | .hbm, ⟨26, _⟩ => ⟨S_, .i32⟩
  | .hbm, ⟨27, _⟩ => ⟨S_, .f32⟩
  | .hbm, ⟨28, _⟩ => ⟨S8x16384, .f32⟩
  | .hbm, ⟨29, _⟩ => ⟨S8x16x1024, .f32⟩
  | .hbm, ⟨30, _⟩ => ⟨S8x416x1024, .f32⟩
  | .hbm, ⟨31, _⟩ => ⟨S8x416x1024, .bf16⟩
  | .hbm, ⟨32, _⟩ => ⟨S3968, .f32⟩
  | .hbm, ⟨33, _⟩ => ⟨S_, .i32⟩
  | .hbm, ⟨34, _⟩ => ⟨S_, .f32⟩
  | .hbm, ⟨35, _⟩ => ⟨S16384, .f32⟩
  | .hbm, ⟨36, _⟩ => ⟨S16x1024, .f32⟩
  | .hbm, ⟨37, _⟩ => ⟨S1536, .f32⟩
  | .hbm, ⟨38, _⟩ => ⟨S_, .i32⟩
  | .hbm, ⟨39, _⟩ => ⟨S_, .f32⟩
  | .hbm, ⟨40, _⟩ => ⟨S16384, .f32⟩
  | .hbm, ⟨41, _⟩ => ⟨S16x1024, .f32⟩
  | .hbm, ⟨42, _⟩ => ⟨S416x1024, .f32⟩
  | .hbm, ⟨43, _⟩ => ⟨S3968, .f32⟩
  | .hbm, ⟨44, _⟩ => ⟨S_, .i32⟩
  | .hbm, ⟨45, _⟩ => ⟨S_, .f32⟩
  | .hbm, ⟨46, _⟩ => ⟨S16384, .f32⟩
  | .hbm, ⟨47, _⟩ => ⟨S16x1024, .f32⟩
  | .hbm, ⟨48, _⟩ => ⟨S1536, .f32⟩
  | .hbm, ⟨49, _⟩ => ⟨S_, .i32⟩
  | .hbm, ⟨50, _⟩ => ⟨S_, .f32⟩
  | .hbm, ⟨51, _⟩ => ⟨S16384, .f32⟩
  | .hbm, ⟨52, _⟩ => ⟨S16x1024, .f32⟩
  | .hbm, ⟨53, _⟩ => ⟨S416x1024, .f32⟩
  | .hbm, ⟨54, _⟩ => ⟨S3968, .f32⟩
  | .hbm, ⟨55, _⟩ => ⟨S_, .i32⟩
  | .hbm, ⟨56, _⟩ => ⟨S_, .f32⟩
  | .hbm, ⟨57, _⟩ => ⟨S16384, .f32⟩
  | .hbm, ⟨58, _⟩ => ⟨S16x1024, .f32⟩
  | .hbm, ⟨59, _⟩ => ⟨S1536, .f32⟩
  | .hbm, ⟨60, _⟩ => ⟨S_, .i32⟩
  | .hbm, ⟨61, _⟩ => ⟨S_, .f32⟩
  | .hbm, ⟨62, _⟩ => ⟨S16384, .f32⟩
  | .hbm, ⟨63, _⟩ => ⟨S16x1024, .f32⟩
  | .hbm, ⟨64, _⟩ => ⟨S416x1024, .f32⟩
  | .hbm, ⟨65, _⟩ => ⟨S416x1024, .f32⟩
  | .hbm, ⟨66, _⟩ => ⟨S416x1024, .f32⟩
  | .hbm, ⟨67, _⟩ => ⟨S416x1024, .f32⟩
  | .hbm, ⟨68, _⟩ => ⟨S416x1024, .f32⟩
  | .hbm, ⟨69, _⟩ => ⟨S4x1024, .f32⟩
  | .hbm, ⟨70, _⟩ => ⟨S4096, .f32⟩
  | .hbm, ⟨71, _⟩ => ⟨S3968, .f32⟩
  | .hbm, ⟨72, _⟩ => ⟨S31x128, .f32⟩
  | .hbm, ⟨73, _⟩ => ⟨S2x1024, .f32⟩
  | .hbm, ⟨74, _⟩ => ⟨S2048, .f32⟩
  | .hbm, ⟨75, _⟩ => ⟨S1536, .f32⟩
  | .hbm, ⟨76, _⟩ => ⟨S4x384, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S4x1024, .f32⟩
  | .hbm, ⟨81, _⟩ => ⟨S4096, .f32⟩
  | .hbm, ⟨82, _⟩ => ⟨S3968, .f32⟩
  | .hbm, ⟨83, _⟩ => ⟨S31x128, .f32⟩
  | .hbm, ⟨84, _⟩ => ⟨S2x1024, .f32⟩
  | .hbm, ⟨85, _⟩ => ⟨S2048, .f32⟩
  | .hbm, ⟨86, _⟩ => ⟨S1536, .f32⟩
  | .hbm, ⟨87, _⟩ => ⟨S4x384, .f32⟩
  | .hbm, ⟨88, _⟩ => ⟨S128x1024, .f32⟩
  | .hbm, ⟨89, _⟩ => ⟨S128x1024, .f32⟩
  | .hbm, ⟨90, _⟩ => ⟨S128x1024, .f32⟩
  | .hbm, ⟨91, _⟩ => ⟨S4x1024, .f32⟩
  | .hbm, ⟨92, _⟩ => ⟨S4096, .f32⟩
  | .hbm, ⟨93, _⟩ => ⟨S3968, .f32⟩
  | .hbm, ⟨94, _⟩ => ⟨S31x128, .f32⟩
  | .hbm, ⟨95, _⟩ => ⟨S2x1024, .f32⟩
  | .hbm, ⟨96, _⟩ => ⟨S2048, .f32⟩
  | .hbm, ⟨97, _⟩ => ⟨S1536, .f32⟩
  | .hbm, ⟨98, _⟩ => ⟨S4x384, .f32⟩
  | .hbm, ⟨99, _⟩ => ⟨S128x1024, .f32⟩
  | .hbm, ⟨100, _⟩ => ⟨S128x1024, .f32⟩
  | .hbm, ⟨101, _⟩ => ⟨S128x1024, .f32⟩
  | .hbm, ⟨102, _⟩ => ⟨S4x1024, .f32⟩
  | .hbm, ⟨103, _⟩ => ⟨S4096, .f32⟩
  | .hbm, ⟨104, _⟩ => ⟨S3968, .f32⟩
  | .hbm, ⟨105, _⟩ => ⟨S31x128, .f32⟩
  | .hbm, ⟨106, _⟩ => ⟨S2x1024, .f32⟩
  | .hbm, ⟨107, _⟩ => ⟨S2048, .f32⟩
  | .hbm, ⟨108, _⟩ => ⟨S1536, .f32⟩
  | .hbm, ⟨109, _⟩ => ⟨S4x384, .f32⟩
  | .hbm, ⟨110, _⟩ => ⟨S128x1024, .f32⟩
  | .hbm, ⟨111, _⟩ => ⟨S128x1024, .f32⟩
  | .hbm, ⟨112, _⟩ => ⟨S128x1024, .f32⟩
  | .local _ .vmem, ⟨0, _⟩ => ⟨S8x208x1024, .bf16⟩
  | .local _ .vmem, ⟨1, _⟩ => ⟨S8x208x1024, .bf16⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_call2_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_call3_v0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_call4_v0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_call5_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_call6_v0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_call7_v0 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29_0 : Ref sig .tc := ⟨.hbm, 65, rfl⟩
abbrev main_v29_1 : Ref sig .tc := ⟨.hbm, 66, rfl⟩
abbrev main_v29_2 : Ref sig .tc := ⟨.hbm, 67, rfl⟩
abbrev main_v29_3 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamShardsRefIdeal.lean ====
abbrev S8x128x1024 : Shape := ⟨3, ![8, 128, 1024]⟩
abbrev S8x31x128 : Shape := ⟨3, ![8, 31, 128]⟩
abbrev S8x4x384 : Shape := ⟨3, ![8, 4, 384]⟩
abbrev S128x1024 : Shape := ⟨2, ![128, 1024]⟩
abbrev S31x128 : Shape := ⟨2, ![31, 128]⟩
abbrev S4x384 : Shape := ⟨2, ![4, 384]⟩
abbrev S_ : Shape := ⟨0, ![]⟩

abbrev nBuf : Space → Nat
  | .hbm => 195
  | .vmem => 0
  | .smem => 0
  | _ => 0

abbrev hbmTy0_0 (i : Nat) : BufTy := match i % 128 with
  | 0 => ⟨S8x128x1024, .f32⟩
  | 1 => ⟨S8x128x1024, .f32⟩
  | 2 => ⟨S8x128x1024, .f32⟩
  | 3 => ⟨S8x31x128, .f32⟩
  | 4 => ⟨S8x4x384, .f32⟩
  | 5 => ⟨S128x1024, .f32⟩
  | 6 => ⟨S128x1024, .f32⟩
  | 7 => ⟨S128x1024, .f32⟩
  | 8 => ⟨S31x128, .f32⟩
  | 9 => ⟨S4x384, .f32⟩
  | 10 => ⟨S128x1024, .f32⟩
  | 11 => ⟨S128x1024, .f32⟩
  | 12 => ⟨S128x1024, .f32⟩
  | 13 => ⟨S31x128, .f32⟩
  | 14 => ⟨S4x384, .f32⟩
  | 15 => ⟨S128x1024, .f32⟩
  | 16 => ⟨S128x1024, .f32⟩
  | 17 => ⟨S128x1024, .f32⟩
  | 18 => ⟨S31x128, .f32⟩
  | 19 => ⟨S4x384, .f32⟩
  | 20 => ⟨S_, .f32⟩
  | 21 => ⟨S128x1024, .f32⟩
  | 22 => ⟨S_, .f32⟩
  | 23 => ⟨S128x1024, .f32⟩
  | 24 => ⟨S128x1024, .f32⟩
  | 25 => ⟨S_, .f32⟩
  | 26 => ⟨S128x1024, .f32⟩
  | 27 => ⟨S128x1024, .f32⟩
  | 28 => ⟨S128x1024, .f32⟩
  | 29 => ⟨S_, .f32⟩
  | 30 => ⟨S128x1024, .f32⟩
  | 31 => ⟨S128x1024, .f32⟩
  | 32 => ⟨S128x1024, .f32⟩
  | 33 => ⟨S_, .f32⟩
  | 34 => ⟨S128x1024, .f32⟩
  | 35 => ⟨S128x1024, .f32⟩
  | 36 => ⟨S128x1024, .f32⟩
  | 37 => ⟨S_, .f32⟩
  | 38 => ⟨S128x1024, .f32⟩
  | 39 => ⟨S128x1024, .f32⟩
  | 40 => ⟨S_, .f32⟩
  | 41 => ⟨S128x1024, .f32⟩
  | 42 => ⟨S128x1024, .f32⟩
  | 43 => ⟨S128x1024, .f32⟩
  | 44 => ⟨S_, .f32⟩
  | 45 => ⟨S128x1024, .f32⟩
  | 46 => ⟨S128x1024, .f32⟩
  | 47 => ⟨S128x1024, .f32⟩
  | 48 => ⟨S_, .f32⟩
  | 49 => ⟨S128x1024, .f32⟩
  | 50 => ⟨S128x1024, .f32⟩
  | 51 => ⟨S128x1024, .f32⟩
  | 52 => ⟨S_, .f32⟩
  | 53 => ⟨S128x1024, .f32⟩
  | 54 => ⟨S128x1024, .f32⟩
  | 55 => ⟨S_, .f32⟩
  | 56 => ⟨S128x1024, .f32⟩
  | 57 => ⟨S_, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S128x1024, .f32⟩
  | 68 => ⟨S_, .f32⟩
  | 69 => ⟨S128x1024, .f32⟩
  | 70 => ⟨S128x1024, .f32⟩
  | 71 => ⟨S128x1024, .f32⟩
  | 72 => ⟨S_, .f32⟩
  | 73 => ⟨S128x1024, .f32⟩
  | 74 => ⟨S128x1024, .f32⟩
  | 75 => ⟨S_, .f32⟩
  | 76 => ⟨S128x1024, .f32⟩
  | 77 => ⟨S128x1024, .f32⟩
  | 78 => ⟨S128x1024, .f32⟩
  | 79 => ⟨S_, .f32⟩
  | 80 => ⟨S128x1024, .f32⟩
  | 81 => ⟨S128x1024, .f32⟩
  | 82 => ⟨S128x1024, .f32⟩
  | 83 => ⟨S_, .f32⟩
  | 84 => ⟨S128x1024, .f32⟩
  | 85 => ⟨S128x1024, .f32⟩
  | 86 => ⟨S128x1024, .f32⟩
  | 87 => ⟨S_, .f32⟩
  | 88 => ⟨S128x1024, .f32⟩
  | 89 => ⟨S128x1024, .f32⟩
  | 90 => ⟨S_, .f32⟩
  | 91 => ⟨S128x1024, .f32⟩
  | 92 => ⟨S_, .f32⟩
  | 93 => ⟨S128x1024, .f32⟩
  | 94 => ⟨S128x1024, .f32⟩
  | 95 => ⟨S_, .f32⟩
  | 96 => ⟨S128x1024, .f32⟩
  | 97 => ⟨S128x1024, .f32⟩
  | 98 => ⟨S128x1024, .f32⟩
  | 99 => ⟨S_, .f32⟩
  | 100 => ⟨S128x1024, .f32⟩
  | 101 => ⟨S128x1024, .f32⟩
  | 102 => ⟨S128x1024, .f32⟩
  | 103 => ⟨S_, .f32⟩
  | 104 => ⟨S128x1024, .f32⟩
  | 105 => ⟨S128x1024, .f32⟩
  | 106 => ⟨S128x1024, .f32⟩
  | 107 => ⟨S_, .f32⟩
  | 108 => ⟨S128x1024, .f32⟩
  | 109 => ⟨S128x1024, .f32⟩
  | 110 => ⟨S_, .f32⟩
  | 111 => ⟨S128x1024, .f32⟩
  | 112 => ⟨S128x1024, .f32⟩
  | 113 => ⟨S128x1024, .f32⟩
  | 114 => ⟨S_, .f32⟩
  | 115 => ⟨S128x1024, .f32⟩
  | 116 => ⟨S128x1024, .f32⟩
  | 117 => ⟨S128x1024, .f32⟩
  | 118 => ⟨S_, .f32⟩
  | 119 => ⟨S128x1024, .f32⟩
  | 120 => ⟨S128x1024, .f32⟩
  | 121 => ⟨S128x1024, .f32⟩
  | 122 => ⟨S_, .f32⟩
  | 123 => ⟨S128x1024, .f32⟩
  | 124 => ⟨S128x1024, .f32⟩
  | 125 => ⟨S_, .f32⟩
  | 126 => ⟨S31x128, .f32⟩
  | 127 => ⟨S_, .f32⟩
  | _ => ⟨S8x128x1024, .f32⟩

abbrev hbmTy0_1 (i : Nat) : BufTy := match i % 128 with
  | 0 => ⟨S31x128, .f32⟩
  | 1 => ⟨S31x128, .f32⟩
  | 2 => ⟨S_, .f32⟩
  | 3 => ⟨S31x128, .f32⟩
  | 4 => ⟨S31x128, .f32⟩
  | 5 => ⟨S31x128, .f32⟩
  | 6 => ⟨S_, .f32⟩
  | 7 => ⟨S31x128, .f32⟩
  | 8 => ⟨S31x128, .f32⟩
  | 9 => ⟨S31x128, .f32⟩
  | 10 => ⟨S_, .f32⟩
  | 11 => ⟨S31x128, .f32⟩
  | 12 => ⟨S31x128, .f32⟩
  | 13 => ⟨S31x128, .f32⟩
  | 14 => ⟨S_, .f32⟩
  | 15 => ⟨S31x128, .f32⟩
  | 16 => ⟨S31x128, .f32⟩
  | 17 => ⟨S_, .f32⟩
  | 18 => ⟨S31x128, .f32⟩
  | 19 => ⟨S31x128, .f32⟩
  | 20 => ⟨S31x128, .f32⟩
  | 21 => ⟨S_, .f32⟩
  | 22 => ⟨S31x128, .f32⟩
  | 23 => ⟨S31x128, .f32⟩
  | 24 => ⟨S31x128, .f32⟩
  | 25 => ⟨S_, .f32⟩
  | 26 => ⟨S31x128, .f32⟩
  | 27 => ⟨S31x128, .f32⟩
  | 28 => ⟨S31x128, .f32⟩
  | 29 => ⟨S_, .f32⟩
  | 30 => ⟨S31x128, .f32⟩
  | 31 => ⟨S31x128, .f32⟩
  | 32 => ⟨S_, .f32⟩
  | 33 => ⟨S4x384, .f32⟩
  | 34 => ⟨S_, .f32⟩
  | 35 => ⟨S4x384, .f32⟩
  | 36 => ⟨S4x384, .f32⟩
  | 37 => ⟨S_, .f32⟩
  | 38 => ⟨S4x384, .f32⟩
  | 39 => ⟨S4x384, .f32⟩
  | 40 => ⟨S4x384, .f32⟩
  | 41 => ⟨S_, .f32⟩
  | 42 => ⟨S4x384, .f32⟩
  | 43 => ⟨S4x384, .f32⟩
  | 44 => ⟨S4x384, .f32⟩
  | 45 => ⟨S_, .f32⟩
  | 46 => ⟨S4x384, .f32⟩
  | 47 => ⟨S4x384, .f32⟩
  | 48 => ⟨S4x384, .f32⟩
  | 49 => ⟨S_, .f32⟩
  | 50 => ⟨S4x384, .f32⟩
  | 51 => ⟨S4x384, .f32⟩
  | 52 => ⟨S_, .f32⟩
  | 53 => ⟨S4x384, .f32⟩
  | 54 => ⟨S4x384, .f32⟩
  | 55 => ⟨S4x384, .f32⟩
  | 56 => ⟨S_, .f32⟩
  | 57 => ⟨S4x384, .f32⟩
  | 58 => ⟨S4x384, .f32⟩
  | 59 => ⟨S4x384, .f32⟩
  | 60 => ⟨S_, .f32⟩
  | 61 => ⟨S4x384, .f32⟩
  | 62 => ⟨S4x384, .f32⟩
  | 63 => ⟨S4x384, .f32⟩
  | 64 => ⟨S_, .f32⟩
  | 65 => ⟨S4x384, .f32⟩
  | 66 => ⟨S4x384, .f32⟩
  | _ => ⟨S8x128x1024, .f32⟩

abbrev hbmTy (i : Nat) : BufTy := match i / 128 with
  | 0 => hbmTy0_0 i
  | 1 => hbmTy0_1 i
  | _ => ⟨S8x128x1024, .f32⟩

abbrev bufTy : (tb : Table) → Fin (tcTables nBuf tb) → BufTy
  | .hbm, ⟨i, _⟩ => hbmTy i
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_cst_5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_6 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_7 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_8 : Ref sig .tc := ⟨.hbm, 52, rfl⟩
abbrev main_v23 : Ref sig .tc := ⟨.hbm, 53, rfl⟩
abbrev main_v24 : Ref sig .tc := ⟨.hbm, 54, rfl⟩
abbrev main_cst_9 : Ref sig .tc := ⟨.hbm, 55, rfl⟩
abbrev main_v25 : Ref sig .tc := ⟨.hbm, 56, rfl⟩
abbrev main_cst_10 : Ref sig .tc := ⟨.hbm, 57, rfl⟩
abbrev main_v26 : Ref sig .tc := ⟨.hbm, 58, rfl⟩
abbrev main_v27 : Ref sig .tc := ⟨.hbm, 59, rfl⟩
abbrev main_cst_11 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_13 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_14 : Ref sig .tc := ⟨.hbm, 72, rfl⟩
abbrev main_v37 : Ref sig .tc := ⟨.hbm, 73, rfl⟩
abbrev main_v38 : Ref sig .tc := ⟨.hbm, 74, rfl⟩
abbrev main_cst_15 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_16 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_17 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_18 : Ref sig .tc := ⟨.hbm, 87, rfl⟩
abbrev main_v48 : Ref sig .tc := ⟨.hbm, 88, rfl⟩
abbrev main_v49 : Ref sig .tc := ⟨.hbm, 89, rfl⟩
abbrev main_cst_19 : Ref sig .tc := ⟨.hbm, 90, rfl⟩
abbrev main_v50 : Ref sig .tc := ⟨.hbm, 91, rfl⟩
abbrev main_cst_20 : Ref sig .tc := ⟨.hbm, 92, rfl⟩
abbrev main_v51 : Ref sig .tc := ⟨.hbm, 93, rfl⟩
abbrev main_v52 : Ref sig .tc := ⟨.hbm, 94, rfl⟩
abbrev main_cst_21 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_22 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_23 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_24 : Ref sig .tc := ⟨.hbm, 107, rfl⟩
abbrev main_v62 : Ref sig .tc := ⟨.hbm, 108, rfl⟩
abbrev main_v63 : Ref sig .tc := ⟨.hbm, 109, rfl⟩
abbrev main_cst_25 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_26 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_27 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_28 : Ref sig .tc := ⟨.hbm, 122, rfl⟩
abbrev main_v73 : Ref sig .tc := ⟨.hbm, 123, rfl⟩
abbrev main_v74 : Ref sig .tc := ⟨.hbm, 124, rfl⟩
abbrev main_cst_29 : Ref sig .tc := ⟨.hbm, 125, rfl⟩
abbrev main_v75 : Ref sig .tc := ⟨.hbm, 126, rfl⟩
abbrev main_cst_30 : Ref sig .tc := ⟨.hbm, 127, rfl⟩
abbrev main_v76 : Ref sig .tc := ⟨.hbm, 128, rfl⟩
abbrev main_v77 : Ref sig .tc := ⟨.hbm, 129, rfl⟩
abbrev main_cst_31 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_32 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_33 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_34 : Ref sig .tc := ⟨.hbm, 142, rfl⟩
abbrev main_v87 : Ref sig .tc := ⟨.hbm, 143, rfl⟩
abbrev main_v88 : Ref sig .tc := ⟨.hbm, 144, rfl⟩
abbrev main_cst_35 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_36 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_37 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_38 : Ref sig .tc := ⟨.hbm, 157, rfl⟩
abbrev main_v98 : Ref sig .tc := ⟨.hbm, 158, rfl⟩
abbrev main_v99 : Ref sig .tc := ⟨.hbm, 159, rfl⟩
abbrev main_cst_39 : Ref sig .tc := ⟨.hbm, 160, rfl⟩
abbrev main_v100 : Ref sig .tc := ⟨.hbm, 161, rfl⟩
abbrev main_cst_40 : Ref sig .tc := ⟨.hbm, 162, rfl⟩
abbrev main_v101 : Ref sig .tc := ⟨.hbm, 163, rfl⟩
abbrev main_v102 : Ref sig .tc := ⟨.hbm, 164, rfl⟩
abbrev main_cst_41 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_42 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_43 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_44 : Ref sig .tc := ⟨.hbm, 177, rfl⟩
abbrev main_v112 : Ref sig .tc := ⟨.hbm, 178, rfl⟩
abbrev main_v113 : Ref sig .tc := ⟨.hbm, 179, rfl⟩
abbrev main_cst_45 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_46 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_47 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_48 : Ref sig .tc := ⟨.hbm, 192, rfl⟩
abbrev main_v123 : Ref sig .tc := ⟨.hbm, 193, rfl⟩
abbrev main_v124 : Ref sig .tc := ⟨.hbm, 194, rfl⟩

abbrev nD : Nat := 1
abbrev τ : Topo := Topo.v7x

variable {F : FTy → Type} [FloatOps F]
-- ==== AdamSmall.lean ====
abbrev S8 : Shape := ⟨1, ![8]⟩
abbrev S8x1024 : Shape := ⟨2, ![8, 1024]⟩
abbrev S8x128 : Shape := ⟨2, ![8, 128]⟩
abbrev S8x8 : Shape := ⟨2, ![8, 8]⟩
abbrev S1024 : Shape := ⟨1, ![1024]⟩
abbrev S128 : Shape := ⟨1, ![128]⟩
abbrev S_ : Shape := ⟨0, ![]⟩
abbrev S16x1024 : Shape := ⟨2, ![16, 1024]⟩
abbrev S1 : Shape := ⟨1, ![1]⟩
abbrev S8x16x1024 : Shape := ⟨3, ![8, 16, 1024]⟩
abbrev S2 : Shape := ⟨1, ![2]⟩
abbrev S1x16x1024 : Shape := ⟨3, ![1, 16, 1024]⟩
abbrev S1x1 : Shape := ⟨2, ![1, 1]⟩
abbrev S1x1024 : Shape := ⟨2, ![1, 1024]⟩
abbrev S1x128 : Shape := ⟨2, ![1, 128]⟩
abbrev S1x8 : Shape := ⟨2, ![1, 8]⟩

abbrev nBuf : Space → Nat
  | .hbm => 250
  | .vmem => 8
  | .smem => 0
  | _ => 0

abbrev hbmTy0_0 (i : Nat) : BufTy := match i % 128 with
  | 0 => ⟨S8, .f32⟩
  | 1 => ⟨S8x1024, .f32⟩
  | 2 => ⟨S8x1024, .f32⟩
  | 3 => ⟨S8x1024, .f32⟩
  | 4 => ⟨S8x1024, .f32⟩
  | 5 => ⟨S8x1024, .f32⟩
  | 6 => ⟨S8x128, .f32⟩
  | 7 => ⟨S8x8, .f32⟩
  | 8 => ⟨S8x8, .f32⟩
  | 9 => ⟨S1024, .f32⟩
  | 10 => ⟨S1024, .f32⟩
  | 11 => ⟨S1024, .f32⟩
  | 12 => ⟨S1024, .f32⟩
  | 13 => ⟨S1024, .f32⟩
  | 14 => ⟨S128, .f32⟩
  | 15 => ⟨S8, .f32⟩
  | 16 => ⟨S8, .f32⟩
  | 17 => ⟨S1024, .f32⟩
  | 18 => ⟨S1024, .f32⟩
  | 19 => ⟨S1024, .f32⟩
  | 20 => ⟨S1024, .f32⟩
  | 21 => ⟨S1024, .f32⟩
  | 22 => ⟨S128, .f32⟩
  | 23 => ⟨S8, .f32⟩
  | 24 => ⟨S8, .f32⟩
  | 25 => ⟨S1024, .f32⟩
  | 26 => ⟨S1024, .f32⟩
  | 27 => ⟨S1024, .f32⟩
  | 28 => ⟨S1024, .f32⟩
  | 29 => ⟨S1024, .f32⟩
  | 30 => ⟨S128, .f32⟩
  | 31 => ⟨S8, .f32⟩
  | 32 => ⟨S8, .f32⟩
  | 33 => ⟨S_, .f32⟩
  | 34 => ⟨S16x1024, .f32⟩
  | 35 => ⟨S_, .i32⟩
  | 36 => ⟨S1, .i32⟩
  | 37 => ⟨S8x16x1024, .f32⟩
  | 38 => ⟨S8x16x1024, .f32⟩
  | 39 => ⟨S_, .i32⟩
  | 40 => ⟨S1, .i32⟩
  | 41 => ⟨S8x16x1024, .f32⟩
  | 42 => ⟨S_, .i32⟩
  | 43 => ⟨S1, .i32⟩
  | 44 => ⟨S8x16x1024, .f32⟩
  | 45 => ⟨S_, .i32⟩
  | 46 => ⟨S1, .i32⟩
  | 47 => ⟨S8x16x1024, .f32⟩
  | 48 => ⟨S_, .i32⟩
  | 49 => ⟨S1, .i32⟩
  | 50 => ⟨S8x16x1024, .f32⟩
  | 51 => ⟨S_, .i32⟩
  | 52 => ⟨S1, .i32⟩
  | 53 => ⟨S_, .i32⟩
  | 54 => ⟨S1, .i32⟩
  | 55 => ⟨S2, .i32⟩
  | 56 => ⟨S8x16x1024, .f32⟩
  | 57 => ⟨S_, .i32⟩
  | 58 => ⟨S1, .i32⟩
  | 59 => ⟨S_, .i32⟩
  | 60 => ⟨S1, .i32⟩
  | 61 => ⟨S2, .i32⟩
  | 62 => ⟨S8x16x1024, .f32⟩
  | 63 => ⟨S_, .i32⟩
  | 64 => ⟨S1, .i32⟩
  | 65 => ⟨S_, .i32⟩
  | 66 => ⟨S1, .i32⟩
  | 67 => ⟨S2, .i32⟩
  | 68 => ⟨S8x16x1024, .f32⟩
  | 69 => ⟨S_, .i32⟩
  | 70 => ⟨S1, .i32⟩
  | 71 => ⟨S_, .i32⟩
  | 72 => ⟨S1, .i32⟩
  | 73 => ⟨S2, .i32⟩
  | 74 => ⟨S8x16x1024, .f32⟩
  | 75 => ⟨S_, .f32⟩
  | 76 => ⟨S16x1024, .f32⟩
  | 77 => ⟨S_, .i32⟩
  | 78 => ⟨S1, .i32⟩
  | 79 => ⟨S16x1024, .f32⟩
  | 80 => ⟨S_, .i32⟩
  | 81 => ⟨S1, .i32⟩
  | 82 => ⟨S16x1024, .f32⟩
  | 83 => ⟨S_, .i32⟩
  | 84 => ⟨S1, .i32⟩
  | 85 => ⟨S16x1024, .f32⟩
  | 86 => ⟨S_, .i32⟩
  | 87 => ⟨S1, .i32⟩
  | 88 => ⟨S16x1024, .f32⟩
  | 89 => ⟨S_, .i32⟩
  | 90 => ⟨S1, .i32⟩
  | 91 => ⟨S16x1024, .f32⟩
  | 92 => ⟨S_, .i32⟩
  | 93 => ⟨S1, .i32⟩
  | 94 => ⟨S_, .i32⟩
  | 95 => ⟨S1, .i32⟩
  | 96 => ⟨S2, .i32⟩
  | 97 => ⟨S16x1024, .f32⟩
  | 98 => ⟨S_, .i32⟩
  | 99 => ⟨S1, .i32⟩
  | 100 => ⟨S_, .i32⟩
  | 101 => ⟨S1, .i32⟩
  | 102 => ⟨S2, .i32⟩
  | 103 => ⟨S16x1024, .f32⟩
  | 104 => ⟨S_, .i32⟩
  | 105 => ⟨S1, .i32⟩
  | 106 => ⟨S_, .i32⟩
  | 107 => ⟨S1, .i32⟩
  | 108 => ⟨S2, .i32⟩
  | 109 => ⟨S16x1024, .f32⟩
  | 110 => ⟨S_, .f32⟩
  | 111 => ⟨S16x1024, .f32⟩
  | 112 => ⟨S_, .i32⟩
  | 113 => ⟨S1, .i32⟩
  | 114 => ⟨S16x1024, .f32⟩
  | 115 => ⟨S_, .i32⟩
  | 116 => ⟨S1, .i32⟩
  | 117 => ⟨S16x1024, .f32⟩
  | 118 => ⟨S_, .i32⟩
  | 119 => ⟨S1, .i32⟩
  | 120 => ⟨S16x1024, .f32⟩
  | 121 => ⟨S_, .i32⟩
  | 122 => ⟨S1, .i32⟩
  | 123 => ⟨S16x1024, .f32⟩
  | 124 => ⟨S_, .i32⟩
  | 125 => ⟨S1, .i32⟩
  | 126 => ⟨S16x1024, .f32⟩
  | 127 => ⟨S_, .i32⟩
  | _ => ⟨S8, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S16x1024, .f32⟩
  | 5 => ⟨S_, .i32⟩
  | 6 => ⟨S1, .i32⟩
  | 7 => ⟨S_, .i32⟩
  | 8 => ⟨S1, .i32⟩
  | 9 => ⟨S2, .i32⟩
  | 10 => ⟨S16x1024, .f32⟩
  | 11 => ⟨S_, .i32⟩
  | 12 => ⟨S1, .i32⟩
  | 13 => ⟨S_, .i32⟩
  | 14 => ⟨S1, .i32⟩
  | 15 => ⟨S2, .i32⟩
  | 16 => ⟨S16x1024, .f32⟩
  | 17 => ⟨S_, .f32⟩
  | 18 => ⟨S16x1024, .f32⟩
  | 19 => ⟨S_, .i32⟩
  | 20 => ⟨S1, .i32⟩
  | 21 => ⟨S16x1024, .f32⟩
  | 22 => ⟨S_, .i32⟩
  | 23 => ⟨S1, .i32⟩
  | 24 => ⟨S16x1024, .f32⟩
  | 25 => ⟨S_, .i32⟩
  | 26 => ⟨S1, .i32⟩
  | 27 => ⟨S16x1024, .f32⟩
  | 28 => ⟨S_, .i32⟩
  | 29 => ⟨S1, .i32⟩
  | 30 => ⟨S16x1024, .f32⟩
  | 31 => ⟨S_, .i32⟩
  | 32 => ⟨S1, .i32⟩
  | 33 => ⟨S16x1024, .f32⟩
  | 34 => ⟨S_, .i32⟩
  | 35 => ⟨S1, .i32⟩
  | 36 => ⟨S_, .i32⟩
  | 37 => ⟨S1, .i32⟩
  | 38 => ⟨S2, .i32⟩
  | 39 => ⟨S16x1024, .f32⟩
  | 40 => ⟨S_, .i32⟩
  | 41 => ⟨S1, .i32⟩
  | 42 => ⟨S_, .i32⟩
  | 43 => ⟨S1, .i32⟩
  | 44 => ⟨S2, .i32⟩
  | 45 => ⟨S16x1024, .f32⟩
  | 46 => ⟨S_, .i32⟩
  | 47 => ⟨S1, .i32⟩
  | 48 => ⟨S_, .i32⟩
  | 49 => ⟨S1, .i32⟩
  | 50 => ⟨S2, .i32⟩
  | 51 => ⟨S16x1024, .f32⟩
  | 52 => ⟨S16x1024, .f32⟩
  | 53 => ⟨S16x1024, .f32⟩
  | 54 => ⟨S16x1024, .f32⟩
  | 55 => ⟨S16x1024, .f32⟩
  | 56 => ⟨S1x1, .f32⟩
  | 57 => ⟨S_, .f32⟩
  | 58 => ⟨S1x1024, .f32⟩
  | 59 => ⟨S1024, .f32⟩
  | 60 => ⟨S1x1024, .f32⟩
  | 61 => ⟨S1024, .f32⟩
  | 62 => ⟨S1x1024, .f32⟩
  | 63 => ⟨S1024, .f32⟩
  | 64 => ⟨S1x1024, .f32⟩
  | 65 => ⟨S1024, .f32⟩
  | 66 => ⟨S1x1024, .f32⟩
  | 67 => ⟨S1024, .f32⟩
  | 68 => ⟨S1x128, .f32⟩
  | 69 => ⟨S128, .f32⟩
  | 70 => ⟨S1x8, .f32⟩
  | 71 => ⟨S8, .f32⟩
  | 72 => ⟨S1x8, .f32⟩
  | 73 => ⟨S8, .f32⟩
  | 74 => ⟨S1x1024, .f32⟩
  | 75 => ⟨S1024, .f32⟩
  | 76 => ⟨S1x1024, .f32⟩
  | 77 => ⟨S1024, .f32⟩
  | 78 => ⟨S1x1024, .f32⟩
  | 79 => ⟨S1024, .f32⟩
  | 80 => ⟨S1x1024, .f32⟩
  | 81 => ⟨S1024, .f32⟩
  | 82 => ⟨S1x1024, .f32⟩
  | 83 => ⟨S1024, .f32⟩
  | 84 => ⟨S1x128, .f32⟩
  | 85 => ⟨S128, .f32⟩
  | 86 => ⟨S1x8, .f32⟩
  | 87 => ⟨S8, .f32⟩
  | 88 => ⟨S1x8, .f32⟩
  | 89 => ⟨S8, .f32⟩
  | 90 => ⟨S1x1024, .f32⟩
  | 91 => ⟨S1024, .f32⟩
  | 92 => ⟨S1x1024, .f32⟩
  | 93 => ⟨S1024, .f32⟩
  | 94 => ⟨S1x1024, .f32⟩
  | 95 => ⟨S1024, .f32⟩
  | 96 => ⟨S1x1024, .f32⟩
  | 97 => ⟨S1024, .f32⟩
  | 98 => ⟨S1x1024, .f32⟩
  | 99 => ⟨S1024, .f32⟩
  | 100 => ⟨S1x128, .f32⟩
  | 101 => ⟨S128, .f32⟩
  | 102 => ⟨S1x8, .f32⟩
  | 103 => ⟨S8, .f32⟩
  | 104 => ⟨S1x8, .f32⟩
  | 105 => ⟨S8, .f32⟩
  | 106 => ⟨S1x1024, .f32⟩
  | 107 => ⟨S1024, .f32⟩
  | 108 => ⟨S1x1024, .f32⟩
  | 109 => ⟨S1024, .f32⟩
  | 110 => ⟨S1x1024, .f32⟩
  | 111 => ⟨S1024, .f32⟩
  | 112 => ⟨S1x1024, .f32⟩
  | 113 => ⟨S1024, .f32⟩
  | 114 => ⟨S1x1024, .f32⟩
  | 115 => ⟨S1024, .f32⟩
  | 116 => ⟨S1x128, .f32⟩
  | 117 => ⟨S128, .f32⟩
  | 118 => ⟨S1x8, .f32⟩
  | 119 => ⟨S8, .f32⟩
  | 120 => ⟨S1x8, .f32⟩
  | 121 => ⟨S8, .f32⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_cst : Ref sig .tc := ⟨.hbm, 33, rfl⟩
abbrev main_v0 : Ref sig .tc := ⟨.hbm, 34, rfl⟩
abbrev main_c : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_c_0 : Ref sig .tc := ⟨.hbm, 39, rfl⟩
abbrev main_v4 : Ref sig .tc := ⟨.hbm, 40, rfl⟩
abbrev main_v5 : Ref sig .tc := ⟨.hbm, 41, rfl⟩
abbrev main_c_1 : Ref sig .tc := ⟨.hbm, 42, rfl⟩
abbrev main_v6 : Ref sig .tc := ⟨.hbm, 43, rfl⟩
abbrev main_v7 : Ref sig .tc := ⟨.hbm, 44, rfl⟩
abbrev main_c_2 : Ref sig .tc := ⟨.hbm, 45, rfl⟩
abbrev main_v8 : Ref sig .tc := ⟨.hbm, 46, rfl⟩
abbrev main_v9 : Ref sig .tc := ⟨.hbm, 47, rfl⟩
abbrev main_c_3 : Ref sig .tc := ⟨.hbm, 48, rfl⟩
abbrev main_v10 : Ref sig .tc := ⟨.hbm, 49, rfl⟩
abbrev main_v11 : Ref sig .tc := ⟨.hbm, 50, rfl⟩
abbrev main_c_4 : Ref sig .tc := ⟨.hbm, 51, rfl⟩
abbrev main_v12 : Ref sig .tc := ⟨.hbm, 52, rfl⟩
abbrev main_c_5 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_6 : Ref sig .tc := ⟨.hbm, 57, rfl⟩
abbrev main_v16 : Ref sig .tc := ⟨.hbm, 58, rfl⟩
abbrev main_c_7 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c_8 : Ref sig .tc := ⟨.hbm, 63, rfl⟩
abbrev main_v20 : Ref sig .tc := ⟨.hbm, 64, rfl⟩
abbrev main_c_9 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_10 : Ref sig .tc := ⟨.hbm, 69, rfl⟩
abbrev main_v24 : Ref sig .tc := ⟨.hbm, 70, rfl⟩
abbrev main_c_11 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_12 : Ref sig .tc := ⟨.hbm, 75, rfl⟩
abbrev main_v28 : Ref sig .tc := ⟨.hbm, 76, rfl⟩
abbrev main_c_13 : Ref sig .tc := ⟨.hbm, 77, rfl⟩
abbrev main_v29 : Ref sig .tc := ⟨.hbm, 78, rfl⟩
abbrev main_v30 : Ref sig .tc := ⟨.hbm, 79, rfl⟩
abbrev main_c_14 : Ref sig .tc := ⟨.hbm, 80, rfl⟩
abbrev main_v31 : Ref sig .tc := ⟨.hbm, 81, rfl⟩
abbrev main_v32 : Ref sig .tc := ⟨.hbm, 82, rfl⟩
abbrev main_c_15 : Ref sig .tc := ⟨.hbm, 83, rfl⟩
abbrev main_v33 : Ref sig .tc := ⟨.hbm, 84, rfl⟩
abbrev main_v34 : Ref sig .tc := ⟨.hbm, 85, rfl⟩
abbrev main_c_16 : Ref sig .tc := ⟨.hbm, 86, rfl⟩
abbrev main_v35 : Ref sig .tc := ⟨.hbm, 87, rfl⟩
abbrev main_v36 : Ref sig .tc := ⟨.hbm, 88, rfl⟩
abbrev main_c_17 : Ref sig .tc := ⟨.hbm, 89, rfl⟩
abbrev main_v37 : Ref sig .tc := ⟨.hbm, 90, rfl⟩
abbrev main_v38 : Ref sig .tc := ⟨.hbm, 91, rfl⟩
abbrev main_c_18 : Ref sig .tc := ⟨.hbm, 92, rfl⟩
abbrev main_v39 : Ref sig .tc := ⟨.hbm, 93, rfl⟩
abbrev main_c_19 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_c_20 : Ref sig .tc := ⟨.hbm, 98, rfl⟩
abbrev main_v43 : Ref sig .tc := ⟨.hbm, 99, rfl⟩
abbrev main_c_21 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_c_22 : Ref sig .tc := ⟨.hbm, 104, rfl⟩
abbrev main_v47 : Ref sig .tc := ⟨.hbm, 105, rfl⟩
abbrev main_c_23 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_cst_24 : Ref sig .tc := ⟨.hbm, 110, rfl⟩
abbrev main_v51 : Ref sig .tc := ⟨.hbm, 111, rfl⟩
abbrev main_c_25 : Ref sig .tc := ⟨.hbm, 112, rfl⟩
abbrev main_v52 : Ref sig .tc := ⟨.hbm, 113, rfl⟩
abbrev main_v53 : Ref sig .tc := ⟨.hbm, 114, rfl⟩
abbrev main_c_26 : Ref sig .tc := ⟨.hbm, 115, rfl⟩
abbrev main_v54 : Ref sig .tc := ⟨.hbm, 116, rfl⟩
abbrev main_v55 : Ref sig .tc := ⟨.hbm, 117, rfl⟩
abbrev main_c_27 : Ref sig .tc := ⟨.hbm, 118, rfl⟩
abbrev main_v56 : Ref sig .tc := ⟨.hbm, 119, rfl⟩
abbrev main_v57 : Ref sig .tc := ⟨.hbm, 120, rfl⟩
abbrev main_c_28 : Ref sig .tc := ⟨.hbm, 121, rfl⟩
abbrev main_v58 : Ref sig .tc := ⟨.hbm, 122, rfl⟩
abbrev main_v59 : Ref sig .tc := ⟨.hbm, 123, rfl⟩
abbrev main_c_29 : Ref sig .tc := ⟨.hbm, 124, rfl⟩
abbrev main_v60 : Ref sig .tc := ⟨.hbm, 125, rfl⟩
abbrev main_v61 : Ref sig .tc := ⟨.hbm, 126, rfl⟩
abbrev main_c_30 : Ref sig .tc := ⟨.hbm, 127, rfl⟩
abbrev main_v62 : Ref sig .tc := ⟨.hbm, 128, rfl⟩
abbrev main_c_31 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_c_32 : Ref sig .tc := ⟨.hbm, 133, rfl⟩
abbrev main_v66 : Ref sig .tc := ⟨.hbm, 134, rfl⟩
abbrev main_c_33 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_c_34 : Ref sig .tc := ⟨.hbm, 139, rfl⟩
abbrev main_v70 : Ref sig .tc := ⟨.hbm, 140, rfl⟩
abbrev main_c_35 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_cst_36 : Ref sig .tc := ⟨.hbm, 145, rfl⟩
abbrev main_v74 : Ref sig .tc := ⟨.hbm, 146, rfl⟩
abbrev main_c_37 : Ref sig .tc := ⟨.hbm, 147, rfl⟩
abbrev main_v75 : Ref sig .tc := ⟨.hbm, 148, rfl⟩
abbrev main_v76 : Ref sig .tc := ⟨.hbm, 149, rfl⟩
abbrev main_c_38 : Ref sig .tc := ⟨.hbm, 150, rfl⟩
abbrev main_v77 : Ref sig .tc := ⟨.hbm, 151, rfl⟩
abbrev main_v78 : Ref sig .tc := ⟨.hbm, 152, rfl⟩
abbrev main_c_39 : Ref sig .tc := ⟨.hbm, 153, rfl⟩
abbrev main_v79 : Ref sig .tc := ⟨.hbm, 154, rfl⟩
abbrev main_v80 : Ref sig .tc := ⟨.hbm, 155, rfl⟩
abbrev main_c_40 : Ref sig .tc := ⟨.hbm, 156, rfl⟩
abbrev main_v81 : Ref sig .tc := ⟨.hbm, 157, rfl⟩
abbrev main_v82 : Ref sig .tc := ⟨.hbm, 158, rfl⟩
abbrev main_c_41 : Ref sig .tc := ⟨.hbm, 159, rfl⟩
abbrev main_v83 : Ref sig .tc := ⟨.hbm, 160, rfl⟩
abbrev main_v84 : Ref sig .tc := ⟨.hbm, 161, rfl⟩
abbrev main_c_42 : Ref sig .tc := ⟨.hbm, 162, rfl⟩
abbrev main_v85 : Ref sig .tc := ⟨.hbm, 163, rfl⟩
abbrev main_c_43 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_c_44 : Ref sig .tc := ⟨.hbm, 168, rfl⟩
abbrev main_v89 : Ref sig .tc := ⟨.hbm, 169, rfl⟩
abbrev main_c_45 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_c_46 : Ref sig .tc := ⟨.hbm, 174, rfl⟩
abbrev main_v93 : Ref sig .tc := ⟨.hbm, 175, rfl⟩
abbrev main_c_47 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97_0 : Ref sig .tc := ⟨.hbm, 180, rfl⟩
abbrev main_v97_1 : Ref sig .tc := ⟨.hbm, 181, rfl⟩
abbrev main_v97_2 : Ref sig .tc := ⟨.hbm, 182, rfl⟩
abbrev main_v97_3 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8 : Shape := ⟨1, ![8]⟩
abbrev S8x1024 : Shape := ⟨2, ![8, 1024]⟩
abbrev S8x128 : Shape := ⟨2, ![8, 128]⟩
abbrev S8x8 : Shape := ⟨2, ![8, 8]⟩
abbrev S1024 : Shape := ⟨1, ![1024]⟩
abbrev S128 : Shape := ⟨1, ![128]⟩
abbrev S_ : Shape := ⟨0, ![]⟩

abbrev nBuf : Space → Nat
  | .hbm => 315
  | .vmem => 0
  | .smem => 0
  | _ => 0

abbrev hbmTy0_0 (i : Nat) : BufTy := match i % 128 with
  | 0 => ⟨S8, .f32⟩
  | 1 => ⟨S8x1024, .f32⟩
  | 2 => ⟨S8x1024, .f32⟩
  | 3 => ⟨S8x1024, .f32⟩
  | 4 => ⟨S8x1024, .f32⟩
  | 5 => ⟨S8x1024, .f32⟩
  | 6 => ⟨S8x128, .f32⟩
  | 7 => ⟨S8x8, .f32⟩
  | 8 => ⟨S8x8, .f32⟩
  | 9 => ⟨S1024, .f32⟩
  | 10 => ⟨S1024, .f32⟩
  | 11 => ⟨S1024, .f32⟩
  | 12 => ⟨S1024, .f32⟩
  | 13 => ⟨S1024, .f32⟩
  | 14 => ⟨S128, .f32⟩
  | 15 => ⟨S8, .f32⟩
  | 16 => ⟨S8, .f32⟩
  | 17 => ⟨S1024, .f32⟩
  | 18 => ⟨S1024, .f32⟩
  | 19 => ⟨S1024, .f32⟩
  | 20 => ⟨S1024, .f32⟩
  | 21 => ⟨S1024, .f32⟩
  | 22 => ⟨S128, .f32⟩
  | 23 => ⟨S8, .f32⟩
  | 24 => ⟨S8, .f32⟩
  | 25 => ⟨S1024, .f32⟩
  | 26 => ⟨S1024, .f32⟩
  | 27 => ⟨S1024, .f32⟩
  | 28 => ⟨S1024, .f32⟩
  | 29 => ⟨S1024, .f32⟩
  | 30 => ⟨S128, .f32⟩
  | 31 => ⟨S8, .f32⟩
  | 32 => ⟨S8, .f32⟩
  | 33 => ⟨S_, .f32⟩
  | 34 => ⟨S1024, .f32⟩
  | 35 => ⟨S_, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S1024, .f32⟩
  | 46 => ⟨S_, .f32⟩
  | 47 => ⟨S1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S_, .f32⟩
  | 54 => ⟨S1024, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S_, .f32⟩
  | 69 => ⟨S1024, .f32⟩
  | 70 => ⟨S_, .f32⟩
  | 71 => ⟨S1024, .f32⟩
  | 72 => ⟨S1024, .f32⟩
  | 73 => ⟨S_, .f32⟩
  | 74 => ⟨S1024, .f32⟩
  | 75 => ⟨S1024, .f32⟩
  | 76 => ⟨S1024, .f32⟩
  | 77 => ⟨S_, .f32⟩
  | 78 => ⟨S1024, .f32⟩
  | 79 => ⟨S1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S_, .f32⟩
  | 86 => ⟨S1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S1024, .f32⟩
  | 100 => ⟨S_, .f32⟩
  | 101 => ⟨S1024, .f32⟩
  | 102 => ⟨S1024, .f32⟩
  | 103 => ⟨S_, .f32⟩
  | 104 => ⟨S1024, .f32⟩
  | 105 => ⟨S_, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S_, .f32⟩
  | 121 => ⟨S1024, .f32⟩
  | 122 => ⟨S1024, .f32⟩
  | 123 => ⟨S_, .f32⟩
  | 124 => ⟨S1024, .f32⟩
  | 125 => ⟨S1024, .f32⟩
  | 126 => ⟨S1024, .f32⟩
  | 127 => ⟨S_, .f32⟩
  | _ => ⟨S8, .f32⟩

abbrev hbmTy0_1 (i : Nat) : BufTy := match i % 128 with
  | 0 => ⟨S1024, .f32⟩
  | 1 => ⟨S1024, .f32⟩
  | 2 => ⟨S1024, .f32⟩
  | 3 => ⟨S_, .f32⟩
  | 4 => ⟨S1024, .f32⟩
  | 5 => ⟨S1024, .f32⟩
  | 6 => ⟨S1024, .f32⟩
  | 7 => ⟨S_, .f32⟩
  | 8 => ⟨S1024, .f32⟩
  | 9 => ⟨S1024, .f32⟩
  | 10 => ⟨S_, .f32⟩
  | 11 => ⟨S1024, .f32⟩
  | 12 => ⟨S_, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S_, .f32⟩
  | 20 => ⟨S1024, .f32⟩
  | 21 => ⟨S1024, .f32⟩
  | 22 => ⟨S1024, .f32⟩
  | 23 => ⟨S_, .f32⟩
  | 24 => ⟨S1024, .f32⟩
  | 25 => ⟨S1024, .f32⟩
  | 26 => ⟨S1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S_, .f32⟩
  | 35 => ⟨S1024, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S_, .f32⟩
  | 46 => ⟨S1024, .f32⟩
  | 47 => ⟨S_, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024, .f32⟩
  | 69 => ⟨S_, .f32⟩
  | 70 => ⟨S1024, .f32⟩
  | 71 => ⟨S1024, .f32⟩
  | 72 => ⟨S1024, .f32⟩
  | 73 => ⟨S_, .f32⟩
  | 74 => ⟨S1024, .f32⟩
  | 75 => ⟨S1024, .f32⟩
  | 76 => ⟨S1024, .f32⟩
  | 77 => ⟨S_, .f32⟩
  | 78 => ⟨S1024, .f32⟩
  | 79 => ⟨S1024, .f32⟩
  | 80 => ⟨S_, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S128, .f32⟩
  | 89 => ⟨S_, .f32⟩
  | 90 => ⟨S128, .f32⟩
  | 91 => ⟨S128, .f32⟩
  | 92 => ⟨S128, .f32⟩
  | 93 => ⟨S_, .f32⟩
  | 94 => ⟨S128, .f32⟩
  | 95 => ⟨S128, .f32⟩
  | 96 => ⟨S128, .f32⟩
  | 97 => ⟨S_, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S_, .f32⟩
  | 109 => ⟨S128, .f32⟩
  | 110 => ⟨S128, .f32⟩
  | 111 => ⟨S128, .f32⟩
  | 112 => ⟨S_, .f32⟩
  | 113 => ⟨S128, .f32⟩
  | 114 => ⟨S128, .f32⟩
  | 115 => ⟨S_, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S_, .f32⟩
  | 125 => ⟨S8, .f32⟩
  | 126 => ⟨S8, .f32⟩
  | 127 => ⟨S8, .f32⟩
  | _ => ⟨S8, .f32⟩

abbrev hbmTy0_2 (i : Nat) : BufTy := match i % 128 with
  | 0 => ⟨S_, .f32⟩
  | 1 => ⟨S8, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S_, .f32⟩
  | 36 => ⟨S8, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8, .f32⟩
  | 46 => ⟨S_, .f32⟩
  | 47 => ⟨S8, .f32⟩
  | 48 => ⟨S8, .f32⟩
  | 49 => ⟨S8, .f32⟩
  | 50 => ⟨S_, .f32⟩
  | 51 => ⟨S8, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S_, .f32⟩
  | _ => ⟨S8, .f32⟩

abbrev hbmTy (i : Nat) : BufTy := match i / 128 with
  | 0 => hbmTy0_0 i
  | 1 => hbmTy0_1 i
  | 2 => hbmTy0_2 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_cst : Ref sig .tc := ⟨.hbm, 33, rfl⟩
abbrev main_v0 : Ref sig .tc := ⟨.hbm, 34, rfl⟩
abbrev main_cst_0 : Ref sig .tc := ⟨.hbm, 35, rfl⟩
abbrev main_v1 : Ref sig .tc := ⟨.hbm, 36, rfl⟩
abbrev main_v2 : Ref sig .tc := ⟨.hbm, 37, rfl⟩
abbrev main_cst_1 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_cst_2 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst_3 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_4 : Ref sig .tc := ⟨.hbm, 50, rfl⟩
abbrev main_v12 : Ref sig .tc := ⟨.hbm, 51, rfl⟩
abbrev main_v13 : Ref sig .tc := ⟨.hbm, 52, rfl⟩
abbrev main_cst_5 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_6 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_7 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_8 : Ref sig .tc := ⟨.hbm, 65, rfl⟩
abbrev main_v23 : Ref sig .tc := ⟨.hbm, 66, rfl⟩
abbrev main_v24 : Ref sig .tc := ⟨.hbm, 67, rfl⟩
abbrev main_cst_9 : Ref sig .tc := ⟨.hbm, 68, rfl⟩
abbrev main_v25 : Ref sig .tc := ⟨.hbm, 69, rfl⟩
abbrev main_cst_10 : Ref sig .tc := ⟨.hbm, 70, rfl⟩
abbrev main_v26 : Ref sig .tc := ⟨.hbm, 71, rfl⟩
abbrev main_v27 : Ref sig .tc := ⟨.hbm, 72, rfl⟩
abbrev main_cst_11 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_12 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_13 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_14 : Ref sig .tc := ⟨.hbm, 85, rfl⟩
abbrev main_v37 : Ref sig .tc := ⟨.hbm, 86, rfl⟩
abbrev main_v38 : Ref sig .tc := ⟨.hbm, 87, rfl⟩
abbrev main_cst_15 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_16 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_17 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_18 : Ref sig .tc := ⟨.hbm, 100, rfl⟩
abbrev main_v48 : Ref sig .tc := ⟨.hbm, 101, rfl⟩
abbrev main_v49 : Ref sig .tc := ⟨.hbm, 102, rfl⟩
abbrev main_cst_19 : Ref sig .tc := ⟨.hbm, 103, rfl⟩
abbrev main_v50 : Ref sig .tc := ⟨.hbm, 104, rfl⟩
abbrev main_cst_20 : Ref sig .tc := ⟨.hbm, 105, rfl⟩
abbrev main_v51 : Ref sig .tc := ⟨.hbm, 106, rfl⟩
abbrev main_v52 : Ref sig .tc := ⟨.hbm, 107, rfl⟩
abbrev main_cst_21 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_22 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_23 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_24 : Ref sig .tc := ⟨.hbm, 120, rfl⟩
abbrev main_v62 : Ref sig .tc := ⟨.hbm, 121, rfl⟩
abbrev main_v63 : Ref sig .tc := ⟨.hbm, 122, rfl⟩
abbrev main_cst_25 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_26 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_27 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_28 : Ref sig .tc := ⟨.hbm, 135, rfl⟩
abbrev main_v73 : Ref sig .tc := ⟨.hbm, 136, rfl⟩
abbrev main_v74 : Ref sig .tc := ⟨.hbm, 137, rfl⟩
abbrev main_cst_29 : Ref sig .tc := ⟨.hbm, 138, rfl⟩
abbrev main_v75 : Ref sig .tc := ⟨.hbm, 139, rfl⟩
abbrev main_cst_30 : Ref sig .tc := ⟨.hbm, 140, rfl⟩
abbrev main_v76 : Ref sig .tc := ⟨.hbm, 141, rfl⟩
abbrev main_v77 : Ref sig .tc := ⟨.hbm, 142, rfl⟩
abbrev main_cst_31 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_cst_32 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_33 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_cst_34 : Ref sig .tc := ⟨.hbm, 155, rfl⟩
abbrev main_v87 : Ref sig .tc := ⟨.hbm, 156, rfl⟩
abbrev main_v88 : Ref sig .tc := ⟨.hbm, 157, rfl⟩
abbrev main_cst_35 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_cst_36 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_37 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_38 : Ref sig .tc := ⟨.hbm, 170, rfl⟩
abbrev main_v98 : Ref sig .tc := ⟨.hbm, 171, rfl⟩
abbrev main_v99 : Ref sig .tc := ⟨.hbm, 172, rfl⟩
abbrev main_cst_39 : Ref sig .tc := ⟨.hbm, 173, rfl⟩
abbrev main_v100 : Ref sig .tc := ⟨.hbm, 174, rfl⟩
abbrev main_cst_40 : Ref sig .tc := ⟨.hbm, 175, rfl⟩
abbrev main_v101 : Ref sig .tc := ⟨.hbm, 176, rfl⟩
abbrev main_v102 : Ref sig .tc := ⟨.hbm, 177, rfl⟩
abbrev main_cst_41 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_cst_42 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_cst_43 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_44 : Ref sig .tc := ⟨.hbm, 190, rfl⟩
abbrev main_v112 : Ref sig .tc := ⟨.hbm, 191, rfl⟩
abbrev main_v113 : Ref sig .tc := ⟨.hbm, 192, rfl⟩
abbrev main_cst_45 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_cst_46 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_cst_47 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_cst_48 : Ref sig .tc := ⟨.hbm, 205, rfl⟩
abbrev main_v123 : Ref sig .tc := ⟨.hbm, 206, rfl⟩
abbrev main_v124 : Ref sig .tc := ⟨.hbm, 207, rfl⟩
abbrev main_cst_49 : Ref sig .tc := ⟨.hbm, 208, rfl⟩
abbrev main_v125 : Ref sig .tc := ⟨.hbm, 209, rfl⟩
abbrev main_cst_50 : Ref sig .tc := ⟨.hbm, 210, rfl⟩
abbrev main_v126 : Ref sig .tc := ⟨.hbm, 211, rfl⟩
abbrev main_v127 : Ref sig .tc := ⟨.hbm, 212, rfl⟩
abbrev main_cst_51 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_cst_52 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_cst_53 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_cst_54 : Ref sig .tc := ⟨.hbm, 225, rfl⟩
abbrev main_v137 : Ref sig .tc := ⟨.hbm, 226, rfl⟩
abbrev main_v138 : Ref sig .tc := ⟨.hbm, 227, rfl⟩
abbrev main_cst_55 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_cst_56 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_cst_57 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_cst_58 : Ref sig .tc := ⟨.hbm, 240, rfl⟩
abbrev main_v148 : Ref sig .tc := ⟨.hbm, 241, rfl⟩
abbrev main_v149 : Ref sig .tc := ⟨.hbm, 242, rfl⟩
abbrev main_cst_59 : Ref sig .tc := ⟨.hbm, 243, rfl⟩
abbrev main_v150 : Ref sig .tc := ⟨.hbm, 244, rfl⟩
abbrev main_cst_60 : Ref sig .tc := ⟨.hbm, 245, rfl⟩
abbrev main_v151 : Ref sig .tc := ⟨.hbm, 246, rfl⟩
abbrev main_v152 : Ref sig .tc := ⟨.hbm, 247, rfl⟩
abbrev main_cst_61 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_cst_62 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_cst_63 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_cst_64 : Ref sig .tc := ⟨.hbm, 260, rfl⟩
abbrev main_v162 : Ref sig .tc := ⟨.hbm, 261, rfl⟩
abbrev main_v163 : Ref sig .tc := ⟨.hbm, 262, rfl⟩
abbrev main_cst_65 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_cst_66 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_cst_67 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_cst_68 : Ref sig .tc := ⟨.hbm, 275, rfl⟩
abbrev main_v173 : Ref sig .tc := ⟨.hbm, 276, rfl⟩
abbrev main_v174 : Ref sig .tc := ⟨.hbm, 277, rfl⟩
abbrev main_cst_69 : Ref sig .tc := ⟨.hbm, 278, rfl⟩
abbrev main_v175 : Ref sig .tc := ⟨.hbm, 279, rfl⟩
abbrev main_cst_70 : Ref sig .tc := ⟨.hbm, 280, rfl⟩
abbrev main_v176 : Ref sig .tc := ⟨.hbm, 281, rfl⟩
abbrev main_v177 : Ref sig .tc := ⟨.hbm, 282, rfl⟩
abbrev main_cst_71 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_cst_72 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_cst_73 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_cst_74 : Ref sig .tc := ⟨.hbm, 295, rfl⟩
abbrev main_v187 : Ref sig .tc := ⟨.hbm, 296, rfl⟩
abbrev main_v188 : Ref sig .tc := ⟨.hbm, 297, rfl⟩
abbrev main_cst_75 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_cst_76 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_cst_77 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_cst_78 : Ref sig .tc := ⟨.hbm, 310, rfl⟩
abbrev main_v198 : Ref sig .tc := ⟨.hbm, 311, rfl⟩
abbrev main_v199 : Ref sig .tc := ⟨.hbm, 312, rfl⟩
abbrev main_cst_79 : Ref sig .tc := ⟨.hbm, 313, rfl⟩
abbrev main_v200 : Ref sig .tc := ⟨.hbm, 314, rfl⟩

abbrev nD : Nat := 1
abbrev τ : Topo := Topo.v7x

variable {F : FTy → Type} [FloatOps F]
-- ==== GdnConv.lean ====
abbrev S8192x3072 : Shape := ⟨2, ![8192, 3072]⟩
abbrev S8x3072 : Shape := ⟨2, ![8, 3072]⟩
abbrev S512x1024 : Shape := ⟨2, ![512, 1024]⟩
abbrev S8x1024 : Shape := ⟨2, ![8, 1024]⟩
abbrev S8x520x1024 : Shape := ⟨3, ![8, 520, 1024]⟩
abbrev S1x8x1024 : Shape := ⟨3, ![1, 8, 1024]⟩
abbrev S1x512x1024 : Shape := ⟨3, ![1, 512, 1024]⟩
abbrev S1x520x1024 : Shape := ⟨3, ![1, 520, 1024]⟩
abbrev S520x1024 : Shape := ⟨2, ![520, 1024]⟩
abbrev S16x128 : Shape := ⟨2, ![16, 128]⟩
abbrev S1x16x128 : Shape := ⟨3, ![1, 16, 128]⟩
abbrev S1x128 : Shape := ⟨2, ![1, 128]⟩

abbrev nBuf : Space → Nat
  | .hbm => 3
  | .vmem => 9
  | .smem => 0
  | _ => 0

abbrev bufTy : (tb : Table) → Fin (tcTables nBuf tb) → BufTy
  | .hbm, ⟨0, _⟩ => ⟨S8192x3072, .f32⟩
  | .hbm, ⟨1, _⟩ => ⟨S8x3072, .f32⟩
  | .hbm, ⟨2, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S8x520x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 16], ![false, false]⟩

@[reducible] def k0_t1_loop : Scf.Loop 32 :=
  let c0_i32_17 : BitVec 32 := 0#32
  let c32_i32 : BitVec 32 := 32#32
  let v25 : BitVec 32 := Scalar.addi c0_i32_17 c32_i32
  let c1_i32 : BitVec 32 := 1#32
  ⟨c0_i32_17, v25, c1_i32⟩
def k0_mult1 (k0_t1 : Fin k0_t1_loop.trips) : BitVec 32 :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  v26
def k0_off1 (k0_t1 : Fin k0_t1_loop.trips) : Fin 3 → Nat :=
  let c5_21 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_20 : BitVec 32 := 0#32
  let v29 : BitVec 32 := Scalar.addi v27 c0_i32_20
  let v30 : Index := Scalar.indexCast v29
  let c0_22 : Index := 0#32
  ![5, v30.toNat, 0]
def k0_off2 (k0_t1 : Fin k0_t1_loop.trips) : Fin 3 → Nat :=
  let c6_26 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_25 : BitVec 32 := 0#32
  let v37 : BitVec 32 := Scalar.addi v27 c0_i32_25
  let v38 : Index := Scalar.indexCast v37
  let c0_27 : Index := 0#32
  ![6, v38.toNat, 0]
def k0_off3 (k0_t1 : Fin k0_t1_loop.trips) : Fin 3 → Nat :=
  let c7_30 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_29 : BitVec 32 := 0#32
  let v45 : BitVec 32 := Scalar.addi v27 c0_i32_29
  let v46 : Index := Scalar.indexCast v45
  let c0_31 : Index := 0#32
  ![7, v46.toNat, 0]
def k0_off4 (k0_t1 : Fin k0_t1_loop.trips) : Fin 3 → Nat :=
  let c0_33 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32 : BitVec 32 := 8#32
  let v53 : BitVec 32 := Scalar.addi v27 c8_i32
  let v54 : Index := Scalar.indexCast v53
  let c0_34 : Index := 0#32
  ![0, v54.toNat, 0]
def k0_off5 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v61 : Index := Scalar.indexCast v27
  let c0_36 : Index := 0#32
  ![v61.toNat, 0]
def k0_off6 (k0_t1 : Fin k0_t1_loop.trips) : Fin 3 → Nat :=
  let c5_39 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_38 : BitVec 32 := 0#32
  let v64 : BitVec 32 := Scalar.addi v27 c0_i32_38
  let v65 : Index := Scalar.indexCast v64
  let c128 : Index := 128#32
  ![5, v65.toNat, 128]
def k0_off7 (k0_t1 : Fin k0_t1_loop.trips) : Fin 3 → Nat :=
  let c6_43 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_42 : BitVec 32 := 0#32
  let v72 : BitVec 32 := Scalar.addi v27 c0_i32_42
  let v73 : Index := Scalar.indexCast v72
  let c128_44 : Index := 128#32
  ![6, v73.toNat, 128]
def k0_off8 (k0_t1 : Fin k0_t1_loop.trips) : Fin 3 → Nat :=
  let c7_48 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_47 : BitVec 32 := 0#32
  let v80 : BitVec 32 := Scalar.addi v27 c0_i32_47
  let v81 : Index := Scalar.indexCast v80
  let c128_49 : Index := 128#32
  ![7, v81.toNat, 128]
def k0_off9 (k0_t1 : Fin k0_t1_loop.trips) : Fin 3 → Nat :=
  let c0_53 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32_52 : BitVec 32 := 8#32
  let v88 : BitVec 32 := Scalar.addi v27 c8_i32_52
  let v89 : Index := Scalar.indexCast v88
  let c128_54 : Index := 128#32
  ![0, v89.toNat, 128]
def k0_off10 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v96 : Index := Scalar.indexCast v27
  let c128_57 : Index := 128#32
  ![v96.toNat, 128]
def k0_off11 (k0_t1 : Fin k0_t1_loop.trips) : Fin 3 → Nat :=
  let c5_60 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_59 : BitVec 32 := 0#32
  let v99 : BitVec 32 := Scalar.addi v27 c0_i32_59
  let v100 : Index := Scalar.indexCast v99
  let c256 : Index := 256#32
  ![5, v100.toNat, 256]
def k0_off12 (k0_t1 : Fin k0_t1_loop.trips) : Fin 3 → Nat :=
  let c6_64 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_63 : BitVec 32 := 0#32
  let v107 : BitVec 32 := Scalar.addi v27 c0_i32_63
  let v108 : Index := Scalar.indexCast v107
  let c256_65 : Index := 256#32
  ![6, v108.toNat, 256]
def k0_off13 (k0_t1 : Fin k0_t1_loop.trips) : Fin 3 → Nat :=
  let c7_69 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_68 : BitVec 32 := 0#32
  let v115 : BitVec 32 := Scalar.addi v27 c0_i32_68
  let v116 : Index := Scalar.indexCast v115
  let c256_70 : Index := 256#32
  ![7, v116.toNat, 256]
def k0_off14 (k0_t1 : Fin k0_t1_loop.trips) : Fin 3 → Nat :=
  let c0_74 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32_73 : BitVec 32 := 8#32
  let v123 : BitVec 32 := Scalar.addi v27 c8_i32_73
  let v124 : Index := Scalar.indexCast v123
  let c256_75 : Index := 256#32
  ![0, v124.toNat, 256]
def k0_off15 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v131 : Index := Scalar.indexCast v27
  let c256_78 : Index := 256#32
  ![v131.toNat, 256]
def k0_off16 (k0_t1 : Fin k0_t1_loop.trips) : Fin 3 → Nat :=
  let c5_81 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_80 : BitVec 32 := 0#32
  let v134 : BitVec 32 := Scalar.addi v27 c0_i32_80
  let v135 : Index := Scalar.indexCast v134
  let c384 : Index := 384#32
  ![5, v135.toNat, 384]
def k0_off17 (k0_t1 : Fin k0_t1_loop.trips) : Fin 3 → Nat :=
  let c6_85 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_84 : BitVec 32 := 0#32
  let v142 : BitVec 32 := Scalar.addi v27 c0_i32_84
  let v143 : Index := Scalar.indexCast v142
  let c384_86 : Index := 384#32
  ![6, v143.toNat, 384]
def k0_off18 (k0_t1 : Fin k0_t1_loop.trips) : Fin 3 → Nat :=
  let c7_90 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_89 : BitVec 32 := 0#32
  let v150 : BitVec 32 := Scalar.addi v27 c0_i32_89
  let v151 : Index := Scalar.indexCast v150
  let c384_91 : Index := 384#32
  ![7, v151.toNat, 384]
def k0_off19 (k0_t1 : Fin k0_t1_loop.trips) : Fin 3 → Nat :=
  let c0_95 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32_94 : BitVec 32 := 8#32
  let v158 : BitVec 32 := Scalar.addi v27 c8_i32_94
  let v159 : Index := Scalar.indexCast v158
  let c384_96 : Index := 384#32
  ![0, v159.toNat, 384]
def k0_off20 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v166 : Index := Scalar.indexCast v27
  let c384_99 : Index := 384#32
  ![v166.toNat, 384]
def k0_off21 (k0_t1 : Fin k0_t1_loop.trips) : Fin 3 → Nat :=
  let c5_102 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_101 : BitVec 32 := 0#32
  let v169 : BitVec 32 := Scalar.addi v27 c0_i32_101
  let v170 : Index := Scalar.indexCast v169
  let c512 : Index := 512#32
  ![5, v170.toNat, 512]
def k0_off22 (k0_t1 : Fin k0_t1_loop.trips) : Fin 3 → Nat :=
  let c6_106 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_105 : BitVec 32 := 0#32
  let v177 : BitVec 32 := Scalar.addi v27 c0_i32_105
  let v178 : Index := Scalar.indexCast v177
  let c512_107 : Index := 512#32
  ![6, v178.toNat, 512]
def k0_off23 (k0_t1 : Fin k0_t1_loop.trips) : Fin 3 → Nat :=
  let c7_111 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_110 : BitVec 32 := 0#32
  let v185 : BitVec 32 := Scalar.addi v27 c0_i32_110
  let v186 : Index := Scalar.indexCast v185
  let c512_112 : Index := 512#32
  ![7, v186.toNat, 512]
def k0_off24 (k0_t1 : Fin k0_t1_loop.trips) : Fin 3 → Nat :=
  let c0_116 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32_115 : BitVec 32 := 8#32
  let v193 : BitVec 32 := Scalar.addi v27 c8_i32_115
  let v194 : Index := Scalar.indexCast v193
  let c512_117 : Index := 512#32
  ![0, v194.toNat, 512]
def k0_off25 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v201 : Index := Scalar.indexCast v27
  let c512_120 : Index := 512#32
  ![v201.toNat, 512]
def k0_off26 (k0_t1 : Fin k0_t1_loop.trips) : Fin 3 → Nat :=
  let c5_123 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_122 : BitVec 32 := 0#32
  let v204 : BitVec 32 := Scalar.addi v27 c0_i32_122
  let v205 : Index := Scalar.indexCast v204
  let c640 : Index := 640#32
  ![5, v205.toNat, 640]
def k0_off27 (k0_t1 : Fin k0_t1_loop.trips) : Fin 3 → Nat :=
  let c6_127 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_126 : BitVec 32 := 0#32
  let v212 : BitVec 32 := Scalar.addi v27 c0_i32_126
  let v213 : Index := Scalar.indexCast v212
  let c640_128 : Index := 640#32
  ![6, v213.toNat, 640]
def k0_off28 (k0_t1 : Fin k0_t1_loop.trips) : Fin 3 → Nat :=
  let c7_132 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_131 : BitVec 32 := 0#32
  let v220 : BitVec 32 := Scalar.addi v27 c0_i32_131
  let v221 : Index := Scalar.indexCast v220
  let c640_133 : Index := 640#32
  ![7, v221.toNat, 640]
def k0_off29 (k0_t1 : Fin k0_t1_loop.trips) : Fin 3 → Nat :=
  let c0_137 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32_136 : BitVec 32 := 8#32
  let v228 : BitVec 32 := Scalar.addi v27 c8_i32_136
  let v229 : Index := Scalar.indexCast v228
  let c640_138 : Index := 640#32
  ![0, v229.toNat, 640]
def k0_off30 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v236 : Index := Scalar.indexCast v27
  let c640_141 : Index := 640#32
  ![v236.toNat, 640]
def k0_off31 (k0_t1 : Fin k0_t1_loop.trips) : Fin 3 → Nat :=
  let c5_144 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_143 : BitVec 32 := 0#32
  let v239 : BitVec 32 := Scalar.addi v27 c0_i32_143
  let v240 : Index := Scalar.indexCast v239
  let c768 : Index := 768#32
  ![5, v240.toNat, 768]
def k0_off32 (k0_t1 : Fin k0_t1_loop.trips) : Fin 3 → Nat :=
  let c6_148 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_147 : BitVec 32 := 0#32
  let v247 : BitVec 32 := Scalar.addi v27 c0_i32_147
  let v248 : Index := Scalar.indexCast v247
  let c768_149 : Index := 768#32
  ![6, v248.toNat, 768]
def k0_off33 (k0_t1 : Fin k0_t1_loop.trips) : Fin 3 → Nat :=
  let c7_153 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_152 : BitVec 32 := 0#32
  let v255 : BitVec 32 := Scalar.addi v27 c0_i32_152
  let v256 : Index := Scalar.indexCast v255
  let c768_154 : Index := 768#32
  ![7, v256.toNat, 768]
def k0_off34 (k0_t1 : Fin k0_t1_loop.trips) : Fin 3 → Nat :=
  let c0_158 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32_157 : BitVec 32 := 8#32
  let v263 : BitVec 32 := Scalar.addi v27 c8_i32_157
  let v264 : Index := Scalar.indexCast v263
  let c768_159 : Index := 768#32
  ![0, v264.toNat, 768]
def k0_off35 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v271 : Index := Scalar.indexCast v27
  let c768_162 : Index := 768#32
  ![v271.toNat, 768]
def k0_off36 (k0_t1 : Fin k0_t1_loop.trips) : Fin 3 → Nat :=
  let c5_165 : Index := 5#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_164 : BitVec 32 := 0#32
  let v274 : BitVec 32 := Scalar.addi v27 c0_i32_164
  let v275 : Index := Scalar.indexCast v274
  let c896 : Index := 896#32
  ![5, v275.toNat, 896]
def k0_off37 (k0_t1 : Fin k0_t1_loop.trips) : Fin 3 → Nat :=
  let c6_169 : Index := 6#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_168 : BitVec 32 := 0#32
  let v282 : BitVec 32 := Scalar.addi v27 c0_i32_168
  let v283 : Index := Scalar.indexCast v282
  let c896_170 : Index := 896#32
  ![6, v283.toNat, 896]
def k0_off38 (k0_t1 : Fin k0_t1_loop.trips) : Fin 3 → Nat :=
  let c7_174 : Index := 7#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c0_i32_173 : BitVec 32 := 0#32
  let v290 : BitVec 32 := Scalar.addi v27 c0_i32_173
  let v291 : Index := Scalar.indexCast v290
  let c896_175 : Index := 896#32
  ![7, v291.toNat, 896]
def k0_off39 (k0_t1 : Fin k0_t1_loop.trips) : Fin 3 → Nat :=
  let c0_179 : Index := 0#32
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let c8_i32_178 : BitVec 32 := 8#32
  let v298 : BitVec 32 := Scalar.addi v27 c8_i32_178
  let v299 : Index := Scalar.indexCast v298
  let c896_180 : Index := 896#32
  ![0, v299.toNat, 896]
def k0_off40 (k0_t1 : Fin k0_t1_loop.trips) : Fin 2 → Nat :=
  let c0_i32_17 : BitVec 32 := 0#32
  let c1_i32 : BitVec 32 := 1#32
  let arg7 : BitVec 32 := Scf.iv c0_i32_17 c1_i32 k0_t1
  let c16_i32 : BitVec 32 := 16#32
  let v26 : BitVec 32 := Scalar.muli arg7 c16_i32
  let v27 : BitVec 32 := v26
  let v306 : Index := Scalar.indexCast v27
  let c896_183 : Index := 896#32
  ![v306.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnConvRefIdeal.lean ====
abbrev S8192x3072 : Shape := ⟨2, ![8192, 3072]⟩
abbrev S8x3072 : Shape := ⟨2, ![8, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩

abbrev nBuf : Space → Nat
  | .hbm => 35
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8x3072, .f32⟩
  | .hbm, ⟨2, _⟩ => ⟨S_, .f32⟩
  | .hbm, ⟨3, _⟩ => ⟨S3x3072, .f32⟩
  | .hbm, ⟨4, _⟩ => ⟨S8195x3072, .f32⟩
  | .hbm, ⟨5, _⟩ => ⟨S1x3072, .f32⟩
  | .hbm, ⟨6, _⟩ => ⟨S3072, .f32⟩
  | .hbm, ⟨7, _⟩ => ⟨S8192x3072, .f32⟩
  | .hbm, ⟨8, _⟩ => ⟨S1x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S1x3072, .f32⟩
  | .hbm, ⟨15, _⟩ => ⟨S3072, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S1x3072, .f32⟩
  | .hbm, ⟨22, _⟩ => ⟨S3072, .f32⟩
  | .hbm, ⟨23, _⟩ => ⟨S8192x3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S1x3072, .f32⟩
  | .hbm, ⟨29, _⟩ => ⟨S3072, .f32⟩
  | .hbm, ⟨30, _⟩ => ⟨S8192x3072, .f32⟩
  | .hbm, ⟨31, _⟩ => ⟨S1x3072, .f32⟩
  | .hbm, ⟨32, _⟩ => ⟨S8192x3072, .f32⟩
  | .hbm, ⟨33, _⟩ => ⟨S8192x3072, .f32⟩
  | .hbm, ⟨34, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== ConfConv.lean ====
abbrev S8192x3072 : Shape := ⟨2, ![8192, 3072]⟩
abbrev S32x1024 : Shape := ⟨2, ![32, 1024]⟩
abbrev S1x1024 : Shape := ⟨2, ![1, 1024]⟩
abbrev S8192x1024 : Shape := ⟨2, ![8192, 1024]⟩
abbrev S256x1024 : Shape := ⟨2, ![256, 1024]⟩
abbrev S8x288x1024 : Shape := ⟨3, ![8, 288, 1024]⟩
abbrev S1x32x1024 : Shape := ⟨3, ![1, 32, 1024]⟩
abbrev S1x256x1024 : Shape := ⟨3, ![1, 256, 1024]⟩
abbrev S1x288x1024 : Shape := ⟨3, ![1, 288, 1024]⟩
abbrev S288x1024 : Shape := ⟨2, ![288, 1024]⟩
abbrev S16x128 : Shape := ⟨2, ![16, 128]⟩
abbrev S1x16x128 : Shape := ⟨3, ![1, 16, 128]⟩
abbrev S1x128 : Shape := ⟨2, ![1, 128]⟩
abbrev S256 : Shape := ⟨1, ![256]⟩
abbrev S256x1 : Shape := ⟨2, ![256, 1]⟩

abbrev nBuf : Space → Nat
  | .hbm => 7
  | .vmem => 19
  | .smem => 0
  | _ => 0

abbrev bufTy : (tb : Table) → Fin (tcTables nBuf tb) → BufTy
  | .hbm, ⟨0, _⟩ => ⟨S8192x3072, .f32⟩
  | .hbm, ⟨1, _⟩ => ⟨S32x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x288x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_29 : BitVec 32 := 0#32
  let c16_i32 : BitVec 32 := 16#32
  let v47 : BitVec 32 := Scalar.addi c0_i32_29 c16_i32
  let c1_i32 : BitVec 32 := 1#32
  ⟨c0_i32_29, v47, c1_i32⟩
def k0_mult1 (k0_t1 : Fin k0_t1_loop.trips) : BitVec 32 :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  v80
def k0_off1 (k0_t1 : Fin k0_t1_loop.trips) (c0_i32_48 : BitVec 32) : Fin 3 → Nat :=
  let c2_49 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v83 : BitVec 32 := Scalar.addi v81 c0_i32_48
  let v84 : Index := Scalar.indexCast v83
  let c0_50 : Index := 0#32
  ![2, v84.toNat, 0]
def k0_off2 (k0_t1 : Fin k0_t1_loop.trips) (c0_i32_53 : BitVec 32) : Fin 3 → Nat :=
  let c3_54 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v91 : BitVec 32 := Scalar.addi v81 c0_i32_53
  let v92 : Index := Scalar.indexCast v91
  let c0_55 : Index := 0#32
  ![3, v92.toNat, 0]
def k0_off3 (k0_t1 : Fin k0_t1_loop.trips) (c0_i32_58 : BitVec 32) : Fin 3 → Nat :=
  let c4_59 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v99 : BitVec 32 := Scalar.addi v81 c0_i32_58
  let v100 : Index := Scalar.indexCast v99
  let c0_60 : Index := 0#32
  ![4, v100.toNat, 0]
def k0_off4 (k0_t1 : Fin k0_t1_loop.trips) (c0_i32_63 : BitVec 32) : Fin 3 → Nat :=
  let c5_64 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v107 : BitVec 32 := Scalar.addi v81 c0_i32_63
  let v108 : Index := Scalar.indexCast v107
  let c0_65 : Index := 0#32
  ![5, v108.toNat, 0]
def k0_off5 (k0_t1 : Fin k0_t1_loop.trips) (c0_i32_68 : BitVec 32) : Fin 3 → Nat :=
  let c6_69 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v115 : BitVec 32 := Scalar.addi v81 c0_i32_68
  let v116 : Index := Scalar.indexCast v115
  let c0_70 : Index := 0#32
  ![6, v116.toNat, 0]
def k0_off6 (k0_t1 : Fin k0_t1_loop.trips) (c0_i32_73 : BitVec 32) : Fin 3 → Nat :=
  let c7_74 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v123 : BitVec 32 := Scalar.addi v81 c0_i32_73
  let v124 : Index := Scalar.indexCast v123
  let c0_75 : Index := 0#32
  ![7, v124.toNat, 0]
def k0_off7 (k0_t1 : Fin k0_t1_loop.trips) (c8_i32 : BitVec 32) : Fin 3 → Nat :=
  let c0_78 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v131 : BitVec 32 := Scalar.addi v81 c8_i32
  let v132 : Index := Scalar.indexCast v131
  let c0_79 : Index := 0#32
  ![0, v132.toNat, 0]
def k0_off8 (k0_t1 : Fin k0_t1_loop.trips) (c8_i32_82 : BitVec 32) : Fin 3 → Nat :=
  let c1_83 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v139 : BitVec 32 := Scalar.addi v81 c8_i32_82
  let v140 : Index := Scalar.indexCast v139
  let c0_84 : Index := 0#32
  ![1, v140.toNat, 0]
def k0_off9 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v334 : Index := Scalar.indexCast v81
  let c0_179 : Index := 0#32
  ![v334.toNat, 0]
def k0_off10 (k0_t1 : Fin k0_t1_loop.trips) (c0_i32_181 : BitVec 32) : Fin 3 → Nat :=
  let c2_182 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v337 : BitVec 32 := Scalar.addi v81 c0_i32_181
  let v338 : Index := Scalar.indexCast v337
  let c128 : Index := 128#32
  ![2, v338.toNat, 128]
def k0_off11 (k0_t1 : Fin k0_t1_loop.trips) (c0_i32_185 : BitVec 32) : Fin 3 → Nat :=
  let c3_186 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v345 : BitVec 32 := Scalar.addi v81 c0_i32_185
  let v346 : Index := Scalar.indexCast v345
  let c128_187 : Index := 128#32
  ![3, v346.toNat, 128]
def k0_off12 (k0_t1 : Fin k0_t1_loop.trips) (c0_i32_190 : BitVec 32) : Fin 3 → Nat :=
  let c4_191 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v353 : BitVec 32 := Scalar.addi v81 c0_i32_190
  let v354 : Index := Scalar.indexCast v353
  let c128_192 : Index := 128#32
  ![4, v354.toNat, 128]
def k0_off13 (k0_t1 : Fin k0_t1_loop.trips) (c0_i32_195 : BitVec 32) : Fin 3 → Nat :=
  let c5_196 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v361 : BitVec 32 := Scalar.addi v81 c0_i32_195
  let v362 : Index := Scalar.indexCast v361
  let c128_197 : Index := 128#32
  ![5, v362.toNat, 128]
def k0_off14 (k0_t1 : Fin k0_t1_loop.trips) (c0_i32_200 : BitVec 32) : Fin 3 → Nat :=
  let c6_201 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v369 : BitVec 32 := Scalar.addi v81 c0_i32_200
  let v370 : Index := Scalar.indexCast v369
  let c128_202 : Index := 128#32
  ![6, v370.toNat, 128]
def k0_off15 (k0_t1 : Fin k0_t1_loop.trips) (c0_i32_205 : BitVec 32) : Fin 3 → Nat :=
  let c7_206 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v377 : BitVec 32 := Scalar.addi v81 c0_i32_205
  let v378 : Index := Scalar.indexCast v377
  let c128_207 : Index := 128#32
  ![7, v378.toNat, 128]
def k0_off16 (k0_t1 : Fin k0_t1_loop.trips) (c8_i32_210 : BitVec 32) : Fin 3 → Nat :=
  let c0_211 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v385 : BitVec 32 := Scalar.addi v81 c8_i32_210
  let v386 : Index := Scalar.indexCast v385
  let c128_212 : Index := 128#32
  ![0, v386.toNat, 128]
def k0_off17 (k0_t1 : Fin k0_t1_loop.trips) (c8_i32_215 : BitVec 32) : Fin 3 → Nat :=
  let c1_216 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v393 : BitVec 32 := Scalar.addi v81 c8_i32_215
  let v394 : Index := Scalar.indexCast v393
  let c128_217 : Index := 128#32
  ![1, v394.toNat, 128]
def k0_off18 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v588 : Index := Scalar.indexCast v81
  let c128_337 : Index := 128#32
  ![v588.toNat, 128]
def k0_off19 (k0_t1 : Fin k0_t1_loop.trips) (c0_i32_339 : BitVec 32) : Fin 3 → Nat :=
  let c2_340 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v591 : BitVec 32 := Scalar.addi v81 c0_i32_339
  let v592 : Index := Scalar.indexCast v591
  let c256 : Index := 256#32
  ![2, v592.toNat, 256]
def k0_off20 (k0_t1 : Fin k0_t1_loop.trips) (c0_i32_343 : BitVec 32) : Fin 3 → Nat :=
  let c3_344 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v599 : BitVec 32 := Scalar.addi v81 c0_i32_343
  let v600 : Index := Scalar.indexCast v599
  let c256_345 : Index := 256#32
  ![3, v600.toNat, 256]
def k0_off21 (k0_t1 : Fin k0_t1_loop.trips) (c0_i32_348 : BitVec 32) : Fin 3 → Nat :=
  let c4_349 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v607 : BitVec 32 := Scalar.addi v81 c0_i32_348
  let v608 : Index := Scalar.indexCast v607
  let c256_350 : Index := 256#32
  ![4, v608.toNat, 256]
def k0_off22 (k0_t1 : Fin k0_t1_loop.trips) (c0_i32_353 : BitVec 32) : Fin 3 → Nat :=
  let c5_354 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v615 : BitVec 32 := Scalar.addi v81 c0_i32_353
  let v616 : Index := Scalar.indexCast v615
  let c256_355 : Index := 256#32
  ![5, v616.toNat, 256]
def k0_off23 (k0_t1 : Fin k0_t1_loop.trips) (c0_i32_358 : BitVec 32) : Fin 3 → Nat :=
  let c6_359 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v623 : BitVec 32 := Scalar.addi v81 c0_i32_358
  let v624 : Index := Scalar.indexCast v623
  let c256_360 : Index := 256#32
  ![6, v624.toNat, 256]
def k0_off24 (k0_t1 : Fin k0_t1_loop.trips) (c0_i32_363 : BitVec 32) : Fin 3 → Nat :=
  let c7_364 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v631 : BitVec 32 := Scalar.addi v81 c0_i32_363
  let v632 : Index := Scalar.indexCast v631
  let c256_365 : Index := 256#32
  ![7, v632.toNat, 256]
def k0_off25 (k0_t1 : Fin k0_t1_loop.trips) (c8_i32_368 : BitVec 32) : Fin 3 → Nat :=
  let c0_369 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v639 : BitVec 32 := Scalar.addi v81 c8_i32_368
  let v640 : Index := Scalar.indexCast v639
  let c256_370 : Index := 256#32
  ![0, v640.toNat, 256]
def k0_off26 (k0_t1 : Fin k0_t1_loop.trips) (c8_i32_373 : BitVec 32) : Fin 3 → Nat :=
  let c1_374 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v647 : BitVec 32 := Scalar.addi v81 c8_i32_373
  let v648 : Index := Scalar.indexCast v647
  let c256_375 : Index := 256#32
  ![1, v648.toNat, 256]
def k0_off27 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v842 : Index := Scalar.indexCast v81
  let c256_495 : Index := 256#32
  ![v842.toNat, 256]
def k0_off28 (k0_t1 : Fin k0_t1_loop.trips) (c0_i32_497 : BitVec 32) : Fin 3 → Nat :=
  let c2_498 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v845 : BitVec 32 := Scalar.addi v81 c0_i32_497
  let v846 : Index := Scalar.indexCast v845
  let c384 : Index := 384#32
  ![2, v846.toNat, 384]
def k0_off29 (k0_t1 : Fin k0_t1_loop.trips) (c0_i32_501 : BitVec 32) : Fin 3 → Nat :=
  let c3_502 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v853 : BitVec 32 := Scalar.addi v81 c0_i32_501
  let v854 : Index := Scalar.indexCast v853
  let c384_503 : Index := 384#32
  ![3, v854.toNat, 384]
def k0_off30 (k0_t1 : Fin k0_t1_loop.trips) (c0_i32_506 : BitVec 32) : Fin 3 → Nat :=
  let c4_507 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v861 : BitVec 32 := Scalar.addi v81 c0_i32_506
  let v862 : Index := Scalar.indexCast v861
  let c384_508 : Index := 384#32
  ![4, v862.toNat, 384]
def k0_off31 (k0_t1 : Fin k0_t1_loop.trips) (c0_i32_511 : BitVec 32) : Fin 3 → Nat :=
  let c5_512 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v869 : BitVec 32 := Scalar.addi v81 c0_i32_511
  let v870 : Index := Scalar.indexCast v869
  let c384_513 : Index := 384#32
  ![5, v870.toNat, 384]
def k0_off32 (k0_t1 : Fin k0_t1_loop.trips) (c0_i32_516 : BitVec 32) : Fin 3 → Nat :=
  let c6_517 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v877 : BitVec 32 := Scalar.addi v81 c0_i32_516
  let v878 : Index := Scalar.indexCast v877
  let c384_518 : Index := 384#32
  ![6, v878.toNat, 384]
def k0_off33 (k0_t1 : Fin k0_t1_loop.trips) (c0_i32_521 : BitVec 32) : Fin 3 → Nat :=
  let c7_522 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v885 : BitVec 32 := Scalar.addi v81 c0_i32_521
  let v886 : Index := Scalar.indexCast v885
  let c384_523 : Index := 384#32
  ![7, v886.toNat, 384]
def k0_off34 (k0_t1 : Fin k0_t1_loop.trips) (c8_i32_526 : BitVec 32) : Fin 3 → Nat :=
  let c0_527 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v893 : BitVec 32 := Scalar.addi v81 c8_i32_526
  let v894 : Index := Scalar.indexCast v893
  let c384_528 : Index := 384#32
  ![0, v894.toNat, 384]
def k0_off35 (k0_t1 : Fin k0_t1_loop.trips) (c8_i32_531 : BitVec 32) : Fin 3 → Nat :=
  let c1_532 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v901 : BitVec 32 := Scalar.addi v81 c8_i32_531
  let v902 : Index := Scalar.indexCast v901
  let c384_533 : Index := 384#32
  ![1, v902.toNat, 384]
def k0_off36 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1096 : Index := Scalar.indexCast v81
  let c384_653 : Index := 384#32
  ![v1096.toNat, 384]
def k0_off37 (k0_t1 : Fin k0_t1_loop.trips) (c0_i32_655 : BitVec 32) : Fin 3 → Nat :=
  let c2_656 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1099 : BitVec 32 := Scalar.addi v81 c0_i32_655
  let v1100 : Index := Scalar.indexCast v1099
  let c512 : Index := 512#32
  ![2, v1100.toNat, 512]
def k0_off38 (k0_t1 : Fin k0_t1_loop.trips) (c0_i32_659 : BitVec 32) : Fin 3 → Nat :=
  let c3_660 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1107 : BitVec 32 := Scalar.addi v81 c0_i32_659
  let v1108 : Index := Scalar.indexCast v1107
  let c512_661 : Index := 512#32
  ![3, v1108.toNat, 512]
def k0_off39 (k0_t1 : Fin k0_t1_loop.trips) (c0_i32_664 : BitVec 32) : Fin 3 → Nat :=
  let c4_665 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1115 : BitVec 32 := Scalar.addi v81 c0_i32_664
  let v1116 : Index := Scalar.indexCast v1115
  let c512_666 : Index := 512#32
  ![4, v1116.toNat, 512]
def k0_off40 (k0_t1 : Fin k0_t1_loop.trips) (c0_i32_669 : BitVec 32) : Fin 3 → Nat :=
  let c5_670 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1123 : BitVec 32 := Scalar.addi v81 c0_i32_669
  let v1124 : Index := Scalar.indexCast v1123
  let c512_671 : Index := 512#32
  ![5, v1124.toNat, 512]
def k0_off41 (k0_t1 : Fin k0_t1_loop.trips) (c0_i32_674 : BitVec 32) : Fin 3 → Nat :=
  let c6_675 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1131 : BitVec 32 := Scalar.addi v81 c0_i32_674
  let v1132 : Index := Scalar.indexCast v1131
  let c512_676 : Index := 512#32
  ![6, v1132.toNat, 512]
def k0_off42 (k0_t1 : Fin k0_t1_loop.trips) (c0_i32_679 : BitVec 32) : Fin 3 → Nat :=
  let c7_680 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1139 : BitVec 32 := Scalar.addi v81 c0_i32_679
  let v1140 : Index := Scalar.indexCast v1139
  let c512_681 : Index := 512#32
  ![7, v1140.toNat, 512]
def k0_off43 (k0_t1 : Fin k0_t1_loop.trips) (c8_i32_684 : BitVec 32) : Fin 3 → Nat :=
  let c0_685 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1147 : BitVec 32 := Scalar.addi v81 c8_i32_684
  let v1148 : Index := Scalar.indexCast v1147
  let c512_686 : Index := 512#32
  ![0, v1148.toNat, 512]
def k0_off44 (k0_t1 : Fin k0_t1_loop.trips) (c8_i32_689 : BitVec 32) : Fin 3 → Nat :=
  let c1_690 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1155 : BitVec 32 := Scalar.addi v81 c8_i32_689
  let v1156 : Index := Scalar.indexCast v1155
  let c512_691 : Index := 512#32
  ![1, v1156.toNat, 512]
def k0_off45 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1350 : Index := Scalar.indexCast v81
  let c512_811 : Index := 512#32
  ![v1350.toNat, 512]
def k0_off46 (k0_t1 : Fin k0_t1_loop.trips) (c0_i32_813 : BitVec 32) : Fin 3 → Nat :=
  let c2_814 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1353 : BitVec 32 := Scalar.addi v81 c0_i32_813
  let v1354 : Index := Scalar.indexCast v1353
  let c640 : Index := 640#32
  ![2, v1354.toNat, 640]
def k0_off47 (k0_t1 : Fin k0_t1_loop.trips) (c0_i32_817 : BitVec 32) : Fin 3 → Nat :=
  let c3_818 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1361 : BitVec 32 := Scalar.addi v81 c0_i32_817
  let v1362 : Index := Scalar.indexCast v1361
  let c640_819 : Index := 640#32
  ![3, v1362.toNat, 640]
def k0_off48 (k0_t1 : Fin k0_t1_loop.trips) (c0_i32_822 : BitVec 32) : Fin 3 → Nat :=
  let c4_823 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1369 : BitVec 32 := Scalar.addi v81 c0_i32_822
  let v1370 : Index := Scalar.indexCast v1369
  let c640_824 : Index := 640#32
  ![4, v1370.toNat, 640]
def k0_off49 (k0_t1 : Fin k0_t1_loop.trips) (c0_i32_827 : BitVec 32) : Fin 3 → Nat :=
  let c5_828 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1377 : BitVec 32 := Scalar.addi v81 c0_i32_827
  let v1378 : Index := Scalar.indexCast v1377
  let c640_829 : Index := 640#32
  ![5, v1378.toNat, 640]
def k0_off50 (k0_t1 : Fin k0_t1_loop.trips) (c0_i32_832 : BitVec 32) : Fin 3 → Nat :=
  let c6_833 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1385 : BitVec 32 := Scalar.addi v81 c0_i32_832
  let v1386 : Index := Scalar.indexCast v1385
  let c640_834 : Index := 640#32
  ![6, v1386.toNat, 640]
def k0_off51 (k0_t1 : Fin k0_t1_loop.trips) (c0_i32_837 : BitVec 32) : Fin 3 → Nat :=
  let c7_838 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1393 : BitVec 32 := Scalar.addi v81 c0_i32_837
  let v1394 : Index := Scalar.indexCast v1393
  let c640_839 : Index := 640#32
  ![7, v1394.toNat, 640]
def k0_off52 (k0_t1 : Fin k0_t1_loop.trips) (c8_i32_842 : BitVec 32) : Fin 3 → Nat :=
  let c0_843 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1401 : BitVec 32 := Scalar.addi v81 c8_i32_842
  let v1402 : Index := Scalar.indexCast v1401
  let c640_844 : Index := 640#32
  ![0, v1402.toNat, 640]
def k0_off53 (k0_t1 : Fin k0_t1_loop.trips) (c8_i32_847 : BitVec 32) : Fin 3 → Nat :=
  let c1_848 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1409 : BitVec 32 := Scalar.addi v81 c8_i32_847
  let v1410 : Index := Scalar.indexCast v1409
  let c640_849 : Index := 640#32
  ![1, v1410.toNat, 640]
def k0_off54 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1604 : Index := Scalar.indexCast v81
  let c640_969 : Index := 640#32
  ![v1604.toNat, 640]
def k0_off55 (k0_t1 : Fin k0_t1_loop.trips) (c0_i32_971 : BitVec 32) : Fin 3 → Nat :=
  let c2_972 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1607 : BitVec 32 := Scalar.addi v81 c0_i32_971
  let v1608 : Index := Scalar.indexCast v1607
  let c768 : Index := 768#32
  ![2, v1608.toNat, 768]
def k0_off56 (k0_t1 : Fin k0_t1_loop.trips) (c0_i32_975 : BitVec 32) : Fin 3 → Nat :=
  let c3_976 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1615 : BitVec 32 := Scalar.addi v81 c0_i32_975
  let v1616 : Index := Scalar.indexCast v1615
  let c768_977 : Index := 768#32
  ![3, v1616.toNat, 768]
def k0_off57 (k0_t1 : Fin k0_t1_loop.trips) (c0_i32_980 : BitVec 32) : Fin 3 → Nat :=
  let c4_981 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1623 : BitVec 32 := Scalar.addi v81 c0_i32_980
  let v1624 : Index := Scalar.indexCast v1623
  let c768_982 : Index := 768#32
  ![4, v1624.toNat, 768]
def k0_off58 (k0_t1 : Fin k0_t1_loop.trips) (c0_i32_985 : BitVec 32) : Fin 3 → Nat :=
  let c5_986 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1631 : BitVec 32 := Scalar.addi v81 c0_i32_985
  let v1632 : Index := Scalar.indexCast v1631
  let c768_987 : Index := 768#32
  ![5, v1632.toNat, 768]
def k0_off59 (k0_t1 : Fin k0_t1_loop.trips) (c0_i32_990 : BitVec 32) : Fin 3 → Nat :=
  let c6_991 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1639 : BitVec 32 := Scalar.addi v81 c0_i32_990
  let v1640 : Index := Scalar.indexCast v1639
  let c768_992 : Index := 768#32
  ![6, v1640.toNat, 768]
def k0_off60 (k0_t1 : Fin k0_t1_loop.trips) (c0_i32_995 : BitVec 32) : Fin 3 → Nat :=
  let c7_996 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1647 : BitVec 32 := Scalar.addi v81 c0_i32_995
  let v1648 : Index := Scalar.indexCast v1647
  let c768_997 : Index := 768#32
  ![7, v1648.toNat, 768]
def k0_off61 (k0_t1 : Fin k0_t1_loop.trips) (c8_i32_1000 : BitVec 32) : Fin 3 → Nat :=
  let c0_1001 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1655 : BitVec 32 := Scalar.addi v81 c8_i32_1000
  let v1656 : Index := Scalar.indexCast v1655
  let c768_1002 : Index := 768#32
  ![0, v1656.toNat, 768]
def k0_off62 (k0_t1 : Fin k0_t1_loop.trips) (c8_i32_1005 : BitVec 32) : Fin 3 → Nat :=
  let c1_1006 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1663 : BitVec 32 := Scalar.addi v81 c8_i32_1005
  let v1664 : Index := Scalar.indexCast v1663
  let c768_1007 : Index := 768#32
  ![1, v1664.toNat, 768]
def k0_off63 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1858 : Index := Scalar.indexCast v81
  let c768_1127 : Index := 768#32
  ![v1858.toNat, 768]
def k0_off64 (k0_t1 : Fin k0_t1_loop.trips) (c0_i32_1129 : BitVec 32) : Fin 3 → Nat :=
  let c2_1130 : Index := 2#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1861 : BitVec 32 := Scalar.addi v81 c0_i32_1129
  let v1862 : Index := Scalar.indexCast v1861
  let c896 : Index := 896#32
  ![2, v1862.toNat, 896]
def k0_off65 (k0_t1 : Fin k0_t1_loop.trips) (c0_i32_1133 : BitVec 32) : Fin 3 → Nat :=
  let c3_1134 : Index := 3#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1869 : BitVec 32 := Scalar.addi v81 c0_i32_1133
  let v1870 : Index := Scalar.indexCast v1869
  let c896_1135 : Index := 896#32
  ![3, v1870.toNat, 896]
def k0_off66 (k0_t1 : Fin k0_t1_loop.trips) (c0_i32_1138 : BitVec 32) : Fin 3 → Nat :=
  let c4_1139 : Index := 4#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1877 : BitVec 32 := Scalar.addi v81 c0_i32_1138
  let v1878 : Index := Scalar.indexCast v1877
  let c896_1140 : Index := 896#32
  ![4, v1878.toNat, 896]
def k0_off67 (k0_t1 : Fin k0_t1_loop.trips) (c0_i32_1143 : BitVec 32) : Fin 3 → Nat :=
  let c5_1144 : Index := 5#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1885 : BitVec 32 := Scalar.addi v81 c0_i32_1143
  let v1886 : Index := Scalar.indexCast v1885
  let c896_1145 : Index := 896#32
  ![5, v1886.toNat, 896]
def k0_off68 (k0_t1 : Fin k0_t1_loop.trips) (c0_i32_1148 : BitVec 32) : Fin 3 → Nat :=
  let c6_1149 : Index := 6#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1893 : BitVec 32 := Scalar.addi v81 c0_i32_1148
  let v1894 : Index := Scalar.indexCast v1893
  let c896_1150 : Index := 896#32
  ![6, v1894.toNat, 896]
def k0_off69 (k0_t1 : Fin k0_t1_loop.trips) (c0_i32_1153 : BitVec 32) : Fin 3 → Nat :=
  let c7_1154 : Index := 7#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1901 : BitVec 32 := Scalar.addi v81 c0_i32_1153
  let v1902 : Index := Scalar.indexCast v1901
  let c896_1155 : Index := 896#32
  ![7, v1902.toNat, 896]
def k0_off70 (k0_t1 : Fin k0_t1_loop.trips) (c8_i32_1158 : BitVec 32) : Fin 3 → Nat :=
  let c0_1159 : Index := 0#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1909 : BitVec 32 := Scalar.addi v81 c8_i32_1158
  let v1910 : Index := Scalar.indexCast v1909
  let c896_1160 : Index := 896#32
  ![0, v1910.toNat, 896]
def k0_off71 (k0_t1 : Fin k0_t1_loop.trips) (c8_i32_1163 : BitVec 32) : Fin 3 → Nat :=
  let c1_1164 : Index := 1#32
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v1917 : BitVec 32 := Scalar.addi v81 c8_i32_1163
  let v1918 : Index := Scalar.indexCast v1917
  let c896_1165 : Index := 896#32
  ![1, v1918.toNat, 896]
def k0_off72 (k0_t1 : Fin k0_t1_loop.trips) : Fin 2 → Nat :=
  let c0_i32_29 : BitVec 32 := 0#32
  let c1_i32 : BitVec 32 := 1#32
  let arg13 : BitVec 32 := Scf.iv c0_i32_29 c1_i32 k0_t1
  let c16_i32_46 : BitVec 32 := 16#32
  let v80 : BitVec 32 := Scalar.muli arg13 c16_i32_46
  let v81 : BitVec 32 := v80
  let v2112 : Index := Scalar.indexCast v81
  let c896_1285 : Index := 896#32
  ![v2112.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConfConvRefIdeal.lean ====
abbrev S8192x3072 : Shape := ⟨2, ![8192, 3072]⟩
abbrev S32x1024 : Shape := ⟨2, ![32, 1024]⟩
abbrev S1x1024 : Shape := ⟨2, ![1, 1024]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S1024 : Shape := ⟨1, ![1024]⟩
abbrev S8192 : Shape := ⟨1, ![8192]⟩
abbrev S8192x1 : Shape := ⟨2, ![8192, 1]⟩

abbrev nBuf : Space → Nat
  | .hbm => 294
  | .vmem => 0
  | .smem => 0
  | _ => 0

abbrev hbmTy0_0 (i : Nat) : BufTy := match i % 128 with
  | 0 => ⟨S8192x3072, .f32⟩
  | 1 => ⟨S32x1024, .f32⟩
  | 2 => ⟨S1x1024, .f32⟩
  | 3 => ⟨S1x1024, .f32⟩
  | 4 => ⟨S1x1024, .f32⟩
  | 5 => ⟨S8192x1024, .f32⟩
  | 6 => ⟨S8192x1024, .f32⟩
  | 7 => ⟨S8192x1024, .f32⟩
  | 8 => ⟨S_, .f32⟩
  | 9 => ⟨S30x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8222x1024, .f32⟩
  | 20 => ⟨S1x1024, .f32⟩
  | 21 => ⟨S1024, .f32⟩
  | 22 => ⟨S8192x1024, .f32⟩
  | 23 => ⟨S1x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S1x1024, .f32⟩
  | 30 => ⟨S1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S8192x1024, .f32⟩
  | 39 => ⟨S1x1024, .f32⟩
  | 40 => ⟨S8192x1024, .f32⟩
  | 41 => ⟨S8192x1024, .f32⟩
  | 42 => ⟨S8192x1024, .f32⟩
  | 43 => ⟨S1x1024, .f32⟩
  | 44 => ⟨S1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S1x1024, .f32⟩
  | 51 => ⟨S1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S1x1024, .f32⟩
  | 58 => ⟨S1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S1x1024, .f32⟩
  | 65 => ⟨S1024, .f32⟩
  | 66 => ⟨S8192x1024, .f32⟩
  | 67 => ⟨S1x1024, .f32⟩
  | 68 => ⟨S8192x1024, .f32⟩
  | 69 => ⟨S8192x1024, .f32⟩
  | 70 => ⟨S8192x1024, .f32⟩
  | 71 => ⟨S1x1024, .f32⟩
  | 72 => ⟨S1024, .f32⟩
  | 73 => ⟨S8192x1024, .f32⟩
  | 74 => ⟨S1x1024, .f32⟩
  | 75 => ⟨S8192x1024, .f32⟩
  | 76 => ⟨S8192x1024, .f32⟩
  | 77 => ⟨S8192x1024, .f32⟩
  | 78 => ⟨S1x1024, .f32⟩
  | 79 => ⟨S1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S1x1024, .f32⟩
  | 86 => ⟨S1024, .f32⟩
  | 87 => ⟨S8192x1024, .f32⟩
  | 88 => ⟨S1x1024, .f32⟩
  | 89 => ⟨S8192x1024, .f32⟩
  | 90 => ⟨S8192x1024, .f32⟩
  | 91 => ⟨S8192x1024, .f32⟩
  | 92 => ⟨S1x1024, .f32⟩
  | 93 => ⟨S1024, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S1x1024, .f32⟩
  | 100 => ⟨S1024, .f32⟩
  | 101 => ⟨S8192x1024, .f32⟩
  | 102 => ⟨S1x1024, .f32⟩
  | 103 => ⟨S8192x1024, .f32⟩
  | 104 => ⟨S8192x1024, .f32⟩
  | 105 => ⟨S8192x1024, .f32⟩
  | 106 => ⟨S1x1024, .f32⟩
  | 107 => ⟨S1024, .f32⟩
  | 108 => ⟨S8192x1024, .f32⟩
  | 109 => ⟨S1x1024, .f32⟩
  | 110 => ⟨S8192x1024, .f32⟩
  | 111 => ⟨S8192x1024, .f32⟩
  | 112 => ⟨S8192x1024, .f32⟩
  | 113 => ⟨S1x1024, .f32⟩
  | 114 => ⟨S1024, .f32⟩
  | 115 => ⟨S8192x1024, .f32⟩
  | 116 => ⟨S1x1024, .f32⟩
  | 117 => ⟨S8192x1024, .f32⟩
  | 118 => ⟨S8192x1024, .f32⟩
  | 119 => ⟨S8192x1024, .f32⟩
  | 120 => ⟨S1x1024, .f32⟩
  | 121 => ⟨S1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S1x1024, .f32⟩
  | _ => ⟨S8192x3072, .f32⟩

abbrev hbmTy0_1 (i : Nat) : BufTy := match i % 128 with
  | 0 => ⟨S1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S1x1024, .f32⟩
  | 7 => ⟨S1024, .f32⟩
  | 8 => ⟨S8192x1024, .f32⟩
  | 9 => ⟨S1x1024, .f32⟩
  | 10 => ⟨S8192x1024, .f32⟩
  | 11 => ⟨S8192x1024, .f32⟩
  | 12 => ⟨S8192x1024, .f32⟩
  | 13 => ⟨S1x1024, .f32⟩
  | 14 => ⟨S1024, .f32⟩
  | 15 => ⟨S8192x1024, .f32⟩
  | 16 => ⟨S1x1024, .f32⟩
  | 17 => ⟨S8192x1024, .f32⟩
  | 18 => ⟨S8192x1024, .f32⟩
  | 19 => ⟨S8192x1024, .f32⟩
  | 20 => ⟨S1x1024, .f32⟩
  | 21 => ⟨S1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S1x1024, .f32⟩
  | 49 => ⟨S1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S1x1024, .f32⟩
  | 56 => ⟨S1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S1x1024, .f32⟩
  | 63 => ⟨S1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S1x1024, .f32⟩
  | 70 => ⟨S1024, .f32⟩
  | 71 => ⟨S8192x1024, .f32⟩
  | 72 => ⟨S1x1024, .f32⟩
  | 73 => ⟨S8192x1024, .f32⟩
  | 74 => ⟨S8192x1024, .f32⟩
  | 75 => ⟨S8192x1024, .f32⟩
  | 76 => ⟨S1x1024, .f32⟩
  | 77 => ⟨S1024, .f32⟩
  | 78 => ⟨S8192x1024, .f32⟩
  | 79 => ⟨S1x1024, .f32⟩
  | 80 => ⟨S8192x1024, .f32⟩
  | 81 => ⟨S8192x1024, .f32⟩
  | 82 => ⟨S8192x1024, .f32⟩
  | 83 => ⟨S1x1024, .f32⟩
  | 84 => ⟨S1024, .f32⟩
  | 85 => ⟨S8192x1024, .f32⟩
  | 86 => ⟨S1x1024, .f32⟩
  | 87 => ⟨S8192x1024, .f32⟩
  | 88 => ⟨S8192x1024, .f32⟩
  | 89 => ⟨S8192x1024, .f32⟩
  | 90 => ⟨S1x1024, .f32⟩
  | 91 => ⟨S1024, .f32⟩
  | 92 => ⟨S8192x1024, .f32⟩
  | 93 => ⟨S1x1024, .f32⟩
  | 94 => ⟨S8192x1024, .f32⟩
  | 95 => ⟨S8192x1024, .f32⟩
  | 96 => ⟨S8192x1024, .f32⟩
  | 97 => ⟨S1x1024, .f32⟩
  | 98 => ⟨S1024, .f32⟩
  | 99 => ⟨S8192x1024, .f32⟩
  | 100 => ⟨S1x1024, .f32⟩
  | 101 => ⟨S8192x1024, .f32⟩
  | 102 => ⟨S8192x1024, .f32⟩
  | 103 => ⟨S8192x1024, .f32⟩
  | 104 => ⟨S1x1024, .f32⟩
  | 105 => ⟨S1024, .f32⟩
  | 106 => ⟨S8192x1024, .f32⟩
  | 107 => ⟨S1x1024, .f32⟩
  | 108 => ⟨S8192x1024, .f32⟩
  | 109 => ⟨S8192x1024, .f32⟩
  | 110 => ⟨S8192x1024, .f32⟩
  | 111 => ⟨S1024, .f32⟩
  | 112 => ⟨S1x1024, .f32⟩
  | 113 => ⟨S8192x1024, .f32⟩
  | 114 => ⟨S8192x1024, .f32⟩
  | 115 => ⟨S1024, .f32⟩
  | 116 => ⟨S1024, .f32⟩
  | 117 => ⟨S_, .f32⟩
  | 118 => ⟨S8192, .f32⟩
  | 119 => ⟨S8192x1, .f32⟩
  | 120 => ⟨S_, .f32⟩
  | 121 => ⟨S8192x1, .f32⟩
  | 122 => ⟨S8192x1, .f32⟩
  | 123 => ⟨S8192x1024, .f32⟩
  | 124 => ⟨S8192x1024, .f32⟩
  | 125 => ⟨S8192x1024, .f32⟩
  | 126 => ⟨S_, .f32⟩
  | 127 => ⟨S8192, .f32⟩
  | _ => ⟨S8192x3072, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1024, .f32⟩
  | 5 => ⟨S8192x1024, .f32⟩
  | 6 => ⟨S_, .f32⟩
  | 7 => ⟨S8192x1, .f32⟩
  | 8 => ⟨S8192x1, .f32⟩
  | 9 => ⟨S8192x1, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S8192x1024, .f32⟩
  | 36 => ⟨S8192x1024, .f32⟩
  | 37 => ⟨S8192x1024, .bf16⟩
  | _ => ⟨S8192x3072, .f32⟩

abbrev hbmTy (i : Nat) : BufTy := match i / 128 with
  | 0 => hbmTy0_0 i
  | 1 => hbmTy0_1 i
  | 2 => hbmTy0_2 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_cst_3 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_cst_5 : Ref sig .tc := ⟨.hbm, 254, rfl⟩
abbrev main_v243 : Ref sig .tc := ⟨.hbm, 255, rfl⟩
abbrev main_v244 : Ref sig .tc := ⟨.hbm, 256, rfl⟩
abbrev main_cst_6 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_cst_7 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_cst_8 : Ref sig .tc := ⟨.hbm, 276, rfl⟩
abbrev main_v262 : Ref sig .tc := ⟨.hbm, 277, rfl⟩
abbrev main_v263 : Ref sig .tc := ⟨.hbm, 278, rfl⟩
abbrev main_cst_9 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_cst_10 : Ref sig .tc := ⟨.hbm, 285, rfl⟩
abbrev main_v269 : Ref sig .tc := ⟨.hbm, 286, rfl⟩
abbrev main_v270 : Ref sig .tc := ⟨.hbm, 287, rfl⟩
abbrev main_cst_11 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_v275 : Ref sig .tc := ⟨.hbm, 293, rfl⟩

abbrev nD : Nat := 1
abbrev τ : Topo := Topo.v7x

variable {F : FTy → Type} [FloatOps F]
-- ==== ConfPost.lean ====
abbrev S8192x1024 : Shape := ⟨2, ![8192, 1024]⟩
abbrev S8192x3072 : Shape := ⟨2, ![8192, 3072]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConfPostRefIdeal.lean ====
abbrev S8192x1024 : Shape := ⟨2, ![8192, 1024]⟩
abbrev S8192x3072 : Shape := ⟨2, ![8192, 3072]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x3072, .f32⟩
  | 2 => ⟨S8192x1024, .f32⟩
  | 3 => ⟨S1x1024, .f32⟩
  | 4 => ⟨S1x1024, .f32⟩
  | 5 => ⟨S8192x1024, .f32⟩
  | 6 => ⟨S1024, .f32⟩
  | 7 => ⟨S1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S_, .f32⟩
  | 85 => ⟨S1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S_, .f32⟩
  | 93 => ⟨S1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S8192x1024, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .bf16⟩
  | 126 => ⟨S1x1024, .f32⟩
  | 127 => ⟨S_, .i32⟩
  | _ => ⟨S8192x1024, .f32⟩

abbrev hbmTy0_1 (i : Nat) : BufTy := match i % 128 with
  | 0 => ⟨S_, .f32⟩
  | 1 => ⟨S8x1024, .f32⟩
  | 2 => ⟨S1x1024, .f32⟩
  | 3 => ⟨S_, .i32⟩
  | 4 => ⟨S_, .f32⟩
  | 5 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_cst_19 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_20 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c : Ref sig .tc := ⟨.hbm, 127, rfl⟩
abbrev main_call0_v0 : Ref sig .tc := ⟨.hbm, 128, rfl⟩
abbrev main_v98 : Ref sig .tc := ⟨.hbm, 129, rfl⟩
abbrev main_v99 : Ref sig .tc := ⟨.hbm, 130, rfl⟩
abbrev main_c_23 : Ref sig .tc := ⟨.hbm, 131, rfl⟩
abbrev main_call1_v0 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Proof.Dot.lean ====
/-
  Sums of products over the extended reals: the inner product of two finite families, its partial sums, and how a
  partial sum grows by a run of consecutive positions.
-/
module

public import Mathlib.Data.EReal.Operations
public import Mathlib.Algebra.BigOperators.Fin
public import Mathlib.Algebra.BigOperators.Intervals

@[expose] public section

noncomputable section

namespace Cert.Plain

/-- The sum of the products of two finite families. -/
def dot {K : ℕ} (x y : Fin K → EReal) : EReal := ∑ k, x k * y k

theorem dot_congr {K : ℕ} {x x' y y' : Fin K → EReal} (hx : ∀ k, x k = x' k) (hy : ∀ k, y k = y' k) :
    dot x y = dot x' y' := by
  rw [funext hx, funext hy]

theorem dot_comm {K : ℕ} (x y : Fin K → EReal) : dot x y = dot y x :=
  Finset.sum_congr rfl fun _ _ => EReal.mul_comm _ _

/-- The inner product of the first `n` positions (all of them from `K` on). -/
def dotUpTo {K : ℕ} (x y : Fin K → EReal) (n : ℕ) : EReal :=
  ∑ k ∈ Finset.range n, if h : k < K then x ⟨k, h⟩ * y ⟨k, h⟩ else 0

theorem dotUpTo_zero {K : ℕ} (x y : Fin K → EReal) : dotUpTo x y 0 = 0 := rfl

theorem dotUpTo_all {K : ℕ} (x y : Fin K → EReal) : dotUpTo x y K = dot x y := by
  unfold dotUpTo dot
  rw [Finset.sum_range]
  exact Finset.sum_congr rfl fun k _ => dif_pos k.isLt

theorem dotUpTo_add {K : ℕ} (x y : Fin K → EReal) (n L : ℕ) (u v : Fin L → EReal) (h : n + L ≤ K)
    (hu : ∀ (r : Fin L) (hr : n + r.val < K), u r = x ⟨n + r.val, hr⟩)
    (hv : ∀ (r : Fin L) (hr : n + r.val < K), v r = y ⟨n + r.val, hr⟩) :
    dotUpTo x y (n + L) = dotUpTo x y n + dot u v := by
  unfold dotUpTo dot
  rw [Finset.sum_range_add, Finset.sum_range (n := L)]
  congr 1
  refine Finset.sum_congr rfl fun r _ => ?_
  have hr : n + r.val < K := by have := r.isLt; omega
  rw [dif_pos hr, hu r hr, hv r hr]

end Cert.Plain

end
-- ==== Proof.LayerNorm.lean ====
/-
  Layer normalisation of one row of 1024 extended reals and its gradient, written in the two ways that occur: the closed
  form of the backward pass, and the chain rule applied operation by operation. On real rows the two agree.
-/
module

public import proofs.«01_k».proof.Proof.Dot
public import Idealize.ShloMosaic.Lib.IdealHost
public import Idealize.ShloMosaic.PureOps.Ideal
public import Idealize.ShloMosaic.Lib.Pointwise
public import Mathlib.Tactic.Ring
public import Mathlib.Tactic.Linarith
public import Mathlib.Tactic.Positivity
public import Mathlib.Tactic.NormNum

@[expose] public section

noncomputable section

open Idealize.ShloMosaic

namespace Cert.Plain

/-- A row of 1024 extended reals. -/
abbrev Row := Fin 1024 → EReal

/-- The number of elements of a row. -/
def cN : EReal := Ideal.ofBits .f32 0x44800000#32
/-- Its reciprocal. -/
def cInv : EReal := Ideal.ofBits .f32 0x3A800000#32
/-- What is added to the variance. -/
def cEps : EReal := Ideal.ofBits .f32 0x3727C5AC#32
/-- One half, minus one half and two. -/
def cHalf : EReal := Ideal.ofBits .f32 0x3F000000#32
def cNegHalf : EReal := Ideal.ofBits .f32 0xBF000000#32
def cTwo : EReal := Ideal.ofBits .f32 0x40000000#32
/-- The factor of the residual. -/
def cAlpha : EReal := Ideal.ofBits .f32 0x3F9837F0#32

theorem cN_eq : cN = ((1024 : ℝ) : EReal) := by
  simp [cN, Ideal.ofBits, Ideal.ieee, -EReal.coe_mul]; norm_num
theorem cInv_eq : cInv = ((1 / 1024 : ℝ) : EReal) := by
  simp [cInv, Ideal.ofBits, Ideal.ieee, -EReal.coe_mul]; norm_num
theorem cHalf_eq : cHalf = ((1 / 2 : ℝ) : EReal) := by
  simp [cHalf, Ideal.ofBits, Ideal.ieee, -EReal.coe_mul]; norm_num
theorem cNegHalf_eq : cNegHalf = ((-(1 / 2) : ℝ) : EReal) := by
  simp [cNegHalf, Ideal.ofBits, Ideal.ieee, -EReal.coe_mul]; norm_num
theorem cTwo_eq : cTwo = ((2 : ℝ) : EReal) := by
  simp [cTwo, Ideal.ofBits, Ideal.ieee, -EReal.coe_mul]; norm_num
theorem cEps_pos : ∃ e : ℝ, 0 < e ∧ cEps = (e : EReal) := by
  refine ⟨10995116 * 2 ^ (-40 : ℤ), by positivity, ?_⟩
  simp [cEps, Ideal.ofBits, Ideal.ieee, -EReal.coe_mul]
theorem cAlpha_real : ∃ e : ℝ, cAlpha = (e : EReal) := by
  refine ⟨9975792 * 2 ^ (-23 : ℤ), ?_⟩
  simp [cAlpha, Ideal.ofBits, Ideal.ieee, -EReal.coe_mul]

/-- A sum of reals is real. -/
theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- An extended real that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.sum {ι : Type*} {s : Finset ι} {f : ι → EReal} (h : ∀ i ∈ s, IsReal (f i)) : IsReal (∑ i ∈ s, f i) := by
  classical
  induction s using Finset.induction with
  | empty => exact ⟨0, by simp⟩
  | insert a s ha ih =>
    rw [Finset.sum_insert ha]
    exact (h a (Finset.mem_insert_self _ _)).add (ih fun i hi => h i (Finset.mem_insert_of_mem hi))
theorem IsReal.dot {K : ℕ} {x y : Fin K → EReal} (hx : ∀ k, IsReal (x k)) (hy : ∀ k, IsReal (y k)) :
    IsReal (dot x y) := IsReal.sum fun k _ => (hx k).mul (hy k)

/-- The logistic function takes real values everywhere. -/
theorem IsReal.logistic (x : EReal) : IsReal (Ideal.logistic x) := by
  induction x with
  | bot => exact ⟨0, by simp⟩
  | coe r => exact ⟨_, Ideal.logistic_coe r⟩
  | top => exact ⟨1, by simp⟩

/-- A real-valued row is the row of its real values. -/
theorem lift_row {K : ℕ} {v : Fin K → EReal} (h : ∀ j, IsReal (v j)) : ∃ f : Fin K → ℝ, v = fun j => ((f j : ℝ) : EReal) :=
  ⟨fun j => (h j).choose, funext fun j => (h j).choose_spec⟩

/-- The mean of a row. -/
def mean (v : Row) : EReal := Ideal.div (∑ j, v j) cN
/-- A row less its mean. -/
def center (z : Row) : Row := fun j => z j - mean z
/-- The variance with the small constant added. -/
def spread (z : Row) : EReal := mean (fun j => center z j * center z j) + cEps
/-- The reciprocal standard deviation. -/
def rstd (z : Row) : EReal := Ideal.rsqrt (spread z)
/-- The normalised row. -/
def xhat (z : Row) : Row := fun j => center z j * rstd z

/-- The gradient of the normalisation at `z`, of the gradient `d` of the normalised row: the closed form. -/
def normGrad (z d : Row) : Row := fun j =>
  rstd z * ((d j - mean d) - xhat z j * mean (fun k => d k * xhat z k))

/-- The part of the chain rule that goes through the variance. -/
def varPart (z d : Row) : Row := fun j =>
  Ideal.div ((∑ k, center z k * d k) * (cNegHalf * Ideal.div (rstd z) (spread z))) cN * (cTwo * center z j)

/-- The gradient of the normalisation by the chain rule, one operation at a time. -/
def chainGrad (z d : Row) : Row := fun j =>
  (d j * rstd z + varPart z d j) + Ideal.div ((∑ k, -(d k * rstd z)) + ∑ k, -varPart z d k) cN

section Real

variable (z d : Fin 1024 → ℝ)

def rmean (v : Fin 1024 → ℝ) : ℝ := (∑ j, v j) / 1024

theorem mean_coe (v : Fin 1024 → ℝ) : mean (fun j => ((v j : ℝ) : EReal)) = ((rmean v : ℝ) : EReal) := by
  unfold mean rmean
  rw [cN_eq, Ideal.div_coe (by norm_num), ← coe_sum, ← EReal.coe_mul]
  congr 1; ring

theorem center_coe : center (fun j => ((z j : ℝ) : EReal)) = fun j => ((z j - rmean z : ℝ) : EReal) := by
  funext j; unfold center; rw [mean_coe, EReal.coe_sub]

theorem sum_center : ∑ j, (z j - rmean z) = 0 := by
  rw [Finset.sum_sub_distrib]; simp [rmean]; ring

theorem spread_coe : ∃ s : ℝ, 0 < s ∧ spread (fun j => ((z j : ℝ) : EReal)) = (s : EReal) := by
  obtain ⟨e, he, hc⟩ := cEps_pos
  refine ⟨rmean (fun j => (z j - rmean z) * (z j - rmean z)) + e, ?_, ?_⟩
  · have : 0 ≤ rmean (fun j => (z j - rmean z) * (z j - rmean z)) :=
      div_nonneg (Finset.sum_nonneg fun j _ => mul_self_nonneg _) (by norm_num)
    linarith
  · unfold spread
    rw [center_coe, hc, EReal.coe_add, ← mean_coe]
    simp only [EReal.coe_mul]

/-- On real rows the chain rule gives the closed form. -/
theorem chainGrad_coe : chainGrad (fun j => ((z j : ℝ) : EReal)) (fun j => ((d j : ℝ) : EReal))
    = normGrad (fun j => ((z j : ℝ) : EReal)) (fun j => ((d j : ℝ) : EReal)) := by
  obtain ⟨s, hs, hsp⟩ := spread_coe z
  have hr : rstd (fun j => ((z j : ℝ) : EReal)) = (((Real.sqrt s)⁻¹ : ℝ) : EReal) := by
    unfold rstd; rw [hsp, Ideal.rsqrt_coe, if_neg (not_lt.2 hs.le), if_neg hs.ne']
  set u : Fin 1024 → ℝ := fun j => z j - rmean z with hu
  have hu0 : ∑ j, u j = 0 := sum_center z
  set r : ℝ := (Real.sqrt s)⁻¹ with hrd
  have hrr : r * r = 1 / s := by
    rw [hrd, ← mul_inv, Real.mul_self_sqrt hs.le, one_div]
  set S : ℝ := ∑ k, u k * d k with hS
  have hx : xhat (fun j => ((z j : ℝ) : EReal)) = fun j => ((u j * r : ℝ) : EReal) := by
    funext j; unfold xhat; rw [center_coe, hr, EReal.coe_mul]
  have hv : varPart (fun j => ((z j : ℝ) : EReal)) (fun j => ((d j : ℝ) : EReal))
      = fun j => ((S * (-(1 / 2) * (r / s)) / 1024 * (2 * u j) : ℝ) : EReal) := by
    funext j
    unfold varPart
    rw [center_coe, hr, hsp, cN_eq, cNegHalf_eq, cTwo_eq, Ideal.div_coe hs.ne', Ideal.div_coe (by norm_num)]
    simp only [← EReal.coe_mul, ← coe_sum]
    congr 1; rw [hS]; ring
  funext j
  unfold chainGrad normGrad
  rw [hv, hx, hr, mean_coe, cN_eq, Ideal.div_coe (by norm_num)]
  simp only [← EReal.coe_mul, ← EReal.coe_neg, ← coe_sum, ← EReal.coe_add, mean_coe, ← EReal.coe_sub]
  congr 1
  have h1 : ∑ k, -(d k * r) = -(r * ∑ k, d k) := by
    rw [Finset.mul_sum, ← Finset.sum_neg_distrib]; exact Finset.sum_congr rfl fun k _ => by ring
  have h2 : ∑ k, -(S * (-(1 / 2) * (r / s)) / 1024 * (2 * u k)) = 0 := by
    rw [Finset.sum_neg_distrib, ← Finset.mul_sum, ← Finset.mul_sum, hu0]; ring
  have h3 : rmean (fun k => d k * (u k * r)) = r * S / 1024 := by
    unfold rmean; rw [hS, Finset.mul_sum]; congr 1
    exact Finset.sum_congr rfl fun k _ => by ring
  rw [h1, h2, h3]
  have h4 : r / s = r * (r * r) := by rw [hrr]; ring
  rw [h4]; unfold rmean; ring

end Real

theorem chainGrad_eq {z d : Row} (hz : ∀ j, IsReal (z j)) (hd : ∀ j, IsReal (d j)) : chainGrad z d = normGrad z d := by
  obtain ⟨f, rfl⟩ := lift_row hz
  obtain ⟨g, rfl⟩ := lift_row hd
  exact chainGrad_coe f g

theorem IsReal.center {z : Row} (hz : ∀ j, IsReal (z j)) (j : Fin 1024) : IsReal (Cert.Plain.center z j) := by
  obtain ⟨f, rfl⟩ := lift_row hz; exact ⟨_, by rw [center_coe]⟩

theorem IsReal.rstd {z : Row} (hz : ∀ j, IsReal (z j)) : IsReal (Cert.Plain.rstd z) := by
  obtain ⟨f, rfl⟩ := lift_row hz
  obtain ⟨s, hs, hsp⟩ := spread_coe f
  exact ⟨(Real.sqrt s)⁻¹, by unfold Cert.Plain.rstd; rw [hsp, Ideal.rsqrt_coe, if_neg (not_lt.2 hs.le), if_neg hs.ne']⟩

theorem IsReal.xhat {z : Row} (hz : ∀ j, IsReal (z j)) (j : Fin 1024) : IsReal (Cert.Plain.xhat z j) :=
  (IsReal.center hz j).mul (IsReal.rstd hz)

theorem IsReal.mean {v : Row} (hv : ∀ j, IsReal (v j)) : IsReal (Cert.Plain.mean v) := by
  obtain ⟨f, rfl⟩ := lift_row hv; exact ⟨_, mean_coe f⟩

/-- A real factor comes out of a sum of reals. -/
theorem mul_sum_real {ι : Type*} {s : Finset ι} {x : EReal} {f : ι → EReal} (hx : IsReal x) (hf : ∀ i, IsReal (f i)) :
    x * ∑ i ∈ s, f i = ∑ i ∈ s, x * f i := by
  obtain ⟨a, rfl⟩ := hx
  choose g hg using hf
  simp only [hg, ← EReal.coe_mul, ← coe_sum, Finset.mul_sum]

/-- A value whose magnitude is below the infinite word is a real number. -/
theorem real_of_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have hx : max x (-x) < ⊤ := by
    by_contra hc
    simp [Ideal.cmp, hc] at h
  induction x with
  | bot => simp at hx
  | top => simp at hx
  | coe r => exact ⟨r, rfl⟩

/-- An index of a matrix is its two coordinates. -/
theorem eta {a b : ℕ} (i : (⟨2, ![a, b]⟩ : Shape).Idx) : i = ix2 (i 0) (i 1) := by
  funext k
  match k with
  | ⟨0, _⟩ => rfl
  | ⟨1, _⟩ => rfl

end Cert.Plain

end
-- ==== Proof.MergeRow.lean ====
/-
  What the merge step computes for one token, from the token's rows and the weights: the gated sum of the two branches,
  the residual stream after its layer norm, the token's loss, and the gradients of the loss at every intermediate value.
  `…Ref` are the same gradients by the chain rule, one operation at a time; on finite data the two agree.
-/
module

public import proofs.«01_k».proof.Proof.LayerNorm

@[expose] public section

noncomputable section

open Idealize.ShloMosaic Cert.Plain

namespace Cert.Merge

/-- The weights: the three output projections and the gain and offset of the last layer norm. -/
structure Weights where
  wc : Fin 1024 → Row
  wg : Fin 1024 → Row
  wo : Fin 1024 → Row
  pg : Row
  pb : Row

/-- A token: the two branches' rows, their gates, the residual row and the target. -/
structure Token where
  a : Row
  o : Row
  gc : Row
  gg : Row
  x : Row
  tg : Row

variable (W : Weights) (T : Token)

def yc : Row := fun j => dot T.a (fun k => W.wc k j)
def yg : Row := fun j => dot T.o (fun k => W.wg k j)
def sc : Row := fun j => Ideal.logistic (T.gc j)
def sg : Row := fun j => Ideal.logistic (T.gg j)
/-- The gated sum of the branches. -/
def h : Row := fun j => sc T j * yc W T j + sg T j * yg W T j
/-- The residual stream before its layer norm. -/
def z : Row := fun j => cAlpha * T.x j + dot (h W T) (fun k => W.wo k j)
/-- The distance to the target. -/
def err : Row := fun j => xhat (z W T) j * W.pg j + W.pb j - T.tg j
/-- The token's mean square distance. -/
def tokLoss : EReal := mean (fun j => err W T j * err W T j)
def dy : Row := fun j => err W T j * cInv
def dxh : Row := fun j => dy W T j * W.pg j
/-- The gradient before the layer norm. -/
def dz : Row := normGrad (z W T) (dxh W T)
def dh : Row := fun j => dot (dz W T) (fun k => W.wo j k)
def dyc : Row := fun j => dh W T j * sc T j
def dyg : Row := fun j => dh W T j * sg T j
def dgc : Row := fun j => dh W T j * yc W T j * sc T j * (1 - sc T j)
def dgg : Row := fun j => dh W T j * yg W T j * sg T j * (1 - sg T j)
def da : Row := fun j => dot (dyc W T) (fun k => W.wc j k)
def dO : Row := fun j => dot (dyg W T) (fun k => W.wg j k)

/-- The gradient at the normalised row by the chain rule. -/
def dyRef : Row := fun j => Ideal.div (cHalf * 1) cN * (cTwo * err W T j)
def dxhRef : Row := fun j => dyRef W T j * W.pg j
def dzRef : Row := chainGrad (z W T) (dxhRef W T)

/-- Every argument but the gates is finite. -/
structure Finite : Prop where
  a : ∀ j, IsReal (T.a j)
  o : ∀ j, IsReal (T.o j)
  x : ∀ j, IsReal (T.x j)
  tg : ∀ j, IsReal (T.tg j)
  wc : ∀ i j, IsReal (W.wc i j)
  wg : ∀ i j, IsReal (W.wg i j)
  wo : ∀ i j, IsReal (W.wo i j)
  pg : ∀ j, IsReal (W.pg j)
  pb : ∀ j, IsReal (W.pb j)

variable {W T}

theorem Finite.h (H : Finite W T) (j : Fin 1024) : IsReal (h W T j) :=
  ((IsReal.logistic _).mul (IsReal.dot H.a fun k => H.wc k j)).add
    ((IsReal.logistic _).mul (IsReal.dot H.o fun k => H.wg k j))

theorem Finite.z (H : Finite W T) (j : Fin 1024) : IsReal (z W T j) :=
  (IsReal.mul cAlpha_real (H.x j)).add (IsReal.dot H.h fun k => H.wo k j)

theorem Finite.err (H : Finite W T) (j : Fin 1024) : IsReal (err W T j) :=
  (((IsReal.xhat H.z j).mul (H.pg j)).add (H.pb j)).sub (H.tg j)

theorem Finite.tokLoss (H : Finite W T) : IsReal (tokLoss W T) := IsReal.mean fun j => (H.err j).mul (H.err j)

theorem Finite.dy (H : Finite W T) (j : Fin 1024) : IsReal (dy W T j) := (H.err j).mul ⟨_, cInv_eq⟩

theorem Finite.dxh (H : Finite W T) (j : Fin 1024) : IsReal (dxh W T j) := (H.dy j).mul (H.pg j)

theorem dyRef_eq (H : Finite W T) : dyRef W T = dy W T := by
  funext j
  obtain ⟨e, he⟩ := H.err j
  unfold dyRef dy
  rw [he, cHalf_eq, cN_eq, cTwo_eq, cInv_eq, mul_one, Ideal.div_coe (by norm_num)]
  simp only [← EReal.coe_mul]
  congr 1; ring

theorem dxhRef_eq (H : Finite W T) : dxhRef W T = dxh W T := by
  unfold dxhRef dxh; rw [dyRef_eq H]

theorem dzRef_eq (H : Finite W T) : dzRef W T = dz W T := by
  unfold dzRef dz
  rw [dxhRef_eq H, chainGrad_eq H.z H.dxh]

end Cert.Merge

end
-- ==== Proof.MergeBlock.lean ====
/-
  One block of the merge kernel, element by element: each named value of the body at a row `p` of the block and a
      column
  `q` is the value `Cert.Merge` gives the token of that row.
-/
module

public import proofs.«01_k».proof.Proof.MergeRow
public import proofs.«01_k».proof.Proof.Gen.MergeStepIdeal.Skeleton
public import Idealize.ShloMosaic.Lib.Pointwise
public import Idealize.ShloMosaic.Lib.Tactic

@[expose] public section

set_option maxRecDepth 16384

noncomputable section

open Idealize.ShloMosaic Idealize.ShloMosaic.TcCoe
open Cert.Plain Cert.Merge

namespace Cert.MergeStepIdeal.Block

open Cert.MergeStepIdeal Cert.MergeStepIdeal.Gen

variable (wc wg wo : Vec Ideal S1024x1024 .bf16) (a o : Vec Ideal S256x1024 .bf16)
  (gc gg x : Vec Ideal S256x1024 .f32) (pg pb : Vec Ideal S1x1024 .f32) (tg : Vec Ideal S256x1024 .f32)

/-- The weights as the body reads them. -/
def weights : Weights where
  wc i j := wc (ix2 i j)
  wg i j := wg (ix2 i j)
  wo i j := wo (ix2 i j)
  pg j := pg (ix2 0 j)
  pb j := pb (ix2 0 j)

/-- The token of a row of the block. -/
def token (p : Fin 256) : Token where
  a j := a (ix2 p j)
  o j := o (ix2 p j)
  gc j := gc (ix2 p j)
  gg j := gg (ix2 p j)
  x j := x (ix2 p j)
  tg j := tg (ix2 p j)

theorem pay11_apply (p : Fin 256) (q : Fin 1024) :
    (k0_pay11 wc a (ix2 p q) : EReal) = yc (weights wc wg wo pg pb) (token a o gc gg x tg p) q := by
  unfold k0_pay11; pointwise [yc, dot, weights, token]

theorem pay12_apply (p : Fin 256) (q : Fin 1024) :
    (k0_pay12 wg o (ix2 p q) : EReal) = yg (weights wc wg wo pg pb) (token a o gc gg x tg p) q := by
  unfold k0_pay12; pointwise [yg, dot, weights, token]

theorem pay13_apply (p : Fin 256) (q : Fin 1024) : (k0_pay13 gc (ix2 p q) : EReal) = sc (token a o gc gg x tg p) q
    := by
  unfold k0_pay13; pointwise [sc, token]

theorem pay14_apply (p : Fin 256) (q : Fin 1024) : (k0_pay14 gg (ix2 p q) : EReal) = sg (token a o gc gg x tg p) q
    := by
  unfold k0_pay14; pointwise [sg, token]

theorem pay15_apply (p : Fin 256) (q : Fin 1024) :
    (k0_pay15 wc wg a o gc gg (ix2 p q) : EReal) = h (weights wc wg wo pg pb) (token a o gc gg x tg p) q := by
  unfold k0_pay15
  pointwise [h, pay11_apply wc wg wo a o gc gg x pg pb tg, pay12_apply wc wg wo a o gc gg x pg pb tg,
    pay13_apply a o gc gg x tg, pay14_apply a o gc gg x tg]

theorem pay16_apply (p : Fin 256) (q : Fin 1024) :
    (k0_pay16 wc wg wo a o gc gg x (ix2 p q) : EReal) = center (z (weights wc wg wo pg pb) (token a o gc gg x tg
        p)) q := by
  unfold k0_pay16
  pointwise [center, mean, z, dot, cN, cAlpha, pay15_apply wc wg wo a o gc gg x pg pb tg, weights, token]

theorem pay17_apply (p : Fin 256) :
    ((k0_pay17 wc wg wo a o gc gg x) (ix2 p 0) : EReal) = ∑ j, center (z (weights wc wg wo pg pb) (token a o gc gg
        x tg p)) j * center (z (weights wc wg wo pg pb) (token a o gc gg x tg p)) j := by
  unfold k0_pay17
  pointwise [pay16_apply wc wg wo a o gc gg x pg pb tg]

theorem pay18_apply (p : Fin 256) : ((k0_pay18 (k0_pay17 wc wg wo a o gc gg x) ((Ideal.ofBits .f32 0x44800000#32))) (ix2 p 0) : EReal) = rstd
    (z (weights wc wg wo pg pb) (token a o gc gg x tg p)) := by
  unfold k0_pay18
  pointwise [rstd, spread, mean, cN, cEps, pay17_apply wc wg wo a o gc gg x pg pb tg]

theorem pay19_apply (p : Fin 256) (q : Fin 1024) : ((k0_pay19 (k0_pay16 wc wg wo a o gc gg x) (k0_pay17 wc wg wo a
    o gc gg x) ((Ideal.ofBits .f32 0x44800000#32))) (ix2 p q) : EReal) = xhat (z (weights wc wg wo pg pb) (token a o gc gg x tg p)) q := by
  unfold k0_pay19
  pointwise [xhat, pay16_apply wc wg wo a o gc gg x pg pb tg, pay18_apply wc wg wo a o gc gg x pg pb tg]

theorem pay20_apply (p : Fin 256) (q : Fin 1024) :
    (k0_pay20 (k0_pay16 wc wg wo a o gc gg x) (k0_pay17 wc wg wo a o gc gg x) ((Ideal.ofBits .f32 0x44800000#32)) pg pb tg (ix2 p q) : EReal) =
        err (weights wc wg wo pg pb) (token a o gc gg x tg p) q := by
  unfold k0_pay20
  pointwise [err, pay19_apply wc wg wo a o gc gg x pg pb tg]
  rfl

theorem pay21_apply (acc : Vec Ideal S8x128 .f32) (r : Fin 8) (q : Fin 128) :
    (k0_pay21 (k0_pay16 wc wg wo a o gc gg x) (k0_pay17 wc wg wo a o gc gg x) ((Ideal.ofBits .f32 0x44800000#32)) pg pb tg acc (ix2 r q) : EReal)
      = acc (ix2 r q) + cHalf * ∑ p : Fin 256, tokLoss (weights wc wg wo pg pb) (token a o gc gg x tg p) := by
  unfold k0_pay21
  pointwise [tokLoss, mean, cN, cHalf, pay20_apply wc wg wo a o gc gg x pg pb tg]

theorem pay22_apply (p : Fin 256) (q : Fin 1024) : ((k0_pay22 (k0_pay16 wc wg wo a o gc gg x) (k0_pay17 wc wg wo a
    o gc gg x) ((Ideal.ofBits .f32 0x44800000#32)) pg pb tg) (ix2 p q) : EReal) = dy (weights wc wg wo pg pb) (token a o gc gg x tg p) q := by
  unfold k0_pay22
  pointwise [dy, cInv, pay20_apply wc wg wo a o gc gg x pg pb tg]

theorem pay23_apply (acc : Vec Ideal S1x1024 .f32) (q : Fin 1024) :
    (k0_pay23 (k0_pay16 wc wg wo a o gc gg x) (k0_pay17 wc wg wo a o gc gg x) ((Ideal.ofBits .f32 0x44800000#32)) pg pb tg acc (ix2 0 q) : EReal)
      = acc (ix2 0 q) + ∑ p : Fin 256, dy (weights wc wg wo pg pb) (token a o gc gg x tg p) q * xhat (z (weights wc
          wg wo pg pb) (token a o gc gg x tg p)) q := by
  unfold k0_pay23
  pointwise [pay22_apply wc wg wo a o gc gg x pg pb tg, pay19_apply wc wg wo a o gc gg x pg pb tg]

theorem pay24_apply (acc : Vec Ideal S1x1024 .f32) (q : Fin 1024) :
    (k0_pay24 (k0_pay22 (k0_pay16 wc wg wo a o gc gg x) (k0_pay17 wc wg wo a o gc gg x) ((Ideal.ofBits .f32 0x44800000#32)) pg pb tg) acc (ix2
        0 q) : EReal) = acc (ix2 0 q) + ∑ p : Fin 256, dy (weights wc wg wo pg pb) (token a o gc gg x tg p) q := by
  unfold k0_pay24
  pointwise [pay22_apply wc wg wo a o gc gg x pg pb tg]

theorem pay25_apply (p : Fin 256) (q : Fin 1024) : ((k0_pay25 (k0_pay18 (k0_pay17 wc wg wo a o gc gg x) ((Ideal.ofBits .f32 0x44800000#32)))
    (k0_pay19 (k0_pay16 wc wg wo a o gc gg x) (k0_pay17 wc wg wo a o gc gg x) ((Ideal.ofBits .f32 0x44800000#32))) pg (k0_pay22 (k0_pay16 wc wg
    wo a o gc gg x) (k0_pay17 wc wg wo a o gc gg x) ((Ideal.ofBits .f32 0x44800000#32)) pg pb tg)) (ix2 p q) : EReal) = dz (weights wc wg wo pg
    pb) (token a o gc gg x tg p) q := by
  unfold k0_pay25
  pointwise [dz, normGrad, mean, dxh, cN, pay22_apply wc wg wo a o gc gg x pg pb tg,
    pay19_apply wc wg wo a o gc gg x pg pb tg, pay18_apply wc wg wo a o gc gg x pg pb tg]
  rfl

theorem pay26_apply (p : Fin 256) (q : Fin 1024) :
    (k0_pay26 (k0_pay18 (k0_pay17 wc wg wo a o gc gg x) ((Ideal.ofBits .f32 0x44800000#32))) (k0_pay19 (k0_pay16 wc wg wo a o gc gg x)
        (k0_pay17 wc wg wo a o gc gg x) ((Ideal.ofBits .f32 0x44800000#32))) pg (k0_pay22 (k0_pay16 wc wg wo a o gc gg x) (k0_pay17 wc wg wo a
        o gc gg x) ((Ideal.ofBits .f32 0x44800000#32)) pg pb tg) (ix2 p q) : EReal) = cAlpha * dz (weights wc wg wo pg pb) (token a o gc gg x
        tg p) q := by
  unfold k0_pay26
  pointwise [cAlpha, pay25_apply wc wg wo a o gc gg x pg pb tg]

theorem pay27_apply (p : Fin 256) (q : Fin 1024) : ((k0_pay27 wo (k0_pay18 (k0_pay17 wc wg wo a o gc gg x) ((Ideal.ofBits .f32 0x44800000#32)))
    (k0_pay19 (k0_pay16 wc wg wo a o gc gg x) (k0_pay17 wc wg wo a o gc gg x) ((Ideal.ofBits .f32 0x44800000#32))) pg (k0_pay22 (k0_pay16 wc wg
    wo a o gc gg x) (k0_pay17 wc wg wo a o gc gg x) ((Ideal.ofBits .f32 0x44800000#32)) pg pb tg)) (ix2 p q) : EReal) = dh (weights wc wg wo pg
    pb) (token a o gc gg x tg p) q := by
  unfold k0_pay27
  pointwise [dh, dot, pay25_apply wc wg wo a o gc gg x pg pb tg]
  rfl

theorem pay28_apply (p : Fin 256) (q : Fin 1024) :
    (k0_pay28 wo (k0_pay13 gc) (k0_pay18 (k0_pay17 wc wg wo a o gc gg x) ((Ideal.ofBits .f32 0x44800000#32))) (k0_pay19 (k0_pay16 wc wg wo a o
        gc gg x) (k0_pay17 wc wg wo a o gc gg x) ((Ideal.ofBits .f32 0x44800000#32))) pg (k0_pay22 (k0_pay16 wc wg wo a o gc gg x) (k0_pay17 wc
        wg wo a o gc gg x) ((Ideal.ofBits .f32 0x44800000#32)) pg pb tg) (ix2 p q) : EReal) = dyc (weights wc wg wo pg pb) (token a o gc gg x
        tg p) q := by
  unfold k0_pay28
  pointwise [dyc, pay27_apply wc wg wo a o gc gg x pg pb tg, pay13_apply a o gc gg x tg]

theorem pay29_apply (p : Fin 256) (q : Fin 1024) :
    (k0_pay29 wo (k0_pay14 gg) (k0_pay18 (k0_pay17 wc wg wo a o gc gg x) ((Ideal.ofBits .f32 0x44800000#32))) (k0_pay19 (k0_pay16 wc wg wo a o
        gc gg x) (k0_pay17 wc wg wo a o gc gg x) ((Ideal.ofBits .f32 0x44800000#32))) pg (k0_pay22 (k0_pay16 wc wg wo a o gc gg x) (k0_pay17 wc
        wg wo a o gc gg x) ((Ideal.ofBits .f32 0x44800000#32)) pg pb tg) (ix2 p q) : EReal) = dyg (weights wc wg wo pg pb) (token a o gc gg x
        tg p) q := by
  unfold k0_pay29
  pointwise [dyg, pay27_apply wc wg wo a o gc gg x pg pb tg, pay14_apply a o gc gg x tg]

theorem pay30_apply (p : Fin 256) (q : Fin 1024) :
    (k0_pay30 wo (k0_pay11 wc a) (k0_pay13 gc) (k0_pay18 (k0_pay17 wc wg wo a o gc gg x) ((Ideal.ofBits .f32 0x44800000#32))) (k0_pay19
        (k0_pay16 wc wg wo a o gc gg x) (k0_pay17 wc wg wo a o gc gg x) ((Ideal.ofBits .f32 0x44800000#32))) pg (k0_pay22 (k0_pay16 wc wg wo a
        o gc gg x) (k0_pay17 wc wg wo a o gc gg x) ((Ideal.ofBits .f32 0x44800000#32)) pg pb tg) (ix2 p q) : EReal) = dgc (weights wc wg wo pg
        pb) (token a o gc gg x tg p) q := by
  unfold k0_pay30
  pointwise [dgc, pay27_apply wc wg wo a o gc gg x pg pb tg, pay13_apply a o gc gg x tg,
    pay11_apply wc wg wo a o gc gg x pg pb tg]

theorem pay1_apply (p : Fin 256) (q : Fin 1024) :
    (k0_pay1 (k0_pay14 gg) (k0_pay31 wo (k0_pay12 wg o) (k0_pay14 gg) (k0_pay18 (k0_pay17 wc wg wo a o gc gg x)
        ((Ideal.ofBits .f32 0x44800000#32))) (k0_pay19 (k0_pay16 wc wg wo a o gc gg x) (k0_pay17 wc wg wo a o gc gg x) ((Ideal.ofBits .f32 0x44800000#32))) pg (k0_pay22
        (k0_pay16 wc wg wo a o gc gg x) (k0_pay17 wc wg wo a o gc gg x) ((Ideal.ofBits .f32 0x44800000#32)) pg pb tg)) (ix2 p q) : EReal)
      = dgg (weights wc wg wo pg pb) (token a o gc gg x tg p) q := by
  unfold k0_pay1 k0_pay31
  pointwise [dgg, pay27_apply wc wg wo a o gc gg x pg pb tg, pay14_apply a o gc gg x tg,
    pay12_apply wc wg wo a o gc gg x pg pb tg]

theorem pay2_apply (p : Fin 256) (q : Fin 1024) :
    (k0_pay2 wc (k0_pay28 wo (k0_pay13 gc) (k0_pay18 (k0_pay17 wc wg wo a o gc gg x) ((Ideal.ofBits .f32 0x44800000#32))) (k0_pay19 (k0_pay16
        wc wg wo a o gc gg x) (k0_pay17 wc wg wo a o gc gg x) ((Ideal.ofBits .f32 0x44800000#32))) pg (k0_pay22 (k0_pay16 wc wg wo a o gc gg x)
        (k0_pay17 wc wg wo a o gc gg x) ((Ideal.ofBits .f32 0x44800000#32)) pg pb tg)) (ix2 p q) : EReal) = da (weights wc wg wo pg pb) (token
        a o gc gg x tg p) q := by
  unfold k0_pay2
  pointwise [da, dot, pay28_apply wc wg wo a o gc gg x pg pb tg]
  rfl

theorem pay3_apply (p : Fin 256) (q : Fin 1024) :
    (k0_pay3 wg (k0_pay29 wo (k0_pay14 gg) (k0_pay18 (k0_pay17 wc wg wo a o gc gg x) ((Ideal.ofBits .f32 0x44800000#32))) (k0_pay19 (k0_pay16
        wc wg wo a o gc gg x) (k0_pay17 wc wg wo a o gc gg x) ((Ideal.ofBits .f32 0x44800000#32))) pg (k0_pay22 (k0_pay16 wc wg wo a o gc gg x)
        (k0_pay17 wc wg wo a o gc gg x) ((Ideal.ofBits .f32 0x44800000#32)) pg pb tg)) (ix2 p q) : EReal) = dO (weights wc wg wo pg pb) (token
        a o gc gg x tg p) q := by
  unfold k0_pay3
  pointwise [dO, dot, pay29_apply wc wg wo a o gc gg x pg pb tg]
  rfl

end Cert.MergeStepIdeal.Block

end
-- ==== Proof.MergeLeaves.lean ====
/-
  What one grid point of the merge call leaves in each of its output blocks, as the body's own expressions of the point's
  input blocks (and, for the three accumulated blocks, of what the point before left).
-/
module

public import proofs.«01_k».proof.Proof.Gen.MergeStepIdeal.Frame
public import Idealize.ShloMosaic.Lib.Pipeline.Value
public import Idealize.ShloMosaic.Lib.Pipeline.ValueKit
public import Idealize.ShloMosaic.Lib.WritesUnit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MergeStepIdeal.Leaves

open Cert.MergeStepIdeal Cert.MergeStepIdeal.Gen

theorem hz : (![0, 0] : Fin 2 → Nat) = fun _ => 0 := funext fun a => by fin_cases a <;> rfl

/-- The two halves of the gate block: the gate of the convolution path and the gate of the recurrent path. -/
def lo (gt : Vec Ideal S256x2048 .f32) : Vec Ideal S256x1024 .f32 := fun y => gt (ix2 (y 0) ⟨(y 1).val, by have := (y 1).isLt; dsimp at this; omega⟩)
def hi (gt : Vec Ideal S256x2048 .f32) : Vec Ideal S256x1024 .f32 := fun y => gt (ix2 (y 0) ⟨1024 + (y 1).val, by have := (y 1).isLt; dsimp at this; omega⟩)

theorem ld_lo (gt : Vec Ideal S256x2048 .f32) :
    View.ld gt (Rect.unit (s := S256x2048) ![0, 0] (no_index S256x1024.size) inb_S256x2048_S256x1024_0_0) = lo gt := by
  funext y
  refine View.ld_unit_apply_of _ _ _ _ _ _ fun a => ?_
  match a with
  | ⟨0, _⟩ => show (y 0).val = 0 + (y 0).val; omega
  | ⟨1, _⟩ => show (y 1).val = 0 + (y 1).val; omega

theorem ld_hi (gt : Vec Ideal S256x2048 .f32) :
    View.ld gt (Rect.unit (s := S256x2048) ![0, 1024] (no_index S256x1024.size) inb_S256x2048_S256x1024_0_1024) = hi gt := by
  funext y
  refine View.ld_unit_apply_of _ _ _ _ _ _ fun a => ?_
  match a with
  | ⟨0, _⟩ => show (y 0).val = 0 + (y 0).val; omega
  | ⟨1, _⟩ => show 1024 + (y 1).val = 1024 + (y 1).val; omega

/-- Row 0 of a block of eight rows, and that block with its row 0 replaced. -/
def row0 (e : Vec Ideal S8x1024 .f32) : Vec Ideal S1x1024 .f32 := fun y => e (ix2 (0 : Fin 8) (y 1))
def overRow0 (w : Vec Ideal S1x1024 .f32) (e : Vec Ideal S8x1024 .f32) : Vec Ideal S8x1024 .f32 :=
  fun y => if (y 0).val = 0 then w (ix2 (0 : Fin 1) (y 1)) else e y

/-- Two blocks of 1024 columns side by side. -/
def beside (u w : Vec Ideal S256x1024 .bf16) : Vec Ideal S256x2048 .bf16 :=
  fun y => if h : (y 1).val < 1024 then u (ix2 (y 0) ⟨(y 1).val, h⟩)
    else w (ix2 (y 0) ⟨(y 1).val - 1024, by have := (y 1).isLt; dsimp at this; omega⟩)

theorem ld_row0 (e : Vec Ideal S8x1024 .f32) :
    View.ld e (Rect.unit (s := S8x1024) ![0, 0] (no_index S1x1024.size) inb_S8x1024_S1x1024_0_0) = row0 e := by
  funext y
  refine View.ld_unit_apply_of _ _ _ _ _ _ fun a => ?_
  match a with
  | ⟨0, _⟩ => show 0 = 0 + (y 0).val; have h : (y 0).val < 1 := (y 0).isLt; omega
  | ⟨1, _⟩ => show (y 1).val = 0 + (y 1).val; omega

theorem read_full (v : View sig .tc .vmem S8x1024 .f32) (f : v.ty.Contents (Elt Ideal)) (w : Vec Ideal S8x1024 .f32) :
    v.read (Elt Ideal) (v.writes (Elt Ideal) f [(⟨Rect.unit (s := S8x1024) ![0, 0] (no_index S8x1024.size) inb_S8x1024_S8x1024_0_0, w⟩ :
      View.Piece (Elt Ideal) S8x1024 .f32)]) = w := by
  funext y
  refine View.read_writes_cons_unit_of_mem v f _ w [] y y rfl fun a => ?_
  match a with
  | ⟨0, _⟩ => show (y 0).val = 0 + (y 0).val; omega
  | ⟨1, _⟩ => show (y 1).val = 0 + (y 1).val; omega

theorem readCov_row0 (v : View sig .tc .vmem S8x1024 .f32) (e : Vec Ideal S8x1024 .f32) :
    v.readCov [(⟨Rect.unit (s := S8x1024) ![0, 0] (no_index S8x1024.size) inb_S8x1024_S8x1024_0_0, e⟩ : View.Piece (Elt Ideal) S8x1024 .f32)]
      (Rect.unit (s := S8x1024) ![0, 0] (no_index S1x1024.size) inb_S8x1024_S1x1024_0_0).toLoadRect = row0 e := by
  show v.readAt (Elt Ideal) _ (v.writes (Elt Ideal) v.junk _) = _
  rw [View.readAt_eq_ld, read_full, ld_row0]

theorem over_row0 (v : View sig .tc .vmem S8x1024 .f32) (f : v.ty.Contents (Elt Ideal)) (w : Vec Ideal S1x1024 .f32)
    (L : List (View.Piece (Elt Ideal) S8x1024 .f32)) :
    v.read (Elt Ideal) (v.writes (Elt Ideal) f ((⟨Rect.unit (s := S8x1024) ![0, 0] (no_index S1x1024.size) inb_S8x1024_S1x1024_0_0, w⟩ :
      View.Piece (Elt Ideal) S8x1024 .f32) :: L)) = overRow0 w (v.read (Elt Ideal) (v.writes (Elt Ideal) f L)) := by
  funext y
  unfold overRow0
  by_cases h : (y 0).val = 0
  · rw [if_pos h]
    refine View.read_writes_cons_unit_of_mem v f _ w L y (ix2 (0 : Fin 1) (y 1)) rfl fun a => ?_
    match a with
    | ⟨0, _⟩ => show (y 0).val = 0 + 0; omega
    | ⟨1, _⟩ => show (y 1).val = 0 + (y 1).val; omega
  · rw [if_neg h]
    exact View.read_writes_cons_unit_of_not_mem v f _ w L y rfl (0 : Fin 2) (.inr (by show 0 + 1 ≤ (y 0).val; omega))

theorem two_halves (v : View sig .tc .vmem S256x2048 .bf16) (f : v.ty.Contents (Elt Ideal)) (u w : Vec Ideal S256x1024 .bf16) :
    v.read (Elt Ideal) (v.writes (Elt Ideal) f
      [(⟨Rect.unit (s := S256x2048) ![0, 1024] (no_index S256x1024.size) inb_S256x2048_S256x1024_0_1024, w⟩ : View.Piece (Elt Ideal) S256x2048 .bf16),
       (⟨Rect.unit (s := S256x2048) ![0, 0] (no_index S256x1024.size) inb_S256x2048_S256x1024_0_0, u⟩ : View.Piece (Elt Ideal) S256x2048 .bf16)])
      = beside u w := by
  funext y
  have hy : (y 1).val < 2048 := (y 1).isLt
  unfold beside
  by_cases h : (y 1).val < 1024
  · rw [dif_pos h]
    refine (View.read_writes_cons_unit_of_not_mem v f _ w _ y rfl (1 : Fin 2) (.inl h)).trans ?_
    refine View.read_writes_cons_unit_of_mem v f _ u [] y (ix2 (y 0) ⟨(y 1).val, h⟩) rfl fun a => ?_
    match a with
    | ⟨0, _⟩ => show (y 0).val = 0 + (y 0).val; omega
    | ⟨1, _⟩ => show (y 1).val = 0 + (y 1).val; omega
  · rw [dif_neg h]
    refine View.read_writes_cons_unit_of_mem v f _ w _ y (ix2 (y 0) ⟨(y 1).val - 1024, by omega⟩) rfl fun a => ?_
    match a with
    | ⟨0, _⟩ => show (y 0).val = 0 + (y 0).val; omega
    | ⟨1, _⟩ => show (y 1).val = 1024 + ((y 1).val - 1024); omega

section Terms

variable (wc wg wo : Vec Ideal S1024x1024 .bf16) (a o : Vec Ideal S256x1024 .bf16)
  (gt : Vec Ideal S256x2048 .f32) (x : Vec Ideal S256x1024 .f32) (pg pb : Vec Ideal S1x1024 .f32) (tg : Vec Ideal S256x1024 .f32)

/-- The residual sum, the sums of its rows' squares, the rows' scales, the normalised rows, and the gradient at the output. -/
def zB := k0_pay16 wc wg wo a o (lo gt) (hi gt) x
def sqB := k0_pay17 wc wg wo a o (lo gt) (hi gt) x
def rB := k0_pay18 (sqB wc wg wo a o gt x) (Ideal.ofBits .f32 0x44800000#32)
def xB := k0_pay19 (zB wc wg wo a o gt x) (sqB wc wg wo a o gt x) (Ideal.ofBits .f32 0x44800000#32)
def dyB := k0_pay22 (zB wc wg wo a o gt x) (sqB wc wg wo a o gt x) (Ideal.ofBits .f32 0x44800000#32) pg pb tg

end Terms

section Blocks

variable (c : Dev nD) (i : grid0.Coords)
  (a1 : Memref sig .tc .vmem S256x1024 .bf16) (h1 : a1.IsWhole)
  (a2 : Memref sig .tc .vmem S256x1024 .bf16) (h2 : a2.IsWhole)
  (a3 : Memref sig .tc .vmem S256x2048 .f32) (h3 : a3.IsWhole)
  (a4 : Memref sig .tc .vmem S256x1024 .f32) (h4 : a4.IsWhole)
  (a5 : Memref sig .tc .vmem S256x1024 .f32) (h5 : a5.IsWhole)
  (a6 : Memref sig .tc .vmem S1024x1024 .bf16) (h6 : a6.IsWhole)
  (a7 : Memref sig .tc .vmem S1024x1024 .bf16) (h7 : a7.IsWhole)
  (a8 : Memref sig .tc .vmem S1024x1024 .bf16) (h8 : a8.IsWhole)
  (a9 : Memref sig .tc .vmem S1x1024 .f32) (h9 : a9.IsWhole)
  (a10 : Memref sig .tc .vmem S1x1024 .f32) (h10 : a10.IsWhole)
  (a11 : Memref sig .tc .vmem S8x128 .f32) (h11 : a11.IsWhole)
  (a12 : Memref sig .tc .vmem S8x1024 .f32) (h12 : a12.IsWhole)
  (a13 : Memref sig .tc .vmem S8x1024 .f32) (h13 : a13.IsWhole)
  (a14 : Memref sig .tc .vmem S256x1024 .f32) (h14 : a14.IsWhole)
  (a15 : Memref sig .tc .vmem S256x2048 .bf16) (h15 : a15.IsWhole)
  (a16 : Memref sig .tc .vmem S256x1024 .f32) (h16 : a16.IsWhole)
  (a17 : Memref sig .tc .vmem S256x1024 .f32) (h17 : a17.IsWhole)
  (a18 : Memref sig .tc .vmem S256x1024 .bf16) (h18 : a18.IsWhole)
  (a19 : Memref sig .tc .vmem S256x1024 .bf16) (h19 : a19.IsWhole)
  (a20 : Memref sig .tc .vmem S256x1024 .bf16) (h20 : a20.IsWhole)
  (a21 : Memref sig .tc .vmem S256x1024 .bf16) (h21 : a21.IsWhole)
  (a : Vec Ideal S256x1024 .bf16) (o : Vec Ideal S256x1024 .bf16) (gt : Vec Ideal S256x2048 .f32) (x : Vec Ideal S256x1024 .f32)
  (tg : Vec Ideal S256x1024 .f32) (wc wg wo : Vec Ideal S1024x1024 .bf16) (pg pb : Vec Ideal S1x1024 .f32)
  (e10 : Vec Ideal S8x128 .f32) (e11 e12 : Vec Ideal S8x1024 .f32)

theorem out10_A (hc : cond0_0 i) :
    out0_A_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay21 (zB wc wg wo a o gt x) (sqB wc wg wo a o gt x) (Ideal.ofBits .f32 0x44800000#32) pg pb tg (k0_pay8 (F := Ideal)) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out10_B (hc : ¬cond0_0 i) :
    out0_B_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay21 (zB wc wg wo a o gt x) (sqB wc wg wo a o gt x) (Ideal.ofBits .f32 0x44800000#32) pg pb tg e10 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out11_A (hc : cond0_0 i) :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = overRow0 (k0_pay23 (zB wc wg wo a o gt x) (sqB wc wg wo a o gt x) (Ideal.ofBits .f32 0x44800000#32) pg pb tg (row0 (k0_pay9 (F := Ideal)))) (k0_pay9 (F := Ideal)) := by
  unfold out0_A_11 kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi, ld_row0, over_row0, read_full, readCov_row0]
  all_goals rfl

theorem out11_B (hc : ¬cond0_0 i) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = overRow0 (k0_pay23 (zB wc wg wo a o gt x) (sqB wc wg wo a o gt x) (Ideal.ofBits .f32 0x44800000#32) pg pb tg (row0 e11)) e11 := by
  unfold out0_B_11 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi, ld_row0, over_row0, View.writes_nil, h12.read_unread]
  all_goals rfl

theorem out12_A (hc : cond0_0 i) :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = overRow0 (k0_pay24 (dyB wc wg wo a o gt x pg pb tg) (row0 (k0_pay10 (F := Ideal)))) (k0_pay10 (F := Ideal)) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi, ld_row0, over_row0, read_full, readCov_row0]
  all_goals rfl

theorem out12_B (hc : ¬cond0_0 i) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = overRow0 (k0_pay24 (dyB wc wg wo a o gt x pg pb tg) (row0 e12)) e12 := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi, ld_row0, over_row0, View.writes_nil, h13.read_unread]
  all_goals rfl

theorem out13_A (hc : cond0_0 i) :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay26 (rB wc wg wo a o gt x) (xB wc wg wo a o gt x) pg (dyB wc wg wo a o gt x pg pb tg) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out13_B (hc : ¬cond0_0 i) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay26 (rB wc wg wo a o gt x) (xB wc wg wo a o gt x) pg (dyB wc wg wo a o gt x pg pb tg) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out14_A (hc : cond0_0 i) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = beside (k0_pay30 wo (k0_pay11 wc a) (k0_pay13 (lo gt)) (rB wc wg wo a o gt x) (xB wc wg wo a o gt x) pg (dyB wc wg wo a o gt x pg pb tg))
        (k0_pay1 (k0_pay14 (hi gt)) (k0_pay31 wo (k0_pay12 wg o) (k0_pay14 (hi gt)) (rB wc wg wo a o gt x) (xB wc wg wo a o gt x) pg (dyB wc wg wo a o gt x pg pb tg))) := by
  unfold out0_A_14 kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi, ld_row0, two_halves]
  all_goals rfl

theorem out14_B (hc : ¬cond0_0 i) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = beside (k0_pay30 wo (k0_pay11 wc a) (k0_pay13 (lo gt)) (rB wc wg wo a o gt x) (xB wc wg wo a o gt x) pg (dyB wc wg wo a o gt x pg pb tg))
        (k0_pay1 (k0_pay14 (hi gt)) (k0_pay31 wo (k0_pay12 wg o) (k0_pay14 (hi gt)) (rB wc wg wo a o gt x) (xB wc wg wo a o gt x) pg (dyB wc wg wo a o gt x pg pb tg))) := by
  unfold out0_B_14 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi, ld_row0, two_halves]
  all_goals rfl

theorem out15_A (hc : cond0_0 i) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay2 wc (k0_pay28 wo (k0_pay13 (lo gt)) (rB wc wg wo a o gt x) (xB wc wg wo a o gt x) pg (dyB wc wg wo a o gt x pg pb tg)) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out15_B (hc : ¬cond0_0 i) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay2 wc (k0_pay28 wo (k0_pay13 (lo gt)) (rB wc wg wo a o gt x) (xB wc wg wo a o gt x) pg (dyB wc wg wo a o gt x pg pb tg)) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out16_A (hc : cond0_0 i) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay3 wg (k0_pay29 wo (k0_pay14 (hi gt)) (rB wc wg wo a o gt x) (xB wc wg wo a o gt x) pg (dyB wc wg wo a o gt x pg pb tg)) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out16_B (hc : ¬cond0_0 i) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay3 wg (k0_pay29 wo (k0_pay14 (hi gt)) (rB wc wg wo a o gt x) (xB wc wg wo a o gt x) pg (dyB wc wg wo a o gt x pg pb tg)) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out17_A (hc : cond0_0 i) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay4 (k0_pay15 wc wg a o (lo gt) (hi gt)) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out17_B (hc : ¬cond0_0 i) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay4 (k0_pay15 wc wg a o (lo gt) (hi gt)) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out18_A (hc : cond0_0 i) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay5 (k0_pay25 (rB wc wg wo a o gt x) (xB wc wg wo a o gt x) pg (dyB wc wg wo a o gt x pg pb tg)) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out18_B (hc : ¬cond0_0 i) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay5 (k0_pay25 (rB wc wg wo a o gt x) (xB wc wg wo a o gt x) pg (dyB wc wg wo a o gt x pg pb tg)) := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out19_A (hc : cond0_0 i) :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay6 (k0_pay28 wo (k0_pay13 (lo gt)) (rB wc wg wo a o gt x) (xB wc wg wo a o gt x) pg (dyB wc wg wo a o gt x pg pb tg)) := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out19_B (hc : ¬cond0_0 i) :
    out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay6 (k0_pay28 wo (k0_pay13 (lo gt)) (rB wc wg wo a o gt x) (xB wc wg wo a o gt x) pg (dyB wc wg wo a o gt x pg pb tg)) := by
  unfold out0_B_19
  rw [View.read_writes_eq_canon _ _ _ (cover0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out20_A (hc : cond0_0 i) :
    out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb
      = k0_pay7 (k0_pay29 wo (k0_pay14 (hi gt)) (rB wc wg wo a o gt x) (xB wc wg wo a o gt x) pg (dyB wc wg wo a o gt x pg pb tg)) := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

theorem out20_B (hc : ¬cond0_0 i) :
    out0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12
      = k0_pay7 (k0_pay29 wo (k0_pay14 (hi gt)) (rB wc wg wo a o gt x) (xB wc wg wo a o gt x) pg (dyB wc wg wo a o gt x pg pb tg)) := by
  unfold out0_B_20
  rw [View.read_writes_eq_canon _ _ _ (cover0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc a o gt x tg wc wg wo pg pb e10 e11 e12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1024x1024) hz, View.ld_unit_zero (S := S1x1024) hz, View.ld_unit_zero (S := S8x128) hz, shapeCast_self, ld_lo, ld_hi]
  all_goals rfl

end Blocks

end Cert.MergeStepIdeal.Leaves

end
-- ==== Proof.MergeKernel.lean ====
/-
  The arrays the merge call returns, element by element: every token's rows and gradients, and, for the three arrays one
  block of which is carried through the grid, the sums over all tokens.
-/
module

public import proofs.«01_k».proof.Proof.Dot
public import proofs.«01_k».proof.Proof.MergeRow
public import proofs.«01_k».proof.Proof.MergeBlock
public import proofs.«01_k».proof.Proof.MergeLeaves
public import proofs.«01_k».proof.Proof.Gen.MergeStepIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain Cert.Merge

namespace Cert.MergeStepIdeal.Arrays

open Cert.MergeStepIdeal Cert.MergeStepIdeal.Gen Cert.MergeStepIdeal.Leaves

variable (m : (ℓ : Loc nD τ sig) → Buf (Elt Ideal) ℓ) (c : Dev nD)

/-- The weights in memory, and token `r` of the arrays in memory. -/
def wts : Weights where
  wc i j := m ((c : Thread nD τ).loc main_arg5) (ix2 i j)
  wg i j := m ((c : Thread nD τ).loc main_arg6) (ix2 i j)
  wo i j := m ((c : Thread nD τ).loc main_arg7) (ix2 i j)
  pg j := m ((c : Thread nD τ).loc main_arg8) (ix2 0 j)
  pb j := m ((c : Thread nD τ).loc main_arg9) (ix2 0 j)

def tok (r : Fin 8192) : Token where
  a j := m ((c : Thread nD τ).loc main_arg0) (ix2 r j)
  o j := m ((c : Thread nD τ).loc main_arg1) (ix2 r j)
  gc j := m ((c : Thread nD τ).loc main_arg2) (ix2 r ⟨j.val, by omega⟩)
  gg j := m ((c : Thread nD τ).loc main_arg2) (ix2 r ⟨1024 + j.val, by omega⟩)
  x j := m ((c : Thread nD τ).loc main_arg3) (ix2 r j)
  tg j := m ((c : Thread nD τ).loc main_arg4) (ix2 r j)

/-- Where the windows of a point stand. -/
theorem rows_eq : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem fixed_eq : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem carried_eq : ∀ t : Fin cfg0.N,
    (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem index13 : ∀ t : Fin cfg0.N, win0_13.index t (0 : Fin 2) = t.val ∧ win0_13.index t (1 : Fin 2) = 0 :=
  (by decide +kernel : ∀ t : Fin grid0.N, _)

theorem index14 : ∀ t : Fin cfg0.N, win0_14.index t (0 : Fin 2) = t.val ∧ win0_14.index t (1 : Fin 2) = 0 :=
  (by decide +kernel : ∀ t : Fin grid0.N, _)

theorem index15 : ∀ t : Fin cfg0.N, win0_15.index t (0 : Fin 2) = t.val ∧ win0_15.index t (1 : Fin 2) = 0 :=
  (by decide +kernel : ∀ t : Fin grid0.N, _)

theorem index16 : ∀ t : Fin cfg0.N, win0_16.index t (0 : Fin 2) = t.val ∧ win0_16.index t (1 : Fin 2) = 0 :=
  (by decide +kernel : ∀ t : Fin grid0.N, _)

theorem index17 : ∀ t : Fin cfg0.N, win0_17.index t (0 : Fin 2) = t.val ∧ win0_17.index t (1 : Fin 2) = 0 :=
  (by decide +kernel : ∀ t : Fin grid0.N, _)

theorem index18 : ∀ t : Fin cfg0.N, win0_18.index t (0 : Fin 2) = t.val ∧ win0_18.index t (1 : Fin 2) = 0 :=
  (by decide +kernel : ∀ t : Fin grid0.N, _)

theorem index19 : ∀ t : Fin cfg0.N, win0_19.index t (0 : Fin 2) = t.val ∧ win0_19.index t (1 : Fin 2) = 0 :=
  (by decide +kernel : ∀ t : Fin grid0.N, _)

theorem index20 : ∀ t : Fin cfg0.N, win0_20.index t (0 : Fin 2) = t.val ∧ win0_20.index t (1 : Fin 2) = 0 :=
  (by decide +kernel : ∀ t : Fin grid0.N, _)

theorem blk0 (t : Fin cfg0.N) (p : Fin 256) (q : Fin 1024) (r : Fin 8192) (hr : r.val = 256 * t.val + p.val) :
    (iblk m c 0 t (ix2 p q) : EReal) = m ((c : Thread nD τ).loc main_arg0) (ix2 r q) := by
  have h := rows_eq t
  obtain ⟨e0, e1⟩ := h.1
  show V m c main_arg0 _ = m ((c : Thread nD τ).loc main_arg0) _
  rw [V_main_arg0]
  congr 1
  funext a; apply Fin.ext
  match a with
  | ⟨0, _⟩ => show win0_0.index t 0 * 256 + 1 * p.val = r.val; rw [e0]; omega
  | ⟨1, _⟩ => show win0_0.index t 1 * 1024 + 1 * q.val = q.val; rw [e1]; omega

theorem blk1 (t : Fin cfg0.N) (p : Fin 256) (q : Fin 1024) (r : Fin 8192) (hr : r.val = 256 * t.val + p.val) :
    (iblk m c 1 t (ix2 p q) : EReal) = m ((c : Thread nD τ).loc main_arg1) (ix2 r q) := by
  have h := rows_eq t
  obtain ⟨e0, e1⟩ := h.2.1
  show V m c main_arg1 _ = m ((c : Thread nD τ).loc main_arg1) _
  rw [V_main_arg1]
  congr 1
  funext a; apply Fin.ext
  match a with
  | ⟨0, _⟩ => show win0_1.index t 0 * 256 + 1 * p.val = r.val; rw [e0]; omega
  | ⟨1, _⟩ => show win0_1.index t 1 * 1024 + 1 * q.val = q.val; rw [e1]; omega

theorem blk2 (t : Fin cfg0.N) (p : Fin 256) (q : Fin 2048) (r : Fin 8192) (hr : r.val = 256 * t.val + p.val) :
    (iblk m c 2 t (ix2 p q) : EReal) = m ((c : Thread nD τ).loc main_arg2) (ix2 r q) := by
  have h := rows_eq t
  obtain ⟨e0, e1⟩ := h.2.2.1
  show V m c main_arg2 _ = m ((c : Thread nD τ).loc main_arg2) _
  rw [V_main_arg2]
  congr 1
  funext a; apply Fin.ext
  match a with
  | ⟨0, _⟩ => show win0_2.index t 0 * 256 + 1 * p.val = r.val; rw [e0]; omega
  | ⟨1, _⟩ => show win0_2.index t 1 * 2048 + 1 * q.val = q.val; rw [e1]; omega

theorem blk3 (t : Fin cfg0.N) (p : Fin 256) (q : Fin 1024) (r : Fin 8192) (hr : r.val = 256 * t.val + p.val) :
    (iblk m c 3 t (ix2 p q) : EReal) = m ((c : Thread nD τ).loc main_arg3) (ix2 r q) := by
  have h := rows_eq t
  obtain ⟨e0, e1⟩ := h.2.2.2.1
  show V m c main_arg3 _ = m ((c : Thread nD τ).loc main_arg3) _
  rw [V_main_arg3]
  congr 1
  funext a; apply Fin.ext
  match a with
  | ⟨0, _⟩ => show win0_3.index t 0 * 256 + 1 * p.val = r.val; rw [e0]; omega
  | ⟨1, _⟩ => show win0_3.index t 1 * 1024 + 1 * q.val = q.val; rw [e1]; omega

theorem blk4 (t : Fin cfg0.N) (p : Fin 256) (q : Fin 1024) (r : Fin 8192) (hr : r.val = 256 * t.val + p.val) :
    (iblk m c 4 t (ix2 p q) : EReal) = m ((c : Thread nD τ).loc main_arg4) (ix2 r q) := by
  have h := rows_eq t
  obtain ⟨e0, e1⟩ := h.2.2.2.2
  show V m c main_arg4 _ = m ((c : Thread nD τ).loc main_arg4) _
  rw [V_main_arg4]
  congr 1
  funext a; apply Fin.ext
  match a with
  | ⟨0, _⟩ => show win0_4.index t 0 * 256 + 1 * p.val = r.val; rw [e0]; omega
  | ⟨1, _⟩ => show win0_4.index t 1 * 1024 + 1 * q.val = q.val; rw [e1]; omega

theorem blk5 (t : Fin cfg0.N) (p : Fin 1024) (q : Fin 1024) :
    (iblk m c 5 t (ix2 p q) : EReal) = m ((c : Thread nD τ).loc main_arg5) (ix2 p q) := by
  have h := fixed_eq t
  obtain ⟨e0, e1⟩ := h.1
  show V m c main_arg5 _ = m ((c : Thread nD τ).loc main_arg5) _
  rw [V_main_arg5]
  congr 1
  funext a; apply Fin.ext
  match a with
  | ⟨0, _⟩ => show win0_5.index t 0 * 1024 + 1 * p.val = p.val; rw [e0]; omega
  | ⟨1, _⟩ => show win0_5.index t 1 * 1024 + 1 * q.val = q.val; rw [e1]; omega

theorem blk6 (t : Fin cfg0.N) (p : Fin 1024) (q : Fin 1024) :
    (iblk m c 6 t (ix2 p q) : EReal) = m ((c : Thread nD τ).loc main_arg6) (ix2 p q) := by
  have h := fixed_eq t
  obtain ⟨e0, e1⟩ := h.2.1
  show V m c main_arg6 _ = m ((c : Thread nD τ).loc main_arg6) _
  rw [V_main_arg6]
  congr 1
  funext a; apply Fin.ext
  match a with
  | ⟨0, _⟩ => show win0_6.index t 0 * 1024 + 1 * p.val = p.val; rw [e0]; omega
  | ⟨1, _⟩ => show win0_6.index t 1 * 1024 + 1 * q.val = q.val; rw [e1]; omega

theorem blk7 (t : Fin cfg0.N) (p : Fin 1024) (q : Fin 1024) :
    (iblk m c 7 t (ix2 p q) : EReal) = m ((c : Thread nD τ).loc main_arg7) (ix2 p q) := by
  have h := fixed_eq t
  obtain ⟨e0, e1⟩ := h.2.2.1
  show V m c main_arg7 _ = m ((c : Thread nD τ).loc main_arg7) _
  rw [V_main_arg7]
  congr 1
  funext a; apply Fin.ext
  match a with
  | ⟨0, _⟩ => show win0_7.index t 0 * 1024 + 1 * p.val = p.val; rw [e0]; omega
  | ⟨1, _⟩ => show win0_7.index t 1 * 1024 + 1 * q.val = q.val; rw [e1]; omega

theorem blk8 (t : Fin cfg0.N) (p : Fin 1) (q : Fin 1024) :
    (iblk m c 8 t (ix2 p q) : EReal) = m ((c : Thread nD τ).loc main_arg8) (ix2 p q) := by
  have h := fixed_eq t
  obtain ⟨e0, e1⟩ := h.2.2.2.1
  show V m c main_arg8 _ = m ((c : Thread nD τ).loc main_arg8) _
  rw [V_main_arg8]
  congr 1
  funext a; apply Fin.ext
  match a with
  | ⟨0, _⟩ => show win0_8.index t 0 * 1 + 1 * p.val = p.val; rw [e0]; omega
  | ⟨1, _⟩ => show win0_8.index t 1 * 1024 + 1 * q.val = q.val; rw [e1]; omega

theorem blk9 (t : Fin cfg0.N) (p : Fin 1) (q : Fin 1024) :
    (iblk m c 9 t (ix2 p q) : EReal) = m ((c : Thread nD τ).loc main_arg9) (ix2 p q) := by
  have h := fixed_eq t
  obtain ⟨e0, e1⟩ := h.2.2.2.2
  show V m c main_arg9 _ = m ((c : Thread nD τ).loc main_arg9) _
  rw [V_main_arg9]
  congr 1
  funext a; apply Fin.ext
  match a with
  | ⟨0, _⟩ => show win0_9.index t 0 * 1 + 1 * p.val = p.val; rw [e0]; omega
  | ⟨1, _⟩ => show win0_9.index t 1 * 1024 + 1 * q.val = q.val; rw [e1]; omega

/-- The weights of every point are the weights in memory. -/
theorem weights_eq (t : Fin cfg0.N) : Block.weights (iblk m c 5 t) (iblk m c 6 t) (iblk m c 7 t) (iblk m c 8 t) (iblk m c 9 t) = wts m c := by
  unfold Block.weights wts
  congr 1
  · funext i j; exact blk5 m c t i j
  · funext i j; exact blk6 m c t i j
  · funext i j; exact blk7 m c t i j
  · funext j; exact blk8 m c t 0 j
  · funext j; exact blk9 m c t 0 j

/-- Row `p` of point `t`'s blocks is token `256 t + p`. -/
theorem token_eq (t : Fin cfg0.N) (p : Fin 256) (r : Fin 8192) (hr : r.val = 256 * t.val + p.val) :
    Block.token (iblk m c 0 t) (iblk m c 1 t) (lo (iblk m c 2 t)) (hi (iblk m c 2 t)) (iblk m c 3 t) (iblk m c 4 t) p = tok m c r := by
  unfold Block.token tok
  congr 1
  · funext j; exact blk0 m c t p j r hr
  · funext j; exact blk1 m c t p j r hr
  · funext j; exact blk2 m c t p ⟨j.val, by omega⟩ r hr
  · funext j; exact blk2 m c t p ⟨1024 + j.val, by omega⟩ r hr
  · funext j; exact blk3 m c t p j r hr
  · funext j; exact blk4 m c t p j r hr

theorem leaf13 (t : Fin cfg0.N) :
    (outsAt0 m c t.val t.isLt).2.2.2.1 = k0_pay26 (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t)) := by
  by_cases h : t.val % 32 = 0
  · rw [outsAt0_A m c t h]; dsimp only; exact out13_A ..
  · rw [outsAt0_B m c t h]; dsimp only; exact out13_B ..

theorem val13 (t : Fin cfg0.N) (p : Fin 256) (q : Fin 1024) (r : Fin 8192) (hr : r.val = 256 * t.val + p.val) :
    ((outsAt0 m c t.val t.isLt).2.2.2.1 (ix2 p q) : EReal) = (fun W T j => cAlpha * dz W T j) (wts m c) (tok m c r) q := by
  rw [leaf13, ← weights_eq m c t, ← token_eq m c t p r hr]
  exact Block.pay26_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p q

def arr13 : Buf (Elt Ideal) ((c : Thread nD τ).loc main_v0_3) := fun i => (fun W T j => cAlpha * dz W T j) (wts m c) (tok m c (i 0)) (i 1)

theorem flushed13_eq (t : Fin cfg0.N) :
    (dats m 0 c).flushed 13 t = ((cfg0.win 13).blk t).view.read (Elt Ideal) (arr13 m c) := by
  obtain ⟨e0, e1⟩ := index13 t
  show (cfg0.win 13).cut (grid0.coords t) ((dats m 0 c).after 13 t) = _
  rw [after0_13]
  funext y
  have hp : (y 0).val < 256 := (y 0).isLt
  have hq : (y 1).val < 1024 := (y 1).isLt
  have ht : t.val < 32 := t.isLt
  have hy : (cfg0.win 13).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 13).blk t).view.emb y 0).val = win0_13.index t (0 : Fin 2) * 256 + 1 * (y 0).val := rfl
  have g1 : (((cfg0.win 13).blk t).view.emb y 1).val = win0_13.index t (1 : Fin 2) * 1024 + 1 * (y 1).val := rfl
  show ((outsAt0 m c t.val t.isLt).2.2.2.1 ((cfg0.win 13).xinj (grid0.coords t) y) : EReal)
    = (fun W T j => cAlpha * dz W T j) (wts m c) (tok m c (((cfg0.win 13).blk t).view.emb y 0)) (((cfg0.win 13).blk t).view.emb y 1)
  rw [hy]
  have hq' : (⟨(y 1).val, hq⟩ : Fin 1024) = ((cfg0.win 13).blk t).view.emb y 1 := by
    apply Fin.ext; rw [g1, e1]; dsimp only; omega
  rw [← hq']
  exact val13 m c t ⟨(y 0).val, hp⟩ ⟨(y 1).val, hq⟩ _ (by rw [g0, e0]; dsimp only; omega)

theorem final13 : (dats m 0 c).arrAt 13 cfg0.N = arr13 m c :=
  (dats m 0 c).arrAt_eq_of_cover 13 (arr13 m c) (fun t _ => flushed13_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_13 t, ?_⟩
    obtain ⟨e0, e1⟩ := index13 t
    show i ∈ ((View.whole main_v0_3).slice (win0_13.rect t)).set
    rw [View.set_slice_whole, Rect.mem_set_unit]
    intro a
    match a with
    | ⟨0, _⟩ => show win0_13.index t 0 * 256 ≤ (i 0).val ∧ (i 0).val < win0_13.index t 0 * 256 + 256; rw [e0]; dsimp only; omega
    | ⟨1, _⟩ => show win0_13.index t 1 * 1024 ≤ (i 1).val ∧ (i 1).val < win0_13.index t 1 * 1024 + 1024; rw [e1]; omega

theorem leaf15 (t : Fin cfg0.N) :
    (outsAt0 m c t.val t.isLt).2.2.2.2.2.1 = k0_pay2 (iblk m c 5 t) (k0_pay28 (iblk m c 7 t) (k0_pay13 (lo (iblk m c 2 t))) (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t))) := by
  by_cases h : t.val % 32 = 0
  · rw [outsAt0_A m c t h]; dsimp only; exact out15_A ..
  · rw [outsAt0_B m c t h]; dsimp only; exact out15_B ..

theorem val15 (t : Fin cfg0.N) (p : Fin 256) (q : Fin 1024) (r : Fin 8192) (hr : r.val = 256 * t.val + p.val) :
    ((outsAt0 m c t.val t.isLt).2.2.2.2.2.1 (ix2 p q) : EReal) = (da) (wts m c) (tok m c r) q := by
  rw [leaf15, ← weights_eq m c t, ← token_eq m c t p r hr]
  exact Block.pay2_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p q

def arr15 : Buf (Elt Ideal) ((c : Thread nD τ).loc main_v0_5) := fun i => (da) (wts m c) (tok m c (i 0)) (i 1)

theorem flushed15_eq (t : Fin cfg0.N) :
    (dats m 0 c).flushed 15 t = ((cfg0.win 15).blk t).view.read (Elt Ideal) (arr15 m c) := by
  obtain ⟨e0, e1⟩ := index15 t
  show (cfg0.win 15).cut (grid0.coords t) ((dats m 0 c).after 15 t) = _
  rw [after0_15]
  funext y
  have hp : (y 0).val < 256 := (y 0).isLt
  have hq : (y 1).val < 1024 := (y 1).isLt
  have ht : t.val < 32 := t.isLt
  have hy : (cfg0.win 15).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 15).blk t).view.emb y 0).val = win0_15.index t (0 : Fin 2) * 256 + 1 * (y 0).val := rfl
  have g1 : (((cfg0.win 15).blk t).view.emb y 1).val = win0_15.index t (1 : Fin 2) * 1024 + 1 * (y 1).val := rfl
  show ((outsAt0 m c t.val t.isLt).2.2.2.2.2.1 ((cfg0.win 15).xinj (grid0.coords t) y) : EReal)
    = (da) (wts m c) (tok m c (((cfg0.win 15).blk t).view.emb y 0)) (((cfg0.win 15).blk t).view.emb y 1)
  rw [hy]
  have hq' : (⟨(y 1).val, hq⟩ : Fin 1024) = ((cfg0.win 15).blk t).view.emb y 1 := by
    apply Fin.ext; rw [g1, e1]; dsimp only; omega
  rw [← hq']
  exact val15 m c t ⟨(y 0).val, hp⟩ ⟨(y 1).val, hq⟩ _ (by rw [g0, e0]; dsimp only; omega)

theorem final15 : (dats m 0 c).arrAt 15 cfg0.N = arr15 m c :=
  (dats m 0 c).arrAt_eq_of_cover 15 (arr15 m c) (fun t _ => flushed15_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_15 t, ?_⟩
    obtain ⟨e0, e1⟩ := index15 t
    show i ∈ ((View.whole main_v0_5).slice (win0_15.rect t)).set
    rw [View.set_slice_whole, Rect.mem_set_unit]
    intro a
    match a with
    | ⟨0, _⟩ => show win0_15.index t 0 * 256 ≤ (i 0).val ∧ (i 0).val < win0_15.index t 0 * 256 + 256; rw [e0]; dsimp only; omega
    | ⟨1, _⟩ => show win0_15.index t 1 * 1024 ≤ (i 1).val ∧ (i 1).val < win0_15.index t 1 * 1024 + 1024; rw [e1]; omega

theorem leaf16 (t : Fin cfg0.N) :
    (outsAt0 m c t.val t.isLt).2.2.2.2.2.2.1 = k0_pay3 (iblk m c 6 t) (k0_pay29 (iblk m c 7 t) (k0_pay14 (hi (iblk m c 2 t))) (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t))) := by
  by_cases h : t.val % 32 = 0
  · rw [outsAt0_A m c t h]; dsimp only; exact out16_A ..
  · rw [outsAt0_B m c t h]; dsimp only; exact out16_B ..

theorem val16 (t : Fin cfg0.N) (p : Fin 256) (q : Fin 1024) (r : Fin 8192) (hr : r.val = 256 * t.val + p.val) :
    ((outsAt0 m c t.val t.isLt).2.2.2.2.2.2.1 (ix2 p q) : EReal) = (dO) (wts m c) (tok m c r) q := by
  rw [leaf16, ← weights_eq m c t, ← token_eq m c t p r hr]
  exact Block.pay3_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p q

def arr16 : Buf (Elt Ideal) ((c : Thread nD τ).loc main_v0_6) := fun i => (dO) (wts m c) (tok m c (i 0)) (i 1)

theorem flushed16_eq (t : Fin cfg0.N) :
    (dats m 0 c).flushed 16 t = ((cfg0.win 16).blk t).view.read (Elt Ideal) (arr16 m c) := by
  obtain ⟨e0, e1⟩ := index16 t
  show (cfg0.win 16).cut (grid0.coords t) ((dats m 0 c).after 16 t) = _
  rw [after0_16]
  funext y
  have hp : (y 0).val < 256 := (y 0).isLt
  have hq : (y 1).val < 1024 := (y 1).isLt
  have ht : t.val < 32 := t.isLt
  have hy : (cfg0.win 16).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 16).blk t).view.emb y 0).val = win0_16.index t (0 : Fin 2) * 256 + 1 * (y 0).val := rfl
  have g1 : (((cfg0.win 16).blk t).view.emb y 1).val = win0_16.index t (1 : Fin 2) * 1024 + 1 * (y 1).val := rfl
  show ((outsAt0 m c t.val t.isLt).2.2.2.2.2.2.1 ((cfg0.win 16).xinj (grid0.coords t) y) : EReal)
    = (dO) (wts m c) (tok m c (((cfg0.win 16).blk t).view.emb y 0)) (((cfg0.win 16).blk t).view.emb y 1)
  rw [hy]
  have hq' : (⟨(y 1).val, hq⟩ : Fin 1024) = ((cfg0.win 16).blk t).view.emb y 1 := by
    apply Fin.ext; rw [g1, e1]; dsimp only; omega
  rw [← hq']
  exact val16 m c t ⟨(y 0).val, hp⟩ ⟨(y 1).val, hq⟩ _ (by rw [g0, e0]; dsimp only; omega)

theorem final16 : (dats m 0 c).arrAt 16 cfg0.N = arr16 m c :=
  (dats m 0 c).arrAt_eq_of_cover 16 (arr16 m c) (fun t _ => flushed16_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_16 t, ?_⟩
    obtain ⟨e0, e1⟩ := index16 t
    show i ∈ ((View.whole main_v0_6).slice (win0_16.rect t)).set
    rw [View.set_slice_whole, Rect.mem_set_unit]
    intro a
    match a with
    | ⟨0, _⟩ => show win0_16.index t 0 * 256 ≤ (i 0).val ∧ (i 0).val < win0_16.index t 0 * 256 + 256; rw [e0]; dsimp only; omega
    | ⟨1, _⟩ => show win0_16.index t 1 * 1024 ≤ (i 1).val ∧ (i 1).val < win0_16.index t 1 * 1024 + 1024; rw [e1]; omega

theorem leaf17 (t : Fin cfg0.N) :
    (outsAt0 m c t.val t.isLt).2.2.2.2.2.2.2.1 = k0_pay4 (k0_pay15 (iblk m c 5 t) (iblk m c 6 t) (iblk m c 0 t) (iblk m c 1 t) (lo (iblk m c 2 t)) (hi (iblk m c 2 t))) := by
  by_cases h : t.val % 32 = 0
  · rw [outsAt0_A m c t h]; dsimp only; exact out17_A ..
  · rw [outsAt0_B m c t h]; dsimp only; exact out17_B ..

theorem val17 (t : Fin cfg0.N) (p : Fin 256) (q : Fin 1024) (r : Fin 8192) (hr : r.val = 256 * t.val + p.val) :
    ((outsAt0 m c t.val t.isLt).2.2.2.2.2.2.2.1 (ix2 p q) : EReal) = (h) (wts m c) (tok m c r) q := by
  rw [leaf17, ← weights_eq m c t, ← token_eq m c t p r hr]
  refine Eq.trans ?_ (Block.pay15_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p q)
  unfold k0_pay4; pointwise []

def arr17 : Buf (Elt Ideal) ((c : Thread nD τ).loc main_v0_7) := fun i => (h) (wts m c) (tok m c (i 0)) (i 1)

theorem flushed17_eq (t : Fin cfg0.N) :
    (dats m 0 c).flushed 17 t = ((cfg0.win 17).blk t).view.read (Elt Ideal) (arr17 m c) := by
  obtain ⟨e0, e1⟩ := index17 t
  show (cfg0.win 17).cut (grid0.coords t) ((dats m 0 c).after 17 t) = _
  rw [after0_17]
  funext y
  have hp : (y 0).val < 256 := (y 0).isLt
  have hq : (y 1).val < 1024 := (y 1).isLt
  have ht : t.val < 32 := t.isLt
  have hy : (cfg0.win 17).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 17).blk t).view.emb y 0).val = win0_17.index t (0 : Fin 2) * 256 + 1 * (y 0).val := rfl
  have g1 : (((cfg0.win 17).blk t).view.emb y 1).val = win0_17.index t (1 : Fin 2) * 1024 + 1 * (y 1).val := rfl
  show ((outsAt0 m c t.val t.isLt).2.2.2.2.2.2.2.1 ((cfg0.win 17).xinj (grid0.coords t) y) : EReal)
    = (h) (wts m c) (tok m c (((cfg0.win 17).blk t).view.emb y 0)) (((cfg0.win 17).blk t).view.emb y 1)
  rw [hy]
  have hq' : (⟨(y 1).val, hq⟩ : Fin 1024) = ((cfg0.win 17).blk t).view.emb y 1 := by
    apply Fin.ext; rw [g1, e1]; dsimp only; omega
  rw [← hq']
  exact val17 m c t ⟨(y 0).val, hp⟩ ⟨(y 1).val, hq⟩ _ (by rw [g0, e0]; dsimp only; omega)

theorem final17 : (dats m 0 c).arrAt 17 cfg0.N = arr17 m c :=
  (dats m 0 c).arrAt_eq_of_cover 17 (arr17 m c) (fun t _ => flushed17_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_17 t, ?_⟩
    obtain ⟨e0, e1⟩ := index17 t
    show i ∈ ((View.whole main_v0_7).slice (win0_17.rect t)).set
    rw [View.set_slice_whole, Rect.mem_set_unit]
    intro a
    match a with
    | ⟨0, _⟩ => show win0_17.index t 0 * 256 ≤ (i 0).val ∧ (i 0).val < win0_17.index t 0 * 256 + 256; rw [e0]; dsimp only; omega
    | ⟨1, _⟩ => show win0_17.index t 1 * 1024 ≤ (i 1).val ∧ (i 1).val < win0_17.index t 1 * 1024 + 1024; rw [e1]; omega

theorem leaf18 (t : Fin cfg0.N) :
    (outsAt0 m c t.val t.isLt).2.2.2.2.2.2.2.2.1 = k0_pay5 (k0_pay25 (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t))) := by
  by_cases h : t.val % 32 = 0
  · rw [outsAt0_A m c t h]; dsimp only; exact out18_A ..
  · rw [outsAt0_B m c t h]; dsimp only; exact out18_B ..

theorem val18 (t : Fin cfg0.N) (p : Fin 256) (q : Fin 1024) (r : Fin 8192) (hr : r.val = 256 * t.val + p.val) :
    ((outsAt0 m c t.val t.isLt).2.2.2.2.2.2.2.2.1 (ix2 p q) : EReal) = (dz) (wts m c) (tok m c r) q := by
  rw [leaf18, ← weights_eq m c t, ← token_eq m c t p r hr]
  refine Eq.trans ?_ (Block.pay25_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p q)
  unfold k0_pay5; pointwise []
  rfl

def arr18 : Buf (Elt Ideal) ((c : Thread nD τ).loc main_v0_8) := fun i => (dz) (wts m c) (tok m c (i 0)) (i 1)

theorem flushed18_eq (t : Fin cfg0.N) :
    (dats m 0 c).flushed 18 t = ((cfg0.win 18).blk t).view.read (Elt Ideal) (arr18 m c) := by
  obtain ⟨e0, e1⟩ := index18 t
  show (cfg0.win 18).cut (grid0.coords t) ((dats m 0 c).after 18 t) = _
  rw [after0_18]
  funext y
  have hp : (y 0).val < 256 := (y 0).isLt
  have hq : (y 1).val < 1024 := (y 1).isLt
  have ht : t.val < 32 := t.isLt
  have hy : (cfg0.win 18).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 18).blk t).view.emb y 0).val = win0_18.index t (0 : Fin 2) * 256 + 1 * (y 0).val := rfl
  have g1 : (((cfg0.win 18).blk t).view.emb y 1).val = win0_18.index t (1 : Fin 2) * 1024 + 1 * (y 1).val := rfl
  show ((outsAt0 m c t.val t.isLt).2.2.2.2.2.2.2.2.1 ((cfg0.win 18).xinj (grid0.coords t) y) : EReal)
    = (dz) (wts m c) (tok m c (((cfg0.win 18).blk t).view.emb y 0)) (((cfg0.win 18).blk t).view.emb y 1)
  rw [hy]
  have hq' : (⟨(y 1).val, hq⟩ : Fin 1024) = ((cfg0.win 18).blk t).view.emb y 1 := by
    apply Fin.ext; rw [g1, e1]; dsimp only; omega
  rw [← hq']
  exact val18 m c t ⟨(y 0).val, hp⟩ ⟨(y 1).val, hq⟩ _ (by rw [g0, e0]; dsimp only; omega)

theorem final18 : (dats m 0 c).arrAt 18 cfg0.N = arr18 m c :=
  (dats m 0 c).arrAt_eq_of_cover 18 (arr18 m c) (fun t _ => flushed18_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_18 t, ?_⟩
    obtain ⟨e0, e1⟩ := index18 t
    show i ∈ ((View.whole main_v0_8).slice (win0_18.rect t)).set
    rw [View.set_slice_whole, Rect.mem_set_unit]
    intro a
    match a with
    | ⟨0, _⟩ => show win0_18.index t 0 * 256 ≤ (i 0).val ∧ (i 0).val < win0_18.index t 0 * 256 + 256; rw [e0]; dsimp only; omega
    | ⟨1, _⟩ => show win0_18.index t 1 * 1024 ≤ (i 1).val ∧ (i 1).val < win0_18.index t 1 * 1024 + 1024; rw [e1]; omega

theorem leaf19 (t : Fin cfg0.N) :
    (outsAt0 m c t.val t.isLt).2.2.2.2.2.2.2.2.2.1 = k0_pay6 (k0_pay28 (iblk m c 7 t) (k0_pay13 (lo (iblk m c 2 t))) (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t))) := by
  by_cases h : t.val % 32 = 0
  · rw [outsAt0_A m c t h]; dsimp only; exact out19_A ..
  · rw [outsAt0_B m c t h]; dsimp only; exact out19_B ..

theorem val19 (t : Fin cfg0.N) (p : Fin 256) (q : Fin 1024) (r : Fin 8192) (hr : r.val = 256 * t.val + p.val) :
    ((outsAt0 m c t.val t.isLt).2.2.2.2.2.2.2.2.2.1 (ix2 p q) : EReal) = (dyc) (wts m c) (tok m c r) q := by
  rw [leaf19, ← weights_eq m c t, ← token_eq m c t p r hr]
  refine Eq.trans ?_ (Block.pay28_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p q)
  unfold k0_pay6; pointwise []
  rfl

def arr19 : Buf (Elt Ideal) ((c : Thread nD τ).loc main_v0_9) := fun i => (dyc) (wts m c) (tok m c (i 0)) (i 1)

theorem flushed19_eq (t : Fin cfg0.N) :
    (dats m 0 c).flushed 19 t = ((cfg0.win 19).blk t).view.read (Elt Ideal) (arr19 m c) := by
  obtain ⟨e0, e1⟩ := index19 t
  show (cfg0.win 19).cut (grid0.coords t) ((dats m 0 c).after 19 t) = _
  rw [after0_19]
  funext y
  have hp : (y 0).val < 256 := (y 0).isLt
  have hq : (y 1).val < 1024 := (y 1).isLt
  have ht : t.val < 32 := t.isLt
  have hy : (cfg0.win 19).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 19).blk t).view.emb y 0).val = win0_19.index t (0 : Fin 2) * 256 + 1 * (y 0).val := rfl
  have g1 : (((cfg0.win 19).blk t).view.emb y 1).val = win0_19.index t (1 : Fin 2) * 1024 + 1 * (y 1).val := rfl
  show ((outsAt0 m c t.val t.isLt).2.2.2.2.2.2.2.2.2.1 ((cfg0.win 19).xinj (grid0.coords t) y) : EReal)
    = (dyc) (wts m c) (tok m c (((cfg0.win 19).blk t).view.emb y 0)) (((cfg0.win 19).blk t).view.emb y 1)
  rw [hy]
  have hq' : (⟨(y 1).val, hq⟩ : Fin 1024) = ((cfg0.win 19).blk t).view.emb y 1 := by
    apply Fin.ext; rw [g1, e1]; dsimp only; omega
  rw [← hq']
  exact val19 m c t ⟨(y 0).val, hp⟩ ⟨(y 1).val, hq⟩ _ (by rw [g0, e0]; dsimp only; omega)

theorem final19 : (dats m 0 c).arrAt 19 cfg0.N = arr19 m c :=
  (dats m 0 c).arrAt_eq_of_cover 19 (arr19 m c) (fun t _ => flushed19_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_19 t, ?_⟩
    obtain ⟨e0, e1⟩ := index19 t
    show i ∈ ((View.whole main_v0_9).slice (win0_19.rect t)).set
    rw [View.set_slice_whole, Rect.mem_set_unit]
    intro a
    match a with
    | ⟨0, _⟩ => show win0_19.index t 0 * 256 ≤ (i 0).val ∧ (i 0).val < win0_19.index t 0 * 256 + 256; rw [e0]; dsimp only; omega
    | ⟨1, _⟩ => show win0_19.index t 1 * 1024 ≤ (i 1).val ∧ (i 1).val < win0_19.index t 1 * 1024 + 1024; rw [e1]; omega

theorem leaf20 (t : Fin cfg0.N) :
    (outsAt0 m c t.val t.isLt).2.2.2.2.2.2.2.2.2.2 = k0_pay7 (k0_pay29 (iblk m c 7 t) (k0_pay14 (hi (iblk m c 2 t))) (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t))) := by
  by_cases h : t.val % 32 = 0
  · rw [outsAt0_A m c t h]; dsimp only; exact out20_A ..
  · rw [outsAt0_B m c t h]; dsimp only; exact out20_B ..

theorem val20 (t : Fin cfg0.N) (p : Fin 256) (q : Fin 1024) (r : Fin 8192) (hr : r.val = 256 * t.val + p.val) :
    ((outsAt0 m c t.val t.isLt).2.2.2.2.2.2.2.2.2.2 (ix2 p q) : EReal) = (dyg) (wts m c) (tok m c r) q := by
  rw [leaf20, ← weights_eq m c t, ← token_eq m c t p r hr]
  refine Eq.trans ?_ (Block.pay29_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p q)
  unfold k0_pay7; pointwise []
  rfl

def arr20 : Buf (Elt Ideal) ((c : Thread nD τ).loc main_v0_10) := fun i => (dyg) (wts m c) (tok m c (i 0)) (i 1)

theorem flushed20_eq (t : Fin cfg0.N) :
    (dats m 0 c).flushed 20 t = ((cfg0.win 20).blk t).view.read (Elt Ideal) (arr20 m c) := by
  obtain ⟨e0, e1⟩ := index20 t
  show (cfg0.win 20).cut (grid0.coords t) ((dats m 0 c).after 20 t) = _
  rw [after0_20]
  funext y
  have hp : (y 0).val < 256 := (y 0).isLt
  have hq : (y 1).val < 1024 := (y 1).isLt
  have ht : t.val < 32 := t.isLt
  have hy : (cfg0.win 20).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 20).blk t).view.emb y 0).val = win0_20.index t (0 : Fin 2) * 256 + 1 * (y 0).val := rfl
  have g1 : (((cfg0.win 20).blk t).view.emb y 1).val = win0_20.index t (1 : Fin 2) * 1024 + 1 * (y 1).val := rfl
  show ((outsAt0 m c t.val t.isLt).2.2.2.2.2.2.2.2.2.2 ((cfg0.win 20).xinj (grid0.coords t) y) : EReal)
    = (dyg) (wts m c) (tok m c (((cfg0.win 20).blk t).view.emb y 0)) (((cfg0.win 20).blk t).view.emb y 1)
  rw [hy]
  have hq' : (⟨(y 1).val, hq⟩ : Fin 1024) = ((cfg0.win 20).blk t).view.emb y 1 := by
    apply Fin.ext; rw [g1, e1]; dsimp only; omega
  rw [← hq']
  exact val20 m c t ⟨(y 0).val, hp⟩ ⟨(y 1).val, hq⟩ _ (by rw [g0, e0]; dsimp only; omega)

theorem final20 : (dats m 0 c).arrAt 20 cfg0.N = arr20 m c :=
  (dats m 0 c).arrAt_eq_of_cover 20 (arr20 m c) (fun t _ => flushed20_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_20 t, ?_⟩
    obtain ⟨e0, e1⟩ := index20 t
    show i ∈ ((View.whole main_v0_10).slice (win0_20.rect t)).set
    rw [View.set_slice_whole, Rect.mem_set_unit]
    intro a
    match a with
    | ⟨0, _⟩ => show win0_20.index t 0 * 256 ≤ (i 0).val ∧ (i 0).val < win0_20.index t 0 * 256 + 256; rw [e0]; dsimp only; omega
    | ⟨1, _⟩ => show win0_20.index t 1 * 1024 ≤ (i 1).val ∧ (i 1).val < win0_20.index t 1 * 1024 + 1024; rw [e1]; omega

theorem leaf14 (t : Fin cfg0.N) :
    (outsAt0 m c t.val t.isLt).2.2.2.2.1 = beside (k0_pay30 (iblk m c 7 t) (k0_pay11 (iblk m c 5 t) (iblk m c 0 t)) (k0_pay13 (lo (iblk m c 2 t))) (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t)))
      (k0_pay1 (k0_pay14 (hi (iblk m c 2 t))) (k0_pay31 (iblk m c 7 t) (k0_pay12 (iblk m c 6 t) (iblk m c 1 t)) (k0_pay14 (hi (iblk m c 2 t))) (rB (iblk m c 5 t) (iblk m c 6 t) (iblk m c 7 t) (iblk m c 0 t) (iblk m c 1 t) (iblk m c 2 t) (iblk m c 3 t)) (xB (iblk m c 5 t) (iblk m c 6 t) (iblk m c 7 t) (iblk m c 0 t) (iblk m c 1 t) (iblk m c 2 t) (iblk m c 3 t)) (iblk m c 8 t) (dyB (iblk m c 5 t) (iblk m c 6 t) (iblk m c 7 t) (iblk m c 0 t) (iblk m c 1 t) (iblk m c 2 t) (iblk m c 3 t) (iblk m c 8 t) (iblk m c 9 t) (iblk m c 4 t)))) := by
  by_cases h : t.val % 32 = 0
  · rw [outsAt0_A m c t h]; dsimp only; exact out14_A ..
  · rw [outsAt0_B m c t h]; dsimp only; exact out14_B ..

/-- The two gates' gradients side by side. -/
def dgate (W : Weights) (T : Token) : Fin 2048 → EReal := fun j =>
  if h : j.val < 1024 then dgc W T ⟨j.val, h⟩ else dgg W T ⟨j.val - 1024, by omega⟩

theorem val14 (t : Fin cfg0.N) (p : Fin 256) (q : Fin 2048) (r : Fin 8192) (hr : r.val = 256 * t.val + p.val) :
    ((outsAt0 m c t.val t.isLt).2.2.2.2.1 (ix2 p q) : EReal) = dgate (wts m c) (tok m c r) q := by
  rw [leaf14, ← weights_eq m c t, ← token_eq m c t p r hr]
  show (if h : q.val < 1024 then _ else _ : EReal) = dgate _ _ q
  unfold dgate
  by_cases h : q.val < 1024
  · rw [dif_pos h, dif_pos h]
    exact Block.pay30_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p ⟨q.val, h⟩
  · rw [dif_neg h, dif_neg h]
    exact Block.pay1_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) p ⟨q.val - 1024, by omega⟩

def arr14 : Buf (Elt Ideal) ((c : Thread nD τ).loc main_v0_4) := fun i => (dgate) (wts m c) (tok m c (i 0)) (i 1)

theorem flushed14_eq (t : Fin cfg0.N) :
    (dats m 0 c).flushed 14 t = ((cfg0.win 14).blk t).view.read (Elt Ideal) (arr14 m c) := by
  obtain ⟨e0, e1⟩ := index14 t
  show (cfg0.win 14).cut (grid0.coords t) ((dats m 0 c).after 14 t) = _
  rw [after0_14]
  funext y
  have hp : (y 0).val < 256 := (y 0).isLt
  have hq : (y 1).val < 2048 := (y 1).isLt
  have ht : t.val < 32 := t.isLt
  have hy : (cfg0.win 14).xinj (grid0.coords t) y = ix2 (⟨(y 0).val, hp⟩ : Fin 256) (⟨(y 1).val, hq⟩ : Fin 2048) := by
    funext a; apply Fin.ext
    match a with
    | ⟨0, _⟩ => rfl
    | ⟨1, _⟩ => rfl
  have g0 : (((cfg0.win 14).blk t).view.emb y 0).val = win0_14.index t (0 : Fin 2) * 256 + 1 * (y 0).val := rfl
  have g1 : (((cfg0.win 14).blk t).view.emb y 1).val = win0_14.index t (1 : Fin 2) * 2048 + 1 * (y 1).val := rfl
  show ((outsAt0 m c t.val t.isLt).2.2.2.2.1 ((cfg0.win 14).xinj (grid0.coords t) y) : EReal)
    = (dgate) (wts m c) (tok m c (((cfg0.win 14).blk t).view.emb y 0)) (((cfg0.win 14).blk t).view.emb y 1)
  rw [hy]
  have hq' : (⟨(y 1).val, hq⟩ : Fin 2048) = ((cfg0.win 14).blk t).view.emb y 1 := by
    apply Fin.ext; rw [g1, e1]; dsimp only; omega
  rw [← hq']
  exact val14 m c t ⟨(y 0).val, hp⟩ ⟨(y 1).val, hq⟩ _ (by rw [g0, e0]; dsimp only; omega)

theorem final14 : (dats m 0 c).arrAt 14 cfg0.N = arr14 m c :=
  (dats m 0 c).arrAt_eq_of_cover 14 (arr14 m c) (fun t _ => flushed14_eq m c t) fun i => by
    have hi0 : (i 0).val < 8192 := (i 0).isLt
    have hi1 : (i 1).val < 2048 := (i 1).isLt
    have hN : cfg0.N = 32 := N_0
    let t : Fin cfg0.N := ⟨(i 0).val / 256, by omega⟩
    have ht : t.val = (i 0).val / 256 := rfl
    refine ⟨t, flush0_14 t, ?_⟩
    obtain ⟨e0, e1⟩ := index14 t
    show i ∈ ((View.whole main_v0_4).slice (win0_14.rect t)).set
    rw [View.set_slice_whole, Rect.mem_set_unit]
    intro a
    match a with
    | ⟨0, _⟩ => show win0_14.index t 0 * 256 ≤ (i 0).val ∧ (i 0).val < win0_14.index t 0 * 256 + 256; rw [e0]; dsimp only; omega
    | ⟨1, _⟩ => show win0_14.index t 1 * 2048 ≤ (i 1).val ∧ (i 1).val < win0_14.index t 1 * 2048 + 2048; rw [e1]; omega

theorem lt8192 (t : Fin cfg0.N) (p : Fin 256) : 256 * t.val + p.val < 8192 := by
  have h : t.val < 32 := t.isLt
  omega

section Loss

variable (H : ∀ r, IsReal (tokLoss (wts m c) (tok m c r)))

include H

/-- One update of the loss block adds half the losses of the point's tokens. -/
theorem step10 (t : Fin cfg0.N) (e : Vec Ideal S8x128 .f32) (u : Fin 8) (q : Fin 128)
    (he : (e (ix2 u q) : EReal) = dotUpTo (fun _ => cHalf) (fun r => tokLoss (wts m c) (tok m c r)) (256 * t.val)) :
    (k0_pay21 (zB (iblk m c 5 t) (iblk m c 6 t) (iblk m c 7 t) (iblk m c 0 t) (iblk m c 1 t) (iblk m c 2 t) (iblk m c 3 t)) (sqB (iblk m c 5 t) (iblk m c 6 t) (iblk m c 7 t) (iblk m c 0 t) (iblk m c 1 t) (iblk m c 2 t) (iblk m c 3 t)) (Ideal.ofBits .f32 0x44800000#32) (iblk m c 8 t) (iblk m c 9 t) (iblk m c 4 t) e (ix2 u q) : EReal)
      = dotUpTo (fun _ => cHalf) (fun r => tokLoss (wts m c) (tok m c r)) (256 * (t.val + 1)) := by
  refine (Block.pay21_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) e u q).trans ?_
  have ht : t.val < 32 := t.isLt
  have e1 : ∀ p : Fin 256, Block.token (iblk m c 0 t) (iblk m c 1 t) (lo (iblk m c 2 t)) (hi (iblk m c 2 t)) (iblk m c 3 t) (iblk m c 4 t) p
      = tok m c ⟨256 * t.val + p.val, lt8192 t p⟩ := fun p => token_eq m c t p _ rfl
  simp only [weights_eq m c t, e1]
  rw [he, Nat.mul_add, Nat.mul_one, mul_sum_real ⟨_, cHalf_eq⟩ fun p => H _]
  exact (dotUpTo_add _ _ _ 256 (fun _ => cHalf) (fun p => tokLoss (wts m c) (tok m c ⟨256 * t.val + p.val, lt8192 t p⟩)) (by omega)
    (fun r hr => rfl) (fun r hr => rfl)).symm

theorem acc10 (u : Fin 8) (q : Fin 128) : ∀ (n : ℕ) (hn : n < cfg0.N),
    ((outsAt0 m c n hn).1 (ix2 u q) : EReal)
      = dotUpTo (fun _ => cHalf) (fun r => tokLoss (wts m c) (tok m c r)) (256 * (n + 1)) := by
  intro n
  induction n with
  | zero =>
    intro hn
    rw [outsAt0_A m c ⟨0, hn⟩ rfl]
    dsimp only
    rw [out10_A]
    refine (step10 m c H ⟨0, hn⟩ _ u q ?_)
    unfold k0_pay8; pointwise []; rfl
  | succ n ih =>
    intro hn
    have h0 : ¬(n + 1) % 32 = 0 := by have : n + 1 < 32 := hn; omega
    rw [outsAt0_B m c ⟨n + 1, hn⟩ h0]
    dsimp only
    rw [out10_B]
    exact (step10 m c H ⟨n + 1, hn⟩ _ u q (ih _))

end Loss

/-- The loss, in every place of its block. -/
def arr10 : Buf (Elt Ideal) ((c : Thread nD τ).loc main_v0_0) := fun _ => dot (fun _ => cHalf) (fun r => tokLoss (wts m c) (tok m c r))

/-- The gradients of the layer norm's gain and offset: in row 0 of their blocks, zeros below. -/
def gain : Fin 1024 → EReal := fun q => dot (fun r => dy (wts m c) (tok m c r) q) (fun r => xhat (z (wts m c) (tok m c r)) q)
def offset : Fin 1024 → EReal := fun q => dot (fun r => dy (wts m c) (tok m c r) q) (fun _ => 1)
def arr11 : Buf (Elt Ideal) ((c : Thread nD τ).loc main_v0_1) := fun i => (if (i 0).val = 0 then gain m c (i 1) else 0 : EReal)
def arr12 : Buf (Elt Ideal) ((c : Thread nD τ).loc main_v0_2) := fun i => (if (i 0).val = 0 then offset m c (i 1) else 0 : EReal)

theorem step11 (t : Fin cfg0.N) (e : Vec Ideal S8x1024 .f32) (u : Fin 8) (q : Fin 1024)
    (he : (e (ix2 u q) : EReal) = if u.val = 0 then dotUpTo (fun r => dy (wts m c) (tok m c r) q) (fun r => xhat (z (wts m c) (tok m c r)) q) (256 * t.val) else 0) :
    (overRow0 (k0_pay23 (zB (iblk m c 5 t) (iblk m c 6 t) (iblk m c 7 t) (iblk m c 0 t) (iblk m c 1 t) (iblk m c 2 t) (iblk m c 3 t)) (sqB (iblk m c 5 t) (iblk m c 6 t) (iblk m c 7 t) (iblk m c 0 t) (iblk m c 1 t) (iblk m c 2 t) (iblk m c 3 t)) (Ideal.ofBits .f32 0x44800000#32) (iblk m c 8 t) (iblk m c 9 t) (iblk m c 4 t) (row0 e)) e (ix2 u q) : EReal)
      = if u.val = 0 then dotUpTo (fun r => dy (wts m c) (tok m c r) q) (fun r => xhat (z (wts m c) (tok m c r)) q) (256 * (t.val + 1)) else 0 := by
  show (if u.val = 0 then k0_pay23 (zB (iblk m c 5 t) (iblk m c 6 t) (iblk m c 7 t) (iblk m c 0 t) (iblk m c 1 t) (iblk m c 2 t) (iblk m c 3 t)) (sqB (iblk m c 5 t) (iblk m c 6 t) (iblk m c 7 t) (iblk m c 0 t) (iblk m c 1 t) (iblk m c 2 t) (iblk m c 3 t)) (Ideal.ofBits .f32 0x44800000#32) (iblk m c 8 t) (iblk m c 9 t) (iblk m c 4 t) (row0 e) (ix2 0 q) else e (ix2 u q) : EReal) = _
  by_cases hu : u.val = 0
  · rw [if_pos hu] at he ⊢
    rw [if_pos hu]
    obtain rfl : u = 0 := Fin.ext hu
    refine (Block.pay23_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) (row0 e) q).trans ?_
    have ht : t.val < 32 := t.isLt
    have e1 : ∀ p : Fin 256, Block.token (iblk m c 0 t) (iblk m c 1 t) (lo (iblk m c 2 t)) (hi (iblk m c 2 t)) (iblk m c 3 t) (iblk m c 4 t) p
        = tok m c ⟨256 * t.val + p.val, lt8192 t p⟩ := fun p => token_eq m c t p _ rfl
    simp only [weights_eq m c t, e1]
    rw [show (row0 e (ix2 0 q) : EReal) = _ from he, Nat.mul_add, Nat.mul_one]
    exact (dotUpTo_add _ _ _ 256 (fun p => dy (wts m c) (tok m c ⟨256 * t.val + p.val, lt8192 t p⟩) q) (fun p => xhat (z (wts m c) (tok m c ⟨256 * t.val + p.val, lt8192 t p⟩)) q) (by omega)
      (fun r hr => rfl) (fun r hr => rfl)).symm
  · rw [if_neg hu] at he ⊢
    rw [if_neg hu]
    exact he

theorem acc11 (u : Fin 8) (q : Fin 1024) : ∀ (n : ℕ) (hn : n < cfg0.N),
    ((outsAt0 m c n hn).2.1 (ix2 u q) : EReal)
      = if u.val = 0 then dotUpTo (fun r => dy (wts m c) (tok m c r) q) (fun r => xhat (z (wts m c) (tok m c r)) q) (256 * (n + 1)) else 0 := by
  intro n
  induction n with
  | zero =>
    intro hn
    rw [outsAt0_A m c ⟨0, hn⟩ rfl]
    dsimp only
    rw [out11_A]
    refine (step11 m c ⟨0, hn⟩ _ u q ?_)
    have h0 : (k0_pay9 (F := Ideal) (ix2 u q) : EReal) = 0 := by unfold k0_pay9; pointwise []
    rw [h0]
    split <;> rfl
  | succ n ih =>
    intro hn
    have h0 : ¬(n + 1) % 32 = 0 := by have : n + 1 < 32 := hn; omega
    rw [outsAt0_B m c ⟨n + 1, hn⟩ h0]
    dsimp only
    rw [out11_B]
    exact (step11 m c ⟨n + 1, hn⟩ _ u q (ih _))

theorem step12 (t : Fin cfg0.N) (e : Vec Ideal S8x1024 .f32) (u : Fin 8) (q : Fin 1024)
    (he : (e (ix2 u q) : EReal) = if u.val = 0 then dotUpTo (fun r => dy (wts m c) (tok m c r) q) (fun _ => 1) (256 * t.val) else 0) :
    (overRow0 (k0_pay24 (dyB (iblk m c 5 t) (iblk m c 6 t) (iblk m c 7 t) (iblk m c 0 t) (iblk m c 1 t) (iblk m c 2 t) (iblk m c 3 t) (iblk m c 8 t) (iblk m c 9 t) (iblk m c 4 t)) (row0 e)) e (ix2 u q) : EReal)
      = if u.val = 0 then dotUpTo (fun r => dy (wts m c) (tok m c r) q) (fun _ => 1) (256 * (t.val + 1)) else 0 := by
  show (if u.val = 0 then k0_pay24 (dyB (iblk m c 5 t) (iblk m c 6 t) (iblk m c 7 t) (iblk m c 0 t) (iblk m c 1 t) (iblk m c 2 t) (iblk m c 3 t) (iblk m c 8 t) (iblk m c 9 t) (iblk m c 4 t)) (row0 e) (ix2 0 q) else e (ix2 u q) : EReal) = _
  by_cases hu : u.val = 0
  · rw [if_pos hu] at he ⊢
    rw [if_pos hu]
    obtain rfl : u = 0 := Fin.ext hu
    refine (Block.pay24_apply (iblk m c 5 t) (iblk m c 6 t) (iblk m c 7 t) (iblk m c 0 t) (iblk m c 1 t) (lo (iblk m c 2 t)) (hi (iblk m c 2 t)) (iblk m c 3 t) (iblk m c 8 t) (iblk m c 9 t) (iblk m c 4 t) (row0 e) q).trans ?_
    have ht : t.val < 32 := t.isLt
    have e1 : ∀ p : Fin 256, Block.token (iblk m c 0 t) (iblk m c 1 t) (lo (iblk m c 2 t)) (hi (iblk m c 2 t)) (iblk m c 3 t) (iblk m c 4 t) p
        = tok m c ⟨256 * t.val + p.val, lt8192 t p⟩ := fun p => token_eq m c t p _ rfl
    simp only [weights_eq m c t, e1]
    rw [show (row0 e (ix2 0 q) : EReal) = _ from he, Nat.mul_add, Nat.mul_one]
    rw [Finset.sum_congr rfl fun p _ => (mul_one (dy (wts m c) (tok m c ⟨256 * t.val + p.val, lt8192 t p⟩) q)).symm]
    exact (dotUpTo_add _ _ _ 256 (fun p => dy (wts m c) (tok m c ⟨256 * t.val + p.val, lt8192 t p⟩) q) (fun _ => 1) (by omega)
      (fun r hr => rfl) (fun r hr => rfl)).symm
  · rw [if_neg hu] at he ⊢
    rw [if_neg hu]
    exact he

theorem acc12 (u : Fin 8) (q : Fin 1024) : ∀ (n : ℕ) (hn : n < cfg0.N),
    ((outsAt0 m c n hn).2.2.1 (ix2 u q) : EReal)
      = if u.val = 0 then dotUpTo (fun r => dy (wts m c) (tok m c r) q) (fun _ => 1) (256 * (n + 1)) else 0 := by
  intro n
  induction n with
  | zero =>
    intro hn
    rw [outsAt0_A m c ⟨0, hn⟩ rfl]
    dsimp only
    rw [out12_A]
    refine (step12 m c ⟨0, hn⟩ _ u q ?_)
    have h0 : (k0_pay10 (F := Ideal) (ix2 u q) : EReal) = 0 := by unfold k0_pay10; pointwise []
    rw [h0]
    split <;> rfl
  | succ n ih =>
    intro hn
    have h0 : ¬(n + 1) % 32 = 0 := by have : n + 1 < 32 := hn; omega
    rw [outsAt0_B m c ⟨n + 1, hn⟩ h0]
    dsimp only
    rw [out12_B]
    exact (step12 m c ⟨n + 1, hn⟩ _ u q (ih _))

theorem flushed10_eq (H : ∀ r, IsReal (tokLoss (wts m c) (tok m c r))) (t : Fin cfg0.N) (hf : (cfg0.win 10).flush t = true) :
    (dats m 0 c).flushed 10 t = ((cfg0.win 10).blk t).view.read (Elt Ideal) (arr10 m c) := by
  have h := carried_eq t
  obtain ⟨e0, e1⟩ := h.1
  have ht : t.val < 32 := t.isLt
  have h31 : t.val = 31 := by have := (flush0_10 t).mp hf; omega
  show (cfg0.win 10).cut (grid0.coords t) ((dats m 0 c).after 10 t) = _
  rw [after0_10]
  funext y
  have hp : (y 0).val < 8 := (y 0).isLt
  have hq : (y 1).val < 128 := (y 1).isLt
  have hy : (cfg0.win 10).xinj (grid0.coords t) y = ix2 (⟨(y 0).val, hp⟩ : Fin 8) (⟨(y 1).val, hq⟩ : Fin 128) := by
    funext a; apply Fin.ext
    match a with
    | ⟨0, _⟩ => rfl
    | ⟨1, _⟩ => rfl
  show ((outsAt0 m c t.val t.isLt).1 ((cfg0.win 10).xinj (grid0.coords t) y) : EReal)
    = arr10 m c (((cfg0.win 10).blk t).view.emb y)
  rw [hy]
  refine (acc10 m c H _ _ t.val t.isLt).trans ?_
  rw [h31]
  exact dotUpTo_all _ _

theorem final10 (H : ∀ r, IsReal (tokLoss (wts m c) (tok m c r))) : (dats m 0 c).arrAt 10 cfg0.N = arr10 m c :=
  (dats m 0 c).arrAt_eq_of_cover 10 (arr10 m c) (flushed10_eq m c H) fun i => by
    have hi0 : (i 0).val < 8 := (i 0).isLt
    have hi1 : (i 1).val < 128 := (i 1).isLt
    have hN : cfg0.N = 32 := N_0
    let t : Fin cfg0.N := ⟨31, by omega⟩
    refine ⟨t, (flush0_10 t).mpr rfl, ?_⟩
    have h := carried_eq t
    obtain ⟨e0, e1⟩ := h.1
    show i ∈ ((View.whole main_v0_0).slice (win0_10.rect t)).set
    rw [View.set_slice_whole, Rect.mem_set_unit]
    intro a
    match a with
    | ⟨0, _⟩ => show win0_10.index t 0 * 8 ≤ (i 0).val ∧ (i 0).val < win0_10.index t 0 * 8 + 8; rw [e0]; omega
    | ⟨1, _⟩ => show win0_10.index t 1 * 128 ≤ (i 1).val ∧ (i 1).val < win0_10.index t 1 * 128 + 128; rw [e1]; omega

theorem flushed11_eq (t : Fin cfg0.N) (hf : (cfg0.win 11).flush t = true) :
    (dats m 0 c).flushed 11 t = ((cfg0.win 11).blk t).view.read (Elt Ideal) (arr11 m c) := by
  have h := carried_eq t
  obtain ⟨e0, e1⟩ := h.2.1
  have ht : t.val < 32 := t.isLt
  have h31 : t.val = 31 := by have := (flush0_11 t).mp hf; omega
  show (cfg0.win 11).cut (grid0.coords t) ((dats m 0 c).after 11 t) = _
  rw [after0_11]
  funext y
  have hp : (y 0).val < 8 := (y 0).isLt
  have hq : (y 1).val < 1024 := (y 1).isLt
  have hy : (cfg0.win 11).xinj (grid0.coords t) y = ix2 (⟨(y 0).val, hp⟩ : Fin 8) (⟨(y 1).val, hq⟩ : Fin 1024) := by
    funext a; apply Fin.ext
    match a with
    | ⟨0, _⟩ => rfl
    | ⟨1, _⟩ => rfl
  show ((outsAt0 m c t.val t.isLt).2.1 ((cfg0.win 11).xinj (grid0.coords t) y) : EReal)
    = arr11 m c (((cfg0.win 11).blk t).view.emb y)
  rw [hy]
  have g0 : (((cfg0.win 11).blk t).view.emb y 0).val = win0_11.index t (0 : Fin 2) * 8 + 1 * (y 0).val := rfl
  have g1 : (((cfg0.win 11).blk t).view.emb y 1).val = win0_11.index t (1 : Fin 2) * 1024 + 1 * (y 1).val := rfl
  rw [e0] at g0
  have g0' : (((cfg0.win 11).blk t).view.emb y 0).val = (y 0).val := by omega
  have hq' : (⟨(y 1).val, hq⟩ : Fin 1024) = ((cfg0.win 11).blk t).view.emb y 1 := by
    apply Fin.ext; rw [g1, e1]; dsimp only; omega
  refine (acc11 m c _ _ t.val t.isLt).trans ?_
  show _ = if (((cfg0.win 11).blk t).view.emb y 0).val = 0 then gain m c (((cfg0.win 11).blk t).view.emb y 1) else 0
  rw [g0', ← hq', h31]
  exact if_congr Iff.rfl (dotUpTo_all _ _) rfl

theorem final11 : (dats m 0 c).arrAt 11 cfg0.N = arr11 m c :=
  (dats m 0 c).arrAt_eq_of_cover 11 (arr11 m c) (flushed11_eq m c) fun i => by
    have hi0 : (i 0).val < 8 := (i 0).isLt
    have hi1 : (i 1).val < 1024 := (i 1).isLt
    have hN : cfg0.N = 32 := N_0
    let t : Fin cfg0.N := ⟨31, by omega⟩
    refine ⟨t, (flush0_11 t).mpr rfl, ?_⟩
    have h := carried_eq t
    obtain ⟨e0, e1⟩ := h.2.1
    show i ∈ ((View.whole main_v0_1).slice (win0_11.rect t)).set
    rw [View.set_slice_whole, Rect.mem_set_unit]
    intro a
    match a with
    | ⟨0, _⟩ => show win0_11.index t 0 * 8 ≤ (i 0).val ∧ (i 0).val < win0_11.index t 0 * 8 + 8; rw [e0]; omega
    | ⟨1, _⟩ => show win0_11.index t 1 * 1024 ≤ (i 1).val ∧ (i 1).val < win0_11.index t 1 * 1024 + 1024; rw [e1]; omega

theorem flushed12_eq (t : Fin cfg0.N) (hf : (cfg0.win 12).flush t = true) :
    (dats m 0 c).flushed 12 t = ((cfg0.win 12).blk t).view.read (Elt Ideal) (arr12 m c) := by
  have h := carried_eq t
  obtain ⟨e0, e1⟩ := h.2.2
  have ht : t.val < 32 := t.isLt
  have h31 : t.val = 31 := by have := (flush0_12 t).mp hf; omega
  show (cfg0.win 12).cut (grid0.coords t) ((dats m 0 c).after 12 t) = _
  rw [after0_12]
  funext y
  have hp : (y 0).val < 8 := (y 0).isLt
  have hq : (y 1).val < 1024 := (y 1).isLt
  have hy : (cfg0.win 12).xinj (grid0.coords t) y = ix2 (⟨(y 0).val, hp⟩ : Fin 8) (⟨(y 1).val, hq⟩ : Fin 1024) := by
    funext a; apply Fin.ext
    match a with
    | ⟨0, _⟩ => rfl
    | ⟨1, _⟩ => rfl
  show ((outsAt0 m c t.val t.isLt).2.2.1 ((cfg0.win 12).xinj (grid0.coords t) y) : EReal)
    = arr12 m c (((cfg0.win 12).blk t).view.emb y)
  rw [hy]
  have g0 : (((cfg0.win 12).blk t).view.emb y 0).val = win0_12.index t (0 : Fin 2) * 8 + 1 * (y 0).val := rfl
  have g1 : (((cfg0.win 12).blk t).view.emb y 1).val = win0_12.index t (1 : Fin 2) * 1024 + 1 * (y 1).val := rfl
  rw [e0] at g0
  have g0' : (((cfg0.win 12).blk t).view.emb y 0).val = (y 0).val := by omega
  have hq' : (⟨(y 1).val, hq⟩ : Fin 1024) = ((cfg0.win 12).blk t).view.emb y 1 := by
    apply Fin.ext; rw [g1, e1]; dsimp only; omega
  refine (acc12 m c _ _ t.val t.isLt).trans ?_
  show _ = if (((cfg0.win 12).blk t).view.emb y 0).val = 0 then offset m c (((cfg0.win 12).blk t).view.emb y 1) else 0
  rw [g0', ← hq', h31]
  exact if_congr Iff.rfl (dotUpTo_all _ _) rfl

theorem final12 : (dats m 0 c).arrAt 12 cfg0.N = arr12 m c :=
  (dats m 0 c).arrAt_eq_of_cover 12 (arr12 m c) (flushed12_eq m c) fun i => by
    have hi0 : (i 0).val < 8 := (i 0).isLt
    have hi1 : (i 1).val < 1024 := (i 1).isLt
    have hN : cfg0.N = 32 := N_0
    let t : Fin cfg0.N := ⟨31, by omega⟩
    refine ⟨t, (flush0_12 t).mpr rfl, ?_⟩
    have h := carried_eq t
    obtain ⟨e0, e1⟩ := h.2.2
    show i ∈ ((View.whole main_v0_2).slice (win0_12.rect t)).set
    rw [View.set_slice_whole, Rect.mem_set_unit]
    intro a
    match a with
    | ⟨0, _⟩ => show win0_12.index t 0 * 8 ≤ (i 0).val ∧ (i 0).val < win0_12.index t 0 * 8 + 8; rw [e0]; omega
    | ⟨1, _⟩ => show win0_12.index t 1 * 1024 ≤ (i 1).val ∧ (i 1).val < win0_12.index t 1 * 1024 + 1024; rw [e1]; omega

end Cert.MergeStepIdeal.Arrays

end
-- ==== Proof.MergeRef.lean ====
/-
  The merge reference, element by element: each named value of the reference at a token `r` and a column `q` is the
      value
  `Cert.Merge` gives that token.
-/
module

public import proofs.«01_k».proof.Proof.MergeRow
public import proofs.«01_k».proof.Proof.Gen.MergeStepRefIdeal.Run
public import Idealize.ShloMosaic.Lib.Pointwise
public import Idealize.ShloMosaic.Lib.Tactic

@[expose] public section

set_option maxRecDepth 16384

noncomputable section

open Idealize.ShloMosaic Idealize.ShloMosaic.TcCoe
open Cert.Plain Cert.Merge

namespace Cert.MergeStepRefIdeal.Rows

open Cert.MergeStepRefIdeal Cert.MergeStepRefIdeal.Gen Cert.MergeStepRefIdeal.Value

variable (V : Valuation τ sig (Elt Ideal))

/-- The weights the reference is given. -/
def weights : Weights where
  wc i j := V (Proc.devRef .tc main_arg5) (ix2 i j)
  wg i j := V (Proc.devRef .tc main_arg6) (ix2 i j)
  wo i j := V (Proc.devRef .tc main_arg7) (ix2 i j)
  pg j := V (Proc.devRef .tc main_arg8) (ix2 0 j)
  pb j := V (Proc.devRef .tc main_arg9) (ix2 0 j)

/-- Token `r` of the arrays the reference is given. -/
def token (r : Fin 8192) : Token where
  a j := V (Proc.devRef .tc main_arg0) (ix2 r j)
  o j := V (Proc.devRef .tc main_arg1) (ix2 r j)
  gc j := V (Proc.devRef .tc main_arg2) (ix2 r ⟨j.val, by omega⟩)
  gg j := V (Proc.devRef .tc main_arg2) (ix2 r ⟨1024 + j.val, by omega⟩)
  x j := V (Proc.devRef .tc main_arg3) (ix2 r j)
  tg j := V (Proc.devRef .tc main_arg4) (ix2 r j)

theorem v5_apply (p : Fin 8192) (q : Fin 1024) : (res_main_v5 V (ix2 p q) : EReal) = yc (weights V) (token V p) q
    := by
  unfold res_main_v5 res_main_v2; pointwise [yc, dot, weights, token]

theorem v6_apply (p : Fin 8192) (q : Fin 1024) : (res_main_v6 V (ix2 p q) : EReal) = yg (weights V) (token V p) q
    := by
  unfold res_main_v6 res_main_v3; pointwise [yg, dot, weights, token]

theorem v14_apply (p : Fin 8192) (q : Fin 1024) : (res_main_v14 V (ix2 p q) : EReal) = sc (token V p) q := by
  unfold res_main_v14; pointwise [sc, Ideal.logistic, token]

theorem v24_apply (p : Fin 8192) (q : Fin 1024) : (res_main_v24 V (ix2 p q) : EReal) = sg (token V p) q := by
  unfold res_main_v24; pointwise [sg, Ideal.logistic, token]

theorem v29_apply (p : Fin 8192) (q : Fin 1024) : (res_main_v29 V (ix2 p q) : EReal) = h (weights V) (token V p) q
    := by
  unfold res_main_v29
  pointwise [h, v5_apply V, v6_apply V, v14_apply V, v24_apply V]

theorem v35_apply (p : Fin 8192) (q : Fin 1024) : (res_main_v35 V (ix2 p q) : EReal) = z (weights V) (token V p) q
    := by
  unfold res_main_v35 res_main_v4
  pointwise [z, dot, cAlpha, v29_apply V, weights, token]

theorem v39_apply (p : Fin 8192) : (res_main_v39 V (ix2 p 0) : EReal) = mean (z (weights V) (token V p)) := by
  unfold res_main_v39
  pointwise [mean, cN, v35_apply V]

theorem v41_apply (p : Fin 8192) (q : Fin 1024) : (res_main_v41 V (ix2 p q) : EReal) = center (z (weights V) (token
    V p)) q := by
  unfold res_main_v41
  pointwise [center, v35_apply V, v39_apply V]

theorem v50_apply (p : Fin 8192) (q : Fin 1024) : (res_main_v50 V (ix2 p q) : EReal) = center (z (weights V) (token
    V p)) q := by
  unfold res_main_v50
  pointwise [center, v35_apply V, v39_apply V]

theorem v52_apply (p : Fin 8192) : (res_main_v52 V (ix2 p 0) : EReal) = spread (z (weights V) (token V p)) := by
  unfold res_main_v52
  pointwise [spread, mean, cN, cEps, v41_apply V]

theorem v53_apply (p : Fin 8192) : (res_main_v53 V (ix2 p 0) : EReal) = rstd (z (weights V) (token V p)) := by
  unfold res_main_v53
  pointwise [rstd, v52_apply V]

theorem v58_apply (p : Fin 8192) (q : Fin 1024) : (res_main_v58 V (ix2 p q) : EReal) = xhat (z (weights V) (token V
    p)) q := by
  unfold res_main_v58
  pointwise [xhat, v50_apply V, v53_apply V]

theorem v59_apply (q : Fin 1024) : (res_main_v59 V (ix2 0 q) : EReal) = (weights V).pg q := by
  unfold res_main_v59
  pointwise [weights]

theorem v65_apply (p : Fin 8192) (q : Fin 1024) : (res_main_v65 V (ix2 p q) : EReal) = err (weights V) (token V p)
    q := by
  unfold res_main_v65
  pointwise [err, v58_apply V, v59_apply V]
  rfl

theorem v79_apply (p : Fin 8192) (q : Fin 1024) : (res_main_v79 V (ix2 p q) : EReal) = dyRef (weights V) (token V
    p) q := by
  unfold res_main_v79
  pointwise [dyRef, cHalf, cN, cTwo, v65_apply V]

theorem v87_apply (p : Fin 8192) (q : Fin 1024) : (res_main_v87 V (ix2 p q) : EReal) = dxhRef (weights V) (token V
    p) q := by
  unfold res_main_v87
  pointwise [dxhRef, v79_apply V, v59_apply V]

theorem v93_apply (p : Fin 8192) (q : Fin 1024) :
    (res_main_v93 V (ix2 p q) : EReal) = dxhRef (weights V) (token V p) q * rstd (z (weights V) (token V p)) := by
  unfold res_main_v93
  pointwise [v87_apply V, v53_apply V]

theorem v102_apply (p : Fin 8192) (q : Fin 1024) :
    (res_main_v102 V (ix2 p q) : EReal) = varPart (z (weights V) (token V p)) (dxhRef (weights V) (token V p)) q := by
  unfold res_main_v102
  pointwise [varPart, cN, cTwo, cNegHalf, v41_apply V, v50_apply V, v52_apply V, v53_apply V, v87_apply V]
  rw [Fin.sum_univ_one, v52_apply V, v53_apply V]

theorem v112_apply (p : Fin 8192) (q : Fin 1024) : (res_main_v112 V (ix2 p q) : EReal) = dzRef (weights V) (token V
    p) q := by
  unfold res_main_v112
  pointwise [dzRef, chainGrad, cN, v93_apply V, v102_apply V]
  rw [Fin.sum_univ_one]

variable {V} (H : ∀ p, Finite (weights V) (token V p))

include H

theorem v115_apply (p : Fin 8192) (q : Fin 1024) : (res_main_v115 V (ix2 p q) : EReal) = dh (weights V) (token V p)
    q := by
  unfold res_main_v115 res_main_v4
  pointwise [dh, dot, v112_apply V, dzRef_eq (H p)]
  rfl

theorem v116_apply (p : Fin 8192) (q : Fin 1024) : (res_main_v116 V (ix2 p q) : EReal) = dyg (weights V) (token V
    p) q := by
  unfold res_main_v116
  pointwise [dyg, v115_apply H, v24_apply V]
  exact EReal.mul_comm _ _

theorem v119_apply (p : Fin 8192) (q : Fin 1024) : (res_main_v119 V (ix2 p q) : EReal) = dyc (weights V) (token V
    p) q := by
  unfold res_main_v119
  pointwise [dyc, v115_apply H, v14_apply V]
  exact EReal.mul_comm _ _

end Cert.MergeStepRefIdeal.Rows

end
-- ==== Proof.MergeSame.lean ====
/-
  The merge reference's results, element by element, for finite arguments: the same values of the same rows that
  the merge call's arrays hold.
-/
module

public import proofs.«01_k».proof.Proof.Dot
public import proofs.«01_k».proof.Proof.MergeRef
public import Idealize.ShloMosaic.Lib.Pointwise
public import Idealize.ShloMosaic.Lib.Tactic

@[expose] public section

set_option maxRecDepth 16384

noncomputable section

open Idealize.ShloMosaic Idealize.ShloMosaic.TcCoe
open Cert.Plain Cert.Merge

namespace Cert.MergeStepRefIdeal.Rows

open Cert.MergeStepRefIdeal Cert.MergeStepRefIdeal.Gen Cert.MergeStepRefIdeal.Value

variable {V : Valuation τ sig (Elt Ideal)} (H : ∀ p, Finite (weights V) (token V p))

include H

theorem r125_apply (u : Fin 8) (q : Fin 128) :
    ((broadcastInDim S8x128 ![] bcast_S_S8x128 (mulf (constant S_ .f32 0x3F000000#32) (Host.reduceAdd (Host.divf (Host.reduceAdd (mulf (res_main_v65 V) (res_main_v65 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))) (ix2 u q) : EReal)
      = dot (fun _ => cHalf) (fun r => tokLoss (weights V) (token V r)) := by
  have e : dot (fun _ => cHalf) (fun r => tokLoss (weights V) (token V r)) = cHalf * ∑ r : Fin 8192, tokLoss (weights V) (token V r) :=
    (mul_sum_real ⟨_, cHalf_eq⟩ fun r => (H r).tokLoss).symm
  rw [e]
  pointwise [cHalf, cN, tokLoss, mean, v65_apply V]

theorem r127_apply (u : Fin 8) (q : Fin 1024) :
    ((pad S8x1024 ![0, 0] ![7, 0] ![0, 0] (broadcastInDim S1x1024 ![1] bcast_S1024_S1x1024_1 (Host.reduceAdd (shapeCast _ (Host.reduceAdd (mulf (res_main_v58 V) (res_main_v79 V)) (constant S_ .f32 0x00000000#32) reducesTo_S8192x1024_S1024_d0 h_S_) shapeCasts_S1024_S1x1024) (constant S_ .f32 0x00000000#32) reducesTo_S1x1024_S1024_d0 h_S_)) (sitofp .f32 (constantI S_ 32 0#32)) pads_S1x1024_S8x1024_070_000 h_S_) (ix2 u q) : EReal)
      = if u.val = 0 then dot (fun r => dy (weights V) (token V r) q) (fun r => xhat (z (weights V) (token V r)) q) else 0 := by
  by_cases hu : u.val = 0
  · obtain rfl : u = 0 := Fin.ext hu
    rw [if_pos hu]
    pointwise []
    rw [Fin.sum_univ_one]
    unfold dot
    refine Finset.sum_congr rfl fun r _ => ?_
    rw [v58_apply V, v79_apply V, dyRef_eq (H r)]
    exact EReal.mul_comm _ _
  · rw [if_neg hu]
    have hv : ¬u.val < 1 := by omega
    pointwise [hv, hu]
    show (((BitVec.toInt 0#32 : ℤ) : ℝ) : EReal) = 0
    simp

theorem r129_apply (u : Fin 8) (q : Fin 1024) :
    ((pad S8x1024 ![0, 0] ![7, 0] ![0, 0] (broadcastInDim S1x1024 ![1] bcast_S1024_S1x1024_1 (Host.reduceAdd (shapeCast _ (Host.reduceAdd (res_main_v79 V) (constant S_ .f32 0x00000000#32) reducesTo_S8192x1024_S1024_d0 h_S_) shapeCasts_S1024_S1x1024) (constant S_ .f32 0x00000000#32) reducesTo_S1x1024_S1024_d0 h_S_)) (sitofp .f32 (constantI S_ 32 0#32)) pads_S1x1024_S8x1024_070_000 h_S_) (ix2 u q) : EReal)
      = if u.val = 0 then dot (fun r => dy (weights V) (token V r) q) (fun r => 1) else 0 := by
  by_cases hu : u.val = 0
  · obtain rfl : u = 0 := Fin.ext hu
    rw [if_pos hu]
    pointwise []
    rw [Fin.sum_univ_one]
    unfold dot
    refine Finset.sum_congr rfl fun r _ => ?_
    rw [v79_apply V, dyRef_eq (H r), mul_one]
  · rw [if_neg hu]
    have hv : ¬u.val < 1 := by omega
    pointwise [hv, hu]
    show (((BitVec.toInt 0#32 : ℤ) : ℝ) : EReal) = 0
    simp

theorem r114_apply (p : Fin 8192) (q : Fin 1024) :
    ((mulf (broadcastInDim S8192x1024 ![] bcast_S_S8192x1024 (constant S_ .f32 0x3F9837F0#32)) (res_main_v112 V)) (ix2 p q) : EReal)
      = cAlpha * dz (weights V) (token V p) q := by
  pointwise [cAlpha, v112_apply V, dzRef_eq (H p)]

theorem r130_apply (p : Fin 8192) (q : Fin 2048) :
    ((truncf .bf16 (concatenate S8192x2048 1 [⟨S8192x1024, (mulf (mulf (res_main_v115 V) (res_main_v5 V)) (mulf (res_main_v14 V) (subf (broadcastInDim S8192x1024 ![] bcast_S_S8192x1024 (constant S_ .f32 0x3F800000#32)) (res_main_v14 V))))⟩, ⟨S8192x1024, (mulf (mulf (res_main_v115 V) (res_main_v6 V)) (mulf (res_main_v24 V) (subf (broadcastInDim S8192x1024 ![] bcast_S_S8192x1024 (constant S_ .f32 0x3F800000#32)) (res_main_v24 V))))⟩] concatenates_S8192x1024_S8192x1024_S8192x2048_d1) bitsLt_bf16_f32) (ix2 p q) : EReal)
      = if h : q.val < 1024 then dgc (weights V) (token V p) ⟨q.val, h⟩ else dgg (weights V) (token V p) ⟨q.val - 1024, by omega⟩ := by
  by_cases hq : q.val < 1024
  · rw [dif_pos hq]
    pointwise [hq, dgc, v115_apply H, v5_apply V, v14_apply V]
    exact (mul_assoc _ _ _).symm
  · rw [dif_neg hq]
    pointwise [hq, dgg, v115_apply H, v6_apply V, v24_apply V]
    exact (mul_assoc _ _ _).symm

theorem r123_apply (p : Fin 8192) (q : Fin 1024) :
    ((Host.dotGeneral (φ₁ := .f32) (φ₂ := .f32) dot_S8192x1024_S1024x1024_S8192x1024_1_1_0_0_n_n none (res_main_v119 V) (res_main_v2 V)) (ix2 p q) : EReal)
      = da (weights V) (token V p) q := by
  unfold res_main_v2
  pointwise [da, dot, v119_apply H]
  rfl

theorem r124_apply (p : Fin 8192) (q : Fin 1024) :
    ((Host.dotGeneral (φ₁ := .f32) (φ₂ := .f32) dot_S8192x1024_S1024x1024_S8192x1024_1_1_0_0_n_n none (res_main_v116 V) (res_main_v3 V)) (ix2 p q) : EReal)
      = dO (weights V) (token V p) q := by
  unfold res_main_v3
  pointwise [dO, dot, v116_apply H]
  rfl

theorem r131_apply (p : Fin 8192) (q : Fin 1024) :
    ((truncf .bf16 (res_main_v29 V) bitsLt_bf16_f32) (ix2 p q) : EReal)
      = h (weights V) (token V p) q := by
  pointwise [v29_apply V]

theorem r132_apply (p : Fin 8192) (q : Fin 1024) :
    ((truncf .bf16 (res_main_v112 V) bitsLt_bf16_f32) (ix2 p q) : EReal)
      = dz (weights V) (token V p) q := by
  pointwise [v112_apply V, dzRef_eq (H p)]

theorem r133_apply (p : Fin 8192) (q : Fin 1024) :
    ((truncf .bf16 (res_main_v119 V) bitsLt_bf16_f32) (ix2 p q) : EReal)
      = dyc (weights V) (token V p) q := by
  pointwise [v119_apply H]

theorem r134_apply (p : Fin 8192) (q : Fin 1024) :
    ((truncf .bf16 (res_main_v116 V) bitsLt_bf16_f32) (ix2 p q) : EReal)
      = dyg (weights V) (token V p) q := by
  pointwise [v116_apply H]

end Cert.MergeStepRefIdeal.Rows

end
-- ==== Proof.MergeValue.lean ====
/-
  The merge call and its reference compute the same arrays of finite arguments.
-/
module

public import proofs.«01_k».proof.Defs
public import proofs.«01_k».proof.Proof.MergeKernel
public import proofs.«01_k».proof.Proof.MergeSame
public import Idealize.ShloMosaic.Lib.Tactic

@[expose] public section

set_option maxRecDepth 16384

noncomputable section

open Idealize.ShloMosaic Idealize.ShloMosaic.TcCoe Idealize.SL.Sem Idealize.ShloMosaic.StableHlo
open Cert.Plain Cert.Merge

namespace Cert.MergeValue

open Cert.MergeStepIdeal in
/-- The tokens and the weights in memory are finite. -/
theorem finite_of_pre [hPre_finite : Cert.Pre_finite.Facts] (m : (ℓ : Loc nD τ sig) → Buf (Elt Ideal) ℓ) (hm : Cert.Pre_MergeStepIdeal_finite m) (c : Dev nD) (r : Fin 8192) :
    Finite (MergeStepIdeal.Arrays.wts m c) (MergeStepIdeal.Arrays.tok m c r) := by
  obtain ⟨h0, h1, h3, h4, h5, h6, h7, h8, h9⟩ := hm c
  exact {
    a := fun j => real_of_lt (congrFun h0 (ix2 r j))
    o := fun j => real_of_lt (congrFun h1 (ix2 r j))
    x := fun j => real_of_lt (congrFun h3 (ix2 r j))
    tg := fun j => real_of_lt (congrFun h4 (ix2 r j))
    wc := fun i j => real_of_lt (congrFun h5 (ix2 i j))
    wg := fun i j => real_of_lt (congrFun h6 (ix2 i j))
    wo := fun i j => real_of_lt (congrFun h7 (ix2 i j))
    pg := fun j => real_of_lt (congrFun h8 (ix2 0 j))
    pb := fun j => real_of_lt (congrFun h9 (ix2 0 j)) }

section
variable [hMergeStepIdeal : Cert.MergeStepIdeal.Facts] [hMergeStepRefIdeal : Cert.MergeStepRefIdeal.Facts] [hPre_finite : Cert.Pre_finite.Facts]

theorem algebraic : Cert.algebraic_MergeStepIdeal_MergeStepRefIdeal_pre_finite := by
  intro m ρ m' ρ' hm hag
  have H := fun c r => finite_of_pre m hm c r
  have HT : ∀ c r, IsReal (tokLoss (MergeStepIdeal.Arrays.wts m c) (MergeStepIdeal.Arrays.tok m c r)) := fun c r => (H c r).tokLoss
  have hW : ∀ c : Dev Cert.MergeStepRefIdeal.nD, MergeStepRefIdeal.Rows.weights (launchContents m' c) = MergeStepIdeal.Arrays.wts m c := fun c => by
    obtain ⟨-, -, -, -, -, a5, a6, a7, a8, a9⟩ := hag c
    unfold MergeStepRefIdeal.Rows.weights MergeStepIdeal.Arrays.wts
    congr 1
    · funext i j; exact congrFun a5 _
    · funext i j; exact congrFun a6 _
    · funext i j; exact congrFun a7 _
    · funext j; exact congrFun a8 _
    · funext j; exact congrFun a9 _
  have hT : ∀ (c : Dev Cert.MergeStepRefIdeal.nD) r, MergeStepRefIdeal.Rows.token (launchContents m' c) r = MergeStepIdeal.Arrays.tok m c r := fun c r => by
    obtain ⟨a0, a1, a2, a3, a4, -⟩ := hag c
    unfold MergeStepRefIdeal.Rows.token MergeStepIdeal.Arrays.tok
    congr 1
    · funext j; exact congrFun a0 _
    · funext j; exact congrFun a1 _
    · funext j; exact congrFun a2 _
    · funext j; exact congrFun a2 _
    · funext j; exact congrFun a3 _
    · funext j; exact congrFun a4 _
  have HR : ∀ c r, Finite (MergeStepRefIdeal.Rows.weights (launchContents m' c)) (MergeStepRefIdeal.Rows.token (launchContents m' c) r) :=
    fun c r => by rw [hW, hT]; exact H c r
  have hTf : ∀ c : Dev Cert.MergeStepRefIdeal.nD, MergeStepRefIdeal.Rows.token (launchContents m' c) = MergeStepIdeal.Arrays.tok m c :=
    fun c => funext (hT c)
  refine ⟨fun c => MergeStepIdeal.Arrays.arr10 m c, fun c => MergeStepIdeal.Arrays.arr11 m c, fun c => MergeStepIdeal.Arrays.arr12 m c, fun c => MergeStepIdeal.Arrays.arr13 m c, fun c => MergeStepIdeal.Arrays.arr14 m c, fun c => MergeStepIdeal.Arrays.arr15 m c, fun c => MergeStepIdeal.Arrays.arr16 m c, fun c => MergeStepIdeal.Arrays.arr17 m c, fun c => MergeStepIdeal.Arrays.arr18 m c, fun c => MergeStepIdeal.Arrays.arr19 m c, fun c => MergeStepIdeal.Arrays.arr20 m c, ?_, ?_⟩
  · exact (θ_run Cert.MergeStepIdeal.defs _ _).mono (fun r h c => ⟨
      (Cert.MergeStepIdeal.Value.post10 m r h c).trans (MergeStepIdeal.Arrays.final10 m c (HT c)),
      (Cert.MergeStepIdeal.Value.post11 m r h c).trans (MergeStepIdeal.Arrays.final11 m c),
      (Cert.MergeStepIdeal.Value.post12 m r h c).trans (MergeStepIdeal.Arrays.final12 m c),
      (Cert.MergeStepIdeal.Value.post13 m r h c).trans (MergeStepIdeal.Arrays.final13 m c),
      (Cert.MergeStepIdeal.Value.post14 m r h c).trans (MergeStepIdeal.Arrays.final14 m c),
      (Cert.MergeStepIdeal.Value.post15 m r h c).trans (MergeStepIdeal.Arrays.final15 m c),
      (Cert.MergeStepIdeal.Value.post16 m r h c).trans (MergeStepIdeal.Arrays.final16 m c),
      (Cert.MergeStepIdeal.Value.post17 m r h c).trans (MergeStepIdeal.Arrays.final17 m c),
      (Cert.MergeStepIdeal.Value.post18 m r h c).trans (MergeStepIdeal.Arrays.final18 m c),
      (Cert.MergeStepIdeal.Value.post19 m r h c).trans (MergeStepIdeal.Arrays.final19 m c),
      (Cert.MergeStepIdeal.Value.post20 m r h c).trans (MergeStepIdeal.Arrays.final20 m c),
      MergeStepIdeal.Value.kept_main_arg0 m r h c, MergeStepIdeal.Value.kept_main_arg1 m r h c, MergeStepIdeal.Value.kept_main_arg2 m r h c, MergeStepIdeal.Value.kept_main_arg3 m r h c, MergeStepIdeal.Value.kept_main_arg4 m r h c, MergeStepIdeal.Value.kept_main_arg5 m r h c, MergeStepIdeal.Value.kept_main_arg6 m r h c, MergeStepIdeal.Value.kept_main_arg7 m r h c, MergeStepIdeal.Value.kept_main_arg8 m r h c, MergeStepIdeal.Value.kept_main_arg9 m r h c⟩) (Cert.MergeStepIdeal.Gen.run_main m ρ)
  · refine (θ_run Cert.MergeStepRefIdeal.defs _ _).mono (fun _ h c => ?_) (Cert.MergeStepRefIdeal.Value.run (F := Ideal) m' ρ')
    obtain ⟨h10, h11, h12, h13, h14, h15, h16, h17, h18, h19, h20, hargs⟩ := h c
    refine ⟨h10.trans ?_, h11.trans ?_, h12.trans ?_, h13.trans ?_, h14.trans ?_, h15.trans ?_, h16.trans ?_, h17.trans ?_, h18.trans ?_, h19.trans ?_, h20.trans ?_, hargs⟩ <;> funext i <;> rw [eta i]
    · refine (MergeStepRefIdeal.Rows.r125_apply (HR c) _ _).trans ?_
      rw [hW c, hTf c]
      rfl
    · refine (MergeStepRefIdeal.Rows.r127_apply (HR c) _ _).trans ?_
      rw [hW c, hTf c]
      rfl
    · refine (MergeStepRefIdeal.Rows.r129_apply (HR c) _ _).trans ?_
      rw [hW c, hTf c]
      rfl
    · refine (MergeStepRefIdeal.Rows.r114_apply (HR c) _ _).trans ?_
      rw [hW c, hTf c]
      rfl
    · refine (MergeStepRefIdeal.Rows.r130_apply (HR c) _ _).trans ?_
      rw [hW c, hTf c]
      rfl
    · refine (MergeStepRefIdeal.Rows.r123_apply (HR c) _ _).trans ?_
      rw [hW c, hTf c]
      rfl
    · refine (MergeStepRefIdeal.Rows.r124_apply (HR c) _ _).trans ?_
      rw [hW c, hTf c]
      rfl
    · refine (MergeStepRefIdeal.Rows.r131_apply (HR c) _ _).trans ?_
      rw [hW c, hTf c]
      rfl
    · refine (MergeStepRefIdeal.Rows.r132_apply (HR c) _ _).trans ?_
      rw [hW c, hTf c]
      rfl
    · refine (MergeStepRefIdeal.Rows.r133_apply (HR c) _ _).trans ?_
      rw [hW c, hTf c]
      rfl
    · refine (MergeStepRefIdeal.Rows.r134_apply (HR c) _ _).trans ?_
      rw [hW c, hTf c]
      rfl

end

end Cert.MergeValue

end
-- ==== Proof.GradInProduct.lean ====
/-
  The value of the transposed product call `GradIn` (columns of the left operand against columns of the right one, the
  rows summed in four runs of 2048 into a carried accumulator): the array the call returns is, element by element, the
  sum over all 8192 rows of the products of the operands' elements, and so is the reference's array.
-/
module

public import proofs.«01_k».proof.Defs
public import proofs.«01_k».proof.Proof.Dot
public import proofs.«01_k».proof.Proof.Gen.GradInIdeal.Value
public import proofs.«01_k».proof.Proof.Gen.GradInRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.GradInIdeal.Product

open Cert.GradInIdeal Cert.GradInIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Column `p` of the left argument array, and column `q` of the right one. -/
def colL (c : Dev nD) (p : Fin 1024) : Fin 8192 → EReal := fun k => m ((c : Thread nD τ).loc main_arg0) (ix2 k p)
def colR (c : Dev nD) (q : Fin 3072) : Fin 8192 → EReal := fun k => m ((c : Thread nD τ).loc main_arg1) (ix2 k q)

/-- The transposed product of the two argument arrays, element by element. -/
def prod (c : Dev nD) : Buf (Elt Ideal) ((c : Thread nD τ).loc main_v0) := fun i =>
  dot (colL m c (i 0)) (colR m c (i 1))

/-- The accumulator's update at an element. -/
theorem pay2_apply (acc : Vec Ideal S1024x1024 .f32) (x : Vec Ideal S2048x1024 .bf16) (w : Vec Ideal S2048x1024 .bf16)
    (p : Fin 1024) (q : Fin 1024) :
    (k0_pay2 acc x w (ix2 p q) : EReal)
      = (acc (ix2 p q) : EReal) + dot (fun k : Fin 2048 => x (ix2 k p)) (fun k => w (ix2 k q)) := by
  unfold k0_pay2
  pointwise [dot]

theorem pay1_apply (p : Fin 1024) (q : Fin 1024) : (k0_pay1 (F := Ideal) (ix2 p q) : EReal) = 0 := by
  unfold k0_pay1
  pointwise []

/-- What the first point of a run leaves in the accumulator. -/
theorem acc_A (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : cond0_0 i) (hc' : ¬cond0_1 i)
    (x : Vec Ideal S2048x1024 .bf16) (w : Vec Ideal S2048x1024 .bf16) :
    sout0_A_0 c i a2 h2 a3 h3 a4 h4 a5 h5 hc hc' x w = k0_pay2 (k0_pay1 (F := Ideal)) x w := by
  unfold sout0_A_0
  rw [View.read_writes_eq_canon _ _ _ (scover0_A_0 c i a2 h2 a3 h3 a4 h4 a5 h5 hc hc' x w)]
  unfold kernelRun0_A
  dsimp only
  sl_unfold_words
  rw [View.canon_cons_unit_zero hz, View.readCov_unit_zero _ hz]
  simp only [View.readAt_eq_ld, h2.read_unread, h3.read_unread, View.ld_unit_zero (S := S2048x1024) hz,
    View.ld_unit_zero (S := S2048x1024) hz, shapeCast_self]

/-- What a middle point of a run leaves in the accumulator. -/
theorem acc_B (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : ¬cond0_1 i)
    (x : Vec Ideal S2048x1024 .bf16) (w : Vec Ideal S2048x1024 .bf16) (acc : Vec Ideal S1024x1024 .f32) :
    sout0_B_0 c i a2 h2 a3 h3 a4 h4 a5 h5 hc hc' x w acc = k0_pay2 acc x w := by
  unfold sout0_B_0
  rw [View.read_writes_eq_canon _ _ _ (scover0_B_0 c i a2 h2 a3 h3 a4 h4 a5 h5 hc hc' x w acc)]
  unfold kernelRun0_B
  dsimp only
  sl_unfold_words
  rw [View.canon_unit_zero hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- What the last point of a run leaves in the accumulator. -/
theorem acc_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : cond0_1 i)
    (x : Vec Ideal S2048x1024 .bf16) (w : Vec Ideal S2048x1024 .bf16) (acc : Vec Ideal S1024x1024 .f32) :
    sout0_C_0 c i a2 h2 a3 h3 a4 h4 a5 h5 hc hc' x w acc = k0_pay2 acc x w := by
  unfold sout0_C_0
  rw [View.read_writes_eq_canon _ _ _ (scover0_C_0 c i a2 h2 a3 h3 a4 h4 a5 h5 hc hc' x w acc)]
  unfold kernelRun0_C
  dsimp only
  sl_unfold_words
  rw [View.canon_unit_zero hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- What the last point of a run leaves in the output block: the accumulator it has just updated, cast. -/
theorem out_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : cond0_1 i)
    (x : Vec Ideal S2048x1024 .bf16) (w : Vec Ideal S2048x1024 .bf16) (acc : Vec Ideal S1024x1024 .f32) :
    out0_C_2 c i a2 h2 a3 h3 a4 h4 a5 h5 hc hc' x w acc = k0_pay3 (k0_pay2 acc x w) := by
  unfold out0_C_2
  rw [View.read_writes_eq_canon _ _ _ (cover0_C_2 c i a2 h2 a3 h3 a4 h4 a5 h5 hc hc' x w acc)]
  unfold kernelRun0_C
  dsimp only
  sl_unfold_words
  rw [View.canon_unit_zero hz, View.readCov_unit_zero _ hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- Where the windows of a point stand. -/
theorem index_eq : ∀ t : Fin cfg0.N, (win0_0.index t (0 : Fin 2) = t.val % 4 ∧ win0_0.index t (1 : Fin 2) = 0)
    ∧ (win0_1.index t (0 : Fin 2) = t.val % 4 ∧ win0_1.index t (1 : Fin 2) = t.val / 4)
    ∧ (win0_2.index t (0 : Fin 2) = 0 ∧ win0_2.index t (1 : Fin 2) = t.val / 4) :=
  (by decide +kernel : ∀ t : Fin grid0.N, _)

/-- One update of the accumulator adds the run of rows that the point's blocks hold. -/
theorem step (c : Dev nD) (t : Fin cfg0.N) (acc : Vec Ideal S1024x1024 .f32) (p : Fin 1024) (q : Fin 1024) (q' : Fin 3072)
    (hq : q'.val = 1024 * (t.val / 4) + q.val)
    (hacc : (acc (ix2 p q) : EReal) = dotUpTo (colL m c p) (colR m c q') (2048 * (t.val % 4))) :
    (k0_pay2 acc (iblk m c 0 t) (iblk m c 1 t) (ix2 p q) : EReal)
      = dotUpTo (colL m c p) (colR m c q') (2048 * (t.val % 4 + 1)) := by
  obtain ⟨⟨e0, e1⟩, ⟨e2, e3⟩, -⟩ := index_eq t
  have hm : t.val % 4 < 4 := Nat.mod_lt _ (by decide)
  rw [pay2_apply, hacc, Nat.mul_add, Nat.mul_one]
  refine (dotUpTo_add _ _ _ 2048 _ _ (by omega) (fun r hr => ?_) (fun r hr => ?_)).symm
  · show V m c main_arg0 _ = m ((c : Thread nD τ).loc main_arg0) _
    rw [V_main_arg0]
    congr 1
    funext a; apply Fin.ext
    match a with
    | ⟨0, _⟩ => show win0_0.index t 0 * 2048 + 1 * r.val = 2048 * (t.val % 4) + r.val; rw [e0]; omega
    | ⟨1, _⟩ => show win0_0.index t 1 * 1024 + 1 * p.val = p.val; rw [e1]; omega
  · show V m c main_arg1 _ = m ((c : Thread nD τ).loc main_arg1) _
    rw [V_main_arg1]
    congr 1
    funext a; apply Fin.ext
    match a with
    | ⟨0, _⟩ => show win0_1.index t 0 * 2048 + 1 * r.val = 2048 * (t.val % 4) + r.val; rw [e2]; omega
    | ⟨1, _⟩ => show win0_1.index t 1 * 1024 + 1 * q.val = q'.val; rw [e3, hq]; omega

/-- After a point the accumulator holds the partial sums over the rows met so far in its run. -/
theorem acc_eq (c : Dev nD) (p : Fin 1024) (q : Fin 1024) : ∀ (n : ℕ) (hn : n < cfg0.N) (q' : Fin 3072),
    q'.val = 1024 * (n / 4) + q.val →
    ((outsAt0 m c n hn).2 (ix2 p q) : EReal) = dotUpTo (colL m c p) (colR m c q') (2048 * (n % 4 + 1)) := by
  intro n
  induction n with
  | zero =>
    intro hn q' hq
    rw [outsAt0_A m c ⟨0, hn⟩ rfl (by dsimp only; omega), acc_A]
    exact step m c ⟨0, hn⟩ _ p q q' hq (pay1_apply p q)
  | succ n ih =>
    intro hn q' hq
    by_cases h0 : (n + 1) % 4 = 0
    · rw [outsAt0_A m c ⟨n + 1, hn⟩ h0 (by dsimp only; omega), acc_A]
      exact step m c ⟨n + 1, hn⟩ _ p q q' hq (by dsimp only; rw [h0]; exact pay1_apply p q)
    · have hprev := ih (Nat.lt_of_succ_lt hn) q' (by rw [hq]; congr 2; omega)
      have hmod : (n + 1) % 4 = n % 4 + 1 := by omega
      by_cases h1 : (n + 1) % 4 = 3
      · rw [outsAt0_C m c ⟨n + 1, hn⟩ h0 h1, acc_C]
        exact step m c ⟨n + 1, hn⟩ _ p q q' hq (by dsimp only; rw [hmod]; exact hprev)
      · rw [outsAt0_B m c ⟨n + 1, hn⟩ h0 h1, acc_B]
        exact step m c ⟨n + 1, hn⟩ _ p q q' hq (by dsimp only; rw [hmod]; exact hprev)

/-- At the last point of a run the output block holds the whole sums. -/
theorem out_eq (c : Dev nD) (t : Fin cfg0.N) (h3 : t.val % 4 = 3) (p : Fin 1024) (q : Fin 1024) (q' : Fin 3072)
    (hq : q'.val = 1024 * (t.val / 4) + q.val) :
    ((outsAt0 m c t.val t.isLt).1 (ix2 p q) : EReal) = dot (colL m c p) (colR m c q') := by
  rw [outsAt0_C m c t (by omega) h3, out_C]
  have hprev := acc_eq m c p q (t.val - 1) (Nat.lt_of_le_of_lt (Nat.sub_le _ _) t.isLt) q' (by rw [hq]; congr 2; omega)
  have hs := step m c t (outsAt0 m c (t.val - 1) (Nat.lt_of_le_of_lt (Nat.sub_le _ _) t.isLt)).2 p q q' hq
    (by rw [hprev]; congr 2; omega)
  rw [h3] at hs
  exact hs.trans (dotUpTo_all _ _)

/-- Every tile of the output is some writing point's. -/
theorem onto : ∀ q1 : Fin 3, ∃ t : Fin cfg0.N, (cfg0.win 2).flush t = true ∧ t.val / 4 = q1.val :=
  (by decide +kernel : ∀ q1 : Fin 3, ∃ t : Fin grid0.N, win0_2.flush t = true ∧ t.val / 4 = q1.val)

/-- What a writing point writes back is its tile of the product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  obtain ⟨-, -, e0, e1⟩ := index_eq t
  show (cfg0.win 2).cut (grid0.coords t) ((dats m 0 c).after 2 t) = _
  rw [after0_2]
  funext y
  have hp : (y 0).val < 1024 := (y 0).isLt
  have hq : (y 1).val < 1024 := (y 1).isLt
  have hN : cfg0.N = 4 * 3 := N_0
  have ht : t.val / 4 < 3 := by have := t.isLt; omega
  have hy : (cfg0.win 2).xinj (grid0.coords t) y = ix2 (⟨(y 0).val, hp⟩ : Fin 1024) (⟨(y 1).val, hq⟩ : Fin 1024) := by
    funext a; apply Fin.ext
    match a with
    | ⟨0, _⟩ => rfl
    | ⟨1, _⟩ => rfl
  show ((outsAt0 m c t.val t.isLt).1 ((cfg0.win 2).xinj (grid0.coords t) y) : EReal)
    = prod m c (((cfg0.win 2).blk t).view.emb y)
  rw [hy]
  refine (out_eq m c t h3 ⟨(y 0).val, hp⟩ ⟨(y 1).val, hq⟩ ⟨1024 * (t.val / 4) + (y 1).val, by omega⟩ rfl).trans ?_
  have g0 : (((cfg0.win 2).blk t).view.emb y 0).val = win0_2.index t (0 : Fin 2) * 1024 + 1 * (y 0).val := rfl
  have g1 : (((cfg0.win 2).blk t).view.emb y 1).val = win0_2.index t (1 : Fin 2) * 1024 + 1 * (y 1).val := rfl
  unfold prod
  congr 2 <;> apply Fin.ext
  · rw [g0, e0]; dsimp only; omega
  · rw [g1, e1]; dsimp only; omega

/-- The array after the run is the product: the tiles cover it. -/
theorem final (c : Dev nD) : (dats m 0 c).arrAt 2 cfg0.N = prod m c :=
  (dats m 0 c).arrAt_eq_of_cover 2 (prod m c) (flushed_eq m c) fun i => by
    have hi0 : (i 0).val < 1024 := (i 0).isLt
    have hi1 : (i 1).val < 3072 := (i 1).isLt
    obtain ⟨t, hf, q1⟩ := onto ⟨(i 1).val / 1024, by omega⟩
    obtain ⟨-, -, e0, e1⟩ := index_eq t
    dsimp only at q1
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

/-- The kernel's returned array equals the reference's, over the extended reals. -/
theorem algebraic : Cert.algebraic_GradInIdeal_GradInRefIdeal := by
  intro m ρ m' ρ' _ hagree
  refine ⟨fun c => prod m c, ?_, ?_⟩
  · exact (θ_run Cert.GradInIdeal.defs _ _).mono
      (fun r h c => ⟨(Cert.GradInIdeal.Value.post2 m r h c).trans (final m c), Cert.GradInIdeal.Value.kept_main_arg0 m r h c,
        Cert.GradInIdeal.Value.kept_main_arg1 m r h c⟩) (run_main m ρ)
  · refine (θ_run Cert.GradInRefIdeal.defs _ _).mono
      (fun _ h c => ⟨(h c).1.trans ?_, (h c).2⟩) (Cert.GradInRefIdeal.Value.run (F := Ideal) m' ρ')
    obtain ⟨h0, h1⟩ := hagree c
    rw [h0, h1]
    funext i
    show _ = dot (colL m c (i 0)) (colR m c (i 1))
    rw [dot_comm]
    unfold dot colL colR
    pointwise []

end Cert.GradInIdeal.Product

end
-- ==== Proof.GradGateProduct.lean ====
/-
  The value of the transposed product call `GradGate` (columns of the left operand against columns of the right one, the
  rows summed in four runs of 2048 into a carried accumulator): the array the call returns is, element by element, the
  sum over all 8192 rows of the products of the operands' elements, and so is the reference's array.
-/
module

public import proofs.«01_k».proof.Defs
public import proofs.«01_k».proof.Proof.Dot
public import proofs.«01_k».proof.Proof.Gen.GradGateIdeal.Value
public import proofs.«01_k».proof.Proof.Gen.GradGateRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.GradGateIdeal.Product

open Cert.GradGateIdeal Cert.GradGateIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Column `p` of the left argument array, and column `q` of the right one. -/
def colL (c : Dev nD) (p : Fin 1024) : Fin 8192 → EReal := fun k => m ((c : Thread nD τ).loc main_arg0) (ix2 k p)
def colR (c : Dev nD) (q : Fin 2048) : Fin 8192 → EReal := fun k => m ((c : Thread nD τ).loc main_arg1) (ix2 k q)

/-- The transposed product of the two argument arrays, element by element. -/
def prod (c : Dev nD) : Buf (Elt Ideal) ((c : Thread nD τ).loc main_v0) := fun i =>
  dot (colL m c (i 0)) (colR m c (i 1))

/-- The accumulator's update at an element. -/
theorem pay2_apply (acc : Vec Ideal S1024x1024 .f32) (x : Vec Ideal S2048x1024 .bf16) (w : Vec Ideal S2048x1024 .bf16)
    (p : Fin 1024) (q : Fin 1024) :
    (k0_pay2 acc x w (ix2 p q) : EReal)
      = (acc (ix2 p q) : EReal) + dot (fun k : Fin 2048 => x (ix2 k p)) (fun k => w (ix2 k q)) := by
  unfold k0_pay2
  pointwise [dot]

theorem pay1_apply (p : Fin 1024) (q : Fin 1024) : (k0_pay1 (F := Ideal) (ix2 p q) : EReal) = 0 := by
  unfold k0_pay1
  pointwise []

/-- What the first point of a run leaves in the accumulator. -/
theorem acc_A (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : cond0_0 i) (hc' : ¬cond0_1 i)
    (x : Vec Ideal S2048x1024 .bf16) (w : Vec Ideal S2048x1024 .bf16) :
    sout0_A_0 c i a2 h2 a3 h3 a4 h4 a5 h5 hc hc' x w = k0_pay2 (k0_pay1 (F := Ideal)) x w := by
  unfold sout0_A_0
  rw [View.read_writes_eq_canon _ _ _ (scover0_A_0 c i a2 h2 a3 h3 a4 h4 a5 h5 hc hc' x w)]
  unfold kernelRun0_A
  dsimp only
  sl_unfold_words
  rw [View.canon_cons_unit_zero hz, View.readCov_unit_zero _ hz]
  simp only [View.readAt_eq_ld, h2.read_unread, h3.read_unread, View.ld_unit_zero (S := S2048x1024) hz,
    View.ld_unit_zero (S := S2048x1024) hz, shapeCast_self]

/-- What a middle point of a run leaves in the accumulator. -/
theorem acc_B (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : ¬cond0_1 i)
    (x : Vec Ideal S2048x1024 .bf16) (w : Vec Ideal S2048x1024 .bf16) (acc : Vec Ideal S1024x1024 .f32) :
    sout0_B_0 c i a2 h2 a3 h3 a4 h4 a5 h5 hc hc' x w acc = k0_pay2 acc x w := by
  unfold sout0_B_0
  rw [View.read_writes_eq_canon _ _ _ (scover0_B_0 c i a2 h2 a3 h3 a4 h4 a5 h5 hc hc' x w acc)]
  unfold kernelRun0_B
  dsimp only
  sl_unfold_words
  rw [View.canon_unit_zero hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- What the last point of a run leaves in the accumulator. -/
theorem acc_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : cond0_1 i)
    (x : Vec Ideal S2048x1024 .bf16) (w : Vec Ideal S2048x1024 .bf16) (acc : Vec Ideal S1024x1024 .f32) :
    sout0_C_0 c i a2 h2 a3 h3 a4 h4 a5 h5 hc hc' x w acc = k0_pay2 acc x w := by
  unfold sout0_C_0
  rw [View.read_writes_eq_canon _ _ _ (scover0_C_0 c i a2 h2 a3 h3 a4 h4 a5 h5 hc hc' x w acc)]
  unfold kernelRun0_C
  dsimp only
  sl_unfold_words
  rw [View.canon_unit_zero hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- What the last point of a run leaves in the output block: the accumulator it has just updated, cast. -/
theorem out_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : cond0_1 i)
    (x : Vec Ideal S2048x1024 .bf16) (w : Vec Ideal S2048x1024 .bf16) (acc : Vec Ideal S1024x1024 .f32) :
    out0_C_2 c i a2 h2 a3 h3 a4 h4 a5 h5 hc hc' x w acc = k0_pay3 (k0_pay2 acc x w) := by
  unfold out0_C_2
  rw [View.read_writes_eq_canon _ _ _ (cover0_C_2 c i a2 h2 a3 h3 a4 h4 a5 h5 hc hc' x w acc)]
  unfold kernelRun0_C
  dsimp only
  sl_unfold_words
  rw [View.canon_unit_zero hz, View.readCov_unit_zero _ hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- Where the windows of a point stand. -/
theorem index_eq : ∀ t : Fin cfg0.N, (win0_0.index t (0 : Fin 2) = t.val % 4 ∧ win0_0.index t (1 : Fin 2) = 0)
    ∧ (win0_1.index t (0 : Fin 2) = t.val % 4 ∧ win0_1.index t (1 : Fin 2) = t.val / 4)
    ∧ (win0_2.index t (0 : Fin 2) = 0 ∧ win0_2.index t (1 : Fin 2) = t.val / 4) :=
  (by decide +kernel : ∀ t : Fin grid0.N, _)

/-- One update of the accumulator adds the run of rows that the point's blocks hold. -/
theorem step (c : Dev nD) (t : Fin cfg0.N) (acc : Vec Ideal S1024x1024 .f32) (p : Fin 1024) (q : Fin 1024) (q' : Fin 2048)
    (hq : q'.val = 1024 * (t.val / 4) + q.val)
    (hacc : (acc (ix2 p q) : EReal) = dotUpTo (colL m c p) (colR m c q') (2048 * (t.val % 4))) :
    (k0_pay2 acc (iblk m c 0 t) (iblk m c 1 t) (ix2 p q) : EReal)
      = dotUpTo (colL m c p) (colR m c q') (2048 * (t.val % 4 + 1)) := by
  obtain ⟨⟨e0, e1⟩, ⟨e2, e3⟩, -⟩ := index_eq t
  have hm : t.val % 4 < 4 := Nat.mod_lt _ (by decide)
  rw [pay2_apply, hacc, Nat.mul_add, Nat.mul_one]
  refine (dotUpTo_add _ _ _ 2048 _ _ (by omega) (fun r hr => ?_) (fun r hr => ?_)).symm
  · show V m c main_arg0 _ = m ((c : Thread nD τ).loc main_arg0) _
    rw [V_main_arg0]
    congr 1
    funext a; apply Fin.ext
    match a with
    | ⟨0, _⟩ => show win0_0.index t 0 * 2048 + 1 * r.val = 2048 * (t.val % 4) + r.val; rw [e0]; omega
    | ⟨1, _⟩ => show win0_0.index t 1 * 1024 + 1 * p.val = p.val; rw [e1]; omega
  · show V m c main_arg1 _ = m ((c : Thread nD τ).loc main_arg1) _
    rw [V_main_arg1]
    congr 1
    funext a; apply Fin.ext
    match a with
    | ⟨0, _⟩ => show win0_1.index t 0 * 2048 + 1 * r.val = 2048 * (t.val % 4) + r.val; rw [e2]; omega
    | ⟨1, _⟩ => show win0_1.index t 1 * 1024 + 1 * q.val = q'.val; rw [e3, hq]; omega

/-- After a point the accumulator holds the partial sums over the rows met so far in its run. -/
theorem acc_eq (c : Dev nD) (p : Fin 1024) (q : Fin 1024) : ∀ (n : ℕ) (hn : n < cfg0.N) (q' : Fin 2048),
    q'.val = 1024 * (n / 4) + q.val →
    ((outsAt0 m c n hn).2 (ix2 p q) : EReal) = dotUpTo (colL m c p) (colR m c q') (2048 * (n % 4 + 1)) := by
  intro n
  induction n with
  | zero =>
    intro hn q' hq
    rw [outsAt0_A m c ⟨0, hn⟩ rfl (by dsimp only; omega), acc_A]
    exact step m c ⟨0, hn⟩ _ p q q' hq (pay1_apply p q)
  | succ n ih =>
    intro hn q' hq
    by_cases h0 : (n + 1) % 4 = 0
    · rw [outsAt0_A m c ⟨n + 1, hn⟩ h0 (by dsimp only; omega), acc_A]
      exact step m c ⟨n + 1, hn⟩ _ p q q' hq (by dsimp only; rw [h0]; exact pay1_apply p q)
    · have hprev := ih (Nat.lt_of_succ_lt hn) q' (by rw [hq]; congr 2; omega)
      have hmod : (n + 1) % 4 = n % 4 + 1 := by omega
      by_cases h1 : (n + 1) % 4 = 3
      · rw [outsAt0_C m c ⟨n + 1, hn⟩ h0 h1, acc_C]
        exact step m c ⟨n + 1, hn⟩ _ p q q' hq (by dsimp only; rw [hmod]; exact hprev)
      · rw [outsAt0_B m c ⟨n + 1, hn⟩ h0 h1, acc_B]
        exact step m c ⟨n + 1, hn⟩ _ p q q' hq (by dsimp only; rw [hmod]; exact hprev)

/-- At the last point of a run the output block holds the whole sums. -/
theorem out_eq (c : Dev nD) (t : Fin cfg0.N) (h3 : t.val % 4 = 3) (p : Fin 1024) (q : Fin 1024) (q' : Fin 2048)
    (hq : q'.val = 1024 * (t.val / 4) + q.val) :
    ((outsAt0 m c t.val t.isLt).1 (ix2 p q) : EReal) = dot (colL m c p) (colR m c q') := by
  rw [outsAt0_C m c t (by omega) h3, out_C]
  have hprev := acc_eq m c p q (t.val - 1) (Nat.lt_of_le_of_lt (Nat.sub_le _ _) t.isLt) q' (by rw [hq]; congr 2; omega)
  have hs := step m c t (outsAt0 m c (t.val - 1) (Nat.lt_of_le_of_lt (Nat.sub_le _ _) t.isLt)).2 p q q' hq
    (by rw [hprev]; congr 2; omega)
  rw [h3] at hs
  exact hs.trans (dotUpTo_all _ _)

/-- Every tile of the output is some writing point's. -/
theorem onto : ∀ q1 : Fin 2, ∃ t : Fin cfg0.N, (cfg0.win 2).flush t = true ∧ t.val / 4 = q1.val :=
  (by decide +kernel : ∀ q1 : Fin 2, ∃ t : Fin grid0.N, win0_2.flush t = true ∧ t.val / 4 = q1.val)

/-- What a writing point writes back is its tile of the product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  obtain ⟨-, -, e0, e1⟩ := index_eq t
  show (cfg0.win 2).cut (grid0.coords t) ((dats m 0 c).after 2 t) = _
  rw [after0_2]
  funext y
  have hp : (y 0).val < 1024 := (y 0).isLt
  have hq : (y 1).val < 1024 := (y 1).isLt
  have hN : cfg0.N = 4 * 2 := N_0
  have ht : t.val / 4 < 2 := by have := t.isLt; omega
  have hy : (cfg0.win 2).xinj (grid0.coords t) y = ix2 (⟨(y 0).val, hp⟩ : Fin 1024) (⟨(y 1).val, hq⟩ : Fin 1024) := by
    funext a; apply Fin.ext
    match a with
    | ⟨0, _⟩ => rfl
    | ⟨1, _⟩ => rfl
  show ((outsAt0 m c t.val t.isLt).1 ((cfg0.win 2).xinj (grid0.coords t) y) : EReal)
    = prod m c (((cfg0.win 2).blk t).view.emb y)
  rw [hy]
  refine (out_eq m c t h3 ⟨(y 0).val, hp⟩ ⟨(y 1).val, hq⟩ ⟨1024 * (t.val / 4) + (y 1).val, by omega⟩ rfl).trans ?_
  have g0 : (((cfg0.win 2).blk t).view.emb y 0).val = win0_2.index t (0 : Fin 2) * 1024 + 1 * (y 0).val := rfl
  have g1 : (((cfg0.win 2).blk t).view.emb y 1).val = win0_2.index t (1 : Fin 2) * 1024 + 1 * (y 1).val := rfl
  unfold prod
  congr 2 <;> apply Fin.ext
  · rw [g0, e0]; dsimp only; omega
  · rw [g1, e1]; dsimp only; omega

/-- The array after the run is the product: the tiles cover it. -/
theorem final (c : Dev nD) : (dats m 0 c).arrAt 2 cfg0.N = prod m c :=
  (dats m 0 c).arrAt_eq_of_cover 2 (prod m c) (flushed_eq m c) fun i => by
    have hi0 : (i 0).val < 1024 := (i 0).isLt
    have hi1 : (i 1).val < 2048 := (i 1).isLt
    obtain ⟨t, hf, q1⟩ := onto ⟨(i 1).val / 1024, by omega⟩
    obtain ⟨-, -, e0, e1⟩ := index_eq t
    dsimp only at q1
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

/-- The kernel's returned array equals the reference's, over the extended reals. -/
theorem algebraic : Cert.algebraic_GradGateIdeal_GradGateRefIdeal := by
  intro m ρ m' ρ' _ hagree
  refine ⟨fun c => prod m c, ?_, ?_⟩
  · exact (θ_run Cert.GradGateIdeal.defs _ _).mono
      (fun r h c => ⟨(Cert.GradGateIdeal.Value.post2 m r h c).trans (final m c), Cert.GradGateIdeal.Value.kept_main_arg0 m r h c,
        Cert.GradGateIdeal.Value.kept_main_arg1 m r h c⟩) (run_main m ρ)
  · refine (θ_run Cert.GradGateRefIdeal.defs _ _).mono
      (fun _ h c => ⟨(h c).1.trans ?_, (h c).2⟩) (Cert.GradGateRefIdeal.Value.run (F := Ideal) m' ρ')
    obtain ⟨h0, h1⟩ := hagree c
    rw [h0, h1]
    funext i
    show _ = dot (colL m c (i 0)) (colR m c (i 1))
    rw [dot_comm]
    unfold dot colL colR
    pointwise []

end Cert.GradGateIdeal.Product

end
-- ==== Proof.GradOutProduct.lean ====
/-
  The value of the transposed product call `GradOut` (columns of the left operand against columns of the right one, the
  rows summed in four runs of 2048 into a carried accumulator): the array the call returns is, element by element, the
  sum over all 8192 rows of the products of the operands' elements, and so is the reference's array.
-/
module

public import proofs.«01_k».proof.Defs
public import proofs.«01_k».proof.Proof.Dot
public import proofs.«01_k».proof.Proof.Gen.GradOutIdeal.Value
public import proofs.«01_k».proof.Proof.Gen.GradOutRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.GradOutIdeal.Product

open Cert.GradOutIdeal Cert.GradOutIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Column `p` of the left argument array, and column `q` of the right one. -/
def colL (c : Dev nD) (p : Fin 1024) : Fin 8192 → EReal := fun k => m ((c : Thread nD τ).loc main_arg0) (ix2 k p)
def colR (c : Dev nD) (q : Fin 1024) : Fin 8192 → EReal := fun k => m ((c : Thread nD τ).loc main_arg1) (ix2 k q)

/-- The transposed product of the two argument arrays, element by element. -/
def prod (c : Dev nD) : Buf (Elt Ideal) ((c : Thread nD τ).loc main_v0) := fun i =>
  dot (colL m c (i 0)) (colR m c (i 1))

/-- The accumulator's update at an element. -/
theorem pay2_apply (acc : Vec Ideal S1024x1024 .f32) (x : Vec Ideal S2048x1024 .bf16) (w : Vec Ideal S2048x1024 .bf16)
    (p : Fin 1024) (q : Fin 1024) :
    (k0_pay2 acc x w (ix2 p q) : EReal)
      = (acc (ix2 p q) : EReal) + dot (fun k : Fin 2048 => x (ix2 k p)) (fun k => w (ix2 k q)) := by
  unfold k0_pay2
  pointwise [dot]

theorem pay1_apply (p : Fin 1024) (q : Fin 1024) : (k0_pay1 (F := Ideal) (ix2 p q) : EReal) = 0 := by
  unfold k0_pay1
  pointwise []

/-- What the first point of a run leaves in the accumulator. -/
theorem acc_A (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : cond0_0 i) (hc' : ¬cond0_1 i)
    (x : Vec Ideal S2048x1024 .bf16) (w : Vec Ideal S2048x1024 .bf16) :
    sout0_A_0 c i a2 h2 a3 h3 a4 h4 a5 h5 hc hc' x w = k0_pay2 (k0_pay1 (F := Ideal)) x w := by
  unfold sout0_A_0
  rw [View.read_writes_eq_canon _ _ _ (scover0_A_0 c i a2 h2 a3 h3 a4 h4 a5 h5 hc hc' x w)]
  unfold kernelRun0_A
  dsimp only
  sl_unfold_words
  rw [View.canon_cons_unit_zero hz, View.readCov_unit_zero _ hz]
  simp only [View.readAt_eq_ld, h2.read_unread, h3.read_unread, View.ld_unit_zero (S := S2048x1024) hz,
    View.ld_unit_zero (S := S2048x1024) hz, shapeCast_self]

/-- What a middle point of a run leaves in the accumulator. -/
theorem acc_B (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : ¬cond0_1 i)
    (x : Vec Ideal S2048x1024 .bf16) (w : Vec Ideal S2048x1024 .bf16) (acc : Vec Ideal S1024x1024 .f32) :
    sout0_B_0 c i a2 h2 a3 h3 a4 h4 a5 h5 hc hc' x w acc = k0_pay2 acc x w := by
  unfold sout0_B_0
  rw [View.read_writes_eq_canon _ _ _ (scover0_B_0 c i a2 h2 a3 h3 a4 h4 a5 h5 hc hc' x w acc)]
  unfold kernelRun0_B
  dsimp only
  sl_unfold_words
  rw [View.canon_unit_zero hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- What the last point of a run leaves in the accumulator. -/
theorem acc_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : cond0_1 i)
    (x : Vec Ideal S2048x1024 .bf16) (w : Vec Ideal S2048x1024 .bf16) (acc : Vec Ideal S1024x1024 .f32) :
    sout0_C_0 c i a2 h2 a3 h3 a4 h4 a5 h5 hc hc' x w acc = k0_pay2 acc x w := by
  unfold sout0_C_0
  rw [View.read_writes_eq_canon _ _ _ (scover0_C_0 c i a2 h2 a3 h3 a4 h4 a5 h5 hc hc' x w acc)]
  unfold kernelRun0_C
  dsimp only
  sl_unfold_words
  rw [View.canon_unit_zero hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- What the last point of a run leaves in the output block: the accumulator it has just updated, cast. -/
theorem out_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16)
    (h4 : a4.IsWhole) (a5 : Memref sig .tc .vmem S1024x1024 .f32) (h5 : a5.IsWhole) (hc : ¬cond0_0 i) (hc' : cond0_1 i)
    (x : Vec Ideal S2048x1024 .bf16) (w : Vec Ideal S2048x1024 .bf16) (acc : Vec Ideal S1024x1024 .f32) :
    out0_C_2 c i a2 h2 a3 h3 a4 h4 a5 h5 hc hc' x w acc = k0_pay3 (k0_pay2 acc x w) := by
  unfold out0_C_2
  rw [View.read_writes_eq_canon _ _ _ (cover0_C_2 c i a2 h2 a3 h3 a4 h4 a5 h5 hc hc' x w acc)]
  unfold kernelRun0_C
  dsimp only
  sl_unfold_words
  rw [View.canon_unit_zero hz, View.readCov_unit_zero _ hz]
  simp only [View.readAt_eq_ld, h2.read_unread, h3.read_unread, h5.read_unread, View.ld_unit_zero (S := S2048x1024) hz,
    View.ld_unit_zero (S := S2048x1024) hz, View.ld_unit_zero (S := S1024x1024) hz, shapeCast_self]

/-- Where the windows of a point stand. -/
theorem index_eq : ∀ t : Fin cfg0.N, (win0_0.index t (0 : Fin 2) = t.val % 4 ∧ win0_0.index t (1 : Fin 2) = 0)
    ∧ (win0_1.index t (0 : Fin 2) = t.val % 4 ∧ win0_1.index t (1 : Fin 2) = t.val / 4)
    ∧ (win0_2.index t (0 : Fin 2) = 0 ∧ win0_2.index t (1 : Fin 2) = t.val / 4) :=
  (by decide +kernel : ∀ t : Fin grid0.N, _)

/-- One update of the accumulator adds the run of rows that the point's blocks hold. -/
theorem step (c : Dev nD) (t : Fin cfg0.N) (acc : Vec Ideal S1024x1024 .f32) (p : Fin 1024) (q : Fin 1024) (q' : Fin 1024)
    (hq : q'.val = 1024 * (t.val / 4) + q.val)
    (hacc : (acc (ix2 p q) : EReal) = dotUpTo (colL m c p) (colR m c q') (2048 * (t.val % 4))) :
    (k0_pay2 acc (iblk m c 0 t) (iblk m c 1 t) (ix2 p q) : EReal)
      = dotUpTo (colL m c p) (colR m c q') (2048 * (t.val % 4 + 1)) := by
  obtain ⟨⟨e0, e1⟩, ⟨e2, e3⟩, -⟩ := index_eq t
  have hm : t.val % 4 < 4 := Nat.mod_lt _ (by decide)
  rw [pay2_apply, hacc, Nat.mul_add, Nat.mul_one]
  refine (dotUpTo_add _ _ _ 2048 _ _ (by omega) (fun r hr => ?_) (fun r hr => ?_)).symm
  · show V m c main_arg0 _ = m ((c : Thread nD τ).loc main_arg0) _
    rw [V_main_arg0]
    congr 1
    funext a; apply Fin.ext
    match a with
    | ⟨0, _⟩ => show win0_0.index t 0 * 2048 + 1 * r.val = 2048 * (t.val % 4) + r.val; rw [e0]; omega
    | ⟨1, _⟩ => show win0_0.index t 1 * 1024 + 1 * p.val = p.val; rw [e1]; omega
  · show V m c main_arg1 _ = m ((c : Thread nD τ).loc main_arg1) _
    rw [V_main_arg1]
    congr 1
    funext a; apply Fin.ext
    match a with
    | ⟨0, _⟩ => show win0_1.index t 0 * 2048 + 1 * r.val = 2048 * (t.val % 4) + r.val; rw [e2]; omega
    | ⟨1, _⟩ => show win0_1.index t 1 * 1024 + 1 * q.val = q'.val; rw [e3, hq]; omega

/-- After a point the accumulator holds the partial sums over the rows met so far in its run. -/
theorem acc_eq (c : Dev nD) (p : Fin 1024) (q : Fin 1024) : ∀ (n : ℕ) (hn : n < cfg0.N) (q' : Fin 1024),
    q'.val = 1024 * (n / 4) + q.val →
    ((outsAt0 m c n hn).2 (ix2 p q) : EReal) = dotUpTo (colL m c p) (colR m c q') (2048 * (n % 4 + 1)) := by
  intro n
  induction n with
  | zero =>
    intro hn q' hq
    rw [outsAt0_A m c ⟨0, hn⟩ rfl (by dsimp only; omega), acc_A]
    exact step m c ⟨0, hn⟩ _ p q q' hq (pay1_apply p q)
  | succ n ih =>
    intro hn q' hq
    by_cases h0 : (n + 1) % 4 = 0
    · rw [outsAt0_A m c ⟨n + 1, hn⟩ h0 (by dsimp only; omega), acc_A]
      exact step m c ⟨n + 1, hn⟩ _ p q q' hq (by dsimp only; rw [h0]; exact pay1_apply p q)
    · have hprev := ih (Nat.lt_of_succ_lt hn) q' (by rw [hq]; congr 2; omega)
      have hmod : (n + 1) % 4 = n % 4 + 1 := by omega
      by_cases h1 : (n + 1) % 4 = 3
      · rw [outsAt0_C m c ⟨n + 1, hn⟩ h0 h1, acc_C]
        exact step m c ⟨n + 1, hn⟩ _ p q q' hq (by dsimp only; rw [hmod]; exact hprev)
      · rw [outsAt0_B m c ⟨n + 1, hn⟩ h0 h1, acc_B]
        exact step m c ⟨n + 1, hn⟩ _ p q q' hq (by dsimp only; rw [hmod]; exact hprev)

/-- At the last point of a run the output block holds the whole sums. -/
theorem out_eq (c : Dev nD) (t : Fin cfg0.N) (h3 : t.val % 4 = 3) (p : Fin 1024) (q : Fin 1024) (q' : Fin 1024)
    (hq : q'.val = 1024 * (t.val / 4) + q.val) :
    ((outsAt0 m c t.val t.isLt).1 (ix2 p q) : EReal) = dot (colL m c p) (colR m c q') := by
  rw [outsAt0_C m c t (by omega) h3, out_C]
  have hprev := acc_eq m c p q (t.val - 1) (Nat.lt_of_le_of_lt (Nat.sub_le _ _) t.isLt) q' (by rw [hq]; congr 2; omega)
  have hs := step m c t (outsAt0 m c (t.val - 1) (Nat.lt_of_le_of_lt (Nat.sub_le _ _) t.isLt)).2 p q q' hq
    (by rw [hprev]; congr 2; omega)
  rw [h3] at hs
  exact hs.trans (dotUpTo_all _ _)

/-- Every tile of the output is some writing point's. -/
theorem onto : ∀ q1 : Fin 1, ∃ t : Fin cfg0.N, (cfg0.win 2).flush t = true ∧ t.val / 4 = q1.val :=
  (by decide +kernel : ∀ q1 : Fin 1, ∃ t : Fin grid0.N, win0_2.flush t = true ∧ t.val / 4 = q1.val)

/-- What a writing point writes back is its tile of the product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  obtain ⟨-, -, e0, e1⟩ := index_eq t
  show (cfg0.win 2).cut (grid0.coords t) ((dats m 0 c).after 2 t) = _
  rw [after0_2]
  funext y
  have hp : (y 0).val < 1024 := (y 0).isLt
  have hq : (y 1).val < 1024 := (y 1).isLt
  have hN : cfg0.N = 4 * 1 := N_0
  have ht : t.val / 4 < 1 := by have := t.isLt; omega
  have hy : (cfg0.win 2).xinj (grid0.coords t) y = ix2 (⟨(y 0).val, hp⟩ : Fin 1024) (⟨(y 1).val, hq⟩ : Fin 1024) := by
    funext a; apply Fin.ext
    match a with
    | ⟨0, _⟩ => rfl
    | ⟨1, _⟩ => rfl
  show ((outsAt0 m c t.val t.isLt).1 ((cfg0.win 2).xinj (grid0.coords t) y) : EReal)
    = prod m c (((cfg0.win 2).blk t).view.emb y)
  rw [hy]
  refine (out_eq m c t h3 ⟨(y 0).val, hp⟩ ⟨(y 1).val, hq⟩ ⟨1024 * (t.val / 4) + (y 1).val, by omega⟩ rfl).trans ?_
  have g0 : (((cfg0.win 2).blk t).view.emb y 0).val = win0_2.index t (0 : Fin 2) * 1024 + 1 * (y 0).val := rfl
  have g1 : (((cfg0.win 2).blk t).view.emb y 1).val = win0_2.index t (1 : Fin 2) * 1024 + 1 * (y 1).val := rfl
  unfold prod
  congr 2 <;> apply Fin.ext
  · rw [g0, e0]; dsimp only; omega
  · rw [g1, e1]; dsimp only; omega

/-- The array after the run is the product: the tiles cover it. -/
theorem final (c : Dev nD) : (dats m 0 c).arrAt 2 cfg0.N = prod m c :=
  (dats m 0 c).arrAt_eq_of_cover 2 (prod m c) (flushed_eq m c) fun i => by
    have hi0 : (i 0).val < 1024 := (i 0).isLt
    have hi1 : (i 1).val < 1024 := (i 1).isLt
    obtain ⟨t, hf, q1⟩ := onto ⟨(i 1).val / 1024, by omega⟩
    obtain ⟨-, -, e0, e1⟩ := index_eq t
    dsimp only at q1
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

/-- The kernel's returned array equals the reference's, over the extended reals. -/
theorem algebraic : Cert.algebraic_GradOutIdeal_GradOutRefIdeal := by
  intro m ρ m' ρ' _ hagree
  refine ⟨fun c => prod m c, ?_, ?_⟩
  · exact (θ_run Cert.GradOutIdeal.defs _ _).mono
      (fun r h c => ⟨(Cert.GradOutIdeal.Value.post2 m r h c).trans (final m c), Cert.GradOutIdeal.Value.kept_main_arg0 m r h c,
        Cert.GradOutIdeal.Value.kept_main_arg1 m r h c⟩) (run_main m ρ)
  · refine (θ_run Cert.GradOutRefIdeal.defs _ _).mono
      (fun _ h c => ⟨(h c).1.trans ?_, (h c).2⟩) (Cert.GradOutRefIdeal.Value.run (F := Ideal) m' ρ')
    obtain ⟨h0, h1⟩ := hagree c
    rw [h0, h1]
    funext i
    show _ = dot (colL m c (i 0)) (colR m c (i 1))
    rw [dot_comm]
    unfold dot colL colR
    pointwise []

end Cert.GradOutIdeal.Product

end
-- ==== Proof.GradBaProduct.lean ====
/-
  The value of the transposed product call `GradBa` (columns of the left operand against columns of the right one, the
  rows summed in four runs of 2048 into a carried accumulator): the array the call returns is, element by element, the
  sum over all 8192 rows of the products of the operands' elements, and so is the reference's array.
-/
module

public import proofs.«01_k».proof.Defs
public import proofs.«01_k».proof.Proof.Dot
public import proofs.«01_k».proof.Proof.Gen.GradBaIdeal.Value
public import proofs.«01_k».proof.Proof.Gen.GradBaRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.GradBaIdeal.Product

open Cert.GradBaIdeal Cert.GradBaIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Column `p` of the left argument array, and column `q` of the right one. -/
def colL (c : Dev nD) (p : Fin 1024) : Fin 8192 → EReal := fun k => m ((c : Thread nD τ).loc main_arg0) (ix2 k p)
def colR (c : Dev nD) (q : Fin 128) : Fin 8192 → EReal := fun k => m ((c : Thread nD τ).loc main_arg1) (ix2 k q)

/-- The transposed product of the two argument arrays, element by element. -/
def prod (c : Dev nD) : Buf (Elt Ideal) ((c : Thread nD τ).loc main_v0) := fun i =>
  dot (colL m c (i 0)) (colR m c (i 1))

/-- The accumulator's update at an element. -/
theorem pay2_apply (acc : Vec Ideal S1024x128 .f32) (x : Vec Ideal S2048x1024 .bf16) (w : Vec Ideal S2048x128 .bf16)
    (p : Fin 1024) (q : Fin 128) :
    (k0_pay2 acc x w (ix2 p q) : EReal)
      = (acc (ix2 p q) : EReal) + dot (fun k : Fin 2048 => x (ix2 k p)) (fun k => w (ix2 k q)) := by
  unfold k0_pay2
  pointwise [dot]

theorem pay1_apply (p : Fin 1024) (q : Fin 128) : (k0_pay1 (F := Ideal) (ix2 p q) : EReal) = 0 := by
  unfold k0_pay1
  pointwise []

/-- What the first point of a run leaves in the accumulator. -/
theorem acc_A (c : Dev nD) (i : grid0.Coords) (a2 : Memref sig .tc .vmem S2048x1024 .bf16) (h2 : a2.IsWhole)
    (a3 : Memref sig .tc .vmem S2048x128 .bf16) (h3 : a3.IsWhole) (a4 : Memref sig .tc .vmem S1024x128 .bf16)
    (h4 : a4.IsWhole) (a5 : Memref sig .tc .vmem S1024x128 .f32) (h5 : a5.IsWhole) (hc : cond0_0 i) (hc' : ¬cond0_1 i)
    (x : Vec Ideal S2048x1024 .bf16) (w : Vec Ideal S2048x128 .bf16) :
    sout0_A_0 c i a2 h2 a3 h3 a4 h4 a5 h5 hc hc' x w = k0_pay2 (k0_pay1 (F := Ideal)) x w := by
  unfold sout0_A_0
  rw [View.read_writes_eq_canon _ _ _ (scover0_A_0 c i a2 h2 a3 h3 a4 h4 a5 h5 hc hc' x w)]
  unfold kernelRun0_A
  dsimp only
  sl_unfold_words
  rw [View.canon_cons_unit_zero hz, View.readCov_unit_zero _ hz]
  simp only [View.readAt_eq_ld, h2.read_unread, h3.read_unread, View.ld_unit_zero (S := S2048x1024) hz,
    View.ld_unit_zero (S := S2048x128) hz, shapeCast_self]

/-- What a middle point of a run leaves in the accumulator. -/
theorem acc_B (c : Dev nD) (i : grid0.Coords) (a2 : Memref sig .tc .vmem S2048x1024 .bf16) (h2 : a2.IsWhole)
    (a3 : Memref sig .tc .vmem S2048x128 .bf16) (h3 : a3.IsWhole) (a4 : Memref sig .tc .vmem S1024x128 .bf16)
    (h4 : a4.IsWhole) (a5 : Memref sig .tc .vmem S1024x128 .f32) (h5 : a5.IsWhole) (hc : ¬cond0_0 i) (hc' : ¬cond0_1 i)
    (x : Vec Ideal S2048x1024 .bf16) (w : Vec Ideal S2048x128 .bf16) (acc : Vec Ideal S1024x128 .f32) :
    sout0_B_0 c i a2 h2 a3 h3 a4 h4 a5 h5 hc hc' x w acc = k0_pay2 acc x w := by
  unfold sout0_B_0
  rw [View.read_writes_eq_canon _ _ _ (scover0_B_0 c i a2 h2 a3 h3 a4 h4 a5 h5 hc hc' x w acc)]
  unfold kernelRun0_B
  dsimp only
  sl_unfold_words
  rw [View.canon_unit_zero hz]
  simp only [View.readAt_eq_ld, h2.read_unread, h3.read_unread, h5.read_unread, View.ld_unit_zero (S := S2048x1024) hz,
    View.ld_unit_zero (S := S2048x128) hz, View.ld_unit_zero (S := S1024x128) hz, shapeCast_self]

/-- What the last point of a run leaves in the accumulator. -/
theorem acc_C (c : Dev nD) (i : grid0.Coords) (a2 : Memref sig .tc .vmem S2048x1024 .bf16) (h2 : a2.IsWhole)
    (a3 : Memref sig .tc .vmem S2048x128 .bf16) (h3 : a3.IsWhole) (a4 : Memref sig .tc .vmem S1024x128 .bf16)
    (h4 : a4.IsWhole) (a5 : Memref sig .tc .vmem S1024x128 .f32) (h5 : a5.IsWhole) (hc : ¬cond0_0 i) (hc' : cond0_1 i)
    (x : Vec Ideal S2048x1024 .bf16) (w : Vec Ideal S2048x128 .bf16) (acc : Vec Ideal S1024x128 .f32) :
    sout0_C_0 c i a2 h2 a3 h3 a4 h4 a5 h5 hc hc' x w acc = k0_pay2 acc x w := by
  unfold sout0_C_0
  rw [View.read_writes_eq_canon _ _ _ (scover0_C_0 c i a2 h2 a3 h3 a4 h4 a5 h5 hc hc' x w acc)]
  unfold kernelRun0_C
  dsimp only
  sl_unfold_words
  rw [View.canon_unit_zero hz]
  simp only [View.readAt_eq_ld, h2.read_unread, h3.read_unread, h5.read_unread, View.ld_unit_zero (S := S2048x1024) hz,
    View.ld_unit_zero (S := S2048x128) hz, View.ld_unit_zero (S := S1024x128) hz, shapeCast_self]

/-- What the last point of a run leaves in the output block: the accumulator it has just updated, cast. -/
theorem out_C (c : Dev nD) (i : grid0.Coords) (a2 : Memref sig .tc .vmem S2048x1024 .bf16) (h2 : a2.IsWhole)
    (a3 : Memref sig .tc .vmem S2048x128 .bf16) (h3 : a3.IsWhole) (a4 : Memref sig .tc .vmem S1024x128 .bf16)
    (h4 : a4.IsWhole) (a5 : Memref sig .tc .vmem S1024x128 .f32) (h5 : a5.IsWhole) (hc : ¬cond0_0 i) (hc' : cond0_1 i)
    (x : Vec Ideal S2048x1024 .bf16) (w : Vec Ideal S2048x128 .bf16) (acc : Vec Ideal S1024x128 .f32) :
    out0_C_2 c i a2 h2 a3 h3 a4 h4 a5 h5 hc hc' x w acc = k0_pay3 (k0_pay2 acc x w) := by
  unfold out0_C_2
  rw [View.read_writes_eq_canon _ _ _ (cover0_C_2 c i a2 h2 a3 h3 a4 h4 a5 h5 hc hc' x w acc)]
  unfold kernelRun0_C
  dsimp only
  sl_unfold_words
  rw [View.canon_unit_zero hz, View.readCov_unit_zero _ hz]
  simp only [View.readAt_eq_ld, h2.read_unread, h3.read_unread, h5.read_unread, View.ld_unit_zero (S := S2048x1024) hz,
    View.ld_unit_zero (S := S2048x128) hz, View.ld_unit_zero (S := S1024x128) hz, shapeCast_self]

/-- Where the windows of a point stand. -/
theorem index_eq : ∀ t : Fin cfg0.N, (win0_0.index t (0 : Fin 2) = t.val % 4 ∧ win0_0.index t (1 : Fin 2) = 0)
    ∧ (win0_1.index t (0 : Fin 2) = t.val % 4 ∧ win0_1.index t (1 : Fin 2) = t.val / 4)
    ∧ (win0_2.index t (0 : Fin 2) = 0 ∧ win0_2.index t (1 : Fin 2) = t.val / 4) :=
  (by decide +kernel : ∀ t : Fin grid0.N, _)

/-- One update of the accumulator adds the run of rows that the point's blocks hold. -/
theorem step (c : Dev nD) (t : Fin cfg0.N) (acc : Vec Ideal S1024x128 .f32) (p : Fin 1024) (q : Fin 128) (q' : Fin 128)
    (hq : q'.val = 128 * (t.val / 4) + q.val)
    (hacc : (acc (ix2 p q) : EReal) = dotUpTo (colL m c p) (colR m c q') (2048 * (t.val % 4))) :
    (k0_pay2 acc (iblk m c 0 t) (iblk m c 1 t) (ix2 p q) : EReal)
      = dotUpTo (colL m c p) (colR m c q') (2048 * (t.val % 4 + 1)) := by
  obtain ⟨⟨e0, e1⟩, ⟨e2, e3⟩, -⟩ := index_eq t
  have hm : t.val % 4 < 4 := Nat.mod_lt _ (by decide)
  rw [pay2_apply, hacc, Nat.mul_add, Nat.mul_one]
  refine (dotUpTo_add _ _ _ 2048 _ _ (by omega) (fun r hr => ?_) (fun r hr => ?_)).symm
  · show V m c main_arg0 _ = m ((c : Thread nD τ).loc main_arg0) _
    rw [V_main_arg0]
    congr 1
    funext a; apply Fin.ext
    match a with
    | ⟨0, _⟩ => show win0_0.index t 0 * 2048 + 1 * r.val = 2048 * (t.val % 4) + r.val; rw [e0]; omega
    | ⟨1, _⟩ => show win0_0.index t 1 * 1024 + 1 * p.val = p.val; rw [e1]; omega
  · show V m c main_arg1 _ = m ((c : Thread nD τ).loc main_arg1) _
    rw [V_main_arg1]
    congr 1
    funext a; apply Fin.ext
    match a with
    | ⟨0, _⟩ => show win0_1.index t 0 * 2048 + 1 * r.val = 2048 * (t.val % 4) + r.val; rw [e2]; omega
    | ⟨1, _⟩ => show win0_1.index t 1 * 128 + 1 * q.val = q'.val; rw [e3, hq]; omega

/-- After a point the accumulator holds the partial sums over the rows met so far in its run. -/
theorem acc_eq (c : Dev nD) (p : Fin 1024) (q : Fin 128) : ∀ (n : ℕ) (hn : n < cfg0.N) (q' : Fin 128),
    q'.val = 128 * (n / 4) + q.val →
    ((outsAt0 m c n hn).2 (ix2 p q) : EReal) = dotUpTo (colL m c p) (colR m c q') (2048 * (n % 4 + 1)) := by
  intro n
  induction n with
  | zero =>
    intro hn q' hq
    rw [outsAt0_A m c ⟨0, hn⟩ rfl (by dsimp only; omega), acc_A]
    exact step m c ⟨0, hn⟩ _ p q q' hq (pay1_apply p q)
  | succ n ih =>
    intro hn q' hq
    by_cases h0 : (n + 1) % 4 = 0
    · rw [outsAt0_A m c ⟨n + 1, hn⟩ h0 (by dsimp only; omega), acc_A]
      exact step m c ⟨n + 1, hn⟩ _ p q q' hq (by dsimp only; rw [h0]; exact pay1_apply p q)
    · have hprev := ih (Nat.lt_of_succ_lt hn) q' (by rw [hq]; congr 2; omega)
      have hmod : (n + 1) % 4 = n % 4 + 1 := by omega
      by_cases h1 : (n + 1) % 4 = 3
      · rw [outsAt0_C m c ⟨n + 1, hn⟩ h0 h1, acc_C]
        exact step m c ⟨n + 1, hn⟩ _ p q q' hq (by dsimp only; rw [hmod]; exact hprev)
      · rw [outsAt0_B m c ⟨n + 1, hn⟩ h0 h1, acc_B]
        exact step m c ⟨n + 1, hn⟩ _ p q q' hq (by dsimp only; rw [hmod]; exact hprev)

/-- At the last point of a run the output block holds the whole sums. -/
theorem out_eq (c : Dev nD) (t : Fin cfg0.N) (h3 : t.val % 4 = 3) (p : Fin 1024) (q : Fin 128) (q' : Fin 128)
    (hq : q'.val = 128 * (t.val / 4) + q.val) :
    ((outsAt0 m c t.val t.isLt).1 (ix2 p q) : EReal) = dot (colL m c p) (colR m c q') := by
  rw [outsAt0_C m c t (by omega) h3, out_C]
  have hprev := acc_eq m c p q (t.val - 1) (Nat.lt_of_le_of_lt (Nat.sub_le _ _) t.isLt) q' (by rw [hq]; congr 2; omega)
  have hs := step m c t (outsAt0 m c (t.val - 1) (Nat.lt_of_le_of_lt (Nat.sub_le _ _) t.isLt)).2 p q q' hq
    (by rw [hprev]; congr 2; omega)
  rw [h3] at hs
  exact hs.trans (dotUpTo_all _ _)

/-- Every tile of the output is some writing point's. -/
theorem onto : ∀ q1 : Fin 1, ∃ t : Fin cfg0.N, (cfg0.win 2).flush t = true ∧ t.val / 4 = q1.val :=
  (by decide +kernel : ∀ q1 : Fin 1, ∃ t : Fin grid0.N, win0_2.flush t = true ∧ t.val / 4 = q1.val)

/-- What a writing point writes back is its tile of the product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  obtain ⟨-, -, e0, e1⟩ := index_eq t
  show (cfg0.win 2).cut (grid0.coords t) ((dats m 0 c).after 2 t) = _
  rw [after0_2]
  funext y
  have hp : (y 0).val < 1024 := (y 0).isLt
  have hq : (y 1).val < 128 := (y 1).isLt
  have hN : cfg0.N = 4 * 1 := N_0
  have ht : t.val / 4 < 1 := by have := t.isLt; omega
  have hy : (cfg0.win 2).xinj (grid0.coords t) y = ix2 (⟨(y 0).val, hp⟩ : Fin 1024) (⟨(y 1).val, hq⟩ : Fin 128) := by
    funext a; apply Fin.ext
    match a with
    | ⟨0, _⟩ => rfl
    | ⟨1, _⟩ => rfl
  show ((outsAt0 m c t.val t.isLt).1 ((cfg0.win 2).xinj (grid0.coords t) y) : EReal)
    = prod m c (((cfg0.win 2).blk t).view.emb y)
  rw [hy]
  refine (out_eq m c t h3 ⟨(y 0).val, hp⟩ ⟨(y 1).val, hq⟩ ⟨128 * (t.val / 4) + (y 1).val, by omega⟩ rfl).trans ?_
  have g0 : (((cfg0.win 2).blk t).view.emb y 0).val = win0_2.index t (0 : Fin 2) * 1024 + 1 * (y 0).val := rfl
  have g1 : (((cfg0.win 2).blk t).view.emb y 1).val = win0_2.index t (1 : Fin 2) * 128 + 1 * (y 1).val := rfl
  unfold prod
  congr 2 <;> apply Fin.ext
  · rw [g0, e0]; dsimp only; omega
  · rw [g1, e1]; dsimp only; omega

/-- The array after the run is the product: the tiles cover it. -/
theorem final (c : Dev nD) : (dats m 0 c).arrAt 2 cfg0.N = prod m c :=
  (dats m 0 c).arrAt_eq_of_cover 2 (prod m c) (flushed_eq m c) fun i => by
    have hi0 : (i 0).val < 1024 := (i 0).isLt
    have hi1 : (i 1).val < 128 := (i 1).isLt
    obtain ⟨t, hf, q1⟩ := onto ⟨(i 1).val / 128, by omega⟩
    obtain ⟨-, -, e0, e1⟩ := index_eq t
    dsimp only at q1
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 128 ≤ (i 1).val ∧ (i 1).val < win0_2.index t 1 * 128 + 128; omega

/-- The kernel's returned array equals the reference's, over the extended reals. -/
theorem algebraic : Cert.algebraic_GradBaIdeal_GradBaRefIdeal := by
  intro m ρ m' ρ' _ hagree
  refine ⟨fun c => prod m c, ?_, ?_⟩
  · exact (θ_run Cert.GradBaIdeal.defs _ _).mono
      (fun r h c => ⟨(Cert.GradBaIdeal.Value.post2 m r h c).trans (final m c), Cert.GradBaIdeal.Value.kept_main_arg0 m r h c,
        Cert.GradBaIdeal.Value.kept_main_arg1 m r h c⟩) (run_main m ρ)
  · refine (θ_run Cert.GradBaRefIdeal.defs _ _).mono
      (fun _ h c => ⟨(h c).1.trans ?_, (h c).2⟩) (Cert.GradBaRefIdeal.Value.run (F := Ideal) m' ρ')
    obtain ⟨h0, h1⟩ := hagree c
    rw [h0, h1]
    funext i
    show _ = dot (colL m c (i 0)) (colR m c (i 1))
    rw [dot_comm]
    unfold dot colL colR
    pointwise []

end Cert.GradBaIdeal.Product

end
-- ==== Proof.ProjInProduct.lean ====
/-
  The value of a plain product call `ProjIn` (rows times columns, one output tile per grid point): the array the call
  returns is, element by element, the sum over the shared axis of the products of the operands' elements, and so is the
  reference's array. The tiles are read through the block equations of the generated value module.
-/
module

public import proofs.«01_k».proof.Defs
public import proofs.«01_k».proof.Proof.Dot
public import proofs.«01_k».proof.Proof.Gen.ProjInIdeal.Value
public import proofs.«01_k».proof.Proof.Gen.ProjInRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.ProjInIdeal.Product

open Cert.ProjInIdeal Cert.ProjInIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The product of the two argument arrays, element by element. -/
def prod (c : Dev nD) : Buf (Elt Ideal) ((c : Thread nD τ).loc main_v0) := fun i =>
  dot (fun k : Fin 1024 => m ((c : Thread nD τ).loc main_arg0) (ix2 (i 0) k))
    (fun k => m ((c : Thread nD τ).loc main_arg1) (ix2 k (i 1)))

/-- What the body leaves in its output block, at an element. -/
theorem out_apply (x : Vec Ideal S2048x1024 .bf16) (w : Vec Ideal S1024x1024 .bf16) (p : Fin 2048) (q : Fin 1024) :
    (out0_2 x w (ix2 p q) : EReal) = dot (fun k : Fin 1024 => x (ix2 p k)) (fun k => w (ix2 k q)) := by
  unfold out0_2 k0_pay1
  rw [View.canon_unit_zero hz]
  simp only [View.ld_unit_zero (S := S2048x1024) hz, View.ld_unit_zero (S := S1024x1024) hz]
  pointwise [dot]

/-- Where the windows of a point stand: the left operand's rows and the right operand's columns are the output's. -/
theorem index_eq : ∀ t : Fin cfg0.N, win0_0.index t (0 : Fin 2) = win0_2.index t (0 : Fin 2)
    ∧ win0_0.index t (1 : Fin 2) = 0 ∧ win0_1.index t (0 : Fin 2) = 0
    ∧ win0_1.index t (1 : Fin 2) = win0_2.index t (1 : Fin 2) :=
  (by decide +kernel : ∀ t : Fin grid0.N, _)

/-- Every tile of the output is some point's. -/
theorem onto : ∀ (q0 : Fin 4) (q1 : Fin 3), ∃ t : Fin cfg0.N, (cfg0.win 2).flush t = true
    ∧ win0_2.index t (0 : Fin 2) = q0.val ∧ win0_2.index t (1 : Fin 2) = q1.val :=
  (by decide +kernel : ∀ (q0 : Fin 4) (q1 : Fin 3), ∃ t : Fin grid0.N, win0_2.flush t = true
    ∧ win0_2.index t (0 : Fin 2) = q0.val ∧ win0_2.index t (1 : Fin 2) = q1.val)

/-- What a point writes back is its tile of the product. -/
theorem flushed_eq (c : Dev nD) (t : Fin cfg0.N) :
    (dats m 0 c).flushed 2 t = ((cfg0.win 2).blk t).view.read (Elt Ideal) (prod m c) := by
  rw [Cert.ProjInIdeal.Value.flushed2]
  obtain ⟨e0, e1, e2, e3⟩ := index_eq t
  funext y
  have hp : (y 0).val < 2048 := (y 0).isLt
  have hq : (y 1).val < 1024 := (y 1).isLt
  have hy : (cfg0.win 2).xinj (grid0.coords t) y = ix2 (⟨(y 0).val, hp⟩ : Fin 2048) (⟨(y 1).val, hq⟩ : Fin 1024) := by
    funext a; apply Fin.ext
    match a with
    | ⟨0, _⟩ => rfl
    | ⟨1, _⟩ => rfl
  show (out0_2 (iblk m c 0 t) (iblk m c 1 t) ((cfg0.win 2).xinj (grid0.coords t) y) : EReal)
    = prod m c (((cfg0.win 2).blk t).view.emb y)
  rw [hy, out_apply]
  refine dot_congr (fun k => ?_) (fun k => ?_)
  · show V m c main_arg0 _ = m ((c : Thread nD τ).loc main_arg0) _
    rw [V_main_arg0]
    congr 1
    funext a; apply Fin.ext
    match a with
    | ⟨0, _⟩ => show win0_0.index t 0 * 2048 + 1 * (y 0).val = win0_2.index t 0 * 2048 + 1 * (y 0).val; rw [e0]
    | ⟨1, _⟩ => show win0_0.index t 1 * 1024 + 1 * k.val = k.val; rw [e1]; omega
  · show V m c main_arg1 _ = m ((c : Thread nD τ).loc main_arg1) _
    rw [V_main_arg1]
    congr 1
    funext a; apply Fin.ext
    match a with
    | ⟨0, _⟩ => show win0_1.index t 0 * 1024 + 1 * k.val = k.val; rw [e2]; omega
    | ⟨1, _⟩ => show win0_1.index t 1 * 1024 + 1 * (y 1).val = win0_2.index t 1 * 1024 + 1 * (y 1).val; rw [e3]

/-- The array after the run is the product: the tiles cover it. -/
theorem final (c : Dev nD) : (dats m 0 c).arrAt 2 cfg0.N = prod m c :=
  (dats m 0 c).arrAt_eq_of_cover 2 (prod m c) (fun t _ => flushed_eq m c t) fun i => by
    have hi0 : (i 0).val < 8192 := (i 0).isLt
    have hi1 : (i 1).val < 3072 := (i 1).isLt
    obtain ⟨t, hf, q0, q1⟩ := onto ⟨(i 0).val / 2048, by omega⟩ ⟨(i 1).val / 1024, by omega⟩
    dsimp only at q0 q1
    refine ⟨t, hf, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 1024 ≤ (i 1).val ∧ (i 1).val < win0_2.index t 1 * 1024 + 1024; omega

/-- The kernel's returned array equals the reference's, over the extended reals. -/
theorem algebraic : Cert.algebraic_ProjInIdeal_ProjInRefIdeal := by
  intro m ρ m' ρ' _ hagree
  refine ⟨fun c => prod m c, ?_, ?_⟩
  · exact (θ_run Cert.ProjInIdeal.defs _ _).mono
      (fun _ h c => ⟨(h c).1.trans (final m c), (h c).2⟩) (Cert.ProjInIdeal.Value.run_blocks (F := Ideal) m ρ)
  · refine (θ_run Cert.ProjInRefIdeal.defs _ _).mono
      (fun _ h c => ⟨(h c).1.trans ?_, (h c).2⟩) (Cert.ProjInRefIdeal.Value.run (F := Ideal) m' ρ')
    obtain ⟨h0, h1⟩ := hagree c
    rw [h0, h1]
    funext i
    unfold prod dot
    pointwise []

end Cert.ProjInIdeal.Product

end
-- ==== Proof.ProjGateProduct.lean ====
/-
  The value of a plain product call `ProjGate` (rows times columns, one output tile per grid point): the array the call
  returns is, element by element, the sum over the shared axis of the products of the operands' elements, and so is the
  reference's array. The tiles are read through the block equations of the generated value module.
-/
module

public import proofs.«01_k».proof.Defs
public import proofs.«01_k».proof.Proof.Dot
public import proofs.«01_k».proof.Proof.Gen.ProjGateIdeal.Value
public import proofs.«01_k».proof.Proof.Gen.ProjGateRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.ProjGateIdeal.Product

open Cert.ProjGateIdeal Cert.ProjGateIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The product of the two argument arrays, element by element. -/
def prod (c : Dev nD) : Buf (Elt Ideal) ((c : Thread nD τ).loc main_v0) := fun i =>
  dot (fun k : Fin 1024 => m ((c : Thread nD τ).loc main_arg0) (ix2 (i 0) k))
    (fun k => m ((c : Thread nD τ).loc main_arg1) (ix2 k (i 1)))

/-- What the body leaves in its output block, at an element. -/
theorem out_apply (x : Vec Ideal S2048x1024 .bf16) (w : Vec Ideal S1024x1024 .bf16) (p : Fin 2048) (q : Fin 1024) :
    (out0_2 x w (ix2 p q) : EReal) = dot (fun k : Fin 1024 => x (ix2 p k)) (fun k => w (ix2 k q)) := by
  unfold out0_2 k0_pay1
  rw [View.canon_unit_zero hz]
  simp only [View.ld_unit_zero (S := S2048x1024) hz, View.ld_unit_zero (S := S1024x1024) hz]
  pointwise [dot]

/-- Where the windows of a point stand: the left operand's rows and the right operand's columns are the output's. -/
theorem index_eq : ∀ t : Fin cfg0.N, win0_0.index t (0 : Fin 2) = win0_2.index t (0 : Fin 2)
    ∧ win0_0.index t (1 : Fin 2) = 0 ∧ win0_1.index t (0 : Fin 2) = 0
    ∧ win0_1.index t (1 : Fin 2) = win0_2.index t (1 : Fin 2) :=
  (by decide +kernel : ∀ t : Fin grid0.N, _)

/-- Every tile of the output is some point's. -/
theorem onto : ∀ (q0 : Fin 4) (q1 : Fin 2), ∃ t : Fin cfg0.N, (cfg0.win 2).flush t = true
    ∧ win0_2.index t (0 : Fin 2) = q0.val ∧ win0_2.index t (1 : Fin 2) = q1.val :=
  (by decide +kernel : ∀ (q0 : Fin 4) (q1 : Fin 2), ∃ t : Fin grid0.N, win0_2.flush t = true
    ∧ win0_2.index t (0 : Fin 2) = q0.val ∧ win0_2.index t (1 : Fin 2) = q1.val)

/-- What a point writes back is its tile of the product. -/
theorem flushed_eq (c : Dev nD) (t : Fin cfg0.N) :
    (dats m 0 c).flushed 2 t = ((cfg0.win 2).blk t).view.read (Elt Ideal) (prod m c) := by
  rw [Cert.ProjGateIdeal.Value.flushed2]
  obtain ⟨e0, e1, e2, e3⟩ := index_eq t
  funext y
  have hp : (y 0).val < 2048 := (y 0).isLt
  have hq : (y 1).val < 1024 := (y 1).isLt
  have hy : (cfg0.win 2).xinj (grid0.coords t) y = ix2 (⟨(y 0).val, hp⟩ : Fin 2048) (⟨(y 1).val, hq⟩ : Fin 1024) := by
    funext a; apply Fin.ext
    match a with
    | ⟨0, _⟩ => rfl
    | ⟨1, _⟩ => rfl
  show (out0_2 (iblk m c 0 t) (iblk m c 1 t) ((cfg0.win 2).xinj (grid0.coords t) y) : EReal)
    = prod m c (((cfg0.win 2).blk t).view.emb y)
  rw [hy, out_apply]
  refine dot_congr (fun k => ?_) (fun k => ?_)
  · show V m c main_arg0 _ = m ((c : Thread nD τ).loc main_arg0) _
    rw [V_main_arg0]
    congr 1
    funext a; apply Fin.ext
    match a with
    | ⟨0, _⟩ => show win0_0.index t 0 * 2048 + 1 * (y 0).val = win0_2.index t 0 * 2048 + 1 * (y 0).val; rw [e0]
    | ⟨1, _⟩ => show win0_0.index t 1 * 1024 + 1 * k.val = k.val; rw [e1]; omega
  · show V m c main_arg1 _ = m ((c : Thread nD τ).loc main_arg1) _
    rw [V_main_arg1]
    congr 1
    funext a; apply Fin.ext
    match a with
    | ⟨0, _⟩ => show win0_1.index t 0 * 1024 + 1 * k.val = k.val; rw [e2]; omega
    | ⟨1, _⟩ => show win0_1.index t 1 * 1024 + 1 * (y 1).val = win0_2.index t 1 * 1024 + 1 * (y 1).val; rw [e3]

/-- The array after the run is the product: the tiles cover it. -/
theorem final (c : Dev nD) : (dats m 0 c).arrAt 2 cfg0.N = prod m c :=
  (dats m 0 c).arrAt_eq_of_cover 2 (prod m c) (fun t _ => flushed_eq m c t) fun i => by
    have hi0 : (i 0).val < 8192 := (i 0).isLt
    have hi1 : (i 1).val < 2048 := (i 1).isLt
    obtain ⟨t, hf, q0, q1⟩ := onto ⟨(i 0).val / 2048, by omega⟩ ⟨(i 1).val / 1024, by omega⟩
    dsimp only at q0 q1
    refine ⟨t, hf, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 1024 ≤ (i 1).val ∧ (i 1).val < win0_2.index t 1 * 1024 + 1024; omega

/-- The kernel's returned array equals the reference's, over the extended reals. -/
theorem algebraic : Cert.algebraic_ProjGateIdeal_ProjGateRefIdeal := by
  intro m ρ m' ρ' _ hagree
  refine ⟨fun c => prod m c, ?_, ?_⟩
  · exact (θ_run Cert.ProjGateIdeal.defs _ _).mono
      (fun _ h c => ⟨(h c).1.trans (final m c), (h c).2⟩) (Cert.ProjGateIdeal.Value.run_blocks (F := Ideal) m ρ)
  · refine (θ_run Cert.ProjGateRefIdeal.defs _ _).mono
      (fun _ h c => ⟨(h c).1.trans ?_, (h c).2⟩) (Cert.ProjGateRefIdeal.Value.run (F := Ideal) m' ρ')
    obtain ⟨h0, h1⟩ := hagree c
    rw [h0, h1]
    funext i
    unfold prod dot
    pointwise []

end Cert.ProjGateIdeal.Product

end
-- ==== Proof.ProjGzProduct.lean ====
/-
  The value of a plain product call `ProjGz` (rows times columns, one output tile per grid point): the array the call
  returns is, element by element, the sum over the shared axis of the products of the operands' elements, and so is the
  reference's array. The tiles are read through the block equations of the generated value module.
-/
module

public import proofs.«01_k».proof.Defs
public import proofs.«01_k».proof.Proof.Dot
public import proofs.«01_k».proof.Proof.Gen.ProjGzIdeal.Value
public import proofs.«01_k».proof.Proof.Gen.ProjGzRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.ProjGzIdeal.Product

open Cert.ProjGzIdeal Cert.ProjGzIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The product of the two argument arrays, element by element. -/
def prod (c : Dev nD) : Buf (Elt Ideal) ((c : Thread nD τ).loc main_v0) := fun i =>
  dot (fun k : Fin 1024 => m ((c : Thread nD τ).loc main_arg0) (ix2 (i 0) k))
    (fun k => m ((c : Thread nD τ).loc main_arg1) (ix2 k (i 1)))

/-- What the body leaves in its output block, at an element. -/
theorem out_apply (x : Vec Ideal S2048x1024 .bf16) (w : Vec Ideal S1024x1024 .bf16) (p : Fin 2048) (q : Fin 1024) :
    (out0_2 x w (ix2 p q) : EReal) = dot (fun k : Fin 1024 => x (ix2 p k)) (fun k => w (ix2 k q)) := by
  unfold out0_2 k0_pay1
  rw [View.canon_unit_zero hz]
  simp only [View.ld_unit_zero (S := S2048x1024) hz, View.ld_unit_zero (S := S1024x1024) hz]
  pointwise [dot]

/-- Where the windows of a point stand: the left operand's rows and the right operand's columns are the output's. -/
theorem index_eq : ∀ t : Fin cfg0.N, win0_0.index t (0 : Fin 2) = win0_2.index t (0 : Fin 2)
    ∧ win0_0.index t (1 : Fin 2) = 0 ∧ win0_1.index t (0 : Fin 2) = 0
    ∧ win0_1.index t (1 : Fin 2) = win0_2.index t (1 : Fin 2) :=
  (by decide +kernel : ∀ t : Fin grid0.N, _)

/-- Every tile of the output is some point's. -/
theorem onto : ∀ (q0 : Fin 4) (q1 : Fin 1), ∃ t : Fin cfg0.N, (cfg0.win 2).flush t = true
    ∧ win0_2.index t (0 : Fin 2) = q0.val ∧ win0_2.index t (1 : Fin 2) = q1.val :=
  (by decide +kernel : ∀ (q0 : Fin 4) (q1 : Fin 1), ∃ t : Fin grid0.N, win0_2.flush t = true
    ∧ win0_2.index t (0 : Fin 2) = q0.val ∧ win0_2.index t (1 : Fin 2) = q1.val)

/-- What a point writes back is its tile of the product. -/
theorem flushed_eq (c : Dev nD) (t : Fin cfg0.N) :
    (dats m 0 c).flushed 2 t = ((cfg0.win 2).blk t).view.read (Elt Ideal) (prod m c) := by
  rw [Cert.ProjGzIdeal.Value.flushed2]
  obtain ⟨e0, e1, e2, e3⟩ := index_eq t
  funext y
  have hp : (y 0).val < 2048 := (y 0).isLt
  have hq : (y 1).val < 1024 := (y 1).isLt
  have hy : (cfg0.win 2).xinj (grid0.coords t) y = ix2 (⟨(y 0).val, hp⟩ : Fin 2048) (⟨(y 1).val, hq⟩ : Fin 1024) := by
    funext a; apply Fin.ext
    match a with
    | ⟨0, _⟩ => rfl
    | ⟨1, _⟩ => rfl
  show (out0_2 (iblk m c 0 t) (iblk m c 1 t) ((cfg0.win 2).xinj (grid0.coords t) y) : EReal)
    = prod m c (((cfg0.win 2).blk t).view.emb y)
  rw [hy, out_apply]
  refine dot_congr (fun k => ?_) (fun k => ?_)
  · show V m c main_arg0 _ = m ((c : Thread nD τ).loc main_arg0) _
    rw [V_main_arg0]
    congr 1
    funext a; apply Fin.ext
    match a with
    | ⟨0, _⟩ => show win0_0.index t 0 * 2048 + 1 * (y 0).val = win0_2.index t 0 * 2048 + 1 * (y 0).val; rw [e0]
    | ⟨1, _⟩ => show win0_0.index t 1 * 1024 + 1 * k.val = k.val; rw [e1]; omega
  · show V m c main_arg1 _ = m ((c : Thread nD τ).loc main_arg1) _
    rw [V_main_arg1]
    congr 1
    funext a; apply Fin.ext
    match a with
    | ⟨0, _⟩ => show win0_1.index t 0 * 1024 + 1 * k.val = k.val; rw [e2]; omega
    | ⟨1, _⟩ => show win0_1.index t 1 * 1024 + 1 * (y 1).val = win0_2.index t 1 * 1024 + 1 * (y 1).val; rw [e3]

/-- The array after the run is the product: the tiles cover it. -/
theorem final (c : Dev nD) : (dats m 0 c).arrAt 2 cfg0.N = prod m c :=
  (dats m 0 c).arrAt_eq_of_cover 2 (prod m c) (fun t _ => flushed_eq m c t) fun i => by
    have hi0 : (i 0).val < 8192 := (i 0).isLt
    have hi1 : (i 1).val < 1024 := (i 1).isLt
    obtain ⟨t, hf, q0, q1⟩ := onto ⟨(i 0).val / 2048, by omega⟩ ⟨(i 1).val / 1024, by omega⟩
    dsimp only at q0 q1
    refine ⟨t, hf, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 1024 ≤ (i 1).val ∧ (i 1).val < win0_2.index t 1 * 1024 + 1024; omega

/-- The kernel's returned array equals the reference's, over the extended reals. -/
theorem algebraic : Cert.algebraic_ProjGzIdeal_ProjGzRefIdeal := by
  intro m ρ m' ρ' _ hagree
  refine ⟨fun c => prod m c, ?_, ?_⟩
  · exact (θ_run Cert.ProjGzIdeal.defs _ _).mono
      (fun _ h c => ⟨(h c).1.trans (final m c), (h c).2⟩) (Cert.ProjGzIdeal.Value.run_blocks (F := Ideal) m ρ)
  · refine (θ_run Cert.ProjGzRefIdeal.defs _ _).mono
      (fun _ h c => ⟨(h c).1.trans ?_, (h c).2⟩) (Cert.ProjGzRefIdeal.Value.run (F := Ideal) m' ρ')
    obtain ⟨h0, h1⟩ := hagree c
    rw [h0, h1]
    funext i
    unfold prod dot
    pointwise []

end Cert.ProjGzIdeal.Product

end
-- ==== Proof.ProjBaProduct.lean ====
/-
  The value of a plain product call `ProjBa` (rows times columns, one output tile per grid point): the array the call
  returns is, element by element, the sum over the shared axis of the products of the operands' elements, and so is the
  reference's array. The tiles are read through the block equations of the generated value module.
-/
module

public import proofs.«01_k».proof.Defs
public import proofs.«01_k».proof.Proof.Dot
public import proofs.«01_k».proof.Proof.Gen.ProjBaIdeal.Value
public import proofs.«01_k».proof.Proof.Gen.ProjBaRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain

namespace Cert.ProjBaIdeal.Product

open Cert.ProjBaIdeal Cert.ProjBaIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The product of the two argument arrays, element by element. -/
def prod (c : Dev nD) : Buf (Elt Ideal) ((c : Thread nD τ).loc main_v0) := fun i =>
  dot (fun k : Fin 1024 => m ((c : Thread nD τ).loc main_arg0) (ix2 (i 0) k))
    (fun k => m ((c : Thread nD τ).loc main_arg1) (ix2 k (i 1)))

/-- What the body leaves in its output block, at an element. -/
theorem out_apply (x : Vec Ideal S2048x1024 .bf16) (w : Vec Ideal S1024x128 .bf16) (p : Fin 2048) (q : Fin 128) :
    (out0_2 x w (ix2 p q) : EReal) = dot (fun k : Fin 1024 => x (ix2 p k)) (fun k => w (ix2 k q)) := by
  unfold out0_2 k0_pay1
  rw [View.canon_unit_zero hz]
  simp only [View.ld_unit_zero (S := S2048x1024) hz, View.ld_unit_zero (S := S1024x128) hz]
  pointwise [dot]

/-- Where the windows of a point stand: the left operand's rows and the right operand's columns are the output's. -/
theorem index_eq : ∀ t : Fin cfg0.N, win0_0.index t (0 : Fin 2) = win0_2.index t (0 : Fin 2)
    ∧ win0_0.index t (1 : Fin 2) = 0 ∧ win0_1.index t (0 : Fin 2) = 0
    ∧ win0_1.index t (1 : Fin 2) = win0_2.index t (1 : Fin 2) :=
  (by decide +kernel : ∀ t : Fin grid0.N, _)

/-- Every tile of the output is some point's. -/
theorem onto : ∀ (q0 : Fin 4) (q1 : Fin 1), ∃ t : Fin cfg0.N, (cfg0.win 2).flush t = true
    ∧ win0_2.index t (0 : Fin 2) = q0.val ∧ win0_2.index t (1 : Fin 2) = q1.val :=
  (by decide +kernel : ∀ (q0 : Fin 4) (q1 : Fin 1), ∃ t : Fin grid0.N, win0_2.flush t = true
    ∧ win0_2.index t (0 : Fin 2) = q0.val ∧ win0_2.index t (1 : Fin 2) = q1.val)

/-- What a point writes back is its tile of the product. -/
theorem flushed_eq (c : Dev nD) (t : Fin cfg0.N) :
    (dats m 0 c).flushed 2 t = ((cfg0.win 2).blk t).view.read (Elt Ideal) (prod m c) := by
  rw [Cert.ProjBaIdeal.Value.flushed2]
  obtain ⟨e0, e1, e2, e3⟩ := index_eq t
  funext y
  have hp : (y 0).val < 2048 := (y 0).isLt
  have hq : (y 1).val < 128 := (y 1).isLt
  have hy : (cfg0.win 2).xinj (grid0.coords t) y = ix2 (⟨(y 0).val, hp⟩ : Fin 2048) (⟨(y 1).val, hq⟩ : Fin 128) := by
    funext a; apply Fin.ext
    match a with
    | ⟨0, _⟩ => rfl
    | ⟨1, _⟩ => rfl
  show (out0_2 (iblk m c 0 t) (iblk m c 1 t) ((cfg0.win 2).xinj (grid0.coords t) y) : EReal)
    = prod m c (((cfg0.win 2).blk t).view.emb y)
  rw [hy, out_apply]
  refine dot_congr (fun k => ?_) (fun k => ?_)
  · show V m c main_arg0 _ = m ((c : Thread nD τ).loc main_arg0) _
    rw [V_main_arg0]
    congr 1
    funext a; apply Fin.ext
    match a with
    | ⟨0, _⟩ => show win0_0.index t 0 * 2048 + 1 * (y 0).val = win0_2.index t 0 * 2048 + 1 * (y 0).val; rw [e0]
    | ⟨1, _⟩ => show win0_0.index t 1 * 1024 + 1 * k.val = k.val; rw [e1]; omega
  · show V m c main_arg1 _ = m ((c : Thread nD τ).loc main_arg1) _
    rw [V_main_arg1]
    congr 1
    funext a; apply Fin.ext
    match a with
    | ⟨0, _⟩ => show win0_1.index t 0 * 1024 + 1 * k.val = k.val; rw [e2]; omega
    | ⟨1, _⟩ => show win0_1.index t 1 * 128 + 1 * (y 1).val = win0_2.index t 1 * 128 + 1 * (y 1).val; rw [e3]

/-- The array after the run is the product: the tiles cover it. -/
theorem final (c : Dev nD) : (dats m 0 c).arrAt 2 cfg0.N = prod m c :=
  (dats m 0 c).arrAt_eq_of_cover 2 (prod m c) (fun t _ => flushed_eq m c t) fun i => by
    have hi0 : (i 0).val < 8192 := (i 0).isLt
    have hi1 : (i 1).val < 128 := (i 1).isLt
    obtain ⟨t, hf, q0, q1⟩ := onto ⟨(i 0).val / 2048, by omega⟩ ⟨(i 1).val / 128, by omega⟩
    dsimp only at q0 q1
    refine ⟨t, hf, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 128 ≤ (i 1).val ∧ (i 1).val < win0_2.index t 1 * 128 + 128; omega

/-- The kernel's returned array equals the reference's, over the extended reals. -/
theorem algebraic : Cert.algebraic_ProjBaIdeal_ProjBaRefIdeal := by
  intro m ρ m' ρ' _ hagree
  refine ⟨fun c => prod m c, ?_, ?_⟩
  · exact (θ_run Cert.ProjBaIdeal.defs _ _).mono
      (fun _ h c => ⟨(h c).1.trans (final m c), (h c).2⟩) (Cert.ProjBaIdeal.Value.run_blocks (F := Ideal) m ρ)
  · refine (θ_run Cert.ProjBaRefIdeal.defs _ _).mono
      (fun _ h c => ⟨(h c).1.trans ?_, (h c).2⟩) (Cert.ProjBaRefIdeal.Value.run (F := Ideal) m' ρ')
    obtain ⟨h0, h1⟩ := hagree c
    rw [h0, h1]
    funext i
    unfold prod dot
    pointwise []

end Cert.ProjBaIdeal.Product

end
-- ==== Proof.AdamRule.lean ====
/-
  The optimiser's rule at one element, over the extended reals: the eight devices' gradients are added, the two moments
  are moved towards the gradient and its square, and the weight's step is formed from the two corrected moments.
-/
module

public import Idealize.ShloMosaic.PureOps
public import Idealize.ShloMosaic.Lib.Pointwise

@[expose] public section

noncomputable section

open Idealize.ShloMosaic

namespace Cert.Adam

/-- The gradient: the sum of the devices' gradients. -/
def grad (p : Fin 8 → EReal) : EReal := ∑ s, p s

theorem grad_eq (p : Fin 8 → EReal) :
    grad p = p 0 + p 1 + p 2 + p 3 + p 4 + p 5 + p 6 + p 7 := Fin.sum_univ_eight p

/-- The first moment after the step, from the moment before and the gradient. -/
def mom (m g : EReal) : EReal := Ideal.ofBits .f32 0x3F666666#32 * m + Ideal.ofBits .f32 0x3DCCCCCD#32 * g

/-- The second moment after the step. -/
def sec (v g : EReal) : EReal := Ideal.ofBits .f32 0x3F7FBE77#32 * v + Ideal.ofBits .f32 0x3A83126F#32 * (g * g)

/-- The weight's step. -/
def delta (w m v g : EReal) : EReal :=
  Ideal.ofBits .f32 0xBA83126F#32
    * (Ideal.div (Ideal.div (mom m g) (Ideal.ofBits .f32 0x3F26BD02#32))
        (Ideal.sqrt (Ideal.div (sec v g) (Ideal.ofBits .f32 0x3C231ACC#32)) + Ideal.ofBits .f32 0x322BCC77#32)
      + Ideal.ofBits .f32 0x3C23D70A#32 * w)

end Cert.Adam

end
-- ==== Proof.AdamInArrays.lean ====
/-
  The arrays the optimiser's call on the input projection returns, element by element, in terms of the arrays it is given: each
  element is the optimiser's rule at the elements standing at its place.
-/
module

public import proofs.«01_k».proof.Proof.AdamRule
public import proofs.«01_k».proof.Proof.Gen.AdamInIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamInIdeal.Arrays

open Cert.AdamInIdeal Cert.AdamInIdeal.Gen

variable (m : (ℓ : Loc nD τ sig) → Buf (Elt Ideal) ℓ) (c : Dev nD)

theorem hz : (![0, 0] : Fin 2 → Nat) = fun _ => 0 := funext fun a => by fin_cases a <;> rfl

/-- The gradients, weight, moments at an element of the call's own arrays. -/
def part (r : Fin 1024) (q : Fin 1154) (s : Fin 8) : EReal := V m c main_arg0 (ix3 s r q)
def wgt (r : Fin 1024) (q : Fin 1154) : EReal := V m c main_arg1 (ix2 r q)
def fst (r : Fin 1024) (q : Fin 1154) : EReal := V m c main_arg2 (ix2 r q)
def snd (r : Fin 1024) (q : Fin 1154) : EReal := V m c main_arg3 (ix2 r q)

/-- The four arrays of the call. -/
def arr4 : Buf (Elt Ideal) ((c : Thread nD τ).loc main_v0_0) := fun i => Adam.grad (part m c (i 0) (i 1))
def arr5 : Buf (Elt Ideal) ((c : Thread nD τ).loc main_v0_1) := fun i =>
  Adam.delta (wgt m c (i 0) (i 1)) (fst m c (i 0) (i 1)) (snd m c (i 0) (i 1)) (Adam.grad (part m c (i 0) (i 1)))
def arr6 : Buf (Elt Ideal) ((c : Thread nD τ).loc main_v0_2) := fun i =>
  Adam.mom (fst m c (i 0) (i 1)) (Adam.grad (part m c (i 0) (i 1)))
def arr7 : Buf (Elt Ideal) ((c : Thread nD τ).loc main_v0_3) := fun i =>
  Adam.sec (snd m c (i 0) (i 1)) (Adam.grad (part m c (i 0) (i 1)))

theorem ld0 (x : Vec Ideal S8x128x1154 .bf16) (p : Fin 128) (q : Fin 1154) :
    View.ld x r0_0 (ix3 0 p q) = x (ix3 0 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld1 (x : Vec Ideal S8x128x1154 .bf16) (p : Fin 128) (q : Fin 1154) :
    View.ld x r0_1 (ix3 0 p q) = x (ix3 1 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld2 (x : Vec Ideal S8x128x1154 .bf16) (p : Fin 128) (q : Fin 1154) :
    View.ld x r0_2 (ix3 0 p q) = x (ix3 2 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld3 (x : Vec Ideal S8x128x1154 .bf16) (p : Fin 128) (q : Fin 1154) :
    View.ld x r0_3 (ix3 0 p q) = x (ix3 3 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld4 (x : Vec Ideal S8x128x1154 .bf16) (p : Fin 128) (q : Fin 1154) :
    View.ld x r0_4 (ix3 0 p q) = x (ix3 4 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld5 (x : Vec Ideal S8x128x1154 .bf16) (p : Fin 128) (q : Fin 1154) :
    View.ld x r0_5 (ix3 0 p q) = x (ix3 5 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld6 (x : Vec Ideal S8x128x1154 .bf16) (p : Fin 128) (q : Fin 1154) :
    View.ld x r0_6 (ix3 0 p q) = x (ix3 6 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld7 (x : Vec Ideal S8x128x1154 .bf16) (p : Fin 128) (q : Fin 1154) :
    View.ld x r0_7 (ix3 0 p q) = x (ix3 7 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

/-- The gradient the body forms, at an element. -/
theorem grad_apply (x : Vec Ideal S8x128x1154 .bf16) (w f v : Vec Ideal S128x1154 .f32) (p : Fin 128) (q : Fin 1154) :
    (k0_pay5 x w f v (ix2 p q) : EReal) = Adam.grad fun s => x (ix3 s p q) := by
  rw [Adam.grad_eq]
  unfold k0_pay5 k0_pay4
  pointwise [ld0, ld1, ld2, ld3, ld4, ld5, ld6, ld7]

theorem out4_apply (x : Vec Ideal S8x128x1154 .bf16) (w f v : Vec Ideal S128x1154 .f32) (p : Fin 128) (q : Fin 1154) :
    (out0_4 x w f v (ix2 p q) : EReal) = Adam.grad fun s => x (ix3 s p q) := by
  unfold out0_4
  rw [View.canon_unit_zero hz]
  exact grad_apply x w f v p q

theorem out5_apply (x : Vec Ideal S8x128x1154 .bf16) (w f v : Vec Ideal S128x1154 .f32) (p : Fin 128) (q : Fin 1154) :
    (out0_5 x w f v (ix2 p q) : EReal) = Adam.delta (w (ix2 p q)) (f (ix2 p q)) (v (ix2 p q)) (Adam.grad fun s => x (ix3 s p q)) := by
  rw [← grad_apply x w f v p q]
  unfold out0_5
  rw [View.canon_unit_zero hz]
  generalize k0_pay5 x w f v = g
  unfold k0_pay3 k0_pay1 k0_pay2
  simp only [View.ld_unit_zero (S := S128x1154) hz]
  pointwise [Adam.delta, Adam.mom, Adam.sec]

theorem out6_apply (x : Vec Ideal S8x128x1154 .bf16) (w f v : Vec Ideal S128x1154 .f32) (p : Fin 128) (q : Fin 1154) :
    (out0_6 x w f v (ix2 p q) : EReal) = Adam.mom (f (ix2 p q)) (Adam.grad fun s => x (ix3 s p q)) := by
  rw [← grad_apply x w f v p q]
  unfold out0_6
  rw [View.canon_unit_zero hz]
  generalize k0_pay5 x w f v = g
  unfold k0_pay1
  simp only [View.ld_unit_zero (S := S128x1154) hz]
  pointwise [Adam.delta, Adam.mom, Adam.sec]

theorem out7_apply (x : Vec Ideal S8x128x1154 .bf16) (w f v : Vec Ideal S128x1154 .f32) (p : Fin 128) (q : Fin 1154) :
    (out0_7 x w f v (ix2 p q) : EReal) = Adam.sec (v (ix2 p q)) (Adam.grad fun s => x (ix3 s p q)) := by
  rw [← grad_apply x w f v p q]
  unfold out0_7
  rw [View.canon_unit_zero hz]
  generalize k0_pay5 x w f v = g
  unfold k0_pay2
  simp only [View.ld_unit_zero (S := S128x1154) hz]
  pointwise [Adam.delta, Adam.mom, Adam.sec]

/-- Where the windows of a point stand. -/
theorem index_eq : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem index4 : ∀ t : Fin cfg0.N, (win0_4.index t (0 : Fin 2) = t.val ∧ win0_4.index t (1 : Fin 2) = 0)
    ∧ (cfg0.win 4).flush t = true :=
  (by decide +kernel : ∀ t : Fin grid0.N, (win0_4.index t (0 : Fin 2) = t.val ∧ win0_4.index t (1 : Fin 2) = 0)
    ∧ win0_4.flush t = true)

theorem index5 : ∀ t : Fin cfg0.N, (win0_5.index t (0 : Fin 2) = t.val ∧ win0_5.index t (1 : Fin 2) = 0)
    ∧ (cfg0.win 5).flush t = true :=
  (by decide +kernel : ∀ t : Fin grid0.N, (win0_5.index t (0 : Fin 2) = t.val ∧ win0_5.index t (1 : Fin 2) = 0)
    ∧ win0_5.flush t = true)

theorem index6 : ∀ t : Fin cfg0.N, (win0_6.index t (0 : Fin 2) = t.val ∧ win0_6.index t (1 : Fin 2) = 0)
    ∧ (cfg0.win 6).flush t = true :=
  (by decide +kernel : ∀ t : Fin grid0.N, (win0_6.index t (0 : Fin 2) = t.val ∧ win0_6.index t (1 : Fin 2) = 0)
    ∧ win0_6.flush t = true)

theorem index7 : ∀ t : Fin cfg0.N, (win0_7.index t (0 : Fin 2) = t.val ∧ win0_7.index t (1 : Fin 2) = 0)
    ∧ (cfg0.win 7).flush t = true :=
  (by decide +kernel : ∀ t : Fin grid0.N, (win0_7.index t (0 : Fin 2) = t.val ∧ win0_7.index t (1 : Fin 2) = 0)
    ∧ win0_7.flush t = true)

theorem blk0 (t : Fin cfg0.N) (p : Fin 128) (q : Fin 1154) (s : Fin 8) (r : Fin 1024) (hr : r.val = 128 * t.val + p.val) :
    (iblk m c 0 t (ix3 s p q) : EReal) = part m c r q s := by
  obtain ⟨⟨e0, e1, e2⟩, -⟩ := index_eq t
  show V m c main_arg0 _ = V m c main_arg0 _
  congr 1
  funext a; apply Fin.ext
  match a with
  | ⟨0, _⟩ => show win0_0.index t 0 * 8 + 1 * s.val = s.val; rw [e0]; omega
  | ⟨1, _⟩ => show win0_0.index t 1 * 128 + 1 * p.val = r.val; rw [e1]; omega
  | ⟨2, _⟩ => show win0_0.index t 2 * 1154 + 1 * q.val = q.val; rw [e2]; omega

theorem blk1 (t : Fin cfg0.N) (p : Fin 128) (q : Fin 1154) (r : Fin 1024) (hr : r.val = 128 * t.val + p.val) :
    (iblk m c 1 t (ix2 p q) : EReal) = wgt m c r q := by
  have h := index_eq t
  obtain ⟨e0, e1⟩ := h.2.1
  show V m c main_arg1 _ = V m c main_arg1 _
  congr 1
  funext a; apply Fin.ext
  match a with
  | ⟨0, _⟩ => show win0_1.index t 0 * 128 + 1 * p.val = r.val; rw [e0]; omega
  | ⟨1, _⟩ => show win0_1.index t 1 * 1154 + 1 * q.val = q.val; rw [e1]; omega

theorem blk2 (t : Fin cfg0.N) (p : Fin 128) (q : Fin 1154) (r : Fin 1024) (hr : r.val = 128 * t.val + p.val) :
    (iblk m c 2 t (ix2 p q) : EReal) = fst m c r q := by
  have h := index_eq t
  obtain ⟨e0, e1⟩ := h.2.2.1
  show V m c main_arg2 _ = V m c main_arg2 _
  congr 1
  funext a; apply Fin.ext
  match a with
  | ⟨0, _⟩ => show win0_2.index t 0 * 128 + 1 * p.val = r.val; rw [e0]; omega
  | ⟨1, _⟩ => show win0_2.index t 1 * 1154 + 1 * q.val = q.val; rw [e1]; omega

theorem blk3 (t : Fin cfg0.N) (p : Fin 128) (q : Fin 1154) (r : Fin 1024) (hr : r.val = 128 * t.val + p.val) :
    (iblk m c 3 t (ix2 p q) : EReal) = snd m c r q := by
  have h := index_eq t
  obtain ⟨e0, e1⟩ := h.2.2.2
  show V m c main_arg3 _ = V m c main_arg3 _
  congr 1
  funext a; apply Fin.ext
  match a with
  | ⟨0, _⟩ => show win0_3.index t 0 * 128 + 1 * p.val = r.val; rw [e0]; omega
  | ⟨1, _⟩ => show win0_3.index t 1 * 1154 + 1 * q.val = q.val; rw [e1]; omega

theorem flushed4_eq (t : Fin cfg0.N) :
    (dats m 0 c).flushed 4 t = ((cfg0.win 4).blk t).view.read (Elt Ideal) (arr4 m c) := by
  obtain ⟨⟨e0, e1⟩, -⟩ := index4 t
  show (cfg0.win 4).cut (grid0.coords t) ((dats m 0 c).after 4 t) = _
  rw [after0_4]
  funext y
  have hp : (y 0).val < 128 := (y 0).isLt
  have hq : (y 1).val < 1154 := (y 1).isLt
  have hy : (cfg0.win 4).xinj (grid0.coords t) y = ix2 (⟨(y 0).val, hp⟩ : Fin 128) (⟨(y 1).val, hq⟩ : Fin 1154) := by
    funext a; apply Fin.ext
    match a with
    | ⟨0, _⟩ => rfl
    | ⟨1, _⟩ => rfl
  show (out0_4 (iblk m c 0 t) (iblk m c 1 t) (iblk m c 2 t) (iblk m c 3 t) ((cfg0.win 4).xinj (grid0.coords t) y) : EReal)
    = arr4 m c (((cfg0.win 4).blk t).view.emb y)
  have g0 : (((cfg0.win 4).blk t).view.emb y 0).val = win0_4.index t (0 : Fin 2) * 128 + 1 * (y 0).val := rfl
  have g1 : (((cfg0.win 4).blk t).view.emb y 1).val = win0_4.index t (1 : Fin 2) * 1154 + 1 * (y 1).val := rfl
  rw [hy, out4_apply]
  unfold arr4
  generalize ((cfg0.win 4).blk t).view.emb y = j at g0 g1
  have hr : (j 0).val = 128 * t.val + (⟨(y 0).val, hp⟩ : Fin 128).val := by rw [g0, e0]; dsimp only; omega
  have hq' : (j 1).val = (⟨(y 1).val, hq⟩ : Fin 1154).val := by rw [g1, e1]; dsimp only; omega
  generalize (⟨(y 1).val, hq⟩ : Fin 1154) = q at hq' ⊢
  rw [funext fun s => blk0 m c t _ _ s _ hr]
  obtain rfl : (j 1 : Fin 1154) = q := Fin.ext hq'
  rfl

theorem final4 : (dats m 0 c).arrAt 4 cfg0.N = arr4 m c :=
  (dats m 0 c).arrAt_eq_of_cover 4 (arr4 m c) (fun t _ => flushed4_eq m c t) fun i => by
    have hi0 : (i 0).val < 1024 := (i 0).isLt
    have hi1 : (i 1).val < 1154 := (i 1).isLt
    have hN : cfg0.N = 8 := N_0
    let t : Fin cfg0.N := ⟨(i 0).val / 128, by omega⟩
    obtain ⟨⟨e0, e1⟩, hf⟩ := index4 t
    refine ⟨t, hf, ?_⟩
    show i ∈ ((View.whole main_v0_0).slice (win0_4.rect t)).set
    rw [View.set_slice_whole, Rect.mem_set_unit]
    intro a
    match a with
    | ⟨0, _⟩ =>
      show win0_4.index t 0 * 128 ≤ (i 0).val ∧ (i 0).val < win0_4.index t 0 * 128 + 128
      rw [e0]; dsimp only [t]; omega
    | ⟨1, _⟩ => show win0_4.index t 1 * 1154 ≤ (i 1).val ∧ (i 1).val < win0_4.index t 1 * 1154 + 1154; rw [e1]; omega

theorem flushed5_eq (t : Fin cfg0.N) :
    (dats m 0 c).flushed 5 t = ((cfg0.win 5).blk t).view.read (Elt Ideal) (arr5 m c) := by
  obtain ⟨⟨e0, e1⟩, -⟩ := index5 t
  show (cfg0.win 5).cut (grid0.coords t) ((dats m 0 c).after 5 t) = _
  rw [after0_5]
  funext y
  have hp : (y 0).val < 128 := (y 0).isLt
  have hq : (y 1).val < 1154 := (y 1).isLt
  have hy : (cfg0.win 5).xinj (grid0.coords t) y = ix2 (⟨(y 0).val, hp⟩ : Fin 128) (⟨(y 1).val, hq⟩ : Fin 1154) := by
    funext a; apply Fin.ext
    match a with
    | ⟨0, _⟩ => rfl
    | ⟨1, _⟩ => rfl
  show (out0_5 (iblk m c 0 t) (iblk m c 1 t) (iblk m c 2 t) (iblk m c 3 t) ((cfg0.win 5).xinj (grid0.coords t) y) : EReal)
    = arr5 m c (((cfg0.win 5).blk t).view.emb y)
  have g0 : (((cfg0.win 5).blk t).view.emb y 0).val = win0_5.index t (0 : Fin 2) * 128 + 1 * (y 0).val := rfl
  have g1 : (((cfg0.win 5).blk t).view.emb y 1).val = win0_5.index t (1 : Fin 2) * 1154 + 1 * (y 1).val := rfl
  rw [hy, out5_apply]
  unfold arr5
  generalize ((cfg0.win 5).blk t).view.emb y = j at g0 g1
  have hr : (j 0).val = 128 * t.val + (⟨(y 0).val, hp⟩ : Fin 128).val := by rw [g0, e0]; dsimp only; omega
  have hq' : (j 1).val = (⟨(y 1).val, hq⟩ : Fin 1154).val := by rw [g1, e1]; dsimp only; omega
  generalize (⟨(y 1).val, hq⟩ : Fin 1154) = q at hq' ⊢
  rw [blk1 m c t _ _ _ hr]
  rw [blk2 m c t _ _ _ hr]
  rw [blk3 m c t _ _ _ hr]
  rw [funext fun s => blk0 m c t _ _ s _ hr]
  obtain rfl : (j 1 : Fin 1154) = q := Fin.ext hq'
  rfl

theorem final5 : (dats m 0 c).arrAt 5 cfg0.N = arr5 m c :=
  (dats m 0 c).arrAt_eq_of_cover 5 (arr5 m c) (fun t _ => flushed5_eq m c t) fun i => by
    have hi0 : (i 0).val < 1024 := (i 0).isLt
    have hi1 : (i 1).val < 1154 := (i 1).isLt
    have hN : cfg0.N = 8 := N_0
    let t : Fin cfg0.N := ⟨(i 0).val / 128, by omega⟩
    obtain ⟨⟨e0, e1⟩, hf⟩ := index5 t
    refine ⟨t, hf, ?_⟩
    show i ∈ ((View.whole main_v0_1).slice (win0_5.rect t)).set
    rw [View.set_slice_whole, Rect.mem_set_unit]
    intro a
    match a with
    | ⟨0, _⟩ =>
      show win0_5.index t 0 * 128 ≤ (i 0).val ∧ (i 0).val < win0_5.index t 0 * 128 + 128
      rw [e0]; dsimp only [t]; omega
    | ⟨1, _⟩ => show win0_5.index t 1 * 1154 ≤ (i 1).val ∧ (i 1).val < win0_5.index t 1 * 1154 + 1154; rw [e1]; omega

theorem flushed6_eq (t : Fin cfg0.N) :
    (dats m 0 c).flushed 6 t = ((cfg0.win 6).blk t).view.read (Elt Ideal) (arr6 m c) := by
  obtain ⟨⟨e0, e1⟩, -⟩ := index6 t
  show (cfg0.win 6).cut (grid0.coords t) ((dats m 0 c).after 6 t) = _
  rw [after0_6]
  funext y
  have hp : (y 0).val < 128 := (y 0).isLt
  have hq : (y 1).val < 1154 := (y 1).isLt
  have hy : (cfg0.win 6).xinj (grid0.coords t) y = ix2 (⟨(y 0).val, hp⟩ : Fin 128) (⟨(y 1).val, hq⟩ : Fin 1154) := by
    funext a; apply Fin.ext
    match a with
    | ⟨0, _⟩ => rfl
    | ⟨1, _⟩ => rfl
  show (out0_6 (iblk m c 0 t) (iblk m c 1 t) (iblk m c 2 t) (iblk m c 3 t) ((cfg0.win 6).xinj (grid0.coords t) y) : EReal)
    = arr6 m c (((cfg0.win 6).blk t).view.emb y)
  have g0 : (((cfg0.win 6).blk t).view.emb y 0).val = win0_6.index t (0 : Fin 2) * 128 + 1 * (y 0).val := rfl
  have g1 : (((cfg0.win 6).blk t).view.emb y 1).val = win0_6.index t (1 : Fin 2) * 1154 + 1 * (y 1).val := rfl
  rw [hy, out6_apply]
  unfold arr6
  generalize ((cfg0.win 6).blk t).view.emb y = j at g0 g1
  have hr : (j 0).val = 128 * t.val + (⟨(y 0).val, hp⟩ : Fin 128).val := by rw [g0, e0]; dsimp only; omega
  have hq' : (j 1).val = (⟨(y 1).val, hq⟩ : Fin 1154).val := by rw [g1, e1]; dsimp only; omega
  generalize (⟨(y 1).val, hq⟩ : Fin 1154) = q at hq' ⊢
  rw [blk2 m c t _ _ _ hr]
  rw [funext fun s => blk0 m c t _ _ s _ hr]
  obtain rfl : (j 1 : Fin 1154) = q := Fin.ext hq'
  rfl

theorem final6 : (dats m 0 c).arrAt 6 cfg0.N = arr6 m c :=
  (dats m 0 c).arrAt_eq_of_cover 6 (arr6 m c) (fun t _ => flushed6_eq m c t) fun i => by
    have hi0 : (i 0).val < 1024 := (i 0).isLt
    have hi1 : (i 1).val < 1154 := (i 1).isLt
    have hN : cfg0.N = 8 := N_0
    let t : Fin cfg0.N := ⟨(i 0).val / 128, by omega⟩
    obtain ⟨⟨e0, e1⟩, hf⟩ := index6 t
    refine ⟨t, hf, ?_⟩
    show i ∈ ((View.whole main_v0_2).slice (win0_6.rect t)).set
    rw [View.set_slice_whole, Rect.mem_set_unit]
    intro a
    match a with
    | ⟨0, _⟩ =>
      show win0_6.index t 0 * 128 ≤ (i 0).val ∧ (i 0).val < win0_6.index t 0 * 128 + 128
      rw [e0]; dsimp only [t]; omega
    | ⟨1, _⟩ => show win0_6.index t 1 * 1154 ≤ (i 1).val ∧ (i 1).val < win0_6.index t 1 * 1154 + 1154; rw [e1]; omega

theorem flushed7_eq (t : Fin cfg0.N) :
    (dats m 0 c).flushed 7 t = ((cfg0.win 7).blk t).view.read (Elt Ideal) (arr7 m c) := by
  obtain ⟨⟨e0, e1⟩, -⟩ := index7 t
  show (cfg0.win 7).cut (grid0.coords t) ((dats m 0 c).after 7 t) = _
  rw [after0_7]
  funext y
  have hp : (y 0).val < 128 := (y 0).isLt
  have hq : (y 1).val < 1154 := (y 1).isLt
  have hy : (cfg0.win 7).xinj (grid0.coords t) y = ix2 (⟨(y 0).val, hp⟩ : Fin 128) (⟨(y 1).val, hq⟩ : Fin 1154) := by
    funext a; apply Fin.ext
    match a with
    | ⟨0, _⟩ => rfl
    | ⟨1, _⟩ => rfl
  show (out0_7 (iblk m c 0 t) (iblk m c 1 t) (iblk m c 2 t) (iblk m c 3 t) ((cfg0.win 7).xinj (grid0.coords t) y) : EReal)
    = arr7 m c (((cfg0.win 7).blk t).view.emb y)
  have g0 : (((cfg0.win 7).blk t).view.emb y 0).val = win0_7.index t (0 : Fin 2) * 128 + 1 * (y 0).val := rfl
  have g1 : (((cfg0.win 7).blk t).view.emb y 1).val = win0_7.index t (1 : Fin 2) * 1154 + 1 * (y 1).val := rfl
  rw [hy, out7_apply]
  unfold arr7
  generalize ((cfg0.win 7).blk t).view.emb y = j at g0 g1
  have hr : (j 0).val = 128 * t.val + (⟨(y 0).val, hp⟩ : Fin 128).val := by rw [g0, e0]; dsimp only; omega
  have hq' : (j 1).val = (⟨(y 1).val, hq⟩ : Fin 1154).val := by rw [g1, e1]; dsimp only; omega
  generalize (⟨(y 1).val, hq⟩ : Fin 1154) = q at hq' ⊢
  rw [blk3 m c t _ _ _ hr]
  rw [funext fun s => blk0 m c t _ _ s _ hr]
  obtain rfl : (j 1 : Fin 1154) = q := Fin.ext hq'
  rfl

theorem final7 : (dats m 0 c).arrAt 7 cfg0.N = arr7 m c :=
  (dats m 0 c).arrAt_eq_of_cover 7 (arr7 m c) (fun t _ => flushed7_eq m c t) fun i => by
    have hi0 : (i 0).val < 1024 := (i 0).isLt
    have hi1 : (i 1).val < 1154 := (i 1).isLt
    have hN : cfg0.N = 8 := N_0
    let t : Fin cfg0.N := ⟨(i 0).val / 128, by omega⟩
    obtain ⟨⟨e0, e1⟩, hf⟩ := index7 t
    refine ⟨t, hf, ?_⟩
    show i ∈ ((View.whole main_v0_3).slice (win0_7.rect t)).set
    rw [View.set_slice_whole, Rect.mem_set_unit]
    intro a
    match a with
    | ⟨0, _⟩ =>
      show win0_7.index t 0 * 128 ≤ (i 0).val ∧ (i 0).val < win0_7.index t 0 * 128 + 128
      rw [e0]; dsimp only [t]; omega
    | ⟨1, _⟩ => show win0_7.index t 1 * 1154 ≤ (i 1).val ∧ (i 1).val < win0_7.index t 1 * 1154 + 1154; rw [e1]; omega

end Cert.AdamInIdeal.Arrays

end
-- ==== Proof.AdamInSame.lean ====
/-
  The optimiser's call on the input projection returns what the optimiser's rule returns.
-/
module

public import proofs.«01_k».proof.Defs
public import proofs.«01_k».proof.Proof.AdamInArrays
public import proofs.«01_k».proof.Proof.Gen.AdamInRefIdeal
public import proofs.«01_k».proof.Proof.Gen.AdamInRefIdeal.Run

@[expose] public section

set_option maxRecDepth 16384

noncomputable section

open Idealize.ShloMosaic Idealize.ShloMosaic.TcCoe Idealize.SL.Sem

namespace Cert.AdamInIdeal.Arrays

open Cert.AdamInIdeal Cert.AdamInIdeal.Gen

/-- The four arrays the call returns equal the four the reference returns, over the extended reals. -/
theorem algebraic : Cert.algebraic_AdamInIdeal_AdamInRefIdeal := by
  intro m ρ m' ρ' _ hagree
  refine ⟨fun c => arr4 m c, fun c => arr5 m c, fun c => arr6 m c, fun c => arr7 m c, ?_, ?_⟩
  · exact (θ_run Cert.AdamInIdeal.defs _ _).mono
      (fun _ h c => ⟨(h c).1.trans (final4 m c), (h c).2.1.trans (final5 m c), (h c).2.2.1.trans (final6 m c),
        (h c).2.2.2.1.trans (final7 m c), (h c).2.2.2.2⟩) (Cert.AdamInIdeal.Value.run_blocks (F := Ideal) m ρ)
  · refine (θ_run Cert.AdamInRefIdeal.defs _ _).mono
      (fun _ h c => ⟨(h c).1.trans ?_, (h c).2.1.trans ?_, (h c).2.2.1.trans ?_, (h c).2.2.2.1.trans ?_, (h c).2.2.2.2⟩)
      (Cert.AdamInRefIdeal.Value.run (F := Ideal) m' ρ')
    all_goals
      obtain ⟨h0, h1, h2, h3⟩ := hagree c
      first | rw [h0, h1, h2, h3] | rw [h0, h2] | rw [h0, h3] | rw [h0]
      funext i
      first | unfold arr5 | unfold arr6 | unfold arr7 | unfold arr4
      unfold part
      try unfold wgt
      try unfold fst
      try unfold snd
      simp only [V_main_arg0, V_main_arg1, V_main_arg2, V_main_arg3]
      pointwise [Adam.delta, Adam.mom, Adam.sec, Adam.grad]

end Cert.AdamInIdeal.Arrays

end
-- ==== Proof.AdamWant.lean ====
/-
  The optimiser's rule applied to whole arrays: the gradient parts of the eight devices are added, and the weights' change
  and the two moments are computed entry by entry.
-/
module

public import proofs.«01_k».proof.Proof.AdamRule
public import Idealize.ShloMosaic.Lib.Pointwise

@[expose] public section

noncomputable section

open Idealize.ShloMosaic

namespace Cert.Adam

section plane

variable {n k : Nat}

/-- Two planes with equal entries are equal. -/
theorem eq2 {α : Type} {f g : (⟨2, ![n, k]⟩ : Shape).Idx → α} (h : ∀ p q, f (ix2 p q) = g (ix2 p q)) : f = g := by
  funext i
  have e : i = ix2 (i 0) (i 1) := by
    funext a
    match a with
    | ⟨0, _⟩ => rfl
    | ⟨1, _⟩ => rfl
  rw [e]
  exact h _ _

variable (g : (⟨3, ![8, n, k]⟩ : Shape).Idx → EReal) (w f v : (⟨2, ![n, k]⟩ : Shape).Idx → EReal)

def gradOf : (⟨2, ![n, k]⟩ : Shape).Idx → EReal := fun i => grad fun s => g (ix3 s (i 0) (i 1))

def deltaOf : (⟨2, ![n, k]⟩ : Shape).Idx → EReal := fun i => delta (w i) (f i) (v i) (gradOf g i)

def momOf : (⟨2, ![n, k]⟩ : Shape).Idx → EReal := fun i => mom (f i) (gradOf g i)

def secOf : (⟨2, ![n, k]⟩ : Shape).Idx → EReal := fun i => sec (v i) (gradOf g i)

end plane

section line

variable {n : Nat}

/-- Two vectors with equal entries are equal. -/
theorem eq1 {α : Type} {f g : (⟨1, ![n]⟩ : Shape).Idx → α} (h : ∀ q, f (ix1 q) = g (ix1 q)) : f = g := by
  funext i
  have e : i = ix1 (i 0) := by
    funext a
    match a with
    | ⟨0, _⟩ => rfl
  rw [e]
  exact h _

variable (g : (⟨2, ![8, n]⟩ : Shape).Idx → EReal) (w f v : (⟨1, ![n]⟩ : Shape).Idx → EReal)

def gradRow : (⟨1, ![n]⟩ : Shape).Idx → EReal := fun i => grad fun s => g (ix2 s (i 0))

def deltaRow : (⟨1, ![n]⟩ : Shape).Idx → EReal := fun i => delta (w i) (f i) (v i) (gradRow g i)

def momRow : (⟨1, ![n]⟩ : Shape).Idx → EReal := fun i => mom (f i) (gradRow g i)

def secRow : (⟨1, ![n]⟩ : Shape).Idx → EReal := fun i => sec (v i) (gradRow g i)

end line

end Cert.Adam

end
-- ==== Proof.AdamShardsArrays.lean ====
/-
  The arrays the optimiser's call on the packed sharded weights returns, element by element, in terms of the arrays it is given: each
  element is the optimiser's rule at the elements standing at its place.
-/
module

public import proofs.«01_k».proof.Proof.AdamRule
public import proofs.«01_k».proof.Proof.Gen.AdamShardsIdeal.Frame
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamShardsIdeal.Arrays

open Cert.AdamShardsIdeal Cert.AdamShardsIdeal.Gen

variable (m : (ℓ : Loc nD τ sig) → Buf (Elt Ideal) ℓ) (c : Dev nD)

theorem hz : (![0, 0] : Fin 2 → Nat) = fun _ => 0 := funext fun a => by fin_cases a <;> rfl

/-- The gradients, weight, moments at an element of the call's own arrays. -/
def part (r : Fin 416) (q : Fin 1024) (s : Fin 8) : EReal := V m c main_v7 (ix3 s r q)
def wgt (r : Fin 416) (q : Fin 1024) : EReal := V m c main_v14 (ix2 r q)
def fst (r : Fin 416) (q : Fin 1024) : EReal := V m c main_v21 (ix2 r q)
def snd (r : Fin 416) (q : Fin 1024) : EReal := V m c main_v28 (ix2 r q)

/-- The four arrays of the call. -/
def arr4 : Buf (Elt Ideal) ((c : Thread nD τ).loc main_v29_0) := fun i => Adam.grad (part m c (i 0) (i 1))
def arr5 : Buf (Elt Ideal) ((c : Thread nD τ).loc main_v29_1) := fun i =>
  Adam.delta (wgt m c (i 0) (i 1)) (fst m c (i 0) (i 1)) (snd m c (i 0) (i 1)) (Adam.grad (part m c (i 0) (i 1)))
def arr6 : Buf (Elt Ideal) ((c : Thread nD τ).loc main_v29_2) := fun i =>
  Adam.mom (fst m c (i 0) (i 1)) (Adam.grad (part m c (i 0) (i 1)))
def arr7 : Buf (Elt Ideal) ((c : Thread nD τ).loc main_v29_3) := fun i =>
  Adam.sec (snd m c (i 0) (i 1)) (Adam.grad (part m c (i 0) (i 1)))

theorem ld0 (x : Vec Ideal S8x208x1024 .bf16) (p : Fin 208) (q : Fin 1024) :
    View.ld x r0_0 (ix3 0 p q) = x (ix3 0 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld1 (x : Vec Ideal S8x208x1024 .bf16) (p : Fin 208) (q : Fin 1024) :
    View.ld x r0_1 (ix3 0 p q) = x (ix3 1 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld2 (x : Vec Ideal S8x208x1024 .bf16) (p : Fin 208) (q : Fin 1024) :
    View.ld x r0_2 (ix3 0 p q) = x (ix3 2 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld3 (x : Vec Ideal S8x208x1024 .bf16) (p : Fin 208) (q : Fin 1024) :
    View.ld x r0_3 (ix3 0 p q) = x (ix3 3 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld4 (x : Vec Ideal S8x208x1024 .bf16) (p : Fin 208) (q : Fin 1024) :
    View.ld x r0_4 (ix3 0 p q) = x (ix3 4 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld5 (x : Vec Ideal S8x208x1024 .bf16) (p : Fin 208) (q : Fin 1024) :
    View.ld x r0_5 (ix3 0 p q) = x (ix3 5 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld6 (x : Vec Ideal S8x208x1024 .bf16) (p : Fin 208) (q : Fin 1024) :
    View.ld x r0_6 (ix3 0 p q) = x (ix3 6 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld7 (x : Vec Ideal S8x208x1024 .bf16) (p : Fin 208) (q : Fin 1024) :
    View.ld x r0_7 (ix3 0 p q) = x (ix3 7 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

/-- The gradient the body forms, at an element. -/
theorem grad_apply (x : Vec Ideal S8x208x1024 .bf16) (w f v : Vec Ideal S208x1024 .f32) (p : Fin 208) (q : Fin 1024) :
    (k0_pay6 x w f v (ix2 p q) : EReal) = Adam.grad fun s => x (ix3 s p q) := by
  rw [Adam.grad_eq]
  unfold k0_pay6 k0_pay4
  pointwise [ld0, ld1, ld2, ld3, ld4, ld5, ld6, ld7]

theorem out4_apply (x : Vec Ideal S8x208x1024 .bf16) (w f v : Vec Ideal S208x1024 .f32) (p : Fin 208) (q : Fin 1024) :
    (out0_4 x w f v (ix2 p q) : EReal) = Adam.grad fun s => x (ix3 s p q) := by
  unfold out0_4
  rw [View.canon_unit_zero hz]
  exact grad_apply x w f v p q

theorem out5_apply (x : Vec Ideal S8x208x1024 .bf16) (w f v : Vec Ideal S208x1024 .f32) (p : Fin 208) (q : Fin 1024) :
    (out0_5 x w f v (ix2 p q) : EReal) = Adam.delta (w (ix2 p q)) (f (ix2 p q)) (v (ix2 p q)) (Adam.grad fun s => x (ix3 s p q)) := by
  rw [← grad_apply x w f v p q]
  unfold out0_5
  rw [View.canon_unit_zero hz]
  generalize k0_pay6 x w f v = g
  unfold k0_pay3 k0_pay1 k0_pay2 k0_pay7 k0_pay5
  simp only [View.ld_unit_zero (S := S208x1024) hz]
  pointwise [Adam.delta, Adam.mom, Adam.sec]

theorem out6_apply (x : Vec Ideal S8x208x1024 .bf16) (w f v : Vec Ideal S208x1024 .f32) (p : Fin 208) (q : Fin 1024) :
    (out0_6 x w f v (ix2 p q) : EReal) = Adam.mom (f (ix2 p q)) (Adam.grad fun s => x (ix3 s p q)) := by
  rw [← grad_apply x w f v p q]
  unfold out0_6
  rw [View.canon_unit_zero hz]
  generalize k0_pay6 x w f v = g
  unfold k0_pay1 k0_pay7 k0_pay5
  simp only [View.ld_unit_zero (S := S208x1024) hz]
  pointwise [Adam.delta, Adam.mom, Adam.sec]

theorem out7_apply (x : Vec Ideal S8x208x1024 .bf16) (w f v : Vec Ideal S208x1024 .f32) (p : Fin 208) (q : Fin 1024) :
    (out0_7 x w f v (ix2 p q) : EReal) = Adam.sec (v (ix2 p q)) (Adam.grad fun s => x (ix3 s p q)) := by
  rw [← grad_apply x w f v p q]
  unfold out0_7
  rw [View.canon_unit_zero hz]
  generalize k0_pay6 x w f v = g
  unfold k0_pay2
  simp only [View.ld_unit_zero (S := S208x1024) hz]
  pointwise [Adam.delta, Adam.mom, Adam.sec]

/-- Where the windows of a point stand. -/
theorem index_eq : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem index4 : ∀ t : Fin cfg0.N, (win0_4.index t (0 : Fin 2) = t.val ∧ win0_4.index t (1 : Fin 2) = 0)
    ∧ (cfg0.win 4).flush t = true :=
  (by decide +kernel : ∀ t : Fin grid0.N, (win0_4.index t (0 : Fin 2) = t.val ∧ win0_4.index t (1 : Fin 2) = 0)
    ∧ win0_4.flush t = true)

theorem index5 : ∀ t : Fin cfg0.N, (win0_5.index t (0 : Fin 2) = t.val ∧ win0_5.index t (1 : Fin 2) = 0)
    ∧ (cfg0.win 5).flush t = true :=
  (by decide +kernel : ∀ t : Fin grid0.N, (win0_5.index t (0 : Fin 2) = t.val ∧ win0_5.index t (1 : Fin 2) = 0)
    ∧ win0_5.flush t = true)

theorem index6 : ∀ t : Fin cfg0.N, (win0_6.index t (0 : Fin 2) = t.val ∧ win0_6.index t (1 : Fin 2) = 0)
    ∧ (cfg0.win 6).flush t = true :=
  (by decide +kernel : ∀ t : Fin grid0.N, (win0_6.index t (0 : Fin 2) = t.val ∧ win0_6.index t (1 : Fin 2) = 0)
    ∧ win0_6.flush t = true)

theorem index7 : ∀ t : Fin cfg0.N, (win0_7.index t (0 : Fin 2) = t.val ∧ win0_7.index t (1 : Fin 2) = 0)
    ∧ (cfg0.win 7).flush t = true :=
  (by decide +kernel : ∀ t : Fin grid0.N, (win0_7.index t (0 : Fin 2) = t.val ∧ win0_7.index t (1 : Fin 2) = 0)
    ∧ win0_7.flush t = true)

theorem blk0 (t : Fin cfg0.N) (p : Fin 208) (q : Fin 1024) (s : Fin 8) (r : Fin 416) (hr : r.val = 208 * t.val + p.val) :
    (iblk m c 0 t (ix3 s p q) : EReal) = part m c r q s := by
  obtain ⟨⟨e0, e1, e2⟩, -⟩ := index_eq t
  show V m c main_v7 _ = V m c main_v7 _
  congr 1
  funext a; apply Fin.ext
  match a with
  | ⟨0, _⟩ => show win0_0.index t 0 * 8 + 1 * s.val = s.val; rw [e0]; omega
  | ⟨1, _⟩ => show win0_0.index t 1 * 208 + 1 * p.val = r.val; rw [e1]; omega
  | ⟨2, _⟩ => show win0_0.index t 2 * 1024 + 1 * q.val = q.val; rw [e2]; omega

theorem blk1 (t : Fin cfg0.N) (p : Fin 208) (q : Fin 1024) (r : Fin 416) (hr : r.val = 208 * t.val + p.val) :
    (iblk m c 1 t (ix2 p q) : EReal) = wgt m c r q := by
  have h := index_eq t
  obtain ⟨e0, e1⟩ := h.2.1
  show V m c main_v14 _ = V m c main_v14 _
  congr 1
  funext a; apply Fin.ext
  match a with
  | ⟨0, _⟩ => show win0_1.index t 0 * 208 + 1 * p.val = r.val; rw [e0]; omega
  | ⟨1, _⟩ => show win0_1.index t 1 * 1024 + 1 * q.val = q.val; rw [e1]; omega

theorem blk2 (t : Fin cfg0.N) (p : Fin 208) (q : Fin 1024) (r : Fin 416) (hr : r.val = 208 * t.val + p.val) :
    (iblk m c 2 t (ix2 p q) : EReal) = fst m c r q := by
  have h := index_eq t
  obtain ⟨e0, e1⟩ := h.2.2.1
  show V m c main_v21 _ = V m c main_v21 _
  congr 1
  funext a; apply Fin.ext
  match a with
  | ⟨0, _⟩ => show win0_2.index t 0 * 208 + 1 * p.val = r.val; rw [e0]; omega
  | ⟨1, _⟩ => show win0_2.index t 1 * 1024 + 1 * q.val = q.val; rw [e1]; omega

theorem blk3 (t : Fin cfg0.N) (p : Fin 208) (q : Fin 1024) (r : Fin 416) (hr : r.val = 208 * t.val + p.val) :
    (iblk m c 3 t (ix2 p q) : EReal) = snd m c r q := by
  have h := index_eq t
  obtain ⟨e0, e1⟩ := h.2.2.2
  show V m c main_v28 _ = V m c main_v28 _
  congr 1
  funext a; apply Fin.ext
  match a with
  | ⟨0, _⟩ => show win0_3.index t 0 * 208 + 1 * p.val = r.val; rw [e0]; omega
  | ⟨1, _⟩ => show win0_3.index t 1 * 1024 + 1 * q.val = q.val; rw [e1]; omega

theorem flushed4_eq (t : Fin cfg0.N) :
    (dats m 0 c).flushed 4 t = ((cfg0.win 4).blk t).view.read (Elt Ideal) (arr4 m c) := by
  obtain ⟨⟨e0, e1⟩, -⟩ := index4 t
  show (cfg0.win 4).cut (grid0.coords t) ((dats m 0 c).after 4 t) = _
  rw [after0_4]
  funext y
  have hp : (y 0).val < 208 := (y 0).isLt
  have hq : (y 1).val < 1024 := (y 1).isLt
  have hy : (cfg0.win 4).xinj (grid0.coords t) y = ix2 (⟨(y 0).val, hp⟩ : Fin 208) (⟨(y 1).val, hq⟩ : Fin 1024) := by
    funext a; apply Fin.ext
    match a with
    | ⟨0, _⟩ => rfl
    | ⟨1, _⟩ => rfl
  show (out0_4 (iblk m c 0 t) (iblk m c 1 t) (iblk m c 2 t) (iblk m c 3 t) ((cfg0.win 4).xinj (grid0.coords t) y) : EReal)
    = arr4 m c (((cfg0.win 4).blk t).view.emb y)
  have g0 : (((cfg0.win 4).blk t).view.emb y 0).val = win0_4.index t (0 : Fin 2) * 208 + 1 * (y 0).val := rfl
  have g1 : (((cfg0.win 4).blk t).view.emb y 1).val = win0_4.index t (1 : Fin 2) * 1024 + 1 * (y 1).val := rfl
  rw [hy, out4_apply]
  unfold arr4
  generalize ((cfg0.win 4).blk t).view.emb y = j at g0 g1
  have hr : (j 0).val = 208 * t.val + (⟨(y 0).val, hp⟩ : Fin 208).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [funext fun s => blk0 m c t _ _ s _ hr]
  obtain rfl : (j 1 : Fin 1024) = q := Fin.ext hq'
  rfl

theorem final4 : (dats m 0 c).arrAt 4 cfg0.N = arr4 m c :=
  (dats m 0 c).arrAt_eq_of_cover 4 (arr4 m c) (fun t _ => flushed4_eq m c t) fun i => by
    have hi0 : (i 0).val < 416 := (i 0).isLt
    have hi1 : (i 1).val < 1024 := (i 1).isLt
    have hN : cfg0.N = 2 := N_0
    let t : Fin cfg0.N := ⟨(i 0).val / 208, by omega⟩
    obtain ⟨⟨e0, e1⟩, hf⟩ := index4 t
    refine ⟨t, hf, ?_⟩
    show i ∈ ((View.whole main_v29_0).slice (win0_4.rect t)).set
    rw [View.set_slice_whole, Rect.mem_set_unit]
    intro a
    match a with
    | ⟨0, _⟩ =>
      show win0_4.index t 0 * 208 ≤ (i 0).val ∧ (i 0).val < win0_4.index t 0 * 208 + 208
      rw [e0]; dsimp only [t]; omega
    | ⟨1, _⟩ => show win0_4.index t 1 * 1024 ≤ (i 1).val ∧ (i 1).val < win0_4.index t 1 * 1024 + 1024; rw [e1]; omega

theorem flushed5_eq (t : Fin cfg0.N) :
    (dats m 0 c).flushed 5 t = ((cfg0.win 5).blk t).view.read (Elt Ideal) (arr5 m c) := by
  obtain ⟨⟨e0, e1⟩, -⟩ := index5 t
  show (cfg0.win 5).cut (grid0.coords t) ((dats m 0 c).after 5 t) = _
  rw [after0_5]
  funext y
  have hp : (y 0).val < 208 := (y 0).isLt
  have hq : (y 1).val < 1024 := (y 1).isLt
  have hy : (cfg0.win 5).xinj (grid0.coords t) y = ix2 (⟨(y 0).val, hp⟩ : Fin 208) (⟨(y 1).val, hq⟩ : Fin 1024) := by
    funext a; apply Fin.ext
    match a with
    | ⟨0, _⟩ => rfl
    | ⟨1, _⟩ => rfl
  show (out0_5 (iblk m c 0 t) (iblk m c 1 t) (iblk m c 2 t) (iblk m c 3 t) ((cfg0.win 5).xinj (grid0.coords t) y) : EReal)
    = arr5 m c (((cfg0.win 5).blk t).view.emb y)
  have g0 : (((cfg0.win 5).blk t).view.emb y 0).val = win0_5.index t (0 : Fin 2) * 208 + 1 * (y 0).val := rfl
  have g1 : (((cfg0.win 5).blk t).view.emb y 1).val = win0_5.index t (1 : Fin 2) * 1024 + 1 * (y 1).val := rfl
  rw [hy, out5_apply]
  unfold arr5
  generalize ((cfg0.win 5).blk t).view.emb y = j at g0 g1
  have hr : (j 0).val = 208 * t.val + (⟨(y 0).val, hp⟩ : Fin 208).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [blk1 m c t _ _ _ hr]
  rw [blk2 m c t _ _ _ hr]
  rw [blk3 m c t _ _ _ hr]
  rw [funext fun s => blk0 m c t _ _ s _ hr]
  obtain rfl : (j 1 : Fin 1024) = q := Fin.ext hq'
  rfl

theorem final5 : (dats m 0 c).arrAt 5 cfg0.N = arr5 m c :=
  (dats m 0 c).arrAt_eq_of_cover 5 (arr5 m c) (fun t _ => flushed5_eq m c t) fun i => by
    have hi0 : (i 0).val < 416 := (i 0).isLt
    have hi1 : (i 1).val < 1024 := (i 1).isLt
    have hN : cfg0.N = 2 := N_0
    let t : Fin cfg0.N := ⟨(i 0).val / 208, by omega⟩
    obtain ⟨⟨e0, e1⟩, hf⟩ := index5 t
    refine ⟨t, hf, ?_⟩
    show i ∈ ((View.whole main_v29_1).slice (win0_5.rect t)).set
    rw [View.set_slice_whole, Rect.mem_set_unit]
    intro a
    match a with
    | ⟨0, _⟩ =>
      show win0_5.index t 0 * 208 ≤ (i 0).val ∧ (i 0).val < win0_5.index t 0 * 208 + 208
      rw [e0]; dsimp only [t]; omega
    | ⟨1, _⟩ => show win0_5.index t 1 * 1024 ≤ (i 1).val ∧ (i 1).val < win0_5.index t 1 * 1024 + 1024; rw [e1]; omega

theorem flushed6_eq (t : Fin cfg0.N) :
    (dats m 0 c).flushed 6 t = ((cfg0.win 6).blk t).view.read (Elt Ideal) (arr6 m c) := by
  obtain ⟨⟨e0, e1⟩, -⟩ := index6 t
  show (cfg0.win 6).cut (grid0.coords t) ((dats m 0 c).after 6 t) = _
  rw [after0_6]
  funext y
  have hp : (y 0).val < 208 := (y 0).isLt
  have hq : (y 1).val < 1024 := (y 1).isLt
  have hy : (cfg0.win 6).xinj (grid0.coords t) y = ix2 (⟨(y 0).val, hp⟩ : Fin 208) (⟨(y 1).val, hq⟩ : Fin 1024) := by
    funext a; apply Fin.ext
    match a with
    | ⟨0, _⟩ => rfl
    | ⟨1, _⟩ => rfl
  show (out0_6 (iblk m c 0 t) (iblk m c 1 t) (iblk m c 2 t) (iblk m c 3 t) ((cfg0.win 6).xinj (grid0.coords t) y) : EReal)
    = arr6 m c (((cfg0.win 6).blk t).view.emb y)
  have g0 : (((cfg0.win 6).blk t).view.emb y 0).val = win0_6.index t (0 : Fin 2) * 208 + 1 * (y 0).val := rfl
  have g1 : (((cfg0.win 6).blk t).view.emb y 1).val = win0_6.index t (1 : Fin 2) * 1024 + 1 * (y 1).val := rfl
  rw [hy, out6_apply]
  unfold arr6
  generalize ((cfg0.win 6).blk t).view.emb y = j at g0 g1
  have hr : (j 0).val = 208 * t.val + (⟨(y 0).val, hp⟩ : Fin 208).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [blk2 m c t _ _ _ hr]
  rw [funext fun s => blk0 m c t _ _ s _ hr]
  obtain rfl : (j 1 : Fin 1024) = q := Fin.ext hq'
  rfl

theorem final6 : (dats m 0 c).arrAt 6 cfg0.N = arr6 m c :=
  (dats m 0 c).arrAt_eq_of_cover 6 (arr6 m c) (fun t _ => flushed6_eq m c t) fun i => by
    have hi0 : (i 0).val < 416 := (i 0).isLt
    have hi1 : (i 1).val < 1024 := (i 1).isLt
    have hN : cfg0.N = 2 := N_0
    let t : Fin cfg0.N := ⟨(i 0).val / 208, by omega⟩
    obtain ⟨⟨e0, e1⟩, hf⟩ := index6 t
    refine ⟨t, hf, ?_⟩
    show i ∈ ((View.whole main_v29_2).slice (win0_6.rect t)).set
    rw [View.set_slice_whole, Rect.mem_set_unit]
    intro a
    match a with
    | ⟨0, _⟩ =>
      show win0_6.index t 0 * 208 ≤ (i 0).val ∧ (i 0).val < win0_6.index t 0 * 208 + 208
      rw [e0]; dsimp only [t]; omega
    | ⟨1, _⟩ => show win0_6.index t 1 * 1024 ≤ (i 1).val ∧ (i 1).val < win0_6.index t 1 * 1024 + 1024; rw [e1]; omega

theorem flushed7_eq (t : Fin cfg0.N) :
    (dats m 0 c).flushed 7 t = ((cfg0.win 7).blk t).view.read (Elt Ideal) (arr7 m c) := by
  obtain ⟨⟨e0, e1⟩, -⟩ := index7 t
  show (cfg0.win 7).cut (grid0.coords t) ((dats m 0 c).after 7 t) = _
  rw [after0_7]
  funext y
  have hp : (y 0).val < 208 := (y 0).isLt
  have hq : (y 1).val < 1024 := (y 1).isLt
  have hy : (cfg0.win 7).xinj (grid0.coords t) y = ix2 (⟨(y 0).val, hp⟩ : Fin 208) (⟨(y 1).val, hq⟩ : Fin 1024) := by
    funext a; apply Fin.ext
    match a with
    | ⟨0, _⟩ => rfl
    | ⟨1, _⟩ => rfl
  show (out0_7 (iblk m c 0 t) (iblk m c 1 t) (iblk m c 2 t) (iblk m c 3 t) ((cfg0.win 7).xinj (grid0.coords t) y) : EReal)
    = arr7 m c (((cfg0.win 7).blk t).view.emb y)
  have g0 : (((cfg0.win 7).blk t).view.emb y 0).val = win0_7.index t (0 : Fin 2) * 208 + 1 * (y 0).val := rfl
  have g1 : (((cfg0.win 7).blk t).view.emb y 1).val = win0_7.index t (1 : Fin 2) * 1024 + 1 * (y 1).val := rfl
  rw [hy, out7_apply]
  unfold arr7
  generalize ((cfg0.win 7).blk t).view.emb y = j at g0 g1
  have hr : (j 0).val = 208 * t.val + (⟨(y 0).val, hp⟩ : Fin 208).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [blk3 m c t _ _ _ hr]
  rw [funext fun s => blk0 m c t _ _ s _ hr]
  obtain rfl : (j 1 : Fin 1024) = q := Fin.ext hq'
  rfl

theorem final7 : (dats m 0 c).arrAt 7 cfg0.N = arr7 m c :=
  (dats m 0 c).arrAt_eq_of_cover 7 (arr7 m c) (fun t _ => flushed7_eq m c t) fun i => by
    have hi0 : (i 0).val < 416 := (i 0).isLt
    have hi1 : (i 1).val < 1024 := (i 1).isLt
    have hN : cfg0.N = 2 := N_0
    let t : Fin cfg0.N := ⟨(i 0).val / 208, by omega⟩
    obtain ⟨⟨e0, e1⟩, hf⟩ := index7 t
    refine ⟨t, hf, ?_⟩
    show i ∈ ((View.whole main_v29_3).slice (win0_7.rect t)).set
    rw [View.set_slice_whole, Rect.mem_set_unit]
    intro a
    match a with
    | ⟨0, _⟩ =>
      show win0_7.index t 0 * 208 ≤ (i 0).val ∧ (i 0).val < win0_7.index t 0 * 208 + 208
      rw [e0]; dsimp only [t]; omega
    | ⟨1, _⟩ => show win0_7.index t 1 * 1024 ≤ (i 1).val ∧ (i 1).val < win0_7.index t 1 * 1024 + 1024; rw [e1]; omega

end Cert.AdamShardsIdeal.Arrays

end
-- ==== Proof.AdamShardsEntry.lean ====
/-
  Where the packed weights and moments of the optimiser's call come from: the rows hold the arrays one under the other,
  the two narrow ones laid out along the rows.
-/
module

public import proofs.«01_k».proof.Proof.AdamShardsArrays
public import Idealize.ShloMosaic.Lib.StableHlo.ReadAt

@[expose] public section

set_option maxRecDepth 16384

noncomputable section

open Idealize.ShloMosaic Idealize.ShloMosaic.TcCoe Idealize.SL.Sem

namespace Cert.AdamShardsIdeal.Arrays

open Cert.AdamShardsIdeal Cert.AdamShardsIdeal.Gen

variable (m : (ℓ : Loc nD τ sig) → Buf (Elt Ideal) ℓ) (c : Dev nD)

theorem wgt_0 (p : Fin 128) (q : Fin 1024) :
    wgt m c (⟨p.val, by omega⟩ : Fin 416) (⟨q.val, by omega⟩ : Fin 1024) = m ((c : Thread nD τ).loc main_arg5) (ix2 p q) := by
  show StableHlo.after _ _ (Proc.devRef .tc main_v14) (ix2 (⟨p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at

theorem wgt_1 (p : Fin 128) (q : Fin 1024) :
    wgt m c (⟨128 + p.val, by omega⟩ : Fin 416) (⟨q.val, by omega⟩ : Fin 1024) = m ((c : Thread nD τ).loc main_arg6) (ix2 p q) := by
  show StableHlo.after _ _ (Proc.devRef .tc main_v14) (ix2 (⟨128 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at

theorem wgt_2 (p : Fin 128) (q : Fin 1024) :
    wgt m c (⟨256 + p.val, by omega⟩ : Fin 416) (⟨q.val, by omega⟩ : Fin 1024) = m ((c : Thread nD τ).loc main_arg7) (ix2 p q) := by
  show StableHlo.after _ _ (Proc.devRef .tc main_v14) (ix2 (⟨256 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_pos (by omega)]
  show m (c, _) _ = m (c, _) _
  congr 1
  funext a; apply Fin.ext
  match a with
  | ⟨0, _⟩ => dsimp only [ix2, Matrix.cons_val]; omega
  | ⟨1, _⟩ => rfl

theorem wgt_3 (p : Fin 31) (q : Fin 128) :
    wgt m c (⟨384 + (128 * p.val + q.val) / 1024, by omega⟩ : Fin 416) (⟨(128 * p.val + q.val) % 1024, by omega⟩ : Fin 1024) = m ((c : Thread nD τ).loc main_arg8) (ix2 p q) := by
  show StableHlo.after _ _ (Proc.devRef .tc main_v14) (ix2 (⟨384 + (128 * p.val + q.val) / 1024, by omega⟩ : Fin 416) (⟨(128 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_neg (by omega), dif_pos (by omega)]
  after_reads_at
  rw [dif_pos (by omega)]
  show m (c, _) _ = m (c, _) _
  congr 1
  funext a; apply Fin.ext
  match a with
  | ⟨0, _⟩ => dsimp only [ix2, Matrix.cons_val]; show _ = p.val; omega
  | ⟨1, _⟩ => dsimp only [ix2, Matrix.cons_val]; show _ = q.val; omega

theorem wgt_4 (p : Fin 4) (q : Fin 384) :
    wgt m c (⟨400 + (384 * p.val + q.val) / 1024, by omega⟩ : Fin 416) (⟨(384 * p.val + q.val) % 1024, by omega⟩ : Fin 1024) = m ((c : Thread nD τ).loc main_arg9) (ix2 p q) := by
  show StableHlo.after _ _ (Proc.devRef .tc main_v14) (ix2 (⟨400 + (384 * p.val + q.val) / 1024, by omega⟩ : Fin 416) (⟨(384 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_neg (by omega), dif_neg (by omega)]
  after_reads_at
  rw [dif_pos (by omega)]
  show m (c, _) _ = m (c, _) _
  congr 1
  funext a; apply Fin.ext
  match a with
  | ⟨0, _⟩ => dsimp only [ix2, Matrix.cons_val]; show _ = p.val; omega
  | ⟨1, _⟩ => dsimp only [ix2, Matrix.cons_val]; show _ = q.val; omega

theorem fst_0 (p : Fin 128) (q : Fin 1024) :
    fst m c (⟨p.val, by omega⟩ : Fin 416) (⟨q.val, by omega⟩ : Fin 1024) = m ((c : Thread nD τ).loc main_arg10) (ix2 p q) := by
  show StableHlo.after _ _ (Proc.devRef .tc main_v21) (ix2 (⟨p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at

theorem fst_1 (p : Fin 128) (q : Fin 1024) :
    fst m c (⟨128 + p.val, by omega⟩ : Fin 416) (⟨q.val, by omega⟩ : Fin 1024) = m ((c : Thread nD τ).loc main_arg11) (ix2 p q) := by
  show StableHlo.after _ _ (Proc.devRef .tc main_v21) (ix2 (⟨128 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at

theorem fst_2 (p : Fin 128) (q : Fin 1024) :
    fst m c (⟨256 + p.val, by omega⟩ : Fin 416) (⟨q.val, by omega⟩ : Fin 1024) = m ((c : Thread nD τ).loc main_arg12) (ix2 p q) := by
  show StableHlo.after _ _ (Proc.devRef .tc main_v21) (ix2 (⟨256 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_pos (by omega)]
  show m (c, _) _ = m (c, _) _
  congr 1
  funext a; apply Fin.ext
  match a with
  | ⟨0, _⟩ => dsimp only [ix2, Matrix.cons_val]; omega
  | ⟨1, _⟩ => rfl

theorem fst_3 (p : Fin 31) (q : Fin 128) :
    fst m c (⟨384 + (128 * p.val + q.val) / 1024, by omega⟩ : Fin 416) (⟨(128 * p.val + q.val) % 1024, by omega⟩ : Fin 1024) = m ((c : Thread nD τ).loc main_arg13) (ix2 p q) := by
  show StableHlo.after _ _ (Proc.devRef .tc main_v21) (ix2 (⟨384 + (128 * p.val + q.val) / 1024, by omega⟩ : Fin 416) (⟨(128 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_neg (by omega), dif_pos (by omega)]
  after_reads_at
  rw [dif_pos (by omega)]
  show m (c, _) _ = m (c, _) _
  congr 1
  funext a; apply Fin.ext
  match a with
  | ⟨0, _⟩ => dsimp only [ix2, Matrix.cons_val]; show _ = p.val; omega
  | ⟨1, _⟩ => dsimp only [ix2, Matrix.cons_val]; show _ = q.val; omega

theorem fst_4 (p : Fin 4) (q : Fin 384) :
    fst m c (⟨400 + (384 * p.val + q.val) / 1024, by omega⟩ : Fin 416) (⟨(384 * p.val + q.val) % 1024, by omega⟩ : Fin 1024) = m ((c : Thread nD τ).loc main_arg14) (ix2 p q) := by
  show StableHlo.after _ _ (Proc.devRef .tc main_v21) (ix2 (⟨400 + (384 * p.val + q.val) / 1024, by omega⟩ : Fin 416) (⟨(384 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_neg (by omega), dif_neg (by omega)]
  after_reads_at
  rw [dif_pos (by omega)]
  show m (c, _) _ = m (c, _) _
  congr 1
  funext a; apply Fin.ext
  match a with
  | ⟨0, _⟩ => dsimp only [ix2, Matrix.cons_val]; show _ = p.val; omega
  | ⟨1, _⟩ => dsimp only [ix2, Matrix.cons_val]; show _ = q.val; omega

theorem snd_0 (p : Fin 128) (q : Fin 1024) :
    snd m c (⟨p.val, by omega⟩ : Fin 416) (⟨q.val, by omega⟩ : Fin 1024) = m ((c : Thread nD τ).loc main_arg15) (ix2 p q) := by
  show StableHlo.after _ _ (Proc.devRef .tc main_v28) (ix2 (⟨p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at

theorem snd_1 (p : Fin 128) (q : Fin 1024) :
    snd m c (⟨128 + p.val, by omega⟩ : Fin 416) (⟨q.val, by omega⟩ : Fin 1024) = m ((c : Thread nD τ).loc main_arg16) (ix2 p q) := by
  show StableHlo.after _ _ (Proc.devRef .tc main_v28) (ix2 (⟨128 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at

theorem snd_2 (p : Fin 128) (q : Fin 1024) :
    snd m c (⟨256 + p.val, by omega⟩ : Fin 416) (⟨q.val, by omega⟩ : Fin 1024) = m ((c : Thread nD τ).loc main_arg17) (ix2 p q) := by
  show StableHlo.after _ _ (Proc.devRef .tc main_v28) (ix2 (⟨256 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_pos (by omega)]
  show m (c, _) _ = m (c, _) _
  congr 1
  funext a; apply Fin.ext
  match a with
  | ⟨0, _⟩ => dsimp only [ix2, Matrix.cons_val]; omega
  | ⟨1, _⟩ => rfl

theorem snd_3 (p : Fin 31) (q : Fin 128) :
    snd m c (⟨384 + (128 * p.val + q.val) / 1024, by omega⟩ : Fin 416) (⟨(128 * p.val + q.val) % 1024, by omega⟩ : Fin 1024) = m ((c : Thread nD τ).loc main_arg18) (ix2 p q) := by
  show StableHlo.after _ _ (Proc.devRef .tc main_v28) (ix2 (⟨384 + (128 * p.val + q.val) / 1024, by omega⟩ : Fin 416) (⟨(128 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_neg (by omega), dif_pos (by omega)]
  after_reads_at
  rw [dif_pos (by omega)]
  show m (c, _) _ = m (c, _) _
  congr 1
  funext a; apply Fin.ext
  match a with
  | ⟨0, _⟩ => dsimp only [ix2, Matrix.cons_val]; show _ = p.val; omega
  | ⟨1, _⟩ => dsimp only [ix2, Matrix.cons_val]; show _ = q.val; omega

theorem snd_4 (p : Fin 4) (q : Fin 384) :
    snd m c (⟨400 + (384 * p.val + q.val) / 1024, by omega⟩ : Fin 416) (⟨(384 * p.val + q.val) % 1024, by omega⟩ : Fin 1024) = m ((c : Thread nD τ).loc main_arg19) (ix2 p q) := by
  show StableHlo.after _ _ (Proc.devRef .tc main_v28) (ix2 (⟨400 + (384 * p.val + q.val) / 1024, by omega⟩ : Fin 416) (⟨(384 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  rw [dif_neg (by omega), dif_neg (by omega), dif_neg (by omega), dif_neg (by omega)]
  after_reads_at
  rw [dif_pos (by omega)]
  show m (c, _) _ = m (c, _) _
  congr 1
  funext a; apply Fin.ext
  match a with
  | ⟨0, _⟩ => dsimp only [ix2, Matrix.cons_val]; show _ = p.val; omega
  | ⟨1, _⟩ => dsimp only [ix2, Matrix.cons_val]; show _ = q.val; omega

end Cert.AdamShardsIdeal.Arrays

end
-- ==== Proof.AdamShardsParts.lean ====
/-
  Where the packed gradients of the optimiser's call come from.
-/
module

public import proofs.«01_k».proof.Proof.AdamShardsArrays
public import Idealize.ShloMosaic.Lib.StableHlo.ReadAt

@[expose] public section

set_option maxRecDepth 16384

noncomputable section

open Idealize.ShloMosaic Idealize.ShloMosaic.TcCoe Idealize.SL.Sem

namespace Cert.AdamShardsIdeal.Arrays

open Cert.AdamShardsIdeal Cert.AdamShardsIdeal.Gen

variable (m : (ℓ : Loc nD τ sig) → Buf (Elt Ideal) ℓ) (c : Dev nD)

theorem part_0 (p : Fin 128) (q : Fin 1024) (s : Fin 8) :
    part m c (⟨p.val, by omega⟩ : Fin 416) (⟨q.val, by omega⟩ : Fin 1024) s = m ((c : Thread nD τ).loc main_arg0) (ix3 s p q) := by
  show StableHlo.after _ _ (Proc.devRef .tc main_v7) (ix3 s (⟨p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  after_reads_at

theorem part_1 (p : Fin 128) (q : Fin 1024) (s : Fin 8) :
    part m c (⟨128 + p.val, by omega⟩ : Fin 416) (⟨q.val, by omega⟩ : Fin 1024) s = m ((c : Thread nD τ).loc main_arg1) (ix3 s p q) := by
  show StableHlo.after _ _ (Proc.devRef .tc main_v7) (ix3 s (⟨128 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  after_reads_at

theorem part_2 (p : Fin 128) (q : Fin 1024) (s : Fin 8) :
    part m c (⟨256 + p.val, by omega⟩ : Fin 416) (⟨q.val, by omega⟩ : Fin 1024) s = m ((c : Thread nD τ).loc main_arg2) (ix3 s p q) := by
  show StableHlo.after _ _ (Proc.devRef .tc main_v7) (ix3 s (⟨256 + p.val, by omega⟩ : Fin 416) (⟨q.val, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  after_reads_at
  rw [dif_neg (by omega), dif_neg (by omega), dif_pos (by omega)]
  show m (c, _) _ = m (c, _) _
  congr 1
  funext a; apply Fin.ext
  match a with
  | ⟨0, _⟩ => rfl
  | ⟨1, _⟩ => dsimp only [ix3, Matrix.cons_val]; omega
  | ⟨2, _⟩ => rfl

theorem part_3 (p : Fin 31) (q : Fin 128) (s : Fin 8) :
    part m c (⟨384 + (128 * p.val + q.val) / 1024, by omega⟩ : Fin 416) (⟨(128 * p.val + q.val) % 1024, by omega⟩ : Fin 1024) s = m ((c : Thread nD τ).loc main_arg3) (ix3 s p q) := by
  show StableHlo.after _ _ (Proc.devRef .tc main_v7) (ix3 s (⟨384 + (128 * p.val + q.val) / 1024, by omega⟩ : Fin 416) (⟨(128 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  after_reads_at
  rw [dif_neg (by omega), dif_neg (by omega), dif_neg (by omega), dif_pos (by omega)]
  rw [dif_pos (by omega)]
  show m (c, _) _ = m (c, _) _
  congr 1
  funext a; apply Fin.ext
  match a with
  | ⟨0, _⟩ => rfl
  | ⟨1, _⟩ => dsimp only [ix3, Matrix.cons_val]; show _ = p.val; omega
  | ⟨2, _⟩ => dsimp only [ix3, Matrix.cons_val]; show _ = q.val; omega

theorem part_4 (p : Fin 4) (q : Fin 384) (s : Fin 8) :
    part m c (⟨400 + (384 * p.val + q.val) / 1024, by omega⟩ : Fin 416) (⟨(384 * p.val + q.val) % 1024, by omega⟩ : Fin 1024) s = m ((c : Thread nD τ).loc main_arg4) (ix3 s p q) := by
  show StableHlo.after _ _ (Proc.devRef .tc main_v7) (ix3 s (⟨400 + (384 * p.val + q.val) / 1024, by omega⟩ : Fin 416) (⟨(384 * p.val + q.val) % 1024, by omega⟩ : Fin 1024)) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  have hp := p.isLt
  have hq := q.isLt
  after_reads_at
  after_reads_at
  rw [dif_neg (by omega), dif_neg (by omega), dif_neg (by omega), dif_neg (by omega)]
  rw [dif_pos (by omega)]
  show m (c, _) _ = m (c, _) _
  congr 1
  funext a; apply Fin.ext
  match a with
  | ⟨0, _⟩ => rfl
  | ⟨1, _⟩ => dsimp only [ix3, Matrix.cons_val]; show _ = p.val; omega
  | ⟨2, _⟩ => dsimp only [ix3, Matrix.cons_val]; show _ = q.val; omega

end Cert.AdamShardsIdeal.Arrays

end
-- ==== Proof.AdamShardsTail.lean ====
/-
  What the lines after the optimiser's call read: each result is a block of rows of one of the call's four arrays.
-/
module

public import proofs.«01_k».proof.Proof.AdamShardsArrays
public import Idealize.ShloMosaic.Lib.StableHlo.ReadAt

@[expose] public section

set_option maxRecDepth 16384

noncomputable section

open Idealize.ShloMosaic Idealize.ShloMosaic.TcCoe Idealize.SL.Sem

namespace Cert.AdamShardsIdeal.Arrays

open Cert.AdamShardsIdeal Cert.AdamShardsIdeal.Gen

theorem tail_main_v38 (W : Valuation τ sig (Elt Ideal)) (p : Fin 128) (q : Fin 1024) :
    StableHlo.after (List.flatten [hostOps1]) W (Proc.devRef .tc main_v38) (ix2 p q)
      = W (Proc.devRef .tc main_v29_0) (ix2 (⟨p.val, by omega⟩ : Fin 416) (⟨q.val, by omega⟩ : Fin 1024)) := by
  simp only [hostOps1, List.flatten_cons, List.flatten_nil, List.append_nil]
  after_reads_at

theorem tail_main_v39 (W : Valuation τ sig (Elt Ideal)) (p : Fin 128) (q : Fin 1024) :
    StableHlo.after (List.flatten [hostOps1]) W (Proc.devRef .tc main_v39) (ix2 p q)
      = W (Proc.devRef .tc main_v29_0) (ix2 (⟨128 + p.val, by omega⟩ : Fin 416) (⟨q.val, by omega⟩ : Fin 1024)) := by
  simp only [hostOps1, List.flatten_cons, List.flatten_nil, List.append_nil]
  after_reads_at

theorem tail_main_v40 (W : Valuation τ sig (Elt Ideal)) (p : Fin 128) (q : Fin 1024) :
    StableHlo.after (List.flatten [hostOps1]) W (Proc.devRef .tc main_v40) (ix2 p q)
      = W (Proc.devRef .tc main_v29_0) (ix2 (⟨256 + p.val, by omega⟩ : Fin 416) (⟨q.val, by omega⟩ : Fin 1024)) := by
  simp only [hostOps1, List.flatten_cons, List.flatten_nil, List.append_nil]
  after_reads_at

theorem tail_main_v33 (W : Valuation τ sig (Elt Ideal)) (p : Fin 31) (q : Fin 128) :
    StableHlo.after (List.flatten [hostOps1]) W (Proc.devRef .tc main_v33) (ix2 p q)
      = W (Proc.devRef .tc main_v29_0) (ix2 (⟨384 + (128 * p.val + q.val) / 1024, by omega⟩ : Fin 416) (⟨(128 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

theorem tail_main_v37 (W : Valuation τ sig (Elt Ideal)) (p : Fin 4) (q : Fin 384) :
    StableHlo.after (List.flatten [hostOps1]) W (Proc.devRef .tc main_v37) (ix2 p q)
      = W (Proc.devRef .tc main_v29_0) (ix2 (⟨400 + (384 * p.val + q.val) / 1024, by omega⟩ : Fin 416) (⟨(384 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

theorem tail_main_v49 (W : Valuation τ sig (Elt Ideal)) (p : Fin 128) (q : Fin 1024) :
    StableHlo.after (List.flatten [hostOps1]) W (Proc.devRef .tc main_v49) (ix2 p q)
      = W (Proc.devRef .tc main_v29_1) (ix2 (⟨p.val, by omega⟩ : Fin 416) (⟨q.val, by omega⟩ : Fin 1024)) := by
  simp only [hostOps1, List.flatten_cons, List.flatten_nil, List.append_nil]
  after_reads_at

theorem tail_main_v50 (W : Valuation τ sig (Elt Ideal)) (p : Fin 128) (q : Fin 1024) :
    StableHlo.after (List.flatten [hostOps1]) W (Proc.devRef .tc main_v50) (ix2 p q)
      = W (Proc.devRef .tc main_v29_1) (ix2 (⟨128 + p.val, by omega⟩ : Fin 416) (⟨q.val, by omega⟩ : Fin 1024)) := by
  simp only [hostOps1, List.flatten_cons, List.flatten_nil, List.append_nil]
  after_reads_at

theorem tail_main_v51 (W : Valuation τ sig (Elt Ideal)) (p : Fin 128) (q : Fin 1024) :
    StableHlo.after (List.flatten [hostOps1]) W (Proc.devRef .tc main_v51) (ix2 p q)
      = W (Proc.devRef .tc main_v29_1) (ix2 (⟨256 + p.val, by omega⟩ : Fin 416) (⟨q.val, by omega⟩ : Fin 1024)) := by
  simp only [hostOps1, List.flatten_cons, List.flatten_nil, List.append_nil]
  after_reads_at

theorem tail_main_v44 (W : Valuation τ sig (Elt Ideal)) (p : Fin 31) (q : Fin 128) :
    StableHlo.after (List.flatten [hostOps1]) W (Proc.devRef .tc main_v44) (ix2 p q)
      = W (Proc.devRef .tc main_v29_1) (ix2 (⟨384 + (128 * p.val + q.val) / 1024, by omega⟩ : Fin 416) (⟨(128 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

theorem tail_main_v48 (W : Valuation τ sig (Elt Ideal)) (p : Fin 4) (q : Fin 384) :
    StableHlo.after (List.flatten [hostOps1]) W (Proc.devRef .tc main_v48) (ix2 p q)
      = W (Proc.devRef .tc main_v29_1) (ix2 (⟨400 + (384 * p.val + q.val) / 1024, by omega⟩ : Fin 416) (⟨(384 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

theorem tail_main_v60 (W : Valuation τ sig (Elt Ideal)) (p : Fin 128) (q : Fin 1024) :
    StableHlo.after (List.flatten [hostOps1]) W (Proc.devRef .tc main_v60) (ix2 p q)
      = W (Proc.devRef .tc main_v29_2) (ix2 (⟨p.val, by omega⟩ : Fin 416) (⟨q.val, by omega⟩ : Fin 1024)) := by
  simp only [hostOps1, List.flatten_cons, List.flatten_nil, List.append_nil]
  after_reads_at

theorem tail_main_v61 (W : Valuation τ sig (Elt Ideal)) (p : Fin 128) (q : Fin 1024) :
    StableHlo.after (List.flatten [hostOps1]) W (Proc.devRef .tc main_v61) (ix2 p q)
      = W (Proc.devRef .tc main_v29_2) (ix2 (⟨128 + p.val, by omega⟩ : Fin 416) (⟨q.val, by omega⟩ : Fin 1024)) := by
  simp only [hostOps1, List.flatten_cons, List.flatten_nil, List.append_nil]
  after_reads_at

theorem tail_main_v62 (W : Valuation τ sig (Elt Ideal)) (p : Fin 128) (q : Fin 1024) :
    StableHlo.after (List.flatten [hostOps1]) W (Proc.devRef .tc main_v62) (ix2 p q)
      = W (Proc.devRef .tc main_v29_2) (ix2 (⟨256 + p.val, by omega⟩ : Fin 416) (⟨q.val, by omega⟩ : Fin 1024)) := by
  simp only [hostOps1, List.flatten_cons, List.flatten_nil, List.append_nil]
  after_reads_at

theorem tail_main_v55 (W : Valuation τ sig (Elt Ideal)) (p : Fin 31) (q : Fin 128) :
    StableHlo.after (List.flatten [hostOps1]) W (Proc.devRef .tc main_v55) (ix2 p q)
      = W (Proc.devRef .tc main_v29_2) (ix2 (⟨384 + (128 * p.val + q.val) / 1024, by omega⟩ : Fin 416) (⟨(128 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

theorem tail_main_v59 (W : Valuation τ sig (Elt Ideal)) (p : Fin 4) (q : Fin 384) :
    StableHlo.after (List.flatten [hostOps1]) W (Proc.devRef .tc main_v59) (ix2 p q)
      = W (Proc.devRef .tc main_v29_2) (ix2 (⟨400 + (384 * p.val + q.val) / 1024, by omega⟩ : Fin 416) (⟨(384 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

theorem tail_main_v71 (W : Valuation τ sig (Elt Ideal)) (p : Fin 128) (q : Fin 1024) :
    StableHlo.after (List.flatten [hostOps1]) W (Proc.devRef .tc main_v71) (ix2 p q)
      = W (Proc.devRef .tc main_v29_3) (ix2 (⟨p.val, by omega⟩ : Fin 416) (⟨q.val, by omega⟩ : Fin 1024)) := by
  simp only [hostOps1, List.flatten_cons, List.flatten_nil, List.append_nil]
  after_reads_at

theorem tail_main_v72 (W : Valuation τ sig (Elt Ideal)) (p : Fin 128) (q : Fin 1024) :
    StableHlo.after (List.flatten [hostOps1]) W (Proc.devRef .tc main_v72) (ix2 p q)
      = W (Proc.devRef .tc main_v29_3) (ix2 (⟨128 + p.val, by omega⟩ : Fin 416) (⟨q.val, by omega⟩ : Fin 1024)) := by
  simp only [hostOps1, List.flatten_cons, List.flatten_nil, List.append_nil]
  after_reads_at

theorem tail_main_v73 (W : Valuation τ sig (Elt Ideal)) (p : Fin 128) (q : Fin 1024) :
    StableHlo.after (List.flatten [hostOps1]) W (Proc.devRef .tc main_v73) (ix2 p q)
      = W (Proc.devRef .tc main_v29_3) (ix2 (⟨256 + p.val, by omega⟩ : Fin 416) (⟨q.val, by omega⟩ : Fin 1024)) := by
  simp only [hostOps1, List.flatten_cons, List.flatten_nil, List.append_nil]
  after_reads_at

theorem tail_main_v66 (W : Valuation τ sig (Elt Ideal)) (p : Fin 31) (q : Fin 128) :
    StableHlo.after (List.flatten [hostOps1]) W (Proc.devRef .tc main_v66) (ix2 p q)
      = W (Proc.devRef .tc main_v29_3) (ix2 (⟨384 + (128 * p.val + q.val) / 1024, by omega⟩ : Fin 416) (⟨(128 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

theorem tail_main_v70 (W : Valuation τ sig (Elt Ideal)) (p : Fin 4) (q : Fin 384) :
    StableHlo.after (List.flatten [hostOps1]) W (Proc.devRef .tc main_v70) (ix2 p q)
      = W (Proc.devRef .tc main_v29_3) (ix2 (⟨400 + (384 * p.val + q.val) / 1024, by omega⟩ : Fin 416) (⟨(384 * p.val + q.val) % 1024, by omega⟩ : Fin 1024)) := by
  simp only [hostOps1, List.flatten_cons, List.flatten_nil, List.append_nil]
  after_reads_at
  show W _ _ = W _ _
  congr 1
  funext a; apply Fin.ext
  match a with
  | ⟨0, _⟩ => dsimp only [ix2, Matrix.cons_val]; omega
  | ⟨1, _⟩ => dsimp only [ix2, Matrix.cons_val]; omega

end Cert.AdamShardsIdeal.Arrays

end
-- ==== Proof.AdamShardsValue.lean ====
/-
  The arrays the optimiser's call on the sharded weights returns, in terms of the arrays it is given.
-/
module

public import proofs.«01_k».proof.Proof.AdamWant
public import proofs.«01_k».proof.Proof.AdamShardsEntry
public import proofs.«01_k».proof.Proof.AdamShardsParts
public import proofs.«01_k».proof.Proof.AdamShardsTail
public import Idealize.ShloMosaic.Lib.Claim

@[expose] public section

set_option maxRecDepth 16384

noncomputable section

open Idealize.ShloMosaic Idealize.ShloMosaic.TcCoe Idealize.SL.Sem

namespace Cert.AdamShardsIdeal.Arrays

open Cert.AdamShardsIdeal Cert.AdamShardsIdeal.Gen

theorem arr_inj : Function.Injective (Pipeline.arrRef spec0) := by decide

variable (m : (ℓ : Loc nD τ sig) → Buf (Elt Ideal) ℓ) (c : Dev nD)

theorem res_main_v38 : Pipeline.afterTail₀ cfgs (dats m) 0 (V0 m) [hostOps1] c main_v38
    = Adam.gradOf (m ((c : Thread nD τ).loc main_arg0)) := by
  have e : Pipeline.withArrays spec0 c (V0 m c) (fun w => (dats m 0 c).arrAt w cfg0.N) (Proc.devRef .tc main_v29_0) = arr4 m c :=
    (Pipeline.withArrays_arr spec0 arr_inj c (V0 m c) _ 4).trans (final4 m c)
  refine Adam.eq2 (n := 128) (k := 1024) fun p q => (tail_main_v38 _ p q).trans ((congrFun e _).trans ?_)
  show (Adam.grad (fun s => part m c (⟨p.val, by omega⟩ : Fin 416) (⟨q.val, by omega⟩ : Fin 1024) s) : EReal) = _
  rw [funext fun s => part_0 m c p q s]
  rfl

theorem res_main_v39 : Pipeline.afterTail₀ cfgs (dats m) 0 (V0 m) [hostOps1] c main_v39
    = Adam.gradOf (m ((c : Thread nD τ).loc main_arg1)) := by
  have e : Pipeline.withArrays spec0 c (V0 m c) (fun w => (dats m 0 c).arrAt w cfg0.N) (Proc.devRef .tc main_v29_0) = arr4 m c :=
    (Pipeline.withArrays_arr spec0 arr_inj c (V0 m c) _ 4).trans (final4 m c)
  refine Adam.eq2 (n := 128) (k := 1024) fun p q => (tail_main_v39 _ p q).trans ((congrFun e _).trans ?_)
  show (Adam.grad (fun s => part m c (⟨128 + p.val, by omega⟩ : Fin 416) (⟨q.val, by omega⟩ : Fin 1024) s) : EReal) = _
  rw [funext fun s => part_1 m c p q s]
  rfl

theorem res_main_v40 : Pipeline.afterTail₀ cfgs (dats m) 0 (V0 m) [hostOps1] c main_v40
    = Adam.gradOf (m ((c : Thread nD τ).loc main_arg2)) := by
  have e : Pipeline.withArrays spec0 c (V0 m c) (fun w => (dats m 0 c).arrAt w cfg0.N) (Proc.devRef .tc main_v29_0) = arr4 m c :=
    (Pipeline.withArrays_arr spec0 arr_inj c (V0 m c) _ 4).trans (final4 m c)
  refine Adam.eq2 (n := 128) (k := 1024) fun p q => (tail_main_v40 _ p q).trans ((congrFun e _).trans ?_)
  show (Adam.grad (fun s => part m c (⟨256 + p.val, by omega⟩ : Fin 416) (⟨q.val, by omega⟩ : Fin 1024) s) : EReal) = _
  rw [funext fun s => part_2 m c p q s]
  rfl

theorem res_main_v33 : Pipeline.afterTail₀ cfgs (dats m) 0 (V0 m) [hostOps1] c main_v33
    = Adam.gradOf (m ((c : Thread nD τ).loc main_arg3)) := by
  have e : Pipeline.withArrays spec0 c (V0 m c) (fun w => (dats m 0 c).arrAt w cfg0.N) (Proc.devRef .tc main_v29_0) = arr4 m c :=
    (Pipeline.withArrays_arr spec0 arr_inj c (V0 m c) _ 4).trans (final4 m c)
  refine Adam.eq2 (n := 31) (k := 128) fun p q => (tail_main_v33 _ p q).trans ((congrFun e _).trans ?_)
  show (Adam.grad (fun s => part m c (⟨384 + (128 * p.val + q.val) / 1024, by omega⟩ : Fin 416) (⟨(128 * p.val + q.val) % 1024, by omega⟩ : Fin 1024) s) : EReal) = _
  rw [funext fun s => part_3 m c p q s]
  rfl

theorem res_main_v37 : Pipeline.afterTail₀ cfgs (dats m) 0 (V0 m) [hostOps1] c main_v37
    = Adam.gradOf (m ((c : Thread nD τ).loc main_arg4)) := by
  have e : Pipeline.withArrays spec0 c (V0 m c) (fun w => (dats m 0 c).arrAt w cfg0.N) (Proc.devRef .tc main_v29_0) = arr4 m c :=
    (Pipeline.withArrays_arr spec0 arr_inj c (V0 m c) _ 4).trans (final4 m c)
  refine Adam.eq2 (n := 4) (k := 384) fun p q => (tail_main_v37 _ p q).trans ((congrFun e _).trans ?_)
  show (Adam.grad (fun s => part m c (⟨400 + (384 * p.val + q.val) / 1024, by omega⟩ : Fin 416) (⟨(384 * p.val + q.val) % 1024, by omega⟩ : Fin 1024) s) : EReal) = _
  rw [funext fun s => part_4 m c p q s]
  rfl

theorem res_main_v49 : Pipeline.afterTail₀ cfgs (dats m) 0 (V0 m) [hostOps1] c main_v49
    = Adam.deltaOf (m ((c : Thread nD τ).loc main_arg0)) (m ((c : Thread nD τ).loc main_arg5)) (m ((c : Thread nD τ).loc main_arg10)) (m ((c : Thread nD τ).loc main_arg15)) := by
  have e : Pipeline.withArrays spec0 c (V0 m c) (fun w => (dats m 0 c).arrAt w cfg0.N) (Proc.devRef .tc main_v29_1) = arr5 m c :=
    (Pipeline.withArrays_arr spec0 arr_inj c (V0 m c) _ 5).trans (final5 m c)
  refine Adam.eq2 (n := 128) (k := 1024) fun p q => (tail_main_v49 _ p q).trans ((congrFun e _).trans ?_)
  show (Adam.delta (wgt m c (⟨p.val, by omega⟩ : Fin 416) (⟨q.val, by omega⟩ : Fin 1024)) (fst m c (⟨p.val, by omega⟩ : Fin 416) (⟨q.val, by omega⟩ : Fin 1024)) (snd m c (⟨p.val, by omega⟩ : Fin 416) (⟨q.val, by omega⟩ : Fin 1024)) (Adam.grad (fun s => part m c (⟨p.val, by omega⟩ : Fin 416) (⟨q.val, by omega⟩ : Fin 1024) s)) : EReal) = _
  rw [funext fun s => part_0 m c p q s, wgt_0 m c p q, fst_0 m c p q, snd_0 m c p q]
  rfl

theorem res_main_v50 : Pipeline.afterTail₀ cfgs (dats m) 0 (V0 m) [hostOps1] c main_v50
    = Adam.deltaOf (m ((c : Thread nD τ).loc main_arg1)) (m ((c : Thread nD τ).loc main_arg6)) (m ((c : Thread nD τ).loc main_arg11)) (m ((c : Thread nD τ).loc main_arg16)) := by
  have e : Pipeline.withArrays spec0 c (V0 m c) (fun w => (dats m 0 c).arrAt w cfg0.N) (Proc.devRef .tc main_v29_1) = arr5 m c :=
    (Pipeline.withArrays_arr spec0 arr_inj c (V0 m c) _ 5).trans (final5 m c)
  refine Adam.eq2 (n := 128) (k := 1024) fun p q => (tail_main_v50 _ p q).trans ((congrFun e _).trans ?_)
  show (Adam.delta (wgt m c (⟨128 + p.val, by omega⟩ : Fin 416) (⟨q.val, by omega⟩ : Fin 1024)) (fst m c (⟨128 + p.val, by omega⟩ : Fin 416) (⟨q.val, by omega⟩ : Fin 1024)) (snd m c (⟨128 + p.val, by omega⟩ : Fin 416) (⟨q.val, by omega⟩ : Fin 1024)) (Adam.grad (fun s => part m c (⟨128 + p.val, by omega⟩ : Fin 416) (⟨q.val, by omega⟩ : Fin 1024) s)) : EReal) = _
  rw [funext fun s => part_1 m c p q s, wgt_1 m c p q, fst_1 m c p q, snd_1 m c p q]
  rfl

theorem res_main_v51 : Pipeline.afterTail₀ cfgs (dats m) 0 (V0 m) [hostOps1] c main_v51
    = Adam.deltaOf (m ((c : Thread nD τ).loc main_arg2)) (m ((c : Thread nD τ).loc main_arg7)) (m ((c : Thread nD τ).loc main_arg12)) (m ((c : Thread nD τ).loc main_arg17)) := by
  have e : Pipeline.withArrays spec0 c (V0 m c) (fun w => (dats m 0 c).arrAt w cfg0.N) (Proc.devRef .tc main_v29_1) = arr5 m c :=
    (Pipeline.withArrays_arr spec0 arr_inj c (V0 m c) _ 5).trans (final5 m c)
  refine Adam.eq2 (n := 128) (k := 1024) fun p q => (tail_main_v51 _ p q).trans ((congrFun e _).trans ?_)
  show (Adam.delta (wgt m c (⟨256 + p.val, by omega⟩ : Fin 416) (⟨q.val, by omega⟩ : Fin 1024)) (fst m c (⟨256 + p.val, by omega⟩ : Fin 416) (⟨q.val, by omega⟩ : Fin 1024)) (snd m c (⟨256 + p.val, by omega⟩ : Fin 416) (⟨q.val, by omega⟩ : Fin 1024)) (Adam.grad (fun s => part m c (⟨256 + p.val, by omega⟩ : Fin 416) (⟨q.val, by omega⟩ : Fin 1024) s)) : EReal) = _
  rw [funext fun s => part_2 m c p q s, wgt_2 m c p q, fst_2 m c p q, snd_2 m c p q]
  rfl

theorem res_main_v44 : Pipeline.afterTail₀ cfgs (dats m) 0 (V0 m) [hostOps1] c main_v44
    = Adam.deltaOf (m ((c : Thread nD τ).loc main_arg3)) (m ((c : Thread nD τ).loc main_arg8)) (m ((c : Thread nD τ).loc main_arg13)) (m ((c : Thread nD τ).loc main_arg18)) := by
  have e : Pipeline.withArrays spec0 c (V0 m c) (fun w => (dats m 0 c).arrAt w cfg0.N) (Proc.devRef .tc main_v29_1) = arr5 m c :=
    (Pipeline.withArrays_arr spec0 arr_inj c (V0 m c) _ 5).trans (final5 m c)
  refine Adam.eq2 (n := 31) (k := 128) fun p q => (tail_main_v44 _ p q).trans ((congrFun e _).trans ?_)
  show (Adam.delta (wgt m c (⟨384 + (128 * p.val + q.val) / 1024, by omega⟩ : Fin 416) (⟨(128 * p.val + q.val) % 1024, by omega⟩ : Fin 1024)) (fst m c (⟨384 + (128 * p.val + q.val) / 1024, by omega⟩ : Fin 416) (⟨(128 * p.val + q.val) % 1024, by omega⟩ : Fin 1024)) (snd m c (⟨384 + (128 * p.val + q.val) / 1024, by omega⟩ : Fin 416) (⟨(128 * p.val + q.val) % 1024, by omega⟩ : Fin 1024)) (Adam.grad (fun s => part m c (⟨384 + (128 * p.val + q.val) / 1024, by omega⟩ : Fin 416) (⟨(128 * p.val + q.val) % 1024, by omega⟩ : Fin 1024) s)) : EReal) = _
  rw [funext fun s => part_3 m c p q s, wgt_3 m c p q, fst_3 m c p q, snd_3 m c p q]
  rfl

theorem res_main_v48 : Pipeline.afterTail₀ cfgs (dats m) 0 (V0 m) [hostOps1] c main_v48
    = Adam.deltaOf (m ((c : Thread nD τ).loc main_arg4)) (m ((c : Thread nD τ).loc main_arg9)) (m ((c : Thread nD τ).loc main_arg14)) (m ((c : Thread nD τ).loc main_arg19)) := by
  have e : Pipeline.withArrays spec0 c (V0 m c) (fun w => (dats m 0 c).arrAt w cfg0.N) (Proc.devRef .tc main_v29_1) = arr5 m c :=
    (Pipeline.withArrays_arr spec0 arr_inj c (V0 m c) _ 5).trans (final5 m c)
  refine Adam.eq2 (n := 4) (k := 384) fun p q => (tail_main_v48 _ p q).trans ((congrFun e _).trans ?_)
  show (Adam.delta (wgt m c (⟨400 + (384 * p.val + q.val) / 1024, by omega⟩ : Fin 416) (⟨(384 * p.val + q.val) % 1024, by omega⟩ : Fin 1024)) (fst m c (⟨400 + (384 * p.val + q.val) / 1024, by omega⟩ : Fin 416) (⟨(384 * p.val + q.val) % 1024, by omega⟩ : Fin 1024)) (snd m c (⟨400 + (384 * p.val + q.val) / 1024, by omega⟩ : Fin 416) (⟨(384 * p.val + q.val) % 1024, by omega⟩ : Fin 1024)) (Adam.grad (fun s => part m c (⟨400 + (384 * p.val + q.val) / 1024, by omega⟩ : Fin 416) (⟨(384 * p.val + q.val) % 1024, by omega⟩ : Fin 1024) s)) : EReal) = _
  rw [funext fun s => part_4 m c p q s, wgt_4 m c p q, fst_4 m c p q, snd_4 m c p q]
  rfl

theorem res_main_v60 : Pipeline.afterTail₀ cfgs (dats m) 0 (V0 m) [hostOps1] c main_v60
    = Adam.momOf (m ((c : Thread nD τ).loc main_arg0)) (m ((c : Thread nD τ).loc main_arg10)) := by
  have e : Pipeline.withArrays spec0 c (V0 m c) (fun w => (dats m 0 c).arrAt w cfg0.N) (Proc.devRef .tc main_v29_2) = arr6 m c :=
    (Pipeline.withArrays_arr spec0 arr_inj c (V0 m c) _ 6).trans (final6 m c)
  refine Adam.eq2 (n := 128) (k := 1024) fun p q => (tail_main_v60 _ p q).trans ((congrFun e _).trans ?_)
  show (Adam.mom (fst m c (⟨p.val, by omega⟩ : Fin 416) (⟨q.val, by omega⟩ : Fin 1024)) (Adam.grad (fun s => part m c (⟨p.val, by omega⟩ : Fin 416) (⟨q.val, by omega⟩ : Fin 1024) s)) : EReal) = _
  rw [funext fun s => part_0 m c p q s, fst_0 m c p q]
  rfl

theorem res_main_v61 : Pipeline.afterTail₀ cfgs (dats m) 0 (V0 m) [hostOps1] c main_v61
    = Adam.momOf (m ((c : Thread nD τ).loc main_arg1)) (m ((c : Thread nD τ).loc main_arg11)) := by
  have e : Pipeline.withArrays spec0 c (V0 m c) (fun w => (dats m 0 c).arrAt w cfg0.N) (Proc.devRef .tc main_v29_2) = arr6 m c :=
    (Pipeline.withArrays_arr spec0 arr_inj c (V0 m c) _ 6).trans (final6 m c)
  refine Adam.eq2 (n := 128) (k := 1024) fun p q => (tail_main_v61 _ p q).trans ((congrFun e _).trans ?_)
  show (Adam.mom (fst m c (⟨128 + p.val, by omega⟩ : Fin 416) (⟨q.val, by omega⟩ : Fin 1024)) (Adam.grad (fun s => part m c (⟨128 + p.val, by omega⟩ : Fin 416) (⟨q.val, by omega⟩ : Fin 1024) s)) : EReal) = _
  rw [funext fun s => part_1 m c p q s, fst_1 m c p q]
  rfl

theorem res_main_v62 : Pipeline.afterTail₀ cfgs (dats m) 0 (V0 m) [hostOps1] c main_v62
    = Adam.momOf (m ((c : Thread nD τ).loc main_arg2)) (m ((c : Thread nD τ).loc main_arg12)) := by
  have e : Pipeline.withArrays spec0 c (V0 m c) (fun w => (dats m 0 c).arrAt w cfg0.N) (Proc.devRef .tc main_v29_2) = arr6 m c :=
    (Pipeline.withArrays_arr spec0 arr_inj c (V0 m c) _ 6).trans (final6 m c)
  refine Adam.eq2 (n := 128) (k := 1024) fun p q => (tail_main_v62 _ p q).trans ((congrFun e _).trans ?_)
  show (Adam.mom (fst m c (⟨256 + p.val, by omega⟩ : Fin 416) (⟨q.val, by omega⟩ : Fin 1024)) (Adam.grad (fun s => part m c (⟨256 + p.val, by omega⟩ : Fin 416) (⟨q.val, by omega⟩ : Fin 1024) s)) : EReal) = _
  rw [funext fun s => part_2 m c p q s, fst_2 m c p q]
  rfl

theorem res_main_v55 : Pipeline.afterTail₀ cfgs (dats m) 0 (V0 m) [hostOps1] c main_v55
    = Adam.momOf (m ((c : Thread nD τ).loc main_arg3)) (m ((c : Thread nD τ).loc main_arg13)) := by
  have e : Pipeline.withArrays spec0 c (V0 m c) (fun w => (dats m 0 c).arrAt w cfg0.N) (Proc.devRef .tc main_v29_2) = arr6 m c :=
    (Pipeline.withArrays_arr spec0 arr_inj c (V0 m c) _ 6).trans (final6 m c)
  refine Adam.eq2 (n := 31) (k := 128) fun p q => (tail_main_v55 _ p q).trans ((congrFun e _).trans ?_)
  show (Adam.mom (fst m c (⟨384 + (128 * p.val + q.val) / 1024, by omega⟩ : Fin 416) (⟨(128 * p.val + q.val) % 1024, by omega⟩ : Fin 1024)) (Adam.grad (fun s => part m c (⟨384 + (128 * p.val + q.val) / 1024, by omega⟩ : Fin 416) (⟨(128 * p.val + q.val) % 1024, by omega⟩ : Fin 1024) s)) : EReal) = _
  rw [funext fun s => part_3 m c p q s, fst_3 m c p q]
  rfl

theorem res_main_v59 : Pipeline.afterTail₀ cfgs (dats m) 0 (V0 m) [hostOps1] c main_v59
    = Adam.momOf (m ((c : Thread nD τ).loc main_arg4)) (m ((c : Thread nD τ).loc main_arg14)) := by
  have e : Pipeline.withArrays spec0 c (V0 m c) (fun w => (dats m 0 c).arrAt w cfg0.N) (Proc.devRef .tc main_v29_2) = arr6 m c :=
    (Pipeline.withArrays_arr spec0 arr_inj c (V0 m c) _ 6).trans (final6 m c)
  refine Adam.eq2 (n := 4) (k := 384) fun p q => (tail_main_v59 _ p q).trans ((congrFun e _).trans ?_)
  show (Adam.mom (fst m c (⟨400 + (384 * p.val + q.val) / 1024, by omega⟩ : Fin 416) (⟨(384 * p.val + q.val) % 1024, by omega⟩ : Fin 1024)) (Adam.grad (fun s => part m c (⟨400 + (384 * p.val + q.val) / 1024, by omega⟩ : Fin 416) (⟨(384 * p.val + q.val) % 1024, by omega⟩ : Fin 1024) s)) : EReal) = _
  rw [funext fun s => part_4 m c p q s, fst_4 m c p q]
  rfl

theorem res_main_v71 : Pipeline.afterTail₀ cfgs (dats m) 0 (V0 m) [hostOps1] c main_v71
    = Adam.secOf (m ((c : Thread nD τ).loc main_arg0)) (m ((c : Thread nD τ).loc main_arg15)) := by
  have e : Pipeline.withArrays spec0 c (V0 m c) (fun w => (dats m 0 c).arrAt w cfg0.N) (Proc.devRef .tc main_v29_3) = arr7 m c :=
    (Pipeline.withArrays_arr spec0 arr_inj c (V0 m c) _ 7).trans (final7 m c)
  refine Adam.eq2 (n := 128) (k := 1024) fun p q => (tail_main_v71 _ p q).trans ((congrFun e _).trans ?_)
  show (Adam.sec (snd m c (⟨p.val, by omega⟩ : Fin 416) (⟨q.val, by omega⟩ : Fin 1024)) (Adam.grad (fun s => part m c (⟨p.val, by omega⟩ : Fin 416) (⟨q.val, by omega⟩ : Fin 1024) s)) : EReal) = _
  rw [funext fun s => part_0 m c p q s, snd_0 m c p q]
  rfl

theorem res_main_v72 : Pipeline.afterTail₀ cfgs (dats m) 0 (V0 m) [hostOps1] c main_v72
    = Adam.secOf (m ((c : Thread nD τ).loc main_arg1)) (m ((c : Thread nD τ).loc main_arg16)) := by
  have e : Pipeline.withArrays spec0 c (V0 m c) (fun w => (dats m 0 c).arrAt w cfg0.N) (Proc.devRef .tc main_v29_3) = arr7 m c :=
    (Pipeline.withArrays_arr spec0 arr_inj c (V0 m c) _ 7).trans (final7 m c)
  refine Adam.eq2 (n := 128) (k := 1024) fun p q => (tail_main_v72 _ p q).trans ((congrFun e _).trans ?_)
  show (Adam.sec (snd m c (⟨128 + p.val, by omega⟩ : Fin 416) (⟨q.val, by omega⟩ : Fin 1024)) (Adam.grad (fun s => part m c (⟨128 + p.val, by omega⟩ : Fin 416) (⟨q.val, by omega⟩ : Fin 1024) s)) : EReal) = _
  rw [funext fun s => part_1 m c p q s, snd_1 m c p q]
  rfl

theorem res_main_v73 : Pipeline.afterTail₀ cfgs (dats m) 0 (V0 m) [hostOps1] c main_v73
    = Adam.secOf (m ((c : Thread nD τ).loc main_arg2)) (m ((c : Thread nD τ).loc main_arg17)) := by
  have e : Pipeline.withArrays spec0 c (V0 m c) (fun w => (dats m 0 c).arrAt w cfg0.N) (Proc.devRef .tc main_v29_3) = arr7 m c :=
    (Pipeline.withArrays_arr spec0 arr_inj c (V0 m c) _ 7).trans (final7 m c)
  refine Adam.eq2 (n := 128) (k := 1024) fun p q => (tail_main_v73 _ p q).trans ((congrFun e _).trans ?_)
  show (Adam.sec (snd m c (⟨256 + p.val, by omega⟩ : Fin 416) (⟨q.val, by omega⟩ : Fin 1024)) (Adam.grad (fun s => part m c (⟨256 + p.val, by omega⟩ : Fin 416) (⟨q.val, by omega⟩ : Fin 1024) s)) : EReal) = _
  rw [funext fun s => part_2 m c p q s, snd_2 m c p q]
  rfl

theorem res_main_v66 : Pipeline.afterTail₀ cfgs (dats m) 0 (V0 m) [hostOps1] c main_v66
    = Adam.secOf (m ((c : Thread nD τ).loc main_arg3)) (m ((c : Thread nD τ).loc main_arg18)) := by
  have e : Pipeline.withArrays spec0 c (V0 m c) (fun w => (dats m 0 c).arrAt w cfg0.N) (Proc.devRef .tc main_v29_3) = arr7 m c :=
    (Pipeline.withArrays_arr spec0 arr_inj c (V0 m c) _ 7).trans (final7 m c)
  refine Adam.eq2 (n := 31) (k := 128) fun p q => (tail_main_v66 _ p q).trans ((congrFun e _).trans ?_)
  show (Adam.sec (snd m c (⟨384 + (128 * p.val + q.val) / 1024, by omega⟩ : Fin 416) (⟨(128 * p.val + q.val) % 1024, by omega⟩ : Fin 1024)) (Adam.grad (fun s => part m c (⟨384 + (128 * p.val + q.val) / 1024, by omega⟩ : Fin 416) (⟨(128 * p.val + q.val) % 1024, by omega⟩ : Fin 1024) s)) : EReal) = _
  rw [funext fun s => part_3 m c p q s, snd_3 m c p q]
  rfl

theorem res_main_v70 : Pipeline.afterTail₀ cfgs (dats m) 0 (V0 m) [hostOps1] c main_v70
    = Adam.secOf (m ((c : Thread nD τ).loc main_arg4)) (m ((c : Thread nD τ).loc main_arg19)) := by
  have e : Pipeline.withArrays spec0 c (V0 m c) (fun w => (dats m 0 c).arrAt w cfg0.N) (Proc.devRef .tc main_v29_3) = arr7 m c :=
    (Pipeline.withArrays_arr spec0 arr_inj c (V0 m c) _ 7).trans (final7 m c)
  refine Adam.eq2 (n := 4) (k := 384) fun p q => (tail_main_v70 _ p q).trans ((congrFun e _).trans ?_)
  show (Adam.sec (snd m c (⟨400 + (384 * p.val + q.val) / 1024, by omega⟩ : Fin 416) (⟨(384 * p.val + q.val) % 1024, by omega⟩ : Fin 1024)) (Adam.grad (fun s => part m c (⟨400 + (384 * p.val + q.val) / 1024, by omega⟩ : Fin 416) (⟨(384 * p.val + q.val) % 1024, by omega⟩ : Fin 1024) s)) : EReal) = _
  rw [funext fun s => part_4 m c p q s, snd_4 m c p q]
  rfl

/-- Every result of the call, and its arguments, after the run. -/
theorem run_results (ρ : Dev nD → PrngReg) : θ_run defs (onTc (τ := τ) (main (F := Ideal))) ⟨m, fun _ => 0, ρ⟩ fun r => ∀ c : Dev nD,
    r.2.mem ((c : Thread nD τ).loc main_v38) = Adam.gradOf (m ((c : Thread nD τ).loc main_arg0))
    ∧ r.2.mem ((c : Thread nD τ).loc main_v39) = Adam.gradOf (m ((c : Thread nD τ).loc main_arg1))
    ∧ r.2.mem ((c : Thread nD τ).loc main_v40) = Adam.gradOf (m ((c : Thread nD τ).loc main_arg2))
    ∧ r.2.mem ((c : Thread nD τ).loc main_v33) = Adam.gradOf (m ((c : Thread nD τ).loc main_arg3))
    ∧ r.2.mem ((c : Thread nD τ).loc main_v37) = Adam.gradOf (m ((c : Thread nD τ).loc main_arg4))
    ∧ r.2.mem ((c : Thread nD τ).loc main_v49) = Adam.deltaOf (m ((c : Thread nD τ).loc main_arg0)) (m ((c : Thread nD τ).loc main_arg5)) (m ((c : Thread nD τ).loc main_arg10)) (m ((c : Thread nD τ).loc main_arg15))
    ∧ r.2.mem ((c : Thread nD τ).loc main_v50) = Adam.deltaOf (m ((c : Thread nD τ).loc main_arg1)) (m ((c : Thread nD τ).loc main_arg6)) (m ((c : Thread nD τ).loc main_arg11)) (m ((c : Thread nD τ).loc main_arg16))
    ∧ r.2.mem ((c : Thread nD τ).loc main_v51) = Adam.deltaOf (m ((c : Thread nD τ).loc main_arg2)) (m ((c : Thread nD τ).loc main_arg7)) (m ((c : Thread nD τ).loc main_arg12)) (m ((c : Thread nD τ).loc main_arg17))
    ∧ r.2.mem ((c : Thread nD τ).loc main_v44) = Adam.deltaOf (m ((c : Thread nD τ).loc main_arg3)) (m ((c : Thread nD τ).loc main_arg8)) (m ((c : Thread nD τ).loc main_arg13)) (m ((c : Thread nD τ).loc main_arg18))
    ∧ r.2.mem ((c : Thread nD τ).loc main_v48) = Adam.deltaOf (m ((c : Thread nD τ).loc main_arg4)) (m ((c : Thread nD τ).loc main_arg9)) (m ((c : Thread nD τ).loc main_arg14)) (m ((c : Thread nD τ).loc main_arg19))
    ∧ r.2.mem ((c : Thread nD τ).loc main_v60) = Adam.momOf (m ((c : Thread nD τ).loc main_arg0)) (m ((c : Thread nD τ).loc main_arg10))
    ∧ r.2.mem ((c : Thread nD τ).loc main_v61) = Adam.momOf (m ((c : Thread nD τ).loc main_arg1)) (m ((c : Thread nD τ).loc main_arg11))
    ∧ r.2.mem ((c : Thread nD τ).loc main_v62) = Adam.momOf (m ((c : Thread nD τ).loc main_arg2)) (m ((c : Thread nD τ).loc main_arg12))
    ∧ r.2.mem ((c : Thread nD τ).loc main_v55) = Adam.momOf (m ((c : Thread nD τ).loc main_arg3)) (m ((c : Thread nD τ).loc main_arg13))
    ∧ r.2.mem ((c : Thread nD τ).loc main_v59) = Adam.momOf (m ((c : Thread nD τ).loc main_arg4)) (m ((c : Thread nD τ).loc main_arg14))
    ∧ r.2.mem ((c : Thread nD τ).loc main_v71) = Adam.secOf (m ((c : Thread nD τ).loc main_arg0)) (m ((c : Thread nD τ).loc main_arg15))
    ∧ r.2.mem ((c : Thread nD τ).loc main_v72) = Adam.secOf (m ((c : Thread nD τ).loc main_arg1)) (m ((c : Thread nD τ).loc main_arg16))
    ∧ r.2.mem ((c : Thread nD τ).loc main_v73) = Adam.secOf (m ((c : Thread nD τ).loc main_arg2)) (m ((c : Thread nD τ).loc main_arg17))
    ∧ r.2.mem ((c : Thread nD τ).loc main_v66) = Adam.secOf (m ((c : Thread nD τ).loc main_arg3)) (m ((c : Thread nD τ).loc main_arg18))
    ∧ r.2.mem ((c : Thread nD τ).loc main_v70) = Adam.secOf (m ((c : Thread nD τ).loc main_arg4)) (m ((c : Thread nD τ).loc main_arg19))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19) :=
  (θ_run defs _ _).mono (fun _ h c =>
      ⟨((h c).2 main_v38 (Pipeline.mem_restRefs_of main_v38 (by decide) (by decide))).trans (res_main_v38 m c),
        ((h c).2 main_v39 (Pipeline.mem_restRefs_of main_v39 (by decide) (by decide))).trans (res_main_v39 m c),
        ((h c).2 main_v40 (Pipeline.mem_restRefs_of main_v40 (by decide) (by decide))).trans (res_main_v40 m c),
        ((h c).2 main_v33 (Pipeline.mem_restRefs_of main_v33 (by decide) (by decide))).trans (res_main_v33 m c),
        ((h c).2 main_v37 (Pipeline.mem_restRefs_of main_v37 (by decide) (by decide))).trans (res_main_v37 m c),
        ((h c).2 main_v49 (Pipeline.mem_restRefs_of main_v49 (by decide) (by decide))).trans (res_main_v49 m c),
        ((h c).2 main_v50 (Pipeline.mem_restRefs_of main_v50 (by decide) (by decide))).trans (res_main_v50 m c),
        ((h c).2 main_v51 (Pipeline.mem_restRefs_of main_v51 (by decide) (by decide))).trans (res_main_v51 m c),
        ((h c).2 main_v44 (Pipeline.mem_restRefs_of main_v44 (by decide) (by decide))).trans (res_main_v44 m c),
        ((h c).2 main_v48 (Pipeline.mem_restRefs_of main_v48 (by decide) (by decide))).trans (res_main_v48 m c),
        ((h c).2 main_v60 (Pipeline.mem_restRefs_of main_v60 (by decide) (by decide))).trans (res_main_v60 m c),
        ((h c).2 main_v61 (Pipeline.mem_restRefs_of main_v61 (by decide) (by decide))).trans (res_main_v61 m c),
        ((h c).2 main_v62 (Pipeline.mem_restRefs_of main_v62 (by decide) (by decide))).trans (res_main_v62 m c),
        ((h c).2 main_v55 (Pipeline.mem_restRefs_of main_v55 (by decide) (by decide))).trans (res_main_v55 m c),
        ((h c).2 main_v59 (Pipeline.mem_restRefs_of main_v59 (by decide) (by decide))).trans (res_main_v59 m c),
        ((h c).2 main_v71 (Pipeline.mem_restRefs_of main_v71 (by decide) (by decide))).trans (res_main_v71 m c),
        ((h c).2 main_v72 (Pipeline.mem_restRefs_of main_v72 (by decide) (by decide))).trans (res_main_v72 m c),
        ((h c).2 main_v73 (Pipeline.mem_restRefs_of main_v73 (by decide) (by decide))).trans (res_main_v73 m c),
        ((h c).2 main_v66 (Pipeline.mem_restRefs_of main_v66 (by decide) (by decide))).trans (res_main_v66 m c),
        ((h c).2 main_v70 (Pipeline.mem_restRefs_of main_v70 (by decide) (by decide))).trans (res_main_v70 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c),
        ((h c).2 main_arg7 (Pipeline.mem_restRefs_of main_arg7 (by decide) (by decide))).trans (W_main_arg7 m (dats m) c),
        ((h c).2 main_arg8 (Pipeline.mem_restRefs_of main_arg8 (by decide) (by decide))).trans (W_main_arg8 m (dats m) c),
        ((h c).2 main_arg9 (Pipeline.mem_restRefs_of main_arg9 (by decide) (by decide))).trans (W_main_arg9 m (dats m) c),
        ((h c).2 main_arg10 (Pipeline.mem_restRefs_of main_arg10 (by decide) (by decide))).trans (W_main_arg10 m (dats m) c),
        ((h c).2 main_arg11 (Pipeline.mem_restRefs_of main_arg11 (by decide) (by decide))).trans (W_main_arg11 m (dats m) c),
        ((h c).2 main_arg12 (Pipeline.mem_restRefs_of main_arg12 (by decide) (by decide))).trans (W_main_arg12 m (dats m) c),
        ((h c).2 main_arg13 (Pipeline.mem_restRefs_of main_arg13 (by decide) (by decide))).trans (W_main_arg13 m (dats m) c),
        ((h c).2 main_arg14 (Pipeline.mem_restRefs_of main_arg14 (by decide) (by decide))).trans (W_main_arg14 m (dats m) c),
        ((h c).2 main_arg15 (Pipeline.mem_restRefs_of main_arg15 (by decide) (by decide))).trans (W_main_arg15 m (dats m) c),
        ((h c).2 main_arg16 (Pipeline.mem_restRefs_of main_arg16 (by decide) (by decide))).trans (W_main_arg16 m (dats m) c),
        ((h c).2 main_arg17 (Pipeline.mem_restRefs_of main_arg17 (by decide) (by decide))).trans (W_main_arg17 m (dats m) c),
        ((h c).2 main_arg18 (Pipeline.mem_restRefs_of main_arg18 (by decide) (by decide))).trans (W_main_arg18 m (dats m) c),
        ((h c).2 main_arg19 (Pipeline.mem_restRefs_of main_arg19 (by decide) (by decide))).trans (W_main_arg19 m (dats m) c)⟩)
    (run_main (F := Ideal) m ρ)

end Cert.AdamShardsIdeal.Arrays

end
-- ==== Proof.AdamShardsSame.lean ====
/-
  The optimiser's call on the sharded weights returns what the optimiser's rule returns.
-/
module

public import proofs.«01_k».proof.Defs
public import proofs.«01_k».proof.Proof.AdamShardsValue
public import proofs.«01_k».proof.Proof.Gen.AdamShardsRefIdeal
public import proofs.«01_k».proof.Proof.Gen.AdamShardsRefIdeal.Run

@[expose] public section

set_option maxRecDepth 16384

noncomputable section

open Idealize.ShloMosaic Idealize.ShloMosaic.TcCoe Idealize.SL.Sem

namespace Cert.AdamShardsIdeal.Arrays

open Cert.AdamShardsIdeal Cert.AdamShardsIdeal.Gen

set_option maxHeartbeats 4000000 in
/-- The twenty arrays the call returns equal the twenty the reference returns, over the extended reals. -/
theorem algebraic : Cert.algebraic_AdamShardsIdeal_AdamShardsRefIdeal := by
  intro m ρ m' ρ' _ hagree
  refine ⟨fun c => Adam.gradOf (m ((c.tc : Thread Cert.AdamShardsIdeal.nD Cert.AdamShardsIdeal.τ).loc Cert.AdamShardsIdeal.main_arg0)), fun c => Adam.gradOf (m ((c.tc : Thread Cert.AdamShardsIdeal.nD Cert.AdamShardsIdeal.τ).loc Cert.AdamShardsIdeal.main_arg1)), fun c => Adam.gradOf (m ((c.tc : Thread Cert.AdamShardsIdeal.nD Cert.AdamShardsIdeal.τ).loc Cert.AdamShardsIdeal.main_arg2)), fun c => Adam.gradOf (m ((c.tc : Thread Cert.AdamShardsIdeal.nD Cert.AdamShardsIdeal.τ).loc Cert.AdamShardsIdeal.main_arg3)), fun c => Adam.gradOf (m ((c.tc : Thread Cert.AdamShardsIdeal.nD Cert.AdamShardsIdeal.τ).loc Cert.AdamShardsIdeal.main_arg4)), fun c => Adam.deltaOf (m ((c.tc : Thread Cert.AdamShardsIdeal.nD Cert.AdamShardsIdeal.τ).loc Cert.AdamShardsIdeal.main_arg0)) (m ((c.tc : Thread Cert.AdamShardsIdeal.nD Cert.AdamShardsIdeal.τ).loc Cert.AdamShardsIdeal.main_arg5)) (m ((c.tc : Thread Cert.AdamShardsIdeal.nD Cert.AdamShardsIdeal.τ).loc Cert.AdamShardsIdeal.main_arg10)) (m ((c.tc : Thread Cert.AdamShardsIdeal.nD Cert.AdamShardsIdeal.τ).loc Cert.AdamShardsIdeal.main_arg15)), fun c => Adam.deltaOf (m ((c.tc : Thread Cert.AdamShardsIdeal.nD Cert.AdamShardsIdeal.τ).loc Cert.AdamShardsIdeal.main_arg1)) (m ((c.tc : Thread Cert.AdamShardsIdeal.nD Cert.AdamShardsIdeal.τ).loc Cert.AdamShardsIdeal.main_arg6)) (m ((c.tc : Thread Cert.AdamShardsIdeal.nD Cert.AdamShardsIdeal.τ).loc Cert.AdamShardsIdeal.main_arg11)) (m ((c.tc : Thread Cert.AdamShardsIdeal.nD Cert.AdamShardsIdeal.τ).loc Cert.AdamShardsIdeal.main_arg16)), fun c => Adam.deltaOf (m ((c.tc : Thread Cert.AdamShardsIdeal.nD Cert.AdamShardsIdeal.τ).loc Cert.AdamShardsIdeal.main_arg2)) (m ((c.tc : Thread Cert.AdamShardsIdeal.nD Cert.AdamShardsIdeal.τ).loc Cert.AdamShardsIdeal.main_arg7)) (m ((c.tc : Thread Cert.AdamShardsIdeal.nD Cert.AdamShardsIdeal.τ).loc Cert.AdamShardsIdeal.main_arg12)) (m ((c.tc : Thread Cert.AdamShardsIdeal.nD Cert.AdamShardsIdeal.τ).loc Cert.AdamShardsIdeal.main_arg17)), fun c => Adam.deltaOf (m ((c.tc : Thread Cert.AdamShardsIdeal.nD Cert.AdamShardsIdeal.τ).loc Cert.AdamShardsIdeal.main_arg3)) (m ((c.tc : Thread Cert.AdamShardsIdeal.nD Cert.AdamShardsIdeal.τ).loc Cert.AdamShardsIdeal.main_arg8)) (m ((c.tc : Thread Cert.AdamShardsIdeal.nD Cert.AdamShardsIdeal.τ).loc Cert.AdamShardsIdeal.main_arg13)) (m ((c.tc : Thread Cert.AdamShardsIdeal.nD Cert.AdamShardsIdeal.τ).loc Cert.AdamShardsIdeal.main_arg18)), fun c => Adam.deltaOf (m ((c.tc : Thread Cert.AdamShardsIdeal.nD Cert.AdamShardsIdeal.τ).loc Cert.AdamShardsIdeal.main_arg4)) (m ((c.tc : Thread Cert.AdamShardsIdeal.nD Cert.AdamShardsIdeal.τ).loc Cert.AdamShardsIdeal.main_arg9)) (m ((c.tc : Thread Cert.AdamShardsIdeal.nD Cert.AdamShardsIdeal.τ).loc Cert.AdamShardsIdeal.main_arg14)) (m ((c.tc : Thread Cert.AdamShardsIdeal.nD Cert.AdamShardsIdeal.τ).loc Cert.AdamShardsIdeal.main_arg19)), fun c => Adam.momOf (m ((c.tc : Thread Cert.AdamShardsIdeal.nD Cert.AdamShardsIdeal.τ).loc Cert.AdamShardsIdeal.main_arg0)) (m ((c.tc : Thread Cert.AdamShardsIdeal.nD Cert.AdamShardsIdeal.τ).loc Cert.AdamShardsIdeal.main_arg10)), fun c => Adam.momOf (m ((c.tc : Thread Cert.AdamShardsIdeal.nD Cert.AdamShardsIdeal.τ).loc Cert.AdamShardsIdeal.main_arg1)) (m ((c.tc : Thread Cert.AdamShardsIdeal.nD Cert.AdamShardsIdeal.τ).loc Cert.AdamShardsIdeal.main_arg11)), fun c => Adam.momOf (m ((c.tc : Thread Cert.AdamShardsIdeal.nD Cert.AdamShardsIdeal.τ).loc Cert.AdamShardsIdeal.main_arg2)) (m ((c.tc : Thread Cert.AdamShardsIdeal.nD Cert.AdamShardsIdeal.τ).loc Cert.AdamShardsIdeal.main_arg12)), fun c => Adam.momOf (m ((c.tc : Thread Cert.AdamShardsIdeal.nD Cert.AdamShardsIdeal.τ).loc Cert.AdamShardsIdeal.main_arg3)) (m ((c.tc : Thread Cert.AdamShardsIdeal.nD Cert.AdamShardsIdeal.τ).loc Cert.AdamShardsIdeal.main_arg13)), fun c => Adam.momOf (m ((c.tc : Thread Cert.AdamShardsIdeal.nD Cert.AdamShardsIdeal.τ).loc Cert.AdamShardsIdeal.main_arg4)) (m ((c.tc : Thread Cert.AdamShardsIdeal.nD Cert.AdamShardsIdeal.τ).loc Cert.AdamShardsIdeal.main_arg14)), fun c => Adam.secOf (m ((c.tc : Thread Cert.AdamShardsIdeal.nD Cert.AdamShardsIdeal.τ).loc Cert.AdamShardsIdeal.main_arg0)) (m ((c.tc : Thread Cert.AdamShardsIdeal.nD Cert.AdamShardsIdeal.τ).loc Cert.AdamShardsIdeal.main_arg15)), fun c => Adam.secOf (m ((c.tc : Thread Cert.AdamShardsIdeal.nD Cert.AdamShardsIdeal.τ).loc Cert.AdamShardsIdeal.main_arg1)) (m ((c.tc : Thread Cert.AdamShardsIdeal.nD Cert.AdamShardsIdeal.τ).loc Cert.AdamShardsIdeal.main_arg16)), fun c => Adam.secOf (m ((c.tc : Thread Cert.AdamShardsIdeal.nD Cert.AdamShardsIdeal.τ).loc Cert.AdamShardsIdeal.main_arg2)) (m ((c.tc : Thread Cert.AdamShardsIdeal.nD Cert.AdamShardsIdeal.τ).loc Cert.AdamShardsIdeal.main_arg17)), fun c => Adam.secOf (m ((c.tc : Thread Cert.AdamShardsIdeal.nD Cert.AdamShardsIdeal.τ).loc Cert.AdamShardsIdeal.main_arg3)) (m ((c.tc : Thread Cert.AdamShardsIdeal.nD Cert.AdamShardsIdeal.τ).loc Cert.AdamShardsIdeal.main_arg18)), fun c => Adam.secOf (m ((c.tc : Thread Cert.AdamShardsIdeal.nD Cert.AdamShardsIdeal.τ).loc Cert.AdamShardsIdeal.main_arg4)) (m ((c.tc : Thread Cert.AdamShardsIdeal.nD Cert.AdamShardsIdeal.τ).loc Cert.AdamShardsIdeal.main_arg19)), run_results m ρ, ?_⟩
  refine (θ_run Cert.AdamShardsRefIdeal.defs _ _).mono
    (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2.1.trans ?_, (h c).2.2.2.2.2.2.2.2.2.2.2.2.2.2.2.2.1.trans ?_, (h c).2.2.2.2.2.2.2.2.2.2.2.2.2.2.2.2.2.1.trans ?_, (h c).2.2.2.2.2.2.2.2.2.2.2.2.2.2.2.2.2.2.1.trans ?_, (h c).2.2.2.2.2.2.2.2.2.2.2.2.2.2.2.2.2.2.2.1.trans ?_, (h c).2.2.2.2.2.2.2.2.2.2.2.2.2.2.2.2.2.2.2.2⟩)
    (Cert.AdamShardsRefIdeal.Value.run (F := Ideal) m' ρ')
  · have h0 : m' ((c.tc : Thread Cert.AdamShardsRefIdeal.nD Cert.AdamShardsRefIdeal.τ).loc Cert.AdamShardsRefIdeal.main_arg0) = _ := (hagree c).1
    rw [h0]
    funext i
    unfold Adam.gradOf
    pointwise [Adam.gradOf, Adam.delta, Adam.mom, Adam.sec, Adam.grad]

  · have h1 : m' ((c.tc : Thread Cert.AdamShardsRefIdeal.nD Cert.AdamShardsRefIdeal.τ).loc Cert.AdamShardsRefIdeal.main_arg1) = _ := (hagree c).2.1
    rw [h1]
    funext i
    unfold Adam.gradOf
    pointwise [Adam.gradOf, Adam.delta, Adam.mom, Adam.sec, Adam.grad]

  · have h2 : m' ((c.tc : Thread Cert.AdamShardsRefIdeal.nD Cert.AdamShardsRefIdeal.τ).loc Cert.AdamShardsRefIdeal.main_arg2) = _ := (hagree c).2.2.1
    rw [h2]
    funext i
    unfold Adam.gradOf
    pointwise [Adam.gradOf, Adam.delta, Adam.mom, Adam.sec, Adam.grad]

  · have h3 : m' ((c.tc : Thread Cert.AdamShardsRefIdeal.nD Cert.AdamShardsRefIdeal.τ).loc Cert.AdamShardsRefIdeal.main_arg3) = _ := (hagree c).2.2.2.1
    rw [h3]
    funext i
    unfold Adam.gradOf
    pointwise [Adam.gradOf, Adam.delta, Adam.mom, Adam.sec, Adam.grad]

  · have h4 : m' ((c.tc : Thread Cert.AdamShardsRefIdeal.nD Cert.AdamShardsRefIdeal.τ).loc Cert.AdamShardsRefIdeal.main_arg4) = _ := (hagree c).2.2.2.2.1
    rw [h4]
    funext i
    unfold Adam.gradOf
    pointwise [Adam.gradOf, Adam.delta, Adam.mom, Adam.sec, Adam.grad]

  · have h0 : m' ((c.tc : Thread Cert.AdamShardsRefIdeal.nD Cert.AdamShardsRefIdeal.τ).loc Cert.AdamShardsRefIdeal.main_arg0) = _ := (hagree c).1
    have h5 : m' ((c.tc : Thread Cert.AdamShardsRefIdeal.nD Cert.AdamShardsRefIdeal.τ).loc Cert.AdamShardsRefIdeal.main_arg5) = _ := (hagree c).2.2.2.2.2.1
    have h10 : m' ((c.tc : Thread Cert.AdamShardsRefIdeal.nD Cert.AdamShardsRefIdeal.τ).loc Cert.AdamShardsRefIdeal.main_arg10) = _ := (hagree c).2.2.2.2.2.2.2.2.2.2.1
    have h15 : m' ((c.tc : Thread Cert.AdamShardsRefIdeal.nD Cert.AdamShardsRefIdeal.τ).loc Cert.AdamShardsRefIdeal.main_arg15) = _ := (hagree c).2.2.2.2.2.2.2.2.2.2.2.2.2.2.2.1
    rw [h0, h5, h10, h15]
    funext i
    unfold Adam.deltaOf
    pointwise [Adam.gradOf, Adam.delta, Adam.mom, Adam.sec, Adam.grad]

  · have h1 : m' ((c.tc : Thread Cert.AdamShardsRefIdeal.nD Cert.AdamShardsRefIdeal.τ).loc Cert.AdamShardsRefIdeal.main_arg1) = _ := (hagree c).2.1
    have h6 : m' ((c.tc : Thread Cert.AdamShardsRefIdeal.nD Cert.AdamShardsRefIdeal.τ).loc Cert.AdamShardsRefIdeal.main_arg6) = _ := (hagree c).2.2.2.2.2.2.1
    have h11 : m' ((c.tc : Thread Cert.AdamShardsRefIdeal.nD Cert.AdamShardsRefIdeal.τ).loc Cert.AdamShardsRefIdeal.main_arg11) = _ := (hagree c).2.2.2.2.2.2.2.2.2.2.2.1
    have h16 : m' ((c.tc : Thread Cert.AdamShardsRefIdeal.nD Cert.AdamShardsRefIdeal.τ).loc Cert.AdamShardsRefIdeal.main_arg16) = _ := (hagree c).2.2.2.2.2.2.2.2.2.2.2.2.2.2.2.2.1
    rw [h1, h6, h11, h16]
    funext i
    unfold Adam.deltaOf
    pointwise [Adam.gradOf, Adam.delta, Adam.mom, Adam.sec, Adam.grad]

  · have h2 : m' ((c.tc : Thread Cert.AdamShardsRefIdeal.nD Cert.AdamShardsRefIdeal.τ).loc Cert.AdamShardsRefIdeal.main_arg2) = _ := (hagree c).2.2.1
    have h7 : m' ((c.tc : Thread Cert.AdamShardsRefIdeal.nD Cert.AdamShardsRefIdeal.τ).loc Cert.AdamShardsRefIdeal.main_arg7) = _ := (hagree c).2.2.2.2.2.2.2.1
    have h12 : m' ((c.tc : Thread Cert.AdamShardsRefIdeal.nD Cert.AdamShardsRefIdeal.τ).loc Cert.AdamShardsRefIdeal.main_arg12) = _ := (hagree c).2.2.2.2.2.2.2.2.2.2.2.2.1
    have h17 : m' ((c.tc : Thread Cert.AdamShardsRefIdeal.nD Cert.AdamShardsRefIdeal.τ).loc Cert.AdamShardsRefIdeal.main_arg17) = _ := (hagree c).2.2.2.2.2.2.2.2.2.2.2.2.2.2.2.2.2.1
    rw [h2, h7, h12, h17]
    funext i
    unfold Adam.deltaOf
    pointwise [Adam.gradOf, Adam.delta, Adam.mom, Adam.sec, Adam.grad]

  · have h3 : m' ((c.tc : Thread Cert.AdamShardsRefIdeal.nD Cert.AdamShardsRefIdeal.τ).loc Cert.AdamShardsRefIdeal.main_arg3) = _ := (hagree c).2.2.2.1
    have h8 : m' ((c.tc : Thread Cert.AdamShardsRefIdeal.nD Cert.AdamShardsRefIdeal.τ).loc Cert.AdamShardsRefIdeal.main_arg8) = _ := (hagree c).2.2.2.2.2.2.2.2.1
    have h13 : m' ((c.tc : Thread Cert.AdamShardsRefIdeal.nD Cert.AdamShardsRefIdeal.τ).loc Cert.AdamShardsRefIdeal.main_arg13) = _ := (hagree c).2.2.2.2.2.2.2.2.2.2.2.2.2.1
    have h18 : m' ((c.tc : Thread Cert.AdamShardsRefIdeal.nD Cert.AdamShardsRefIdeal.τ).loc Cert.AdamShardsRefIdeal.main_arg18) = _ := (hagree c).2.2.2.2.2.2.2.2.2.2.2.2.2.2.2.2.2.2.1
    rw [h3, h8, h13, h18]
    funext i
    unfold Adam.deltaOf
    pointwise [Adam.gradOf, Adam.delta, Adam.mom, Adam.sec, Adam.grad]

  · have h4 : m' ((c.tc : Thread Cert.AdamShardsRefIdeal.nD Cert.AdamShardsRefIdeal.τ).loc Cert.AdamShardsRefIdeal.main_arg4) = _ := (hagree c).2.2.2.2.1
    have h9 : m' ((c.tc : Thread Cert.AdamShardsRefIdeal.nD Cert.AdamShardsRefIdeal.τ).loc Cert.AdamShardsRefIdeal.main_arg9) = _ := (hagree c).2.2.2.2.2.2.2.2.2.1
    have h14 : m' ((c.tc : Thread Cert.AdamShardsRefIdeal.nD Cert.AdamShardsRefIdeal.τ).loc Cert.AdamShardsRefIdeal.main_arg14) = _ := (hagree c).2.2.2.2.2.2.2.2.2.2.2.2.2.2.1
    have h19 : m' ((c.tc : Thread Cert.AdamShardsRefIdeal.nD Cert.AdamShardsRefIdeal.τ).loc Cert.AdamShardsRefIdeal.main_arg19) = _ := (hagree c).2.2.2.2.2.2.2.2.2.2.2.2.2.2.2.2.2.2.2
    rw [h4, h9, h14, h19]
    funext i
    unfold Adam.deltaOf
    pointwise [Adam.gradOf, Adam.delta, Adam.mom, Adam.sec, Adam.grad]

  · have h0 : m' ((c.tc : Thread Cert.AdamShardsRefIdeal.nD Cert.AdamShardsRefIdeal.τ).loc Cert.AdamShardsRefIdeal.main_arg0) = _ := (hagree c).1
    have h10 : m' ((c.tc : Thread Cert.AdamShardsRefIdeal.nD Cert.AdamShardsRefIdeal.τ).loc Cert.AdamShardsRefIdeal.main_arg10) = _ := (hagree c).2.2.2.2.2.2.2.2.2.2.1
    rw [h0, h10]
    funext i
    unfold Adam.momOf
    pointwise [Adam.gradOf, Adam.delta, Adam.mom, Adam.sec, Adam.grad]

  · have h1 : m' ((c.tc : Thread Cert.AdamShardsRefIdeal.nD Cert.AdamShardsRefIdeal.τ).loc Cert.AdamShardsRefIdeal.main_arg1) = _ := (hagree c).2.1
    have h11 : m' ((c.tc : Thread Cert.AdamShardsRefIdeal.nD Cert.AdamShardsRefIdeal.τ).loc Cert.AdamShardsRefIdeal.main_arg11) = _ := (hagree c).2.2.2.2.2.2.2.2.2.2.2.1
    rw [h1, h11]
    funext i
    unfold Adam.momOf
    pointwise [Adam.gradOf, Adam.delta, Adam.mom, Adam.sec, Adam.grad]

  · have h2 : m' ((c.tc : Thread Cert.AdamShardsRefIdeal.nD Cert.AdamShardsRefIdeal.τ).loc Cert.AdamShardsRefIdeal.main_arg2) = _ := (hagree c).2.2.1
    have h12 : m' ((c.tc : Thread Cert.AdamShardsRefIdeal.nD Cert.AdamShardsRefIdeal.τ).loc Cert.AdamShardsRefIdeal.main_arg12) = _ := (hagree c).2.2.2.2.2.2.2.2.2.2.2.2.1
    rw [h2, h12]
    funext i
    unfold Adam.momOf
    pointwise [Adam.gradOf, Adam.delta, Adam.mom, Adam.sec, Adam.grad]

  · have h3 : m' ((c.tc : Thread Cert.AdamShardsRefIdeal.nD Cert.AdamShardsRefIdeal.τ).loc Cert.AdamShardsRefIdeal.main_arg3) = _ := (hagree c).2.2.2.1
    have h13 : m' ((c.tc : Thread Cert.AdamShardsRefIdeal.nD Cert.AdamShardsRefIdeal.τ).loc Cert.AdamShardsRefIdeal.main_arg13) = _ := (hagree c).2.2.2.2.2.2.2.2.2.2.2.2.2.1
    rw [h3, h13]
    funext i
    unfold Adam.momOf
    pointwise [Adam.gradOf, Adam.delta, Adam.mom, Adam.sec, Adam.grad]

  · have h4 : m' ((c.tc : Thread Cert.AdamShardsRefIdeal.nD Cert.AdamShardsRefIdeal.τ).loc Cert.AdamShardsRefIdeal.main_arg4) = _ := (hagree c).2.2.2.2.1
    have h14 : m' ((c.tc : Thread Cert.AdamShardsRefIdeal.nD Cert.AdamShardsRefIdeal.τ).loc Cert.AdamShardsRefIdeal.main_arg14) = _ := (hagree c).2.2.2.2.2.2.2.2.2.2.2.2.2.2.1
    rw [h4, h14]
    funext i
    unfold Adam.momOf
    pointwise [Adam.gradOf, Adam.delta, Adam.mom, Adam.sec, Adam.grad]

  · have h0 : m' ((c.tc : Thread Cert.AdamShardsRefIdeal.nD Cert.AdamShardsRefIdeal.τ).loc Cert.AdamShardsRefIdeal.main_arg0) = _ := (hagree c).1
    have h15 : m' ((c.tc : Thread Cert.AdamShardsRefIdeal.nD Cert.AdamShardsRefIdeal.τ).loc Cert.AdamShardsRefIdeal.main_arg15) = _ := (hagree c).2.2.2.2.2.2.2.2.2.2.2.2.2.2.2.1
    rw [h0, h15]
    funext i
    unfold Adam.secOf
    pointwise [Adam.gradOf, Adam.delta, Adam.mom, Adam.sec, Adam.grad]

  · have h1 : m' ((c.tc : Thread Cert.AdamShardsRefIdeal.nD Cert.AdamShardsRefIdeal.τ).loc Cert.AdamShardsRefIdeal.main_arg1) = _ := (hagree c).2.1
    have h16 : m' ((c.tc : Thread Cert.AdamShardsRefIdeal.nD Cert.AdamShardsRefIdeal.τ).loc Cert.AdamShardsRefIdeal.main_arg16) = _ := (hagree c).2.2.2.2.2.2.2.2.2.2.2.2.2.2.2.2.1
    rw [h1, h16]
    funext i
    unfold Adam.secOf
    pointwise [Adam.gradOf, Adam.delta, Adam.mom, Adam.sec, Adam.grad]

  · have h2 : m' ((c.tc : Thread Cert.AdamShardsRefIdeal.nD Cert.AdamShardsRefIdeal.τ).loc Cert.AdamShardsRefIdeal.main_arg2) = _ := (hagree c).2.2.1
    have h17 : m' ((c.tc : Thread Cert.AdamShardsRefIdeal.nD Cert.AdamShardsRefIdeal.τ).loc Cert.AdamShardsRefIdeal.main_arg17) = _ := (hagree c).2.2.2.2.2.2.2.2.2.2.2.2.2.2.2.2.2.1
    rw [h2, h17]
    funext i
    unfold Adam.secOf
    pointwise [Adam.gradOf, Adam.delta, Adam.mom, Adam.sec, Adam.grad]

  · have h3 : m' ((c.tc : Thread Cert.AdamShardsRefIdeal.nD Cert.AdamShardsRefIdeal.τ).loc Cert.AdamShardsRefIdeal.main_arg3) = _ := (hagree c).2.2.2.1
    have h18 : m' ((c.tc : Thread Cert.AdamShardsRefIdeal.nD Cert.AdamShardsRefIdeal.τ).loc Cert.AdamShardsRefIdeal.main_arg18) = _ := (hagree c).2.2.2.2.2.2.2.2.2.2.2.2.2.2.2.2.2.2.1
    rw [h3, h18]
    funext i
    unfold Adam.secOf
    pointwise [Adam.gradOf, Adam.delta, Adam.mom, Adam.sec, Adam.grad]

  · have h4 : m' ((c.tc : Thread Cert.AdamShardsRefIdeal.nD Cert.AdamShardsRefIdeal.τ).loc Cert.AdamShardsRefIdeal.main_arg4) = _ := (hagree c).2.2.2.2.1
    have h19 : m' ((c.tc : Thread Cert.AdamShardsRefIdeal.nD Cert.AdamShardsRefIdeal.τ).loc Cert.AdamShardsRefIdeal.main_arg19) = _ := (hagree c).2.2.2.2.2.2.2.2.2.2.2.2.2.2.2.2.2.2.2
    rw [h4, h19]
    funext i
    unfold Adam.secOf
    pointwise [Adam.gradOf, Adam.delta, Adam.mom, Adam.sec, Adam.grad]

end Cert.AdamShardsIdeal.Arrays

end
-- ==== Proof.AdamSmallArrays.lean ====
/-
  The arrays the optimiser's call on the packed replicated weights returns, element by element, in terms of the arrays it is given: each
  element is the optimiser's rule at the elements standing at its place.
-/
module

public import proofs.«01_k».proof.Proof.AdamRule
public import proofs.«01_k».proof.Proof.Gen.AdamSmallIdeal.Frame
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamSmallIdeal.Arrays

open Cert.AdamSmallIdeal Cert.AdamSmallIdeal.Gen

variable (m : (ℓ : Loc nD τ sig) → Buf (Elt Ideal) ℓ) (c : Dev nD)

theorem hz : (![0, 0] : Fin 2 → Nat) = fun _ => 0 := funext fun a => by fin_cases a <;> rfl

/-- The gradients, weight, moments at an element of the call's own arrays. -/
def part (r : Fin 16) (q : Fin 1024) (s : Fin 8) : EReal := V m c main_v27 (ix3 s r q)
def wgt (r : Fin 16) (q : Fin 1024) : EReal := V m c main_v50 (ix2 r q)
def fst (r : Fin 16) (q : Fin 1024) : EReal := V m c main_v73 (ix2 r q)
def snd (r : Fin 16) (q : Fin 1024) : EReal := V m c main_v96 (ix2 r q)

/-- The four arrays of the call. -/
def arr4 : Buf (Elt Ideal) ((c : Thread nD τ).loc main_v97_0) := fun i => Adam.grad (part m c (i 0) (i 1))
def arr5 : Buf (Elt Ideal) ((c : Thread nD τ).loc main_v97_1) := fun i =>
  Adam.delta (wgt m c (i 0) (i 1)) (fst m c (i 0) (i 1)) (snd m c (i 0) (i 1)) (Adam.grad (part m c (i 0) (i 1)))
def arr6 : Buf (Elt Ideal) ((c : Thread nD τ).loc main_v97_2) := fun i =>
  Adam.mom (fst m c (i 0) (i 1)) (Adam.grad (part m c (i 0) (i 1)))
def arr7 : Buf (Elt Ideal) ((c : Thread nD τ).loc main_v97_3) := fun i =>
  Adam.sec (snd m c (i 0) (i 1)) (Adam.grad (part m c (i 0) (i 1)))

theorem ld0 (x : Vec Ideal S8x16x1024 .f32) (p : Fin 16) (q : Fin 1024) :
    View.ld x r0_0 (ix3 0 p q) = x (ix3 0 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld1 (x : Vec Ideal S8x16x1024 .f32) (p : Fin 16) (q : Fin 1024) :
    View.ld x r0_1 (ix3 0 p q) = x (ix3 1 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld2 (x : Vec Ideal S8x16x1024 .f32) (p : Fin 16) (q : Fin 1024) :
    View.ld x r0_2 (ix3 0 p q) = x (ix3 2 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld3 (x : Vec Ideal S8x16x1024 .f32) (p : Fin 16) (q : Fin 1024) :
    View.ld x r0_3 (ix3 0 p q) = x (ix3 3 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld4 (x : Vec Ideal S8x16x1024 .f32) (p : Fin 16) (q : Fin 1024) :
    View.ld x r0_4 (ix3 0 p q) = x (ix3 4 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld5 (x : Vec Ideal S8x16x1024 .f32) (p : Fin 16) (q : Fin 1024) :
    View.ld x r0_5 (ix3 0 p q) = x (ix3 5 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld6 (x : Vec Ideal S8x16x1024 .f32) (p : Fin 16) (q : Fin 1024) :
    View.ld x r0_6 (ix3 0 p q) = x (ix3 6 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

theorem ld7 (x : Vec Ideal S8x16x1024 .f32) (p : Fin 16) (q : Fin 1024) :
    View.ld x r0_7 (ix3 0 p q) = x (ix3 7 p q) := by
  show x _ = x _
  congr 1
  funext a; apply Fin.ext
  match a with
  | ⟨0, _⟩ => rfl
  | ⟨1, _⟩ => show 0 + 1 * p.val = p.val; omega
  | ⟨2, _⟩ => show 0 + 1 * q.val = q.val; omega

/-- The gradient the body forms, at an element. -/
theorem grad_apply (x : Vec Ideal S8x16x1024 .f32) (w f v : Vec Ideal S16x1024 .f32) (p : Fin 16) (q : Fin 1024) :
    (k0_pay5 x w f v (ix2 p q) : EReal) = Adam.grad fun s => x (ix3 s p q) := by
  rw [Adam.grad_eq]
  unfold k0_pay5 k0_pay3
  pointwise [ld0, ld1, ld2, ld3, ld4, ld5, ld6, ld7]

/-- The first moment the body forms is one function of the gradient it forms. -/
theorem mom_apply (x : Vec Ideal S8x16x1024 .f32) (w f v : Vec Ideal S16x1024 .f32) (p : Fin 16) (q : Fin 1024) :
    (k0_pay6 x w f v (ix2 p q) : EReal) = Adam.mom (f (ix2 p q)) (Adam.grad fun s => x (ix3 s p q)) := by
  rw [← grad_apply x w f v p q]
  unfold k0_pay6 k0_pay4 k0_pay5 k0_pay3
  simp only [View.ld_unit_zero (S := S16x1024) hz]
  pointwise [Adam.mom]

theorem out4_apply (x : Vec Ideal S8x16x1024 .f32) (w f v : Vec Ideal S16x1024 .f32) (p : Fin 16) (q : Fin 1024) :
    (out0_4 x w f v (ix2 p q) : EReal) = Adam.grad fun s => x (ix3 s p q) := by
  unfold out0_4
  rw [View.canon_unit_zero hz]
  exact grad_apply x w f v p q

theorem out5_apply (x : Vec Ideal S8x16x1024 .f32) (w f v : Vec Ideal S16x1024 .f32) (p : Fin 16) (q : Fin 1024) :
    (out0_5 x w f v (ix2 p q) : EReal) = Adam.delta (w (ix2 p q)) (f (ix2 p q)) (v (ix2 p q)) (Adam.grad fun s => x (ix3 s p q)) := by
  unfold Adam.delta
  rw [← mom_apply x w f v p q, ← grad_apply x w f v p q]
  unfold out0_5
  rw [View.canon_unit_zero hz]
  generalize k0_pay5 x w f v = g
  generalize k0_pay6 x w f v = h
  unfold k0_pay2 k0_pay1
  simp only [View.ld_unit_zero (S := S16x1024) hz]
  pointwise [Adam.delta, Adam.mom, Adam.sec]

theorem out6_apply (x : Vec Ideal S8x16x1024 .f32) (w f v : Vec Ideal S16x1024 .f32) (p : Fin 16) (q : Fin 1024) :
    (out0_6 x w f v (ix2 p q) : EReal) = Adam.mom (f (ix2 p q)) (Adam.grad fun s => x (ix3 s p q)) := by
  unfold out0_6
  rw [View.canon_unit_zero hz]
  exact mom_apply x w f v p q

theorem out7_apply (x : Vec Ideal S8x16x1024 .f32) (w f v : Vec Ideal S16x1024 .f32) (p : Fin 16) (q : Fin 1024) :
    (out0_7 x w f v (ix2 p q) : EReal) = Adam.sec (v (ix2 p q)) (Adam.grad fun s => x (ix3 s p q)) := by
  rw [← grad_apply x w f v p q]
  unfold out0_7
  rw [View.canon_unit_zero hz]
  generalize k0_pay5 x w f v = g
  unfold k0_pay1
  simp only [View.ld_unit_zero (S := S16x1024) hz]
  pointwise [Adam.delta, Adam.mom, Adam.sec]

/-- Where the windows of a point stand. -/
theorem index_eq : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem index4 : ∀ t : Fin cfg0.N, (win0_4.index t (0 : Fin 2) = t.val ∧ win0_4.index t (1 : Fin 2) = 0)
    ∧ (cfg0.win 4).flush t = true :=
  (by decide +kernel : ∀ t : Fin grid0.N, (win0_4.index t (0 : Fin 2) = t.val ∧ win0_4.index t (1 : Fin 2) = 0)
    ∧ win0_4.flush t = true)

theorem index5 : ∀ t : Fin cfg0.N, (win0_5.index t (0 : Fin 2) = t.val ∧ win0_5.index t (1 : Fin 2) = 0)
    ∧ (cfg0.win 5).flush t = true :=
  (by decide +kernel : ∀ t : Fin grid0.N, (win0_5.index t (0 : Fin 2) = t.val ∧ win0_5.index t (1 : Fin 2) = 0)
    ∧ win0_5.flush t = true)

theorem index6 : ∀ t : Fin cfg0.N, (win0_6.index t (0 : Fin 2) = t.val ∧ win0_6.index t (1 : Fin 2) = 0)
    ∧ (cfg0.win 6).flush t = true :=
  (by decide +kernel : ∀ t : Fin grid0.N, (win0_6.index t (0 : Fin 2) = t.val ∧ win0_6.index t (1 : Fin 2) = 0)
    ∧ win0_6.flush t = true)

theorem index7 : ∀ t : Fin cfg0.N, (win0_7.index t (0 : Fin 2) = t.val ∧ win0_7.index t (1 : Fin 2) = 0)
    ∧ (cfg0.win 7).flush t = true :=
  (by decide +kernel : ∀ t : Fin grid0.N, (win0_7.index t (0 : Fin 2) = t.val ∧ win0_7.index t (1 : Fin 2) = 0)
    ∧ win0_7.flush t = true)

theorem blk0 (t : Fin cfg0.N) (p : Fin 16) (q : Fin 1024) (s : Fin 8) (r : Fin 16) (hr : r.val = 16 * t.val + p.val) :
    (iblk m c 0 t (ix3 s p q) : EReal) = part m c r q s := by
  obtain ⟨⟨e0, e1, e2⟩, -⟩ := index_eq t
  show V m c main_v27 _ = V m c main_v27 _
  congr 1
  funext a; apply Fin.ext
  match a with
  | ⟨0, _⟩ => show win0_0.index t 0 * 8 + 1 * s.val = s.val; rw [e0]; omega
  | ⟨1, _⟩ => show win0_0.index t 1 * 16 + 1 * p.val = r.val; rw [e1]; omega
  | ⟨2, _⟩ => show win0_0.index t 2 * 1024 + 1 * q.val = q.val; rw [e2]; omega

theorem blk1 (t : Fin cfg0.N) (p : Fin 16) (q : Fin 1024) (r : Fin 16) (hr : r.val = 16 * t.val + p.val) :
    (iblk m c 1 t (ix2 p q) : EReal) = wgt m c r q := by
  have h := index_eq t
  obtain ⟨e0, e1⟩ := h.2.1
  show V m c main_v50 _ = V m c main_v50 _
  congr 1
  funext a; apply Fin.ext
  match a with
  | ⟨0, _⟩ => show win0_1.index t 0 * 16 + 1 * p.val = r.val; rw [e0]; omega
  | ⟨1, _⟩ => show win0_1.index t 1 * 1024 + 1 * q.val = q.val; rw [e1]; omega

theorem blk2 (t : Fin cfg0.N) (p : Fin 16) (q : Fin 1024) (r : Fin 16) (hr : r.val = 16 * t.val + p.val) :
    (iblk m c 2 t (ix2 p q) : EReal) = fst m c r q := by
  have h := index_eq t
  obtain ⟨e0, e1⟩ := h.2.2.1
  show V m c main_v73 _ = V m c main_v73 _
  congr 1
  funext a; apply Fin.ext
  match a with
  | ⟨0, _⟩ => show win0_2.index t 0 * 16 + 1 * p.val = r.val; rw [e0]; omega
  | ⟨1, _⟩ => show win0_2.index t 1 * 1024 + 1 * q.val = q.val; rw [e1]; omega

theorem blk3 (t : Fin cfg0.N) (p : Fin 16) (q : Fin 1024) (r : Fin 16) (hr : r.val = 16 * t.val + p.val) :
    (iblk m c 3 t (ix2 p q) : EReal) = snd m c r q := by
  have h := index_eq t
  obtain ⟨e0, e1⟩ := h.2.2.2
  show V m c main_v96 _ = V m c main_v96 _
  congr 1
  funext a; apply Fin.ext
  match a with
  | ⟨0, _⟩ => show win0_3.index t 0 * 16 + 1 * p.val = r.val; rw [e0]; omega
  | ⟨1, _⟩ => show win0_3.index t 1 * 1024 + 1 * q.val = q.val; rw [e1]; omega

theorem flushed4_eq (t : Fin cfg0.N) :
    (dats m 0 c).flushed 4 t = ((cfg0.win 4).blk t).view.read (Elt Ideal) (arr4 m c) := by
  obtain ⟨⟨e0, e1⟩, -⟩ := index4 t
  show (cfg0.win 4).cut (grid0.coords t) ((dats m 0 c).after 4 t) = _
  rw [after0_4]
  funext y
  have hp : (y 0).val < 16 := (y 0).isLt
  have hq : (y 1).val < 1024 := (y 1).isLt
  have hy : (cfg0.win 4).xinj (grid0.coords t) y = ix2 (⟨(y 0).val, hp⟩ : Fin 16) (⟨(y 1).val, hq⟩ : Fin 1024) := by
    funext a; apply Fin.ext
    match a with
    | ⟨0, _⟩ => rfl
    | ⟨1, _⟩ => rfl
  show (out0_4 (iblk m c 0 t) (iblk m c 1 t) (iblk m c 2 t) (iblk m c 3 t) ((cfg0.win 4).xinj (grid0.coords t) y) : EReal)
    = arr4 m c (((cfg0.win 4).blk t).view.emb y)
  have g0 : (((cfg0.win 4).blk t).view.emb y 0).val = win0_4.index t (0 : Fin 2) * 16 + 1 * (y 0).val := rfl
  have g1 : (((cfg0.win 4).blk t).view.emb y 1).val = win0_4.index t (1 : Fin 2) * 1024 + 1 * (y 1).val := rfl
  rw [hy, out4_apply]
  unfold arr4
  generalize ((cfg0.win 4).blk t).view.emb y = j at g0 g1
  have hr : (j 0).val = 16 * t.val + (⟨(y 0).val, hp⟩ : Fin 16).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [funext fun s => blk0 m c t _ _ s _ hr]
  obtain rfl : (j 1 : Fin 1024) = q := Fin.ext hq'
  rfl

theorem final4 : (dats m 0 c).arrAt 4 cfg0.N = arr4 m c :=
  (dats m 0 c).arrAt_eq_of_cover 4 (arr4 m c) (fun t _ => flushed4_eq m c t) fun i => by
    have hi0 : (i 0).val < 16 := (i 0).isLt
    have hi1 : (i 1).val < 1024 := (i 1).isLt
    have hN : cfg0.N = 1 := N_0
    let t : Fin cfg0.N := ⟨(i 0).val / 16, by omega⟩
    obtain ⟨⟨e0, e1⟩, hf⟩ := index4 t
    refine ⟨t, hf, ?_⟩
    show i ∈ ((View.whole main_v97_0).slice (win0_4.rect t)).set
    rw [View.set_slice_whole, Rect.mem_set_unit]
    intro a
    match a with
    | ⟨0, _⟩ =>
      show win0_4.index t 0 * 16 ≤ (i 0).val ∧ (i 0).val < win0_4.index t 0 * 16 + 16
      rw [e0]; dsimp only [t]; omega
    | ⟨1, _⟩ => show win0_4.index t 1 * 1024 ≤ (i 1).val ∧ (i 1).val < win0_4.index t 1 * 1024 + 1024; rw [e1]; omega

theorem flushed5_eq (t : Fin cfg0.N) :
    (dats m 0 c).flushed 5 t = ((cfg0.win 5).blk t).view.read (Elt Ideal) (arr5 m c) := by
  obtain ⟨⟨e0, e1⟩, -⟩ := index5 t
  show (cfg0.win 5).cut (grid0.coords t) ((dats m 0 c).after 5 t) = _
  rw [after0_5]
  funext y
  have hp : (y 0).val < 16 := (y 0).isLt
  have hq : (y 1).val < 1024 := (y 1).isLt
  have hy : (cfg0.win 5).xinj (grid0.coords t) y = ix2 (⟨(y 0).val, hp⟩ : Fin 16) (⟨(y 1).val, hq⟩ : Fin 1024) := by
    funext a; apply Fin.ext
    match a with
    | ⟨0, _⟩ => rfl
    | ⟨1, _⟩ => rfl
  show (out0_5 (iblk m c 0 t) (iblk m c 1 t) (iblk m c 2 t) (iblk m c 3 t) ((cfg0.win 5).xinj (grid0.coords t) y) : EReal)
    = arr5 m c (((cfg0.win 5).blk t).view.emb y)
  have g0 : (((cfg0.win 5).blk t).view.emb y 0).val = win0_5.index t (0 : Fin 2) * 16 + 1 * (y 0).val := rfl
  have g1 : (((cfg0.win 5).blk t).view.emb y 1).val = win0_5.index t (1 : Fin 2) * 1024 + 1 * (y 1).val := rfl
  rw [hy, out5_apply]
  unfold arr5
  generalize ((cfg0.win 5).blk t).view.emb y = j at g0 g1
  have hr : (j 0).val = 16 * t.val + (⟨(y 0).val, hp⟩ : Fin 16).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [blk1 m c t _ _ _ hr]
  rw [blk2 m c t _ _ _ hr]
  rw [blk3 m c t _ _ _ hr]
  rw [funext fun s => blk0 m c t _ _ s _ hr]
  obtain rfl : (j 1 : Fin 1024) = q := Fin.ext hq'
  rfl

theorem final5 : (dats m 0 c).arrAt 5 cfg0.N = arr5 m c :=
  (dats m 0 c).arrAt_eq_of_cover 5 (arr5 m c) (fun t _ => flushed5_eq m c t) fun i => by
    have hi0 : (i 0).val < 16 := (i 0).isLt
    have hi1 : (i 1).val < 1024 := (i 1).isLt
    have hN : cfg0.N = 1 := N_0
    let t : Fin cfg0.N := ⟨(i 0).val / 16, by omega⟩
    obtain ⟨⟨e0, e1⟩, hf⟩ := index5 t
    refine ⟨t, hf, ?_⟩
    show i ∈ ((View.whole main_v97_1).slice (win0_5.rect t)).set
    rw [View.set_slice_whole, Rect.mem_set_unit]
    intro a
    match a with
    | ⟨0, _⟩ =>
      show win0_5.index t 0 * 16 ≤ (i 0).val ∧ (i 0).val < win0_5.index t 0 * 16 + 16
      rw [e0]; dsimp only [t]; omega
    | ⟨1, _⟩ => show win0_5.index t 1 * 1024 ≤ (i 1).val ∧ (i 1).val < win0_5.index t 1 * 1024 + 1024; rw [e1]; omega

theorem flushed6_eq (t : Fin cfg0.N) :
    (dats m 0 c).flushed 6 t = ((cfg0.win 6).blk t).view.read (Elt Ideal) (arr6 m c) := by
  obtain ⟨⟨e0, e1⟩, -⟩ := index6 t
  show (cfg0.win 6).cut (grid0.coords t) ((dats m 0 c).after 6 t) = _
  rw [after0_6]
  funext y
  have hp : (y 0).val < 16 := (y 0).isLt
  have hq : (y 1).val < 1024 := (y 1).isLt
  have hy : (cfg0.win 6).xinj (grid0.coords t) y = ix2 (⟨(y 0).val, hp⟩ : Fin 16) (⟨(y 1).val, hq⟩ : Fin 1024) := by
    funext a; apply Fin.ext
    match a with
    | ⟨0, _⟩ => rfl
    | ⟨1, _⟩ => rfl
  show (out0_6 (iblk m c 0 t) (iblk m c 1 t) (iblk m c 2 t) (iblk m c 3 t) ((cfg0.win 6).xinj (grid0.coords t) y) : EReal)
    = arr6 m c (((cfg0.win 6).blk t).view.emb y)
  have g0 : (((cfg0.win 6).blk t).view.emb y 0).val = win0_6.index t (0 : Fin 2) * 16 + 1 * (y 0).val := rfl
  have g1 : (((cfg0.win 6).blk t).view.emb y 1).val = win0_6.index t (1 : Fin 2) * 1024 + 1 * (y 1).val := rfl
  rw [hy, out6_apply]
  unfold arr6
  generalize ((cfg0.win 6).blk t).view.emb y = j at g0 g1
  have hr : (j 0).val = 16 * t.val + (⟨(y 0).val, hp⟩ : Fin 16).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [blk2 m c t _ _ _ hr]
  rw [funext fun s => blk0 m c t _ _ s _ hr]
  obtain rfl : (j 1 : Fin 1024) = q := Fin.ext hq'
  rfl

theorem final6 : (dats m 0 c).arrAt 6 cfg0.N = arr6 m c :=
  (dats m 0 c).arrAt_eq_of_cover 6 (arr6 m c) (fun t _ => flushed6_eq m c t) fun i => by
    have hi0 : (i 0).val < 16 := (i 0).isLt
    have hi1 : (i 1).val < 1024 := (i 1).isLt
    have hN : cfg0.N = 1 := N_0
    let t : Fin cfg0.N := ⟨(i 0).val / 16, by omega⟩
    obtain ⟨⟨e0, e1⟩, hf⟩ := index6 t
    refine ⟨t, hf, ?_⟩
    show i ∈ ((View.whole main_v97_2).slice (win0_6.rect t)).set
    rw [View.set_slice_whole, Rect.mem_set_unit]
    intro a
    match a with
    | ⟨0, _⟩ =>
      show win0_6.index t 0 * 16 ≤ (i 0).val ∧ (i 0).val < win0_6.index t 0 * 16 + 16
      rw [e0]; dsimp only [t]; omega
    | ⟨1, _⟩ => show win0_6.index t 1 * 1024 ≤ (i 1).val ∧ (i 1).val < win0_6.index t 1 * 1024 + 1024; rw [e1]; omega

theorem flushed7_eq (t : Fin cfg0.N) :
    (dats m 0 c).flushed 7 t = ((cfg0.win 7).blk t).view.read (Elt Ideal) (arr7 m c) := by
  obtain ⟨⟨e0, e1⟩, -⟩ := index7 t
  show (cfg0.win 7).cut (grid0.coords t) ((dats m 0 c).after 7 t) = _
  rw [after0_7]
  funext y
  have hp : (y 0).val < 16 := (y 0).isLt
  have hq : (y 1).val < 1024 := (y 1).isLt
  have hy : (cfg0.win 7).xinj (grid0.coords t) y = ix2 (⟨(y 0).val, hp⟩ : Fin 16) (⟨(y 1).val, hq⟩ : Fin 1024) := by
    funext a; apply Fin.ext
    match a with
    | ⟨0, _⟩ => rfl
    | ⟨1, _⟩ => rfl
  show (out0_7 (iblk m c 0 t) (iblk m c 1 t) (iblk m c 2 t) (iblk m c 3 t) ((cfg0.win 7).xinj (grid0.coords t) y) : EReal)
    = arr7 m c (((cfg0.win 7).blk t).view.emb y)
  have g0 : (((cfg0.win 7).blk t).view.emb y 0).val = win0_7.index t (0 : Fin 2) * 16 + 1 * (y 0).val := rfl
  have g1 : (((cfg0.win 7).blk t).view.emb y 1).val = win0_7.index t (1 : Fin 2) * 1024 + 1 * (y 1).val := rfl
  rw [hy, out7_apply]
  unfold arr7
  generalize ((cfg0.win 7).blk t).view.emb y = j at g0 g1
  have hr : (j 0).val = 16 * t.val + (⟨(y 0).val, hp⟩ : Fin 16).val := by rw [g0, e0]; dsimp only; omega
  have hq' : (j 1).val = (⟨(y 1).val, hq⟩ : Fin 1024).val := by rw [g1, e1]; dsimp only; omega
  generalize (⟨(y 1).val, hq⟩ : Fin 1024) = q at hq' ⊢
  rw [blk3 m c t _ _ _ hr]
  rw [funext fun s => blk0 m c t _ _ s _ hr]
  obtain rfl : (j 1 : Fin 1024) = q := Fin.ext hq'
  rfl

theorem final7 : (dats m 0 c).arrAt 7 cfg0.N = arr7 m c :=
  (dats m 0 c).arrAt_eq_of_cover 7 (arr7 m c) (fun t _ => flushed7_eq m c t) fun i => by
    have hi0 : (i 0).val < 16 := (i 0).isLt
    have hi1 : (i 1).val < 1024 := (i 1).isLt
    have hN : cfg0.N = 1 := N_0
    let t : Fin cfg0.N := ⟨(i 0).val / 16, by omega⟩
    obtain ⟨⟨e0, e1⟩, hf⟩ := index7 t
    refine ⟨t, hf, ?_⟩
    show i ∈ ((View.whole main_v97_3).slice (win0_7.rect t)).set
    rw [View.set_slice_whole, Rect.mem_set_unit]
    intro a
    match a with
    | ⟨0, _⟩ =>
      show win0_7.index t 0 * 16 ≤ (i 0).val ∧ (i 0).val < win0_7.index t 0 * 16 + 16
      rw [e0]; dsimp only [t]; omega
    | ⟨1, _⟩ => show win0_7.index t 1 * 1024 ≤ (i 1).val ∧ (i 1).val < win0_7.index t 1 * 1024 + 1024; rw [e1]; omega

end Cert.AdamSmallIdeal.Arrays

end
-- ==== Proof.AdamSet.lean ====
/-
  Writing a block of an array: an array with a block set to new values, read at one place, is the new value inside the
  block and the old one outside. Stated for the blocks that pack the replicated vectors into rows.
-/
module

public import proofs.«01_k».proof.AdamSmallIdeal
public import Idealize.ShloMosaic.Lib.Pointwise
public import Idealize.ShloMosaic.Lib.Routing.OpsOrder

@[expose] public section

set_option maxRecDepth 16384

noncomputable section

open Idealize.ShloMosaic

namespace Cert.AdamSet

section General
variable {α : Type} {s si u : Shape} {w : Nat} (d : ScatterDims s si u) (x : s.Idx → α) (idx : IVec si w) (upd : u.Idx → α)

/-- The writing read at one place: the last element of the block that lands there. -/
theorem scatter_at (i : s.Idx) : Host.scatter d (fun _ b => b) x idx upd i
    = (List.finRange u.numel).foldl
        (fun a n => if d.resultIdx? (u.rowMajor.symm n) idx = some i then upd (u.rowMajor.symm n) else a) (x i) :=
  Routing.scatterIn_at (List.finRange u.numel) d (fun _ b => b) x idx upd i

/-- Outside the block the old value stays. -/
theorem set_miss (i : s.Idx) (h : ∀ j, d.resultIdx? j idx ≠ some i) : Host.scatter d (fun _ b => b) x idx upd i = x i := by
  rw [scatter_at]
  generalize List.finRange u.numel = L
  generalize x i = a
  induction L with
  | nil => rfl
  | cons n L ih => rw [List.foldl_cons, if_neg (h _)]; exact ih

/-- Inside it the new value stands. -/
theorem set_hit (i : s.Idx) (j : u.Idx) (h : ∀ j', d.resultIdx? j' idx = some i ↔ j' = j) :
    Host.scatter d (fun _ b => b) x idx upd i = upd j := by
  rw [scatter_at]
  have key : ∀ (L : List (Fin u.numel)) (a : α), u.rowMajor j ∈ L ∨ a = upd j →
      L.foldl (fun a n => if d.resultIdx? (u.rowMajor.symm n) idx = some i then upd (u.rowMajor.symm n) else a) a = upd j := by
    intro L
    induction L with
    | nil => intro a ha; rcases ha with ha | ha; · cases ha
             · exact ha
    | cons n L ih =>
      intro a ha
      rw [List.foldl_cons]
      apply ih
      by_cases e : u.rowMajor.symm n = j
      · right; rw [if_pos ((h _).2 e), e]
      · rw [if_neg fun q => e ((h _).1 q)]
        rcases ha with ha | ha
        · rcases List.mem_cons.1 ha with ha | ha
          · exact absurd (by rw [← ha]; exact Equiv.symm_apply_apply _ _) e
          · left; exact ha
        · right; exact ha
  exact key _ _ (Or.inl (List.mem_finRange _))

/-- Where an element of the block lands, from its start and its place in the block. -/
theorem lands (j : u.Idx) (i : s.Idx) (h : ∀ a, d.start j idx a + d.window j a = ((i a).val : Int)) : d.resultIdx? j idx = some i := by
  unfold ScatterDims.resultIdx?
  have h' : ∀ a, 0 ≤ d.start j idx a + d.window j a ∧ d.start j idx a + d.window j a < s.size a := fun a => by
    rw [h a]; have := (i a).isLt; omega
  rw [dif_pos h']
  congr 1
  funext a; apply Fin.ext
  show (d.start j idx a + d.window j a).toNat = (i a).val
  rw [h a]; rfl

/-- The block read at one place, from where its elements land. -/
theorem set_at (e : u.Idx → s.Idx) (he : Function.Injective e) (h : ∀ j a, d.start j idx a + d.window j a = ((e j a).val : Int)) :
    (∀ j, Host.scatter d (fun _ b => b) x idx upd (e j) = upd j)
    ∧ ∀ i, (∀ j, e j ≠ i) → Host.scatter d (fun _ b => b) x idx upd i = x i :=
  ⟨fun j => set_hit d x idx upd _ j fun j' => by
      rw [lands d idx j' _ (h j')]
      exact ⟨fun q => he (Option.some.inj q), fun q => by rw [q]⟩,
   fun i hi => set_miss d x idx upd i fun j => by
      rw [lands d idx j _ (h j)]
      exact fun q => hi j (Option.some.inj q)⟩
end General

open Cert.AdamSmallIdeal

variable [Facts₀]

theorem part1024 {α : Type} (x : S8x16x1024.Idx → α) (idx : IVec S1 32) (upd : S8x1024.Idx → α) (r : Fin 16)
    (h0 : (idx (ix1 0)).toInt = r.val) (s : Fin 8) (p : Fin 16) (q : Fin 1024) :
    Host.scatter scatter_S8x16x1024_S1_S8x1024_01_1_1_0 (fun _ b => b) x idx upd (ix3 s p q)
      = if h : p = r ∧ q.val < 1024 then upd (ix2 s ⟨q.val, h.2⟩) else x (ix3 s p q) := by
  obtain ⟨hit, miss⟩ := set_at scatter_S8x16x1024_S1_S8x1024_01_1_1_0 x idx upd
    (fun j => (ix3 (⟨(j 0).val, (j 0).isLt⟩ : Fin 8) r (⟨(j 1).val, lt_of_lt_of_le (show (j 1).val < 1024 from (j 1).isLt) (by decide)⟩ : Fin 1024) : S8x16x1024.Idx))
    (fun j j' q => by
    have h0' := congrArg (fun z => (z (0 : Fin 3)).val) q
    have h2' := congrArg (fun z => (z (2 : Fin 3)).val) q
    funext a; apply Fin.ext
    match a with
    | ⟨0, _⟩ => exact h0'
    | ⟨1, _⟩ => exact h2')
    (fun j a => by
      match a with
      | ⟨0, _⟩ => show (0 : Int) + _ = _; exact zero_add _
      | ⟨1, _⟩ => show (idx _).toInt + (0 : Int) = _; rw [add_zero]; exact (congrArg (fun z => (idx z).toInt) (by funext b; match b with | ⟨0, _⟩ => rfl)).trans h0
      | ⟨2, _⟩ => show (0 : Int) + _ = _; exact zero_add _)
  by_cases h : p = r ∧ q.val < 1024
  · obtain ⟨rfl, hq⟩ := h
    rw [dif_pos ⟨rfl, hq⟩, ← hit (ix2 s ⟨q.val, hq⟩)]
    rfl
  · rw [dif_neg h]
    refine miss _ fun j e => h ⟨?_, ?_⟩
    · exact (congrFun e (1 : Fin 3)).symm
    · have := congrArg (fun z => (z (2 : Fin 3)).val) e
      have hl := (j 1).isLt
      exact (show (j 1).val = q.val from this) ▸ hl

theorem part128 {α : Type} (x : S8x16x1024.Idx → α) (idx : IVec S2 32) (upd : S8x128.Idx → α) (r : Fin 16)
    (h0 : (idx (ix1 0)).toInt = r.val) (h1 : (idx (ix1 1)).toInt = 0) (s : Fin 8) (p : Fin 16) (q : Fin 1024) :
    Host.scatter scatter_S8x16x1024_S2_S8x128_01_1_12_0 (fun _ b => b) x idx upd (ix3 s p q)
      = if h : p = r ∧ q.val < 128 then upd (ix2 s ⟨q.val, h.2⟩) else x (ix3 s p q) := by
  obtain ⟨hit, miss⟩ := set_at scatter_S8x16x1024_S2_S8x128_01_1_12_0 x idx upd
    (fun j => (ix3 (⟨(j 0).val, (j 0).isLt⟩ : Fin 8) r (⟨(j 1).val, lt_of_lt_of_le (show (j 1).val < 128 from (j 1).isLt) (by decide)⟩ : Fin 1024) : S8x16x1024.Idx))
    (fun j j' q => by
    have h0' := congrArg (fun z => (z (0 : Fin 3)).val) q
    have h2' := congrArg (fun z => (z (2 : Fin 3)).val) q
    funext a; apply Fin.ext
    match a with
    | ⟨0, _⟩ => exact h0'
    | ⟨1, _⟩ => exact h2')
    (fun j a => by
      match a with
      | ⟨0, _⟩ => show (0 : Int) + _ = _; exact zero_add _
      | ⟨1, _⟩ => show (idx _).toInt + (0 : Int) = _; rw [add_zero]; exact (congrArg (fun z => (idx z).toInt) (by funext b; match b with | ⟨0, _⟩ => rfl)).trans h0
      | ⟨2, _⟩ => show (idx _).toInt + _ = _; rw [(congrArg (fun z => (idx z).toInt) (by funext b; match b with | ⟨0, _⟩ => rfl)).trans h1, zero_add]; rfl)
  by_cases h : p = r ∧ q.val < 128
  · obtain ⟨rfl, hq⟩ := h
    rw [dif_pos ⟨rfl, hq⟩, ← hit (ix2 s ⟨q.val, hq⟩)]
    rfl
  · rw [dif_neg h]
    refine miss _ fun j e => h ⟨?_, ?_⟩
    · exact (congrFun e (1 : Fin 3)).symm
    · have := congrArg (fun z => (z (2 : Fin 3)).val) e
      have hl := (j 1).isLt
      exact (show (j 1).val = q.val from this) ▸ hl

theorem part8 {α : Type} (x : S8x16x1024.Idx → α) (idx : IVec S2 32) (upd : S8x8.Idx → α) (r : Fin 16)
    (h0 : (idx (ix1 0)).toInt = r.val) (h1 : (idx (ix1 1)).toInt = 0) (s : Fin 8) (p : Fin 16) (q : Fin 1024) :
    Host.scatter scatter_S8x16x1024_S2_S8x8_01_1_12_0 (fun _ b => b) x idx upd (ix3 s p q)
      = if h : p = r ∧ q.val < 8 then upd (ix2 s ⟨q.val, h.2⟩) else x (ix3 s p q) := by
  obtain ⟨hit, miss⟩ := set_at scatter_S8x16x1024_S2_S8x8_01_1_12_0 x idx upd
    (fun j => (ix3 (⟨(j 0).val, (j 0).isLt⟩ : Fin 8) r (⟨(j 1).val, lt_of_lt_of_le (show (j 1).val < 8 from (j 1).isLt) (by decide)⟩ : Fin 1024) : S8x16x1024.Idx))
    (fun j j' q => by
    have h0' := congrArg (fun z => (z (0 : Fin 3)).val) q
    have h2' := congrArg (fun z => (z (2 : Fin 3)).val) q
    funext a; apply Fin.ext
    match a with
    | ⟨0, _⟩ => exact h0'
    | ⟨1, _⟩ => exact h2')
    (fun j a => by
      match a with
      | ⟨0, _⟩ => show (0 : Int) + _ = _; exact zero_add _
      | ⟨1, _⟩ => show (idx _).toInt + (0 : Int) = _; rw [add_zero]; exact (congrArg (fun z => (idx z).toInt) (by funext b; match b with | ⟨0, _⟩ => rfl)).trans h0
      | ⟨2, _⟩ => show (idx _).toInt + _ = _; rw [(congrArg (fun z => (idx z).toInt) (by funext b; match b with | ⟨0, _⟩ => rfl)).trans h1, zero_add]; rfl)
  by_cases h : p = r ∧ q.val < 8
  · obtain ⟨rfl, hq⟩ := h
    rw [dif_pos ⟨rfl, hq⟩, ← hit (ix2 s ⟨q.val, hq⟩)]
    rfl
  · rw [dif_neg h]
    refine miss _ fun j e => h ⟨?_, ?_⟩
    · exact (congrFun e (1 : Fin 3)).symm
    · have := congrArg (fun z => (z (2 : Fin 3)).val) e
      have hl := (j 1).isLt
      exact (show (j 1).val = q.val from this) ▸ hl

theorem row1024 {α : Type} (x : S16x1024.Idx → α) (idx : IVec S1 32) (upd : S1024.Idx → α) (r : Fin 16)
    (h0 : (idx (ix1 0)).toInt = r.val) (p : Fin 16) (q : Fin 1024) :
    Host.scatter scatter_S16x1024_S1_S1024_0_0_0_0 (fun _ b => b) x idx upd (ix2 p q)
      = if h : p = r ∧ q.val < 1024 then upd (ix1 ⟨q.val, h.2⟩) else x (ix2 p q) := by
  obtain ⟨hit, miss⟩ := set_at scatter_S16x1024_S1_S1024_0_0_0_0 x idx upd
    (fun j => (ix2 r (⟨(j 0).val, lt_of_lt_of_le (show (j 0).val < 1024 from (j 0).isLt) (by decide)⟩ : Fin 1024) : S16x1024.Idx))
    (fun j j' q => by
    have h2' := congrArg (fun z => (z (1 : Fin 2)).val) q
    funext a; apply Fin.ext
    match a with
    | ⟨0, _⟩ => exact h2')
    (fun j a => by
      match a with
      | ⟨0, _⟩ => show (idx _).toInt + (0 : Int) = _; rw [add_zero]; exact (congrArg (fun z => (idx z).toInt) (by funext b; match b with | ⟨0, _⟩ => rfl)).trans h0
      | ⟨1, _⟩ => show (0 : Int) + _ = _; exact zero_add _)
  by_cases h : p = r ∧ q.val < 1024
  · obtain ⟨rfl, hq⟩ := h
    rw [dif_pos ⟨rfl, hq⟩, ← hit (ix1 ⟨q.val, hq⟩)]
    rfl
  · rw [dif_neg h]
    refine miss _ fun j e => h ⟨?_, ?_⟩
    · exact (congrFun e (0 : Fin 2)).symm
    · have := congrArg (fun z => (z (1 : Fin 2)).val) e
      have hl := (j 0).isLt
      exact (show (j 0).val = q.val from this) ▸ hl

theorem row128 {α : Type} (x : S16x1024.Idx → α) (idx : IVec S2 32) (upd : S128.Idx → α) (r : Fin 16)
    (h0 : (idx (ix1 0)).toInt = r.val) (h1 : (idx (ix1 1)).toInt = 0) (p : Fin 16) (q : Fin 1024) :
    Host.scatter scatter_S16x1024_S2_S128_0_0_01_0 (fun _ b => b) x idx upd (ix2 p q)
      = if h : p = r ∧ q.val < 128 then upd (ix1 ⟨q.val, h.2⟩) else x (ix2 p q) := by
  obtain ⟨hit, miss⟩ := set_at scatter_S16x1024_S2_S128_0_0_01_0 x idx upd
    (fun j => (ix2 r (⟨(j 0).val, lt_of_lt_of_le (show (j 0).val < 128 from (j 0).isLt) (by decide)⟩ : Fin 1024) : S16x1024.Idx))
    (fun j j' q => by
    have h2' := congrArg (fun z => (z (1 : Fin 2)).val) q
    funext a; apply Fin.ext
    match a with
    | ⟨0, _⟩ => exact h2')
    (fun j a => by
      match a with
      | ⟨0, _⟩ => show (idx _).toInt + (0 : Int) = _; rw [add_zero]; exact (congrArg (fun z => (idx z).toInt) (by funext b; match b with | ⟨0, _⟩ => rfl)).trans h0
      | ⟨1, _⟩ => show (idx _).toInt + _ = _; rw [(congrArg (fun z => (idx z).toInt) (by funext b; match b with | ⟨0, _⟩ => rfl)).trans h1, zero_add]; rfl)
  by_cases h : p = r ∧ q.val < 128
  · obtain ⟨rfl, hq⟩ := h
    rw [dif_pos ⟨rfl, hq⟩, ← hit (ix1 ⟨q.val, hq⟩)]
    rfl
  · rw [dif_neg h]
    refine miss _ fun j e => h ⟨?_, ?_⟩
    · exact (congrFun e (0 : Fin 2)).symm
    · have := congrArg (fun z => (z (1 : Fin 2)).val) e
      have hl := (j 0).isLt
      exact (show (j 0).val = q.val from this) ▸ hl

theorem row8 {α : Type} (x : S16x1024.Idx → α) (idx : IVec S2 32) (upd : S8.Idx → α) (r : Fin 16)
    (h0 : (idx (ix1 0)).toInt = r.val) (h1 : (idx (ix1 1)).toInt = 0) (p : Fin 16) (q : Fin 1024) :
    Host.scatter scatter_S16x1024_S2_S8_0_0_01_0 (fun _ b => b) x idx upd (ix2 p q)
      = if h : p = r ∧ q.val < 8 then upd (ix1 ⟨q.val, h.2⟩) else x (ix2 p q) := by
  obtain ⟨hit, miss⟩ := set_at scatter_S16x1024_S2_S8_0_0_01_0 x idx upd
    (fun j => (ix2 r (⟨(j 0).val, lt_of_lt_of_le (show (j 0).val < 8 from (j 0).isLt) (by decide)⟩ : Fin 1024) : S16x1024.Idx))
    (fun j j' q => by
    have h2' := congrArg (fun z => (z (1 : Fin 2)).val) q
    funext a; apply Fin.ext
    match a with
    | ⟨0, _⟩ => exact h2')
    (fun j a => by
      match a with
      | ⟨0, _⟩ => show (idx _).toInt + (0 : Int) = _; rw [add_zero]; exact (congrArg (fun z => (idx z).toInt) (by funext b; match b with | ⟨0, _⟩ => rfl)).trans h0
      | ⟨1, _⟩ => show (idx _).toInt + _ = _; rw [(congrArg (fun z => (idx z).toInt) (by funext b; match b with | ⟨0, _⟩ => rfl)).trans h1, zero_add]; rfl)
  by_cases h : p = r ∧ q.val < 8
  · obtain ⟨rfl, hq⟩ := h
    rw [dif_pos ⟨rfl, hq⟩, ← hit (ix1 ⟨q.val, hq⟩)]
    rfl
  · rw [dif_neg h]
    refine miss _ fun j e => h ⟨?_, ?_⟩
    · exact (congrFun e (0 : Fin 2)).symm
    · have := congrArg (fun z => (z (1 : Fin 2)).val) e
      have hl := (j 0).isLt
      exact (show (j 0).val = q.val from this) ▸ hl

theorem part1 {α : Type} (x : S8x16x1024.Idx → α) (idx : IVec S2 32) (upd : S8.Idx → α) (r : Fin 16)
    (h0 : (idx (ix1 0)).toInt = r.val) (h1 : (idx (ix1 1)).toInt = 0) (s : Fin 8) (p : Fin 16) (q : Fin 1024) :
    Host.scatter scatter_S8x16x1024_S2_S8_0_12_12_0 (fun _ b => b) x idx upd (ix3 s p q)
      = if p = r ∧ q.val = 0 then upd (ix1 s) else x (ix3 s p q) := by
  obtain ⟨hit, miss⟩ := set_at scatter_S8x16x1024_S2_S8_0_12_12_0 x idx upd
    (fun j => (ix3 (⟨(j 0).val, (j 0).isLt⟩ : Fin 8) r (0 : Fin 1024) : S8x16x1024.Idx))
    (fun j j' q => by
    have h2' := congrArg (fun z => (z (0 : Fin 3)).val) q
    funext a; apply Fin.ext
    match a with
    | ⟨0, _⟩ => exact h2')
    (fun j a => by
      match a with
      | ⟨0, _⟩ => show (0 : Int) + _ = _; exact zero_add _
      | ⟨1, _⟩ => show (idx _).toInt + (0 : Int) = _; rw [add_zero]; exact (congrArg (fun z => (idx z).toInt) (by funext b; match b with | ⟨0, _⟩ => rfl)).trans h0
      | ⟨2, _⟩ => show (idx _).toInt + (0 : Int) = _; rw [add_zero]; exact (congrArg (fun z => (idx z).toInt) (by funext b; match b with | ⟨0, _⟩ => rfl)).trans h1)
  by_cases h : p = r ∧ q.val = 0
  · rw [if_pos h, ← hit (ix1 s)]
    congr 1
    rw [h.1, show q = 0 from Fin.ext h.2]; rfl
  · rw [if_neg h]
    refine miss _ fun j e => h ⟨?_, ?_⟩
    · exact (congrFun e (1 : Fin 3)).symm
    · exact (congrArg (fun z => (z (2 : Fin 3)).val) e).symm

end Cert.AdamSet

end
-- ==== Proof.AdamSmallRows.lean ====
/-
  A packed array built row by row: what lands in a row, and what stays.
-/
module

public import proofs.«01_k».proof.Proof.AdamSet
public import Idealize.ShloMosaic.Lib.Pointwise

@[expose] public section

noncomputable section

open Idealize.ShloMosaic Idealize.ShloMosaic.TcCoe

namespace Cert.AdamSet

open Cert.AdamSmallIdeal

variable {α : Type} {n : Nat}

/-- Row `r` begins with the vector `x`; elsewhere the array is `rest`. -/
def rowOver (r : Fin 16) (x : (⟨1, ![n]⟩ : Shape).Idx → α) (rest : S16x1024.Idx → α) (p : Fin 16) (q : Fin 1024) : α :=
  if h : p = r ∧ q.val < n then x (ix1 ⟨q.val, h.2⟩) else rest (ix2 p q)

/-- Row `r` of each of the eight planes begins with that plane's row of `x`; elsewhere the array is `rest`. -/
def partOver (r : Fin 16) (x : (⟨2, ![8, n]⟩ : Shape).Idx → α) (rest : S8x16x1024.Idx → α) (s : Fin 8) (p : Fin 16) (q : Fin 1024) : α :=
  if h : p = r ∧ q.val < n then x (ix2 s ⟨q.val, h.2⟩) else rest (ix3 s p q)

/-- The first entry of row `r` of each plane is that plane's entry of `x`; elsewhere the array is `rest`. -/
def oneOver (r : Fin 16) (x : S8.Idx → α) (rest : S8x16x1024.Idx → α) (s : Fin 8) (p : Fin 16) (q : Fin 1024) : α :=
  if p = r ∧ q.val = 0 then x (ix1 s) else rest (ix3 s p q)

/-- A plane from its entries. -/
def fill2 (f : Fin 16 → Fin 1024 → α) : S16x1024.Idx → α := fun i => f (i 0) (i 1)

/-- Eight planes from their entries. -/
def fill3 (f : Fin 8 → Fin 16 → Fin 1024 → α) : S8x16x1024.Idx → α := fun i => f (i 0) (i 1) (i 2)

theorem rowOver_miss (r : Fin 16) (x : (⟨1, ![n]⟩ : Shape).Idx → α) (f : Fin 16 → Fin 1024 → α) {p : Fin 16} (q : Fin 1024) (h : p ≠ r) :
    rowOver r x (fill2 f) p q = f p q := dif_neg fun e => h e.1

theorem rowOver_hit (r : Fin 16) (x : (⟨1, ![n]⟩ : Shape).Idx → α) (rest : S16x1024.Idx → α) (q : Fin n) (hq : q.val < 1024) :
    rowOver r x rest r ⟨q.val, hq⟩ = x (ix1 q) := dif_pos ⟨rfl, q.isLt⟩

theorem partOver_miss (r : Fin 16) (x : (⟨2, ![8, n]⟩ : Shape).Idx → α) (f : Fin 8 → Fin 16 → Fin 1024 → α) (s : Fin 8) {p : Fin 16} (q : Fin 1024)
    (h : p ≠ r) : partOver r x (fill3 f) s p q = f s p q := dif_neg fun e => h e.1

theorem partOver_hit (r : Fin 16) (x : (⟨2, ![8, n]⟩ : Shape).Idx → α) (rest : S8x16x1024.Idx → α) (s : Fin 8) (q : Fin n) (hq : q.val < 1024) :
    partOver r x rest s r ⟨q.val, hq⟩ = x (ix2 s q) := dif_pos ⟨rfl, q.isLt⟩

theorem oneOver_miss (r : Fin 16) (x : S8.Idx → α) (f : Fin 8 → Fin 16 → Fin 1024 → α) (s : Fin 8) {p : Fin 16} (q : Fin 1024)
    (h : p ≠ r) : oneOver r x (fill3 f) s p q = f s p q := if_neg fun e => h e.1

theorem oneOver_hit (r : Fin 16) (x : S8.Idx → α) (rest : S8x16x1024.Idx → α) (s : Fin 8) :
    oneOver r x rest s r 0 = x (ix1 s) := if_pos ⟨rfl, rfl⟩

variable [Facts₀]

theorem over_row1024 {x : S16x1024.Idx → α} {idx : IVec S1 32} {upd : S1024.Idx → α} (r : Fin 16) {y : S1024.Idx → α} {f : Fin 16 → Fin 1024 → α}
    (h0 : (idx (ix1 0)).toInt = r.val) (hu : ∀ q, upd (ix1 q) = y (ix1 q)) (hx : ∀ p q, x (ix2 p q) = f p q) (p : Fin 16) (q : Fin 1024) :
    Host.scatter scatter_S16x1024_S1_S1024_0_0_0_0 (fun _ b => b) x idx upd (ix2 p q) = rowOver r y (fill2 f) p q :=
  (row1024 x idx upd r h0 p q).trans (dite_congr rfl (fun _ => hu _) fun _ => hx p q)

theorem over_row128 {x : S16x1024.Idx → α} {idx : IVec S2 32} {upd : S128.Idx → α} (r : Fin 16) {y : S128.Idx → α} {f : Fin 16 → Fin 1024 → α}
    (h0 : (idx (ix1 0)).toInt = r.val) (h1 : (idx (ix1 1)).toInt = 0) (hu : ∀ q, upd (ix1 q) = y (ix1 q)) (hx : ∀ p q, x (ix2 p q) = f p q) (p : Fin 16) (q : Fin 1024) :
    Host.scatter scatter_S16x1024_S2_S128_0_0_01_0 (fun _ b => b) x idx upd (ix2 p q) = rowOver r y (fill2 f) p q :=
  (row128 x idx upd r h0 h1 p q).trans (dite_congr rfl (fun _ => hu _) fun _ => hx p q)

theorem over_row8 {x : S16x1024.Idx → α} {idx : IVec S2 32} {upd : S8.Idx → α} (r : Fin 16) {y : S8.Idx → α} {f : Fin 16 → Fin 1024 → α}
    (h0 : (idx (ix1 0)).toInt = r.val) (h1 : (idx (ix1 1)).toInt = 0) (hu : ∀ q, upd (ix1 q) = y (ix1 q)) (hx : ∀ p q, x (ix2 p q) = f p q) (p : Fin 16) (q : Fin 1024) :
    Host.scatter scatter_S16x1024_S2_S8_0_0_01_0 (fun _ b => b) x idx upd (ix2 p q) = rowOver r y (fill2 f) p q :=
  (row8 x idx upd r h0 h1 p q).trans (dite_congr rfl (fun _ => hu _) fun _ => hx p q)

theorem over_part1024 {x : S8x16x1024.Idx → α} {idx : IVec S1 32} {upd : S8x1024.Idx → α} (r : Fin 16) {y : S8x1024.Idx → α}
    {f : Fin 8 → Fin 16 → Fin 1024 → α} (h0 : (idx (ix1 0)).toInt = r.val) (hu : ∀ s q, upd (ix2 s q) = y (ix2 s q))
    (hx : ∀ s p q, x (ix3 s p q) = f s p q) (s : Fin 8) (p : Fin 16) (q : Fin 1024) :
    Host.scatter scatter_S8x16x1024_S1_S8x1024_01_1_1_0 (fun _ b => b) x idx upd (ix3 s p q) = partOver r y (fill3 f) s p q :=
  (part1024 x idx upd r h0 s p q).trans (dite_congr rfl (fun _ => hu s _) fun _ => hx s p q)

theorem over_part128 {x : S8x16x1024.Idx → α} {idx : IVec S2 32} {upd : S8x128.Idx → α} (r : Fin 16) {y : S8x128.Idx → α}
    {f : Fin 8 → Fin 16 → Fin 1024 → α} (h0 : (idx (ix1 0)).toInt = r.val) (h1 : (idx (ix1 1)).toInt = 0) (hu : ∀ s q, upd (ix2 s q) = y (ix2 s q))
    (hx : ∀ s p q, x (ix3 s p q) = f s p q) (s : Fin 8) (p : Fin 16) (q : Fin 1024) :
    Host.scatter scatter_S8x16x1024_S2_S8x128_01_1_12_0 (fun _ b => b) x idx upd (ix3 s p q) = partOver r y (fill3 f) s p q :=
  (part128 x idx upd r h0 h1 s p q).trans (dite_congr rfl (fun _ => hu s _) fun _ => hx s p q)

theorem over_part8 {x : S8x16x1024.Idx → α} {idx : IVec S2 32} {upd : S8x8.Idx → α} (r : Fin 16) {y : S8x8.Idx → α}
    {f : Fin 8 → Fin 16 → Fin 1024 → α} (h0 : (idx (ix1 0)).toInt = r.val) (h1 : (idx (ix1 1)).toInt = 0) (hu : ∀ s q, upd (ix2 s q) = y (ix2 s q))
    (hx : ∀ s p q, x (ix3 s p q) = f s p q) (s : Fin 8) (p : Fin 16) (q : Fin 1024) :
    Host.scatter scatter_S8x16x1024_S2_S8x8_01_1_12_0 (fun _ b => b) x idx upd (ix3 s p q) = partOver r y (fill3 f) s p q :=
  (part8 x idx upd r h0 h1 s p q).trans (dite_congr rfl (fun _ => hu s _) fun _ => hx s p q)

theorem over_one {x : S8x16x1024.Idx → α} {idx : IVec S2 32} {upd : S8.Idx → α} (r : Fin 16) {y : S8.Idx → α}
    {f : Fin 8 → Fin 16 → Fin 1024 → α} (h0 : (idx (ix1 0)).toInt = r.val) (h1 : (idx (ix1 1)).toInt = 0) (hu : ∀ s, upd (ix1 s) = y (ix1 s))
    (hx : ∀ s p q, x (ix3 s p q) = f s p q) (s : Fin 8) (p : Fin 16) (q : Fin 1024) :
    Host.scatter scatter_S8x16x1024_S2_S8_0_12_12_0 (fun _ b => b) x idx upd (ix3 s p q) = oneOver r y (fill3 f) s p q :=
  (part1 x idx upd r h0 h1 s p q).trans (by unfold oneOver; rw [hu s]; split; · rfl
                                            · exact hx s p q)

end Cert.AdamSet

end
-- ==== Proof.AdamSmallEntry.lean ====
/-
  Where the packed weights and moments of the optimiser's call on the vectors come from: one vector in each row.
-/
module

public import proofs.«01_k».proof.Proof.AdamSmallArrays
public import proofs.«01_k».proof.Proof.AdamSmallRows
public import Idealize.ShloMosaic.Lib.StableHlo.ReadAt

@[expose] public section

set_option maxRecDepth 16384

noncomputable section

open Idealize.ShloMosaic Idealize.ShloMosaic.TcCoe Idealize.SL.Sem

namespace Cert.AdamSmallIdeal.Arrays

open Cert.AdamSmallIdeal Cert.AdamSmallIdeal.Gen

variable (m : (ℓ : Loc nD τ sig) → Buf (Elt Ideal) ℓ) (c : Dev nD)

theorem wgt_all (p : Fin 16) (q : Fin 1024) : V m c main_v50 (ix2 p q)
    = (AdamSet.rowOver 7 (m ((c : Thread nD τ).loc main_arg16)) (AdamSet.fill2 (AdamSet.rowOver 6 (m ((c : Thread nD τ).loc main_arg15)) (AdamSet.fill2 (AdamSet.rowOver 5 (m ((c : Thread nD τ).loc main_arg14)) (AdamSet.fill2 (AdamSet.rowOver 4 (m ((c : Thread nD τ).loc main_arg13)) (AdamSet.fill2 (AdamSet.rowOver 3 (m ((c : Thread nD τ).loc main_arg12)) (AdamSet.fill2 (AdamSet.rowOver 2 (m ((c : Thread nD τ).loc main_arg11)) (AdamSet.fill2 (AdamSet.rowOver 1 (m ((c : Thread nD τ).loc main_arg10)) (AdamSet.fill2 (AdamSet.rowOver 0 (m ((c : Thread nD τ).loc main_arg9)) (AdamSet.fill2 (fun _ _ => (0 : EReal)))))))))))))))))) p q := by
  show StableHlo.after _ _ (Proc.devRef .tc main_v50) (ix2 p q) = _
  simp only [hostOps0, List.flatten_cons, List.flatten_nil, List.append_nil]
  after_reads_at
  refine AdamSet.over_row8 7 ?_ ?_ ?_ ?_ p q
  · after_reads_at
    rfl
  · after_reads_at
    rfl
  · intro q
    after_reads_at
  intro p q
  try after_reads_at
  refine AdamSet.over_row8 6 ?_ ?_ ?_ ?_ p q
  · after_reads_at
    rfl
  · after_reads_at
    rfl
  · intro q
    after_reads_at
  intro p q
  try after_reads_at
  refine AdamSet.over_row128 5 ?_ ?_ ?_ ?_ p q
  · after_reads_at
    rfl
  · after_reads_at
    rfl
  · intro q
    after_reads_at
  intro p q
  try after_reads_at
  refine AdamSet.over_row1024 4 ?_ ?_ ?_ p q
  · rfl
  · intro q
    rfl
  intro p q
  try after_reads_at
  refine AdamSet.over_row1024 3 ?_ ?_ ?_ p q
  · rfl
  · intro q
    rfl
  intro p q
  try after_reads_at
  refine AdamSet.over_row1024 2 ?_ ?_ ?_ p q
  · rfl
  · intro q
    rfl
  intro p q
  try after_reads_at
  refine AdamSet.over_row1024 1 ?_ ?_ ?_ p q
  · rfl
  · intro q
    rfl
  intro p q
  try after_reads_at
  refine AdamSet.over_row1024 0 ?_ ?_ ?_ p q
  · rfl
  · intro q
    rfl
  intro p q
  try after_reads_at
  pointwise

theorem wgt_0 (q : Fin 1024) : wgt m c 0 ⟨q.val, by omega⟩ = (m ((c : Thread nD τ).loc main_arg9)) (ix1 q) :=
  (wgt_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem wgt_1 (q : Fin 1024) : wgt m c 1 ⟨q.val, by omega⟩ = (m ((c : Thread nD τ).loc main_arg10)) (ix1 q) :=
  (wgt_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem wgt_2 (q : Fin 1024) : wgt m c 2 ⟨q.val, by omega⟩ = (m ((c : Thread nD τ).loc main_arg11)) (ix1 q) :=
  (wgt_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem wgt_3 (q : Fin 1024) : wgt m c 3 ⟨q.val, by omega⟩ = (m ((c : Thread nD τ).loc main_arg12)) (ix1 q) :=
  (wgt_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_hit])

theorem wgt_4 (q : Fin 1024) : wgt m c 4 ⟨q.val, by omega⟩ = (m ((c : Thread nD τ).loc main_arg13)) (ix1 q) :=
  (wgt_all m c _ _).trans (by
    rw [AdamSet.rowOver_miss _ _ _ _ (by decide), AdamSet.rowOver_miss _ _ _ _ (by decide), AdamSet.rowOver_miss _ _ _ _ (by decide), AdamSet.rowOver_hit])

theorem wgt_5 (q : Fin 128) : wgt m c 5 ⟨q.val, by omega⟩ = (m ((c : Thread nD τ).loc main_arg14)) (ix1 q) :=
  (wgt_all m c _ _).trans (by
    rw [AdamSet.rowOver_miss _ _ _ _ (by decide), AdamSet.rowOver_miss _ _ _ _ (by decide), AdamSet.rowOver_hit])

theorem wgt_6 (q : Fin 8) : wgt m c 6 ⟨q.val, by omega⟩ = (m ((c : Thread nD τ).loc main_arg15)) (ix1 q) :=
  (wgt_all m c _ _).trans (by
    rw [AdamSet.rowOver_miss _ _ _ _ (by decide), AdamSet.rowOver_hit])

theorem wgt_7 (q : Fin 8) : wgt m c 7 ⟨q.val, by omega⟩ = (m ((c : Thread nD τ).loc main_arg16)) (ix1 q) :=
  (wgt_all m c _ _).trans (by
    rw [AdamSet.rowOver_hit])

theorem fst_all (p : Fin 16) (q : Fin 1024) : V m c main_v73 (ix2 p q)
    = (AdamSet.rowOver 7 (m ((c : Thread nD τ).loc main_arg24)) (AdamSet.fill2 (AdamSet.rowOver 6 (m ((c : Thread nD τ).loc main_arg23)) (AdamSet.fill2 (AdamSet.rowOver 5 (m ((c : Thread nD τ).loc main_arg22)) (AdamSet.fill2 (AdamSet.rowOver 4 (m ((c : Thread nD τ).loc main_arg21)) (AdamSet.fill2 (AdamSet.rowOver 3 (m ((c : Thread nD τ).loc main_arg20)) (AdamSet.fill2 (AdamSet.rowOver 2 (m ((c : Thread nD τ).loc main_arg19)) (AdamSet.fill2 (AdamSet.rowOver 1 (m ((c : Thread nD τ).loc main_arg18)) (AdamSet.fill2 (AdamSet.rowOver 0 (m ((c : Thread nD τ).loc main_arg17)) (AdamSet.fill2 (fun _ _ => (0 : EReal)))))))))))))))))) p q := by
  show StableHlo.after _ _ (Proc.devRef .tc main_v73) (ix2 p q) = _
  simp only [hostOps0, List.flatten_cons, List.flatten_nil, List.append_nil]
  after_reads_at
  refine AdamSet.over_row8 7 ?_ ?_ ?_ ?_ p q
  · after_reads_at
    rfl
  · after_reads_at
    rfl
  · intro q
    after_reads_at
  intro p q
  try after_reads_at
  refine AdamSet.over_row8 6 ?_ ?_ ?_ ?_ p q
  · after_reads_at
    rfl
  · after_reads_at
    rfl
  · intro q
    after_reads_at
  intro p q
  try after_reads_at
  refine AdamSet.over_row128 5 ?_ ?_ ?_ ?_ p q
  · after_reads_at
    rfl
  · after_reads_at
    rfl
  · intro q
    after_reads_at
  intro p q
  try after_reads_at
  refine AdamSet.over_row1024 4 ?_ ?_ ?_ p q
  · rfl
  · intro q
    rfl
  intro p q
  try after_reads_at
  refine AdamSet.over_row1024 3 ?_ ?_ ?_ p q
  · rfl
  · intro q
    rfl
  intro p q
  try after_reads_at
  refine AdamSet.over_row1024 2 ?_ ?_ ?_ p q
  · rfl
  · intro q
    rfl
  intro p q
  try after_reads_at
  refine AdamSet.over_row1024 1 ?_ ?_ ?_ p q
  · rfl
  · intro q
    rfl
  intro p q
  try after_reads_at
  refine AdamSet.over_row1024 0 ?_ ?_ ?_ p q
  · rfl
  · intro q
    rfl
  intro p q
  try after_reads_at
  pointwise

theorem fst_0 (q : Fin 1024) : fst m c 0 ⟨q.val, by omega⟩ = (m ((c : Thread nD τ).loc main_arg17)) (ix1 q) :=
  (fst_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem fst_1 (q : Fin 1024) : fst m c 1 ⟨q.val, by omega⟩ = (m ((c : Thread nD τ).loc main_arg18)) (ix1 q) :=
  (fst_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem fst_2 (q : Fin 1024) : fst m c 2 ⟨q.val, by omega⟩ = (m ((c : Thread nD τ).loc main_arg19)) (ix1 q) :=
  (fst_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem fst_3 (q : Fin 1024) : fst m c 3 ⟨q.val, by omega⟩ = (m ((c : Thread nD τ).loc main_arg20)) (ix1 q) :=
  (fst_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_hit])

theorem fst_4 (q : Fin 1024) : fst m c 4 ⟨q.val, by omega⟩ = (m ((c : Thread nD τ).loc main_arg21)) (ix1 q) :=
  (fst_all m c _ _).trans (by
    rw [AdamSet.rowOver_miss _ _ _ _ (by decide), AdamSet.rowOver_miss _ _ _ _ (by decide), AdamSet.rowOver_miss _ _ _ _ (by decide), AdamSet.rowOver_hit])

theorem fst_5 (q : Fin 128) : fst m c 5 ⟨q.val, by omega⟩ = (m ((c : Thread nD τ).loc main_arg22)) (ix1 q) :=
  (fst_all m c _ _).trans (by
    rw [AdamSet.rowOver_miss _ _ _ _ (by decide), AdamSet.rowOver_miss _ _ _ _ (by decide), AdamSet.rowOver_hit])

theorem fst_6 (q : Fin 8) : fst m c 6 ⟨q.val, by omega⟩ = (m ((c : Thread nD τ).loc main_arg23)) (ix1 q) :=
  (fst_all m c _ _).trans (by
    rw [AdamSet.rowOver_miss _ _ _ _ (by decide), AdamSet.rowOver_hit])

theorem fst_7 (q : Fin 8) : fst m c 7 ⟨q.val, by omega⟩ = (m ((c : Thread nD τ).loc main_arg24)) (ix1 q) :=
  (fst_all m c _ _).trans (by
    rw [AdamSet.rowOver_hit])

theorem snd_all (p : Fin 16) (q : Fin 1024) : V m c main_v96 (ix2 p q)
    = (AdamSet.rowOver 7 (m ((c : Thread nD τ).loc main_arg32)) (AdamSet.fill2 (AdamSet.rowOver 6 (m ((c : Thread nD τ).loc main_arg31)) (AdamSet.fill2 (AdamSet.rowOver 5 (m ((c : Thread nD τ).loc main_arg30)) (AdamSet.fill2 (AdamSet.rowOver 4 (m ((c : Thread nD τ).loc main_arg29)) (AdamSet.fill2 (AdamSet.rowOver 3 (m ((c : Thread nD τ).loc main_arg28)) (AdamSet.fill2 (AdamSet.rowOver 2 (m ((c : Thread nD τ).loc main_arg27)) (AdamSet.fill2 (AdamSet.rowOver 1 (m ((c : Thread nD τ).loc main_arg26)) (AdamSet.fill2 (AdamSet.rowOver 0 (m ((c : Thread nD τ).loc main_arg25)) (AdamSet.fill2 (fun _ _ => (0 : EReal)))))))))))))))))) p q := by
  show StableHlo.after _ _ (Proc.devRef .tc main_v96) (ix2 p q) = _
  simp only [hostOps0, List.flatten_cons, List.flatten_nil, List.append_nil]
  after_reads_at
  refine AdamSet.over_row8 7 ?_ ?_ ?_ ?_ p q
  · after_reads_at
    rfl
  · after_reads_at
    rfl
  · intro q
    after_reads_at
  intro p q
  try after_reads_at
  refine AdamSet.over_row8 6 ?_ ?_ ?_ ?_ p q
  · after_reads_at
    rfl
  · after_reads_at
    rfl
  · intro q
    after_reads_at
  intro p q
  try after_reads_at
  refine AdamSet.over_row128 5 ?_ ?_ ?_ ?_ p q
  · after_reads_at
    rfl
  · after_reads_at
    rfl
  · intro q
    after_reads_at
  intro p q
  try after_reads_at
  refine AdamSet.over_row1024 4 ?_ ?_ ?_ p q
  · rfl
  · intro q
    rfl
  intro p q
  try after_reads_at
  refine AdamSet.over_row1024 3 ?_ ?_ ?_ p q
  · rfl
  · intro q
    rfl
  intro p q
  try after_reads_at
  refine AdamSet.over_row1024 2 ?_ ?_ ?_ p q
  · rfl
  · intro q
    rfl
  intro p q
  try after_reads_at
  refine AdamSet.over_row1024 1 ?_ ?_ ?_ p q
  · rfl
  · intro q
    rfl
  intro p q
  try after_reads_at
  refine AdamSet.over_row1024 0 ?_ ?_ ?_ p q
  · rfl
  · intro q
    rfl
  intro p q
  try after_reads_at
  pointwise

theorem snd_0 (q : Fin 1024) : snd m c 0 ⟨q.val, by omega⟩ = (m ((c : Thread nD τ).loc main_arg25)) (ix1 q) :=
  (snd_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem snd_1 (q : Fin 1024) : snd m c 1 ⟨q.val, by omega⟩ = (m ((c : Thread nD τ).loc main_arg26)) (ix1 q) :=
  (snd_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem snd_2 (q : Fin 1024) : snd m c 2 ⟨q.val, by omega⟩ = (m ((c : Thread nD τ).loc main_arg27)) (ix1 q) :=
  (snd_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_miss _ _ _ _ (by decide), AdamSet.rowOver_hit])

theorem snd_3 (q : Fin 1024) : snd m c 3 ⟨q.val, by omega⟩ = (m ((c : Thread nD τ).loc main_arg28)) (ix1 q) :=
  (snd_all m c _ _).trans (by
    rw [AdamSet.rowOver_miss _ _ _ _ (by decide), AdamSet.rowOver_miss _ _ _ _ (by decide), AdamSet.rowOver_miss _ _ _ _ (by decide), AdamSet.rowOver_miss _ _ _ _ (by decide), AdamSet.rowOver_hit])

theorem snd_4 (q : Fin 1024) : snd m c 4 ⟨q.val, by omega⟩ = (m ((c : Thread nD τ).loc main_arg29)) (ix1 q) :=
  (snd_all m c _ _).trans (by
    rw [AdamSet.rowOver_miss _ _ _ _ (by decide), AdamSet.rowOver_miss _ _ _ _ (by decide), AdamSet.rowOver_miss _ _ _ _ (by decide), AdamSet.rowOver_hit])

theorem snd_5 (q : Fin 128) : snd m c 5 ⟨q.val, by omega⟩ = (m ((c : Thread nD τ).loc main_arg30)) (ix1 q) :=
  (snd_all m c _ _).trans (by
    rw [AdamSet.rowOver_miss _ _ _ _ (by decide), AdamSet.rowOver_miss _ _ _ _ (by decide), AdamSet.rowOver_hit])

theorem snd_6 (q : Fin 8) : snd m c 6 ⟨q.val, by omega⟩ = (m ((c : Thread nD τ).loc main_arg31)) (ix1 q) :=
  (snd_all m c _ _).trans (by
    rw [AdamSet.rowOver_miss _ _ _ _ (by decide), AdamSet.rowOver_hit])

theorem snd_7 (q : Fin 8) : snd m c 7 ⟨q.val, by omega⟩ = (m ((c : Thread nD τ).loc main_arg32)) (ix1 q) :=
  (snd_all m c _ _).trans (by
    rw [AdamSet.rowOver_hit])

end Cert.AdamSmallIdeal.Arrays

end
-- ==== Proof.AdamSmallParts.lean ====
/-
  Where the packed gradients of the optimiser's call on the vectors come from: one vector in each row, then the losses.
-/
module

public import proofs.«01_k».proof.Proof.AdamSmallArrays
public import proofs.«01_k».proof.Proof.AdamSmallRows
public import Idealize.ShloMosaic.Lib.StableHlo.ReadAt

@[expose] public section

set_option maxRecDepth 16384

noncomputable section

open Idealize.ShloMosaic Idealize.ShloMosaic.TcCoe Idealize.SL.Sem

namespace Cert.AdamSmallIdeal.Arrays

open Cert.AdamSmallIdeal Cert.AdamSmallIdeal.Gen

variable (m : (ℓ : Loc nD τ sig) → Buf (Elt Ideal) ℓ) (c : Dev nD)

theorem part_all (s : Fin 8) (p : Fin 16) (q : Fin 1024) : V m c main_v27 (ix3 s p q)
    = (AdamSet.oneOver 8 (m ((c : Thread nD τ).loc main_arg0)) (AdamSet.fill3 (AdamSet.partOver 7 (m ((c : Thread nD τ).loc main_arg8)) (AdamSet.fill3 (AdamSet.partOver 6 (m ((c : Thread nD τ).loc main_arg7)) (AdamSet.fill3 (AdamSet.partOver 5 (m ((c : Thread nD τ).loc main_arg6)) (AdamSet.fill3 (AdamSet.partOver 4 (m ((c : Thread nD τ).loc main_arg5)) (AdamSet.fill3 (AdamSet.partOver 3 (m ((c : Thread nD τ).loc main_arg4)) (AdamSet.fill3 (AdamSet.partOver 2 (m ((c : Thread nD τ).loc main_arg3)) (AdamSet.fill3 (AdamSet.partOver 1 (m ((c : Thread nD τ).loc main_arg2)) (AdamSet.fill3 (AdamSet.partOver 0 (m ((c : Thread nD τ).loc main_arg1)) (AdamSet.fill3 (fun _ _ _ => (0 : EReal)))))))))))))))))))) s p q := by
  show StableHlo.after _ _ (Proc.devRef .tc main_v27) (ix3 s p q) = _
  simp only [hostOps0, List.flatten_cons, List.flatten_nil, List.append_nil]
  after_reads_at
  refine AdamSet.over_one 8 ?_ ?_ ?_ ?_ s p q
  · after_reads_at
    rfl
  · after_reads_at
    rfl
  · intro s
    after_reads_at
  intro s p q
  try after_reads_at
  refine AdamSet.over_part8 7 ?_ ?_ ?_ ?_ s p q
  · after_reads_at
    rfl
  · after_reads_at
    rfl
  · intro s q
    after_reads_at
  intro s p q
  try after_reads_at
  refine AdamSet.over_part8 6 ?_ ?_ ?_ ?_ s p q
  · after_reads_at
    rfl
  · after_reads_at
    rfl
  · intro s q
    after_reads_at
  intro s p q
  try after_reads_at
  refine AdamSet.over_part128 5 ?_ ?_ ?_ ?_ s p q
  · after_reads_at
    rfl
  · after_reads_at
    rfl
  · intro s q
    after_reads_at
  intro s p q
  try after_reads_at
  refine AdamSet.over_part1024 4 ?_ ?_ ?_ s p q
  · rfl
  · intro s q
    rfl
  intro s p q
  try after_reads_at
  refine AdamSet.over_part1024 3 ?_ ?_ ?_ s p q
  · rfl
  · intro s q
    rfl
  intro s p q
  try after_reads_at
  refine AdamSet.over_part1024 2 ?_ ?_ ?_ s p q
  · rfl
  · intro s q
    rfl
  intro s p q
  try after_reads_at
  refine AdamSet.over_part1024 1 ?_ ?_ ?_ s p q
  · rfl
  · intro s q
    rfl
  intro s p q
  try after_reads_at
  refine AdamSet.over_part1024 0 ?_ ?_ ?_ s p q
  · rfl
  · intro s q
    rfl
  intro s p q
  try after_reads_at
  pointwise

theorem part_0 (q : Fin 1024) (s : Fin 8) : part m c 0 ⟨q.val, by omega⟩ s = (m ((c : Thread nD τ).loc main_arg1)) (ix2 s q) :=
  (part_all m c s _ _).trans (by
    rw [AdamSet.oneOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_hit])

theorem part_1 (q : Fin 1024) (s : Fin 8) : part m c 1 ⟨q.val, by omega⟩ s = (m ((c : Thread nD τ).loc main_arg2)) (ix2 s q) :=
  (part_all m c s _ _).trans (by
    rw [AdamSet.oneOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_hit])

theorem part_2 (q : Fin 1024) (s : Fin 8) : part m c 2 ⟨q.val, by omega⟩ s = (m ((c : Thread nD τ).loc main_arg3)) (ix2 s q) :=
  (part_all m c s _ _).trans (by
    rw [AdamSet.oneOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_hit])

theorem part_3 (q : Fin 1024) (s : Fin 8) : part m c 3 ⟨q.val, by omega⟩ s = (m ((c : Thread nD τ).loc main_arg4)) (ix2 s q) :=
  (part_all m c s _ _).trans (by
    rw [AdamSet.oneOver_miss _ _ _ _ _ (by decide), AdamSet.partOver_miss _ _ _ _ _ (by decide), AdamSet.partOver_miss _ _ _ _ _ (by decide), AdamSet.partOver_miss _ _ _ _ _ (by decide), AdamSet.partOver_miss _ _ _ _ _ (by decide), AdamSet.partOver_hit])

theorem part_4 (q : Fin 1024) (s : Fin 8) : part m c 4 ⟨q.val, by omega⟩ s = (m ((c : Thread nD τ).loc main_arg5)) (ix2 s q) :=
  (part_all m c s _ _).trans (by
    rw [AdamSet.oneOver_miss _ _ _ _ _ (by decide), AdamSet.partOver_miss _ _ _ _ _ (by decide), AdamSet.partOver_miss _ _ _ _ _ (by decide), AdamSet.partOver_miss _ _ _ _ _ (by decide), AdamSet.partOver_hit])

theorem part_5 (q : Fin 128) (s : Fin 8) : part m c 5 ⟨q.val, by omega⟩ s = (m ((c : Thread nD τ).loc main_arg6)) (ix2 s q) :=
  (part_all m c s _ _).trans (by
    rw [AdamSet.oneOver_miss _ _ _ _ _ (by decide), AdamSet.partOver_miss _ _ _ _ _ (by decide), AdamSet.partOver_miss _ _ _ _ _ (by decide), AdamSet.partOver_hit])

theorem part_6 (q : Fin 8) (s : Fin 8) : part m c 6 ⟨q.val, by omega⟩ s = (m ((c : Thread nD τ).loc main_arg7)) (ix2 s q) :=
  (part_all m c s _ _).trans (by
    rw [AdamSet.oneOver_miss _ _ _ _ _ (by decide), AdamSet.partOver_miss _ _ _ _ _ (by decide), AdamSet.partOver_hit])

theorem part_7 (q : Fin 8) (s : Fin 8) : part m c 7 ⟨q.val, by omega⟩ s = (m ((c : Thread nD τ).loc main_arg8)) (ix2 s q) :=
  (part_all m c s _ _).trans (by
    rw [AdamSet.oneOver_miss _ _ _ _ _ (by decide), AdamSet.partOver_hit])

theorem part_8 (s : Fin 8) : part m c 8 0 s = (m ((c : Thread nD τ).loc main_arg0)) (ix1 s) :=
  (part_all m c s _ _).trans (AdamSet.oneOver_hit _ _ _ _)

end Cert.AdamSmallIdeal.Arrays

end
-- ==== Proof.AdamSmallTail.lean ====
/-
  What the lines after the optimiser's call on the vectors read: each result is the beginning of a row.
-/
module

public import proofs.«01_k».proof.Proof.AdamSmallArrays
public import Idealize.ShloMosaic.Lib.StableHlo.ReadAt

@[expose] public section

set_option maxRecDepth 16384

noncomputable section

open Idealize.ShloMosaic Idealize.ShloMosaic.TcCoe Idealize.SL.Sem

namespace Cert.AdamSmallIdeal.Arrays

open Cert.AdamSmallIdeal Cert.AdamSmallIdeal.Gen

theorem tail_main_v99 (W : Valuation τ sig (Elt Ideal)) (i : S_.Idx) :
    StableHlo.after (List.flatten [hostOps1]) W (Proc.devRef .tc main_v99) i = W (Proc.devRef .tc main_v97_0) (ix2 8 0) := by
  simp only [hostOps1, List.flatten_cons, List.flatten_nil, List.append_nil]
  after_reads_at

theorem tail_main_v101 (W : Valuation τ sig (Elt Ideal)) (q : Fin 1024) :
    StableHlo.after (List.flatten [hostOps1]) W (Proc.devRef .tc main_v101) (ix1 q)
      = W (Proc.devRef .tc main_v97_0) (ix2 0 ⟨q.val, by omega⟩) := by
  simp only [hostOps1, List.flatten_cons, List.flatten_nil, List.append_nil]
  after_reads_at

theorem tail_main_v103 (W : Valuation τ sig (Elt Ideal)) (q : Fin 1024) :
    StableHlo.after (List.flatten [hostOps1]) W (Proc.devRef .tc main_v103) (ix1 q)
      = W (Proc.devRef .tc main_v97_0) (ix2 1 ⟨q.val, by omega⟩) := by
  simp only [hostOps1, List.flatten_cons, List.flatten_nil, List.append_nil]
  after_reads_at

theorem tail_main_v105 (W : Valuation τ sig (Elt Ideal)) (q : Fin 1024) :
    StableHlo.after (List.flatten [hostOps1]) W (Proc.devRef .tc main_v105) (ix1 q)
      = W (Proc.devRef .tc main_v97_0) (ix2 2 ⟨q.val, by omega⟩) := by
  simp only [hostOps1, List.flatten_cons, List.flatten_nil, List.append_nil]
  after_reads_at

theorem tail_main_v107 (W : Valuation τ sig (Elt Ideal)) (q : Fin 1024) :
    StableHlo.after (List.flatten [hostOps1]) W (Proc.devRef .tc main_v107) (ix1 q)
      = W (Proc.devRef .tc main_v97_0) (ix2 3 ⟨q.val, by omega⟩) := by
  simp only [hostOps1, List.flatten_cons, List.flatten_nil, List.append_nil]
  after_reads_at

theorem tail_main_v109 (W : Valuation τ sig (Elt Ideal)) (q : Fin 1024) :
    StableHlo.after (List.flatten [hostOps1]) W (Proc.devRef .tc main_v109) (ix1 q)
      = W (Proc.devRef .tc main_v97_0) (ix2 4 ⟨q.val, by omega⟩) := by
  simp only [hostOps1, List.flatten_cons, List.flatten_nil, List.append_nil]
  after_reads_at

theorem tail_main_v111 (W : Valuation τ sig (Elt Ideal)) (q : Fin 128) :
    StableHlo.after (List.flatten [hostOps1]) W (Proc.devRef .tc main_v111) (ix1 q)
      = W (Proc.devRef .tc main_v97_0) (ix2 5 ⟨q.val, by omega⟩) := by
  simp only [hostOps1, List.flatten_cons, List.flatten_nil, List.append_nil]
  after_reads_at

theorem tail_main_v113 (W : Valuation τ sig (Elt Ideal)) (q : Fin 8) :
    StableHlo.after (List.flatten [hostOps1]) W (Proc.devRef .tc main_v113) (ix1 q)
      = W (Proc.devRef .tc main_v97_0) (ix2 6 ⟨q.val, by omega⟩) := by
  simp only [hostOps1, List.flatten_cons, List.flatten_nil, List.append_nil]
  after_reads_at

theorem tail_main_v115 (W : Valuation τ sig (Elt Ideal)) (q : Fin 8) :
    StableHlo.after (List.flatten [hostOps1]) W (Proc.devRef .tc main_v115) (ix1 q)
      = W (Proc.devRef .tc main_v97_0) (ix2 7 ⟨q.val, by omega⟩) := by
  simp only [hostOps1, List.flatten_cons, List.flatten_nil, List.append_nil]
  after_reads_at

theorem tail_main_v117 (W : Valuation τ sig (Elt Ideal)) (q : Fin 1024) :
    StableHlo.after (List.flatten [hostOps1]) W (Proc.devRef .tc main_v117) (ix1 q)
      = W (Proc.devRef .tc main_v97_1) (ix2 0 ⟨q.val, by omega⟩) := by
  simp only [hostOps1, List.flatten_cons, List.flatten_nil, List.append_nil]
  after_reads_at

theorem tail_main_v119 (W : Valuation τ sig (Elt Ideal)) (q : Fin 1024) :
    StableHlo.after (List.flatten [hostOps1]) W (Proc.devRef .tc main_v119) (ix1 q)
      = W (Proc.devRef .tc main_v97_1) (ix2 1 ⟨q.val, by omega⟩) := by
  simp only [hostOps1, List.flatten_cons, List.flatten_nil, List.append_nil]
  after_reads_at

theorem tail_main_v121 (W : Valuation τ sig (Elt Ideal)) (q : Fin 1024) :
    StableHlo.after (List.flatten [hostOps1]) W (Proc.devRef .tc main_v121) (ix1 q)
      = W (Proc.devRef .tc main_v97_1) (ix2 2 ⟨q.val, by omega⟩) := by
  simp only [hostOps1, List.flatten_cons, List.flatten_nil, List.append_nil]
  after_reads_at

theorem tail_main_v123 (W : Valuation τ sig (Elt Ideal)) (q : Fin 1024) :
    StableHlo.after (List.flatten [hostOps1]) W (Proc.devRef .tc main_v123) (ix1 q)
      = W (Proc.devRef .tc main_v97_1) (ix2 3 ⟨q.val, by omega⟩) := by
  simp only [hostOps1, List.flatten_cons, List.flatten_nil, List.append_nil]
  after_reads_at

theorem tail_main_v125 (W : Valuation τ sig (Elt Ideal)) (q : Fin 1024) :
    StableHlo.after (List.flatten [hostOps1]) W (Proc.devRef .tc main_v125) (ix1 q)
      = W (Proc.devRef .tc main_v97_1) (ix2 4 ⟨q.val, by omega⟩) := by
  simp only [hostOps1, List.flatten_cons, List.flatten_nil, List.append_nil]
  after_reads_at

theorem tail_main_v127 (W : Valuation τ sig (Elt Ideal)) (q : Fin 128) :
    StableHlo.after (List.flatten [hostOps1]) W (Proc.devRef .tc main_v127) (ix1 q)
      = W (Proc.devRef .tc main_v97_1) (ix2 5 ⟨q.val, by omega⟩) := by
  simp only [hostOps1, List.flatten_cons, List.flatten_nil, List.append_nil]
  after_reads_at

theorem tail_main_v129 (W : Valuation τ sig (Elt Ideal)) (q : Fin 8) :
    StableHlo.after (List.flatten [hostOps1]) W (Proc.devRef .tc main_v129) (ix1 q)
      = W (Proc.devRef .tc main_v97_1) (ix2 6 ⟨q.val, by omega⟩) := by
  simp only [hostOps1, List.flatten_cons, List.flatten_nil, List.append_nil]
  after_reads_at

theorem tail_main_v131 (W : Valuation τ sig (Elt Ideal)) (q : Fin 8) :
    StableHlo.after (List.flatten [hostOps1]) W (Proc.devRef .tc main_v131) (ix1 q)
      = W (Proc.devRef .tc main_v97_1) (ix2 7 ⟨q.val, by omega⟩) := by
  simp only [hostOps1, List.flatten_cons, List.flatten_nil, List.append_nil]
  after_reads_at

theorem tail_main_v133 (W : Valuation τ sig (Elt Ideal)) (q : Fin 1024) :
    StableHlo.after (List.flatten [hostOps1]) W (Proc.devRef .tc main_v133) (ix1 q)
      = W (Proc.devRef .tc main_v97_2) (ix2 0 ⟨q.val, by omega⟩) := by
  simp only [hostOps1, List.flatten_cons, List.flatten_nil, List.append_nil]
  after_reads_at

theorem tail_main_v135 (W : Valuation τ sig (Elt Ideal)) (q : Fin 1024) :
    StableHlo.after (List.flatten [hostOps1]) W (Proc.devRef .tc main_v135) (ix1 q)
      = W (Proc.devRef .tc main_v97_2) (ix2 1 ⟨q.val, by omega⟩) := by
  simp only [hostOps1, List.flatten_cons, List.flatten_nil, List.append_nil]
  after_reads_at

theorem tail_main_v137 (W : Valuation τ sig (Elt Ideal)) (q : Fin 1024) :
    StableHlo.after (List.flatten [hostOps1]) W (Proc.devRef .tc main_v137) (ix1 q)
      = W (Proc.devRef .tc main_v97_2) (ix2 2 ⟨q.val, by omega⟩) := by
  simp only [hostOps1, List.flatten_cons, List.flatten_nil, List.append_nil]
  after_reads_at

theorem tail_main_v139 (W : Valuation τ sig (Elt Ideal)) (q : Fin 1024) :
    StableHlo.after (List.flatten [hostOps1]) W (Proc.devRef .tc main_v139) (ix1 q)
      = W (Proc.devRef .tc main_v97_2) (ix2 3 ⟨q.val, by omega⟩) := by
  simp only [hostOps1, List.flatten_cons, List.flatten_nil, List.append_nil]
  after_reads_at

theorem tail_main_v141 (W : Valuation τ sig (Elt Ideal)) (q : Fin 1024) :
    StableHlo.after (List.flatten [hostOps1]) W (Proc.devRef .tc main_v141) (ix1 q)
      = W (Proc.devRef .tc main_v97_2) (ix2 4 ⟨q.val, by omega⟩) := by
  simp only [hostOps1, List.flatten_cons, List.flatten_nil, List.append_nil]
  after_reads_at

theorem tail_main_v143 (W : Valuation τ sig (Elt Ideal)) (q : Fin 128) :
    StableHlo.after (List.flatten [hostOps1]) W (Proc.devRef .tc main_v143) (ix1 q)
      = W (Proc.devRef .tc main_v97_2) (ix2 5 ⟨q.val, by omega⟩) := by
  simp only [hostOps1, List.flatten_cons, List.flatten_nil, List.append_nil]
  after_reads_at

theorem tail_main_v145 (W : Valuation τ sig (Elt Ideal)) (q : Fin 8) :
    StableHlo.after (List.flatten [hostOps1]) W (Proc.devRef .tc main_v145) (ix1 q)
      = W (Proc.devRef .tc main_v97_2) (ix2 6 ⟨q.val, by omega⟩) := by
  simp only [hostOps1, List.flatten_cons, List.flatten_nil, List.append_nil]
  after_reads_at

theorem tail_main_v147 (W : Valuation τ sig (Elt Ideal)) (q : Fin 8) :
    StableHlo.after (List.flatten [hostOps1]) W (Proc.devRef .tc main_v147) (ix1 q)
      = W (Proc.devRef .tc main_v97_2) (ix2 7 ⟨q.val, by omega⟩) := by
  simp only [hostOps1, List.flatten_cons, List.flatten_nil, List.append_nil]
  after_reads_at

theorem tail_main_v149 (W : Valuation τ sig (Elt Ideal)) (q : Fin 1024) :
    StableHlo.after (List.flatten [hostOps1]) W (Proc.devRef .tc main_v149) (ix1 q)
      = W (Proc.devRef .tc main_v97_3) (ix2 0 ⟨q.val, by omega⟩) := by
  simp only [hostOps1, List.flatten_cons, List.flatten_nil, List.append_nil]
  after_reads_at

theorem tail_main_v151 (W : Valuation τ sig (Elt Ideal)) (q : Fin 1024) :
    StableHlo.after (List.flatten [hostOps1]) W (Proc.devRef .tc main_v151) (ix1 q)
      = W (Proc.devRef .tc main_v97_3) (ix2 1 ⟨q.val, by omega⟩) := by
  simp only [hostOps1, List.flatten_cons, List.flatten_nil, List.append_nil]
  after_reads_at

theorem tail_main_v153 (W : Valuation τ sig (Elt Ideal)) (q : Fin 1024) :
    StableHlo.after (List.flatten [hostOps1]) W (Proc.devRef .tc main_v153) (ix1 q)
      = W (Proc.devRef .tc main_v97_3) (ix2 2 ⟨q.val, by omega⟩) := by
  simp only [hostOps1, List.flatten_cons, List.flatten_nil, List.append_nil]
  after_reads_at

theorem tail_main_v155 (W : Valuation τ sig (Elt Ideal)) (q : Fin 1024) :
    StableHlo.after (List.flatten [hostOps1]) W (Proc.devRef .tc main_v155) (ix1 q)
      = W (Proc.devRef .tc main_v97_3) (ix2 3 ⟨q.val, by omega⟩) := by
  simp only [hostOps1, List.flatten_cons, List.flatten_nil, List.append_nil]
  after_reads_at

theorem tail_main_v157 (W : Valuation τ sig (Elt Ideal)) (q : Fin 1024) :
    StableHlo.after (List.flatten [hostOps1]) W (Proc.devRef .tc main_v157) (ix1 q)
      = W (Proc.devRef .tc main_v97_3) (ix2 4 ⟨q.val, by omega⟩) := by
  simp only [hostOps1, List.flatten_cons, List.flatten_nil, List.append_nil]
  after_reads_at

theorem tail_main_v159 (W : Valuation τ sig (Elt Ideal)) (q : Fin 128) :
    StableHlo.after (List.flatten [hostOps1]) W (Proc.devRef .tc main_v159) (ix1 q)
      = W (Proc.devRef .tc main_v97_3) (ix2 5 ⟨q.val, by omega⟩) := by
  simp only [hostOps1, List.flatten_cons, List.flatten_nil, List.append_nil]
  after_reads_at

theorem tail_main_v161 (W : Valuation τ sig (Elt Ideal)) (q : Fin 8) :
    StableHlo.after (List.flatten [hostOps1]) W (Proc.devRef .tc main_v161) (ix1 q)
      = W (Proc.devRef .tc main_v97_3) (ix2 6 ⟨q.val, by omega⟩) := by
  simp only [hostOps1, List.flatten_cons, List.flatten_nil, List.append_nil]
  after_reads_at

theorem tail_main_v163 (W : Valuation τ sig (Elt Ideal)) (q : Fin 8) :
    StableHlo.after (List.flatten [hostOps1]) W (Proc.devRef .tc main_v163) (ix1 q)
      = W (Proc.devRef .tc main_v97_3) (ix2 7 ⟨q.val, by omega⟩) := by
  simp only [hostOps1, List.flatten_cons, List.flatten_nil, List.append_nil]
  after_reads_at

end Cert.AdamSmallIdeal.Arrays

end
-- ==== Proof.AdamSmallValue.lean ====
/-
  The vectors the optimiser's call returns, and the loss, in terms of the vectors it is given.
-/
module

public import proofs.«01_k».proof.Proof.AdamWant
public import proofs.«01_k».proof.Proof.AdamSmallEntry
public import proofs.«01_k».proof.Proof.AdamSmallParts
public import proofs.«01_k».proof.Proof.AdamSmallTail
public import Idealize.ShloMosaic.Lib.Claim

@[expose] public section

set_option maxRecDepth 16384

noncomputable section

open Idealize.ShloMosaic Idealize.ShloMosaic.TcCoe Idealize.SL.Sem

namespace Cert.AdamSmallIdeal.Arrays

open Cert.AdamSmallIdeal Cert.AdamSmallIdeal.Gen

theorem arr_inj : Function.Injective (Pipeline.arrRef spec0) := by decide

variable (m : (ℓ : Loc nD τ sig) → Buf (Elt Ideal) ℓ) (c : Dev nD)

theorem res_main_v99 : Pipeline.afterTail₀ cfgs (dats m) 0 (V0 m) [hostOps1] c main_v99
    = fun _ => Adam.grad fun s => (m ((c : Thread nD τ).loc main_arg0)) (ix1 s) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine funext fun i => (tail_main_v99 _ i).trans ((congrFun e _).trans ?_)
  show (Adam.grad (fun s => part m c 8 0 s) : EReal) = _
  rw [funext fun s => part_8 m c s]

theorem res_main_v101 : Pipeline.afterTail₀ cfgs (dats m) 0 (V0 m) [hostOps1] c main_v101
    = Adam.gradRow (m ((c : Thread nD τ).loc main_arg1)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 1024) fun q => (tail_main_v101 _ q).trans ((congrFun e _).trans ?_)
  show (Adam.grad (fun s => part m c 0 ⟨q.val, by omega⟩ s) : EReal) = _
  rw [funext fun s => part_0 m c q s]
  rfl

theorem res_main_v103 : Pipeline.afterTail₀ cfgs (dats m) 0 (V0 m) [hostOps1] c main_v103
    = Adam.gradRow (m ((c : Thread nD τ).loc main_arg2)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 1024) fun q => (tail_main_v103 _ q).trans ((congrFun e _).trans ?_)
  show (Adam.grad (fun s => part m c 1 ⟨q.val, by omega⟩ s) : EReal) = _
  rw [funext fun s => part_1 m c q s]
  rfl

theorem res_main_v105 : Pipeline.afterTail₀ cfgs (dats m) 0 (V0 m) [hostOps1] c main_v105
    = Adam.gradRow (m ((c : Thread nD τ).loc main_arg3)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 1024) fun q => (tail_main_v105 _ q).trans ((congrFun e _).trans ?_)
  show (Adam.grad (fun s => part m c 2 ⟨q.val, by omega⟩ s) : EReal) = _
  rw [funext fun s => part_2 m c q s]
  rfl

theorem res_main_v107 : Pipeline.afterTail₀ cfgs (dats m) 0 (V0 m) [hostOps1] c main_v107
    = Adam.gradRow (m ((c : Thread nD τ).loc main_arg4)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 1024) fun q => (tail_main_v107 _ q).trans ((congrFun e _).trans ?_)
  show (Adam.grad (fun s => part m c 3 ⟨q.val, by omega⟩ s) : EReal) = _
  rw [funext fun s => part_3 m c q s]
  rfl

theorem res_main_v109 : Pipeline.afterTail₀ cfgs (dats m) 0 (V0 m) [hostOps1] c main_v109
    = Adam.gradRow (m ((c : Thread nD τ).loc main_arg5)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 1024) fun q => (tail_main_v109 _ q).trans ((congrFun e _).trans ?_)
  show (Adam.grad (fun s => part m c 4 ⟨q.val, by omega⟩ s) : EReal) = _
  rw [funext fun s => part_4 m c q s]
  rfl

theorem res_main_v111 : Pipeline.afterTail₀ cfgs (dats m) 0 (V0 m) [hostOps1] c main_v111
    = Adam.gradRow (m ((c : Thread nD τ).loc main_arg6)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 128) fun q => (tail_main_v111 _ q).trans ((congrFun e _).trans ?_)
  show (Adam.grad (fun s => part m c 5 ⟨q.val, by omega⟩ s) : EReal) = _
  rw [funext fun s => part_5 m c q s]
  rfl

theorem res_main_v113 : Pipeline.afterTail₀ cfgs (dats m) 0 (V0 m) [hostOps1] c main_v113
    = Adam.gradRow (m ((c : Thread nD τ).loc main_arg7)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 8) fun q => (tail_main_v113 _ q).trans ((congrFun e _).trans ?_)
  show (Adam.grad (fun s => part m c 6 ⟨q.val, by omega⟩ s) : EReal) = _
  rw [funext fun s => part_6 m c q s]
  rfl

theorem res_main_v115 : Pipeline.afterTail₀ cfgs (dats m) 0 (V0 m) [hostOps1] c main_v115
    = Adam.gradRow (m ((c : Thread nD τ).loc main_arg8)) := by
  have e : Pipeline.withArrays spec0 c (V0 m c) (fun w => (dats m 0 c).arrAt w cfg0.N) (Proc.devRef .tc main_v97_0) = arr4 m c :=
    (Pipeline.withArrays_arr spec0 arr_inj c (V0 m c) _ 4).trans (final4 m c)
  refine Adam.eq1 (n := 8) fun q => (tail_main_v115 _ q).trans ((congrFun e _).trans ?_)
  show (Adam.grad (fun s => part m c 7 ⟨q.val, by omega⟩ s) : EReal) = _
  rw [funext fun s => part_7 m c q s]
  rfl

theorem res_main_v117 : Pipeline.afterTail₀ cfgs (dats m) 0 (V0 m) [hostOps1] c main_v117
    = Adam.deltaRow (m ((c : Thread nD τ).loc main_arg1)) (m ((c : Thread nD τ).loc main_arg9)) (m ((c : Thread nD τ).loc main_arg17)) (m ((c : Thread nD τ).loc main_arg25)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 1024) fun q => (tail_main_v117 _ q).trans ((congrFun e _).trans ?_)
  show (Adam.delta (wgt m c 0 ⟨q.val, by omega⟩) (fst m c 0 ⟨q.val, by omega⟩) (snd m c 0 ⟨q.val, by omega⟩) (Adam.grad (fun s => part m c 0 ⟨q.val, by omega⟩ s)) : EReal) = _
  rw [funext fun s => part_0 m c q s, wgt_0 m c q, fst_0 m c q, snd_0 m c q]
  rfl

theorem res_main_v119 : Pipeline.afterTail₀ cfgs (dats m) 0 (V0 m) [hostOps1] c main_v119
    = Adam.deltaRow (m ((c : Thread nD τ).loc main_arg2)) (m ((c : Thread nD τ).loc main_arg10)) (m ((c : Thread nD τ).loc main_arg18)) (m ((c : Thread nD τ).loc main_arg26)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 1024) fun q => (tail_main_v119 _ q).trans ((congrFun e _).trans ?_)
  show (Adam.delta (wgt m c 1 ⟨q.val, by omega⟩) (fst m c 1 ⟨q.val, by omega⟩) (snd m c 1 ⟨q.val, by omega⟩) (Adam.grad (fun s => part m c 1 ⟨q.val, by omega⟩ s)) : EReal) = _
  rw [funext fun s => part_1 m c q s, wgt_1 m c q, fst_1 m c q, snd_1 m c q]
  rfl

theorem res_main_v121 : Pipeline.afterTail₀ cfgs (dats m) 0 (V0 m) [hostOps1] c main_v121
    = Adam.deltaRow (m ((c : Thread nD τ).loc main_arg3)) (m ((c : Thread nD τ).loc main_arg11)) (m ((c : Thread nD τ).loc main_arg19)) (m ((c : Thread nD τ).loc main_arg27)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 1024) fun q => (tail_main_v121 _ q).trans ((congrFun e _).trans ?_)
  show (Adam.delta (wgt m c 2 ⟨q.val, by omega⟩) (fst m c 2 ⟨q.val, by omega⟩) (snd m c 2 ⟨q.val, by omega⟩) (Adam.grad (fun s => part m c 2 ⟨q.val, by omega⟩ s)) : EReal) = _
  rw [funext fun s => part_2 m c q s, wgt_2 m c q, fst_2 m c q, snd_2 m c q]
  rfl

theorem res_main_v123 : Pipeline.afterTail₀ cfgs (dats m) 0 (V0 m) [hostOps1] c main_v123
    = Adam.deltaRow (m ((c : Thread nD τ).loc main_arg4)) (m ((c : Thread nD τ).loc main_arg12)) (m ((c : Thread nD τ).loc main_arg20)) (m ((c : Thread nD τ).loc main_arg28)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 1024) fun q => (tail_main_v123 _ q).trans ((congrFun e _).trans ?_)
  show (Adam.delta (wgt m c 3 ⟨q.val, by omega⟩) (fst m c 3 ⟨q.val, by omega⟩) (snd m c 3 ⟨q.val, by omega⟩) (Adam.grad (fun s => part m c 3 ⟨q.val, by omega⟩ s)) : EReal) = _
  rw [funext fun s => part_3 m c q s, wgt_3 m c q, fst_3 m c q, snd_3 m c q]
  rfl

theorem res_main_v125 : Pipeline.afterTail₀ cfgs (dats m) 0 (V0 m) [hostOps1] c main_v125
    = Adam.deltaRow (m ((c : Thread nD τ).loc main_arg5)) (m ((c : Thread nD τ).loc main_arg13)) (m ((c : Thread nD τ).loc main_arg21)) (m ((c : Thread nD τ).loc main_arg29)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 1024) fun q => (tail_main_v125 _ q).trans ((congrFun e _).trans ?_)
  show (Adam.delta (wgt m c 4 ⟨q.val, by omega⟩) (fst m c 4 ⟨q.val, by omega⟩) (snd m c 4 ⟨q.val, by omega⟩) (Adam.grad (fun s => part m c 4 ⟨q.val, by omega⟩ s)) : EReal) = _
  rw [funext fun s => part_4 m c q s, wgt_4 m c q, fst_4 m c q, snd_4 m c q]
  rfl

theorem res_main_v127 : Pipeline.afterTail₀ cfgs (dats m) 0 (V0 m) [hostOps1] c main_v127
    = Adam.deltaRow (m ((c : Thread nD τ).loc main_arg6)) (m ((c : Thread nD τ).loc main_arg14)) (m ((c : Thread nD τ).loc main_arg22)) (m ((c : Thread nD τ).loc main_arg30)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 128) fun q => (tail_main_v127 _ q).trans ((congrFun e _).trans ?_)
  show (Adam.delta (wgt m c 5 ⟨q.val, by omega⟩) (fst m c 5 ⟨q.val, by omega⟩) (snd m c 5 ⟨q.val, by omega⟩) (Adam.grad (fun s => part m c 5 ⟨q.val, by omega⟩ s)) : EReal) = _
  rw [funext fun s => part_5 m c q s, wgt_5 m c q, fst_5 m c q, snd_5 m c q]
  rfl

theorem res_main_v129 : Pipeline.afterTail₀ cfgs (dats m) 0 (V0 m) [hostOps1] c main_v129
    = Adam.deltaRow (m ((c : Thread nD τ).loc main_arg7)) (m ((c : Thread nD τ).loc main_arg15)) (m ((c : Thread nD τ).loc main_arg23)) (m ((c : Thread nD τ).loc main_arg31)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 8) fun q => (tail_main_v129 _ q).trans ((congrFun e _).trans ?_)
  show (Adam.delta (wgt m c 6 ⟨q.val, by omega⟩) (fst m c 6 ⟨q.val, by omega⟩) (snd m c 6 ⟨q.val, by omega⟩) (Adam.grad (fun s => part m c 6 ⟨q.val, by omega⟩ s)) : EReal) = _
  rw [funext fun s => part_6 m c q s, wgt_6 m c q, fst_6 m c q, snd_6 m c q]
  rfl

theorem res_main_v131 : Pipeline.afterTail₀ cfgs (dats m) 0 (V0 m) [hostOps1] c main_v131
    = Adam.deltaRow (m ((c : Thread nD τ).loc main_arg8)) (m ((c : Thread nD τ).loc main_arg16)) (m ((c : Thread nD τ).loc main_arg24)) (m ((c : Thread nD τ).loc main_arg32)) := by
  have e : Pipeline.withArrays spec0 c (V0 m c) (fun w => (dats m 0 c).arrAt w cfg0.N) (Proc.devRef .tc main_v97_1) = arr5 m c :=
    (Pipeline.withArrays_arr spec0 arr_inj c (V0 m c) _ 5).trans (final5 m c)
  refine Adam.eq1 (n := 8) fun q => (tail_main_v131 _ q).trans ((congrFun e _).trans ?_)
  show (Adam.delta (wgt m c 7 ⟨q.val, by omega⟩) (fst m c 7 ⟨q.val, by omega⟩) (snd m c 7 ⟨q.val, by omega⟩) (Adam.grad (fun s => part m c 7 ⟨q.val, by omega⟩ s)) : EReal) = _
  rw [funext fun s => part_7 m c q s, wgt_7 m c q, fst_7 m c q, snd_7 m c q]
  rfl

theorem res_main_v133 : Pipeline.afterTail₀ cfgs (dats m) 0 (V0 m) [hostOps1] c main_v133
    = Adam.momRow (m ((c : Thread nD τ).loc main_arg1)) (m ((c : Thread nD τ).loc main_arg17)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 1024) fun q => (tail_main_v133 _ q).trans ((congrFun e _).trans ?_)
  show (Adam.mom (fst m c 0 ⟨q.val, by omega⟩) (Adam.grad (fun s => part m c 0 ⟨q.val, by omega⟩ s)) : EReal) = _
  rw [funext fun s => part_0 m c q s, fst_0 m c q]
  rfl

theorem res_main_v135 : Pipeline.afterTail₀ cfgs (dats m) 0 (V0 m) [hostOps1] c main_v135
    = Adam.momRow (m ((c : Thread nD τ).loc main_arg2)) (m ((c : Thread nD τ).loc main_arg18)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 1024) fun q => (tail_main_v135 _ q).trans ((congrFun e _).trans ?_)
  show (Adam.mom (fst m c 1 ⟨q.val, by omega⟩) (Adam.grad (fun s => part m c 1 ⟨q.val, by omega⟩ s)) : EReal) = _
  rw [funext fun s => part_1 m c q s, fst_1 m c q]
  rfl

theorem res_main_v137 : Pipeline.afterTail₀ cfgs (dats m) 0 (V0 m) [hostOps1] c main_v137
    = Adam.momRow (m ((c : Thread nD τ).loc main_arg3)) (m ((c : Thread nD τ).loc main_arg19)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 1024) fun q => (tail_main_v137 _ q).trans ((congrFun e _).trans ?_)
  show (Adam.mom (fst m c 2 ⟨q.val, by omega⟩) (Adam.grad (fun s => part m c 2 ⟨q.val, by omega⟩ s)) : EReal) = _
  rw [funext fun s => part_2 m c q s, fst_2 m c q]
  rfl

theorem res_main_v139 : Pipeline.afterTail₀ cfgs (dats m) 0 (V0 m) [hostOps1] c main_v139
    = Adam.momRow (m ((c : Thread nD τ).loc main_arg4)) (m ((c : Thread nD τ).loc main_arg20)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 1024) fun q => (tail_main_v139 _ q).trans ((congrFun e _).trans ?_)
  show (Adam.mom (fst m c 3 ⟨q.val, by omega⟩) (Adam.grad (fun s => part m c 3 ⟨q.val, by omega⟩ s)) : EReal) = _
  rw [funext fun s => part_3 m c q s, fst_3 m c q]
  rfl

theorem res_main_v141 : Pipeline.afterTail₀ cfgs (dats m) 0 (V0 m) [hostOps1] c main_v141
    = Adam.momRow (m ((c : Thread nD τ).loc main_arg5)) (m ((c : Thread nD τ).loc main_arg21)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 1024) fun q => (tail_main_v141 _ q).trans ((congrFun e _).trans ?_)
  show (Adam.mom (fst m c 4 ⟨q.val, by omega⟩) (Adam.grad (fun s => part m c 4 ⟨q.val, by omega⟩ s)) : EReal) = _
  rw [funext fun s => part_4 m c q s, fst_4 m c q]
  rfl

theorem res_main_v143 : Pipeline.afterTail₀ cfgs (dats m) 0 (V0 m) [hostOps1] c main_v143
    = Adam.momRow (m ((c : Thread nD τ).loc main_arg6)) (m ((c : Thread nD τ).loc main_arg22)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 128) fun q => (tail_main_v143 _ q).trans ((congrFun e _).trans ?_)
  show (Adam.mom (fst m c 5 ⟨q.val, by omega⟩) (Adam.grad (fun s => part m c 5 ⟨q.val, by omega⟩ s)) : EReal) = _
  rw [funext fun s => part_5 m c q s, fst_5 m c q]
  rfl

theorem res_main_v145 : Pipeline.afterTail₀ cfgs (dats m) 0 (V0 m) [hostOps1] c main_v145
    = Adam.momRow (m ((c : Thread nD τ).loc main_arg7)) (m ((c : Thread nD τ).loc main_arg23)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 8) fun q => (tail_main_v145 _ q).trans ((congrFun e _).trans ?_)
  show (Adam.mom (fst m c 6 ⟨q.val, by omega⟩) (Adam.grad (fun s => part m c 6 ⟨q.val, by omega⟩ s)) : EReal) = _
  rw [funext fun s => part_6 m c q s, fst_6 m c q]
  rfl

theorem res_main_v147 : Pipeline.afterTail₀ cfgs (dats m) 0 (V0 m) [hostOps1] c main_v147
    = Adam.momRow (m ((c : Thread nD τ).loc main_arg8)) (m ((c : Thread nD τ).loc main_arg24)) := by
  have e : Pipeline.withArrays spec0 c (V0 m c) (fun w => (dats m 0 c).arrAt w cfg0.N) (Proc.devRef .tc main_v97_2) = arr6 m c :=
    (Pipeline.withArrays_arr spec0 arr_inj c (V0 m c) _ 6).trans (final6 m c)
  refine Adam.eq1 (n := 8) fun q => (tail_main_v147 _ q).trans ((congrFun e _).trans ?_)
  show (Adam.mom (fst m c 7 ⟨q.val, by omega⟩) (Adam.grad (fun s => part m c 7 ⟨q.val, by omega⟩ s)) : EReal) = _
  rw [funext fun s => part_7 m c q s, fst_7 m c q]
  rfl

theorem res_main_v149 : Pipeline.afterTail₀ cfgs (dats m) 0 (V0 m) [hostOps1] c main_v149
    = Adam.secRow (m ((c : Thread nD τ).loc main_arg1)) (m ((c : Thread nD τ).loc main_arg25)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 1024) fun q => (tail_main_v149 _ q).trans ((congrFun e _).trans ?_)
  show (Adam.sec (snd m c 0 ⟨q.val, by omega⟩) (Adam.grad (fun s => part m c 0 ⟨q.val, by omega⟩ s)) : EReal) = _
  rw [funext fun s => part_0 m c q s, snd_0 m c q]
  rfl

theorem res_main_v151 : Pipeline.afterTail₀ cfgs (dats m) 0 (V0 m) [hostOps1] c main_v151
    = Adam.secRow (m ((c : Thread nD τ).loc main_arg2)) (m ((c : Thread nD τ).loc main_arg26)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 1024) fun q => (tail_main_v151 _ q).trans ((congrFun e _).trans ?_)
  show (Adam.sec (snd m c 1 ⟨q.val, by omega⟩) (Adam.grad (fun s => part m c 1 ⟨q.val, by omega⟩ s)) : EReal) = _
  rw [funext fun s => part_1 m c q s, snd_1 m c q]
  rfl

theorem res_main_v153 : Pipeline.afterTail₀ cfgs (dats m) 0 (V0 m) [hostOps1] c main_v153
    = Adam.secRow (m ((c : Thread nD τ).loc main_arg3)) (m ((c : Thread nD τ).loc main_arg27)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 1024) fun q => (tail_main_v153 _ q).trans ((congrFun e _).trans ?_)
  show (Adam.sec (snd m c 2 ⟨q.val, by omega⟩) (Adam.grad (fun s => part m c 2 ⟨q.val, by omega⟩ s)) : EReal) = _
  rw [funext fun s => part_2 m c q s, snd_2 m c q]
  rfl

theorem res_main_v155 : Pipeline.afterTail₀ cfgs (dats m) 0 (V0 m) [hostOps1] c main_v155
    = Adam.secRow (m ((c : Thread nD τ).loc main_arg4)) (m ((c : Thread nD τ).loc main_arg28)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 1024) fun q => (tail_main_v155 _ q).trans ((congrFun e _).trans ?_)
  show (Adam.sec (snd m c 3 ⟨q.val, by omega⟩) (Adam.grad (fun s => part m c 3 ⟨q.val, by omega⟩ s)) : EReal) = _
  rw [funext fun s => part_3 m c q s, snd_3 m c q]
  rfl

theorem res_main_v157 : Pipeline.afterTail₀ cfgs (dats m) 0 (V0 m) [hostOps1] c main_v157
    = Adam.secRow (m ((c : Thread nD τ).loc main_arg5)) (m ((c : Thread nD τ).loc main_arg29)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 1024) fun q => (tail_main_v157 _ q).trans ((congrFun e _).trans ?_)
  show (Adam.sec (snd m c 4 ⟨q.val, by omega⟩) (Adam.grad (fun s => part m c 4 ⟨q.val, by omega⟩ s)) : EReal) = _
  rw [funext fun s => part_4 m c q s, snd_4 m c q]
  rfl

theorem res_main_v159 : Pipeline.afterTail₀ cfgs (dats m) 0 (V0 m) [hostOps1] c main_v159
    = Adam.secRow (m ((c : Thread nD τ).loc main_arg6)) (m ((c : Thread nD τ).loc main_arg30)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 128) fun q => (tail_main_v159 _ q).trans ((congrFun e _).trans ?_)
  show (Adam.sec (snd m c 5 ⟨q.val, by omega⟩) (Adam.grad (fun s => part m c 5 ⟨q.val, by omega⟩ s)) : EReal) = _
  rw [funext fun s => part_5 m c q s, snd_5 m c q]
  rfl

theorem res_main_v161 : Pipeline.afterTail₀ cfgs (dats m) 0 (V0 m) [hostOps1] c main_v161
    = Adam.secRow (m ((c : Thread nD τ).loc main_arg7)) (m ((c : Thread nD τ).loc main_arg31)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 8) fun q => (tail_main_v161 _ q).trans ((congrFun e _).trans ?_)
  show (Adam.sec (snd m c 6 ⟨q.val, by omega⟩) (Adam.grad (fun s => part m c 6 ⟨q.val, by omega⟩ s)) : EReal) = _
  rw [funext fun s => part_6 m c q s, snd_6 m c q]
  rfl

theorem res_main_v163 : Pipeline.afterTail₀ cfgs (dats m) 0 (V0 m) [hostOps1] c main_v163
    = Adam.secRow (m ((c : Thread nD τ).loc main_arg8)) (m ((c : Thread nD τ).loc main_arg32)) := by
  have e : Pipeline.withArrays spec0 c (V0 m c) (fun w => (dats m 0 c).arrAt w cfg0.N) (Proc.devRef .tc main_v97_3) = arr7 m c :=
    (Pipeline.withArrays_arr spec0 arr_inj c (V0 m c) _ 7).trans (final7 m c)
  refine Adam.eq1 (n := 8) fun q => (tail_main_v163 _ q).trans ((congrFun e _).trans ?_)
  show (Adam.sec (snd m c 7 ⟨q.val, by omega⟩) (Adam.grad (fun s => part m c 7 ⟨q.val, by omega⟩ s)) : EReal) = _
  rw [funext fun s => part_7 m c q s, snd_7 m c q]
  rfl

/-- Every result of the call, and its arguments, after the run. -/
theorem run_results (ρ : Dev nD → PrngReg) : θ_run defs (onTc (τ := τ) (main (F := Ideal))) ⟨m, fun _ => 0, ρ⟩ fun r => ∀ c : Dev nD,
    (r.2.mem ((c : Thread nD τ).loc main_v99) = fun _ => Adam.grad fun s => (m ((c : Thread nD τ).loc main_arg0)) (ix1 s))
    ∧ r.2.mem ((c : Thread nD τ).loc main_v101) = Adam.gradRow (m ((c : Thread nD τ).loc main_arg1))
    ∧ r.2.mem ((c : Thread nD τ).loc main_v103) = Adam.gradRow (m ((c : Thread nD τ).loc main_arg2))
    ∧ r.2.mem ((c : Thread nD τ).loc main_v105) = Adam.gradRow (m ((c : Thread nD τ).loc main_arg3))
    ∧ r.2.mem ((c : Thread nD τ).loc main_v107) = Adam.gradRow (m ((c : Thread nD τ).loc main_arg4))
    ∧ r.2.mem ((c : Thread nD τ).loc main_v109) = Adam.gradRow (m ((c : Thread nD τ).loc main_arg5))
    ∧ r.2.mem ((c : Thread nD τ).loc main_v111) = Adam.gradRow (m ((c : Thread nD τ).loc main_arg6))
    ∧ r.2.mem ((c : Thread nD τ).loc main_v113) = Adam.gradRow (m ((c : Thread nD τ).loc main_arg7))
    ∧ r.2.mem ((c : Thread nD τ).loc main_v115) = Adam.gradRow (m ((c : Thread nD τ).loc main_arg8))
    ∧ r.2.mem ((c : Thread nD τ).loc main_v117) = Adam.deltaRow (m ((c : Thread nD τ).loc main_arg1)) (m ((c : Thread nD τ).loc main_arg9)) (m ((c : Thread nD τ).loc main_arg17)) (m ((c : Thread nD τ).loc main_arg25))
    ∧ r.2.mem ((c : Thread nD τ).loc main_v119) = Adam.deltaRow (m ((c : Thread nD τ).loc main_arg2)) (m ((c : Thread nD τ).loc main_arg10)) (m ((c : Thread nD τ).loc main_arg18)) (m ((c : Thread nD τ).loc main_arg26))
    ∧ r.2.mem ((c : Thread nD τ).loc main_v121) = Adam.deltaRow (m ((c : Thread nD τ).loc main_arg3)) (m ((c : Thread nD τ).loc main_arg11)) (m ((c : Thread nD τ).loc main_arg19)) (m ((c : Thread nD τ).loc main_arg27))
    ∧ r.2.mem ((c : Thread nD τ).loc main_v123) = Adam.deltaRow (m ((c : Thread nD τ).loc main_arg4)) (m ((c : Thread nD τ).loc main_arg12)) (m ((c : Thread nD τ).loc main_arg20)) (m ((c : Thread nD τ).loc main_arg28))
    ∧ r.2.mem ((c : Thread nD τ).loc main_v125) = Adam.deltaRow (m ((c : Thread nD τ).loc main_arg5)) (m ((c : Thread nD τ).loc main_arg13)) (m ((c : Thread nD τ).loc main_arg21)) (m ((c : Thread nD τ).loc main_arg29))
    ∧ r.2.mem ((c : Thread nD τ).loc main_v127) = Adam.deltaRow (m ((c : Thread nD τ).loc main_arg6)) (m ((c : Thread nD τ).loc main_arg14)) (m ((c : Thread nD τ).loc main_arg22)) (m ((c : Thread nD τ).loc main_arg30))
    ∧ r.2.mem ((c : Thread nD τ).loc main_v129) = Adam.deltaRow (m ((c : Thread nD τ).loc main_arg7)) (m ((c : Thread nD τ).loc main_arg15)) (m ((c : Thread nD τ).loc main_arg23)) (m ((c : Thread nD τ).loc main_arg31))
    ∧ r.2.mem ((c : Thread nD τ).loc main_v131) = Adam.deltaRow (m ((c : Thread nD τ).loc main_arg8)) (m ((c : Thread nD τ).loc main_arg16)) (m ((c : Thread nD τ).loc main_arg24)) (m ((c : Thread nD τ).loc main_arg32))
    ∧ r.2.mem ((c : Thread nD τ).loc main_v133) = Adam.momRow (m ((c : Thread nD τ).loc main_arg1)) (m ((c : Thread nD τ).loc main_arg17))
    ∧ r.2.mem ((c : Thread nD τ).loc main_v135) = Adam.momRow (m ((c : Thread nD τ).loc main_arg2)) (m ((c : Thread nD τ).loc main_arg18))
    ∧ r.2.mem ((c : Thread nD τ).loc main_v137) = Adam.momRow (m ((c : Thread nD τ).loc main_arg3)) (m ((c : Thread nD τ).loc main_arg19))
    ∧ r.2.mem ((c : Thread nD τ).loc main_v139) = Adam.momRow (m ((c : Thread nD τ).loc main_arg4)) (m ((c : Thread nD τ).loc main_arg20))
    ∧ r.2.mem ((c : Thread nD τ).loc main_v141) = Adam.momRow (m ((c : Thread nD τ).loc main_arg5)) (m ((c : Thread nD τ).loc main_arg21))
    ∧ r.2.mem ((c : Thread nD τ).loc main_v143) = Adam.momRow (m ((c : Thread nD τ).loc main_arg6)) (m ((c : Thread nD τ).loc main_arg22))
    ∧ r.2.mem ((c : Thread nD τ).loc main_v145) = Adam.momRow (m ((c : Thread nD τ).loc main_arg7)) (m ((c : Thread nD τ).loc main_arg23))
    ∧ r.2.mem ((c : Thread nD τ).loc main_v147) = Adam.momRow (m ((c : Thread nD τ).loc main_arg8)) (m ((c : Thread nD τ).loc main_arg24))
    ∧ r.2.mem ((c : Thread nD τ).loc main_v149) = Adam.secRow (m ((c : Thread nD τ).loc main_arg1)) (m ((c : Thread nD τ).loc main_arg25))
    ∧ r.2.mem ((c : Thread nD τ).loc main_v151) = Adam.secRow (m ((c : Thread nD τ).loc main_arg2)) (m ((c : Thread nD τ).loc main_arg26))
    ∧ r.2.mem ((c : Thread nD τ).loc main_v153) = Adam.secRow (m ((c : Thread nD τ).loc main_arg3)) (m ((c : Thread nD τ).loc main_arg27))
    ∧ r.2.mem ((c : Thread nD τ).loc main_v155) = Adam.secRow (m ((c : Thread nD τ).loc main_arg4)) (m ((c : Thread nD τ).loc main_arg28))
    ∧ r.2.mem ((c : Thread nD τ).loc main_v157) = Adam.secRow (m ((c : Thread nD τ).loc main_arg5)) (m ((c : Thread nD τ).loc main_arg29))
    ∧ r.2.mem ((c : Thread nD τ).loc main_v159) = Adam.secRow (m ((c : Thread nD τ).loc main_arg6)) (m ((c : Thread nD τ).loc main_arg30))
    ∧ r.2.mem ((c : Thread nD τ).loc main_v161) = Adam.secRow (m ((c : Thread nD τ).loc main_arg7)) (m ((c : Thread nD τ).loc main_arg31))
    ∧ r.2.mem ((c : Thread nD τ).loc main_v163) = Adam.secRow (m ((c : Thread nD τ).loc main_arg8)) (m ((c : Thread nD τ).loc main_arg32))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)
    ∧ r.2.mem ((c : Thread nD τ).loc main_arg24) = m ((c : Thread nD τ).loc main_arg24)
    ∧ r.2.mem ((c : Thread nD τ).loc main_arg25) = m ((c : Thread nD τ).loc main_arg25)
    ∧ r.2.mem ((c : Thread nD τ).loc main_arg26) = m ((c : Thread nD τ).loc main_arg26)
    ∧ r.2.mem ((c : Thread nD τ).loc main_arg27) = m ((c : Thread nD τ).loc main_arg27)
    ∧ r.2.mem ((c : Thread nD τ).loc main_arg28) = m ((c : Thread nD τ).loc main_arg28)
    ∧ r.2.mem ((c : Thread nD τ).loc main_arg29) = m ((c : Thread nD τ).loc main_arg29)
    ∧ r.2.mem ((c : Thread nD τ).loc main_arg30) = m ((c : Thread nD τ).loc main_arg30)
    ∧ r.2.mem ((c : Thread nD τ).loc main_arg31) = m ((c : Thread nD τ).loc main_arg31)
    ∧ r.2.mem ((c : Thread nD τ).loc main_arg32) = m ((c : Thread nD τ).loc main_arg32) :=
  (θ_run defs _ _).mono (fun _ h c =>
      ⟨((h c).2 main_v99 (Pipeline.mem_restRefs_of main_v99 (by decide) (by decide))).trans (res_main_v99 m c),
        ((h c).2 main_v101 (Pipeline.mem_restRefs_of main_v101 (by decide) (by decide))).trans (res_main_v101 m c),
        ((h c).2 main_v103 (Pipeline.mem_restRefs_of main_v103 (by decide) (by decide))).trans (res_main_v103 m c),
        ((h c).2 main_v105 (Pipeline.mem_restRefs_of main_v105 (by decide) (by decide))).trans (res_main_v105 m c),
        ((h c).2 main_v107 (Pipeline.mem_restRefs_of main_v107 (by decide) (by decide))).trans (res_main_v107 m c),
        ((h c).2 main_v109 (Pipeline.mem_restRefs_of main_v109 (by decide) (by decide))).trans (res_main_v109 m c),
        ((h c).2 main_v111 (Pipeline.mem_restRefs_of main_v111 (by decide) (by decide))).trans (res_main_v111 m c),
        ((h c).2 main_v113 (Pipeline.mem_restRefs_of main_v113 (by decide) (by decide))).trans (res_main_v113 m c),
        ((h c).2 main_v115 (Pipeline.mem_restRefs_of main_v115 (by decide) (by decide))).trans (res_main_v115 m c),
        ((h c).2 main_v117 (Pipeline.mem_restRefs_of main_v117 (by decide) (by decide))).trans (res_main_v117 m c),
        ((h c).2 main_v119 (Pipeline.mem_restRefs_of main_v119 (by decide) (by decide))).trans (res_main_v119 m c),
        ((h c).2 main_v121 (Pipeline.mem_restRefs_of main_v121 (by decide) (by decide))).trans (res_main_v121 m c),
        ((h c).2 main_v123 (Pipeline.mem_restRefs_of main_v123 (by decide) (by decide))).trans (res_main_v123 m c),
        ((h c).2 main_v125 (Pipeline.mem_restRefs_of main_v125 (by decide) (by decide))).trans (res_main_v125 m c),
        ((h c).2 main_v127 (Pipeline.mem_restRefs_of main_v127 (by decide) (by decide))).trans (res_main_v127 m c),
        ((h c).2 main_v129 (Pipeline.mem_restRefs_of main_v129 (by decide) (by decide))).trans (res_main_v129 m c),
        ((h c).2 main_v131 (Pipeline.mem_restRefs_of main_v131 (by decide) (by decide))).trans (res_main_v131 m c),
        ((h c).2 main_v133 (Pipeline.mem_restRefs_of main_v133 (by decide) (by decide))).trans (res_main_v133 m c),
        ((h c).2 main_v135 (Pipeline.mem_restRefs_of main_v135 (by decide) (by decide))).trans (res_main_v135 m c),
        ((h c).2 main_v137 (Pipeline.mem_restRefs_of main_v137 (by decide) (by decide))).trans (res_main_v137 m c),
        ((h c).2 main_v139 (Pipeline.mem_restRefs_of main_v139 (by decide) (by decide))).trans (res_main_v139 m c),
        ((h c).2 main_v141 (Pipeline.mem_restRefs_of main_v141 (by decide) (by decide))).trans (res_main_v141 m c),
        ((h c).2 main_v143 (Pipeline.mem_restRefs_of main_v143 (by decide) (by decide))).trans (res_main_v143 m c),
        ((h c).2 main_v145 (Pipeline.mem_restRefs_of main_v145 (by decide) (by decide))).trans (res_main_v145 m c),
        ((h c).2 main_v147 (Pipeline.mem_restRefs_of main_v147 (by decide) (by decide))).trans (res_main_v147 m c),
        ((h c).2 main_v149 (Pipeline.mem_restRefs_of main_v149 (by decide) (by decide))).trans (res_main_v149 m c),
        ((h c).2 main_v151 (Pipeline.mem_restRefs_of main_v151 (by decide) (by decide))).trans (res_main_v151 m c),
        ((h c).2 main_v153 (Pipeline.mem_restRefs_of main_v153 (by decide) (by decide))).trans (res_main_v153 m c),
        ((h c).2 main_v155 (Pipeline.mem_restRefs_of main_v155 (by decide) (by decide))).trans (res_main_v155 m c),
        ((h c).2 main_v157 (Pipeline.mem_restRefs_of main_v157 (by decide) (by decide))).trans (res_main_v157 m c),
        ((h c).2 main_v159 (Pipeline.mem_restRefs_of main_v159 (by decide) (by decide))).trans (res_main_v159 m c),
        ((h c).2 main_v161 (Pipeline.mem_restRefs_of main_v161 (by decide) (by decide))).trans (res_main_v161 m c),
        ((h c).2 main_v163 (Pipeline.mem_restRefs_of main_v163 (by decide) (by decide))).trans (res_main_v163 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c),
        ((h c).2 main_arg7 (Pipeline.mem_restRefs_of main_arg7 (by decide) (by decide))).trans (W_main_arg7 m (dats m) c),
        ((h c).2 main_arg8 (Pipeline.mem_restRefs_of main_arg8 (by decide) (by decide))).trans (W_main_arg8 m (dats m) c),
        ((h c).2 main_arg9 (Pipeline.mem_restRefs_of main_arg9 (by decide) (by decide))).trans (W_main_arg9 m (dats m) c),
        ((h c).2 main_arg10 (Pipeline.mem_restRefs_of main_arg10 (by decide) (by decide))).trans (W_main_arg10 m (dats m) c),
        ((h c).2 main_arg11 (Pipeline.mem_restRefs_of main_arg11 (by decide) (by decide))).trans (W_main_arg11 m (dats m) c),
        ((h c).2 main_arg12 (Pipeline.mem_restRefs_of main_arg12 (by decide) (by decide))).trans (W_main_arg12 m (dats m) c),
        ((h c).2 main_arg13 (Pipeline.mem_restRefs_of main_arg13 (by decide) (by decide))).trans (W_main_arg13 m (dats m) c),
        ((h c).2 main_arg14 (Pipeline.mem_restRefs_of main_arg14 (by decide) (by decide))).trans (W_main_arg14 m (dats m) c),
        ((h c).2 main_arg15 (Pipeline.mem_restRefs_of main_arg15 (by decide) (by decide))).trans (W_main_arg15 m (dats m) c),
        ((h c).2 main_arg16 (Pipeline.mem_restRefs_of main_arg16 (by decide) (by decide))).trans (W_main_arg16 m (dats m) c),
        ((h c).2 main_arg17 (Pipeline.mem_restRefs_of main_arg17 (by decide) (by decide))).trans (W_main_arg17 m (dats m) c),
        ((h c).2 main_arg18 (Pipeline.mem_restRefs_of main_arg18 (by decide) (by decide))).trans (W_main_arg18 m (dats m) c),
        ((h c).2 main_arg19 (Pipeline.mem_restRefs_of main_arg19 (by decide) (by decide))).trans (W_main_arg19 m (dats m) c),
        ((h c).2 main_arg20 (Pipeline.mem_restRefs_of main_arg20 (by decide) (by decide))).trans (W_main_arg20 m (dats m) c),
        ((h c).2 main_arg21 (Pipeline.mem_restRefs_of main_arg21 (by decide) (by decide))).trans (W_main_arg21 m (dats m) c),
        ((h c).2 main_arg22 (Pipeline.mem_restRefs_of main_arg22 (by decide) (by decide))).trans (W_main_arg22 m (dats m) c),
        ((h c).2 main_arg23 (Pipeline.mem_restRefs_of main_arg23 (by decide) (by decide))).trans (W_main_arg23 m (dats m) c),
        ((h c).2 main_arg24 (Pipeline.mem_restRefs_of main_arg24 (by decide) (by decide))).trans (W_main_arg24 m (dats m) c),
        ((h c).2 main_arg25 (Pipeline.mem_restRefs_of main_arg25 (by decide) (by decide))).trans (W_main_arg25 m (dats m) c),
        ((h c).2 main_arg26 (Pipeline.mem_restRefs_of main_arg26 (by decide) (by decide))).trans (W_main_arg26 m (dats m) c),
        ((h c).2 main_arg27 (Pipeline.mem_restRefs_of main_arg27 (by decide) (by decide))).trans (W_main_arg27 m (dats m) c),
        ((h c).2 main_arg28 (Pipeline.mem_restRefs_of main_arg28 (by decide) (by decide))).trans (W_main_arg28 m (dats m) c),
        ((h c).2 main_arg29 (Pipeline.mem_restRefs_of main_arg29 (by decide) (by decide))).trans (W_main_arg29 m (dats m) c),
        ((h c).2 main_arg30 (Pipeline.mem_restRefs_of main_arg30 (by decide) (by decide))).trans (W_main_arg30 m (dats m) c),
        ((h c).2 main_arg31 (Pipeline.mem_restRefs_of main_arg31 (by decide) (by decide))).trans (W_main_arg31 m (dats m) c),
        ((h c).2 main_arg32 (Pipeline.mem_restRefs_of main_arg32 (by decide) (by decide))).trans (W_main_arg32 m (dats m) c)⟩)
    (run_main (F := Ideal) m ρ)

end Cert.AdamSmallIdeal.Arrays

end
-- ==== Proof.AdamSmallSame.lean ====
/-
  The optimiser's call on the vectors returns what the optimiser's rule returns, and the sum of the losses.
-/
module

public import proofs.«01_k».proof.Defs
public import proofs.«01_k».proof.Proof.AdamSmallValue
public import proofs.«01_k».proof.Proof.Gen.AdamSmallRefIdeal
public import proofs.«01_k».proof.Proof.Gen.AdamSmallRefIdeal.Run

@[expose] public section

set_option maxRecDepth 16384

noncomputable section

open Idealize.ShloMosaic Idealize.ShloMosaic.TcCoe Idealize.SL.Sem

namespace Cert.AdamSmallIdeal.Arrays

open Cert.AdamSmallIdeal Cert.AdamSmallIdeal.Gen

set_option maxHeartbeats 4000000 in
/-- The loss and the thirty-two vectors the call returns equal the reference's, over the extended reals. -/
theorem algebraic : Cert.algebraic_AdamSmallIdeal_AdamSmallRefIdeal := by
  intro m ρ m' ρ' _ hagree
  refine ⟨fun c _ => Adam.grad fun s => (m ((c.tc : Thread Cert.AdamSmallIdeal.nD Cert.AdamSmallIdeal.τ).loc Cert.AdamSmallIdeal.main_arg0)) (ix1 s), fun c => Adam.gradRow (m ((c.tc : Thread Cert.AdamSmallIdeal.nD Cert.AdamSmallIdeal.τ).loc Cert.AdamSmallIdeal.main_arg1)), fun c => Adam.gradRow (m ((c.tc : Thread Cert.AdamSmallIdeal.nD Cert.AdamSmallIdeal.τ).loc Cert.AdamSmallIdeal.main_arg2)), fun c => Adam.gradRow (m ((c.tc : Thread Cert.AdamSmallIdeal.nD Cert.AdamSmallIdeal.τ).loc Cert.AdamSmallIdeal.main_arg3)), fun c => Adam.gradRow (m ((c.tc : Thread Cert.AdamSmallIdeal.nD Cert.AdamSmallIdeal.τ).loc Cert.AdamSmallIdeal.main_arg4)), fun c => Adam.gradRow (m ((c.tc : Thread Cert.AdamSmallIdeal.nD Cert.AdamSmallIdeal.τ).loc Cert.AdamSmallIdeal.main_arg5)), fun c => Adam.gradRow (m ((c.tc : Thread Cert.AdamSmallIdeal.nD Cert.AdamSmallIdeal.τ).loc Cert.AdamSmallIdeal.main_arg6)), fun c => Adam.gradRow (m ((c.tc : Thread Cert.AdamSmallIdeal.nD Cert.AdamSmallIdeal.τ).loc Cert.AdamSmallIdeal.main_arg7)), fun c => Adam.gradRow (m ((c.tc : Thread Cert.AdamSmallIdeal.nD Cert.AdamSmallIdeal.τ).loc Cert.AdamSmallIdeal.main_arg8)), fun c => Adam.deltaRow (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg25)), fun c => Adam.deltaRow (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg26)), fun c => Adam.deltaRow (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg27)), fun c => Adam.deltaRow (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg28)), fun c => Adam.deltaRow (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg29)), fun c => Adam.deltaRow (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg30)), fun c => Adam.deltaRow (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg31)), fun c => Adam.deltaRow (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg32)), fun c => Adam.momRow (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg17)), fun c => Adam.momRow (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg18)), fun c => Adam.momRow (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg19)), fun c => Adam.momRow (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg20)), fun c => Adam.momRow (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg21)), fun c => Adam.momRow (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg22)), fun c => Adam.momRow (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg23)), fun c => Adam.momRow (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg24)), fun c => Adam.secRow (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg25)), fun c => Adam.secRow (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg26)), fun c => Adam.secRow (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg27)), fun c => Adam.secRow (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg28)), fun c => Adam.secRow (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg29)), fun c => Adam.secRow (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg30)), fun c => Adam.secRow (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg31)), fun c => Adam.secRow (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg32)), run_results m ρ, ?_⟩
  refine (θ_run Cert.AdamSmallRefIdeal.defs _ _).mono
    (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2.1.trans ?_, (h c).2.2.2.2.2.2.2.2.2.2.2.2.2.2.2.2.1.trans ?_, (h c).2.2.2.2.2.2.2.2.2.2.2.2.2.2.2.2.2.1.trans ?_, (h c).2.2.2.2.2.2.2.2.2.2.2.2.2.2.2.2.2.2.1.trans ?_, (h c).2.2.2.2.2.2.2.2.2.2.2.2.2.2.2.2.2.2.2.1.trans ?_, (h c).2.2.2.2.2.2.2.2.2.2.2.2.2.2.2.2.2.2.2.2.1.trans ?_, (h c).2.2.2.2.2.2.2.2.2.2.2.2.2.2.2.2.2.2.2.2.2.1.trans ?_, (h c).2.2.2.2.2.2.2.2.2.2.2.2.2.2.2.2.2.2.2.2.2.2.1.trans ?_, (h c).2.2.2.2.2.2.2.2.2.2.2.2.2.2.2.2.2.2.2.2.2.2.2.1.trans ?_, (h c).2.2.2.2.2.2.2.2.2.2.2.2.2.2.2.2.2.2.2.2.2.2.2.2.1.trans ?_, (h c).2.2.2.2.2.2.2.2.2.2.2.2.2.2.2.2.2.2.2.2.2.2.2.2.2.1.trans ?_, (h c).2.2.2.2.2.2.2.2.2.2.2.2.2.2.2.2.2.2.2.2.2.2.2.2.2.2.1.trans ?_, (h c).2.2.2.2.2.2.2.2.2.2.2.2.2.2.2.2.2.2.2.2.2.2.2.2.2.2.2.1.trans ?_, (h c).2.2.2.2.2.2.2.2.2.2.2.2.2.2.2.2.2.2.2.2.2.2.2.2.2.2.2.2.1.trans ?_, (h c).2.2.2.2.2.2.2.2.2.2.2.2.2.2.2.2.2.2.2.2.2.2.2.2.2.2.2.2.2.1.trans ?_, (h c).2.2.2.2.2.2.2.2.2.2.2.2.2.2.2.2.2.2.2.2.2.2.2.2.2.2.2.2.2.2.1.trans ?_, (h c).2.2.2.2.2.2.2.2.2.2.2.2.2.2.2.2.2.2.2.2.2.2.2.2.2.2.2.2.2.2.2.1.trans ?_, (h c).2.2.2.2.2.2.2.2.2.2.2.2.2.2.2.2.2.2.2.2.2.2.2.2.2.2.2.2.2.2.2.2.1.trans ?_, (h c).2.2.2.2.2.2.2.2.2.2.2.2.2.2.2.2.2.2.2.2.2.2.2.2.2.2.2.2.2.2.2.2.2⟩)
    (Cert.AdamSmallRefIdeal.Value.run (F := Ideal) m' ρ')
  · have h0 : StableHlo.launchContents m' c (Proc.devRef .tc Cert.AdamSmallRefIdeal.main_arg0) = _ := (hagree c).1
    rw [h0]
    funext i
    unfold Adam.grad
    pointwise

  · have h1 : StableHlo.launchContents m' c (Proc.devRef .tc Cert.AdamSmallRefIdeal.main_arg1) = _ := (hagree c).2.1
    simp only [Cert.AdamSmallRefIdeal.Value.res_main_v0]
    rw [h1]
    funext i
    unfold Adam.gradRow
    pointwise [Adam.gradRow, Adam.delta, Adam.mom, Adam.sec, Adam.grad]

  · have h2 : StableHlo.launchContents m' c (Proc.devRef .tc Cert.AdamSmallRefIdeal.main_arg2) = _ := (hagree c).2.2.1
    simp only [Cert.AdamSmallRefIdeal.Value.res_main_v25]
    rw [h2]
    funext i
    unfold Adam.gradRow
    pointwise [Adam.gradRow, Adam.delta, Adam.mom, Adam.sec, Adam.grad]

  · have h3 : StableHlo.launchContents m' c (Proc.devRef .tc Cert.AdamSmallRefIdeal.main_arg3) = _ := (hagree c).2.2.2.1
    simp only [Cert.AdamSmallRefIdeal.Value.res_main_v50]
    rw [h3]
    funext i
    unfold Adam.gradRow
    pointwise [Adam.gradRow, Adam.delta, Adam.mom, Adam.sec, Adam.grad]

  · have h4 : StableHlo.launchContents m' c (Proc.devRef .tc Cert.AdamSmallRefIdeal.main_arg4) = _ := (hagree c).2.2.2.2.1
    simp only [Cert.AdamSmallRefIdeal.Value.res_main_v75]
    rw [h4]
    funext i
    unfold Adam.gradRow
    pointwise [Adam.gradRow, Adam.delta, Adam.mom, Adam.sec, Adam.grad]

  · have h5 : StableHlo.launchContents m' c (Proc.devRef .tc Cert.AdamSmallRefIdeal.main_arg5) = _ := (hagree c).2.2.2.2.2.1
    simp only [Cert.AdamSmallRefIdeal.Value.res_main_v100]
    rw [h5]
    funext i
    unfold Adam.gradRow
    pointwise [Adam.gradRow, Adam.delta, Adam.mom, Adam.sec, Adam.grad]

  · have h6 : StableHlo.launchContents m' c (Proc.devRef .tc Cert.AdamSmallRefIdeal.main_arg6) = _ := (hagree c).2.2.2.2.2.2.1
    simp only [Cert.AdamSmallRefIdeal.Value.res_main_v125]
    rw [h6]
    funext i
    unfold Adam.gradRow
    pointwise [Adam.gradRow, Adam.delta, Adam.mom, Adam.sec, Adam.grad]

  · have h7 : StableHlo.launchContents m' c (Proc.devRef .tc Cert.AdamSmallRefIdeal.main_arg7) = _ := (hagree c).2.2.2.2.2.2.2.1
    simp only [Cert.AdamSmallRefIdeal.Value.res_main_v150]
    rw [h7]
    funext i
    unfold Adam.gradRow
    pointwise [Adam.gradRow, Adam.delta, Adam.mom, Adam.sec, Adam.grad]

  · have h8 : StableHlo.launchContents m' c (Proc.devRef .tc Cert.AdamSmallRefIdeal.main_arg8) = _ := (hagree c).2.2.2.2.2.2.2.2.1
    simp only [Cert.AdamSmallRefIdeal.Value.res_main_v175]
    rw [h8]
    funext i
    unfold Adam.gradRow
    pointwise [Adam.gradRow, Adam.delta, Adam.mom, Adam.sec, Adam.grad]

  · have h1 : StableHlo.launchContents m' c (Proc.devRef .tc Cert.AdamSmallRefIdeal.main_arg1) = _ := (hagree c).2.1
    have h9 : StableHlo.launchContents m' c (Proc.devRef .tc Cert.AdamSmallRefIdeal.main_arg9) = _ := (hagree c).2.2.2.2.2.2.2.2.2.1
    have h17 : StableHlo.launchContents m' c (Proc.devRef .tc Cert.AdamSmallRefIdeal.main_arg17) = _ := (hagree c).2.2.2.2.2.2.2.2.2.2.2.2.2.2.2.2.2.1
    have h25 : StableHlo.launchContents m' c (Proc.devRef .tc Cert.AdamSmallRefIdeal.main_arg25) = _ := (hagree c).2.2.2.2.2.2.2.2.2.2.2.2.2.2.2.2.2.2.2.2.2.2.2.2.2.1
    simp only [Cert.AdamSmallRefIdeal.Value.res_main_v0]
    rw [h1, h9, h17, h25]
    funext i
    unfold Adam.deltaRow
    pointwise [Adam.gradRow, Adam.delta, Adam.mom, Adam.sec, Adam.grad]

  · have h2 : StableHlo.launchContents m' c (Proc.devRef .tc Cert.AdamSmallRefIdeal.main_arg2) = _ := (hagree c).2.2.1
    have h10 : StableHlo.launchContents m' c (Proc.devRef .tc Cert.AdamSmallRefIdeal.main_arg10) = _ := (hagree c).2.2.2.2.2.2.2.2.2.2.1
    have h18 : StableHlo.launchContents m' c (Proc.devRef .tc Cert.AdamSmallRefIdeal.main_arg18) = _ := (hagree c).2.2.2.2.2.2.2.2.2.2.2.2.2.2.2.2.2.2.1
    have h26 : StableHlo.launchContents m' c (Proc.devRef .tc Cert.AdamSmallRefIdeal.main_arg26) = _ := (hagree c).2.2.2.2.2.2.2.2.2.2.2.2.2.2.2.2.2.2.2.2.2.2.2.2.2.2.1
    simp only [Cert.AdamSmallRefIdeal.Value.res_main_v25]
    rw [h2, h10, h18, h26]
    funext i
    unfold Adam.deltaRow
    pointwise [Adam.gradRow, Adam.delta, Adam.mom, Adam.sec, Adam.grad]

  · have h3 : StableHlo.launchContents m' c (Proc.devRef .tc Cert.AdamSmallRefIdeal.main_arg3) = _ := (hagree c).2.2.2.1
    have h11 : StableHlo.launchContents m' c (Proc.devRef .tc Cert.AdamSmallRefIdeal.main_arg11) = _ := (hagree c).2.2.2.2.2.2.2.2.2.2.2.1
    have h19 : StableHlo.launchContents m' c (Proc.devRef .tc Cert.AdamSmallRefIdeal.main_arg19) = _ := (hagree c).2.2.2.2.2.2.2.2.2.2.2.2.2.2.2.2.2.2.2.1
    have h27 : StableHlo.launchContents m' c (Proc.devRef .tc Cert.AdamSmallRefIdeal.main_arg27) = _ := (hagree c).2.2.2.2.2.2.2.2.2.2.2.2.2.2.2.2.2.2.2.2.2.2.2.2.2.2.2.1
    simp only [Cert.AdamSmallRefIdeal.Value.res_main_v50]
    rw [h3, h11, h19, h27]
    funext i
    unfold Adam.deltaRow
    pointwise [Adam.gradRow, Adam.delta, Adam.mom, Adam.sec, Adam.grad]

  · have h4 : StableHlo.launchContents m' c (Proc.devRef .tc Cert.AdamSmallRefIdeal.main_arg4) = _ := (hagree c).2.2.2.2.1
    have h12 : StableHlo.launchContents m' c (Proc.devRef .tc Cert.AdamSmallRefIdeal.main_arg12) = _ := (hagree c).2.2.2.2.2.2.2.2.2.2.2.2.1
    have h20 : StableHlo.launchContents m' c (Proc.devRef .tc Cert.AdamSmallRefIdeal.main_arg20) = _ := (hagree c).2.2.2.2.2.2.2.2.2.2.2.2.2.2.2.2.2.2.2.2.1
    have h28 : StableHlo.launchContents m' c (Proc.devRef .tc Cert.AdamSmallRefIdeal.main_arg28) = _ := (hagree c).2.2.2.2.2.2.2.2.2.2.2.2.2.2.2.2.2.2.2.2.2.2.2.2.2.2.2.2.1
    simp only [Cert.AdamSmallRefIdeal.Value.res_main_v75]
    rw [h4, h12, h20, h28]
    funext i
    unfold Adam.deltaRow
    pointwise [Adam.gradRow, Adam.delta, Adam.mom, Adam.sec, Adam.grad]

  · have h5 : StableHlo.launchContents m' c (Proc.devRef .tc Cert.AdamSmallRefIdeal.main_arg5) = _ := (hagree c).2.2.2.2.2.1
    have h13 : StableHlo.launchContents m' c (Proc.devRef .tc Cert.AdamSmallRefIdeal.main_arg13) = _ := (hagree c).2.2.2.2.2.2.2.2.2.2.2.2.2.1
    have h21 : StableHlo.launchContents m' c (Proc.devRef .tc Cert.AdamSmallRefIdeal.main_arg21) = _ := (hagree c).2.2.2.2.2.2.2.2.2.2.2.2.2.2.2.2.2.2.2.2.2.1
    have h29 : StableHlo.launchContents m' c (Proc.devRef .tc Cert.AdamSmallRefIdeal.main_arg29) = _ := (hagree c).2.2.2.2.2.2.2.2.2.2.2.2.2.2.2.2.2.2.2.2.2.2.2.2.2.2.2.2.2.1
    simp only [Cert.AdamSmallRefIdeal.Value.res_main_v100]
    rw [h5, h13, h21, h29]
    funext i
    unfold Adam.deltaRow
    pointwise [Adam.gradRow, Adam.delta, Adam.mom, Adam.sec, Adam.grad]

  · have h6 : StableHlo.launchContents m' c (Proc.devRef .tc Cert.AdamSmallRefIdeal.main_arg6) = _ := (hagree c).2.2.2.2.2.2.1
    have h14 : StableHlo.launchContents m' c (Proc.devRef .tc Cert.AdamSmallRefIdeal.main_arg14) = _ := (hagree c).2.2.2.2.2.2.2.2.2.2.2.2.2.2.1
    have h22 : StableHlo.launchContents m' c (Proc.devRef .tc Cert.AdamSmallRefIdeal.main_arg22) = _ := (hagree c).2.2.2.2.2.2.2.2.2.2.2.2.2.2.2.2.2.2.2.2.2.2.1
    have h30 : StableHlo.launchContents m' c (Proc.devRef .tc Cert.AdamSmallRefIdeal.main_arg30) = _ := (hagree c).2.2.2.2.2.2.2.2.2.2.2.2.2.2.2.2.2.2.2.2.2.2.2.2.2.2.2.2.2.2.1
    simp only [Cert.AdamSmallRefIdeal.Value.res_main_v125]
    rw [h6, h14, h22, h30]
    funext i
    unfold Adam.deltaRow
    pointwise [Adam.gradRow, Adam.delta, Adam.mom, Adam.sec, Adam.grad]

  · have h7 : StableHlo.launchContents m' c (Proc.devRef .tc Cert.AdamSmallRefIdeal.main_arg7) = _ := (hagree c).2.2.2.2.2.2.2.1
    have h15 : StableHlo.launchContents m' c (Proc.devRef .tc Cert.AdamSmallRefIdeal.main_arg15) = _ := (hagree c).2.2.2.2.2.2.2.2.2.2.2.2.2.2.2.1
    have h23 : StableHlo.launchContents m' c (Proc.devRef .tc Cert.AdamSmallRefIdeal.main_arg23) = _ := (hagree c).2.2.2.2.2.2.2.2.2.2.2.2.2.2.2.2.2.2.2.2.2.2.2.1
    have h31 : StableHlo.launchContents m' c (Proc.devRef .tc Cert.AdamSmallRefIdeal.main_arg31) = _ := (hagree c).2.2.2.2.2.2.2.2.2.2.2.2.2.2.2.2.2.2.2.2.2.2.2.2.2.2.2.2.2.2.2.1
    simp only [Cert.AdamSmallRefIdeal.Value.res_main_v150]
    rw [h7, h15, h23, h31]
    funext i
    unfold Adam.deltaRow
    pointwise [Adam.gradRow, Adam.delta, Adam.mom, Adam.sec, Adam.grad]

  · have h8 : StableHlo.launchContents m' c (Proc.devRef .tc Cert.AdamSmallRefIdeal.main_arg8) = _ := (hagree c).2.2.2.2.2.2.2.2.1
    have h16 : StableHlo.launchContents m' c (Proc.devRef .tc Cert.AdamSmallRefIdeal.main_arg16) = _ := (hagree c).2.2.2.2.2.2.2.2.2.2.2.2.2.2.2.2.1
    have h24 : StableHlo.launchContents m' c (Proc.devRef .tc Cert.AdamSmallRefIdeal.main_arg24) = _ := (hagree c).2.2.2.2.2.2.2.2.2.2.2.2.2.2.2.2.2.2.2.2.2.2.2.2.1
    have h32 : StableHlo.launchContents m' c (Proc.devRef .tc Cert.AdamSmallRefIdeal.main_arg32) = _ := (hagree c).2.2.2.2.2.2.2.2.2.2.2.2.2.2.2.2.2.2.2.2.2.2.2.2.2.2.2.2.2.2.2.2
    simp only [Cert.AdamSmallRefIdeal.Value.res_main_v175]
    rw [h8, h16, h24, h32]
    funext i
    unfold Adam.deltaRow
    pointwise [Adam.gradRow, Adam.delta, Adam.mom, Adam.sec, Adam.grad]

  · have h1 : StableHlo.launchContents m' c (Proc.devRef .tc Cert.AdamSmallRefIdeal.main_arg1) = _ := (hagree c).2.1
    have h17 : StableHlo.launchContents m' c (Proc.devRef .tc Cert.AdamSmallRefIdeal.main_arg17) = _ := (hagree c).2.2.2.2.2.2.2.2.2.2.2.2.2.2.2.2.2.1
    simp only [Cert.AdamSmallRefIdeal.Value.res_main_v0]
    rw [h1, h17]
    funext i
    unfold Adam.momRow
    pointwise [Adam.gradRow, Adam.delta, Adam.mom, Adam.sec, Adam.grad]

  · have h2 : StableHlo.launchContents m' c (Proc.devRef .tc Cert.AdamSmallRefIdeal.main_arg2) = _ := (hagree c).2.2.1
    have h18 : StableHlo.launchContents m' c (Proc.devRef .tc Cert.AdamSmallRefIdeal.main_arg18) = _ := (hagree c).2.2.2.2.2.2.2.2.2.2.2.2.2.2.2.2.2.2.1
    simp only [Cert.AdamSmallRefIdeal.Value.res_main_v25]
    rw [h2, h18]
    funext i
    unfold Adam.momRow
    pointwise [Adam.gradRow, Adam.delta, Adam.mom, Adam.sec, Adam.grad]

  · have h3 : StableHlo.launchContents m' c (Proc.devRef .tc Cert.AdamSmallRefIdeal.main_arg3) = _ := (hagree c).2.2.2.1
    have h19 : StableHlo.launchContents m' c (Proc.devRef .tc Cert.AdamSmallRefIdeal.main_arg19) = _ := (hagree c).2.2.2.2.2.2.2.2.2.2.2.2.2.2.2.2.2.2.2.1
    simp only [Cert.AdamSmallRefIdeal.Value.res_main_v50]
    rw [h3, h19]
    funext i
    unfold Adam.momRow
    pointwise [Adam.gradRow, Adam.delta, Adam.mom, Adam.sec, Adam.grad]

  · have h4 : StableHlo.launchContents m' c (Proc.devRef .tc Cert.AdamSmallRefIdeal.main_arg4) = _ := (hagree c).2.2.2.2.1
    have h20 : StableHlo.launchContents m' c (Proc.devRef .tc Cert.AdamSmallRefIdeal.main_arg20) = _ := (hagree c).2.2.2.2.2.2.2.2.2.2.2.2.2.2.2.2.2.2.2.2.1
    simp only [Cert.AdamSmallRefIdeal.Value.res_main_v75]
    rw [h4, h20]
    funext i
    unfold Adam.momRow
    pointwise [Adam.gradRow, Adam.delta, Adam.mom, Adam.sec, Adam.grad]

  · have h5 : StableHlo.launchContents m' c (Proc.devRef .tc Cert.AdamSmallRefIdeal.main_arg5) = _ := (hagree c).2.2.2.2.2.1
    have h21 : StableHlo.launchContents m' c (Proc.devRef .tc Cert.AdamSmallRefIdeal.main_arg21) = _ := (hagree c).2.2.2.2.2.2.2.2.2.2.2.2.2.2.2.2.2.2.2.2.2.1
    simp only [Cert.AdamSmallRefIdeal.Value.res_main_v100]
    rw [h5, h21]
    funext i
    unfold Adam.momRow
    pointwise [Adam.gradRow, Adam.delta, Adam.mom, Adam.sec, Adam.grad]

  · have h6 : StableHlo.launchContents m' c (Proc.devRef .tc Cert.AdamSmallRefIdeal.main_arg6) = _ := (hagree c).2.2.2.2.2.2.1
    have h22 : StableHlo.launchContents m' c (Proc.devRef .tc Cert.AdamSmallRefIdeal.main_arg22) = _ := (hagree c).2.2.2.2.2.2.2.2.2.2.2.2.2.2.2.2.2.2.2.2.2.2.1
    simp only [Cert.AdamSmallRefIdeal.Value.res_main_v125]
    rw [h6, h22]
    funext i
    unfold Adam.momRow
    pointwise [Adam.gradRow, Adam.delta, Adam.mom, Adam.sec, Adam.grad]

  · have h7 : StableHlo.launchContents m' c (Proc.devRef .tc Cert.AdamSmallRefIdeal.main_arg7) = _ := (hagree c).2.2.2.2.2.2.2.1
    have h23 : StableHlo.launchContents m' c (Proc.devRef .tc Cert.AdamSmallRefIdeal.main_arg23) = _ := (hagree c).2.2.2.2.2.2.2.2.2.2.2.2.2.2.2.2.2.2.2.2.2.2.2.1
    simp only [Cert.AdamSmallRefIdeal.Value.res_main_v150]
    rw [h7, h23]
    funext i
    unfold Adam.momRow
    pointwise [Adam.gradRow, Adam.delta, Adam.mom, Adam.sec, Adam.grad]

  · have h8 : StableHlo.launchContents m' c (Proc.devRef .tc Cert.AdamSmallRefIdeal.main_arg8) = _ := (hagree c).2.2.2.2.2.2.2.2.1
    have h24 : StableHlo.launchContents m' c (Proc.devRef .tc Cert.AdamSmallRefIdeal.main_arg24) = _ := (hagree c).2.2.2.2.2.2.2.2.2.2.2.2.2.2.2.2.2.2.2.2.2.2.2.2.1
    simp only [Cert.AdamSmallRefIdeal.Value.res_main_v175]
    rw [h8, h24]
    funext i
    unfold Adam.momRow
    pointwise [Adam.gradRow, Adam.delta, Adam.mom, Adam.sec, Adam.grad]

  · have h1 : StableHlo.launchContents m' c (Proc.devRef .tc Cert.AdamSmallRefIdeal.main_arg1) = _ := (hagree c).2.1
    have h25 : StableHlo.launchContents m' c (Proc.devRef .tc Cert.AdamSmallRefIdeal.main_arg25) = _ := (hagree c).2.2.2.2.2.2.2.2.2.2.2.2.2.2.2.2.2.2.2.2.2.2.2.2.2.1
    simp only [Cert.AdamSmallRefIdeal.Value.res_main_v0]
    rw [h1, h25]
    funext i
    unfold Adam.secRow
    pointwise [Adam.gradRow, Adam.delta, Adam.mom, Adam.sec, Adam.grad]

  · have h2 : StableHlo.launchContents m' c (Proc.devRef .tc Cert.AdamSmallRefIdeal.main_arg2) = _ := (hagree c).2.2.1
    have h26 : StableHlo.launchContents m' c (Proc.devRef .tc Cert.AdamSmallRefIdeal.main_arg26) = _ := (hagree c).2.2.2.2.2.2.2.2.2.2.2.2.2.2.2.2.2.2.2.2.2.2.2.2.2.2.1
    simp only [Cert.AdamSmallRefIdeal.Value.res_main_v25]
    rw [h2, h26]
    funext i
    unfold Adam.secRow
    pointwise [Adam.gradRow, Adam.delta, Adam.mom, Adam.sec, Adam.grad]

  · have h3 : StableHlo.launchContents m' c (Proc.devRef .tc Cert.AdamSmallRefIdeal.main_arg3) = _ := (hagree c).2.2.2.1
    have h27 : StableHlo.launchContents m' c (Proc.devRef .tc Cert.AdamSmallRefIdeal.main_arg27) = _ := (hagree c).2.2.2.2.2.2.2.2.2.2.2.2.2.2.2.2.2.2.2.2.2.2.2.2.2.2.2.1
    simp only [Cert.AdamSmallRefIdeal.Value.res_main_v50]
    rw [h3, h27]
    funext i
    unfold Adam.secRow
    pointwise [Adam.gradRow, Adam.delta, Adam.mom, Adam.sec, Adam.grad]

  · have h4 : StableHlo.launchContents m' c (Proc.devRef .tc Cert.AdamSmallRefIdeal.main_arg4) = _ := (hagree c).2.2.2.2.1
    have h28 : StableHlo.launchContents m' c (Proc.devRef .tc Cert.AdamSmallRefIdeal.main_arg28) = _ := (hagree c).2.2.2.2.2.2.2.2.2.2.2.2.2.2.2.2.2.2.2.2.2.2.2.2.2.2.2.2.1
    simp only [Cert.AdamSmallRefIdeal.Value.res_main_v75]
    rw [h4, h28]
    funext i
    unfold Adam.secRow
    pointwise [Adam.gradRow, Adam.delta, Adam.mom, Adam.sec, Adam.grad]

  · have h5 : StableHlo.launchContents m' c (Proc.devRef .tc Cert.AdamSmallRefIdeal.main_arg5) = _ := (hagree c).2.2.2.2.2.1
    have h29 : StableHlo.launchContents m' c (Proc.devRef .tc Cert.AdamSmallRefIdeal.main_arg29) = _ := (hagree c).2.2.2.2.2.2.2.2.2.2.2.2.2.2.2.2.2.2.2.2.2.2.2.2.2.2.2.2.2.1
    simp only [Cert.AdamSmallRefIdeal.Value.res_main_v100]
    rw [h5, h29]
    funext i
    unfold Adam.secRow
    pointwise [Adam.gradRow, Adam.delta, Adam.mom, Adam.sec, Adam.grad]

  · have h6 : StableHlo.launchContents m' c (Proc.devRef .tc Cert.AdamSmallRefIdeal.main_arg6) = _ := (hagree c).2.2.2.2.2.2.1
    have h30 : StableHlo.launchContents m' c (Proc.devRef .tc Cert.AdamSmallRefIdeal.main_arg30) = _ := (hagree c).2.2.2.2.2.2.2.2.2.2.2.2.2.2.2.2.2.2.2.2.2.2.2.2.2.2.2.2.2.2.1
    simp only [Cert.AdamSmallRefIdeal.Value.res_main_v125]
    rw [h6, h30]
    funext i
    unfold Adam.secRow
    pointwise [Adam.gradRow, Adam.delta, Adam.mom, Adam.sec, Adam.grad]

  · have h7 : StableHlo.launchContents m' c (Proc.devRef .tc Cert.AdamSmallRefIdeal.main_arg7) = _ := (hagree c).2.2.2.2.2.2.2.1
    have h31 : StableHlo.launchContents m' c (Proc.devRef .tc Cert.AdamSmallRefIdeal.main_arg31) = _ := (hagree c).2.2.2.2.2.2.2.2.2.2.2.2.2.2.2.2.2.2.2.2.2.2.2.2.2.2.2.2.2.2.2.1
    simp only [Cert.AdamSmallRefIdeal.Value.res_main_v150]
    rw [h7, h31]
    funext i
    unfold Adam.secRow
    pointwise [Adam.gradRow, Adam.delta, Adam.mom, Adam.sec, Adam.grad]

  · have h8 : StableHlo.launchContents m' c (Proc.devRef .tc Cert.AdamSmallRefIdeal.main_arg8) = _ := (hagree c).2.2.2.2.2.2.2.2.1
    have h32 : StableHlo.launchContents m' c (Proc.devRef .tc Cert.AdamSmallRefIdeal.main_arg32) = _ := (hagree c).2.2.2.2.2.2.2.2.2.2.2.2.2.2.2.2.2.2.2.2.2.2.2.2.2.2.2.2.2.2.2.2
    simp only [Cert.AdamSmallRefIdeal.Value.res_main_v175]
    rw [h8, h32]
    funext i
    unfold Adam.secRow
    pointwise [Adam.gradRow, Adam.delta, Adam.mom, Adam.sec, Adam.grad]

end Cert.AdamSmallIdeal.Arrays

end
-- ==== Proof.GdnRun.lean ====
/-
  The causal depthwise convolution's body at one grid point: it runs to its end from any contents of the bank of shifted rows,
  and what it leaves in the output's block, as pieces.
-/
module

public import proofs.«01_k».proof.Proof.Gen.GdnConvIdeal.Frame
public import proofs.«01_k».proof.Proof.Gen.GdnConvIdeal.Loops
public import Idealize.ShloMosaic.Lib.Pipeline.FrameBody
public import Idealize.ShloMosaic.Lib.Ring
public import Idealize.ShloMosaic.Lib.Tactic
public import Idealize.ShloMosaic.Lib.Pipeline.Value
public import Idealize.ShloMosaic.Lib.Pipeline.ValueKit
public import Idealize.ShloMosaic.Lib.KernelVsHost
public import Idealize.ShloMosaic.Lib.WritesUnit

@[expose] public section

set_option maxRecDepth 16384

noncomputable section

namespace Cert.GdnConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body stores in the output's block, with its run from the bank at contents `fs0`. -/
noncomputable def bodyRun (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S512x1024 .f32) (harg5 : arg5.IsWhole) (arg6 : Memref sig .tc .vmem S8x520x1024 .f32) (harg6 : arg6.IsWhole)
    (x0 : Vec F S512x1024 .f32) (x1 : Vec F S8x1024 .f32) (x2 : Vec F S8x1024 .f32) (fs0 : BufTy.Contents (Elt F) arg6.view.ty) :
    { L3 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (arg6.view.loc (c : Thread nD τ) ↦[arg6.view.set]{fullShare} fs0)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d)) -∗ K ⟨⟩))
          ⊢ wp frame (wpE (defs₀ (F := F)) Variants.none c none) E (cc0_gdn_conv_fwd i arg2 harg2 arg3 harg3 arg4 harg4 arg5 harg5 arg6 harg6) K } := by
  refine ⟨?_, fun E K => ?run⟩
  case run =>
    simp only [cc0_gdn_conv_fwd_eq_skeleton]; unfold cc0_gdn_conv_fwd_skel
    simp only [k0_part8_eq_skeleton]
    unfold owns
    iintro ⟨⟨%f0, %hf0, H0⟩, ⟨%f1, %hf1, H1⟩, ⟨%f2, %hf2, H2⟩, ⟨%d3, %f3, -, H3⟩, HS0, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

/-! ## What the pieces hold -/

/-- The block's rows behind the eight rows before them: zeros at the first block of rows. -/
def extRow (i : grid0.Coords) (x0 : Vec F S512x1024 .f32) (x1 : Vec F S8x1024 .f32) (r : ℕ) (q : Fin 1024) : F .f32 :=
  if h : r < 8 then Scalar.select (Scalar.cmpi .eq (BitVec.ofNat 32 (i 1).val) 0#32) (broadcast S8x1024 (Scalar.ofBits .f32 0x00000000#32 : F .f32)) x1 (ix2 (⟨r, h⟩ : Fin 8) q)
  else x0 (ix2 (⟨(r - 8) % 512, Nat.mod_lt _ (by decide)⟩ : Fin 512) q)

/-- The convolution's row from the extended block: four taps, from the zero on. -/
def convRow (i : grid0.Coords) (x0 : Vec F S512x1024 .f32) (x1 x2 : Vec F S8x1024 .f32) (y : S512x1024.Idx) : F .f32 :=
  FloatOps.addf (FloatOps.addf (FloatOps.addf (FloatOps.addf (Scalar.ofBits .f32 0x00000000#32 : F .f32)
    (FloatOps.mulf (extRow i x0 x1 ((y 0).val + 5) (y 1)) (x2 (ix2 (0 : Fin 8) (y 1)))))
    (FloatOps.mulf (extRow i x0 x1 ((y 0).val + 6) (y 1)) (x2 (ix2 (1 : Fin 8) (y 1)))))
    (FloatOps.mulf (extRow i x0 x1 ((y 0).val + 7) (y 1)) (x2 (ix2 (2 : Fin 8) (y 1)))))
    (FloatOps.mulf (extRow i x0 x1 ((y 0).val + 8) (y 1)) (x2 (ix2 (3 : Fin 8) (y 1))))

/-- What the rows of the bank that the taps read hold. -/
def BankOk (i : grid0.Coords) (x0 : Vec F S512x1024 .f32) (x1 : Vec F S8x1024 .f32) (B : Vec F S8x520x1024 .f32) : Prop :=
  (∀ (r : Fin 520) (q : Fin 1024), B (ix3 (0 : Fin 8) r q) = extRow i x0 x1 r.val q)
  ∧ (∀ (r : Fin 520) (q : Fin 1024), r.val < 512 → B (ix3 (5 : Fin 8) r q) = extRow i x0 x1 (r.val + 5) q)
  ∧ (∀ (r : Fin 520) (q : Fin 1024), r.val < 512 → B (ix3 (6 : Fin 8) r q) = extRow i x0 x1 (r.val + 6) q)
  ∧ (∀ (r : Fin 520) (q : Fin 1024), r.val < 512 → B (ix3 (7 : Fin 8) r q) = extRow i x0 x1 (r.val + 7) q)

theorem drop1 (v : Vec F S1x16x128 .f32) (x : S16x128.Idx) :
    shapeCast S16x128 v shapeCasts_S1x16x128_S16x128 x = v (ix3 (0 : Fin 1) (x 0) (x 1)) :=
  shapeCast_apply v _ x _ (by
    rw [Shape.rowMajor_val_three, Shape.rowMajor_val_two]
    show ((0 * 16 + (x 0).val) * 128 + (x 1).val) = (x 0).val * 128 + (x 1).val
    omega)

theorem spread (v : Vec F S1x128 .f32) (x : S16x128.Idx) :
    broadcastTo S16x128 v broadcasts_S1x128_S16x128 x = v (ix2 (0 : Fin 1) (x 1)) :=
  broadcastTo_apply v _ x _ fun a => by
    match a with
    | ⟨0, _⟩ => rfl
    | ⟨1, _⟩ => rfl

/-- The value stored for one tile of 16 rows by 128 columns. -/
theorem pay_apply (a : Vec F S1x16x128 .f32) (wa : Vec F S1x128 .f32) (b : Vec F S1x16x128 .f32) (wb : Vec F S1x128 .f32)
    (c : Vec F S1x16x128 .f32) (wc : Vec F S1x128 .f32) (d : Vec F S1x16x128 .f32) (wd : Vec F S1x128 .f32) (x : S16x128.Idx) :
    k0_pay2 a wa b wb c wc d wd x
      = FloatOps.addf (FloatOps.addf (FloatOps.addf (FloatOps.addf (Scalar.ofBits .f32 0x00000000#32 : F .f32)
        (FloatOps.mulf (a (ix3 (0 : Fin 1) (x 0) (x 1))) (wa (ix2 (0 : Fin 1) (x 1)))))
        (FloatOps.mulf (b (ix3 (0 : Fin 1) (x 0) (x 1))) (wb (ix2 (0 : Fin 1) (x 1)))))
        (FloatOps.mulf (c (ix3 (0 : Fin 1) (x 0) (x 1))) (wc (ix2 (0 : Fin 1) (x 1)))))
        (FloatOps.mulf (d (ix3 (0 : Fin 1) (x 0) (x 1))) (wd (ix2 (0 : Fin 1) (x 1)))) := by
  rw [← drop1 a x, ← drop1 b x, ← drop1 c x, ← drop1 d x, ← spread wa x, ← spread wb x, ← spread wc x, ← spread wd x]
  rfl

theorem tile_apply (i : grid0.Coords) (x0 : Vec F S512x1024 .f32) (x1 x2 : Vec F S8x1024 .f32) (B : Vec F S8x520x1024 .f32) (hB : BankOk i x0 x1 B)
    (k l : ℕ) (hk : k < 32) (hl : l + 128 ≤ 1024) {o1 o2 o3 o4 : Fin 3 → ℕ} {o5 : Fin 2 → ℕ}
    (h1 : o1 = ![5, 16 * k, l]) (h2 : o2 = ![6, 16 * k, l]) (h3 : o3 = ![7, 16 * k, l]) (h4 : o4 = ![0, 16 * k + 8, l]) (h5 : o5 = ![16 * k, l])
    (i1 : ∀ a, o1 a + (![1, 16, 128] : Fin 3 → ℕ) a ≤ S8x520x1024.size a) (i2 : ∀ a, o2 a + (![1, 16, 128] : Fin 3 → ℕ) a ≤ S8x520x1024.size a)
    (i3 : ∀ a, o3 a + (![1, 16, 128] : Fin 3 → ℕ) a ≤ S8x520x1024.size a) (i4 : ∀ a, o4 a + (![1, 16, 128] : Fin 3 → ℕ) a ≤ S8x520x1024.size a)
    (i5 : ∀ a, o5 a + (![16, 128] : Fin 2 → ℕ) a ≤ S512x1024.size a)
    (j0 : ∀ a, (![0, l] : Fin 2 → ℕ) a + (![1, 128] : Fin 2 → ℕ) a ≤ S8x1024.size a) (j1 : ∀ a, (![1, l] : Fin 2 → ℕ) a + (![1, 128] : Fin 2 → ℕ) a ≤ S8x1024.size a)
    (j2 : ∀ a, (![2, l] : Fin 2 → ℕ) a + (![1, 128] : Fin 2 → ℕ) a ≤ S8x1024.size a) (j3 : ∀ a, (![3, l] : Fin 2 → ℕ) a + (![1, 128] : Fin 2 → ℕ) a ≤ S8x1024.size a)
    (x : S16x128.Idx) :
    k0_pay2 (View.ld B (Rect.unit (s := S8x520x1024) o1 ![1, 16, 128] i1)) (View.ld x2 (Rect.unit (s := S8x1024) ![0, l] ![1, 128] j0))
      (View.ld B (Rect.unit (s := S8x520x1024) o2 ![1, 16, 128] i2)) (View.ld x2 (Rect.unit (s := S8x1024) ![1, l] ![1, 128] j1))
      (View.ld B (Rect.unit (s := S8x520x1024) o3 ![1, 16, 128] i3)) (View.ld x2 (Rect.unit (s := S8x1024) ![2, l] ![1, 128] j2))
      (View.ld B (Rect.unit (s := S8x520x1024) o4 ![1, 16, 128] i4)) (View.ld x2 (Rect.unit (s := S8x1024) ![3, l] ![1, 128] j3)) x
      = convRow i x0 x1 x2 ((Rect.unit (s := S512x1024) o5 ![16, 128] i5).emb x) := by
  subst h1 h2 h3 h4 h5
  have hx0 : (x 0).val < 16 := (x 0).isLt
  have hx1 : (x 1).val < 128 := (x 1).isLt
  have he : (Rect.unit (s := S512x1024) ![16 * k, l] ![16, 128] i5).emb x = ix2 (⟨16 * k + (x 0).val, by omega⟩ : Fin 512) (⟨l + (x 1).val, by omega⟩ : Fin 1024) :=
    funext fun a => Fin.ext (by
      match a with
      | ⟨0, _⟩ => show 16 * k + 1 * (x 0).val = 16 * k + (x 0).val; omega
      | ⟨1, _⟩ => show l + 1 * (x 1).val = l + (x 1).val; omega)
  rw [he, pay_apply]
  have bk : ∀ (s : Fin 8) (o : ℕ) (ho : o + 16 ≤ 520) (inb : ∀ a, (![s.val, o, l] : Fin 3 → ℕ) a + (![1, 16, 128] : Fin 3 → ℕ) a ≤ S8x520x1024.size a),
      View.ld B (Rect.unit (s := S8x520x1024) ![s.val, o, l] ![1, 16, 128] inb) (ix3 (0 : Fin 1) (x 0) (x 1))
        = B (ix3 s (⟨o + (x 0).val, by omega⟩ : Fin 520) (⟨l + (x 1).val, by omega⟩ : Fin 1024)) := fun s o ho inb =>
    View.ld_unit_apply_of _ _ _ _ _ _ fun a => by
      match a with
      | ⟨0, _⟩ => show s.val = s.val + 0; omega
      | ⟨1, _⟩ => show o + (x 0).val = o + (x 0).val; rfl
      | ⟨2, _⟩ => show l + (x 1).val = l + (x 1).val; rfl
  have wk : ∀ (s : Fin 8) (inb : ∀ a, (![s.val, l] : Fin 2 → ℕ) a + (![1, 128] : Fin 2 → ℕ) a ≤ S8x1024.size a),
      View.ld x2 (Rect.unit (s := S8x1024) ![s.val, l] ![1, 128] inb) (ix2 (0 : Fin 1) (x 1))
        = x2 (ix2 s (⟨l + (x 1).val, by omega⟩ : Fin 1024)) := fun s inb =>
    View.ld_unit_apply_of _ _ _ _ _ _ fun a => by
      match a with
      | ⟨0, _⟩ => show s.val = s.val + 0; omega
      | ⟨1, _⟩ => show l + (x 1).val = l + (x 1).val; rfl
  obtain ⟨b0, b5, b6, b7⟩ := hB
  have e5 := (bk 5 (16 * k) (by omega) i1).trans (b5 _ _ (by show 16 * k + (x 0).val < 512; omega))
  have e6 := (bk 6 (16 * k) (by omega) i2).trans (b6 _ _ (by show 16 * k + (x 0).val < 512; omega))
  have e7 := (bk 7 (16 * k) (by omega) i3).trans (b7 _ _ (by show 16 * k + (x 0).val < 512; omega))
  have e0 := (bk 0 (16 * k + 8) (by omega) i4).trans (b0 _ _)
  have w0 := wk 0 j0
  have w1 := wk 1 j1
  have w2 := wk 2 j2
  have w3 := wk 3 j3
  have e0' : extRow i x0 x1 (16 * k + 8 + (x 0).val) (⟨l + (x 1).val, by omega⟩ : Fin 1024) = extRow i x0 x1 (16 * k + (x 0).val + 8) (⟨l + (x 1).val, by omega⟩ : Fin 1024) :=
    congrArg (fun r => extRow i x0 x1 r _) (by omega)
  exact congrArg₂ FloatOps.addf (congrArg₂ FloatOps.addf (congrArg₂ FloatOps.addf (congrArg (FloatOps.addf _) (congrArg₂ FloatOps.mulf e5 w0)) (congrArg₂ FloatOps.mulf e6 w1)) (congrArg₂ FloatOps.mulf e7 w2)) (congrArg₂ FloatOps.mulf (e0.trans e0') w3)

/-- The pieces of one trip hold the convolution's rows. -/
theorem trip_apply (𝒱 : Variants) (c : Dev nD) (bd : Option 𝒱.V) (i : grid0.Coords) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S512x1024 .f32) (harg5 : arg5.IsWhole) (arg6 : Memref sig .tc .vmem S8x520x1024 .f32) (harg6 : arg6.IsWhole) (c0_i32_17 : BitVec 32)
    (x0 : Vec F S512x1024 .f32) (x1 x2 : Vec F S8x1024 .f32) (X_arg6 : BufTy.Contents (Elt F) arg6.view.ty) (hB : BankOk i x0 x1 (arg6.view.read (Elt F) X_arg6)) (k : Fin k0_t1_loop.trips) :
    ∀ p ∈ tripL_k0_t1 (F := F) 𝒱 c bd i arg2 harg2 arg3 harg3 arg4 harg4 arg5 harg5 arg6 harg6 c0_i32_17 (harg4.unread x2) X_arg6 k, ∀ x : p.1.shape.Idx, p.2 x = convRow i x0 x1 x2 (p.1.emb x) := by
  have hk : k.val < 32 := lt_of_lt_of_le k.isLt k0_t1_abs.2.1
  unfold tripL_k0_t1 trip_k0_t1
  dsimp only
  sl_unfold_words
  simp only [View.readAt_eq_ld, harg4.read_unread]
  intro p hp
  simp only [List.mem_cons, List.not_mem_nil, or_false] at hp
  rcases hp with rfl | rfl | rfl | rfl | rfl | rfl | rfl | rfl
  · exact tile_apply i x0 x1 x2 _ hB k.val 896 hk (by decide) (k0_off36_eq k) (k0_off37_eq k) (k0_off38_eq k) (k0_off39_eq k) (k0_off40_eq k) _ _ _ _ (k0_off40_inb k) _ _ _ _
  · exact tile_apply i x0 x1 x2 _ hB k.val 768 hk (by decide) (k0_off31_eq k) (k0_off32_eq k) (k0_off33_eq k) (k0_off34_eq k) (k0_off35_eq k) _ _ _ _ (k0_off35_inb k) _ _ _ _
  · exact tile_apply i x0 x1 x2 _ hB k.val 640 hk (by decide) (k0_off26_eq k) (k0_off27_eq k) (k0_off28_eq k) (k0_off29_eq k) (k0_off30_eq k) _ _ _ _ (k0_off30_inb k) _ _ _ _
  · exact tile_apply i x0 x1 x2 _ hB k.val 512 hk (by decide) (k0_off21_eq k) (k0_off22_eq k) (k0_off23_eq k) (k0_off24_eq k) (k0_off25_eq k) _ _ _ _ (k0_off25_inb k) _ _ _ _
  · exact tile_apply i x0 x1 x2 _ hB k.val 384 hk (by decide) (k0_off16_eq k) (k0_off17_eq k) (k0_off18_eq k) (k0_off19_eq k) (k0_off20_eq k) _ _ _ _ (k0_off20_inb k) _ _ _ _
  · exact tile_apply i x0 x1 x2 _ hB k.val 256 hk (by decide) (k0_off11_eq k) (k0_off12_eq k) (k0_off13_eq k) (k0_off14_eq k) (k0_off15_eq k) _ _ _ _ (k0_off15_inb k) _ _ _ _
  · exact tile_apply i x0 x1 x2 _ hB k.val 128 hk (by decide) (k0_off6_eq k) (k0_off7_eq k) (k0_off8_eq k) (k0_off9_eq k) (k0_off10_eq k) _ _ _ _ (k0_off10_inb k) _ _ _ _
  · exact tile_apply i x0 x1 x2 _ hB k.val 0 hk (by decide) (k0_off1_eq k) (k0_off2_eq k) (k0_off3_eq k) (k0_off4_eq k) (k0_off5_eq k) _ _ _ _ (k0_off5_inb k) _ _ _ _

theorem pb_mem (𝒱 : Variants) (c : Dev nD) (bd : Option 𝒱.V) (i : grid0.Coords) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S512x1024 .f32) (harg5 : arg5.IsWhole) (arg6 : Memref sig .tc .vmem S8x520x1024 .f32) (harg6 : arg6.IsWhole) (c0_i32_17 : BitVec 32)
    (X_arg4 : BufTy.Contents (Elt F) arg4.view.ty) (X_arg6 : BufTy.Contents (Elt F) arg6.view.ty) (p : View.Piece (Elt F) S512x1024 .f32) :
    ∀ n, n ≤ k0_t1_loop.trips → p ∈ pb_k0_t1 (F := F) 𝒱 c bd i arg2 harg2 arg3 harg3 arg4 harg4 arg5 harg5 arg6 harg6 c0_i32_17 X_arg4 X_arg6 n →
      ∃ k, p ∈ tripL_k0_t1 (F := F) 𝒱 c bd i arg2 harg2 arg3 harg3 arg4 harg4 arg5 harg5 arg6 harg6 c0_i32_17 X_arg4 X_arg6 k
  | 0, _, h => by rw [pb_k0_t1.eq_1] at h; exact absurd h List.not_mem_nil
  | n + 1, hn, h => by
    have e := pb_k0_t1_succ (F := F) 𝒱 c bd i arg2 harg2 arg3 harg3 arg4 harg4 arg5 harg5 arg6 harg6 c0_i32_17 X_arg4 X_arg6 ⟨n, hn⟩
    rw [show (⟨n, hn⟩ : Fin k0_t1_loop.trips).val = n from rfl] at e
    rw [e] at h
    rcases List.mem_append.mp h with h | h
    · exact ⟨_, h⟩
    · exact pb_mem 𝒱 c bd i arg2 harg2 arg3 harg3 arg4 harg4 arg5 harg5 arg6 harg6 c0_i32_17 X_arg4 X_arg6 p n (by omega) h

/-- The pieces that fill the bank's first slab: the eight rows before the block, then the block. -/
abbrev slab0 (i : grid0.Coords) (x0 : Vec F S512x1024 .f32) (x1 : Vec F S8x1024 .f32) : List (View.Piece (Elt F) S8x520x1024 .f32) :=
  [⟨Rect.unit (s := S8x520x1024) ![0, 8, 0] S1x512x1024.size inb_S8x520x1024_S1x512x1024_0_8_0, k0_pay16 x0⟩,
    ⟨Rect.unit (s := S8x520x1024) ![0, 0, 0] S1x8x1024.size inb_S8x520x1024_S1x8x1024_0_0_0, k0_pay15 i x1⟩]

theorem slab0_read (i : grid0.Coords) (x0 : Vec F S512x1024 .f32) (x1 : Vec F S8x1024 .f32)
    (v : View sig .tc .vmem S8x520x1024 .f32) (f : v.ty.Contents (Elt F)) (r : Fin 520) (q : Fin 1024) :
    v.read (Elt F) (v.writes (Elt F) f (slab0 i x0 x1)) (ix3 (0 : Fin 8) r q) = extRow i x0 x1 r.val q := by
  unfold extRow
  by_cases h : r.val < 8
  · rw [dif_pos h]
    refine (View.read_writes_cons_unit_of_not_mem v f _ _ _ _ rfl (1 : Fin 3) (.inl (by show r.val < 8; exact h))).trans ?_
    refine (View.read_writes_cons_unit_of_mem v f _ _ _ _ (ix3 (0 : Fin 1) (⟨r.val, h⟩ : Fin 8) q) rfl fun a => ?_).trans ?_
    · match a with
      | ⟨0, _⟩ => rfl
      | ⟨1, _⟩ => show r.val = 0 + r.val; omega
      | ⟨2, _⟩ => show q.val = 0 + q.val; omega
    · exact shapeCast_apply _ _ _ _ (by
        rw [Shape.rowMajor_val_three, Shape.rowMajor_val_two]
        show r.val * 1024 + q.val = ((0 * 8 + r.val) * 1024 + q.val)
        omega)
  · rw [dif_neg h]
    have hr := r.isLt
    have hm : (r.val - 8) % 512 = r.val - 8 := Nat.mod_eq_of_lt (by omega)
    refine (View.read_writes_cons_unit_of_mem v f _ _ _ _ (ix3 (0 : Fin 1) (⟨(r.val - 8) % 512, Nat.mod_lt _ (by decide)⟩ : Fin 512) q) rfl fun a => ?_).trans ?_
    · match a with
      | ⟨0, _⟩ => rfl
      | ⟨1, _⟩ => show r.val = 8 + (r.val - 8) % 512; omega
      | ⟨2, _⟩ => show q.val = 0 + q.val; omega
    · exact shapeCast_apply _ _ _ _ (by
        rw [Shape.rowMajor_val_three, Shape.rowMajor_val_two]
        show (r.val - 8) % 512 * 1024 + q.val = ((0 * 512 + (r.val - 8) % 512) * 1024 + q.val)
        omega)

theorem slab0_cov (i : grid0.Coords) (x0 : Vec F S512x1024 .f32) (x1 : Vec F S8x1024 .f32) (v : View sig .tc .vmem S8x520x1024 .f32) (r : Fin 520) (q : Fin 1024) :
    v.readCov (slab0 i x0 x1) (Rect.unit (s := S8x520x1024) ![0, 0, 0] S1x520x1024.size inb_S8x520x1024_S1x520x1024_0_0_0).toLoadRect (ix3 (0 : Fin 1) r q)
      = extRow i x0 x1 r.val q := by
  show v.readAt (Elt F) _ (v.writes (Elt F) v.junk _) _ = _
  rw [View.readAt_eq_ld]
  refine (View.ld_unit_apply_of _ _ _ _ _ (ix3 (0 : Fin 8) r q) fun a => ?_).trans (slab0_read i x0 x1 v _ r q)
  match a with
  | ⟨0, _⟩ => rfl
  | ⟨1, _⟩ => show r.val = 0 + r.val; omega
  | ⟨2, _⟩ => show q.val = 0 + q.val; omega

/-- A slab moved up by `s` rows: the rotation by `520 - s` and its slab's layout. -/
theorem rot_apply (V : Vec F S1x520x1024 .f32) (sb : BitVec 32) (s : ℕ) (hs : sb.toNat = 520 - s) (hs8 : s ≤ 8) (h1 : 0 < s) (r : Fin 520) (hr : r.val < 512) (q : Fin 1024) :
    shapeCast S1x520x1024 (dynamicRotate 0 sb none (k0_pay17 V) rotates_S520x1024_d0) shapeCasts_S520x1024_S1x520x1024 (ix3 (0 : Fin 1) r q)
      = V (ix3 (0 : Fin 1) (⟨r.val + s, by omega⟩ : Fin 520) q) := by
  refine (shapeCast_apply _ _ _ (ix2 r q) (by
    rw [Shape.rowMajor_val_three, Shape.rowMajor_val_two]
    show r.val * 1024 + q.val = ((0 * 520 + r.val) * 1024 + q.val)
    omega)).trans ?_
  refine (dynamicRotate_apply (0 : Fin 2) sb _ _ _ (ix2 (⟨r.val + s, by omega⟩ : Fin 520) q) fun b => ?_).trans ?_
  · match b with
    | ⟨0, _⟩ =>
      show r.val + s = (r.val + 520 - sb.toNat % 520) % 520
      rw [hs, Nat.mod_eq_of_lt (show 520 - s < 520 by omega), show r.val + 520 - (520 - s) = r.val + s by omega, Nat.mod_eq_of_lt (by omega)]
    | ⟨1, _⟩ => rfl
  · exact shapeCast_apply _ _ _ _ (by
      rw [Shape.rowMajor_val_three, Shape.rowMajor_val_two]
      show ((0 * 520 + (r.val + s)) * 1024 + q.val) = (r.val + s) * 1024 + q.val
      omega)

/-- A whole slab's store, read at its own rows and at another slab's. -/
theorem slab_hit (v : View sig .tc .vmem S8x520x1024 .f32) (f : v.ty.Contents (Elt F)) (s : Fin 8) (inb) (w : Vec F S1x520x1024 .f32)
    (L : List (View.Piece (Elt F) S8x520x1024 .f32)) (r : Fin 520) (q : Fin 1024) :
    v.read (Elt F) (v.writes (Elt F) f ((⟨Rect.unit (s := S8x520x1024) ![s.val, 0, 0] S1x520x1024.size inb, w⟩ : View.Piece (Elt F) S8x520x1024 .f32) :: L)) (ix3 s r q) = w (ix3 (0 : Fin 1) r q) :=
  View.read_writes_cons_unit_of_mem v f _ _ _ _ (ix3 (0 : Fin 1) r q) rfl fun a => by
    match a with
    | ⟨0, _⟩ => show s.val = s.val + 0; omega
    | ⟨1, _⟩ => show r.val = 0 + r.val; omega
    | ⟨2, _⟩ => show q.val = 0 + q.val; omega

theorem slab_miss (v : View sig .tc .vmem S8x520x1024 .f32) (f : v.ty.Contents (Elt F)) (s t : Fin 8) (hst : t.val < s.val) (inb) (w : Vec F S1x520x1024 .f32)
    (L : List (View.Piece (Elt F) S8x520x1024 .f32)) (r : Fin 520) (q : Fin 1024) :
    v.read (Elt F) (v.writes (Elt F) f ((⟨Rect.unit (s := S8x520x1024) ![s.val, 0, 0] S1x520x1024.size inb, w⟩ : View.Piece (Elt F) S8x520x1024 .f32) :: L)) (ix3 t r q)
      = v.read (Elt F) (v.writes (Elt F) f L) (ix3 t r q) :=
  View.read_writes_cons_unit_of_not_mem v f _ _ _ _ rfl (0 : Fin 3) (.inl (by show t.val < s.val; exact hst))

theorem bank_ok (i : grid0.Coords) (x0 : Vec F S512x1024 .f32) (x1 : Vec F S8x1024 .f32) (v : View sig .tc .vmem S8x520x1024 .f32) (f : v.ty.Contents (Elt F)) (V : Vec F S1x520x1024 .f32)
    (hV : ∀ (r : Fin 520) (q : Fin 1024), V (ix3 (0 : Fin 1) r q) = extRow i x0 x1 r.val q) (i5 i6 i7) :
    BankOk i x0 x1 (v.read (Elt F) (v.writes (Elt F) f
      ((⟨Rect.unit (s := S8x520x1024) ![7, 0, 0] S1x520x1024.size i7, k0_pay20 V⟩ : View.Piece (Elt F) S8x520x1024 .f32)
        :: (⟨Rect.unit (s := S8x520x1024) ![6, 0, 0] S1x520x1024.size i6, k0_pay19 V⟩ : View.Piece (Elt F) S8x520x1024 .f32)
        :: (⟨Rect.unit (s := S8x520x1024) ![5, 0, 0] S1x520x1024.size i5, k0_pay18 V⟩ : View.Piece (Elt F) S8x520x1024 .f32) :: slab0 i x0 x1))) := by
  refine ⟨fun r q => ?_, fun r q hr => ?_, fun r q hr => ?_, fun r q hr => ?_⟩
  · exact (slab_miss v f 7 0 (by decide) i7 _ _ r q).trans ((slab_miss v f 6 0 (by decide) i6 _ _ r q).trans ((slab_miss v f 5 0 (by decide) i5 _ _ r q).trans (slab0_read i x0 x1 v f r q)))
  · refine (slab_miss v f 7 5 (by decide) i7 _ _ r q).trans ((slab_miss v f 6 5 (by decide) i6 _ _ r q).trans ((slab_hit v f 5 i5 _ _ r q).trans ?_))
    exact (rot_apply V 515#32 5 rfl (by decide) (by decide) r hr q).trans (hV _ _)
  · refine (slab_miss v f 7 6 (by decide) i7 _ _ r q).trans ((slab_hit v f 6 i6 _ _ r q).trans ?_)
    exact (rot_apply V 514#32 6 rfl (by decide) (by decide) r hr q).trans (hV _ _)
  · exact (slab_hit v f 7 i7 _ _ r q).trans ((rot_apply V 513#32 7 rfl (by decide) (by decide) r hr q).trans (hV _ _))

theorem hz2 : (![0, 0] : Fin 2 → Nat) = fun _ => 0 := funext fun a => by fin_cases a <;> rfl

theorem bodyRun_val (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S512x1024 .f32) (harg5 : arg5.IsWhole) (arg6 : Memref sig .tc .vmem S8x520x1024 .f32) (harg6 : arg6.IsWhole)
    (x0 : Vec F S512x1024 .f32) (x1 : Vec F S8x1024 .f32) (x2 : Vec F S8x1024 .f32) (fs0 : BufTy.Contents (Elt F) arg6.view.ty) :
    ∀ p ∈ (bodyRun c i arg2 harg2 arg3 harg3 arg4 harg4 arg5 harg5 arg6 harg6 x0 x1 x2 fs0).1, ∀ x : p.1.shape.Idx, p.2 x = convRow i x0 x1 x2 (p.1.emb x) := by
  unfold bodyRun
  dsimp only
  intro p hp
  obtain ⟨k, hk⟩ := pb_mem _ _ _ _ _ _ _ _ _ _ _ _ _ _ _ _ _ p _ le_rfl hp
  refine trip_apply _ _ _ _ _ _ _ _ _ _ _ _ _ _ _ x0 x1 x2 _ ?_ k p hk
  clear hk hp
  sl_unfold_words
  simp only [View.readAt_eq_ld, harg2.read_unread, harg3.read_unread, View.ld_unit_zero (S := S512x1024) hz2, View.ld_unit_zero (S := S8x1024) hz2]
  exact bank_ok i x0 x1 arg6.view fs0 _ (slab0_cov i x0 x1 arg6.view) _ _ _

theorem bodyRun_cover (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S512x1024 .f32) (harg5 : arg5.IsWhole) (arg6 : Memref sig .tc .vmem S8x520x1024 .f32) (harg6 : arg6.IsWhole)
    (x0 : Vec F S512x1024 .f32) (x1 : Vec F S8x1024 .f32) (x2 : Vec F S8x1024 .f32) (fs0 : BufTy.Contents (Elt F) arg6.view.ty) (y : S512x1024.Idx) :
    ∃ pc ∈ (bodyRun c i arg2 harg2 arg3 harg3 arg4 harg4 arg5 harg5 arg6 harg6 x0 x1 x2 fs0).1, y ∈ pc.1.set :=
  View.cover_of_tiledL (bodyRun c i arg2 harg2 arg3 harg3 arg4 harg4 arg5 harg5 arg6 harg6 x0 x1 x2 fs0).1 S16x128.size (by sl_kernel_rfl) y

theorem bodyRun_read (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S512x1024 .f32) (harg5 : arg5.IsWhole) (arg6 : Memref sig .tc .vmem S8x520x1024 .f32) (harg6 : arg6.IsWhole)
    (x0 : Vec F S512x1024 .f32) (x1 : Vec F S8x1024 .f32) (x2 : Vec F S8x1024 .f32) (fs0 : BufTy.Contents (Elt F) arg6.view.ty) (f : arg5.view.ty.Contents (Elt F)) :
    arg5.view.read (Elt F) (arg5.view.writes (Elt F) f (bodyRun c i arg2 harg2 arg3 harg3 arg4 harg4 arg5 harg5 arg6 harg6 x0 x1 x2 fs0).1) = convRow i x0 x1 x2 :=
  funext fun y => View.read_writes_apply_of_pieces arg5.view f (convRow i x0 x1 x2) _ (bodyRun_val c i arg2 harg2 arg3 harg3 arg4 harg4 arg5 harg5 arg6 harg6 x0 x1 x2 fs0) y (bodyRun_cover c i arg2 harg2 arg3 harg3 arg4 harg4 arg5 harg5 arg6 harg6 x0 x1 x2 fs0 y)

end Cert.GdnConvIdeal.Gen

end
-- ==== Proof.GdnFrame.lean ====
/-
  The causal depthwise convolution's frame: the proof data of its pipeline, the body at every grid point, the run and the arguments.
-/
module

public import proofs.«01_k».proof.Proof.GdnRun
public import Idealize.ShloMosaic.Lib.Claim

@[expose] public section

set_option maxRecDepth 16384

noncomputable section

namespace Cert.GdnConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x520x1024 .f32 := Memref.whole cc0_scratch0

/-- The frame kit's invariant with the scratch operands as memrefs owned at some contents (`scopedRest0_eq`, `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the output's staging buffer holds after the body at point `t`. -/
def outAt (c : Dev nD) (t : Fin cfg0.N) : Vec F S512x1024 .f32 :=
  convRow (grid0.coords t) (iblk m c 0 t) (iblk m c 1 t) (iblk m c 2 t)

/-! ## The pipeline's proof data -/

/-- The proof data of the one pipeline on core `c`: the arrays as the region finds them (`V`); after the body at
    point `t` each input's buffer at its block and the outputs' at `outAt`; the invariant the class's
    (`ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  simp only [owns]
  iintro ⟨⟨⟨%ds, %fs0, -, HS0⟩, Hg⟩, Ho, ⟨%d0, H0⟩, ⟨%d1, H1⟩, ⟨%d2, H2⟩, ⟨%d3, H3⟩⟩
  iapply ((bodyRun c (grid0.coords t) _ _ _ _ _ _ _ (hs0_3 t) _ (Memref.isWhole_whole _) (iblk m c 0 t) (iblk m c 1 t) (iblk m c 2 t) fs0).2 Set.univ _)
  simp only [owns]
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexists _; isplitr
  swap; · iexact H3
  ipureintro; exact bodyRun_read c _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the program runs to its end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.GdnConvIdeal.Gen

end
-- ==== Proof.GdnValue.lean ====
/-
  The causal depthwise convolution, element by element: what the kernel leaves and what the reference returns, both as four
  taps on the three rows before a token and the token's own, the rows before the first being zero.
-/
module

public import proofs.«01_k».proof.Defs
public import proofs.«01_k».proof.Proof.LayerNorm
public import proofs.«01_k».proof.Proof.GdnFrame
public import proofs.«01_k».proof.Proof.Gen.GdnConvRefIdeal
public import proofs.«01_k».proof.Proof.Gen.GdnConvRefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Causal

/-- The row that tap `k` of token `r` meets: `3 - k` tokens before it, zero before the first. -/
def tap (x : Fin 8192 → Fin 3072 → EReal) (r : Fin 8192) (k : Fin 4) (q : Fin 3072) : EReal :=
  if r.val + k.val < 3 then 0 else x ⟨r.val + k.val - 3, by omega⟩ q

/-- The convolution at a token and a column: the taps' products, from the zero on. -/
def conv (x : Fin 8192 → Fin 3072 → EReal) (w : Fin 8 → Fin 3072 → EReal) (r : Fin 8192) (q : Fin 3072) : EReal :=
  0 + tap x r 0 q * w 0 q + tap x r 1 q * w 1 q + tap x r 2 q * w 2 q + tap x r 3 q * w 3 q

end Cert.Causal

open Cert.Causal

namespace Cert.GdnConvIdeal.Arrays

open Cert.GdnConvIdeal Cert.GdnConvIdeal.Gen

variable (m : (ℓ : Loc nD τ sig) → Buf (Elt Ideal) ℓ) (c : Dev nD)

/-- The rows and the taps in memory. -/
def rows : Fin 8192 → Fin 3072 → EReal := fun r q => m ((c : Thread nD τ).loc main_arg0) (ix2 r q)
def taps : Fin 8 → Fin 3072 → EReal := fun k q => m ((c : Thread nD τ).loc main_arg1) (ix2 k q)

/-- Where the windows of a point stand. -/
theorem rows_eq : ∀ t : Fin cfg0.N,
    (win0_0.index t (0 : Fin 2) = t.val % 16 ∧ win0_0.index t (1 : Fin 2) = t.val / 16)
    ∧ (win0_1.index t (0 : Fin 2) = 64 * (t.val % 16) - 1 ∧ win0_1.index t (1 : Fin 2) = t.val / 16)
    ∧ (win0_2.index t (0 : Fin 2) = 0 ∧ win0_2.index t (1 : Fin 2) = t.val / 16) :=
  (by decide +kernel : ∀ t : Fin grid0.N, _)

theorem index3 : ∀ t : Fin cfg0.N, win0_3.index t (0 : Fin 2) = t.val % 16 ∧ win0_3.index t (1 : Fin 2) = t.val / 16 :=
  (by decide +kernel : ∀ t : Fin grid0.N, _)

theorem coord_eq : ∀ t : Fin cfg0.N, (grid0.coords t 1).val = t.val % 16 :=
  (by decide +kernel : ∀ t : Fin grid0.N, _)

theorem first_eq : ∀ n : Fin 16, Scalar.cmpi .eq (BitVec.ofNat 32 n.val) 0#32 = if n.val = 0 then 1#1 else 0#1 := by decide

theorem blk0 (t : Fin cfg0.N) (p : Fin 512) (q : Fin 1024) (r : Fin 8192) (s : Fin 3072) (hr : r.val = 512 * (t.val % 16) + p.val)
    (hs : s.val = 1024 * (t.val / 16) + q.val) : (iblk m c 0 t (ix2 p q) : EReal) = rows m c r s := by
  obtain ⟨e0, e1⟩ := (rows_eq t).1
  show V m c main_arg0 _ = m ((c : Thread nD τ).loc main_arg0) _
  rw [V_main_arg0]
  congr 1
  funext a; apply Fin.ext
  match a with
  | ⟨0, _⟩ => show win0_0.index t 0 * 512 + 1 * p.val = r.val; rw [e0]; omega
  | ⟨1, _⟩ => show win0_0.index t 1 * 1024 + 1 * q.val = s.val; rw [e1]; omega

theorem blk1 (t : Fin cfg0.N) (p : Fin 8) (q : Fin 1024) (r : Fin 8192) (s : Fin 3072) (hr : r.val = 8 * (64 * (t.val % 16) - 1) + p.val)
    (hs : s.val = 1024 * (t.val / 16) + q.val) : (iblk m c 1 t (ix2 p q) : EReal) = rows m c r s := by
  obtain ⟨e0, e1⟩ := (rows_eq t).2.1
  show V m c main_arg0 _ = m ((c : Thread nD τ).loc main_arg0) _
  rw [V_main_arg0]
  congr 1
  funext a; apply Fin.ext
  match a with
  | ⟨0, _⟩ => show win0_1.index t 0 * 8 + 1 * p.val = r.val; rw [e0]; omega
  | ⟨1, _⟩ => show win0_1.index t 1 * 1024 + 1 * q.val = s.val; rw [e1]; omega

theorem blk2 (t : Fin cfg0.N) (p : Fin 8) (q : Fin 1024) (s : Fin 3072)
    (hs : s.val = 1024 * (t.val / 16) + q.val) : (iblk m c 2 t (ix2 p q) : EReal) = taps m c p s := by
  obtain ⟨e0, e1⟩ := (rows_eq t).2.2
  show V m c main_arg1 _ = m ((c : Thread nD τ).loc main_arg1) _
  rw [V_main_arg1]
  congr 1
  funext a; apply Fin.ext
  match a with
  | ⟨0, _⟩ => show win0_2.index t 0 * 8 + 1 * p.val = p.val; rw [e0]; omega
  | ⟨1, _⟩ => show win0_2.index t 1 * 1024 + 1 * q.val = s.val; rw [e1]; omega

/-- Row `p + 5 + k` of the extended block is the row that tap `k` of the block's token `p` meets. -/
theorem ext_eq (t : Fin cfg0.N) (p : Fin 512) (q : Fin 1024) (k : Fin 4) (n : ℕ) (hn : n = p.val + 5 + k.val) (r : Fin 8192) (s : Fin 3072)
    (hr : r.val = 512 * (t.val % 16) + p.val) (hs : s.val = 1024 * (t.val / 16) + q.val) :
    (extRow (grid0.coords t) (iblk m c 0 t) (iblk m c 1 t) n q : EReal) = tap (rows m c) r k s := by
  have hp : p.val < 512 := p.isLt
  have hk : k.val < 4 := k.isLt
  have hz : Scalar.cmpi .eq (BitVec.ofNat 32 (grid0.coords t 1).val) 0#32 = if t.val % 16 = 0 then 1#1 else 0#1 := by
    rw [coord_eq]; exact first_eq ⟨t.val % 16, Nat.mod_lt _ (by decide)⟩
  unfold extRow tap
  by_cases h : n < 8
  · rw [dif_pos h, hz]
    by_cases ht : t.val % 16 = 0
    · rw [if_pos ht, if_pos (by omega)]
      show (Ideal.ofBits .f32 0x00000000#32 : EReal) = 0
      exact Ideal.ofBits_zero_f32
    · rw [if_neg ht, if_neg (by omega)]
      exact blk1 m c t ⟨n, h⟩ q _ s (by dsimp only; omega) hs
  · rw [dif_neg h, if_neg (by omega)]
    exact blk0 m c t _ q _ s (by dsimp only; omega) hs

theorem val3 (t : Fin cfg0.N) (p : Fin 512) (q : Fin 1024) (r : Fin 8192) (s : Fin 3072) (hr : r.val = 512 * (t.val % 16) + p.val)
    (hs : s.val = 1024 * (t.val / 16) + q.val) : (outAt m c t (ix2 p q) : EReal) = conv (rows m c) (taps m c) r s := by
  have z : (Scalar.ofBits .f32 0x00000000#32 : Ideal .f32) = (0 : EReal) := Ideal.ofBits_zero_f32
  have e := fun k n hn => ext_eq m c t p q k n hn r s hr hs
  have w := fun k => blk2 m c t k q s hs
  unfold outAt convRow conv
  show ((((Scalar.ofBits .f32 0x00000000#32 : Ideal .f32) + _ * _ + _ * _ + _ * _ + _ * _ : EReal)) = _)
  rw [z]
  exact congrArg₂ (· + ·) (congrArg₂ (· + ·) (congrArg₂ (· + ·) (congrArg (0 + ·) (congrArg₂ (· * ·) (e 0 _ rfl) (w 0)))
    (congrArg₂ (· * ·) (e 1 _ rfl) (w 1))) (congrArg₂ (· * ·) (e 2 _ rfl) (w 2))) (congrArg₂ (· * ·) (e 3 _ rfl) (w 3))

def arr3 : Buf (Elt Ideal) ((c : Thread nD τ).loc main_v0) := fun i => conv (rows m c) (taps m c) (i 0) (i 1)

theorem flushed3_eq (t : Fin cfg0.N) :
    (dats m 0 c).flushed 3 t = ((cfg0.win 3).blk t).view.read (Elt Ideal) (arr3 m c) := by
  obtain ⟨e0, e1⟩ := index3 t
  show (cfg0.win 3).cut (grid0.coords t) ((dats m 0 c).after 3 t) = _
  rw [after0_3]
  funext y
  have hp : (y 0).val < 512 := (y 0).isLt
  have hq : (y 1).val < 1024 := (y 1).isLt
  have hy : (cfg0.win 3).xinj (grid0.coords t) y = ix2 (⟨(y 0).val, hp⟩ : Fin 512) (⟨(y 1).val, hq⟩ : Fin 1024) := by
    funext a; apply Fin.ext
    match a with
    | ⟨0, _⟩ => rfl
    | ⟨1, _⟩ => rfl
  have g0 : (((cfg0.win 3).blk t).view.emb y 0).val = win0_3.index t (0 : Fin 2) * 512 + 1 * (y 0).val := rfl
  have g1 : (((cfg0.win 3).blk t).view.emb y 1).val = win0_3.index t (1 : Fin 2) * 1024 + 1 * (y 1).val := rfl
  show (outAt m c t ((cfg0.win 3).xinj (grid0.coords t) y) : EReal)
    = conv (rows m c) (taps m c) (((cfg0.win 3).blk t).view.emb y 0) (((cfg0.win 3).blk t).view.emb y 1)
  rw [hy]
  exact val3 m c t ⟨(y 0).val, hp⟩ ⟨(y 1).val, hq⟩ _ _ (by rw [g0, e0]; dsimp only; omega) (by rw [g1, e1]; dsimp only; omega)

theorem final3 : (dats m 0 c).arrAt 3 cfg0.N = arr3 m c :=
  (dats m 0 c).arrAt_eq_of_cover 3 (arr3 m c) (fun t _ => flushed3_eq m c t) fun i => by
    have hi0 : (i 0).val < 8192 := (i 0).isLt
    have hi1 : (i 1).val < 3072 := (i 1).isLt
    have hN : cfg0.N = 48 := N_0
    let t : Fin cfg0.N := ⟨16 * ((i 1).val / 1024) + (i 0).val / 512, by omega⟩
    have ht : t.val = 16 * ((i 1).val / 1024) + (i 0).val / 512 := rfl
    refine ⟨t, flush0_3 t, ?_⟩
    obtain ⟨e0, e1⟩ := index3 t
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512; rw [e0]; omega
    | ⟨1, _⟩ => show win0_3.index t 1 * 1024 ≤ (i 1).val ∧ (i 1).val < win0_3.index t 1 * 1024 + 1024; rw [e1]; omega

end Cert.GdnConvIdeal.Arrays

namespace Cert.GdnConvRefIdeal.Rows

open Cert.GdnConvRefIdeal Cert.GdnConvRefIdeal.Gen Cert.GdnConvRefIdeal.Value

variable (x : FVec Ideal S8192x3072 .f32) (w : FVec Ideal S8x3072 .f32)

/-- The rows with three zero rows before them. -/
def padded : FVec Ideal S8195x3072 .f32 :=
  concatenate S8195x3072 0 [⟨S3x3072, (broadcastInDim S3x3072 ![] bcast_S_S3x3072 (constant S_ .f32 0x00000000#32))⟩, ⟨S8192x3072, x⟩] concatenates_S3x3072_S8192x3072_S8195x3072_d0

theorem padded_apply (r : Fin 8192) (k : Fin 4) (q : Fin 3072) :
    (padded x (ix2 (⟨r.val + k.val, by omega⟩ : Fin 8195) q) : EReal) = tap (fun r q => x (ix2 r q)) r k q := by
  unfold padded tap
  by_cases h : r.val + k.val < 3
  · rw [if_pos h]
    pointwise [h]
  · rw [if_neg h]
    pointwise [h]

/-- One tap: a row of the taps, at every token, on the rows from `k` on. -/
def term (a : FVec Ideal S1x3072 .f32) (b : FVec Ideal S8192x3072 .f32) : FVec Ideal S8192x3072 .f32 :=
  mulf (broadcastInDim S8192x3072 ![0, 1] bcast_S1x3072_S8192x3072_0_1 (broadcastInDim S1x3072 ![1] bcast_S3072_S1x3072_1 (shapeCast _ a shapeCasts_S1x3072_S3072))) b

theorem term_apply (a : FVec Ideal S1x3072 .f32) (b : FVec Ideal S8192x3072 .f32) (r : Fin 8192) (q : Fin 3072) :
    (term a b (ix2 r q) : EReal) = a (ix2 0 q) * b (ix2 r q) := by
  unfold term
  pointwise []

def term0 : FVec Ideal S8192x3072 .f32 :=
  term (extractStridedSlice S1x3072 ![0, 0] w slices_S8x3072_S1x3072_0_0) (extractStridedSlice S8192x3072 ![0, 0] (padded x) slices_S8195x3072_S8192x3072_0_0)
def term1 : FVec Ideal S8192x3072 .f32 :=
  term (extractStridedSlice S1x3072 ![1, 0] w slices_S8x3072_S1x3072_1_0) (extractStridedSlice S8192x3072 ![1, 0] (padded x) slices_S8195x3072_S8192x3072_1_0)
def term2 : FVec Ideal S8192x3072 .f32 :=
  term (extractStridedSlice S1x3072 ![2, 0] w slices_S8x3072_S1x3072_2_0) (extractStridedSlice S8192x3072 ![2, 0] (padded x) slices_S8195x3072_S8192x3072_2_0)
def term3 : FVec Ideal S8192x3072 .f32 :=
  term (extractStridedSlice S1x3072 ![3, 0] w slices_S8x3072_S1x3072_3_0) (extractStridedSlice S8192x3072 ![3, 0] (padded x) slices_S8195x3072_S8192x3072_3_0)

/-- The reference's result. -/
def out : FVec Ideal S8192x3072 .f32 :=
  addf (addf (addf (addf (broadcastInDim S8192x3072 ![] bcast_S_S8192x3072 (constant S_ .f32 0x00000000#32)) (term0 x w)) (term1 x w)) (term2 x w)) (term3 x w)

/-- A slice of the padded rows and a row of the taps, at an index. -/
theorem slice_apply (k : Fin 4) (h : S8195x3072.Slices ![k.val, 0] S8192x3072) (r : Fin 8192) (q : Fin 3072) :
    (extractStridedSlice S8192x3072 ![k.val, 0] (padded x) h (ix2 r q) : EReal) = tap (fun r q => x (ix2 r q)) r k q := by
  rw [← padded_apply]
  exact extractStridedSlice_apply _ _ h _ _ fun a => by
    match a with
    | ⟨0, _⟩ => show r.val + k.val = k.val + r.val; omega
    | ⟨1, _⟩ => show q.val = 0 + q.val; omega

theorem taprow_apply (k : Fin 8) (h : S8x3072.Slices ![k.val, 0] S1x3072) (q : Fin 3072) :
    (extractStridedSlice S1x3072 ![k.val, 0] w h (ix2 0 q) : EReal) = w (ix2 k q) :=
  extractStridedSlice_apply _ _ h _ _ fun a => by
    match a with
    | ⟨0, _⟩ => show k.val = k.val + 0; omega
    | ⟨1, _⟩ => show q.val = 0 + q.val; omega

theorem term0_apply (r : Fin 8192) (q : Fin 3072) : (term0 x w (ix2 r q) : EReal) = tap (fun r q => x (ix2 r q)) r 0 q * w (ix2 0 q) :=
  (term_apply _ _ r q).trans ((congrArg₂ (· * ·) (taprow_apply w 0 _ q) (slice_apply x 0 _ r q)).trans (mul_comm _ _))
theorem term1_apply (r : Fin 8192) (q : Fin 3072) : (term1 x w (ix2 r q) : EReal) = tap (fun r q => x (ix2 r q)) r 1 q * w (ix2 1 q) :=
  (term_apply _ _ r q).trans ((congrArg₂ (· * ·) (taprow_apply w 1 _ q) (slice_apply x 1 _ r q)).trans (mul_comm _ _))
theorem term2_apply (r : Fin 8192) (q : Fin 3072) : (term2 x w (ix2 r q) : EReal) = tap (fun r q => x (ix2 r q)) r 2 q * w (ix2 2 q) :=
  (term_apply _ _ r q).trans ((congrArg₂ (· * ·) (taprow_apply w 2 _ q) (slice_apply x 2 _ r q)).trans (mul_comm _ _))
theorem term3_apply (r : Fin 8192) (q : Fin 3072) : (term3 x w (ix2 r q) : EReal) = tap (fun r q => x (ix2 r q)) r 3 q * w (ix2 3 q) :=
  (term_apply _ _ r q).trans ((congrArg₂ (· * ·) (taprow_apply w 3 _ q) (slice_apply x 3 _ r q)).trans (mul_comm _ _))

theorem out_apply (r : Fin 8192) (q : Fin 3072) :
    (out x w (ix2 r q) : EReal) = conv (fun r q => x (ix2 r q)) (fun k q => w (ix2 k q)) r q := by
  unfold out conv
  pointwise [term0_apply x w, term1_apply x w, term2_apply x w, term3_apply x w]

end Cert.GdnConvRefIdeal.Rows

namespace Cert.GdnValue

open Cert.GdnConvIdeal.Gen

variable [hGdnConvIdeal : Cert.GdnConvIdeal.Facts] [hGdnConvRefIdeal : Cert.GdnConvRefIdeal.Facts]

theorem algebraic : Cert.algebraic_GdnConvIdeal_GdnConvRefIdeal := by
  intro m ρ m' ρ' _ hag
  refine ⟨fun c => GdnConvIdeal.Arrays.arr3 m c, ?_, ?_⟩
  · exact (θ_run Cert.GdnConvIdeal.defs _ _).mono (fun r h c => ⟨
      ((h c).1 3).trans (GdnConvIdeal.Arrays.final3 m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c)))⟩) (run_main m ρ)
  · refine (θ_run Cert.GdnConvRefIdeal.defs _ _).mono (fun _ h c => ?_) (Cert.GdnConvRefIdeal.Value.run (F := Ideal) m' ρ')
    obtain ⟨h0, hargs⟩ := h c
    obtain ⟨a0, a1⟩ := hag c
    refine ⟨h0.trans ?_, hargs⟩
    show GdnConvRefIdeal.Rows.out _ _ = _
    rw [a0, a1]
    funext i
    rw [Cert.Plain.eta i]
    exact GdnConvRefIdeal.Rows.out_apply _ _ _ _

end Cert.GdnValue

end
-- ==== Proof.GdnSame.lean ====
/-
  The printed convolution has the text of the idealised one, so its run is the run proved over any number system.
-/
module

public import proofs.«01_k».proof.Proof.GdnFrame
public import proofs.«01_k».proof.Proof.Gen.GdnConv

@[expose] public section

set_option maxRecDepth 16384

noncomputable section

open Idealize.ShloMosaic Idealize.ShloMosaic.TcCoe Idealize.SL.Sem

namespace Cert.GdnConv.Gen

variable {F : FTy → Type} [FloatOps F]

theorem body_same : @Cert.GdnConv.cc0_gdn_conv_fwd F _ _ = @Cert.GdnConvIdeal.cc0_gdn_conv_fwd F _ _ := rfl

theorem defs₀_same : (Cert.GdnConv.defs₀ (F := F)) = Cert.GdnConvIdeal.defs₀ (F := F) := by
  unfold Cert.GdnConv.defs₀ Cert.GdnConvIdeal.defs₀
  refine congrArg Defs.onTc ?_
  funext l x
  match l with
  | 0 => rfl
  | ⟨_ + 1, h⟩ => exact absurd h (Nat.not_lt.2 (Nat.le_add_left _ _))

theorem defs_same : (Cert.GdnConv.defs (F := F)) = Cert.GdnConvIdeal.defs (F := F) := congrArg (Pipeline.defs pcfgs) defs₀_same

theorem main_same : (Cert.GdnConv.main (F := F)) = Cert.GdnConvIdeal.main (F := F) := rfl

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same, main_same]
  exact Cert.GdnConvIdeal.Gen.frame (F := F) m ρ

end Cert.GdnConv.Gen

end
-- ==== Proof.ConfConvTaps.lean ====
/-
  The conv branch's body at one grid point, element by element: the rows of the gated projection in the bank of shifted
  copies, the 31 taps of a tile, and what the loop over the tiles leaves in the first output's block.
-/
module

public import proofs.«01_k».proof.Proof.Gen.ConfConvIdeal.Loops
public import Idealize.ShloMosaic.Lib.Ring
public import Idealize.ShloMosaic.Lib.Tactic
public import Idealize.ShloMosaic.Lib.Pipeline.Value
public import Idealize.ShloMosaic.Lib.Pipeline.ValueKit
public import Idealize.ShloMosaic.Lib.KernelVsHost
public import Idealize.ShloMosaic.Lib.WritesUnit

@[expose] public section

set_option maxRecDepth 16384

noncomputable section

namespace Cert.ConfConvIdeal.Gen

open Idealize.ShloMosaic Idealize.ShloMosaic.TcCoe Idealize.ShloMosaic.Tactic
open Idealize.ShloMosaic.Rounds

/-- The block's gated rows behind the 32 gated rows before them: zeros at the first block of rows. -/
def extRow (i : grid0.Coords) (cv cg : Vec Ideal S256x1024 .f32) (hv hg : Vec Ideal S32x1024 .f32) (r : ℕ) (q : Fin 1024) : EReal :=
  if h : r < 32 then
    if (i 0).val = 0 then 0 else hv (ix2 (⟨r, h⟩ : Fin 32) q) * Ideal.logistic (hg (ix2 (⟨r, h⟩ : Fin 32) q))
  else cv (ix2 (⟨(r - 32) % 256, Nat.mod_lt _ (by decide)⟩ : Fin 256) q) * Ideal.logistic (cg (ix2 (⟨(r - 32) % 256, Nat.mod_lt _ (by decide)⟩ : Fin 256) q))

/-- The first `n` taps of a row, added up from zero on. -/
def upTo (x w : ℕ → EReal) : ℕ → EReal
  | 0 => 0
  | n + 1 => upTo x w n + x n * w n

/-- Row `n` of the taps. -/
def tapRow (w : Vec Ideal S32x1024 .f32) (q : Fin 1024) (n : ℕ) : EReal := w (ix2 (⟨n % 32, Nat.mod_lt _ (by decide)⟩ : Fin 32) q)

/-- The convolution's row from the extended block: 31 taps and the bias. -/
def convRow (e : ℕ → Fin 1024 → EReal) (w : Vec Ideal S32x1024 .f32) (b : Vec Ideal S1x1024 .f32) (y : S256x1024.Idx) : EReal :=
  upTo (fun n => e ((y 0).val + (n + 2)) (y 1)) (tapRow w (y 1)) 31 + b (ix2 (0 : Fin 1) (y 1))

/-- What the rows of the bank that the taps read hold: copy `s` is the extended block from row `s` on. -/
def BankOk (e : ℕ → Fin 1024 → EReal) (B : Vec Ideal S8x288x1024 .f32) : Prop :=
  ∀ (s : Fin 8) (r : Fin 288) (q : Fin 1024), r.val + s.val < 288 → B (ix3 s r q) = e (r.val + s.val) q

theorem drop1 (v : Vec Ideal S1x16x128 .f32) (x : S16x128.Idx) :
    shapeCast S16x128 v shapeCasts_S1x16x128_S16x128 x = v (ix3 (0 : Fin 1) (x 0) (x 1)) :=
  shapeCast_apply v _ x _ (by
    rw [Shape.rowMajor_val_three, Shape.rowMajor_val_two]
    show ((0 * 16 + (x 0).val) * 128 + (x 1).val) = (x 0).val * 128 + (x 1).val
    omega)

theorem spread (v : Vec Ideal S1x128 .f32) (x : S16x128.Idx) :
    broadcastTo S16x128 v broadcasts_S1x128_S16x128 x = v (ix2 (0 : Fin 1) (x 1)) :=
  broadcastTo_apply v _ x _ fun a => by
    match a with
    | ⟨0, _⟩ => rfl
    | ⟨1, _⟩ => rfl

/-- A tile of 16 rows by 128 columns holds its rows' first `n` taps. -/
def Acc (e : ℕ → Fin 1024 → EReal) (w : Vec Ideal S32x1024 .f32) (k l : ℕ) (hl : l + 128 ≤ 1024) (n : ℕ) (a : FVec Ideal S16x128 .f32) : Prop :=
  ∀ (p : Fin 16) (q : Fin 128), (a (ix2 p q) : EReal)
    = upTo (fun n => e (16 * k + p.val + (n + 2)) (⟨l + q.val, by omega⟩ : Fin 1024)) (tapRow w (⟨l + q.val, by omega⟩ : Fin 1024)) n

theorem acc_zero (e : ℕ → Fin 1024 → EReal) (w : Vec Ideal S32x1024 .f32) (k l : ℕ) (hl : l + 128 ≤ 1024) :
    Acc e w k l hl 0 (broadcast S16x128 (Scalar.ofBits .f32 0x00000000#32 : Ideal .f32)) := fun p q => by
  show (Ideal.ofBits .f32 0x00000000#32 : EReal) = 0
  exact Ideal.ofBits_zero_f32

theorem acc_succ {e : ℕ → Fin 1024 → EReal} {w : Vec Ideal S32x1024 .f32} {B : Vec Ideal S8x288x1024 .f32} (hB : BankOk e B) {k l : ℕ} (hk : k < 16) {hl : l + 128 ≤ 1024} {n : ℕ} (hn : n < 31)
    {a : FVec Ideal S16x128 .f32} {o : Fin 3 → ℕ} (io : ∀ a, o a + (![1, 16, 128] : Fin 3 → ℕ) a ≤ S8x288x1024.size a)
    (iw : ∀ a, (![n, l] : Fin 2 → ℕ) a + (![1, 128] : Fin 2 → ℕ) a ≤ S32x1024.size a)
    (ho : o = ![(n + 2) % 8, 16 * k + 8 * ((n + 2) / 8), l]) (ha : Acc e w k l hl n a) :
    Acc e w k l hl (n + 1) (addf a (mulf (shapeCast S16x128 (View.ld B (Rect.unit (s := S8x288x1024) o ![1, 16, 128] io)) shapeCasts_S1x16x128_S16x128)
      (broadcastTo S16x128 (View.ld w (Rect.unit (s := S32x1024) ![n, l] ![1, 128] iw)) broadcasts_S1x128_S16x128))) := fun p q => by
  subst ho
  have hp := p.isLt
  have hq := q.isLt
  have h1 := (drop1 (View.ld B (Rect.unit (s := S8x288x1024) ![(n + 2) % 8, 16 * k + 8 * ((n + 2) / 8), l] ![1, 16, 128] io)) (ix2 p q)).trans
    (View.ld_unit_apply_of B _ _ _ _ (ix3 (⟨(n + 2) % 8, by omega⟩ : Fin 8) (⟨16 * k + 8 * ((n + 2) / 8) + p.val, by omega⟩ : Fin 288) (⟨l + q.val, by omega⟩ : Fin 1024)) fun a => by
      match a with
      | ⟨0, _⟩ => show (n + 2) % 8 = (n + 2) % 8 + 0; omega
      | ⟨1, _⟩ => rfl
      | ⟨2, _⟩ => rfl)
  have h2 := hB (⟨(n + 2) % 8, by omega⟩ : Fin 8) (⟨16 * k + 8 * ((n + 2) / 8) + p.val, by omega⟩ : Fin 288) (⟨l + q.val, by omega⟩ : Fin 1024) (by dsimp only; omega)
  have h3 : e (16 * k + 8 * ((n + 2) / 8) + p.val + (n + 2) % 8) (⟨l + q.val, by omega⟩ : Fin 1024) = e (16 * k + p.val + (n + 2)) (⟨l + q.val, by omega⟩ : Fin 1024) :=
    congrArg (fun r => e r _) (by omega)
  have h4 := (spread (View.ld w (Rect.unit (s := S32x1024) ![n, l] ![1, 128] iw)) (ix2 p q)).trans
    (View.ld_unit_apply_of w _ _ _ _ (ix2 (⟨n % 32, Nat.mod_lt _ (by decide)⟩ : Fin 32) (⟨l + q.val, by omega⟩ : Fin 1024)) fun a => by
      match a with
      | ⟨0, _⟩ => show n % 32 = n + 0; omega
      | ⟨1, _⟩ => rfl)
  exact congrArg₂ (· + ·) (ha p q) (congrArg₂ (· * ·) ((h1.trans h2).trans h3) h4)

/-- A tile with all its taps and the bias is the convolution's tile. -/
theorem tile_apply {e : ℕ → Fin 1024 → EReal} {w : Vec Ideal S32x1024 .f32} {b : Vec Ideal S1x1024 .f32} {k l : ℕ} (hk : k < 16) {hl : l + 128 ≤ 1024}
    {a : FVec Ideal S16x128 .f32} {o : Fin 2 → ℕ} (io : ∀ a, o a + (![16, 128] : Fin 2 → ℕ) a ≤ S256x1024.size a)
    (ib : ∀ a, (![0, l] : Fin 2 → ℕ) a + (![1, 128] : Fin 2 → ℕ) a ≤ S1x1024.size a)
    (ho : o = ![16 * k, l]) (ha : Acc e w k l hl 31 a) (x : S16x128.Idx) :
    (addf a (broadcastTo S16x128 (View.ld b (Rect.unit (s := S1x1024) ![0, l] ![1, 128] ib)) broadcasts_S1x128_S16x128) x : EReal)
      = convRow e w b ((Rect.unit (s := S256x1024) o ![16, 128] io).emb x) := by
  subst ho
  have hx0 : (x 0).val < 16 := (x 0).isLt
  have hx1 : (x 1).val < 128 := (x 1).isLt
  have he : (Rect.unit (s := S256x1024) ![16 * k, l] ![16, 128] io).emb x = ix2 (⟨16 * k + (x 0).val, by omega⟩ : Fin 256) (⟨l + (x 1).val, by omega⟩ : Fin 1024) :=
    funext fun a => Fin.ext (by
      match a with
      | ⟨0, _⟩ => show 16 * k + 1 * (x 0).val = 16 * k + (x 0).val; omega
      | ⟨1, _⟩ => show l + 1 * (x 1).val = l + (x 1).val; omega)
  rw [he]
  have hx : x = ix2 (x 0) (x 1) := funext fun a => by
    match a with
    | ⟨0, _⟩ => rfl
    | ⟨1, _⟩ => rfl
  have h1 := (congrArg a hx).trans (ha (x 0) (x 1))
  have h2 := (spread (View.ld b (Rect.unit (s := S1x1024) ![0, l] ![1, 128] ib)) x).trans
    (View.ld_unit_apply_of b _ _ _ _ (ix2 (0 : Fin 1) (⟨l + (x 1).val, by omega⟩ : Fin 1024)) fun a => by
      match a with
      | ⟨0, _⟩ => rfl
      | ⟨1, _⟩ => rfl)
  exact congrArg₂ (· + ·) h1 h2

theorem row_word : ∀ (k : Fin k0_t1_loop.trips) (r : Fin 5),
    BitVec.toNat (Scalar.indexCast (Scalar.addi (Scalar.muli (Scf.iv 0#32 1#32 k.val) 16#32) (BitVec.ofNat 32 (8 * r.val)))) = 16 * k.val + 8 * r.val := by decide +kernel

theorem acc_tap {e : ℕ → Fin 1024 → EReal} {w : Vec Ideal S32x1024 .f32} {B : Vec Ideal S8x288x1024 .f32} (hB : BankOk e B) (k : Fin k0_t1_loop.trips) {l : ℕ} {hl : l + 128 ≤ 1024} {n : ℕ} (hn : n < 31)
    {a : FVec Ideal S16x128 .f32} {s : ℕ} {b : BitVec 32} {io} {iw} (hs : s = (n + 2) % 8) (hb : b = BitVec.ofNat 32 (8 * ((n + 2) / 8))) (ha : Acc e w k.val l hl n a) :
    Acc e w k.val l hl (n + 1) (addf a (mulf (shapeCast S16x128 (View.ld B (Rect.unit (s := S8x288x1024)
        ![s, BitVec.toNat (Scalar.indexCast (Scalar.addi (Scalar.muli (Scf.iv 0#32 1#32 k.val) 16#32) b)), l] ![1, 16, 128] io)) shapeCasts_S1x16x128_S16x128)
      (broadcastTo S16x128 (View.ld w (Rect.unit (s := S32x1024) ![n, l] ![1, 128] iw)) broadcasts_S1x128_S16x128))) := by
  subst hs hb
  have h := row_word k (⟨(n + 2) / 8, by omega⟩ : Fin 5)
  exact acc_succ hB (lt_of_lt_of_le k.isLt k0_t1_abs.2.1) hn io iw (congrArg (fun r => ![(n + 2) % 8, r, l]) h) ha
/-- The pieces of one trip hold the convolution's rows. -/
theorem trip_apply (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x288x1024 .f32) (harg12 : arg12.IsWhole) (v18 : FVec Ideal S288x1024 .f32) (c285_i32 : BitVec 32)
    (x5 : Vec Ideal S32x1024 .f32) (x6 : Vec Ideal S1x1024 .f32) (X_arg12 : BufTy.Contents (Elt Ideal) arg12.view.ty)
    (e : ℕ → Fin 1024 → EReal) (hB : BankOk e (arg12.view.read (Elt Ideal) X_arg12)) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v18 c285_i32 (harg6.unread x5) (harg7.unread x6) X_arg12 k,
      ∀ x : p.1.shape.Idx, p.2 x = convRow e x5 x6 (p.1.emb x) := by
  have hk : k.val < 16 := lt_of_lt_of_le k.isLt k0_t1_abs.2.1
  unfold tripL_k0_t1 trip_k0_t1
  dsimp only
  sl_unfold_words
  simp only [View.readAt_eq_ld, harg6.read_unread, harg7.read_unread]
  intro p hp
  simp only [List.mem_cons, List.not_mem_nil, or_false] at hp
  rcases hp with rfl | rfl | rfl | rfl | rfl | rfl | rfl | rfl
  · exact fun x => tile_apply (l := 896) hk (hl := by decide) (k0_off72_inb k) _ (k0_off72_eq k) (by
      iterate 31 refine acc_tap hB k (by decide) (by rfl) (by rfl) ?_
      exact acc_zero e x5 k.val _ (by decide)) x
  · exact fun x => tile_apply (l := 768) hk (hl := by decide) (k0_off63_inb k) _ (k0_off63_eq k) (by
      iterate 31 refine acc_tap hB k (by decide) (by rfl) (by rfl) ?_
      exact acc_zero e x5 k.val _ (by decide)) x
  · exact fun x => tile_apply (l := 640) hk (hl := by decide) (k0_off54_inb k) _ (k0_off54_eq k) (by
      iterate 31 refine acc_tap hB k (by decide) (by rfl) (by rfl) ?_
      exact acc_zero e x5 k.val _ (by decide)) x
  · exact fun x => tile_apply (l := 512) hk (hl := by decide) (k0_off45_inb k) _ (k0_off45_eq k) (by
      iterate 31 refine acc_tap hB k (by decide) (by rfl) (by rfl) ?_
      exact acc_zero e x5 k.val _ (by decide)) x
  · exact fun x => tile_apply (l := 384) hk (hl := by decide) (k0_off36_inb k) _ (k0_off36_eq k) (by
      iterate 31 refine acc_tap hB k (by decide) (by rfl) (by rfl) ?_
      exact acc_zero e x5 k.val _ (by decide)) x
  · exact fun x => tile_apply (l := 256) hk (hl := by decide) (k0_off27_inb k) _ (k0_off27_eq k) (by
      iterate 31 refine acc_tap hB k (by decide) (by rfl) (by rfl) ?_
      exact acc_zero e x5 k.val _ (by decide)) x
  · exact fun x => tile_apply (l := 128) hk (hl := by decide) (k0_off18_inb k) _ (k0_off18_eq k) (by
      iterate 31 refine acc_tap hB k (by decide) (by rfl) (by rfl) ?_
      exact acc_zero e x5 k.val _ (by decide)) x
  · exact fun x => tile_apply (l := 0) hk (hl := by decide) (k0_off9_inb k) _ (k0_off9_eq k) (by
      iterate 31 refine acc_tap hB k (by decide) (by rfl) (by rfl) ?_
      exact acc_zero e x5 k.val _ (by decide)) x

end Cert.ConfConvIdeal.Gen

end
-- ==== Proof.ConfRow.lean ====
/-
  The gradient of the normalised, gated row `silu (xhat z * g + b) * silu cz` for one token: the gradient of the normalised
  row, of the gate, and of the row before its layer norm, the last one both as the kernel adds it up and by the chain rule.
-/
module

public import proofs.«01_k».proof.Proof.LayerNorm

@[expose] public section

noncomputable section

open Idealize.ShloMosaic Cert.Plain

namespace Cert.Conf

/-- A token: its row before the layer norm, its gate row, and the gradient of its result. -/
structure Token where
  z : Row
  cz : Row
  t : Row

variable (T : Token) (g b : Row)

/-- The normalised row with its gain and offset, and the logistic function of it and of the gate. -/
def nrm : Row := fun j => xhat T.z j * g j + b j
def sn : Row := fun j => Ideal.logistic (nrm T g b j)
def sz : Row := fun j => Ideal.logistic (T.cz j)

/-- The gradient of the normalised row. -/
def dn : Row := fun j =>
  T.t j * (T.cz j * sz T j) * sn T g b j
    + nrm T g b j * (T.t j * (T.cz j * sz T j)) * (sn T g b j * (1 - sn T g b j))

/-- The gradient of the gate. -/
def dcz : Row := fun j =>
  nrm T g b j * sn T g b j * T.t j * sz T j
    + T.cz j * (nrm T g b j * sn T g b j * T.t j) * (sz T j * (1 - sz T j))

/-- The gradient of the row the layer norm scales. -/
def dx : Row := fun j => dn T g b j * g j

/-- The gradient through the variance, without its last factor. -/
def viaVar (z d : Row) : EReal :=
  Ideal.div ((∑ k, center z k * d k) * (cNegHalf * Ideal.div (rstd z) (spread z))) cN

/-- The gradient at the centred row as the kernel adds it up, and the gradient at the row before the layer norm. -/
def atCenter (z d : Row) : Row := fun j => d j * rstd z + center z j * viaVar z d + viaVar z d * center z j
def blockGrad (z d : Row) : Row := fun j => atCenter z d j + Ideal.div (∑ k, -atCenter z d k) cN

theorem IsReal.viaVar {z d : Row} (hz : ∀ j, IsReal (z j)) (hd : ∀ j, IsReal (d j)) : IsReal (viaVar z d) := by
  have hs : IsReal (∑ k, center z k * d k) := IsReal.sum fun k _ => (IsReal.center hz k).mul (hd k)
  have hr : IsReal (Ideal.div (rstd z) (spread z)) := by
    obtain ⟨r, hr⟩ := IsReal.rstd hz
    obtain ⟨f, rfl⟩ := lift_row hz
    obtain ⟨s, hs, hsp⟩ := spread_coe f
    rw [hr, hsp, Ideal.div_coe hs.ne']
    exact IsReal.mul ⟨_, rfl⟩ ⟨_, rfl⟩
  obtain ⟨a, ha⟩ := hs.mul (IsReal.mul ⟨_, cNegHalf_eq⟩ hr)
  unfold Conf.viaVar
  rw [ha, cN_eq, Ideal.div_coe (by norm_num)]
  exact IsReal.mul ⟨_, rfl⟩ ⟨_, rfl⟩

/-- On real rows the kernel's sum is the chain rule's. -/
theorem blockGrad_eq {z d : Row} (hz : ∀ j, IsReal (z j)) (hd : ∀ j, IsReal (d j)) : blockGrad z d = chainGrad z d := by
  obtain ⟨v, hv⟩ := IsReal.viaVar hz hd
  obtain ⟨r, hr⟩ := IsReal.rstd hz
  obtain ⟨u, hu⟩ := lift_row (IsReal.center hz)
  obtain ⟨e, rfl⟩ := lift_row hd
  have hc : atCenter z (fun j => ((e j : ℝ) : EReal)) = fun j => ((e j * r + v * (2 * u j) : ℝ) : EReal) := by
    funext j
    unfold atCenter
    rw [hv, hr, hu]
    simp only [← EReal.coe_mul, ← EReal.coe_add]
    congr 1; ring
  have hp : varPart z (fun j => ((e j : ℝ) : EReal)) = fun j => ((v * (2 * u j) : ℝ) : EReal) := by
    funext j
    show Conf.viaVar z _ * (cTwo * center z j) = _
    rw [hv, hu, cTwo_eq]
    simp only [← EReal.coe_mul]
  funext j
  unfold blockGrad chainGrad
  rw [hc, hp, hr]
  simp only [← EReal.coe_mul, ← EReal.coe_neg, ← coe_sum, ← EReal.coe_add]
  congr 3
  rw [← Finset.sum_add_distrib]
  exact Finset.sum_congr rfl fun k _ => by ring

/-- What is assumed of a token and of the gain: they are finite. -/
structure Finite : Prop where
  z : ∀ j, IsReal (T.z j)
  cz : ∀ j, IsReal (T.cz j)
  t : ∀ j, IsReal (T.t j)
  g : ∀ j, IsReal (g j)

variable {T g b}

/-- The gradient of the normalised row is finite whatever the offset: where the normalised value is infinite, the derivative
    of the logistic function is zero. -/
theorem Finite.dn (H : Finite T g) (j : Fin 1024) : IsReal (dn T g b j) := by
  have ht : IsReal (T.t j * (T.cz j * sz T j)) := (H.t j).mul ((H.cz j).mul (IsReal.logistic _))
  refine (ht.mul (IsReal.logistic _)).add ?_
  unfold sn
  induction nrm T g b j with
  | bot => exact ⟨0, by simp⟩
  | top =>
    have h : (1 : EReal) - 1 = 0 := by
      have e : ((1 : ℝ) : EReal) - ((1 : ℝ) : EReal) = ((0 : ℝ) : EReal) := by rw [← EReal.coe_sub]; norm_num
      exact e
    exact ⟨0, by simp [h]⟩
  | coe r =>
    exact (IsReal.mul ⟨r, rfl⟩ ht).mul ((IsReal.logistic _).mul (IsReal.sub ⟨1, rfl⟩ (IsReal.logistic _)))

theorem Finite.dx (H : Finite T g) (j : Fin 1024) : IsReal (dx T g b j) := (H.dn j).mul (H.g j)

theorem Finite.blockGrad_eq (H : Finite T g) : blockGrad T.z (Conf.dx T g b) = chainGrad T.z (Conf.dx T g b) :=
  Conf.blockGrad_eq H.z H.dx

end Cert.Conf

end
-- ==== Proof.ConfConvRun.lean ====
/-
  What the conv branch's body leaves in its two output blocks: the rows of the gated projection in the bank, the
  convolution's rows behind the loop, and the normalised, gated rows.
-/
module

public import proofs.«01_k».proof.Proof.ConfConvTaps
public import proofs.«01_k».proof.Proof.ConfRow
public import proofs.«01_k».proof.Proof.Gen.ConfConvIdeal.Frame
public import Idealize.ShloMosaic.Lib.Pointwise

@[expose] public section

set_option maxRecDepth 16384

noncomputable section

namespace Cert.ConfConvIdeal.Gen

open Idealize.ShloMosaic Idealize.ShloMosaic.TcCoe Idealize.ShloMosaic.Tactic
open Idealize.ShloMosaic.Rounds
open Cert.Plain Cert.Conf

/-- The pieces that fill the bank's first slab: the rows before the block, then the block. -/
abbrev slab0 (i : grid0.Coords) (x0 x1 : Vec Ideal S256x1024 .f32) (x3 x4 : Vec Ideal S32x1024 .f32) : List (View.Piece (Elt Ideal) S8x288x1024 .f32) :=
  [⟨Rect.unit (s := S8x288x1024) ![0, 32, 0] S1x256x1024.size inb_S8x288x1024_S1x256x1024_0_32_0, k0_pay95 x0 x1⟩,
    ⟨Rect.unit (s := S8x288x1024) ![0, 0, 0] S1x32x1024.size inb_S8x288x1024_S1x32x1024_0_0_0, k0_pay94 i x3 x4⟩]

theorem first_eq : ∀ n : Fin 32, Scalar.cmpi .eq (BitVec.ofNat 32 n.val) 0#32 = if n.val = 0 then 1#1 else 0#1 := by decide

theorem pay94_apply (i : grid0.Coords) (x3 x4 : Vec Ideal S32x1024 .f32) (r : Fin 32) (q : Fin 1024) :
    (k0_pay94 i x3 x4 (ix3 (0 : Fin 1) r q) : EReal) = if (i 0).val = 0 then 0 else x3 (ix2 r q) * Ideal.logistic (x4 (ix2 r q)) := by
  have hz : Scalar.cmpi .eq (BitVec.ofNat 32 (i 0).val) 0#32 = if (i 0).val = 0 then 1#1 else 0#1 := first_eq ⟨(i 0).val, (i 0).isLt⟩
  unfold k0_pay94
  dsimp only
  refine (shapeCast_apply _ _ _ (ix2 r q) (by
    rw [Shape.rowMajor_val_three, Shape.rowMajor_val_two]
    show r.val * 1024 + q.val = ((0 * 32 + r.val) * 1024 + q.val)
    omega)).trans ?_
  rw [hz]
  by_cases h : (i 0).val = 0
  · rw [if_pos h, if_pos h]
    show (Ideal.ofBits .f32 0x00000000#32 : EReal) = 0
    exact Ideal.ofBits_zero_f32
  · rw [if_neg h, if_neg h]
    rfl

theorem pay95_apply (x0 x1 : Vec Ideal S256x1024 .f32) (r : Fin 256) (q : Fin 1024) :
    (k0_pay95 x0 x1 (ix3 (0 : Fin 1) r q) : EReal) = x0 (ix2 r q) * Ideal.logistic (x1 (ix2 r q)) := by
  unfold k0_pay95
  exact shapeCast_apply _ _ _ (ix2 r q) (by
    rw [Shape.rowMajor_val_three, Shape.rowMajor_val_two]
    show r.val * 1024 + q.val = ((0 * 256 + r.val) * 1024 + q.val)
    omega)

theorem slab0_read (i : grid0.Coords) (x0 x1 : Vec Ideal S256x1024 .f32) (x3 x4 : Vec Ideal S32x1024 .f32)
    (v : View sig .tc .vmem S8x288x1024 .f32) (f : v.ty.Contents (Elt Ideal)) (r : Fin 288) (q : Fin 1024) :
    v.read (Elt Ideal) (v.writes (Elt Ideal) f (slab0 i x0 x1 x3 x4)) (ix3 (0 : Fin 8) r q) = extRow i x0 x1 x3 x4 r.val q := by
  unfold extRow
  by_cases h : r.val < 32
  · rw [dif_pos h]
    refine (View.read_writes_cons_unit_of_not_mem v f _ _ _ _ rfl (1 : Fin 3) (.inl (by show r.val < 32; exact h))).trans ?_
    refine (View.read_writes_cons_unit_of_mem v f _ _ _ _ (ix3 (0 : Fin 1) (⟨r.val, h⟩ : Fin 32) q) rfl fun a => ?_).trans (pay94_apply i x3 x4 ⟨r.val, h⟩ q)
    match a with
    | ⟨0, _⟩ => rfl
    | ⟨1, _⟩ => show r.val = 0 + r.val; omega
    | ⟨2, _⟩ => show q.val = 0 + q.val; omega
  · rw [dif_neg h]
    have hr := r.isLt
    have hm : (r.val - 32) % 256 = r.val - 32 := Nat.mod_eq_of_lt (by omega)
    refine (View.read_writes_cons_unit_of_mem v f _ _ _ _ (ix3 (0 : Fin 1) (⟨(r.val - 32) % 256, Nat.mod_lt _ (by decide)⟩ : Fin 256) q) rfl fun a => ?_).trans
      (pay95_apply x0 x1 ⟨(r.val - 32) % 256, Nat.mod_lt _ (by decide)⟩ q)
    match a with
    | ⟨0, _⟩ => rfl
    | ⟨1, _⟩ => show r.val = 32 + (r.val - 32) % 256; omega
    | ⟨2, _⟩ => show q.val = 0 + q.val; omega

theorem slab0_cov (i : grid0.Coords) (x0 x1 : Vec Ideal S256x1024 .f32) (x3 x4 : Vec Ideal S32x1024 .f32) (v : View sig .tc .vmem S8x288x1024 .f32) (r : Fin 288) (q : Fin 1024) :
    v.readCov (slab0 i x0 x1 x3 x4) (Rect.unit (s := S8x288x1024) ![0, 0, 0] S1x288x1024.size inb_S8x288x1024_S1x288x1024_0_0_0).toLoadRect (ix3 (0 : Fin 1) r q)
      = extRow i x0 x1 x3 x4 r.val q := by
  show v.readAt (Elt Ideal) _ (v.writes (Elt Ideal) v.junk _) _ = _
  rw [View.readAt_eq_ld]
  refine (View.ld_unit_apply_of _ _ _ _ _ (ix3 (0 : Fin 8) r q) fun a => ?_).trans (slab0_read i x0 x1 x3 x4 v _ r q)
  match a with
  | ⟨0, _⟩ => rfl
  | ⟨1, _⟩ => show r.val = 0 + r.val; omega
  | ⟨2, _⟩ => show q.val = 0 + q.val; omega

/-- A slab moved up by `s` rows: the rotation by `288 - s` and its slab's layout. -/
theorem rot_apply (V : Vec Ideal S1x288x1024 .f32) (sb : BitVec 32) (s : ℕ) (hs : sb.toNat = 288 - s) (h1 : 0 < s) (r : Fin 288) (hr : r.val + s < 288) (q : Fin 1024) :
    shapeCast S1x288x1024 (dynamicRotate 0 sb none (k0_pay96 V) rotates_S288x1024_d0) shapeCasts_S288x1024_S1x288x1024 (ix3 (0 : Fin 1) r q)
      = V (ix3 (0 : Fin 1) (⟨r.val + s, hr⟩ : Fin 288) q) := by
  refine (shapeCast_apply _ _ _ (ix2 r q) (by
    rw [Shape.rowMajor_val_three, Shape.rowMajor_val_two]
    show r.val * 1024 + q.val = ((0 * 288 + r.val) * 1024 + q.val)
    omega)).trans ?_
  refine (dynamicRotate_apply (0 : Fin 2) sb _ _ _ (ix2 (⟨r.val + s, hr⟩ : Fin 288) q) fun b => ?_).trans ?_
  · match b with
    | ⟨0, _⟩ =>
      show r.val + s = (r.val + 288 - sb.toNat % 288) % 288
      rw [hs, Nat.mod_eq_of_lt (show 288 - s < 288 by omega), show r.val + 288 - (288 - s) = r.val + s by omega, Nat.mod_eq_of_lt hr]
    | ⟨1, _⟩ => rfl
  · exact shapeCast_apply _ _ _ _ (by
      rw [Shape.rowMajor_val_three, Shape.rowMajor_val_two]
      show ((0 * 288 + (r.val + s)) * 1024 + q.val) = (r.val + s) * 1024 + q.val
      omega)

/-- The first slabs hold their shifted copies. -/
def UpToSlab (e : ℕ → Fin 1024 → EReal) (n : ℕ) (B : Vec Ideal S8x288x1024 .f32) : Prop :=
  ∀ (s : Fin 8) (r : Fin 288) (q : Fin 1024), s.val < n → r.val + s.val < 288 → B (ix3 s r q) = e (r.val + s.val) q

/-- One more slab's store: the rotation of the first by that many rows. -/
theorem slab_step {e : ℕ → Fin 1024 → EReal} (v : View sig .tc .vmem S8x288x1024 .f32) (f : v.ty.Contents (Elt Ideal)) {n : ℕ} (h0 : 0 < n) (hn : n < 8) (inb)
    (V : Vec Ideal S1x288x1024 .f32) (hV : ∀ (r : Fin 288) (q : Fin 1024), V (ix3 (0 : Fin 1) r q) = e r.val q) (sb : BitVec 32) (hs : sb.toNat = 288 - n)
    (L : List (View.Piece (Elt Ideal) S8x288x1024 .f32)) (hL : UpToSlab e n (v.read (Elt Ideal) (v.writes (Elt Ideal) f L))) :
    UpToSlab e (n + 1) (v.read (Elt Ideal) (v.writes (Elt Ideal) f
      ((⟨Rect.unit (s := S8x288x1024) ![n, 0, 0] S1x288x1024.size inb, shapeCast S1x288x1024 (dynamicRotate 0 sb none (k0_pay96 V) rotates_S288x1024_d0) shapeCasts_S288x1024_S1x288x1024⟩ : View.Piece (Elt Ideal) S8x288x1024 .f32) :: L))) := by
  intro s r q hsn hr
  by_cases h : s.val < n
  · exact (View.read_writes_cons_unit_of_not_mem v f _ _ _ _ rfl (0 : Fin 3) (.inl (by show s.val < n; exact h))).trans (hL s r q h hr)
  · have hsn : s.val = n := by omega
    refine (View.read_writes_cons_unit_of_mem v f _ _ _ _ (ix3 (0 : Fin 1) r q) rfl fun a => ?_).trans ?_
    · match a with
      | ⟨0, _⟩ => show s.val = n + 0; omega
      | ⟨1, _⟩ => show r.val = 0 + r.val; omega
      | ⟨2, _⟩ => show q.val = 0 + q.val; omega
    · subst hsn
      exact (rot_apply V sb s.val hs h0 r hr q).trans (hV _ _)

theorem bank_ok {e : ℕ → Fin 1024 → EReal} (i : grid0.Coords) (x0 x1 : Vec Ideal S256x1024 .f32) (x3 x4 : Vec Ideal S32x1024 .f32) (he : e = extRow i x0 x1 x3 x4)
    (v : View sig .tc .vmem S8x288x1024 .f32) (f : v.ty.Contents (Elt Ideal)) (V : Vec Ideal S1x288x1024 .f32)
    (hV : ∀ (r : Fin 288) (q : Fin 1024), V (ix3 (0 : Fin 1) r q) = e r.val q) (i1 i2 i3 i4 i5 i6 i7) :
    BankOk e (v.read (Elt Ideal) (v.writes (Elt Ideal) f
      ((⟨Rect.unit (s := S8x288x1024) ![7, 0, 0] S1x288x1024.size i7, k0_pay103 (k0_pay96 V)⟩ : View.Piece (Elt Ideal) S8x288x1024 .f32)
        :: (⟨Rect.unit (s := S8x288x1024) ![6, 0, 0] S1x288x1024.size i6, k0_pay102 (k0_pay96 V)⟩ : View.Piece (Elt Ideal) S8x288x1024 .f32)
        :: (⟨Rect.unit (s := S8x288x1024) ![5, 0, 0] S1x288x1024.size i5, k0_pay101 (k0_pay96 V)⟩ : View.Piece (Elt Ideal) S8x288x1024 .f32)
        :: (⟨Rect.unit (s := S8x288x1024) ![4, 0, 0] S1x288x1024.size i4, k0_pay100 (k0_pay96 V)⟩ : View.Piece (Elt Ideal) S8x288x1024 .f32)
        :: (⟨Rect.unit (s := S8x288x1024) ![3, 0, 0] S1x288x1024.size i3, k0_pay99 (k0_pay96 V) 285#32⟩ : View.Piece (Elt Ideal) S8x288x1024 .f32)
        :: (⟨Rect.unit (s := S8x288x1024) ![2, 0, 0] S1x288x1024.size i2, k0_pay98 V⟩ : View.Piece (Elt Ideal) S8x288x1024 .f32)
        :: (⟨Rect.unit (s := S8x288x1024) ![1, 0, 0] S1x288x1024.size i1, k0_pay97 V⟩ : View.Piece (Elt Ideal) S8x288x1024 .f32) :: slab0 i x0 x1 x3 x4))) := by
  have h1 : UpToSlab e 1 (v.read (Elt Ideal) (v.writes (Elt Ideal) f (slab0 i x0 x1 x3 x4))) := fun s r q hs hr => by
    have h0 : s = 0 := Fin.ext (by show s.val = 0; omega)
    subst h0 he
    exact slab0_read i x0 x1 x3 x4 v f r q
  have h2 := slab_step v f (by decide) (by decide) i1 V hV 287#32 rfl _ h1
  have h3 := slab_step v f (by decide) (by decide) i2 V hV 286#32 rfl _ h2
  have h4 := slab_step v f (by decide) (by decide) i3 V hV 285#32 rfl _ h3
  have h5 := slab_step v f (by decide) (by decide) i4 V hV 284#32 rfl _ h4
  have h6 := slab_step v f (by decide) (by decide) i5 V hV 283#32 rfl _ h5
  have h7 := slab_step v f (by decide) (by decide) i6 V hV 282#32 rfl _ h6
  have h8 := slab_step v f (by decide) (by decide) i7 V hV 281#32 rfl _ h7
  exact fun s r q hr => h8 s r q s.isLt hr

/-! ### The normalised, gated rows -/

/-- The token of a row of the block (its gradient is of no use here), and the single row of a block. -/
def token (x cz : Vec Ideal S256x1024 .f32) (p : Fin 256) : Token where
  z j := x (ix2 p j)
  cz j := cz (ix2 p j)
  t j := 0
def row (g : Vec Ideal S1x1024 .f32) : Row := fun j => g (ix2 0 j)

theorem gated_apply (x cz : Vec Ideal S256x1024 .f32) (g b : Vec Ideal S1x1024 .f32) (p : Fin 256) (q : Fin 1024) :
    (k0_pay1 (k0_pay105 x) cz g b (ix2 p q) : EReal)
      = nrm (token x cz p) (row g) (row b) q * sn (token x cz p) (row g) (row b) q * (cz (ix2 p q) * sz (token x cz p) q) := by
  unfold k0_pay1 k0_pay105
  pointwise [nrm, sn, sz, xhat, rstd, Cert.Plain.spread, center, mean, cN, cEps, token, row]

/-! ### The run's pieces -/

theorem pb_val (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x288x1024 .f32) (harg12 : arg12.IsWhole) (v18 : FVec Ideal S288x1024 .f32) (c285_i32 : BitVec 32)
    (x5 : Vec Ideal S32x1024 .f32) (x6 : Vec Ideal S1x1024 .f32) (X_arg12 : BufTy.Contents (Elt Ideal) arg12.view.ty)
    (e : ℕ → Fin 1024 → EReal) (hB : BankOk e (arg12.view.read (Elt Ideal) X_arg12)) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 v18 c285_i32 (harg6.unread x5) (harg7.unread x6) X_arg12 n,
      ∀ x : p.1.shape.Idx, p.2 x = convRow e x5 x6 (p.1.emb x)
  | 0, _, p, h => by rw [pb_k0_t1.eq_1] at h; exact absurd h List.not_mem_nil
  | n + 1, hn, p, h => by
    have e1 := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v18 c285_i32 (harg6.unread x5) (harg7.unread x6) X_arg12 ⟨n, hn⟩
    rw [show (⟨n, hn⟩ : Fin k0_t1_loop.trips).val = n from rfl] at e1
    rw [e1] at h
    rcases List.mem_append.mp h with h | h
    · exact trip_apply 𝒱 c bd i arg1 harg1 arg2 harg2 arg3 harg3 arg4 harg4 arg5 harg5 arg6 harg6 arg7 harg7 arg8 harg8 arg9 harg9 arg10 harg10 arg11 harg11 arg12 harg12 v18 c285_i32 x5 x6 X_arg12 e hB ⟨n, hn⟩ p h
    · exact pb_val 𝒱 c bd i arg1 harg1 arg2 harg2 arg3 harg3 arg4 harg4 arg5 harg5 arg6 harg6 arg7 harg7 arg8 harg8 arg9 harg9 arg10 harg10 arg11 harg11 arg12 harg12 v18 c285_i32 x5 x6 X_arg12 e hB n (by omega) p h

theorem hz2 : (![0, 0] : Fin 2 → Nat) = fun _ => 0 := funext fun a => by fin_cases a <;> rfl

/-- The convolution's rows of a block. -/
def convBlk (i : grid0.Coords) (x0 x1 : Vec Ideal S256x1024 .f32) (x3 x4 x5 : Vec Ideal S32x1024 .f32) (x6 : Vec Ideal S1x1024 .f32) : Vec Ideal S256x1024 .f32 :=
  convRow (extRow i x0 x1 x3 x4) x5 x6

theorem run_val (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x288x1024 .f32) (harg12 : arg12.IsWhole) (x0 x1 x2 : Vec Ideal S256x1024 .f32) (x3 x4 x5 : Vec Ideal S32x1024 .f32) (x6 x7 x8 : Vec Ideal S1x1024 .f32) :
    ∀ p ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1, ∀ x : p.1.shape.Idx, p.2 x = convBlk i x0 x1 x3 x4 x5 x6 (p.1.emb x) := by
  unfold kernelRun0_A
  dsimp only
  intro p hp
  refine pb_val _ _ _ _ _ _ _ _ _ _ _ _ _ _ _ _ _ _ _ _ _ _ _ _ _ _ _ _ _ _ x5 x6 _ (extRow i x0 x1 x3 x4) ?_ _ le_rfl p hp
  clear hp
  sl_unfold_words
  simp only [View.readAt_eq_ld, harg1.read_unread, harg2.read_unread, harg4.read_unread, harg5.read_unread, View.ld_unit_zero (S := S256x1024) hz2, View.ld_unit_zero (S := S32x1024) hz2]
  exact bank_ok i x0 x1 x3 x4 rfl arg12.view _ _ (slab0_cov i x0 x1 x3 x4 arg12.view) _ _ _ _ _ _ _

theorem out9_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x288x1024 .f32) (harg12 : arg12.IsWhole) (x0 x1 x2 : Vec Ideal S256x1024 .f32) (x3 x4 x5 : Vec Ideal S32x1024 .f32) (x6 x7 x8 : Vec Ideal S1x1024 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = convBlk i x0 x1 x3 x4 x5 x6 :=
  funext fun y => View.read_writes_apply_of_pieces VO0_9 _ (convBlk i x0 x1 x3 x4 x5 x6) _ (run_val c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) y (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y)

theorem out10_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x288x1024 .f32) (harg12 : arg12.IsWhole) (x0 x1 x2 : Vec Ideal S256x1024 .f32) (x3 x4 x5 : Vec Ideal S32x1024 .f32) (x6 x7 x8 : Vec Ideal S1x1024 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = k0_pay1 (k0_pay105 (convBlk i x0 x1 x3 x4 x5 x6)) x2 x7 x8 := by
  have hb : arg10.view.read (Elt Ideal) (arg10.view.writes (Elt Ideal) arg10.view.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1) = convBlk i x0 x1 x3 x4 x5 x6 :=
    funext fun y => View.read_writes_apply_of_pieces arg10.view _ (convBlk i x0 x1 x3 x4 x5 x6) _ (run_val c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) y (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y)
  rw [← hb]
  unfold out0_A_10 kernelRun0_A
  dsimp only
  sl_unfold_words
  simp only [View.readAt_eq_ld, View.readCov, harg3.read_unread, harg8.read_unread, harg9.read_unread, View.ld_unit_zero (S := S256x1024) hz2, View.ld_unit_zero (S := S1x1024) hz2]
  funext y
  refine (View.read_writes_cons_unit_of_mem VO0_10 _ _ _ _ _ y rfl fun a => ?_).trans ?_
  · match a with
    | ⟨0, _⟩ => show (y 0).val = 0 + (y 0).val; omega
    | ⟨1, _⟩ => show (y 1).val = 0 + (y 1).val; omega
  · rfl

end Cert.ConfConvIdeal.Gen

end
-- ==== Proof.ConfRef.lean ====
/-
  The reference of the gradient of the normalised, gated rows, element by element: its intermediate arrays, and the value of
  `Cert.Conf` each holds at a token `p` and a column `q`.
-/
module

public import proofs.«01_k».proof.Proof.Dot
public import proofs.«01_k».proof.Proof.ConfRow
public import proofs.«01_k».proof.Proof.Gen.ConfPostRefIdeal.Run
public import Idealize.ShloMosaic.Lib.Pointwise
public import Idealize.ShloMosaic.Lib.Tactic

@[expose] public section

set_option maxRecDepth 16384

noncomputable section

open Idealize.ShloMosaic Idealize.ShloMosaic.TcCoe
open Cert.Plain Cert.Conf

namespace Cert.ConfPostRefIdeal.Rows

open Cert.ConfPostRefIdeal Cert.ConfPostRefIdeal.Gen Cert.ConfPostRefIdeal.Value

/-! The intermediate arrays, of the rows `x`, the projection `P` with the gates, the gradients `t`, the gain and the offset. -/

def gateR (P : FVec Ideal S8192x3072 .f32) : FVec Ideal S8192x1024 .f32 :=
  extractStridedSlice S8192x1024 ![0, 2048] P slices_S8192x3072_S8192x1024_0_2048
def meanR (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_)) (broadcastInDim S8192x1 ![] bcast_S_S8192x1 (constant S_ .f32 0x44800000#32))
def centerR (x : FVec Ideal S8192x1024 .f32) : FVec Ideal S8192x1024 .f32 :=
  subf x (broadcastInDim S8192x1024 ![0, 1] bcast_S8192x1_S8192x1024_0_1 (meanR x))
def spreadR (x : FVec Ideal S8192x1024 .f32) : FVec Ideal S8192x1 .f32 :=
  addf (Host.divf (broadcastInDim S8192x1 ![0] bcast_S8192_S8192x1_0 (Host.reduceAdd (mulf (centerR x) (centerR x)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))
def rstdR (x : FVec Ideal S8192x1024 .f32) : FVec Ideal S8192x1 .f32 :=
  Host.rsqrt (spreadR x)
def xhatR (x : FVec Ideal S8192x1024 .f32) : FVec Ideal S8192x1024 .f32 :=
  mulf (centerR x) (broadcastInDim S8192x1024 ![0, 1] bcast_S8192x1_S8192x1024_0_1 (rstdR x))
def nrmR (x : FVec Ideal S8192x1024 .f32) (g : FVec Ideal S1x1024 .f32) (b : FVec Ideal S1x1024 .f32) : FVec Ideal S8192x1024 .f32 :=
  addf (mulf (xhatR x) (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S1x1024_S8192x1024_0_1 (broadcastInDim S1x1024 ![1] bcast_S1024_S1x1024_1 (shapeCast _ b shapeCasts_S1x1024_S1024)))
def snR (x : FVec Ideal S8192x1024 .f32) (g : FVec Ideal S1x1024 .f32) (b : FVec Ideal S1x1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (nrmR x g b))))
def snDerR (x : FVec Ideal S8192x1024 .f32) (g : FVec Ideal S1x1024 .f32) (b : FVec Ideal S1x1024 .f32) : FVec Ideal S8192x1024 .f32 :=
  mulf (snR x g b) (subf (broadcastInDim S8192x1024 ![] bcast_S_S8192x1024 (constant S_ .f32 0x3F800000#32)) (snR x g b))
def actR (x : FVec Ideal S8192x1024 .f32) (g : FVec Ideal S1x1024 .f32) (b : FVec Ideal S1x1024 .f32) : FVec Ideal S8192x1024 .f32 :=
  mulf (nrmR x g b) (snR x g b)
def szR (P : FVec Ideal S8192x3072 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (gateR P))))
def szDerR (P : FVec Ideal S8192x3072 .f32) : FVec Ideal S8192x1024 .f32 :=
  mulf (szR P) (subf (broadcastInDim S8192x1024 ![] bcast_S_S8192x1024 (constant S_ .f32 0x3F800000#32)) (szR P))
def gatedR (P : FVec Ideal S8192x3072 .f32) : FVec Ideal S8192x1024 .f32 :=
  mulf (gateR P) (szR P)
def tActR (x : FVec Ideal S8192x1024 .f32) (t : FVec Ideal S8192x1024 .f32) (g : FVec Ideal S1x1024 .f32) (b : FVec Ideal S1x1024 .f32) : FVec Ideal S8192x1024 .f32 :=
  mulf (actR x g b) t
def tGateR (P : FVec Ideal S8192x3072 .f32) (t : FVec Ideal S8192x1024 .f32) : FVec Ideal S8192x1024 .f32 :=
  mulf t (gatedR P)
def dczR (x : FVec Ideal S8192x1024 .f32) (P : FVec Ideal S8192x3072 .f32) (t : FVec Ideal S8192x1024 .f32) (g : FVec Ideal S1x1024 .f32) (b : FVec Ideal S1x1024 .f32) : FVec Ideal S8192x1024 .f32 :=
  addf (mulf (tActR x t g b) (szR P)) (mulf (mulf (gateR P) (tActR x t g b)) (szDerR P))
def dnR (x : FVec Ideal S8192x1024 .f32) (P : FVec Ideal S8192x3072 .f32) (t : FVec Ideal S8192x1024 .f32) (g : FVec Ideal S1x1024 .f32) (b : FVec Ideal S1x1024 .f32) : FVec Ideal S8192x1024 .f32 :=
  addf (mulf (tGateR P t) (snR x g b)) (mulf (mulf (nrmR x g b) (tGateR P t)) (snDerR x g b))
def dxR (x : FVec Ideal S8192x1024 .f32) (P : FVec Ideal S8192x3072 .f32) (t : FVec Ideal S8192x1024 .f32) (g : FVec Ideal S1x1024 .f32) (b : FVec Ideal S1x1024 .f32) : FVec Ideal S8192x1024 .f32 :=
  mulf (dnR x P t g b) (broadcastInDim S8192x1024 ![0, 1] bcast_S1x1024_S8192x1024_0_1 (broadcastInDim S1x1024 ![1] bcast_S1024_S1x1024_1 (shapeCast _ g shapeCasts_S1x1024_S1024)))
def scaledR (x : FVec Ideal S8192x1024 .f32) (P : FVec Ideal S8192x3072 .f32) (t : FVec Ideal S8192x1024 .f32) (g : FVec Ideal S1x1024 .f32) (b : FVec Ideal S1x1024 .f32) : FVec Ideal S8192x1024 .f32 :=
  mulf (dxR x P t g b) (broadcastInDim S8192x1024 ![0, 1] bcast_S8192x1_S8192x1024_0_1 (rstdR x))
def varR (x : FVec Ideal S8192x1024 .f32) (P : FVec Ideal S8192x3072 .f32) (t : FVec Ideal S8192x1024 .f32) (g : FVec Ideal S1x1024 .f32) (b : FVec Ideal S1x1024 .f32) : FVec Ideal S8192x1024 .f32 :=
  mulf (broadcastInDim S8192x1024 ![0] bcast_S8192_S8192x1024_0 (Host.reduceAdd (Host.divf (mulf (shapeCast _ (Host.reduceAdd (mulf (centerR x) (dxR x P t g b)) (constant S_ .f32 0x00000000#32) reducesTo_S8192x1024_S8192_d1 h_S_) shapeCasts_S8192_S8192x1) (mulf (broadcastInDim S8192x1 ![] bcast_S_S8192x1 (constant S_ .f32 0xBF000000#32)) (Host.divf (rstdR x) (spreadR x)))) (broadcastInDim S8192x1 ![] bcast_S_S8192x1 (constant S_ .f32 0x44800000#32))) (constant S_ .f32 0x00000000#32) reducesTo_S8192x1_S8192_d1 h_S_)) (mulf (broadcastInDim S8192x1024 ![] bcast_S_S8192x1024 (constant S_ .f32 0x40000000#32)) (centerR x))
def out0 (x : FVec Ideal S8192x1024 .f32) (P : FVec Ideal S8192x3072 .f32) (t : FVec Ideal S8192x1024 .f32) (g : FVec Ideal S1x1024 .f32) (b : FVec Ideal S1x1024 .f32) : FVec Ideal S8192x1024 .f32 :=
  addf (addf (scaledR x P t g b) (varR x P t g b)) (broadcastInDim S8192x1024 ![0] bcast_S8192_S8192x1024_0 (Host.reduceAdd (Host.divf (addf (shapeCast _ (Host.reduceAdd (Host.negf (scaledR x P t g b)) (constant S_ .f32 0x00000000#32) reducesTo_S8192x1024_S8192_d1 h_S_) shapeCasts_S8192_S8192x1) (shapeCast _ (Host.reduceAdd (Host.negf (varR x P t g b)) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_))
def out1 (x : FVec Ideal S8192x1024 .f32) (P : FVec Ideal S8192x3072 .f32) (t : FVec Ideal S8192x1024 .f32) (g : FVec Ideal S1x1024 .f32) (b : FVec Ideal S1x1024 .f32) : FVec Ideal S8192x1024 .bf16 :=
  truncf .bf16 (dczR x P t g b) bitsLt_bf16_f32
def out2 (x : FVec Ideal S8192x1024 .f32) (P : FVec Ideal S8192x3072 .f32) (t : FVec Ideal S8192x1024 .f32) (g : FVec Ideal S1x1024 .f32) (b : FVec Ideal S1x1024 .f32) : FVec Ideal S8x1024 .f32 :=
  pad S8x1024 ![0, 0] ![7, 0] ![0, 0] (broadcastInDim S1x1024 ![1] bcast_S1024_S1x1024_1 (Host.reduceAdd (shapeCast _ (Host.reduceAdd (mulf (xhatR x) (dnR x P t g b)) (constant S_ .f32 0x00000000#32) reducesTo_S8192x1024_S1024_d0 h_S_) shapeCasts_S1024_S1x1024) (constant S_ .f32 0x00000000#32) reducesTo_S1x1024_S1024_d0 h_S_)) (sitofp .f32 (constantI S_ 32 0#32)) pads_S1x1024_S8x1024_070_000 h_S_
def out3 (x : FVec Ideal S8192x1024 .f32) (P : FVec Ideal S8192x3072 .f32) (t : FVec Ideal S8192x1024 .f32) (g : FVec Ideal S1x1024 .f32) (b : FVec Ideal S1x1024 .f32) : FVec Ideal S8x1024 .f32 :=
  pad S8x1024 ![0, 0] ![7, 0] ![0, 0] (broadcastInDim S1x1024 ![1] bcast_S1024_S1x1024_1 (Host.reduceAdd (shapeCast _ (Host.reduceAdd (dnR x P t g b) (constant S_ .f32 0x00000000#32) reducesTo_S8192x1024_S1024_d0 h_S_) shapeCasts_S1024_S1x1024) (constant S_ .f32 0x00000000#32) reducesTo_S1x1024_S1024_d0 h_S_)) (sitofp .f32 (constantI S_ 32 0#32)) pads_S1x1024_S8x1024_070_000 h_S_

variable (x : FVec Ideal S8192x1024 .f32) (P : FVec Ideal S8192x3072 .f32) (t : FVec Ideal S8192x1024 .f32) (g b : FVec Ideal S1x1024 .f32)

/-- Token `r` of the arrays, and the single row of an array. -/
def token (r : Fin 8192) : Token where
  z j := x (ix2 r j)
  cz j := P (ix2 r ⟨2048 + j.val, by omega⟩)
  t j := t (ix2 r j)
def row (g : FVec Ideal S1x1024 .f32) : Row := fun j => g (ix2 0 j)

theorem gateR_apply (p : Fin 8192) (q : Fin 1024) : (gateR P (ix2 p q) : EReal) = (token x P t p).cz q := by
  unfold gateR
  pointwise [token]

theorem meanR_apply (p : Fin 8192) : (meanR x (ix2 p 0) : EReal) = mean (token x P t p).z := by
  unfold meanR
  pointwise [mean, cN, token]

theorem centerR_apply (p : Fin 8192) (q : Fin 1024) : (centerR x (ix2 p q) : EReal) = center (token x P t p).z q := by
  unfold centerR
  pointwise [center, meanR_apply x P t, token]

theorem spreadR_apply (p : Fin 8192) : (spreadR x (ix2 p 0) : EReal) = spread (token x P t p).z := by
  unfold spreadR
  pointwise [spread, mean, cN, cEps, centerR_apply x P t]

theorem rstdR_apply (p : Fin 8192) : (rstdR x (ix2 p 0) : EReal) = rstd (token x P t p).z := by
  unfold rstdR
  pointwise [rstd, spreadR_apply x P t]

theorem xhatR_apply (p : Fin 8192) (q : Fin 1024) : (xhatR x (ix2 p q) : EReal) = xhat (token x P t p).z q := by
  unfold xhatR
  pointwise [xhat, centerR_apply x P t, rstdR_apply x P t]

theorem nrmR_apply (p : Fin 8192) (q : Fin 1024) : (nrmR x g b (ix2 p q) : EReal) = nrm (token x P t p) (row g) (row b) q := by
  unfold nrmR
  pointwise [nrm, xhatR_apply x P t, row]

theorem snR_apply (p : Fin 8192) (q : Fin 1024) : (snR x g b (ix2 p q) : EReal) = sn (token x P t p) (row g) (row b) q := by
  unfold snR
  pointwise [sn, Ideal.logistic, nrmR_apply x P t g b]

theorem snDerR_apply (p : Fin 8192) (q : Fin 1024) : (snDerR x g b (ix2 p q) : EReal) = sn (token x P t p) (row g) (row b) q * (1 - sn (token x P t p) (row g) (row b) q) := by
  unfold snDerR
  pointwise [snR_apply x P t g b]

theorem actR_apply (p : Fin 8192) (q : Fin 1024) : (actR x g b (ix2 p q) : EReal) = nrm (token x P t p) (row g) (row b) q * sn (token x P t p) (row g) (row b) q := by
  unfold actR
  pointwise [nrmR_apply x P t g b, snR_apply x P t g b]

theorem szR_apply (p : Fin 8192) (q : Fin 1024) : (szR P (ix2 p q) : EReal) = sz (token x P t p) q := by
  unfold szR
  pointwise [sz, Ideal.logistic, gateR_apply x P t]

theorem szDerR_apply (p : Fin 8192) (q : Fin 1024) : (szDerR P (ix2 p q) : EReal) = sz (token x P t p) q * (1 - sz (token x P t p) q) := by
  unfold szDerR
  pointwise [szR_apply x P t]

theorem gatedR_apply (p : Fin 8192) (q : Fin 1024) : (gatedR P (ix2 p q) : EReal) = (token x P t p).cz q * sz (token x P t p) q := by
  unfold gatedR
  pointwise [gateR_apply x P t, szR_apply x P t]

theorem tActR_apply (p : Fin 8192) (q : Fin 1024) : (tActR x t g b (ix2 p q) : EReal) = nrm (token x P t p) (row g) (row b) q * sn (token x P t p) (row g) (row b) q * (token x P t p).t q := by
  unfold tActR
  pointwise [actR_apply x P t g b, token]

theorem tGateR_apply (p : Fin 8192) (q : Fin 1024) : (tGateR P t (ix2 p q) : EReal) = (token x P t p).t q * ((token x P t p).cz q * sz (token x P t p) q) := by
  unfold tGateR
  pointwise [gatedR_apply x P t, token]

theorem dczR_apply (p : Fin 8192) (q : Fin 1024) : (dczR x P t g b (ix2 p q) : EReal) = dcz (token x P t p) (row g) (row b) q := by
  unfold dczR
  pointwise [dcz, tActR_apply x P t g b, szR_apply x P t, gateR_apply x P t, szDerR_apply x P t]

theorem dnR_apply (p : Fin 8192) (q : Fin 1024) : (dnR x P t g b (ix2 p q) : EReal) = dn (token x P t p) (row g) (row b) q := by
  unfold dnR
  pointwise [dn, tGateR_apply x P t, snR_apply x P t g b, nrmR_apply x P t g b, snDerR_apply x P t g b]

theorem dxR_apply (p : Fin 8192) (q : Fin 1024) : (dxR x P t g b (ix2 p q) : EReal) = dx (token x P t p) (row g) (row b) q := by
  unfold dxR
  pointwise [dx, dnR_apply x P t g b, row]

theorem scaledR_apply (p : Fin 8192) (q : Fin 1024) : (scaledR x P t g b (ix2 p q) : EReal) = dx (token x P t p) (row g) (row b) q * rstd (token x P t p).z := by
  unfold scaledR
  pointwise [dxR_apply x P t g b, rstdR_apply x P t]

theorem varR_apply (p : Fin 8192) (q : Fin 1024) : (varR x P t g b (ix2 p q) : EReal) = varPart (token x P t p).z (dx (token x P t p) (row g) (row b)) q := by
  unfold varR
  pointwise [varPart, cN, cTwo, cNegHalf, centerR_apply x P t, spreadR_apply x P t, rstdR_apply x P t, dxR_apply x P t g b]
  simp only [Fin.sum_univ_one, spreadR_apply x P t, rstdR_apply x P t]

theorem out0_apply (p : Fin 8192) (q : Fin 1024) : (out0 x P t g b (ix2 p q) : EReal) = chainGrad (token x P t p).z (dx (token x P t p) (row g) (row b)) q := by
  unfold out0
  pointwise [chainGrad, cN, scaledR_apply x P t g b, varR_apply x P t g b]
  rw [Fin.sum_univ_one]

theorem out1_apply (p : Fin 8192) (q : Fin 1024) : (out1 x P t g b (ix2 p q) : EReal) = dcz (token x P t p) (row g) (row b) q := by
  unfold out1
  pointwise [dczR_apply x P t g b]

theorem out2_apply (u : Fin 8) (q : Fin 1024) :
    (out2 x P t g b (ix2 u q) : EReal) = if u.val = 0 then dot (fun r => xhat (token x P t r).z q) (fun r => dn (token x P t r) (row g) (row b) q) else 0 := by
  unfold out2
  by_cases hu : u.val = 0
  · obtain rfl : u = 0 := Fin.ext hu
    rw [if_pos hu]
    pointwise []
    rw [Fin.sum_univ_one]
    unfold dot
    refine Finset.sum_congr rfl fun r _ => ?_
    rw [xhatR_apply x P t, dnR_apply x P t g b]
  · rw [if_neg hu]
    have hv : ¬u.val < 1 := by omega
    pointwise [hv, hu]
    show (((BitVec.toInt 0#32 : ℤ) : ℝ) : EReal) = 0
    simp

theorem out3_apply (u : Fin 8) (q : Fin 1024) :
    (out3 x P t g b (ix2 u q) : EReal) = if u.val = 0 then dot (fun _ => 1) (fun r => dn (token x P t r) (row g) (row b) q) else 0 := by
  unfold out3
  by_cases hu : u.val = 0
  · obtain rfl : u = 0 := Fin.ext hu
    rw [if_pos hu]
    pointwise []
    rw [Fin.sum_univ_one]
    unfold dot
    refine Finset.sum_congr rfl fun r _ => ?_
    rw [dnR_apply x P t g b, one_mul]
  · rw [if_neg hu]
    have hv : ¬u.val < 1 := by omega
    pointwise [hv, hu]
    show (((BitVec.toInt 0#32 : ℤ) : ℝ) : EReal) = 0
    simp

/-! The results of the reference are the last four of these arrays. -/

section Results

variable (m : (ℓ : Loc nD τ sig) → Buf (Elt Ideal) ℓ) (c : Dev nD)

theorem result0 : res_out0 m c = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem result1 : res_out1 m c = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem result2 : res_out2 m c = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem result3 : res_out3 m c = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Results

end Cert.ConfPostRefIdeal.Rows

end
-- ==== Proof.ConfConvRef.lean ====
/-
  The reference of the conv branch, element by element: the sum of the 31 shifted products of the gated rows and the bias, and
  the layer norm, the swish and the gate of a token's row.
-/
module

public import proofs.«01_k».proof.Proof.ConfConvTaps
public import proofs.«01_k».proof.Proof.ConfRef
public import proofs.«01_k».proof.Proof.Gen.ConfConvRefIdeal
public import proofs.«01_k».proof.Proof.Gen.ConfConvRefIdeal.Run

@[expose] public section

set_option maxRecDepth 16384

noncomputable section

open Idealize.ShloMosaic Idealize.ShloMosaic.TcCoe
open Cert.Plain Cert.Conf

namespace Cert.Shifted

open Cert.ConfConvIdeal.Gen (upTo)

variable (x : Fin 8192 → Fin 3072 → EReal) (w : Fin 32 → Fin 1024 → EReal) (b g o : Fin 1024 → EReal)

/-- A token's gated row. -/
def gated (r : Fin 8192) (q : Fin 1024) : EReal := x r ⟨q.val, by omega⟩ * Ideal.logistic (x r ⟨1024 + q.val, by omega⟩)

/-- The gated rows behind 30 rows of zeros. -/
def padded (n : ℕ) (q : Fin 1024) : EReal := if h : 30 ≤ n ∧ n < 8222 then gated x ⟨n - 30, by omega⟩ q else 0

/-- A column of the taps. -/
def column (q : Fin 1024) (n : ℕ) : EReal := w ⟨n % 32, Nat.mod_lt _ (by decide)⟩ q

/-- The convolution: 31 taps on the rows up to the token's own, and the bias. -/
def conv (r : Fin 8192) (q : Fin 1024) : EReal := upTo (fun n => padded x (r.val + n) q) (column w q) 31 + b q

/-- A token: its row of the convolution and its gate. -/
def token (r : Fin 8192) : Token where
  z := conv x w b r
  cz j := x r ⟨2048 + j.val, by omega⟩
  t j := 0

/-- The second result at a token and a column. -/
def gate (r : Fin 8192) (q : Fin 1024) : EReal :=
  nrm (token x w b r) g o q * sn (token x w b r) g o q * ((token x w b r).cz q * sz (token x w b r) q)

theorem upTo_congr {x y w v : ℕ → EReal} : ∀ n, (∀ k, k < n → x k = y k) → (∀ k, k < n → w k = v k) → upTo x w n = upTo y v n
  | 0, _, _ => rfl
  | n + 1, hx, hw => congrArg₂ (· + ·) (upTo_congr n (fun k h => hx k (by omega)) fun k h => hw k (by omega))
      (congrArg₂ (· * ·) (hx n (by omega)) (hw n (by omega)))

end Cert.Shifted

namespace Cert.ConfConvRefIdeal.Rows

open Cert.ConfConvRefIdeal Cert.ConfConvRefIdeal.Gen Cert.ConfConvRefIdeal.Value
open Cert.ConfConvIdeal.Gen (upTo)
open Cert.Shifted (gated padded column conv)

variable (x : FVec Ideal S8192x3072 .f32) (w : FVec Ideal S32x1024 .f32) (b g o : FVec Ideal S1x1024 .f32)

/-- The gated rows with 30 zero rows before them. -/
def paddedR : FVec Ideal S8222x1024 .f32 :=
  concatenate S8222x1024 0 [⟨S30x1024, (broadcastInDim S30x1024 ![] bcast_S_S30x1024 (constant S_ .f32 0x00000000#32))⟩, ⟨S8192x1024, (mulf (extractStridedSlice S8192x1024 ![0, 0] x slices_S8192x3072_S8192x1024_0_0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] x slices_S8192x3072_S8192x1024_0_1024))))))⟩] concatenates_S30x1024_S8192x1024_S8222x1024_d0

theorem paddedR_apply (n : Fin 8222) (q : Fin 1024) : (paddedR x (ix2 n q) : EReal) = padded (fun r q => x (ix2 r q)) n.val q := by
  unfold paddedR padded
  by_cases h : n.val < 30
  · rw [dif_neg (by omega)]
    pointwise [h]
  · rw [dif_pos ⟨by omega, n.isLt⟩]
    unfold gated
    pointwise [h, Ideal.logistic]

/-- One tap: a row of the taps, at every token, on the padded rows from `k` on. -/
theorem tap_apply (P : FVec Ideal S8222x1024 .f32) (hP : ∀ n q, (P (ix2 n q) : EReal) = padded (fun r q => x (ix2 r q)) n.val q)
    (k : ℕ) (hk : k < 31) (h1 : S32x1024.Slices ![k, 0] S1x1024) (h2 : S8222x1024.Slices ![k, 0] S8192x1024) (r : Fin 8192) (q : Fin 1024) :
    (mulf (broadcastInDim S8192x1024 ![0, 1] bcast_S1x1024_S8192x1024_0_1 (broadcastInDim S1x1024 ![1] bcast_S1024_S1x1024_1 (shapeCast S1024 (extractStridedSlice S1x1024 ![k, 0] w h1) shapeCasts_S1x1024_S1024)))
      (extractStridedSlice S8192x1024 ![k, 0] P h2) (ix2 r q) : EReal)
      = padded (fun r q => x (ix2 r q)) (r.val + k) q * column (fun k q => w (ix2 k q)) q k := by
  have e1 : (extractStridedSlice S1x1024 ![k, 0] w h1 (ix2 0 q) : EReal) = column (fun k q => w (ix2 k q)) q k :=
    extractStridedSlice_apply _ _ h1 _ _ fun a => by
      match a with
      | ⟨0, _⟩ => show k % 32 = k + 0; omega
      | ⟨1, _⟩ => show q.val = 0 + q.val; omega
  have e2 : (extractStridedSlice S8192x1024 ![k, 0] P h2 (ix2 r q) : EReal) = padded (fun r q => x (ix2 r q)) (r.val + k) q :=
    (extractStridedSlice_apply _ _ h2 _ (ix2 (⟨r.val + k, by omega⟩ : Fin 8222) q) fun a => by
      match a with
      | ⟨0, _⟩ => show r.val + k = k + r.val; omega
      | ⟨1, _⟩ => show q.val = 0 + q.val; omega).trans (hP _ q)
  rw [← e1, ← e2]
  generalize extractStridedSlice S1x1024 ![k, 0] w h1 = u
  generalize extractStridedSlice S8192x1024 ![k, 0] P h2 = v
  rw [mul_comm]
  pointwise []

/-- An array holds the sums of the first `n` taps. -/
def Holds (n : ℕ) (a : FVec Ideal S8192x1024 .f32) : Prop :=
  ∀ (r : Fin 8192) (q : Fin 1024), (a (ix2 r q) : EReal)
    = upTo (fun n => padded (fun r q => x (ix2 r q)) (r.val + n) q) (column (fun k q => w (ix2 k q)) q) n

theorem holds_zero : Holds x w 0 (broadcastInDim S8192x1024 ![] bcast_S_S8192x1024 (constant S_ .f32 0x00000000#32)) := fun r q => by
  show _ = (0 : EReal)
  pointwise []

theorem holds_succ (P : FVec Ideal S8222x1024 .f32) (hP : ∀ n q, (P (ix2 n q) : EReal) = padded (fun r q => x (ix2 r q)) n.val q)
    {n : ℕ} (hn : n < 31) {h1 : S32x1024.Slices ![n, 0] S1x1024} {h2 : S8222x1024.Slices ![n, 0] S8192x1024} {a : FVec Ideal S8192x1024 .f32} (ha : Holds x w n a) :
    Holds x w (n + 1) (addf a (mulf (broadcastInDim S8192x1024 ![0, 1] bcast_S1x1024_S8192x1024_0_1 (broadcastInDim S1x1024 ![1] bcast_S1024_S1x1024_1 (shapeCast S1024 (extractStridedSlice S1x1024 ![n, 0] w h1) shapeCasts_S1x1024_S1024)))
      (extractStridedSlice S8192x1024 ![n, 0] P h2))) := fun r q =>
  congrArg₂ (· + ·) (ha r q) (tap_apply x w P hP n hn h1 h2 r q)

theorem bias_apply {a : FVec Ideal S8192x1024 .f32} (ha : Holds x w 31 a) (r : Fin 8192) (q : Fin 1024) :
    (addf a (broadcastInDim S8192x1024 ![0, 1] bcast_S1x1024_S8192x1024_0_1 (broadcastInDim S1x1024 ![1] bcast_S1024_S1x1024_1 (shapeCast S1024 b shapeCasts_S1x1024_S1024))) (ix2 r q) : EReal)
      = conv (fun r q => x (ix2 r q)) (fun k q => w (ix2 k q)) (fun q => b (ix2 0 q)) r q := by
  unfold conv
  rw [← ha r q]
  pointwise []

section Results

variable (V0 : Valuation τ sig (Elt Ideal))

theorem holds11 : Holds (V0 (Proc.devRef .tc main_arg0)) (V0 (Proc.devRef .tc main_arg1)) 11 (res_main_v89 V0) := by
  unfold res_main_v89
  have hP := paddedR_apply (V0 (Proc.devRef .tc main_arg0))
  iterate 11 refine holds_succ _ _ (res_main_v11 V0) hP (by decide) ?_
  exact holds_zero _ _

theorem holds22 : Holds (V0 (Proc.devRef .tc main_arg0)) (V0 (Proc.devRef .tc main_arg1)) 22 (res_main_v166 V0) := by
  unfold res_main_v166
  have hP := paddedR_apply (V0 (Proc.devRef .tc main_arg0))
  iterate 11 refine holds_succ _ _ (res_main_v11 V0) hP (by decide) ?_
  exact holds11 V0

/-- The first result. -/
theorem conv_apply (r : Fin 8192) (q : Fin 1024) : (res_main_v233 V0 (ix2 r q) : EReal)
    = conv (fun r q => V0 (Proc.devRef .tc main_arg0) (ix2 r q)) (fun k q => V0 (Proc.devRef .tc main_arg1) (ix2 k q)) (fun q => V0 (Proc.devRef .tc main_arg2) (ix2 0 q)) r q := by
  unfold res_main_v233
  refine bias_apply _ _ _ ?_ r q
  have hP := paddedR_apply (V0 (Proc.devRef .tc main_arg0))
  iterate 9 refine holds_succ _ _ (res_main_v11 V0) hP (by decide) ?_
  exact holds22 V0

open Cert.ConfPostRefIdeal.Rows (nrmR actR gatedR actR_apply gatedR_apply)

theorem nrm_same : res_main_v259 V0 = nrmR (res_main_v233 V0) (V0 (Proc.devRef .tc main_arg3)) (V0 (Proc.devRef .tc main_arg4)) := rfl

/-- The second result. -/
def gateR : FVec Ideal S8192x1024 .bf16 :=
  truncf .bf16 (mulf (mulf (res_main_v259 V0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (res_main_v259 V0)))))) (mulf (res_main_v2 V0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (res_main_v2 V0))))))) bitsLt_bf16_f32

theorem gateR_same : gateR V0 = truncf .bf16 (mulf (actR (res_main_v233 V0) (V0 (Proc.devRef .tc main_arg3)) (V0 (Proc.devRef .tc main_arg4))) (gatedR (V0 (Proc.devRef .tc main_arg0)))) bitsLt_bf16_f32 := by
  unfold gateR
  rw [nrm_same]
  rfl

theorem gateR_apply (r : Fin 8192) (q : Fin 1024) : (gateR V0 (ix2 r q) : EReal)
    = Cert.Shifted.gate (fun r q => V0 (Proc.devRef .tc main_arg0) (ix2 r q)) (fun k q => V0 (Proc.devRef .tc main_arg1) (ix2 k q)) (fun q => V0 (Proc.devRef .tc main_arg2) (ix2 0 q))
      (fun q => V0 (Proc.devRef .tc main_arg3) (ix2 0 q)) (fun q => V0 (Proc.devRef .tc main_arg4) (ix2 0 q)) r q := by
  have hz : (fun j => (res_main_v233 V0 (ix2 r j) : EReal)) = conv (fun r q => V0 (Proc.devRef .tc main_arg0) (ix2 r q)) (fun k q => V0 (Proc.devRef .tc main_arg1) (ix2 k q)) (fun q => V0 (Proc.devRef .tc main_arg2) (ix2 0 q)) r :=
    funext fun j => conv_apply V0 r j
  have ht : Cert.ConfPostRefIdeal.Rows.token (res_main_v233 V0) (V0 (Proc.devRef .tc main_arg0)) (fun _ => (0 : EReal)) r
      = Cert.Shifted.token (fun r q => V0 (Proc.devRef .tc main_arg0) (ix2 r q)) (fun k q => V0 (Proc.devRef .tc main_arg1) (ix2 k q)) (fun q => V0 (Proc.devRef .tc main_arg2) (ix2 0 q)) r := by
    unfold Cert.ConfPostRefIdeal.Rows.token Cert.Shifted.token
    rw [hz]
  rw [gateR_same]
  refine (congrArg₂ (· * ·) (actR_apply (res_main_v233 V0) (V0 (Proc.devRef .tc main_arg0)) (fun _ => (0 : EReal)) _ _ r q)
    (gatedR_apply (res_main_v233 V0) (V0 (Proc.devRef .tc main_arg0)) (fun _ => (0 : EReal)) r q)).trans ?_
  rw [ht]
  rfl

end Results

end Cert.ConfConvRefIdeal.Rows

end
-- ==== Proof.ConfConvValue.lean ====
/-
  The conv branch's call: the kernel's two arrays are the convolution of the gated rows and the normalised, gated rows of it,
  and so are the reference's.
-/
module

public import proofs.«01_k».proof.Defs
public import proofs.«01_k».proof.Proof.ConfConvRun
public import proofs.«01_k».proof.Proof.ConfConvRef
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ConfConvIdeal.Arrays

open Cert.ConfConvIdeal Cert.ConfConvIdeal.Gen Cert.Plain Cert.Conf
open Cert.Shifted (gated padded column conv gate upTo_congr)

variable (m : (ℓ : Loc nD τ sig) → Buf (Elt Ideal) ℓ) (c : Dev nD)

/-- The projection, the taps, the bias, the gain and the offset in memory. -/
def proj : Fin 8192 → Fin 3072 → EReal := fun r q => m ((c : Thread nD τ).loc main_arg0) (ix2 r q)
def taps : Fin 32 → Fin 1024 → EReal := fun k q => m ((c : Thread nD τ).loc main_arg1) (ix2 k q)
def bias : Row := fun q => m ((c : Thread nD τ).loc main_arg2) (ix2 0 q)
def gain : Row := fun q => m ((c : Thread nD τ).loc main_arg3) (ix2 0 q)
def offset : Row := fun q => m ((c : Thread nD τ).loc main_arg4) (ix2 0 q)

/-- Where the windows of a point stand. -/
theorem rows_eq : ∀ t : Fin cfg0.N,
    (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2)
    ∧ (win0_3.index t (0 : Fin 2) = 8 * t.val - 1 ∧ win0_3.index t (1 : Fin 2) = 0)
    ∧ (win0_4.index t (0 : Fin 2) = 8 * t.val - 1 ∧ win0_4.index t (1 : Fin 2) = 1) :=
  (by decide +kernel : ∀ t : Fin grid0.N, _)

theorem whole_eq : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem out_eq : ∀ t : Fin cfg0.N,
    (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem coord_eq : ∀ t : Fin cfg0.N, (grid0.coords t 0).val = t.val :=
  (by decide +kernel : ∀ t : Fin grid0.N, _)

theorem blk0 (t : Fin cfg0.N) (p : Fin 256) (q : Fin 1024) (r : Fin 8192) (s : Fin 3072) (hr : r.val = 256 * t.val + p.val) (hs : s.val = q.val) :
    (iblk m c 0 t (ix2 p q) : EReal) = proj m c r s := by
  obtain ⟨e0, e1⟩ := (rows_eq t).1
  show V m c main_arg0 _ = m ((c : Thread nD τ).loc main_arg0) _
  rw [V_main_arg0]
  congr 1
  funext a; apply Fin.ext
  match a with
  | ⟨0, _⟩ => show win0_0.index t 0 * 256 + 1 * p.val = r.val; rw [e0]; omega
  | ⟨1, _⟩ => show win0_0.index t 1 * 1024 + 1 * q.val = s.val; rw [e1]; omega

theorem blk1 (t : Fin cfg0.N) (p : Fin 256) (q : Fin 1024) (r : Fin 8192) (s : Fin 3072) (hr : r.val = 256 * t.val + p.val) (hs : s.val = 1024 + q.val) :
    (iblk m c 1 t (ix2 p q) : EReal) = proj m c r s := by
  obtain ⟨e0, e1⟩ := (rows_eq t).2.1
  show V m c main_arg0 _ = m ((c : Thread nD τ).loc main_arg0) _
  rw [V_main_arg0]
  congr 1
  funext a; apply Fin.ext
  match a with
  | ⟨0, _⟩ => show win0_1.index t 0 * 256 + 1 * p.val = r.val; rw [e0]; omega
  | ⟨1, _⟩ => show win0_1.index t 1 * 1024 + 1 * q.val = s.val; rw [e1]; omega

theorem blk2 (t : Fin cfg0.N) (p : Fin 256) (q : Fin 1024) (r : Fin 8192) (s : Fin 3072) (hr : r.val = 256 * t.val + p.val) (hs : s.val = 2048 + q.val) :
    (iblk m c 2 t (ix2 p q) : EReal) = proj m c r s := by
  obtain ⟨e0, e1⟩ := (rows_eq t).2.2.1
  show V m c main_arg0 _ = m ((c : Thread nD τ).loc main_arg0) _
  rw [V_main_arg0]
  congr 1
  funext a; apply Fin.ext
  match a with
  | ⟨0, _⟩ => show win0_2.index t 0 * 256 + 1 * p.val = r.val; rw [e0]; omega
  | ⟨1, _⟩ => show win0_2.index t 1 * 1024 + 1 * q.val = s.val; rw [e1]; omega

theorem blk3 (t : Fin cfg0.N) (p : Fin 32) (q : Fin 1024) (r : Fin 8192) (s : Fin 3072) (hr : r.val = 32 * (8 * t.val - 1) + p.val) (hs : s.val = q.val) :
    (iblk m c 3 t (ix2 p q) : EReal) = proj m c r s := by
  obtain ⟨e0, e1⟩ := (rows_eq t).2.2.2.1
  show V m c main_arg0 _ = m ((c : Thread nD τ).loc main_arg0) _
  rw [V_main_arg0]
  congr 1
  funext a; apply Fin.ext
  match a with
  | ⟨0, _⟩ => show win0_3.index t 0 * 32 + 1 * p.val = r.val; rw [e0]; omega
  | ⟨1, _⟩ => show win0_3.index t 1 * 1024 + 1 * q.val = s.val; rw [e1]; omega

theorem blk4 (t : Fin cfg0.N) (p : Fin 32) (q : Fin 1024) (r : Fin 8192) (s : Fin 3072) (hr : r.val = 32 * (8 * t.val - 1) + p.val) (hs : s.val = 1024 + q.val) :
    (iblk m c 4 t (ix2 p q) : EReal) = proj m c r s := by
  obtain ⟨e0, e1⟩ := (rows_eq t).2.2.2.2
  show V m c main_arg0 _ = m ((c : Thread nD τ).loc main_arg0) _
  rw [V_main_arg0]
  congr 1
  funext a; apply Fin.ext
  match a with
  | ⟨0, _⟩ => show win0_4.index t 0 * 32 + 1 * p.val = r.val; rw [e0]; omega
  | ⟨1, _⟩ => show win0_4.index t 1 * 1024 + 1 * q.val = s.val; rw [e1]; omega

theorem blk5 (t : Fin cfg0.N) (p : Fin 32) (q : Fin 1024) : (iblk m c 5 t (ix2 p q) : EReal) = taps m c p q := by
  obtain ⟨e0, e1⟩ := (whole_eq t).1
  show V m c main_arg1 _ = m ((c : Thread nD τ).loc main_arg1) _
  rw [V_main_arg1]
  congr 1
  funext a; apply Fin.ext
  match a with
  | ⟨0, _⟩ => show win0_5.index t 0 * 32 + 1 * p.val = p.val; rw [e0]; omega
  | ⟨1, _⟩ => show win0_5.index t 1 * 1024 + 1 * q.val = q.val; rw [e1]; omega

theorem blk6 (t : Fin cfg0.N) (q : Fin 1024) : (iblk m c 6 t (ix2 (0 : Fin 1) q) : EReal) = bias m c q := by
  obtain ⟨e0, e1⟩ := (whole_eq t).2.1
  show V m c main_arg2 _ = m ((c : Thread nD τ).loc main_arg2) _
  rw [V_main_arg2]
  congr 1
  funext a; apply Fin.ext
  match a with
  | ⟨0, _⟩ => show win0_6.index t 0 * 1 + 1 * 0 = 0; rw [e0]
  | ⟨1, _⟩ => show win0_6.index t 1 * 1024 + 1 * q.val = q.val; rw [e1]; omega

theorem blk7 (t : Fin cfg0.N) (q : Fin 1024) : (iblk m c 7 t (ix2 (0 : Fin 1) q) : EReal) = gain m c q := by
  obtain ⟨e0, e1⟩ := (whole_eq t).2.2.1
  show V m c main_arg3 _ = m ((c : Thread nD τ).loc main_arg3) _
  rw [V_main_arg3]
  congr 1
  funext a; apply Fin.ext
  match a with
  | ⟨0, _⟩ => show win0_7.index t 0 * 1 + 1 * 0 = 0; rw [e0]
  | ⟨1, _⟩ => show win0_7.index t 1 * 1024 + 1 * q.val = q.val; rw [e1]; omega

theorem blk8 (t : Fin cfg0.N) (q : Fin 1024) : (iblk m c 8 t (ix2 (0 : Fin 1) q) : EReal) = offset m c q := by
  obtain ⟨e0, e1⟩ := (whole_eq t).2.2.2
  show V m c main_arg4 _ = m ((c : Thread nD τ).loc main_arg4) _
  rw [V_main_arg4]
  congr 1
  funext a; apply Fin.ext
  match a with
  | ⟨0, _⟩ => show win0_8.index t 0 * 1 + 1 * 0 = 0; rw [e0]
  | ⟨1, _⟩ => show win0_8.index t 1 * 1024 + 1 * q.val = q.val; rw [e1]; omega

/-- Row `p + n + 2` of the extended block is the padded row that tap `n` of the block's token `p` meets. -/
theorem ext_eq (t : Fin cfg0.N) (p : Fin 256) (q : Fin 1024) (n : ℕ) (hn : n < 31) (r : Fin 8192) (hr : r.val = 256 * t.val + p.val) :
    (extRow (grid0.coords t) (iblk m c 0 t) (iblk m c 1 t) (iblk m c 3 t) (iblk m c 4 t) (p.val + (n + 2)) q : EReal)
      = padded (proj m c) (r.val + n) q := by
  have hp : p.val < 256 := p.isLt
  have hr' : r.val < 8192 := r.isLt
  unfold extRow padded
  rw [coord_eq]
  by_cases h : p.val + (n + 2) < 32
  · rw [dif_pos h]
    by_cases ht : t.val = 0
    · rw [if_pos ht, dif_neg (by omega)]
    · rw [if_neg ht, dif_pos (by omega)]
      exact congrArg₂ (· * ·) (blk3 m c t _ q _ _ (by dsimp only; omega) rfl)
        (congrArg Ideal.logistic (blk4 m c t _ q _ _ (by dsimp only; omega) rfl))
  · rw [dif_neg h, dif_pos (by omega)]
    exact congrArg₂ (· * ·) (blk0 m c t _ q _ _ (by dsimp only; omega) rfl)
      (congrArg Ideal.logistic (blk1 m c t _ q _ _ (by dsimp only; omega) rfl))

/-- The convolution's rows at a point. -/
def rowsAt (t : Fin cfg0.N) : Vec Ideal S256x1024 .f32 :=
  convBlk (grid0.coords t) (iblk m c 0 t) (iblk m c 1 t) (iblk m c 3 t) (iblk m c 4 t) (iblk m c 5 t) (iblk m c 6 t)

theorem rowsAt_apply (t : Fin cfg0.N) (p : Fin 256) (q : Fin 1024) (r : Fin 8192) (hr : r.val = 256 * t.val + p.val) :
    (rowsAt m c t (ix2 p q) : EReal) = conv (proj m c) (taps m c) (bias m c) r q :=
  congrArg₂ (· + ·) (upTo_congr 31 (fun n hn => ext_eq m c t p q n hn r hr) fun n hn => blk5 m c t _ q) (blk6 m c t q)

theorem outs1 (t : Fin cfg0.N) : (outsAt0 m c t).1 = rowsAt m c t := by
  unfold outsAt0 rowsAt
  exact out9_eq _ _ _ _ _ _ _ _ _ _ _ _ _ _ _ _ _ _ _ _ _ _ _ _ _ _ _ _ _ _ _ _ _ _ _

theorem outs2 (t : Fin cfg0.N) : (outsAt0 m c t).2 = k0_pay1 (k0_pay105 (rowsAt m c t)) (iblk m c 2 t) (iblk m c 7 t) (iblk m c 8 t) := by
  unfold outsAt0 rowsAt
  dsimp only
  rw [out10_eq]

theorem token_congr {z z' cz cz' d : Row} (hz : z = z') (hc : cz = cz') : (⟨z, cz, d⟩ : Token) = ⟨z', cz', d⟩ := by rw [hz, hc]

theorem tokenAt (t : Fin cfg0.N) (p : Fin 256) (r : Fin 8192) (hr : r.val = 256 * t.val + p.val) :
    token (rowsAt m c t) (iblk m c 2 t) p = Cert.Shifted.token (proj m c) (taps m c) (bias m c) r :=
  token_congr (funext fun j => rowsAt_apply m c t p j r hr) (funext fun j => blk2 m c t p j r _ hr rfl)

theorem gainAt (t : Fin cfg0.N) : row (iblk m c 7 t) = gain m c := funext fun j => blk7 m c t j
theorem offsetAt (t : Fin cfg0.N) : row (iblk m c 8 t) = offset m c := funext fun j => blk8 m c t j

theorem gateAt_apply (t : Fin cfg0.N) (p : Fin 256) (q : Fin 1024) (r : Fin 8192) (hr : r.val = 256 * t.val + p.val) :
    ((outsAt0 m c t).2 (ix2 p q) : EReal) = gate (proj m c) (taps m c) (bias m c) (gain m c) (offset m c) r q := by
  rw [outs2]
  refine (gated_apply (rowsAt m c t) _ _ _ p q).trans ?_
  rw [tokenAt m c t p r hr, gainAt, offsetAt]
  unfold gate
  exact congrArg (fun v : EReal => _ * (v * _)) (blk2 m c t p q r ⟨2048 + q.val, by omega⟩ hr rfl)

def arr9 : Buf (Elt Ideal) ((c : Thread nD τ).loc main_v0_0) := fun i => conv (proj m c) (taps m c) (bias m c) (i 0) (i 1)
def arr10 : Buf (Elt Ideal) ((c : Thread nD τ).loc main_v0_1) := fun i => gate (proj m c) (taps m c) (bias m c) (gain m c) (offset m c) (i 0) (i 1)

theorem flushed9_eq (t : Fin cfg0.N) : (dats m 0 c).flushed 9 t = ((cfg0.win 9).blk t).view.read (Elt Ideal) (arr9 m c) := by
  obtain ⟨e0, e1⟩ := (out_eq t).1
  show (cfg0.win 9).cut (grid0.coords t) ((dats m 0 c).after 9 t) = _
  rw [after0_9, outs1]
  funext y
  have hp : (y 0).val < 256 := (y 0).isLt
  have hq : (y 1).val < 1024 := (y 1).isLt
  have hy : (cfg0.win 9).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 9).blk t).view.emb y 0).val = win0_9.index t (0 : Fin 2) * 256 + 1 * (y 0).val := rfl
  have g1 : (((cfg0.win 9).blk t).view.emb y 1) = (⟨(y 1).val, hq⟩ : Fin 1024) :=
    Fin.ext (by show win0_9.index t (1 : Fin 2) * 1024 + 1 * (y 1).val = (y 1).val; rw [e1]; omega)
  show (rowsAt m c t ((cfg0.win 9).xinj (grid0.coords t) y) : EReal)
    = conv (proj m c) (taps m c) (bias m c) (((cfg0.win 9).blk t).view.emb y 0) (((cfg0.win 9).blk t).view.emb y 1)
  rw [hy, g1]
  exact rowsAt_apply m c t ⟨(y 0).val, hp⟩ ⟨(y 1).val, hq⟩ _ (by rw [g0, e0]; dsimp only; omega)

theorem flushed10_eq (t : Fin cfg0.N) : (dats m 0 c).flushed 10 t = ((cfg0.win 10).blk t).view.read (Elt Ideal) (arr10 m c) := by
  obtain ⟨e0, e1⟩ := (out_eq t).2
  show (cfg0.win 10).cut (grid0.coords t) ((dats m 0 c).after 10 t) = _
  rw [after0_10]
  funext y
  have hp : (y 0).val < 256 := (y 0).isLt
  have hq : (y 1).val < 1024 := (y 1).isLt
  have hy : (cfg0.win 10).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 10).blk t).view.emb y 0).val = win0_10.index t (0 : Fin 2) * 256 + 1 * (y 0).val := rfl
  have g1 : (((cfg0.win 10).blk t).view.emb y 1) = (⟨(y 1).val, hq⟩ : Fin 1024) :=
    Fin.ext (by show win0_10.index t (1 : Fin 2) * 1024 + 1 * (y 1).val = (y 1).val; rw [e1]; omega)
  show ((outsAt0 m c t).2 ((cfg0.win 10).xinj (grid0.coords t) y) : EReal)
    = gate (proj m c) (taps m c) (bias m c) (gain m c) (offset m c) (((cfg0.win 10).blk t).view.emb y 0) (((cfg0.win 10).blk t).view.emb y 1)
  rw [hy, g1]
  exact gateAt_apply m c t ⟨(y 0).val, hp⟩ ⟨(y 1).val, hq⟩ _ (by rw [g0, e0]; dsimp only; omega)

theorem final9 : (dats m 0 c).arrAt 9 cfg0.N = arr9 m c :=
  (dats m 0 c).arrAt_eq_of_cover 9 (arr9 m c) (fun t _ => flushed9_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_9 t, ?_⟩
    obtain ⟨e0, e1⟩ := (out_eq t).1
    show i ∈ ((View.whole main_v0_0).slice (win0_9.rect t)).set
    rw [View.set_slice_whole, Rect.mem_set_unit]
    intro a
    match a with
    | ⟨0, _⟩ => show win0_9.index t 0 * 256 ≤ (i 0).val ∧ (i 0).val < win0_9.index t 0 * 256 + 256; rw [e0]; omega
    | ⟨1, _⟩ => show win0_9.index t 1 * 1024 ≤ (i 1).val ∧ (i 1).val < win0_9.index t 1 * 1024 + 1024; rw [e1]; omega

theorem final10 : (dats m 0 c).arrAt 10 cfg0.N = arr10 m c :=
  (dats m 0 c).arrAt_eq_of_cover 10 (arr10 m c) (fun t _ => flushed10_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_10 t, ?_⟩
    obtain ⟨e0, e1⟩ := (out_eq t).2
    show i ∈ ((View.whole main_v0_1).slice (win0_10.rect t)).set
    rw [View.set_slice_whole, Rect.mem_set_unit]
    intro a
    match a with
    | ⟨0, _⟩ => show win0_10.index t 0 * 256 ≤ (i 0).val ∧ (i 0).val < win0_10.index t 0 * 256 + 256; rw [e0]; omega
    | ⟨1, _⟩ => show win0_10.index t 1 * 1024 ≤ (i 1).val ∧ (i 1).val < win0_10.index t 1 * 1024 + 1024; rw [e1]; omega

end Cert.ConfConvIdeal.Arrays

namespace Cert.ConfConvValue

open Cert.ConfConvIdeal.Gen

variable [hConfConvIdeal : Cert.ConfConvIdeal.Facts] [hConfConvRefIdeal : Cert.ConfConvRefIdeal.Facts]

theorem algebraic : Cert.algebraic_ConfConvIdeal_ConfConvRefIdeal := by
  intro m ρ m' ρ' _ hag
  refine ⟨fun c => ConfConvIdeal.Arrays.arr9 m c, fun c => ConfConvIdeal.Arrays.arr10 m c, ?_, ?_⟩
  · exact (θ_run Cert.ConfConvIdeal.defs _ _).mono (fun r h c => ⟨
      ((h c).1 9).trans (ConfConvIdeal.Arrays.final9 m c),
      ((h c).1 10).trans (ConfConvIdeal.Arrays.final10 m c),
      ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c)))⟩) (run_main m ρ)
  · refine (θ_run Cert.ConfConvRefIdeal.defs _ _).mono (fun _ h c => ?_) (Cert.ConfConvRefIdeal.Value.run (F := Ideal) m' ρ')
    obtain ⟨h0, h1, hargs⟩ := h c
    obtain ⟨a0, a1, a2, a3, a4⟩ := hag c
    refine ⟨h0.trans ?_, h1.trans ?_, hargs⟩
    · funext i
      rw [Cert.Plain.eta i]
      refine (ConfConvRefIdeal.Rows.conv_apply _ _ _).trans ?_
      show Cert.Shifted.conv (fun r q => m' ((c.tc : Thread ConfConvRefIdeal.nD ConfConvRefIdeal.τ).loc ConfConvRefIdeal.main_arg0) (ix2 r q))
        (fun k q => m' ((c.tc : Thread ConfConvRefIdeal.nD ConfConvRefIdeal.τ).loc ConfConvRefIdeal.main_arg1) (ix2 k q))
        (fun q => m' ((c.tc : Thread ConfConvRefIdeal.nD ConfConvRefIdeal.τ).loc ConfConvRefIdeal.main_arg2) (ix2 0 q)) _ _ = _
      rw [a0, a1, a2]
      rfl
    · funext i
      rw [Cert.Plain.eta i]
      refine (ConfConvRefIdeal.Rows.gateR_apply _ _ _).trans ?_
      show Cert.Shifted.gate (fun r q => m' ((c.tc : Thread ConfConvRefIdeal.nD ConfConvRefIdeal.τ).loc ConfConvRefIdeal.main_arg0) (ix2 r q))
        (fun k q => m' ((c.tc : Thread ConfConvRefIdeal.nD ConfConvRefIdeal.τ).loc ConfConvRefIdeal.main_arg1) (ix2 k q))
        (fun q => m' ((c.tc : Thread ConfConvRefIdeal.nD ConfConvRefIdeal.τ).loc ConfConvRefIdeal.main_arg2) (ix2 0 q))
        (fun q => m' ((c.tc : Thread ConfConvRefIdeal.nD ConfConvRefIdeal.τ).loc ConfConvRefIdeal.main_arg3) (ix2 0 q))
        (fun q => m' ((c.tc : Thread ConfConvRefIdeal.nD ConfConvRefIdeal.τ).loc ConfConvRefIdeal.main_arg4) (ix2 0 q)) _ _ = _
      rw [a0, a1, a2, a3, a4]
      rfl

end Cert.ConfConvValue

end
-- ==== Proof.ConfConvSame.lean ====
/-
  The printed program of the conv branch has the text of the idealised one, so its run is the run proved over any number system.
-/
module

public import proofs.«01_k».proof.Proof.Gen.ConfConvIdeal.Frame
public import proofs.«01_k».proof.Proof.Gen.ConfConv

@[expose] public section

set_option maxRecDepth 16384

noncomputable section

open Idealize.ShloMosaic Idealize.ShloMosaic.TcCoe Idealize.SL.Sem

namespace Cert.ConfConv.Gen

variable {F : FTy → Type} [FloatOps F]

theorem body_same : @Cert.ConfConv.cc0_conf_fwd F _ _ = @Cert.ConfConvIdeal.cc0_conf_fwd F _ _ := rfl

theorem defs₀_same : (Cert.ConfConv.defs₀ (F := F)) = Cert.ConfConvIdeal.defs₀ (F := F) := by
  unfold Cert.ConfConv.defs₀ Cert.ConfConvIdeal.defs₀
  refine congrArg Defs.onTc ?_
  funext l x
  match l with
  | 0 => rfl
  | ⟨_ + 1, h⟩ => exact absurd h (Nat.not_lt.2 (Nat.le_add_left _ _))

theorem defs_same : (Cert.ConfConv.defs (F := F)) = Cert.ConfConvIdeal.defs (F := F) := congrArg (Pipeline.defs pcfgs) defs₀_same

theorem main_same : (Cert.ConfConv.main (F := F)) = Cert.ConfConvIdeal.main (F := F) := rfl

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same, main_same]
  exact Cert.ConfConvIdeal.Gen.frame (F := F) m ρ

end Cert.ConfConv.Gen

end
-- ==== Proof.ConfBlock.lean ====
/-
  One block of the gradient of the normalised, gated rows, element by element: each named value of the body at a row `p` of
  the block and a column `q` is the value `Cert.Conf` gives the token of that row.
-/
module

public import proofs.«01_k».proof.Proof.ConfRow
public import proofs.«01_k».proof.Proof.Gen.ConfPostIdeal.Skeleton
public import Idealize.ShloMosaic.Lib.Pointwise
public import Idealize.ShloMosaic.Lib.Tactic

@[expose] public section

set_option maxRecDepth 16384

noncomputable section

open Idealize.ShloMosaic Idealize.ShloMosaic.TcCoe
open Cert.Plain Cert.Conf

namespace Cert.ConfPostIdeal.Block

open Cert.ConfPostIdeal Cert.ConfPostIdeal.Gen

variable (x cz t : Vec Ideal S256x1024 .f32) (g b : Vec Ideal S1x1024 .f32)

/-- The token of a row of the block, and the single row of a block. -/
def token (p : Fin 256) : Token where
  z j := x (ix2 p j)
  cz j := cz (ix2 p j)
  t j := t (ix2 p j)
def row (g : Vec Ideal S1x1024 .f32) : Row := fun j => g (ix2 0 j)

theorem pay5_apply (p : Fin 256) (q : Fin 1024) : (k0_pay5 x (ix2 p q) : EReal) = center (token x cz t p).z q := by
  unfold k0_pay5; pointwise [center, mean, cN, token]

theorem pay6_apply (p : Fin 256) : (k0_pay6 x (ix2 p 0) : EReal) = spread (token x cz t p).z := by
  unfold k0_pay6; pointwise [spread, mean, cN, cEps, pay5_apply x cz t]

theorem pay7_apply (p : Fin 256) : (k0_pay7 x (ix2 p 0) : EReal) = rstd (token x cz t p).z := by
  unfold k0_pay7; pointwise [rstd, pay6_apply x cz t]

theorem pay8_apply (p : Fin 256) :
    (k0_pay8 x (ix2 p 0) : EReal) = cNegHalf * Ideal.div (rstd (token x cz t p).z) (spread (token x cz t p).z) := by
  unfold k0_pay8; pointwise [cNegHalf, pay7_apply x cz t, pay6_apply x cz t]

theorem pay9_apply (p : Fin 256) (q : Fin 1024) : (k0_pay9 x (ix2 p q) : EReal) = xhat (token x cz t p).z q := by
  unfold k0_pay9; pointwise [xhat, pay5_apply x cz t, pay7_apply x cz t]

theorem pay10_apply (p : Fin 256) (q : Fin 1024) :
    (k0_pay10 x g b (ix2 p q) : EReal) = nrm (token x cz t p) (row g) (row b) q := by
  unfold k0_pay10; pointwise [nrm, pay9_apply x cz t, row]

theorem pay11_apply (p : Fin 256) (q : Fin 1024) :
    (k0_pay11 x g b (ix2 p q) : EReal) = sn (token x cz t p) (row g) (row b) q := by
  unfold k0_pay11; pointwise [sn, pay10_apply x cz t g b]

theorem pay12_apply (p : Fin 256) (q : Fin 1024) :
    (k0_pay12 x g b (ix2 p q) : EReal) = sn (token x cz t p) (row g) (row b) q * (1 - sn (token x cz t p) (row g) (row b) q) := by
  unfold k0_pay12; pointwise [pay11_apply x cz t g b]

theorem pay13_apply (p : Fin 256) (q : Fin 1024) :
    (k0_pay13 x g b (ix2 p q) : EReal) = nrm (token x cz t p) (row g) (row b) q * sn (token x cz t p) (row g) (row b) q := by
  unfold k0_pay13; pointwise [pay10_apply x cz t g b, pay11_apply x cz t g b]

theorem pay14_apply (p : Fin 256) (q : Fin 1024) : (k0_pay14 cz (ix2 p q) : EReal) = sz (token x cz t p) q := by
  unfold k0_pay14; pointwise [sz, token]

theorem pay15_apply (p : Fin 256) (q : Fin 1024) :
    (k0_pay15 cz (ix2 p q) : EReal) = sz (token x cz t p) q * (1 - sz (token x cz t p) q) := by
  unfold k0_pay15; pointwise [pay14_apply x cz t]

theorem pay16_apply (p : Fin 256) (q : Fin 1024) :
    (k0_pay16 cz (ix2 p q) : EReal) = (token x cz t p).cz q * sz (token x cz t p) q := by
  unfold k0_pay16; pointwise [pay14_apply x cz t, token]

/-- The gradient of the normalised rows of the block. -/
def dnB := k0_pay17 (k0_pay10 x g b) (k0_pay11 x g b) (k0_pay12 x g b) (k0_pay16 cz) t

theorem dnB_apply (p : Fin 256) (q : Fin 1024) :
    (dnB x cz t g b (ix2 p q) : EReal) = dn (token x cz t p) (row g) (row b) q := by
  unfold dnB k0_pay17
  pointwise [dn, pay10_apply x cz t g b, pay11_apply x cz t g b, pay12_apply x cz t g b, pay16_apply x cz t]
  rfl

theorem offset_apply (acc : Vec Ideal S1x1024 .f32) (q : Fin 1024) :
    (k0_pay2 (k0_pay18 (k0_pay10 x g b) (k0_pay11 x g b) (k0_pay12 x g b) (k0_pay16 cz) t) acc (ix2 0 q) : EReal)
      = acc (ix2 0 q) + ∑ p : Fin 256, dn (token x cz t p) (row g) (row b) q := by
  have h := dnB_apply x cz t g b
  unfold dnB at h
  unfold k0_pay2 k0_pay18
  pointwise [h]

theorem gain_apply (acc : Vec Ideal S1x1024 .f32) (q : Fin 1024) :
    (k0_pay1 (k0_pay19 (k0_pay9 x) (k0_pay10 x g b) (k0_pay11 x g b) (k0_pay12 x g b) (k0_pay16 cz) t) acc (ix2 0 q) : EReal)
      = acc (ix2 0 q) + ∑ p : Fin 256, xhat (token x cz t p).z q * dn (token x cz t p) (row g) (row b) q := by
  have h := dnB_apply x cz t g b
  unfold dnB at h
  unfold k0_pay1 k0_pay19
  pointwise [h, pay9_apply x cz t]

theorem dz_apply (p : Fin 256) (q : Fin 1024) :
    (k0_pay20 g (k0_pay5 x) (k0_pay7 x) (k0_pay8 x) (k0_pay10 x g b) (k0_pay11 x g b) (k0_pay12 x g b) (k0_pay16 cz) t (ix2 p q) : EReal)
      = blockGrad (token x cz t p).z (dx (token x cz t p) (row g) (row b)) q := by
  have h := dnB_apply x cz t g b
  unfold dnB at h
  unfold k0_pay20
  pointwise [blockGrad, atCenter, viaVar, dx, cN, h, pay5_apply x cz t, pay7_apply x cz t, row]
  simp only [Fin.sum_univ_one, pay8_apply x cz t, zero_sub]

theorem dcz_apply (p : Fin 256) (q : Fin 1024) :
    (k0_pay21 cz (k0_pay13 x g b) (k0_pay14 cz) (k0_pay15 cz) t (ix2 p q) : EReal)
      = dcz (token x cz t p) (row g) (row b) q := by
  unfold k0_pay21
  pointwise [dcz, pay13_apply x cz t g b, pay14_apply x cz t, pay15_apply x cz t]
  rfl

end Cert.ConfPostIdeal.Block

end
-- ==== Proof.ConfLeaves.lean ====
/-
  What one grid point of the gradient of the normalised, gated rows leaves in each of its output blocks, as the body's own expressions of the point's
  input blocks (and, for the two accumulated blocks, of what the point before left).
-/
module

public import proofs.«01_k».proof.Proof.Gen.ConfPostIdeal.Frame
public import Idealize.ShloMosaic.Lib.Pipeline.Value
public import Idealize.ShloMosaic.Lib.Pipeline.ValueKit
public import Idealize.ShloMosaic.Lib.WritesUnit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ConfPostIdeal.Leaves

open Cert.ConfPostIdeal Cert.ConfPostIdeal.Gen

theorem hz : (![0, 0] : Fin 2 → Nat) = fun _ => 0 := funext fun a => by fin_cases a <;> rfl

/-- Row 0 of a block of eight rows, and that block with its row 0 replaced. -/
def row0 (e : Vec Ideal S8x1024 .f32) : Vec Ideal S1x1024 .f32 := fun y => e (ix2 (0 : Fin 8) (y 1))
def overRow0 (w : Vec Ideal S1x1024 .f32) (e : Vec Ideal S8x1024 .f32) : Vec Ideal S8x1024 .f32 :=
  fun y => if (y 0).val = 0 then w (ix2 (0 : Fin 1) (y 1)) else e y

theorem ld_row0 (e : Vec Ideal S8x1024 .f32) :
    View.ld e (Rect.unit (s := S8x1024) ![0, 0] (no_index S1x1024.size) inb_S8x1024_S1x1024_0_0) = row0 e := by
  funext y
  refine View.ld_unit_apply_of _ _ _ _ _ _ fun a => ?_
  match a with
  | ⟨0, _⟩ => show 0 = 0 + (y 0).val; have h : (y 0).val < 1 := (y 0).isLt; omega
  | ⟨1, _⟩ => show (y 1).val = 0 + (y 1).val; omega

theorem read_full (v : View sig .tc .vmem S8x1024 .f32) (f : v.ty.Contents (Elt Ideal)) (w : Vec Ideal S8x1024 .f32) :
    v.read (Elt Ideal) (v.writes (Elt Ideal) f [(⟨Rect.unit (s := S8x1024) ![0, 0] (no_index S8x1024.size) inb_S8x1024_S8x1024_0_0, w⟩ :
      View.Piece (Elt Ideal) S8x1024 .f32)]) = w := by
  funext y
  refine View.read_writes_cons_unit_of_mem v f _ w [] y y rfl fun a => ?_
  match a with
  | ⟨0, _⟩ => show (y 0).val = 0 + (y 0).val; omega
  | ⟨1, _⟩ => show (y 1).val = 0 + (y 1).val; omega

theorem readCov_row0 (v : View sig .tc .vmem S8x1024 .f32) (e : Vec Ideal S8x1024 .f32) :
    v.readCov [(⟨Rect.unit (s := S8x1024) ![0, 0] (no_index S8x1024.size) inb_S8x1024_S8x1024_0_0, e⟩ : View.Piece (Elt Ideal) S8x1024 .f32)]
      (Rect.unit (s := S8x1024) ![0, 0] (no_index S1x1024.size) inb_S8x1024_S1x1024_0_0).toLoadRect = row0 e := by
  show v.readAt (Elt Ideal) _ (v.writes (Elt Ideal) v.junk _) = _
  rw [View.readAt_eq_ld, read_full, ld_row0]

theorem over_row0 (v : View sig .tc .vmem S8x1024 .f32) (f : v.ty.Contents (Elt Ideal)) (w : Vec Ideal S1x1024 .f32)
    (L : List (View.Piece (Elt Ideal) S8x1024 .f32)) :
    v.read (Elt Ideal) (v.writes (Elt Ideal) f ((⟨Rect.unit (s := S8x1024) ![0, 0] (no_index S1x1024.size) inb_S8x1024_S1x1024_0_0, w⟩ :
      View.Piece (Elt Ideal) S8x1024 .f32) :: L)) = overRow0 w (v.read (Elt Ideal) (v.writes (Elt Ideal) f L)) := by
  funext y
  unfold overRow0
  by_cases h : (y 0).val = 0
  · rw [if_pos h]
    refine View.read_writes_cons_unit_of_mem v f _ w L y (ix2 (0 : Fin 1) (y 1)) rfl fun a => ?_
    match a with
    | ⟨0, _⟩ => show (y 0).val = 0 + 0; omega
    | ⟨1, _⟩ => show (y 1).val = 0 + (y 1).val; omega
  · rw [if_neg h]
    exact View.read_writes_cons_unit_of_not_mem v f _ w L y rfl (0 : Fin 2) (.inr (by show 0 + 1 ≤ (y 0).val; omega))

section Blocks

variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x1024 .f32) (h3 : a3.IsWhole)
  (a4 : Memref sig .tc .vmem S1x1024 .f32) (h4 : a4.IsWhole)
  (a5 : Memref sig .tc .vmem S1x1024 .f32) (h5 : a5.IsWhole)
  (a6 : Memref sig .tc .vmem S256x1024 .f32) (h6 : a6.IsWhole)
  (a7 : Memref sig .tc .vmem S256x1024 .bf16) (h7 : a7.IsWhole)
  (a8 : Memref sig .tc .vmem S8x1024 .f32) (h8 : a8.IsWhole)
  (a9 : Memref sig .tc .vmem S8x1024 .f32) (h9 : a9.IsWhole)
  (x cz t : Vec Ideal S256x1024 .f32) (g b : Vec Ideal S1x1024 .f32) (e7 e8 : Vec Ideal S8x1024 .f32)

theorem out5_A (hc : cond0_0 i) :
    out0_A_5 c i a1 h1 a2 h2 a3 h3 a4 h4 a5 h5 a6 h6 a7 h7 a8 h8 a9 h9 hc x cz t g b
      = k0_pay20 g (k0_pay5 x) (k0_pay7 x) (k0_pay8 x) (k0_pay10 x g b) (k0_pay11 x g b) (k0_pay12 x g b) (k0_pay16 cz) t := by
  unfold out0_A_5
  rw [View.read_writes_eq_canon _ _ _ (cover0_A_5 c i a1 h1 a2 h2 a3 h3 a4 h4 a5 h5 a6 h6 a7 h7 a8 h8 a9 h9 hc x cz t g b)]
  unfold kernelRun0_A
  dsimp only
  sl_unfold_words
  rw [View.canon_unit_zero hz]
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self]
  all_goals rfl

theorem out5_B (hc : ¬cond0_0 i) :
    out0_B_5 c i a1 h1 a2 h2 a3 h3 a4 h4 a5 h5 a6 h6 a7 h7 a8 h8 a9 h9 hc x cz t g b e7 e8
      = k0_pay20 g (k0_pay5 x) (k0_pay7 x) (k0_pay8 x) (k0_pay10 x g b) (k0_pay11 x g b) (k0_pay12 x g b) (k0_pay16 cz) t := by
  unfold out0_B_5
  rw [View.read_writes_eq_canon _ _ _ (cover0_B_5 c i a1 h1 a2 h2 a3 h3 a4 h4 a5 h5 a6 h6 a7 h7 a8 h8 a9 h9 hc x cz t g b e7 e8)]
  unfold kernelRun0_B
  dsimp only
  sl_unfold_words
  rw [View.canon_unit_zero hz]
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self]
  all_goals rfl

theorem out6_A (hc : cond0_0 i) :
    out0_A_6 c i a1 h1 a2 h2 a3 h3 a4 h4 a5 h5 a6 h6 a7 h7 a8 h8 a9 h9 hc x cz t g b
      = k0_pay21 cz (k0_pay13 x g b) (k0_pay14 cz) (k0_pay15 cz) t := by
  unfold out0_A_6
  rw [View.read_writes_eq_canon _ _ _ (cover0_A_6 c i a1 h1 a2 h2 a3 h3 a4 h4 a5 h5 a6 h6 a7 h7 a8 h8 a9 h9 hc x cz t g b)]
  unfold kernelRun0_A
  dsimp only
  sl_unfold_words
  rw [View.canon_unit_zero hz]
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self]
  all_goals rfl

theorem out6_B (hc : ¬cond0_0 i) :
    out0_B_6 c i a1 h1 a2 h2 a3 h3 a4 h4 a5 h5 a6 h6 a7 h7 a8 h8 a9 h9 hc x cz t g b e7 e8
      = k0_pay21 cz (k0_pay13 x g b) (k0_pay14 cz) (k0_pay15 cz) t := by
  unfold out0_B_6
  rw [View.read_writes_eq_canon _ _ _ (cover0_B_6 c i a1 h1 a2 h2 a3 h3 a4 h4 a5 h5 a6 h6 a7 h7 a8 h8 a9 h9 hc x cz t g b e7 e8)]
  unfold kernelRun0_B
  dsimp only
  sl_unfold_words
  rw [View.canon_unit_zero hz]
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self]
  all_goals rfl

theorem out7_A (hc : cond0_0 i) :
    out0_A_7 c i a1 h1 a2 h2 a3 h3 a4 h4 a5 h5 a6 h6 a7 h7 a8 h8 a9 h9 hc x cz t g b
      = overRow0 (k0_pay1 (k0_pay19 (k0_pay9 x) (k0_pay10 x g b) (k0_pay11 x g b) (k0_pay12 x g b) (k0_pay16 cz) t) (row0 (k0_pay3 (F := Ideal)))) (k0_pay3 (F := Ideal)) := by
  unfold out0_A_7 kernelRun0_A
  dsimp only
  sl_unfold_words
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self, ld_row0, over_row0, read_full, readCov_row0]
  all_goals rfl

theorem out7_B (hc : ¬cond0_0 i) :
    out0_B_7 c i a1 h1 a2 h2 a3 h3 a4 h4 a5 h5 a6 h6 a7 h7 a8 h8 a9 h9 hc x cz t g b e7 e8
      = overRow0 (k0_pay1 (k0_pay19 (k0_pay9 x) (k0_pay10 x g b) (k0_pay11 x g b) (k0_pay12 x g b) (k0_pay16 cz) t) (row0 e7)) e7 := by
  unfold out0_B_7 kernelRun0_B
  dsimp only
  sl_unfold_words
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self, ld_row0, over_row0, View.writes_nil]
  all_goals rfl

theorem out8_A (hc : cond0_0 i) :
    out0_A_8 c i a1 h1 a2 h2 a3 h3 a4 h4 a5 h5 a6 h6 a7 h7 a8 h8 a9 h9 hc x cz t g b
      = overRow0 (k0_pay2 (k0_pay18 (k0_pay10 x g b) (k0_pay11 x g b) (k0_pay12 x g b) (k0_pay16 cz) t) (row0 (k0_pay4 (F := Ideal)))) (k0_pay4 (F := Ideal)) := by
  unfold out0_A_8 kernelRun0_A
  dsimp only
  sl_unfold_words
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self, ld_row0, over_row0, read_full, readCov_row0]
  all_goals rfl

theorem out8_B (hc : ¬cond0_0 i) :
    out0_B_8 c i a1 h1 a2 h2 a3 h3 a4 h4 a5 h5 a6 h6 a7 h7 a8 h8 a9 h9 hc x cz t g b e7 e8
      = overRow0 (k0_pay2 (k0_pay18 (k0_pay10 x g b) (k0_pay11 x g b) (k0_pay12 x g b) (k0_pay16 cz) t) (row0 e8)) e8 := by
  unfold out0_B_8 kernelRun0_B
  dsimp only
  sl_unfold_words
  simp only [View.readAt_eq_ld, h1.read_unread, h2.read_unread, h3.read_unread, h4.read_unread, h5.read_unread, h8.read_unread, h9.read_unread, View.ld_unit_zero (S := S256x1024) hz, View.ld_unit_zero (S := S1x1024) hz, shapeCast_self, ld_row0, over_row0, View.writes_nil]
  all_goals rfl

end Blocks

end Cert.ConfPostIdeal.Leaves

end
-- ==== Proof.ConfKernel.lean ====
/-
  The arrays the gradient of the normalised, gated rows leaves, element by element: every token's two gradients, and, for the
  two arrays one block of which is carried through the grid, the sums over all tokens.
-/
module

public import proofs.«01_k».proof.Proof.Dot
public import proofs.«01_k».proof.Proof.ConfRow
public import proofs.«01_k».proof.Proof.ConfBlock
public import proofs.«01_k».proof.Proof.ConfLeaves
public import proofs.«01_k».proof.Proof.Gen.ConfPostIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Plain Cert.Conf

namespace Cert.ConfPostIdeal.Arrays

open Cert.ConfPostIdeal Cert.ConfPostIdeal.Gen Cert.ConfPostIdeal.Leaves

variable (m : (ℓ : Loc nD τ sig) → Buf (Elt Ideal) ℓ) (c : Dev nD)

/-- The layer norm's gain and offset in memory, and token `r` of the arrays in memory. -/
def lng : Row := fun j => m ((c : Thread nD τ).loc main_arg3) (ix2 0 j)
def lnb : Row := fun j => m ((c : Thread nD τ).loc main_arg4) (ix2 0 j)
def tok (r : Fin 8192) : Token where
  z j := m ((c : Thread nD τ).loc main_arg0) (ix2 r j)
  cz j := m ((c : Thread nD τ).loc main_arg1) (ix2 r ⟨2048 + j.val, by omega⟩)
  t j := m ((c : Thread nD τ).loc main_arg2) (ix2 r j)

/-- Where the windows of a point stand. -/
theorem rows_eq : ∀ t : Fin cfg0.N,
    (win0_0.index t (0 : Fin 2) = t.val ∧ win0_0.index t (1 : Fin 2) = 0)
    ∧ (win0_1.index t (0 : Fin 2) = t.val ∧ win0_1.index t (1 : Fin 2) = 2)
    ∧ (win0_2.index t (0 : Fin 2) = t.val ∧ win0_2.index t (1 : Fin 2) = 0) :=
  (by decide +kernel : ∀ t : Fin grid0.N, _)

theorem fixed_eq : ∀ t : Fin cfg0.N,
    (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem carried_eq : ∀ t : Fin cfg0.N,
    (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem index5 : ∀ t : Fin cfg0.N, win0_5.index t (0 : Fin 2) = t.val ∧ win0_5.index t (1 : Fin 2) = 0 :=
  (by decide +kernel : ∀ t : Fin grid0.N, _)

theorem index6 : ∀ t : Fin cfg0.N, win0_6.index t (0 : Fin 2) = t.val ∧ win0_6.index t (1 : Fin 2) = 0 :=
  (by decide +kernel : ∀ t : Fin grid0.N, _)

theorem blk0 (t : Fin cfg0.N) (p : Fin 256) (q : Fin 1024) (r : Fin 8192) (hr : r.val = 256 * t.val + p.val) :
    (iblk m c 0 t (ix2 p q) : EReal) = m ((c : Thread nD τ).loc main_arg0) (ix2 r q) := by
  have h := rows_eq t
  obtain ⟨e0, e1⟩ := h.1
  show V m c main_arg0 _ = m ((c : Thread nD τ).loc main_arg0) _
  rw [V_main_arg0]
  congr 1
  funext a; apply Fin.ext
  match a with
  | ⟨0, _⟩ => show win0_0.index t 0 * 256 + 1 * p.val = r.val; rw [e0]; omega
  | ⟨1, _⟩ => show win0_0.index t 1 * 1024 + 1 * q.val = q.val; rw [e1]; omega

theorem blk1 (t : Fin cfg0.N) (p : Fin 256) (q : Fin 1024) (r : Fin 8192) (hr : r.val = 256 * t.val + p.val) :
    (iblk m c 1 t (ix2 p q) : EReal) = m ((c : Thread nD τ).loc main_arg1) (ix2 r ⟨2048 + q.val, by omega⟩) := by
  have h := rows_eq t
  obtain ⟨e0, e1⟩ := h.2.1
  show V m c main_arg1 _ = m ((c : Thread nD τ).loc main_arg1) _
  rw [V_main_arg1]
  congr 1
  funext a; apply Fin.ext
  match a with
  | ⟨0, _⟩ => show win0_1.index t 0 * 256 + 1 * p.val = r.val; rw [e0]; omega
  | ⟨1, _⟩ => show win0_1.index t 1 * 1024 + 1 * q.val = 2048 + q.val; rw [e1]; omega

theorem blk2 (t : Fin cfg0.N) (p : Fin 256) (q : Fin 1024) (r : Fin 8192) (hr : r.val = 256 * t.val + p.val) :
    (iblk m c 2 t (ix2 p q) : EReal) = m ((c : Thread nD τ).loc main_arg2) (ix2 r q) := by
  have h := rows_eq t
  obtain ⟨e0, e1⟩ := h.2.2
  show V m c main_arg2 _ = m ((c : Thread nD τ).loc main_arg2) _
  rw [V_main_arg2]
  congr 1
  funext a; apply Fin.ext
  match a with
  | ⟨0, _⟩ => show win0_2.index t 0 * 256 + 1 * p.val = r.val; rw [e0]; omega
  | ⟨1, _⟩ => show win0_2.index t 1 * 1024 + 1 * q.val = q.val; rw [e1]; omega

theorem blk3 (t : Fin cfg0.N) (p : Fin 1) (q : Fin 1024) :
    (iblk m c 3 t (ix2 p q) : EReal) = m ((c : Thread nD τ).loc main_arg3) (ix2 p q) := by
  have h := fixed_eq t
  obtain ⟨e0, e1⟩ := h.1
  show V m c main_arg3 _ = m ((c : Thread nD τ).loc main_arg3) _
  rw [V_main_arg3]
  congr 1
  funext a; apply Fin.ext
  match a with
  | ⟨0, _⟩ => show win0_3.index t 0 * 1 + 1 * p.val = p.val; rw [e0]; omega
  | ⟨1, _⟩ => show win0_3.index t 1 * 1024 + 1 * q.val = q.val; rw [e1]; omega

theorem blk4 (t : Fin cfg0.N) (p : Fin 1) (q : Fin 1024) :
    (iblk m c 4 t (ix2 p q) : EReal) = m ((c : Thread nD τ).loc main_arg4) (ix2 p q) := by
  have h := fixed_eq t
  obtain ⟨e0, e1⟩ := h.2
  show V m c main_arg4 _ = m ((c : Thread nD τ).loc main_arg4) _
  rw [V_main_arg4]
  congr 1
  funext a; apply Fin.ext
  match a with
  | ⟨0, _⟩ => show win0_4.index t 0 * 1 + 1 * p.val = p.val; rw [e0]; omega
  | ⟨1, _⟩ => show win0_4.index t 1 * 1024 + 1 * q.val = q.val; rw [e1]; omega

/-- The gain and the offset of every point are those in memory. -/
theorem lng_eq (t : Fin cfg0.N) : Block.row (iblk m c 3 t) = lng m c := funext fun j => blk3 m c t 0 j
theorem lnb_eq (t : Fin cfg0.N) : Block.row (iblk m c 4 t) = lnb m c := funext fun j => blk4 m c t 0 j

/-- Row `p` of point `t`'s blocks is token `256 t + p`. -/
theorem token_eq (t : Fin cfg0.N) (p : Fin 256) (r : Fin 8192) (hr : r.val = 256 * t.val + p.val) :
    Block.token (iblk m c 0 t) (iblk m c 1 t) (iblk m c 2 t) p = tok m c r := by
  unfold Block.token tok
  congr 1
  · funext j; exact blk0 m c t p j r hr
  · funext j; exact blk1 m c t p j r hr
  · funext j; exact blk2 m c t p j r hr

theorem lt8192 (t : Fin cfg0.N) (p : Fin 256) : 256 * t.val + p.val < 8192 := by
  have h : t.val < 32 := t.isLt
  omega

theorem leaf5 (t : Fin cfg0.N) :
    (outsAt0 m c t.val t.isLt).1 = k0_pay20 (iblk m c 3 t) (k0_pay5 (iblk m c 0 t)) (k0_pay7 (iblk m c 0 t)) (k0_pay8 (iblk m c 0 t)) (k0_pay10 (iblk m c 0 t) (iblk m c 3 t) (iblk m c 4 t)) (k0_pay11 (iblk m c 0 t) (iblk m c 3 t) (iblk m c 4 t)) (k0_pay12 (iblk m c 0 t) (iblk m c 3 t) (iblk m c 4 t)) (k0_pay16 (iblk m c 1 t)) (iblk m c 2 t) := by
  by_cases h : t.val % 32 = 0
  · rw [outsAt0_A m c t h]; dsimp only; exact out5_A ..
  · rw [outsAt0_B m c t h]; dsimp only; exact out5_B ..

theorem val5 (t : Fin cfg0.N) (p : Fin 256) (q : Fin 1024) (r : Fin 8192) (hr : r.val = 256 * t.val + p.val) :
    ((outsAt0 m c t.val t.isLt).1 (ix2 p q) : EReal) = blockGrad (tok m c r).z (dx (tok m c r) (lng m c) (lnb m c)) q := by
  rw [leaf5, ← lng_eq m c t, ← lnb_eq m c t, ← token_eq m c t p r hr]
  exact Block.dz_apply (iblk m c 0 t) (iblk m c 1 t) (iblk m c 2 t) (iblk m c 3 t) (iblk m c 4 t) p q

def arr5 : Buf (Elt Ideal) ((c : Thread nD τ).loc main_v0_0) := fun i => blockGrad (tok m c (i 0)).z (dx (tok m c (i 0)) (lng m c) (lnb m c)) (i 1)

theorem flushed5_eq (t : Fin cfg0.N) :
    (dats m 0 c).flushed 5 t = ((cfg0.win 5).blk t).view.read (Elt Ideal) (arr5 m c) := by
  obtain ⟨e0, e1⟩ := index5 t
  show (cfg0.win 5).cut (grid0.coords t) ((dats m 0 c).after 5 t) = _
  rw [after0_5]
  funext y
  have hp : (y 0).val < 256 := (y 0).isLt
  have hq : (y 1).val < 1024 := (y 1).isLt
  have ht : t.val < 32 := t.isLt
  have hy : (cfg0.win 5).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 5).blk t).view.emb y 0).val = win0_5.index t (0 : Fin 2) * 256 + 1 * (y 0).val := rfl
  have g1 : (((cfg0.win 5).blk t).view.emb y 1).val = win0_5.index t (1 : Fin 2) * 1024 + 1 * (y 1).val := rfl
  show ((outsAt0 m c t.val t.isLt).1 ((cfg0.win 5).xinj (grid0.coords t) y) : EReal)
    = blockGrad (tok m c (((cfg0.win 5).blk t).view.emb y 0)).z (dx (tok m c (((cfg0.win 5).blk t).view.emb y 0)) (lng m c) (lnb m c)) (((cfg0.win 5).blk t).view.emb y 1)
  rw [hy]
  have hq' : (⟨(y 1).val, hq⟩ : Fin 1024) = ((cfg0.win 5).blk t).view.emb y 1 := by
    apply Fin.ext; rw [g1, e1]; dsimp only; omega
  rw [← hq']
  exact val5 m c t ⟨(y 0).val, hp⟩ ⟨(y 1).val, hq⟩ _ (by rw [g0, e0]; dsimp only; omega)

theorem final5 : (dats m 0 c).arrAt 5 cfg0.N = arr5 m c :=
  (dats m 0 c).arrAt_eq_of_cover 5 (arr5 m c) (fun t _ => flushed5_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_5 t, ?_⟩
    obtain ⟨e0, e1⟩ := index5 t
    show i ∈ ((View.whole main_v0_0).slice (win0_5.rect t)).set
    rw [View.set_slice_whole, Rect.mem_set_unit]
    intro a
    match a with
    | ⟨0, _⟩ => show win0_5.index t 0 * 256 ≤ (i 0).val ∧ (i 0).val < win0_5.index t 0 * 256 + 256; rw [e0]; dsimp only; omega
    | ⟨1, _⟩ => show win0_5.index t 1 * 1024 ≤ (i 1).val ∧ (i 1).val < win0_5.index t 1 * 1024 + 1024; rw [e1]; omega

theorem leaf6 (t : Fin cfg0.N) :
    (outsAt0 m c t.val t.isLt).2.1 = k0_pay21 (iblk m c 1 t) (k0_pay13 (iblk m c 0 t) (iblk m c 3 t) (iblk m c 4 t)) (k0_pay14 (iblk m c 1 t)) (k0_pay15 (iblk m c 1 t)) (iblk m c 2 t) := by
  by_cases h : t.val % 32 = 0
  · rw [outsAt0_A m c t h]; dsimp only; exact out6_A ..
  · rw [outsAt0_B m c t h]; dsimp only; exact out6_B ..

theorem val6 (t : Fin cfg0.N) (p : Fin 256) (q : Fin 1024) (r : Fin 8192) (hr : r.val = 256 * t.val + p.val) :
    ((outsAt0 m c t.val t.isLt).2.1 (ix2 p q) : EReal) = dcz (tok m c r) (lng m c) (lnb m c) q := by
  rw [leaf6, ← lng_eq m c t, ← lnb_eq m c t, ← token_eq m c t p r hr]
  exact Block.dcz_apply (iblk m c 0 t) (iblk m c 1 t) (iblk m c 2 t) (iblk m c 3 t) (iblk m c 4 t) p q

def arr6 : Buf (Elt Ideal) ((c : Thread nD τ).loc main_v0_1) := fun i => dcz (tok m c (i 0)) (lng m c) (lnb m c) (i 1)

theorem flushed6_eq (t : Fin cfg0.N) :
    (dats m 0 c).flushed 6 t = ((cfg0.win 6).blk t).view.read (Elt Ideal) (arr6 m c) := by
  obtain ⟨e0, e1⟩ := index6 t
  show (cfg0.win 6).cut (grid0.coords t) ((dats m 0 c).after 6 t) = _
  rw [after0_6]
  funext y
  have hp : (y 0).val < 256 := (y 0).isLt
  have hq : (y 1).val < 1024 := (y 1).isLt
  have ht : t.val < 32 := t.isLt
  have hy : (cfg0.win 6).xinj (grid0.coords t) y = ix2 (⟨(y 0).val, hp⟩ : Fin 256) (⟨(y 1).val, hq⟩ : Fin 1024) := by
    funext a; apply Fin.ext
    match a with
    | ⟨0, _⟩ => rfl
    | ⟨1, _⟩ => rfl
  have g0 : (((cfg0.win 6).blk t).view.emb y 0).val = win0_6.index t (0 : Fin 2) * 256 + 1 * (y 0).val := rfl
  have g1 : (((cfg0.win 6).blk t).view.emb y 1).val = win0_6.index t (1 : Fin 2) * 1024 + 1 * (y 1).val := rfl
  show ((outsAt0 m c t.val t.isLt).2.1 ((cfg0.win 6).xinj (grid0.coords t) y) : EReal)
    = dcz (tok m c (((cfg0.win 6).blk t).view.emb y 0)) (lng m c) (lnb m c) (((cfg0.win 6).blk t).view.emb y 1)
  rw [hy]
  have hq' : (⟨(y 1).val, hq⟩ : Fin 1024) = ((cfg0.win 6).blk t).view.emb y 1 := by
    apply Fin.ext; rw [g1, e1]; dsimp only; omega
  rw [← hq']
  exact val6 m c t ⟨(y 0).val, hp⟩ ⟨(y 1).val, hq⟩ _ (by rw [g0, e0]; dsimp only; omega)

theorem final6 : (dats m 0 c).arrAt 6 cfg0.N = arr6 m c :=
  (dats m 0 c).arrAt_eq_of_cover 6 (arr6 m c) (fun t _ => flushed6_eq m c t) fun i => by
    have hi0 : (i 0).val < 8192 := (i 0).isLt
    have hi1 : (i 1).val < 1024 := (i 1).isLt
    have hN : cfg0.N = 32 := N_0
    let t : Fin cfg0.N := ⟨(i 0).val / 256, by omega⟩
    have ht : t.val = (i 0).val / 256 := rfl
    refine ⟨t, flush0_6 t, ?_⟩
    obtain ⟨e0, e1⟩ := index6 t
    show i ∈ ((View.whole main_v0_1).slice (win0_6.rect t)).set
    rw [View.set_slice_whole, Rect.mem_set_unit]
    intro a
    match a with
    | ⟨0, _⟩ => show win0_6.index t 0 * 256 ≤ (i 0).val ∧ (i 0).val < win0_6.index t 0 * 256 + 256; rw [e0]; dsimp only; omega
    | ⟨1, _⟩ => show win0_6.index t 1 * 1024 ≤ (i 1).val ∧ (i 1).val < win0_6.index t 1 * 1024 + 1024; rw [e1]; omega

/-- The gradients of the layer norm's gain and offset: in row 0 of their blocks, zeros below. -/
def gain : Fin 1024 → EReal := fun q => dot (fun r => xhat (tok m c r).z q) (fun r => dn (tok m c r) (lng m c) (lnb m c) q)
def offset : Fin 1024 → EReal := fun q => dot (fun _ => 1) (fun r => dn (tok m c r) (lng m c) (lnb m c) q)
def arr7 : Buf (Elt Ideal) ((c : Thread nD τ).loc main_v0_2) := fun i => (if (i 0).val = 0 then gain m c (i 1) else 0 : EReal)
def arr8 : Buf (Elt Ideal) ((c : Thread nD τ).loc main_v0_3) := fun i => (if (i 0).val = 0 then offset m c (i 1) else 0 : EReal)

theorem step7 (t : Fin cfg0.N) (e : Vec Ideal S8x1024 .f32) (u : Fin 8) (q : Fin 1024)
    (he : (e (ix2 u q) : EReal) = if u.val = 0 then dotUpTo (fun r => xhat (tok m c r).z q) (fun r => dn (tok m c r) (lng m c) (lnb m c) q) (256 * t.val) else 0) :
    (overRow0 (k0_pay1 (k0_pay19 (k0_pay9 (iblk m c 0 t)) (k0_pay10 (iblk m c 0 t) (iblk m c 3 t) (iblk m c 4 t)) (k0_pay11 (iblk m c 0 t) (iblk m c 3 t) (iblk m c 4 t)) (k0_pay12 (iblk m c 0 t) (iblk m c 3 t) (iblk m c 4 t)) (k0_pay16 (iblk m c 1 t)) (iblk m c 2 t)) (row0 e)) e (ix2 u q) : EReal)
      = if u.val = 0 then dotUpTo (fun r => xhat (tok m c r).z q) (fun r => dn (tok m c r) (lng m c) (lnb m c) q) (256 * (t.val + 1)) else 0 := by
  show (if u.val = 0 then k0_pay1 (k0_pay19 (k0_pay9 (iblk m c 0 t)) (k0_pay10 (iblk m c 0 t) (iblk m c 3 t) (iblk m c 4 t)) (k0_pay11 (iblk m c 0 t) (iblk m c 3 t) (iblk m c 4 t)) (k0_pay12 (iblk m c 0 t) (iblk m c 3 t) (iblk m c 4 t)) (k0_pay16 (iblk m c 1 t)) (iblk m c 2 t)) (row0 e) (ix2 0 q) else e (ix2 u q) : EReal) = _
  by_cases hu : u.val = 0
  · rw [if_pos hu] at he ⊢
    rw [if_pos hu]
    obtain rfl : u = 0 := Fin.ext hu
    refine (Block.gain_apply (iblk m c 0 t) (iblk m c 1 t) (iblk m c 2 t) (iblk m c 3 t) (iblk m c 4 t) (row0 e) q).trans ?_
    have ht : t.val < 32 := t.isLt
    have e1 : ∀ p : Fin 256, Block.token (iblk m c 0 t) (iblk m c 1 t) (iblk m c 2 t) p = tok m c ⟨256 * t.val + p.val, lt8192 t p⟩ := fun p => token_eq m c t p _ rfl
    simp only [lng_eq m c t, lnb_eq m c t, e1]
    rw [show (row0 e (ix2 0 q) : EReal) = _ from he, Nat.mul_add, Nat.mul_one]
    exact (dotUpTo_add _ _ _ 256 (fun p => xhat (tok m c ⟨256 * t.val + p.val, lt8192 t p⟩).z q) (fun p => dn (tok m c ⟨256 * t.val + p.val, lt8192 t p⟩) (lng m c) (lnb m c) q) (by omega) (fun r hr => rfl) (fun r hr => rfl)).symm
  · rw [if_neg hu] at he ⊢
    rw [if_neg hu]
    exact he

theorem acc7 (u : Fin 8) (q : Fin 1024) : ∀ (n : ℕ) (hn : n < cfg0.N),
    ((outsAt0 m c n hn).2.2.1 (ix2 u q) : EReal)
      = if u.val = 0 then dotUpTo (fun r => xhat (tok m c r).z q) (fun r => dn (tok m c r) (lng m c) (lnb m c) q) (256 * (n + 1)) else 0 := by
  intro n
  induction n with
  | zero =>
    intro hn
    rw [outsAt0_A m c ⟨0, hn⟩ rfl]
    dsimp only
    rw [out7_A]
    refine (step7 m c ⟨0, hn⟩ _ u q ?_)
    have h0 : (k0_pay3 (F := Ideal) (ix2 u q) : EReal) = 0 := by unfold k0_pay3; pointwise []
    rw [h0]
    split <;> rfl
  | succ n ih =>
    intro hn
    have h0 : ¬(n + 1) % 32 = 0 := by have : n + 1 < 32 := hn; omega
    rw [outsAt0_B m c ⟨n + 1, hn⟩ h0]
    dsimp only
    rw [out7_B]
    exact (step7 m c ⟨n + 1, hn⟩ _ u q (ih _))

theorem flushed7_eq (t : Fin cfg0.N) (hf : (cfg0.win 7).flush t = true) :
    (dats m 0 c).flushed 7 t = ((cfg0.win 7).blk t).view.read (Elt Ideal) (arr7 m c) := by
  have h := carried_eq t
  obtain ⟨e0, e1⟩ := h.1
  have ht : t.val < 32 := t.isLt
  have h31 : t.val = 31 := by have := (flush0_7 t).mp hf; omega
  show (cfg0.win 7).cut (grid0.coords t) ((dats m 0 c).after 7 t) = _
  rw [after0_7]
  funext y
  have hp : (y 0).val < 8 := (y 0).isLt
  have hq : (y 1).val < 1024 := (y 1).isLt
  have hy : (cfg0.win 7).xinj (grid0.coords t) y = ix2 (⟨(y 0).val, hp⟩ : Fin 8) (⟨(y 1).val, hq⟩ : Fin 1024) := by
    funext a; apply Fin.ext
    match a with
    | ⟨0, _⟩ => rfl
    | ⟨1, _⟩ => rfl
  show ((outsAt0 m c t.val t.isLt).2.2.1 ((cfg0.win 7).xinj (grid0.coords t) y) : EReal)
    = arr7 m c (((cfg0.win 7).blk t).view.emb y)
  rw [hy]
  have g0 : (((cfg0.win 7).blk t).view.emb y 0).val = win0_7.index t (0 : Fin 2) * 8 + 1 * (y 0).val := rfl
  have g1 : (((cfg0.win 7).blk t).view.emb y 1).val = win0_7.index t (1 : Fin 2) * 1024 + 1 * (y 1).val := rfl
  rw [e0] at g0
  have g0' : (((cfg0.win 7).blk t).view.emb y 0).val = (y 0).val := by omega
  have hq' : (⟨(y 1).val, hq⟩ : Fin 1024) = ((cfg0.win 7).blk t).view.emb y 1 := by
    apply Fin.ext; rw [g1, e1]; dsimp only; omega
  refine (acc7 m c _ _ t.val t.isLt).trans ?_
  show _ = if (((cfg0.win 7).blk t).view.emb y 0).val = 0 then gain m c (((cfg0.win 7).blk t).view.emb y 1) else 0
  rw [g0', ← hq', h31]
  exact if_congr Iff.rfl (dotUpTo_all _ _) rfl

theorem final7 : (dats m 0 c).arrAt 7 cfg0.N = arr7 m c :=
  (dats m 0 c).arrAt_eq_of_cover 7 (arr7 m c) (flushed7_eq m c) fun i => by
    have hi0 : (i 0).val < 8 := (i 0).isLt
    have hi1 : (i 1).val < 1024 := (i 1).isLt
    have hN : cfg0.N = 32 := N_0
    let t : Fin cfg0.N := ⟨31, by omega⟩
    refine ⟨t, (flush0_7 t).mpr rfl, ?_⟩
    have h := carried_eq t
    obtain ⟨e0, e1⟩ := h.1
    show i ∈ ((View.whole main_v0_2).slice (win0_7.rect t)).set
    rw [View.set_slice_whole, Rect.mem_set_unit]
    intro a
    match a with
    | ⟨0, _⟩ => show win0_7.index t 0 * 8 ≤ (i 0).val ∧ (i 0).val < win0_7.index t 0 * 8 + 8; rw [e0]; omega
    | ⟨1, _⟩ => show win0_7.index t 1 * 1024 ≤ (i 1).val ∧ (i 1).val < win0_7.index t 1 * 1024 + 1024; rw [e1]; omega

theorem step8 (t : Fin cfg0.N) (e : Vec Ideal S8x1024 .f32) (u : Fin 8) (q : Fin 1024)
    (he : (e (ix2 u q) : EReal) = if u.val = 0 then dotUpTo (fun _ => 1) (fun r => dn (tok m c r) (lng m c) (lnb m c) q) (256 * t.val) else 0) :
    (overRow0 (k0_pay2 (k0_pay18 (k0_pay10 (iblk m c 0 t) (iblk m c 3 t) (iblk m c 4 t)) (k0_pay11 (iblk m c 0 t) (iblk m c 3 t) (iblk m c 4 t)) (k0_pay12 (iblk m c 0 t) (iblk m c 3 t) (iblk m c 4 t)) (k0_pay16 (iblk m c 1 t)) (iblk m c 2 t)) (row0 e)) e (ix2 u q) : EReal)
      = if u.val = 0 then dotUpTo (fun _ => 1) (fun r => dn (tok m c r) (lng m c) (lnb m c) q) (256 * (t.val + 1)) else 0 := by
  show (if u.val = 0 then k0_pay2 (k0_pay18 (k0_pay10 (iblk m c 0 t) (iblk m c 3 t) (iblk m c 4 t)) (k0_pay11 (iblk m c 0 t) (iblk m c 3 t) (iblk m c 4 t)) (k0_pay12 (iblk m c 0 t) (iblk m c 3 t) (iblk m c 4 t)) (k0_pay16 (iblk m c 1 t)) (iblk m c 2 t)) (row0 e) (ix2 0 q) else e (ix2 u q) : EReal) = _
  by_cases hu : u.val = 0
  · rw [if_pos hu] at he ⊢
    rw [if_pos hu]
    obtain rfl : u = 0 := Fin.ext hu
    refine (Block.offset_apply (iblk m c 0 t) (iblk m c 1 t) (iblk m c 2 t) (iblk m c 3 t) (iblk m c 4 t) (row0 e) q).trans ?_
    have ht : t.val < 32 := t.isLt
    have e1 : ∀ p : Fin 256, Block.token (iblk m c 0 t) (iblk m c 1 t) (iblk m c 2 t) p = tok m c ⟨256 * t.val + p.val, lt8192 t p⟩ := fun p => token_eq m c t p _ rfl
    simp only [lng_eq m c t, lnb_eq m c t, e1]
    rw [show (row0 e (ix2 0 q) : EReal) = _ from he, Nat.mul_add, Nat.mul_one]
    rw [Finset.sum_congr rfl fun p _ => (one_mul (dn (tok m c ⟨256 * t.val + p.val, lt8192 t p⟩) (lng m c) (lnb m c) q)).symm]
    exact (dotUpTo_add _ _ _ 256 (fun _ => 1) (fun p => dn (tok m c ⟨256 * t.val + p.val, lt8192 t p⟩) (lng m c) (lnb m c) q) (by omega) (fun r hr => rfl) (fun r hr => rfl)).symm
  · rw [if_neg hu] at he ⊢
    rw [if_neg hu]
    exact he

theorem acc8 (u : Fin 8) (q : Fin 1024) : ∀ (n : ℕ) (hn : n < cfg0.N),
    ((outsAt0 m c n hn).2.2.2 (ix2 u q) : EReal)
      = if u.val = 0 then dotUpTo (fun _ => 1) (fun r => dn (tok m c r) (lng m c) (lnb m c) q) (256 * (n + 1)) else 0 := by
  intro n
  induction n with
  | zero =>
    intro hn
    rw [outsAt0_A m c ⟨0, hn⟩ rfl]
    dsimp only
    rw [out8_A]
    refine (step8 m c ⟨0, hn⟩ _ u q ?_)
    have h0 : (k0_pay4 (F := Ideal) (ix2 u q) : EReal) = 0 := by unfold k0_pay4; pointwise []
    rw [h0]
    split <;> rfl
  | succ n ih =>
    intro hn
    have h0 : ¬(n + 1) % 32 = 0 := by have : n + 1 < 32 := hn; omega
    rw [outsAt0_B m c ⟨n + 1, hn⟩ h0]
    dsimp only
    rw [out8_B]
    exact (step8 m c ⟨n + 1, hn⟩ _ u q (ih _))

theorem flushed8_eq (t : Fin cfg0.N) (hf : (cfg0.win 8).flush t = true) :
    (dats m 0 c).flushed 8 t = ((cfg0.win 8).blk t).view.read (Elt Ideal) (arr8 m c) := by
  have h := carried_eq t
  obtain ⟨e0, e1⟩ := h.2
  have ht : t.val < 32 := t.isLt
  have h31 : t.val = 31 := by have := (flush0_8 t).mp hf; omega
  show (cfg0.win 8).cut (grid0.coords t) ((dats m 0 c).after 8 t) = _
  rw [after0_8]
  funext y
  have hp : (y 0).val < 8 := (y 0).isLt
  have hq : (y 1).val < 1024 := (y 1).isLt
  have hy : (cfg0.win 8).xinj (grid0.coords t) y = ix2 (⟨(y 0).val, hp⟩ : Fin 8) (⟨(y 1).val, hq⟩ : Fin 1024) := by
    funext a; apply Fin.ext
    match a with
    | ⟨0, _⟩ => rfl
    | ⟨1, _⟩ => rfl
  show ((outsAt0 m c t.val t.isLt).2.2.2 ((cfg0.win 8).xinj (grid0.coords t) y) : EReal)
    = arr8 m c (((cfg0.win 8).blk t).view.emb y)
  rw [hy]
  have g0 : (((cfg0.win 8).blk t).view.emb y 0).val = win0_8.index t (0 : Fin 2) * 8 + 1 * (y 0).val := rfl
  have g1 : (((cfg0.win 8).blk t).view.emb y 1).val = win0_8.index t (1 : Fin 2) * 1024 + 1 * (y 1).val := rfl
  rw [e0] at g0
  have g0' : (((cfg0.win 8).blk t).view.emb y 0).val = (y 0).val := by omega
  have hq' : (⟨(y 1).val, hq⟩ : Fin 1024) = ((cfg0.win 8).blk t).view.emb y 1 := by
    apply Fin.ext; rw [g1, e1]; dsimp only; omega
  refine (acc8 m c _ _ t.val t.isLt).trans ?_
  show _ = if (((cfg0.win 8).blk t).view.emb y 0).val = 0 then offset m c (((cfg0.win 8).blk t).view.emb y 1) else 0
  rw [g0', ← hq', h31]
  exact if_congr Iff.rfl (dotUpTo_all _ _) rfl

theorem final8 : (dats m 0 c).arrAt 8 cfg0.N = arr8 m c :=
  (dats m 0 c).arrAt_eq_of_cover 8 (arr8 m c) (flushed8_eq m c) fun i => by
    have hi0 : (i 0).val < 8 := (i 0).isLt
    have hi1 : (i 1).val < 1024 := (i 1).isLt
    have hN : cfg0.N = 32 := N_0
    let t : Fin cfg0.N := ⟨31, by omega⟩
    refine ⟨t, (flush0_8 t).mpr rfl, ?_⟩
    have h := carried_eq t
    obtain ⟨e0, e1⟩ := h.2
    show i ∈ ((View.whole main_v0_3).slice (win0_8.rect t)).set
    rw [View.set_slice_whole, Rect.mem_set_unit]
    intro a
    match a with
    | ⟨0, _⟩ => show win0_8.index t 0 * 8 ≤ (i 0).val ∧ (i 0).val < win0_8.index t 0 * 8 + 8; rw [e0]; omega
    | ⟨1, _⟩ => show win0_8.index t 1 * 1024 ≤ (i 1).val ∧ (i 1).val < win0_8.index t 1 * 1024 + 1024; rw [e1]; omega

end Cert.ConfPostIdeal.Arrays

end
-- ==== Proof.ConfValue.lean ====
/-
  The gradient of the normalised, gated rows and its reference compute the same arrays wherever the rows, the gates, the
  gradients and the gain are finite.
-/
module

public import proofs.«01_k».proof.Defs
public import proofs.«01_k».proof.Proof.ConfKernel
public import proofs.«01_k».proof.Proof.ConfRef
public import Idealize.ShloMosaic.Lib.Tactic

@[expose] public section

set_option maxRecDepth 16384

noncomputable section

open Idealize.ShloMosaic Idealize.ShloMosaic.TcCoe Idealize.SL.Sem
open Cert.Plain Cert.Conf

namespace Cert.ConfValue

open Cert.ConfPostIdeal in
/-- The tokens and the gain in memory are finite. -/
theorem finite_of_pre [hPre_finite_rows : Cert.Pre_finite_rows.Facts] (m : (ℓ : Loc nD τ sig) → Buf (Elt Ideal) ℓ) (hm : Cert.Pre_ConfPostIdeal_finite_rows m) (c : Dev nD) (r : Fin 8192) :
    Finite (ConfPostIdeal.Arrays.tok m c r) (ConfPostIdeal.Arrays.lng m c) := by
  obtain ⟨hz, hc, ht, hg⟩ := hm c
  exact {
    z := fun j => real_of_lt (congrFun hz (ix2 r j))
    cz := fun j => by
      have e := ConfPostRefIdeal.Rows.gateR_apply (m ((c : Thread nD τ).loc main_arg0)) (m ((c : Thread nD τ).loc main_arg1)) (m ((c : Thread nD τ).loc main_arg2)) r j
      have h : Ideal.cmp .olt (max (ConfPostRefIdeal.Rows.gateR (m ((c : Thread nD τ).loc main_arg1)) (ix2 r j) : EReal) (-ConfPostRefIdeal.Rows.gateR (m ((c : Thread nD τ).loc main_arg1)) (ix2 r j) : EReal))
          (Ideal.ofBits .f32 0x7F800000#32) = 1#1 := congrFun hc (ix2 r j)
      rw [e] at h
      exact real_of_lt h
    t := fun j => real_of_lt (congrFun ht (ix2 r j))
    g := fun j => real_of_lt (congrFun hg (ix2 0 j)) }

section Reference

open Cert.ConfPostRefIdeal Cert.ConfPostRefIdeal.Rows

/-- The token, the gain and the offset of the reference's arguments. -/
def tokR (m : (ℓ : Loc nD τ sig) → Buf (Elt Ideal) ℓ) (c : Dev nD) : Fin 8192 → Token :=
  token (m ((c.tc : Thread nD τ).loc main_arg0)) (m ((c.tc : Thread nD τ).loc main_arg1)) (m ((c.tc : Thread nD τ).loc main_arg2))
def lngR (m : (ℓ : Loc nD τ sig) → Buf (Elt Ideal) ℓ) (c : Dev nD) : Row := row (m ((c.tc : Thread nD τ).loc main_arg3))
def lnbR (m : (ℓ : Loc nD τ sig) → Buf (Elt Ideal) ℓ) (c : Dev nD) : Row := row (m ((c.tc : Thread nD τ).loc main_arg4))

end Reference

section
variable [hConfPostIdeal : Cert.ConfPostIdeal.Facts] [hConfPostRefIdeal : Cert.ConfPostRefIdeal.Facts] [hPre_finite_rows : Cert.Pre_finite_rows.Facts]

theorem algebraic : Cert.algebraic_ConfPostIdeal_ConfPostRefIdeal_pre_finite_rows := by
  intro m ρ m' ρ' hm hag
  have H := fun c r => finite_of_pre m hm c r
  have hT : ∀ c : Dev Cert.ConfPostRefIdeal.nD, tokR m' c = ConfPostIdeal.Arrays.tok m c := fun c => by
    obtain ⟨a0, a1, a2, -⟩ := hag c
    funext r
    unfold tokR ConfPostRefIdeal.Rows.token ConfPostIdeal.Arrays.tok
    congr 1
    · funext j; exact congrFun a0 _
    · funext j; exact congrFun a1 _
    · funext j; exact congrFun a2 _
  have hG : ∀ c : Dev Cert.ConfPostRefIdeal.nD, lngR m' c = ConfPostIdeal.Arrays.lng m c := fun c => funext fun j => congrFun (hag c).2.2.2.1 _
  have hB : ∀ c : Dev Cert.ConfPostRefIdeal.nD, lnbR m' c = ConfPostIdeal.Arrays.lnb m c := fun c => funext fun j => congrFun (hag c).2.2.2.2 _
  refine ⟨fun c => ConfPostIdeal.Arrays.arr5 m c, fun c => ConfPostIdeal.Arrays.arr6 m c, fun c => ConfPostIdeal.Arrays.arr7 m c, fun c => ConfPostIdeal.Arrays.arr8 m c, ?_, ?_⟩
  · exact (θ_run Cert.ConfPostIdeal.defs _ _).mono (fun r h c => ⟨
      (Cert.ConfPostIdeal.Value.post5 m r h c).trans (ConfPostIdeal.Arrays.final5 m c),
      (Cert.ConfPostIdeal.Value.post6 m r h c).trans (ConfPostIdeal.Arrays.final6 m c),
      (Cert.ConfPostIdeal.Value.post7 m r h c).trans (ConfPostIdeal.Arrays.final7 m c),
      (Cert.ConfPostIdeal.Value.post8 m r h c).trans (ConfPostIdeal.Arrays.final8 m c),
      ConfPostIdeal.Value.kept_main_arg0 m r h c, ConfPostIdeal.Value.kept_main_arg1 m r h c, ConfPostIdeal.Value.kept_main_arg2 m r h c, ConfPostIdeal.Value.kept_main_arg3 m r h c, ConfPostIdeal.Value.kept_main_arg4 m r h c⟩) (Cert.ConfPostIdeal.Gen.run_main m ρ)
  · refine (θ_run Cert.ConfPostRefIdeal.defs _ _).mono (fun _ h c => ?_) (Cert.ConfPostRefIdeal.Value.run (F := Ideal) m' ρ')
    obtain ⟨h0, h1, h2, h3, hargs⟩ := h c
    refine ⟨h0.trans ((ConfPostRefIdeal.Rows.result0 m' c).trans ?_), h1.trans ((ConfPostRefIdeal.Rows.result1 m' c).trans ?_), h2.trans ((ConfPostRefIdeal.Rows.result2 m' c).trans ?_), h3.trans ((ConfPostRefIdeal.Rows.result3 m' c).trans ?_), hargs⟩ <;> funext i <;> rw [eta i]
    · refine (ConfPostRefIdeal.Rows.out0_apply _ _ _ _ _ _ _).trans ?_
      show chainGrad (tokR m' c (i 0)).z (dx (tokR m' c (i 0)) (lngR m' c) (lnbR m' c)) (i 1) = _
      rw [hT, hG, hB, ← (H c (i 0)).blockGrad_eq]
      rfl
    · refine (ConfPostRefIdeal.Rows.out1_apply _ _ _ _ _ _ _).trans ?_
      show dcz (tokR m' c (i 0)) (lngR m' c) (lnbR m' c) (i 1) = _
      rw [hT, hG, hB]
      rfl
    · refine (ConfPostRefIdeal.Rows.out2_apply _ _ _ _ _ _ _).trans ?_
      show (if (i 0).val = 0 then dot (fun r => xhat (tokR m' c r).z (i 1)) (fun r => dn (tokR m' c r) (lngR m' c) (lnbR m' c) (i 1)) else 0 : EReal) = _
      rw [hT, hG, hB]
      rfl
    · refine (ConfPostRefIdeal.Rows.out3_apply _ _ _ _ _ _ _).trans ?_
      show (if (i 0).val = 0 then dot (fun _ => 1) (fun r => dn (tokR m' c r) (lngR m' c) (lnbR m' c) (i 1)) else 0 : EReal) = _
      rw [hT, hG, hB]
      rfl

end

end Cert.ConfValue

end
-- ==== Proof.lean ====
/-
  The claims about the calls of the training step: every kernel and every reference runs to the end and leaves its
  arguments alone, the idealised kernels are the printed ones, and each kernel returns what its reference returns over
  the extended reals.
-/
module

public import proofs.«01_k».proof.Defs
public import proofs.«01_k».proof.Proof.Gen.MergeStep
public import proofs.«01_k».proof.Proof.Gen.MergeStep.Frame
public import proofs.«01_k».proof.Proof.Gen.MergeStepIdeal
public import proofs.«01_k».proof.Proof.Gen.MergeStepIdeal.Value
public import proofs.«01_k».proof.Proof.Gen.MergeStepRefIdeal
public import proofs.«01_k».proof.Proof.Gen.MergeStepRefIdeal.Run
public import proofs.«01_k».proof.Proof.Gen.GradIn
public import proofs.«01_k».proof.Proof.Gen.GradIn.Frame
public import proofs.«01_k».proof.Proof.Gen.GradInIdeal
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradGate
public import proofs.«01_k».proof.Proof.Gen.GradGate.Frame
public import proofs.«01_k».proof.Proof.Gen.GradGateIdeal
public import proofs.«01_k».proof.Proof.Gen.GradGateIdeal.Value
public import proofs.«01_k».proof.Proof.Gen.GradGateRefIdeal
public import proofs.«01_k».proof.Proof.Gen.GradGateRefIdeal.Run
public import proofs.«01_k».proof.Proof.Gen.GradOut
public import proofs.«01_k».proof.Proof.Gen.GradOut.Frame
public import proofs.«01_k».proof.Proof.Gen.GradOutIdeal
public import proofs.«01_k».proof.Proof.Gen.GradOutIdeal.Value
public import proofs.«01_k».proof.Proof.Gen.GradOutRefIdeal
public import proofs.«01_k».proof.Proof.Gen.GradOutRefIdeal.Run
public import proofs.«01_k».proof.Proof.Gen.GradBa
public import proofs.«01_k».proof.Proof.Gen.GradBa.Frame
public import proofs.«01_k».proof.Proof.Gen.GradBaIdeal
public import proofs.«01_k».proof.Proof.Gen.GradBaIdeal.Value
public import proofs.«01_k».proof.Proof.Gen.GradBaRefIdeal
public import proofs.«01_k».proof.Proof.Gen.GradBaRefIdeal.Run
public import proofs.«01_k».proof.Proof.Gen.ProjIn
public import proofs.«01_k».proof.Proof.Gen.ProjIn.Frame
public import proofs.«01_k».proof.Proof.Gen.ProjInIdeal
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjGate
public import proofs.«01_k».proof.Proof.Gen.ProjGate.Frame
public import proofs.«01_k».proof.Proof.Gen.ProjGateIdeal
public import proofs.«01_k».proof.Proof.Gen.ProjGateIdeal.Value
public import proofs.«01_k».proof.Proof.Gen.ProjGateRefIdeal
public import proofs.«01_k».proof.Proof.Gen.ProjGateRefIdeal.Run
public import proofs.«01_k».proof.Proof.Gen.ProjGz
public import proofs.«01_k».proof.Proof.Gen.ProjGz.Frame
public import proofs.«01_k».proof.Proof.Gen.ProjGzIdeal
public import proofs.«01_k».proof.Proof.Gen.ProjGzIdeal.Value
public import proofs.«01_k».proof.Proof.Gen.ProjGzRefIdeal
public import proofs.«01_k».proof.Proof.Gen.ProjGzRefIdeal.Run
public import proofs.«01_k».proof.Proof.Gen.ProjBa
public import proofs.«01_k».proof.Proof.Gen.ProjBa.Frame
public import proofs.«01_k».proof.Proof.Gen.ProjBaIdeal
public import proofs.«01_k».proof.Proof.Gen.ProjBaIdeal.Value
public import proofs.«01_k».proof.Proof.Gen.ProjBaRefIdeal
public import proofs.«01_k».proof.Proof.Gen.ProjBaRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamShards
public import proofs.«01_k».proof.Proof.Gen.AdamShards.Frame
public import proofs.«01_k».proof.Proof.Gen.AdamShardsIdeal
public import proofs.«01_k».proof.Proof.Gen.AdamShardsIdeal.Frame
public import proofs.«01_k».proof.Proof.Gen.AdamShardsRefIdeal
public import proofs.«01_k».proof.Proof.Gen.AdamShardsRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.GdnConv
public import proofs.«01_k».proof.Proof.Gen.GdnConv.Frame
public import proofs.«01_k».proof.Proof.Gen.GdnConvIdeal
public import proofs.«01_k».proof.Proof.Gen.GdnConvIdeal.Frame
public import proofs.«01_k».proof.Proof.Gen.GdnConvRefIdeal
public import proofs.«01_k».proof.Proof.Gen.GdnConvRefIdeal.Run
public import proofs.«01_k».proof.Proof.Gen.ConfConv
public import proofs.«01_k».proof.Proof.Gen.ConfConvIdeal
public import proofs.«01_k».proof.Proof.Gen.ConfConvIdeal.Frame
public import proofs.«01_k».proof.Proof.Gen.ConfConvRefIdeal
public import proofs.«01_k».proof.Proof.Gen.ConfConvRefIdeal.Run
public import proofs.«01_k».proof.Proof.Gen.ConfPost
public import proofs.«01_k».proof.Proof.Gen.ConfPost.Frame
public import proofs.«01_k».proof.Proof.Gen.ConfPostIdeal
public import proofs.«01_k».proof.Proof.Gen.ConfPostIdeal.Value
public import proofs.«01_k».proof.Proof.Gen.ConfPostRefIdeal
public import proofs.«01_k».proof.Proof.Gen.ConfPostRefIdeal.Run
public import proofs.«01_k».proof.Proof.MergeValue
public import proofs.«01_k».proof.Proof.GradInProduct
public import proofs.«01_k».proof.Proof.GradGateProduct
public import proofs.«01_k».proof.Proof.GradOutProduct
public import proofs.«01_k».proof.Proof.GradBaProduct
public import proofs.«01_k».proof.Proof.ProjInProduct
public import proofs.«01_k».proof.Proof.ProjGateProduct
public import proofs.«01_k».proof.Proof.ProjGzProduct
public import proofs.«01_k».proof.Proof.ProjBaProduct
public import proofs.«01_k».proof.Proof.AdamInSame
public import proofs.«01_k».proof.Proof.AdamShardsSame
public import proofs.«01_k».proof.Proof.AdamSmallSame
public import proofs.«01_k».proof.Proof.GdnValue
public import proofs.«01_k».proof.Proof.GdnSame
public import proofs.«01_k».proof.Proof.ConfConvValue
public import proofs.«01_k».proof.Proof.ConfConvSame
public import proofs.«01_k».proof.Proof.ConfValue
public import Idealize.ShloMosaic.Adequacy
public import Idealize.ShloMosaic.Init

@[expose] public section

noncomputable section

namespace Cert.Proof

open Idealize.ShloMosaic Idealize.SL.Sem

/-- The side conditions the precondition `finite` states. -/
instance finite_facts : Cert.Pre_finite.Facts := ⟨by decide, by decide, by decide, by decide⟩

/-- The printed program has the text of the idealised one, whose run is proved over any number system. -/
theorem frame_ConfConv : Cert.quiescent_ConfConv := fun m ρ _ => Cert.ConfConv.Gen.frame m ρ

/-- The side conditions the precondition `finite_rows` states. -/
instance finite_rows_facts : Cert.Pre_finite_rows.Facts := ⟨by decide, by decide, by decide⟩

theorem claim : Cert.Claim :=
  ⟨Cert.MergeStep.Gen.facts,
    Cert.MergeStepIdeal.Gen.facts,
    Cert.MergeStepRefIdeal.Gen.facts,
    Cert.GradIn.Gen.facts,
    Cert.GradInIdeal.Gen.facts,
    Cert.GradInRefIdeal.Gen.facts,
    Cert.GradGate.Gen.facts,
    Cert.GradGateIdeal.Gen.facts,
    Cert.GradGateRefIdeal.Gen.facts,
    Cert.GradOut.Gen.facts,
    Cert.GradOutIdeal.Gen.facts,
    Cert.GradOutRefIdeal.Gen.facts,
    Cert.GradBa.Gen.facts,
    Cert.GradBaIdeal.Gen.facts,
    Cert.GradBaRefIdeal.Gen.facts,
    Cert.ProjIn.Gen.facts,
    Cert.ProjInIdeal.Gen.facts,
    Cert.ProjInRefIdeal.Gen.facts,
    Cert.ProjGate.Gen.facts,
    Cert.ProjGateIdeal.Gen.facts,
    Cert.ProjGateRefIdeal.Gen.facts,
    Cert.ProjGz.Gen.facts,
    Cert.ProjGzIdeal.Gen.facts,
    Cert.ProjGzRefIdeal.Gen.facts,
    Cert.ProjBa.Gen.facts,
    Cert.ProjBaIdeal.Gen.facts,
    Cert.ProjBaRefIdeal.Gen.facts,
    Cert.AdamIn.Gen.facts,
    Cert.AdamInIdeal.Gen.facts,
    Cert.AdamInRefIdeal.Gen.facts,
    Cert.AdamShards.Gen.facts,
    Cert.AdamShardsIdeal.Gen.facts,
    Cert.AdamShardsRefIdeal.Gen.facts,
    Cert.AdamSmall.Gen.facts,
    Cert.AdamSmallIdeal.Gen.facts,
    Cert.AdamSmallRefIdeal.Gen.facts,
    Cert.GdnConv.Gen.facts,
    Cert.GdnConvIdeal.Gen.facts,
    Cert.GdnConvRefIdeal.Gen.facts,
    Cert.ConfConv.Gen.facts,
    Cert.ConfConvIdeal.Gen.facts,
    Cert.ConfConvRefIdeal.Gen.facts,
    Cert.ConfPost.Gen.facts,
    Cert.ConfPostIdeal.Gen.facts,
    Cert.ConfPostRefIdeal.Gen.facts,
    finite_facts,
    finite_rows_facts,
    fun m ρ _ => Cert.MergeStep.Gen.frame m ρ,
    fun m ρ _ => Cert.MergeStepIdeal.Gen.frame m ρ,
    fun m ρ _ => Cert.MergeStepIdeal.Gen.frame m ρ,
    fun m ρ _ => (θ_run Cert.MergeStepRefIdeal.defs _ _).mono
      (fun r h => ⟨fun c => (h c).2.2.2.2.2.2.2.2.2.2.2, sem_eq_zero_of_no_sems rfl r.2⟩) (Cert.MergeStepRefIdeal.Value.run (F := Ideal) m ρ),
    fun m ρ _ => (θ_run Cert.MergeStepRefIdeal.defs _ _).mono
      (fun r h => ⟨fun c => (h c).2.2.2.2.2.2.2.2.2.2.2, sem_eq_zero_of_no_sems rfl r.2⟩) (Cert.MergeStepRefIdeal.Value.run (F := Ideal) m ρ),
    fun m ρ _ => Cert.GradIn.Gen.frame m ρ,
    fun m ρ _ => Cert.GradInIdeal.Gen.frame m ρ,
    fun m ρ _ => (θ_run Cert.GradInRefIdeal.defs _ _).mono
      (fun r h => ⟨fun c => (h c).2, sem_eq_zero_of_no_sems rfl r.2⟩) (Cert.GradInRefIdeal.Value.run (F := Ideal) m ρ),
    fun m ρ _ => Cert.GradGate.Gen.frame m ρ,
    fun m ρ _ => Cert.GradGateIdeal.Gen.frame m ρ,
    fun m ρ _ => (θ_run Cert.GradGateRefIdeal.defs _ _).mono
      (fun r h => ⟨fun c => (h c).2, sem_eq_zero_of_no_sems rfl r.2⟩) (Cert.GradGateRefIdeal.Value.run (F := Ideal) m ρ),
    fun m ρ _ => Cert.GradOut.Gen.frame m ρ,
    fun m ρ _ => Cert.GradOutIdeal.Gen.frame m ρ,
    fun m ρ _ => (θ_run Cert.GradOutRefIdeal.defs _ _).mono
      (fun r h => ⟨fun c => (h c).2, sem_eq_zero_of_no_sems rfl r.2⟩) (Cert.GradOutRefIdeal.Value.run (F := Ideal) m ρ),
    fun m ρ _ => Cert.GradBa.Gen.frame m ρ,
    fun m ρ _ => Cert.GradBaIdeal.Gen.frame m ρ,
    fun m ρ _ => (θ_run Cert.GradBaRefIdeal.defs _ _).mono
      (fun r h => ⟨fun c => (h c).2, sem_eq_zero_of_no_sems rfl r.2⟩) (Cert.GradBaRefIdeal.Value.run (F := Ideal) m ρ),
    fun m ρ _ => Cert.ProjIn.Gen.frame m ρ,
    fun m ρ _ => Cert.ProjInIdeal.Gen.frame m ρ,
    fun m ρ _ => (θ_run Cert.ProjInRefIdeal.defs _ _).mono
      (fun r h => ⟨fun c => (h c).2, sem_eq_zero_of_no_sems rfl r.2⟩) (Cert.ProjInRefIdeal.Value.run (F := Ideal) m ρ),
    fun m ρ _ => Cert.ProjGate.Gen.frame m ρ,
    fun m ρ _ => Cert.ProjGateIdeal.Gen.frame m ρ,
    fun m ρ _ => (θ_run Cert.ProjGateRefIdeal.defs _ _).mono
      (fun r h => ⟨fun c => (h c).2, sem_eq_zero_of_no_sems rfl r.2⟩) (Cert.ProjGateRefIdeal.Value.run (F := Ideal) m ρ),
    fun m ρ _ => Cert.ProjGz.Gen.frame m ρ,
    fun m ρ _ => Cert.ProjGzIdeal.Gen.frame m ρ,
    fun m ρ _ => (θ_run Cert.ProjGzRefIdeal.defs _ _).mono
      (fun r h => ⟨fun c => (h c).2, sem_eq_zero_of_no_sems rfl r.2⟩) (Cert.ProjGzRefIdeal.Value.run (F := Ideal) m ρ),
    fun m ρ _ => Cert.ProjBa.Gen.frame m ρ,
    fun m ρ _ => Cert.ProjBaIdeal.Gen.frame m ρ,
    fun m ρ _ => (θ_run Cert.ProjBaRefIdeal.defs _ _).mono
      (fun r h => ⟨fun c => (h c).2, sem_eq_zero_of_no_sems rfl r.2⟩) (Cert.ProjBaRefIdeal.Value.run (F := Ideal) m ρ),
    fun m ρ _ => Cert.AdamIn.Gen.frame m ρ,
    fun m ρ _ => Cert.AdamInIdeal.Gen.frame m ρ,
    fun m ρ _ => (θ_run Cert.AdamInRefIdeal.defs _ _).mono
      (fun r h => ⟨fun c => (h c).2.2.2.2, sem_eq_zero_of_no_sems rfl r.2⟩) (Cert.AdamInRefIdeal.Value.run (F := Ideal) m ρ),
    fun m ρ _ => Cert.AdamShards.Gen.frame m ρ,
    fun m ρ _ => Cert.AdamShardsIdeal.Gen.frame m ρ,
    fun m ρ _ => (θ_run Cert.AdamShardsRefIdeal.defs _ _).mono
      (fun r h => ⟨fun c => (h c).2.2.2.2.2.2.2.2.2.2.2.2.2.2.2.2.2.2.2.2, sem_eq_zero_of_no_sems rfl r.2⟩) (Cert.AdamShardsRefIdeal.Value.run (F := Ideal) m ρ),
    fun m ρ _ => Cert.AdamSmall.Gen.frame m ρ,
    fun m ρ _ => Cert.AdamSmallIdeal.Gen.frame m ρ,
    fun m ρ _ => (θ_run Cert.AdamSmallRefIdeal.defs _ _).mono
      (fun r h => ⟨fun c => (h c).2.2.2.2.2.2.2.2.2.2.2.2.2.2.2.2.2.2.2.2.2.2.2.2.2.2.2.2.2.2.2.2.2, sem_eq_zero_of_no_sems rfl r.2⟩) (Cert.AdamSmallRefIdeal.Value.run (F := Ideal) m ρ),
    fun m ρ _ => Cert.GdnConv.Gen.frame m ρ,
    fun m ρ _ => Cert.GdnConvIdeal.Gen.frame m ρ,
    fun m ρ _ => (θ_run Cert.GdnConvRefIdeal.defs _ _).mono
      (fun r h => ⟨fun c => (h c).2, sem_eq_zero_of_no_sems rfl r.2⟩) (Cert.GdnConvRefIdeal.Value.run (F := Ideal) m ρ),
    frame_ConfConv,
    fun m ρ _ => Cert.ConfConvIdeal.Gen.frame m ρ,
    fun m ρ _ => (θ_run Cert.ConfConvRefIdeal.defs _ _).mono
      (fun r h => ⟨fun c => (h c).2.2, sem_eq_zero_of_no_sems rfl r.2⟩) (Cert.ConfConvRefIdeal.Value.run (F := Ideal) m ρ),
    fun m ρ _ => Cert.ConfPost.Gen.frame m ρ,
    fun m ρ _ => Cert.ConfPostIdeal.Gen.frame m ρ,
    fun m ρ _ => Cert.ConfPostIdeal.Gen.frame m ρ,
    fun m ρ _ => (θ_run Cert.ConfPostRefIdeal.defs _ _).mono
      (fun r h => ⟨fun c => (h c).2.2.2.2, sem_eq_zero_of_no_sems rfl r.2⟩) (Cert.ConfPostRefIdeal.Value.run (F := Ideal) m ρ),
    fun m ρ _ => (θ_run Cert.ConfPostRefIdeal.defs _ _).mono
      (fun r h => ⟨fun c => (h c).2.2.2.2, sem_eq_zero_of_no_sems rfl r.2⟩) (Cert.ConfPostRefIdeal.Value.run (F := Ideal) m ρ),
    trivial,
    Cert.MergeValue.algebraic,
    trivial,
    Cert.GradInIdeal.Product.algebraic,
    trivial,
    Cert.GradGateIdeal.Product.algebraic,
    trivial,
    Cert.GradOutIdeal.Product.algebraic,
    trivial,
    Cert.GradBaIdeal.Product.algebraic,
    trivial,
    Cert.ProjInIdeal.Product.algebraic,
    trivial,
    Cert.ProjGateIdeal.Product.algebraic,
    trivial,
    Cert.ProjGzIdeal.Product.algebraic,
    trivial,
    Cert.ProjBaIdeal.Product.algebraic,
    trivial,
    Cert.AdamInIdeal.Arrays.algebraic,
    trivial,
    Cert.AdamShardsIdeal.Arrays.algebraic,
    trivial,
    Cert.AdamSmallIdeal.Arrays.algebraic,
    trivial,
    Cert.GdnValue.algebraic,
    trivial,
    Cert.ConfConvValue.algebraic,
    trivial,
    Cert.ConfValue.algebraic⟩

end Cert.Proof

end
